-- ==== Defs.lean ====
def Pre_ConvNorm [hPre_slots_in_pool_norm : Cert.Pre_slots_in_pool_norm.Facts] (m : (ℓ : Loc Cert.ConvNorm.nD Cert.ConvNorm.τ Cert.ConvNorm.sig) → Buf (Elt Bits) ℓ) : Prop :=
  ∀ c : Dev Cert.ConvNorm.nD,
    (Cert.Pre_slots_in_pool_norm.fn (F := Bits) (m ((c.tc : Thread Cert.ConvNorm.nD Cert.ConvNorm.τ).loc Cert.ConvNorm.main_arg0)) (m ((c.tc : Thread Cert.ConvNorm.nD Cert.ConvNorm.τ).loc Cert.ConvNorm.main_arg1)) (m ((c.tc : Thread Cert.ConvNorm.nD Cert.ConvNorm.τ).loc Cert.ConvNorm.main_arg2)) (m ((c.tc : Thread Cert.ConvNorm.nD Cert.ConvNorm.τ).loc Cert.ConvNorm.main_arg3)) (m ((c.tc : Thread Cert.ConvNorm.nD Cert.ConvNorm.τ).loc Cert.ConvNorm.main_arg4)) (m ((c.tc : Thread Cert.ConvNorm.nD Cert.ConvNorm.τ).loc Cert.ConvNorm.main_arg5)) (m ((c.tc : Thread Cert.ConvNorm.nD Cert.ConvNorm.τ).loc Cert.ConvNorm.main_arg6)) (m ((c.tc : Thread Cert.ConvNorm.nD Cert.ConvNorm.τ).loc Cert.ConvNorm.main_arg7)) (m ((c.tc : Thread Cert.ConvNorm.nD Cert.ConvNorm.τ).loc Cert.ConvNorm.main_arg8)) (m ((c.tc : Thread Cert.ConvNorm.nD Cert.ConvNorm.τ).loc Cert.ConvNorm.main_arg9))) = (fun _ => 1#1)

def Pre_ConvNormIdeal [hPre_slots_in_pool_norm : Cert.Pre_slots_in_pool_norm.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_slots_in_pool_norm.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5)) (m ((c.tc : Thread Cert.ConvNormIdeal.nD Cert.ConvNormIdeal.τ).loc Cert.ConvNormIdeal.main_arg6)) (m ((c.tc : Thread Cert.ConvNormIdeal.nD Cert.ConvNormIdeal.τ).loc Cert.ConvNormIdeal.main_arg7)) (m ((c.tc : Thread Cert.ConvNormIdeal.nD Cert.ConvNormIdeal.τ).loc Cert.ConvNormIdeal.main_arg8)) (m ((c.tc : Thread Cert.ConvNormIdeal.nD Cert.ConvNormIdeal.τ).loc Cert.ConvNormIdeal.main_arg9))) = (fun _ => 1#1)

def Pre_ConvNormRefIdeal [hPre_slots_in_pool_norm : Cert.Pre_slots_in_pool_norm.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_slots_in_pool_norm.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5)) (m ((c.tc : Thread Cert.ConvNormRefIdeal.nD Cert.ConvNormRefIdeal.τ).loc Cert.ConvNormRefIdeal.main_arg6)) (m ((c.tc : Thread Cert.ConvNormRefIdeal.nD Cert.ConvNormRefIdeal.τ).loc Cert.ConvNormRefIdeal.main_arg7)) (m ((c.tc : Thread Cert.ConvNormRefIdeal.nD Cert.ConvNormRefIdeal.τ).loc Cert.ConvNormRefIdeal.main_arg8)) (m ((c.tc : Thread Cert.ConvNormRefIdeal.nD Cert.ConvNormRefIdeal.τ).loc Cert.ConvNormRefIdeal.main_arg9))) = (fun _ => 1#1)

def Pre_ConvMid [hPre_slots_in_pool : Cert.Pre_slots_in_pool.Facts] (m : (ℓ : Loc Cert.ConvMid.nD Cert.ConvMid.τ Cert.ConvMid.sig) → Buf (Elt Bits) ℓ) : Prop :=
  ∀ c : Dev Cert.ConvMid.nD,
    (Cert.Pre_slots_in_pool.fn (F := Bits) (m ((c.tc : Thread Cert.ConvMid.nD Cert.ConvMid.τ).loc Cert.ConvMid.main_arg0)) (m ((c.tc : Thread Cert.ConvMid.nD Cert.ConvMid.τ).loc Cert.ConvMid.main_arg1)) (m ((c.tc : Thread Cert.ConvMid.nD Cert.ConvMid.τ).loc Cert.ConvMid.main_arg2)) (m ((c.tc : Thread Cert.ConvMid.nD Cert.ConvMid.τ).loc Cert.ConvMid.main_arg3)) (m ((c.tc : Thread Cert.ConvMid.nD Cert.ConvMid.τ).loc Cert.ConvMid.main_arg4)) (m ((c.tc : Thread Cert.ConvMid.nD Cert.ConvMid.τ).loc Cert.ConvMid.main_arg5)) (m ((c.tc : Thread Cert.ConvMid.nD Cert.ConvMid.τ).loc Cert.ConvMid.main_arg6)) (m ((c.tc : Thread Cert.ConvMid.nD Cert.ConvMid.τ).loc Cert.ConvMid.main_arg7)) (m ((c.tc : Thread Cert.ConvMid.nD Cert.ConvMid.τ).loc Cert.ConvMid.main_arg8)) (m ((c.tc : Thread Cert.ConvMid.nD Cert.ConvMid.τ).loc Cert.ConvMid.main_arg9)) (m ((c.tc : Thread Cert.ConvMid.nD Cert.ConvMid.τ).loc Cert.ConvMid.main_arg10))) = (fun _ => 1#1)

def Pre_ConvMidIdeal [hPre_slots_in_pool : Cert.Pre_slots_in_pool.Facts] (m : (ℓ : Loc Cert.ConvMidIdeal.nD Cert.ConvMidIdeal.τ Cert.ConvMidIdeal.sig) → Buf (Elt Ideal) ℓ) : Prop :=
  ∀ c : Dev Cert.ConvMidIdeal.nD,
    (Cert.Pre_slots_in_pool.fn (F := Ideal) (m ((c.tc : Thread Cert.ConvMidIdeal.nD Cert.ConvMidIdeal.τ).loc Cert.ConvMidIdeal.main_arg0)) (m ((c.tc : Thread Cert.ConvMidIdeal.nD Cert.ConvMidIdeal.τ).loc Cert.ConvMidIdeal.main_arg1)) (m ((c.tc : Thread Cert.ConvMidIdeal.nD Cert.ConvMidIdeal.τ).loc Cert.ConvMidIdeal.main_arg2)) (m ((c.tc : Thread Cert.ConvMidIdeal.nD Cert.ConvMidIdeal.τ).loc Cert.ConvMidIdeal.main_arg3)) (m ((c.tc : Thread Cert.ConvMidIdeal.nD Cert.ConvMidIdeal.τ).loc Cert.ConvMidIdeal.main_arg4)) (m ((c.tc : Thread Cert.ConvMidIdeal.nD Cert.ConvMidIdeal.τ).loc Cert.ConvMidIdeal.main_arg5)) (m ((c.tc : Thread Cert.ConvMidIdeal.nD Cert.ConvMidIdeal.τ).loc Cert.ConvMidIdeal.main_arg6)) (m ((c.tc : Thread Cert.ConvMidIdeal.nD Cert.ConvMidIdeal.τ).loc Cert.ConvMidIdeal.main_arg7)) (m ((c.tc : Thread Cert.ConvMidIdeal.nD Cert.ConvMidIdeal.τ).loc Cert.ConvMidIdeal.main_arg8)) (m ((c.tc : Thread Cert.ConvMidIdeal.nD Cert.ConvMidIdeal.τ).loc Cert.ConvMidIdeal.main_arg9)) (m ((c.tc : Thread Cert.ConvMidIdeal.nD Cert.ConvMidIdeal.τ).loc Cert.ConvMidIdeal.main_arg10))) = (fun _ => 1#1)

def Pre_ConvMidRefIdeal [hPre_slots_in_pool : Cert.Pre_slots_in_pool.Facts] (m : (ℓ : Loc Cert.ConvMidRefIdeal.nD Cert.ConvMidRefIdeal.τ Cert.ConvMidRefIdeal.sig) → Buf (Elt Ideal) ℓ) : Prop :=
  ∀ c : Dev Cert.ConvMidRefIdeal.nD,
    (Cert.Pre_slots_in_pool.fn (F := Ideal) (m ((c.tc : Thread Cert.ConvMidRefIdeal.nD Cert.ConvMidRefIdeal.τ).loc Cert.ConvMidRefIdeal.main_arg0)) (m ((c.tc : Thread Cert.ConvMidRefIdeal.nD Cert.ConvMidRefIdeal.τ).loc Cert.ConvMidRefIdeal.main_arg1)) (m ((c.tc : Thread Cert.ConvMidRefIdeal.nD Cert.ConvMidRefIdeal.τ).loc Cert.ConvMidRefIdeal.main_arg2)) (m ((c.tc : Thread Cert.ConvMidRefIdeal.nD Cert.ConvMidRefIdeal.τ).loc Cert.ConvMidRefIdeal.main_arg3)) (m ((c.tc : Thread Cert.ConvMidRefIdeal.nD Cert.ConvMidRefIdeal.τ).loc Cert.ConvMidRefIdeal.main_arg4)) (m ((c.tc : Thread Cert.ConvMidRefIdeal.nD Cert.ConvMidRefIdeal.τ).loc Cert.ConvMidRefIdeal.main_arg5)) (m ((c.tc : Thread Cert.ConvMidRefIdeal.nD Cert.ConvMidRefIdeal.τ).loc Cert.ConvMidRefIdeal.main_arg6)) (m ((c.tc : Thread Cert.ConvMidRefIdeal.nD Cert.ConvMidRefIdeal.τ).loc Cert.ConvMidRefIdeal.main_arg7)) (m ((c.tc : Thread Cert.ConvMidRefIdeal.nD Cert.ConvMidRefIdeal.τ).loc Cert.ConvMidRefIdeal.main_arg8)) (m ((c.tc : Thread Cert.ConvMidRefIdeal.nD Cert.ConvMidRefIdeal.τ).loc Cert.ConvMidRefIdeal.main_arg9)) (m ((c.tc : Thread Cert.ConvMidRefIdeal.nD Cert.ConvMidRefIdeal.τ).loc Cert.ConvMidRefIdeal.main_arg10))) = (fun _ => 1#1)

def Pre_ConvLast [hPre_slots_in_pool_last : Cert.Pre_slots_in_pool_last.Facts] (m : (ℓ : Loc Cert.ConvLast.nD Cert.ConvLast.τ Cert.ConvLast.sig) → Buf (Elt Bits) ℓ) : Prop :=
  ∀ c : Dev Cert.ConvLast.nD,
    (Cert.Pre_slots_in_pool_last.fn (F := Bits) (m ((c.tc : Thread Cert.ConvLast.nD Cert.ConvLast.τ).loc Cert.ConvLast.main_arg0)) (m ((c.tc : Thread Cert.ConvLast.nD Cert.ConvLast.τ).loc Cert.ConvLast.main_arg1)) (m ((c.tc : Thread Cert.ConvLast.nD Cert.ConvLast.τ).loc Cert.ConvLast.main_arg2)) (m ((c.tc : Thread Cert.ConvLast.nD Cert.ConvLast.τ).loc Cert.ConvLast.main_arg3)) (m ((c.tc : Thread Cert.ConvLast.nD Cert.ConvLast.τ).loc Cert.ConvLast.main_arg4)) (m ((c.tc : Thread Cert.ConvLast.nD Cert.ConvLast.τ).loc Cert.ConvLast.main_arg5)) (m ((c.tc : Thread Cert.ConvLast.nD Cert.ConvLast.τ).loc Cert.ConvLast.main_arg6)) (m ((c.tc : Thread Cert.ConvLast.nD Cert.ConvLast.τ).loc Cert.ConvLast.main_arg7)) (m ((c.tc : Thread Cert.ConvLast.nD Cert.ConvLast.τ).loc Cert.ConvLast.main_arg8)) (m ((c.tc : Thread Cert.ConvLast.nD Cert.ConvLast.τ).loc Cert.ConvLast.main_arg9)) (m ((c.tc : Thread Cert.ConvLast.nD Cert.ConvLast.τ).loc Cert.ConvLast.main_arg10))) = (fun _ => 1#1)

def Pre_ConvLastIdeal [hPre_slots_in_pool_last : Cert.Pre_slots_in_pool_last.Facts] (m : (ℓ : Loc Cert.ConvLastIdeal.nD Cert.ConvLastIdeal.τ Cert.ConvLastIdeal.sig) → Buf (Elt Ideal) ℓ) : Prop :=
  ∀ c : Dev Cert.ConvLastIdeal.nD,
    (Cert.Pre_slots_in_pool_last.fn (F := Ideal) (m ((c.tc : Thread Cert.ConvLastIdeal.nD Cert.ConvLastIdeal.τ).loc Cert.ConvLastIdeal.main_arg0)) (m ((c.tc : Thread Cert.ConvLastIdeal.nD Cert.ConvLastIdeal.τ).loc Cert.ConvLastIdeal.main_arg1)) (m ((c.tc : Thread Cert.ConvLastIdeal.nD Cert.ConvLastIdeal.τ).loc Cert.ConvLastIdeal.main_arg2)) (m ((c.tc : Thread Cert.ConvLastIdeal.nD Cert.ConvLastIdeal.τ).loc Cert.ConvLastIdeal.main_arg3)) (m ((c.tc : Thread Cert.ConvLastIdeal.nD Cert.ConvLastIdeal.τ).loc Cert.ConvLastIdeal.main_arg4)) (m ((c.tc : Thread Cert.ConvLastIdeal.nD Cert.ConvLastIdeal.τ).loc Cert.ConvLastIdeal.main_arg5)) (m ((c.tc : Thread Cert.ConvLastIdeal.nD Cert.ConvLastIdeal.τ).loc Cert.ConvLastIdeal.main_arg6)) (m ((c.tc : Thread Cert.ConvLastIdeal.nD Cert.ConvLastIdeal.τ).loc Cert.ConvLastIdeal.main_arg7)) (m ((c.tc : Thread Cert.ConvLastIdeal.nD Cert.ConvLastIdeal.τ).loc Cert.ConvLastIdeal.main_arg8)) (m ((c.tc : Thread Cert.ConvLastIdeal.nD Cert.ConvLastIdeal.τ).loc Cert.ConvLastIdeal.main_arg9)) (m ((c.tc : Thread Cert.ConvLastIdeal.nD Cert.ConvLastIdeal.τ).loc Cert.ConvLastIdeal.main_arg10))) = (fun _ => 1#1)

def Pre_ConvLastRefIdeal [hPre_slots_in_pool_last : Cert.Pre_slots_in_pool_last.Facts] (m : (ℓ : Loc Cert.ConvLastRefIdeal.nD Cert.ConvLastRefIdeal.τ Cert.ConvLastRefIdeal.sig) → Buf (Elt Ideal) ℓ) : Prop :=
  ∀ c : Dev Cert.ConvLastRefIdeal.nD,
    (Cert.Pre_slots_in_pool_last.fn (F := Ideal) (m ((c.tc : Thread Cert.ConvLastRefIdeal.nD Cert.ConvLastRefIdeal.τ).loc Cert.ConvLastRefIdeal.main_arg0)) (m ((c.tc : Thread Cert.ConvLastRefIdeal.nD Cert.ConvLastRefIdeal.τ).loc Cert.ConvLastRefIdeal.main_arg1)) (m ((c.tc : Thread Cert.ConvLastRefIdeal.nD Cert.ConvLastRefIdeal.τ).loc Cert.ConvLastRefIdeal.main_arg2)) (m ((c.tc : Thread Cert.ConvLastRefIdeal.nD Cert.ConvLastRefIdeal.τ).loc Cert.ConvLastRefIdeal.main_arg3)) (m ((c.tc : Thread Cert.ConvLastRefIdeal.nD Cert.ConvLastRefIdeal.τ).loc Cert.ConvLastRefIdeal.main_arg4)) (m ((c.tc : Thread Cert.ConvLastRefIdeal.nD Cert.ConvLastRefIdeal.τ).loc Cert.ConvLastRefIdeal.main_arg5)) (m ((c.tc : Thread Cert.ConvLastRefIdeal.nD Cert.ConvLastRefIdeal.τ).loc Cert.ConvLastRefIdeal.main_arg6)) (m ((c.tc : Thread Cert.ConvLastRefIdeal.nD Cert.ConvLastRefIdeal.τ).loc Cert.ConvLastRefIdeal.main_arg7)) (m ((c.tc : Thread Cert.ConvLastRefIdeal.nD Cert.ConvLastRefIdeal.τ).loc Cert.ConvLastRefIdeal.main_arg8)) (m ((c.tc : Thread Cert.ConvLastRefIdeal.nD Cert.ConvLastRefIdeal.τ).loc Cert.ConvLastRefIdeal.main_arg9)) (m ((c.tc : Thread Cert.ConvLastRefIdeal.nD Cert.ConvLastRefIdeal.τ).loc Cert.ConvLastRefIdeal.main_arg10))) = (fun _ => 1#1)

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialRefIdeal (m : (ℓ : Loc Cert.SpatialRefIdeal.nD Cert.SpatialRefIdeal.τ Cert.SpatialRefIdeal.sig) → Buf (Elt Ideal) ℓ) : Prop :=
  True

def Pre_Temporal [hPre_slots_in_pool_temporal : Cert.Pre_slots_in_pool_temporal.Facts] (m : (ℓ : Loc Cert.Temporal.nD Cert.Temporal.τ Cert.Temporal.sig) → Buf (Elt Bits) ℓ) : Prop :=
  ∀ c : Dev Cert.Temporal.nD,
    (Cert.Pre_slots_in_pool_temporal.fn (F := Bits) (m ((c.tc : Thread Cert.Temporal.nD Cert.Temporal.τ).loc Cert.Temporal.main_arg0)) (m ((c.tc : Thread Cert.Temporal.nD Cert.Temporal.τ).loc Cert.Temporal.main_arg1)) (m ((c.tc : Thread Cert.Temporal.nD Cert.Temporal.τ).loc Cert.Temporal.main_arg2)) (m ((c.tc : Thread Cert.Temporal.nD Cert.Temporal.τ).loc Cert.Temporal.main_arg3)) (m ((c.tc : Thread Cert.Temporal.nD Cert.Temporal.τ).loc Cert.Temporal.main_arg4)) (m ((c.tc : Thread Cert.Temporal.nD Cert.Temporal.τ).loc Cert.Temporal.main_arg5)) (m ((c.tc : Thread Cert.Temporal.nD Cert.Temporal.τ).loc Cert.Temporal.main_arg6)) (m ((c.tc : Thread Cert.Temporal.nD Cert.Temporal.τ).loc Cert.Temporal.main_arg7)) (m ((c.tc : Thread Cert.Temporal.nD Cert.Temporal.τ).loc Cert.Temporal.main_arg8))) = (fun _ => 1#1)

def Pre_TemporalIdeal [hPre_slots_in_pool_temporal : Cert.Pre_slots_in_pool_temporal.Facts] (m : (ℓ : Loc Cert.TemporalIdeal.nD Cert.TemporalIdeal.τ Cert.TemporalIdeal.sig) → Buf (Elt Ideal) ℓ) : Prop :=
  ∀ c : Dev Cert.TemporalIdeal.nD,
    (Cert.Pre_slots_in_pool_temporal.fn (F := Ideal) (m ((c.tc : Thread Cert.TemporalIdeal.nD Cert.TemporalIdeal.τ).loc Cert.TemporalIdeal.main_arg0)) (m ((c.tc : Thread Cert.TemporalIdeal.nD Cert.TemporalIdeal.τ).loc Cert.TemporalIdeal.main_arg1)) (m ((c.tc : Thread Cert.TemporalIdeal.nD Cert.TemporalIdeal.τ).loc Cert.TemporalIdeal.main_arg2)) (m ((c.tc : Thread Cert.TemporalIdeal.nD Cert.TemporalIdeal.τ).loc Cert.TemporalIdeal.main_arg3)) (m ((c.tc : Thread Cert.TemporalIdeal.nD Cert.TemporalIdeal.τ).loc Cert.TemporalIdeal.main_arg4)) (m ((c.tc : Thread Cert.TemporalIdeal.nD Cert.TemporalIdeal.τ).loc Cert.TemporalIdeal.main_arg5)) (m ((c.tc : Thread Cert.TemporalIdeal.nD Cert.TemporalIdeal.τ).loc Cert.TemporalIdeal.main_arg6)) (m ((c.tc : Thread Cert.TemporalIdeal.nD Cert.TemporalIdeal.τ).loc Cert.TemporalIdeal.main_arg7)) (m ((c.tc : Thread Cert.TemporalIdeal.nD Cert.TemporalIdeal.τ).loc Cert.TemporalIdeal.main_arg8))) = (fun _ => 1#1)

def Pre_TemporalRefIdeal [hPre_slots_in_pool_temporal : Cert.Pre_slots_in_pool_temporal.Facts] (m : (ℓ : Loc Cert.TemporalRefIdeal.nD Cert.TemporalRefIdeal.τ Cert.TemporalRefIdeal.sig) → Buf (Elt Ideal) ℓ) : Prop :=
  ∀ c : Dev Cert.TemporalRefIdeal.nD,
    (Cert.Pre_slots_in_pool_temporal.fn (F := Ideal) (m ((c.tc : Thread Cert.TemporalRefIdeal.nD Cert.TemporalRefIdeal.τ).loc Cert.TemporalRefIdeal.main_arg0)) (m ((c.tc : Thread Cert.TemporalRefIdeal.nD Cert.TemporalRefIdeal.τ).loc Cert.TemporalRefIdeal.main_arg1)) (m ((c.tc : Thread Cert.TemporalRefIdeal.nD Cert.TemporalRefIdeal.τ).loc Cert.TemporalRefIdeal.main_arg2)) (m ((c.tc : Thread Cert.TemporalRefIdeal.nD Cert.TemporalRefIdeal.τ).loc Cert.TemporalRefIdeal.main_arg3)) (m ((c.tc : Thread Cert.TemporalRefIdeal.nD Cert.TemporalRefIdeal.τ).loc Cert.TemporalRefIdeal.main_arg4)) (m ((c.tc : Thread Cert.TemporalRefIdeal.nD Cert.TemporalRefIdeal.τ).loc Cert.TemporalRefIdeal.main_arg5)) (m ((c.tc : Thread Cert.TemporalRefIdeal.nD Cert.TemporalRefIdeal.τ).loc Cert.TemporalRefIdeal.main_arg6)) (m ((c.tc : Thread Cert.TemporalRefIdeal.nD Cert.TemporalRefIdeal.τ).loc Cert.TemporalRefIdeal.main_arg7)) (m ((c.tc : Thread Cert.TemporalRefIdeal.nD Cert.TemporalRefIdeal.τ).loc Cert.TemporalRefIdeal.main_arg8))) = (fun _ => 1#1)

def Pre_NormQuant (m : (ℓ : Loc Cert.NormQuant.nD Cert.NormQuant.τ Cert.NormQuant.sig) → Buf (Elt Bits) ℓ) : Prop :=
  True

def Pre_NormQuantIdeal (m : (ℓ : Loc Cert.NormQuantIdeal.nD Cert.NormQuantIdeal.τ Cert.NormQuantIdeal.sig) → Buf (Elt Ideal) ℓ) : Prop :=
  True

def Pre_NormQuantRefIdeal (m : (ℓ : Loc Cert.NormQuantRefIdeal.nD Cert.NormQuantRefIdeal.τ Cert.NormQuantRefIdeal.sig) → Buf (Elt Ideal) ℓ) : Prop :=
  True

def quiescent_ConvNorm [hConvNorm : Cert.ConvNorm.Facts] [hPre_slots_in_pool_norm : Cert.Pre_slots_in_pool_norm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4)
      ∧ r.2.mem ((c.tc : Thread Cert.ConvNorm.nD Cert.ConvNorm.τ).loc Cert.ConvNorm.main_arg5) = m ((c.tc : Thread Cert.ConvNorm.nD Cert.ConvNorm.τ).loc Cert.ConvNorm.main_arg5)
      ∧ r.2.mem ((c.tc : Thread Cert.ConvNorm.nD Cert.ConvNorm.τ).loc Cert.ConvNorm.main_arg6) = m ((c.tc : Thread Cert.ConvNorm.nD Cert.ConvNorm.τ).loc Cert.ConvNorm.main_arg6)
      ∧ r.2.mem ((c.tc : Thread Cert.ConvNorm.nD Cert.ConvNorm.τ).loc Cert.ConvNorm.main_arg7) = m ((c.tc : Thread Cert.ConvNorm.nD Cert.ConvNorm.τ).loc Cert.ConvNorm.main_arg7)
      ∧ r.2.mem ((c.tc : Thread Cert.ConvNorm.nD Cert.ConvNorm.τ).loc Cert.ConvNorm.main_arg8) = m ((c.tc : Thread Cert.ConvNorm.nD Cert.ConvNorm.τ).loc Cert.ConvNorm.main_arg8)
      ∧ r.2.mem ((c.tc : Thread Cert.ConvNorm.nD Cert.ConvNorm.τ).loc Cert.ConvNorm.main_arg9) = m ((c.tc : Thread Cert.ConvNorm.nD Cert.ConvNorm.τ).loc Cert.ConvNorm.main_arg9))
      ∧ r.2.sem = fun _ => 0)

def quiescent_ConvNormIdeal [hConvNormIdeal : Cert.ConvNormIdeal.Facts] [hPre_slots_in_pool_norm : Cert.Pre_slots_in_pool_norm.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5)
      ∧ r.2.mem ((c.tc : Thread Cert.ConvNormIdeal.nD Cert.ConvNormIdeal.τ).loc Cert.ConvNormIdeal.main_arg6) = m ((c.tc : Thread Cert.ConvNormIdeal.nD Cert.ConvNormIdeal.τ).loc Cert.ConvNormIdeal.main_arg6)
      ∧ r.2.mem ((c.tc : Thread Cert.ConvNormIdeal.nD Cert.ConvNormIdeal.τ).loc Cert.ConvNormIdeal.main_arg7) = m ((c.tc : Thread Cert.ConvNormIdeal.nD Cert.ConvNormIdeal.τ).loc Cert.ConvNormIdeal.main_arg7)
      ∧ r.2.mem ((c.tc : Thread Cert.ConvNormIdeal.nD Cert.ConvNormIdeal.τ).loc Cert.ConvNormIdeal.main_arg8) = m ((c.tc : Thread Cert.ConvNormIdeal.nD Cert.ConvNormIdeal.τ).loc Cert.ConvNormIdeal.main_arg8)
      ∧ r.2.mem ((c.tc : Thread Cert.ConvNormIdeal.nD Cert.ConvNormIdeal.τ).loc Cert.ConvNormIdeal.main_arg9) = m ((c.tc : Thread Cert.ConvNormIdeal.nD Cert.ConvNormIdeal.τ).loc Cert.ConvNormIdeal.main_arg9))
      ∧ r.2.sem = fun _ => 0)

def quiescent_ConvNormRefIdeal [hConvNormRefIdeal : Cert.ConvNormRefIdeal.Facts] [hPre_slots_in_pool_norm : Cert.Pre_slots_in_pool_norm.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5)
      ∧ r.2.mem ((c.tc : Thread Cert.ConvNormRefIdeal.nD Cert.ConvNormRefIdeal.τ).loc Cert.ConvNormRefIdeal.main_arg6) = m ((c.tc : Thread Cert.ConvNormRefIdeal.nD Cert.ConvNormRefIdeal.τ).loc Cert.ConvNormRefIdeal.main_arg6)
      ∧ r.2.mem ((c.tc : Thread Cert.ConvNormRefIdeal.nD Cert.ConvNormRefIdeal.τ).loc Cert.ConvNormRefIdeal.main_arg7) = m ((c.tc : Thread Cert.ConvNormRefIdeal.nD Cert.ConvNormRefIdeal.τ).loc Cert.ConvNormRefIdeal.main_arg7)
      ∧ r.2.mem ((c.tc : Thread Cert.ConvNormRefIdeal.nD Cert.ConvNormRefIdeal.τ).loc Cert.ConvNormRefIdeal.main_arg8) = m ((c.tc : Thread Cert.ConvNormRefIdeal.nD Cert.ConvNormRefIdeal.τ).loc Cert.ConvNormRefIdeal.main_arg8)
      ∧ r.2.mem ((c.tc : Thread Cert.ConvNormRefIdeal.nD Cert.ConvNormRefIdeal.τ).loc Cert.ConvNormRefIdeal.main_arg9) = m ((c.tc : Thread Cert.ConvNormRefIdeal.nD Cert.ConvNormRefIdeal.τ).loc Cert.ConvNormRefIdeal.main_arg9))
      ∧ r.2.sem = fun _ => 0)

def quiescent_ConvMid [hConvMid : Cert.ConvMid.Facts] [hPre_slots_in_pool : Cert.Pre_slots_in_pool.Facts] : Prop :=
  ∀ (m : (ℓ : Loc Cert.ConvMid.nD Cert.ConvMid.τ Cert.ConvMid.sig) → Buf (Elt Bits) ℓ) (g : Dev Cert.ConvMid.nD → PrngReg), Pre_ConvMid m →
    θ_run (Cert.ConvMid.defs (F := Bits)) (onTc (τ := Cert.ConvMid.τ) (Cert.ConvMid.main (F := Bits))) ⟨m, fun _ => 0, g⟩ (fun r => (∀ c : Dev Cert.ConvMid.nD,
      r.2.mem ((c.tc : Thread Cert.ConvMid.nD Cert.ConvMid.τ).loc Cert.ConvMid.main_arg0) = m ((c.tc : Thread Cert.ConvMid.nD Cert.ConvMid.τ).loc Cert.ConvMid.main_arg0)
      ∧ r.2.mem ((c.tc : Thread Cert.ConvMid.nD Cert.ConvMid.τ).loc Cert.ConvMid.main_arg1) = m ((c.tc : Thread Cert.ConvMid.nD Cert.ConvMid.τ).loc Cert.ConvMid.main_arg1)
      ∧ r.2.mem ((c.tc : Thread Cert.ConvMid.nD Cert.ConvMid.τ).loc Cert.ConvMid.main_arg2) = m ((c.tc : Thread Cert.ConvMid.nD Cert.ConvMid.τ).loc Cert.ConvMid.main_arg2)
      ∧ r.2.mem ((c.tc : Thread Cert.ConvMid.nD Cert.ConvMid.τ).loc Cert.ConvMid.main_arg3) = m ((c.tc : Thread Cert.ConvMid.nD Cert.ConvMid.τ).loc Cert.ConvMid.main_arg3)
      ∧ r.2.mem ((c.tc : Thread Cert.ConvMid.nD Cert.ConvMid.τ).loc Cert.ConvMid.main_arg4) = m ((c.tc : Thread Cert.ConvMid.nD Cert.ConvMid.τ).loc Cert.ConvMid.main_arg4)
      ∧ r.2.mem ((c.tc : Thread Cert.ConvMid.nD Cert.ConvMid.τ).loc Cert.ConvMid.main_arg5) = m ((c.tc : Thread Cert.ConvMid.nD Cert.ConvMid.τ).loc Cert.ConvMid.main_arg5)
      ∧ r.2.mem ((c.tc : Thread Cert.ConvMid.nD Cert.ConvMid.τ).loc Cert.ConvMid.main_arg6) = m ((c.tc : Thread Cert.ConvMid.nD Cert.ConvMid.τ).loc Cert.ConvMid.main_arg6)
      ∧ r.2.mem ((c.tc : Thread Cert.ConvMid.nD Cert.ConvMid.τ).loc Cert.ConvMid.main_arg7) = m ((c.tc : Thread Cert.ConvMid.nD Cert.ConvMid.τ).loc Cert.ConvMid.main_arg7)
      ∧ r.2.mem ((c.tc : Thread Cert.ConvMid.nD Cert.ConvMid.τ).loc Cert.ConvMid.main_arg8) = m ((c.tc : Thread Cert.ConvMid.nD Cert.ConvMid.τ).loc Cert.ConvMid.main_arg8)
      ∧ r.2.mem ((c.tc : Thread Cert.ConvMid.nD Cert.ConvMid.τ).loc Cert.ConvMid.main_arg9) = m ((c.tc : Thread Cert.ConvMid.nD Cert.ConvMid.τ).loc Cert.ConvMid.main_arg9)
      ∧ r.2.mem ((c.tc : Thread Cert.ConvMid.nD Cert.ConvMid.τ).loc Cert.ConvMid.main_arg10) = m ((c.tc : Thread Cert.ConvMid.nD Cert.ConvMid.τ).loc Cert.ConvMid.main_arg10))
      ∧ r.2.sem = fun _ => 0)

def quiescent_ConvMidIdeal [hConvMidIdeal : Cert.ConvMidIdeal.Facts] [hPre_slots_in_pool : Cert.Pre_slots_in_pool.Facts] : Prop :=
  ∀ (m : (ℓ : Loc Cert.ConvMidIdeal.nD Cert.ConvMidIdeal.τ Cert.ConvMidIdeal.sig) → Buf (Elt Ideal) ℓ) (g : Dev Cert.ConvMidIdeal.nD → PrngReg), Pre_ConvMidIdeal m →
    θ_run (Cert.ConvMidIdeal.defs (F := Ideal)) (onTc (τ := Cert.ConvMidIdeal.τ) (Cert.ConvMidIdeal.main (F := Ideal))) ⟨m, fun _ => 0, g⟩ (fun r => (∀ c : Dev Cert.ConvMidIdeal.nD,
      r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
      ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
      ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
      ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
      ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4)
      ∧ r.2.mem ((c.tc : Thread Cert.ConvMidIdeal.nD Cert.ConvMidIdeal.τ).loc Cert.ConvMidIdeal.main_arg5) = m ((c.tc : Thread Cert.ConvMidIdeal.nD Cert.ConvMidIdeal.τ).loc Cert.ConvMidIdeal.main_arg5)
      ∧ r.2.mem ((c.tc : Thread Cert.ConvMidIdeal.nD Cert.ConvMidIdeal.τ).loc Cert.ConvMidIdeal.main_arg6) = m ((c.tc : Thread Cert.ConvMidIdeal.nD Cert.ConvMidIdeal.τ).loc Cert.ConvMidIdeal.main_arg6)
      ∧ r.2.mem ((c.tc : Thread Cert.ConvMidIdeal.nD Cert.ConvMidIdeal.τ).loc Cert.ConvMidIdeal.main_arg7) = m ((c.tc : Thread Cert.ConvMidIdeal.nD Cert.ConvMidIdeal.τ).loc Cert.ConvMidIdeal.main_arg7)
      ∧ r.2.mem ((c.tc : Thread Cert.ConvMidIdeal.nD Cert.ConvMidIdeal.τ).loc Cert.ConvMidIdeal.main_arg8) = m ((c.tc : Thread Cert.ConvMidIdeal.nD Cert.ConvMidIdeal.τ).loc Cert.ConvMidIdeal.main_arg8)
      ∧ r.2.mem ((c.tc : Thread Cert.ConvMidIdeal.nD Cert.ConvMidIdeal.τ).loc Cert.ConvMidIdeal.main_arg9) = m ((c.tc : Thread Cert.ConvMidIdeal.nD Cert.ConvMidIdeal.τ).loc Cert.ConvMidIdeal.main_arg9)
      ∧ r.2.mem ((c.tc : Thread Cert.ConvMidIdeal.nD Cert.ConvMidIdeal.τ).loc Cert.ConvMidIdeal.main_arg10) = m ((c.tc : Thread Cert.ConvMidIdeal.nD Cert.ConvMidIdeal.τ).loc Cert.ConvMidIdeal.main_arg10))
      ∧ r.2.sem = fun _ => 0)

def quiescent_ConvMidRefIdeal [hConvMidRefIdeal : Cert.ConvMidRefIdeal.Facts] [hPre_slots_in_pool : Cert.Pre_slots_in_pool.Facts] : Prop :=
  ∀ (m : (ℓ : Loc Cert.ConvMidRefIdeal.nD Cert.ConvMidRefIdeal.τ Cert.ConvMidRefIdeal.sig) → Buf (Elt Ideal) ℓ) (g : Dev Cert.ConvMidRefIdeal.nD → PrngReg), Pre_ConvMidRefIdeal m →
    θ_run (Cert.ConvMidRefIdeal.defs (F := Ideal)) (onTc (τ := Cert.ConvMidRefIdeal.τ) (Cert.ConvMidRefIdeal.main (F := Ideal))) ⟨m, fun _ => 0, g⟩ (fun r => (∀ c : Dev Cert.ConvMidRefIdeal.nD,
      r.2.mem ((c.tc : Thread Cert.ConvMidRefIdeal.nD Cert.ConvMidRefIdeal.τ).loc Cert.ConvMidRefIdeal.main_arg0) = m ((c.tc : Thread Cert.ConvMidRefIdeal.nD Cert.ConvMidRefIdeal.τ).loc Cert.ConvMidRefIdeal.main_arg0)
      ∧ r.2.mem ((c.tc : Thread Cert.ConvMidRefIdeal.nD Cert.ConvMidRefIdeal.τ).loc Cert.ConvMidRefIdeal.main_arg1) = m ((c.tc : Thread Cert.ConvMidRefIdeal.nD Cert.ConvMidRefIdeal.τ).loc Cert.ConvMidRefIdeal.main_arg1)
      ∧ r.2.mem ((c.tc : Thread Cert.ConvMidRefIdeal.nD Cert.ConvMidRefIdeal.τ).loc Cert.ConvMidRefIdeal.main_arg2) = m ((c.tc : Thread Cert.ConvMidRefIdeal.nD Cert.ConvMidRefIdeal.τ).loc Cert.ConvMidRefIdeal.main_arg2)
      ∧ r.2.mem ((c.tc : Thread Cert.ConvMidRefIdeal.nD Cert.ConvMidRefIdeal.τ).loc Cert.ConvMidRefIdeal.main_arg3) = m ((c.tc : Thread Cert.ConvMidRefIdeal.nD Cert.ConvMidRefIdeal.τ).loc Cert.ConvMidRefIdeal.main_arg3)
      ∧ r.2.mem ((c.tc : Thread Cert.ConvMidRefIdeal.nD Cert.ConvMidRefIdeal.τ).loc Cert.ConvMidRefIdeal.main_arg4) = m ((c.tc : Thread Cert.ConvMidRefIdeal.nD Cert.ConvMidRefIdeal.τ).loc Cert.ConvMidRefIdeal.main_arg4)
      ∧ r.2.mem ((c.tc : Thread Cert.ConvMidRefIdeal.nD Cert.ConvMidRefIdeal.τ).loc Cert.ConvMidRefIdeal.main_arg5) = m ((c.tc : Thread Cert.ConvMidRefIdeal.nD Cert.ConvMidRefIdeal.τ).loc Cert.ConvMidRefIdeal.main_arg5)
      ∧ r.2.mem ((c.tc : Thread Cert.ConvMidRefIdeal.nD Cert.ConvMidRefIdeal.τ).loc Cert.ConvMidRefIdeal.main_arg6) = m ((c.tc : Thread Cert.ConvMidRefIdeal.nD Cert.ConvMidRefIdeal.τ).loc Cert.ConvMidRefIdeal.main_arg6)
      ∧ r.2.mem ((c.tc : Thread Cert.ConvMidRefIdeal.nD Cert.ConvMidRefIdeal.τ).loc Cert.ConvMidRefIdeal.main_arg7) = m ((c.tc : Thread Cert.ConvMidRefIdeal.nD Cert.ConvMidRefIdeal.τ).loc Cert.ConvMidRefIdeal.main_arg7)
      ∧ r.2.mem ((c.tc : Thread Cert.ConvMidRefIdeal.nD Cert.ConvMidRefIdeal.τ).loc Cert.ConvMidRefIdeal.main_arg8) = m ((c.tc : Thread Cert.ConvMidRefIdeal.nD Cert.ConvMidRefIdeal.τ).loc Cert.ConvMidRefIdeal.main_arg8)
      ∧ r.2.mem ((c.tc : Thread Cert.ConvMidRefIdeal.nD Cert.ConvMidRefIdeal.τ).loc Cert.ConvMidRefIdeal.main_arg9) = m ((c.tc : Thread Cert.ConvMidRefIdeal.nD Cert.ConvMidRefIdeal.τ).loc Cert.ConvMidRefIdeal.main_arg9)
      ∧ r.2.mem ((c.tc : Thread Cert.ConvMidRefIdeal.nD Cert.ConvMidRefIdeal.τ).loc Cert.ConvMidRefIdeal.main_arg10) = m ((c.tc : Thread Cert.ConvMidRefIdeal.nD Cert.ConvMidRefIdeal.τ).loc Cert.ConvMidRefIdeal.main_arg10))
      ∧ r.2.sem = fun _ => 0)

def quiescent_ConvLast [hConvLast : Cert.ConvLast.Facts] [hPre_slots_in_pool_last : Cert.Pre_slots_in_pool_last.Facts] : Prop :=
  ∀ (m : (ℓ : Loc Cert.ConvLast.nD Cert.ConvLast.τ Cert.ConvLast.sig) → Buf (Elt Bits) ℓ) (g : Dev Cert.ConvLast.nD → PrngReg), Pre_ConvLast m →
    θ_run (Cert.ConvLast.defs (F := Bits)) (onTc (τ := Cert.ConvLast.τ) (Cert.ConvLast.main (F := Bits))) ⟨m, fun _ => 0, g⟩ (fun r => (∀ c : Dev Cert.ConvLast.nD,
      r.2.mem ((c.tc : Thread Cert.ConvLast.nD Cert.ConvLast.τ).loc Cert.ConvLast.main_arg0) = m ((c.tc : Thread Cert.ConvLast.nD Cert.ConvLast.τ).loc Cert.ConvLast.main_arg0)
      ∧ r.2.mem ((c.tc : Thread Cert.ConvLast.nD Cert.ConvLast.τ).loc Cert.ConvLast.main_arg1) = m ((c.tc : Thread Cert.ConvLast.nD Cert.ConvLast.τ).loc Cert.ConvLast.main_arg1)
      ∧ r.2.mem ((c.tc : Thread Cert.ConvLast.nD Cert.ConvLast.τ).loc Cert.ConvLast.main_arg2) = m ((c.tc : Thread Cert.ConvLast.nD Cert.ConvLast.τ).loc Cert.ConvLast.main_arg2)
      ∧ r.2.mem ((c.tc : Thread Cert.ConvLast.nD Cert.ConvLast.τ).loc Cert.ConvLast.main_arg3) = m ((c.tc : Thread Cert.ConvLast.nD Cert.ConvLast.τ).loc Cert.ConvLast.main_arg3)
      ∧ r.2.mem ((c.tc : Thread Cert.ConvLast.nD Cert.ConvLast.τ).loc Cert.ConvLast.main_arg4) = m ((c.tc : Thread Cert.ConvLast.nD Cert.ConvLast.τ).loc Cert.ConvLast.main_arg4)
      ∧ r.2.mem ((c.tc : Thread Cert.ConvLast.nD Cert.ConvLast.τ).loc Cert.ConvLast.main_arg5) = m ((c.tc : Thread Cert.ConvLast.nD Cert.ConvLast.τ).loc Cert.ConvLast.main_arg5)
      ∧ r.2.mem ((c.tc : Thread Cert.ConvLast.nD Cert.ConvLast.τ).loc Cert.ConvLast.main_arg6) = m ((c.tc : Thread Cert.ConvLast.nD Cert.ConvLast.τ).loc Cert.ConvLast.main_arg6)
      ∧ r.2.mem ((c.tc : Thread Cert.ConvLast.nD Cert.ConvLast.τ).loc Cert.ConvLast.main_arg7) = m ((c.tc : Thread Cert.ConvLast.nD Cert.ConvLast.τ).loc Cert.ConvLast.main_arg7)
      ∧ r.2.mem ((c.tc : Thread Cert.ConvLast.nD Cert.ConvLast.τ).loc Cert.ConvLast.main_arg8) = m ((c.tc : Thread Cert.ConvLast.nD Cert.ConvLast.τ).loc Cert.ConvLast.main_arg8)
      ∧ r.2.mem ((c.tc : Thread Cert.ConvLast.nD Cert.ConvLast.τ).loc Cert.ConvLast.main_arg9) = m ((c.tc : Thread Cert.ConvLast.nD Cert.ConvLast.τ).loc Cert.ConvLast.main_arg9)
      ∧ r.2.mem ((c.tc : Thread Cert.ConvLast.nD Cert.ConvLast.τ).loc Cert.ConvLast.main_arg10) = m ((c.tc : Thread Cert.ConvLast.nD Cert.ConvLast.τ).loc Cert.ConvLast.main_arg10))
      ∧ r.2.sem = fun _ => 0)

def quiescent_ConvLastIdeal [hConvLastIdeal : Cert.ConvLastIdeal.Facts] [hPre_slots_in_pool_last : Cert.Pre_slots_in_pool_last.Facts] : Prop :=
  ∀ (m : (ℓ : Loc Cert.ConvLastIdeal.nD Cert.ConvLastIdeal.τ Cert.ConvLastIdeal.sig) → Buf (Elt Ideal) ℓ) (g : Dev Cert.ConvLastIdeal.nD → PrngReg), Pre_ConvLastIdeal m →
    θ_run (Cert.ConvLastIdeal.defs (F := Ideal)) (onTc (τ := Cert.ConvLastIdeal.τ) (Cert.ConvLastIdeal.main (F := Ideal))) ⟨m, fun _ => 0, g⟩ (fun r => (∀ c : Dev Cert.ConvLastIdeal.nD,
      r.2.mem ((c.tc : Thread Cert.ConvLastIdeal.nD Cert.ConvLastIdeal.τ).loc Cert.ConvLastIdeal.main_arg0) = m ((c.tc : Thread Cert.ConvLastIdeal.nD Cert.ConvLastIdeal.τ).loc Cert.ConvLastIdeal.main_arg0)
      ∧ r.2.mem ((c.tc : Thread Cert.ConvLastIdeal.nD Cert.ConvLastIdeal.τ).loc Cert.ConvLastIdeal.main_arg1) = m ((c.tc : Thread Cert.ConvLastIdeal.nD Cert.ConvLastIdeal.τ).loc Cert.ConvLastIdeal.main_arg1)
      ∧ r.2.mem ((c.tc : Thread Cert.ConvLastIdeal.nD Cert.ConvLastIdeal.τ).loc Cert.ConvLastIdeal.main_arg2) = m ((c.tc : Thread Cert.ConvLastIdeal.nD Cert.ConvLastIdeal.τ).loc Cert.ConvLastIdeal.main_arg2)
      ∧ r.2.mem ((c.tc : Thread Cert.ConvLastIdeal.nD Cert.ConvLastIdeal.τ).loc Cert.ConvLastIdeal.main_arg3) = m ((c.tc : Thread Cert.ConvLastIdeal.nD Cert.ConvLastIdeal.τ).loc Cert.ConvLastIdeal.main_arg3)
      ∧ r.2.mem ((c.tc : Thread Cert.ConvLastIdeal.nD Cert.ConvLastIdeal.τ).loc Cert.ConvLastIdeal.main_arg4) = m ((c.tc : Thread Cert.ConvLastIdeal.nD Cert.ConvLastIdeal.τ).loc Cert.ConvLastIdeal.main_arg4)
      ∧ r.2.mem ((c.tc : Thread Cert.ConvLastIdeal.nD Cert.ConvLastIdeal.τ).loc Cert.ConvLastIdeal.main_arg5) = m ((c.tc : Thread Cert.ConvLastIdeal.nD Cert.ConvLastIdeal.τ).loc Cert.ConvLastIdeal.main_arg5)
      ∧ r.2.mem ((c.tc : Thread Cert.ConvLastIdeal.nD Cert.ConvLastIdeal.τ).loc Cert.ConvLastIdeal.main_arg6) = m ((c.tc : Thread Cert.ConvLastIdeal.nD Cert.ConvLastIdeal.τ).loc Cert.ConvLastIdeal.main_arg6)
      ∧ r.2.mem ((c.tc : Thread Cert.ConvLastIdeal.nD Cert.ConvLastIdeal.τ).loc Cert.ConvLastIdeal.main_arg7) = m ((c.tc : Thread Cert.ConvLastIdeal.nD Cert.ConvLastIdeal.τ).loc Cert.ConvLastIdeal.main_arg7)
      ∧ r.2.mem ((c.tc : Thread Cert.ConvLastIdeal.nD Cert.ConvLastIdeal.τ).loc Cert.ConvLastIdeal.main_arg8) = m ((c.tc : Thread Cert.ConvLastIdeal.nD Cert.ConvLastIdeal.τ).loc Cert.ConvLastIdeal.main_arg8)
      ∧ r.2.mem ((c.tc : Thread Cert.ConvLastIdeal.nD Cert.ConvLastIdeal.τ).loc Cert.ConvLastIdeal.main_arg9) = m ((c.tc : Thread Cert.ConvLastIdeal.nD Cert.ConvLastIdeal.τ).loc Cert.ConvLastIdeal.main_arg9)
      ∧ r.2.mem ((c.tc : Thread Cert.ConvLastIdeal.nD Cert.ConvLastIdeal.τ).loc Cert.ConvLastIdeal.main_arg10) = m ((c.tc : Thread Cert.ConvLastIdeal.nD Cert.ConvLastIdeal.τ).loc Cert.ConvLastIdeal.main_arg10))
      ∧ r.2.sem = fun _ => 0)

def quiescent_ConvLastRefIdeal [hConvLastRefIdeal : Cert.ConvLastRefIdeal.Facts] [hPre_slots_in_pool_last : Cert.Pre_slots_in_pool_last.Facts] : Prop :=
  ∀ (m : (ℓ : Loc Cert.ConvLastRefIdeal.nD Cert.ConvLastRefIdeal.τ Cert.ConvLastRefIdeal.sig) → Buf (Elt Ideal) ℓ) (g : Dev Cert.ConvLastRefIdeal.nD → PrngReg), Pre_ConvLastRefIdeal m →
    θ_run (Cert.ConvLastRefIdeal.defs (F := Ideal)) (onTc (τ := Cert.ConvLastRefIdeal.τ) (Cert.ConvLastRefIdeal.main (F := Ideal))) ⟨m, fun _ => 0, g⟩ (fun r => (∀ c : Dev Cert.ConvLastRefIdeal.nD,
      r.2.mem ((c.tc : Thread Cert.ConvLastRefIdeal.nD Cert.ConvLastRefIdeal.τ).loc Cert.ConvLastRefIdeal.main_arg0) = m ((c.tc : Thread Cert.ConvLastRefIdeal.nD Cert.ConvLastRefIdeal.τ).loc Cert.ConvLastRefIdeal.main_arg0)
      ∧ r.2.mem ((c.tc : Thread Cert.ConvLastRefIdeal.nD Cert.ConvLastRefIdeal.τ).loc Cert.ConvLastRefIdeal.main_arg1) = m ((c.tc : Thread Cert.ConvLastRefIdeal.nD Cert.ConvLastRefIdeal.τ).loc Cert.ConvLastRefIdeal.main_arg1)
      ∧ r.2.mem ((c.tc : Thread Cert.ConvLastRefIdeal.nD Cert.ConvLastRefIdeal.τ).loc Cert.ConvLastRefIdeal.main_arg2) = m ((c.tc : Thread Cert.ConvLastRefIdeal.nD Cert.ConvLastRefIdeal.τ).loc Cert.ConvLastRefIdeal.main_arg2)
      ∧ r.2.mem ((c.tc : Thread Cert.ConvLastRefIdeal.nD Cert.ConvLastRefIdeal.τ).loc Cert.ConvLastRefIdeal.main_arg3) = m ((c.tc : Thread Cert.ConvLastRefIdeal.nD Cert.ConvLastRefIdeal.τ).loc Cert.ConvLastRefIdeal.main_arg3)
      ∧ r.2.mem ((c.tc : Thread Cert.ConvLastRefIdeal.nD Cert.ConvLastRefIdeal.τ).loc Cert.ConvLastRefIdeal.main_arg4) = m ((c.tc : Thread Cert.ConvLastRefIdeal.nD Cert.ConvLastRefIdeal.τ).loc Cert.ConvLastRefIdeal.main_arg4)
      ∧ r.2.mem ((c.tc : Thread Cert.ConvLastRefIdeal.nD Cert.ConvLastRefIdeal.τ).loc Cert.ConvLastRefIdeal.main_arg5) = m ((c.tc : Thread Cert.ConvLastRefIdeal.nD Cert.ConvLastRefIdeal.τ).loc Cert.ConvLastRefIdeal.main_arg5)
      ∧ r.2.mem ((c.tc : Thread Cert.ConvLastRefIdeal.nD Cert.ConvLastRefIdeal.τ).loc Cert.ConvLastRefIdeal.main_arg6) = m ((c.tc : Thread Cert.ConvLastRefIdeal.nD Cert.ConvLastRefIdeal.τ).loc Cert.ConvLastRefIdeal.main_arg6)
      ∧ r.2.mem ((c.tc : Thread Cert.ConvLastRefIdeal.nD Cert.ConvLastRefIdeal.τ).loc Cert.ConvLastRefIdeal.main_arg7) = m ((c.tc : Thread Cert.ConvLastRefIdeal.nD Cert.ConvLastRefIdeal.τ).loc Cert.ConvLastRefIdeal.main_arg7)
      ∧ r.2.mem ((c.tc : Thread Cert.ConvLastRefIdeal.nD Cert.ConvLastRefIdeal.τ).loc Cert.ConvLastRefIdeal.main_arg8) = m ((c.tc : Thread Cert.ConvLastRefIdeal.nD Cert.ConvLastRefIdeal.τ).loc Cert.ConvLastRefIdeal.main_arg8)
      ∧ r.2.mem ((c.tc : Thread Cert.ConvLastRefIdeal.nD Cert.ConvLastRefIdeal.τ).loc Cert.ConvLastRefIdeal.main_arg9) = m ((c.tc : Thread Cert.ConvLastRefIdeal.nD Cert.ConvLastRefIdeal.τ).loc Cert.ConvLastRefIdeal.main_arg9)
      ∧ r.2.mem ((c.tc : Thread Cert.ConvLastRefIdeal.nD Cert.ConvLastRefIdeal.τ).loc Cert.ConvLastRefIdeal.main_arg10) = m ((c.tc : Thread Cert.ConvLastRefIdeal.nD Cert.ConvLastRefIdeal.τ).loc Cert.ConvLastRefIdeal.main_arg10))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3)
      ∧ r.2.mem ((c.tc : Thread Cert.Spatial.nD Cert.Spatial.τ).loc Cert.Spatial.main_arg4) = m ((c.tc : Thread Cert.Spatial.nD Cert.Spatial.τ).loc Cert.Spatial.main_arg4))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4))
      ∧ r.2.sem = fun _ => 0)

def quiescent_SpatialRefIdeal [hSpatialRefIdeal : Cert.SpatialRefIdeal.Facts] : Prop :=
  ∀ (m : (ℓ : Loc Cert.SpatialRefIdeal.nD Cert.SpatialRefIdeal.τ Cert.SpatialRefIdeal.sig) → Buf (Elt Ideal) ℓ) (g : Dev Cert.SpatialRefIdeal.nD → PrngReg), Pre_SpatialRefIdeal m →
    θ_run (Cert.SpatialRefIdeal.defs (F := Ideal)) (onTc (τ := Cert.SpatialRefIdeal.τ) (Cert.SpatialRefIdeal.main (F := Ideal))) ⟨m, fun _ => 0, g⟩ (fun r => (∀ c : Dev Cert.SpatialRefIdeal.nD,
      r.2.mem ((c.tc : Thread Cert.SpatialRefIdeal.nD Cert.SpatialRefIdeal.τ).loc Cert.SpatialRefIdeal.main_arg0) = m ((c.tc : Thread Cert.SpatialRefIdeal.nD Cert.SpatialRefIdeal.τ).loc Cert.SpatialRefIdeal.main_arg0)
      ∧ r.2.mem ((c.tc : Thread Cert.SpatialRefIdeal.nD Cert.SpatialRefIdeal.τ).loc Cert.SpatialRefIdeal.main_arg1) = m ((c.tc : Thread Cert.SpatialRefIdeal.nD Cert.SpatialRefIdeal.τ).loc Cert.SpatialRefIdeal.main_arg1)
      ∧ r.2.mem ((c.tc : Thread Cert.SpatialRefIdeal.nD Cert.SpatialRefIdeal.τ).loc Cert.SpatialRefIdeal.main_arg2) = m ((c.tc : Thread Cert.SpatialRefIdeal.nD Cert.SpatialRefIdeal.τ).loc Cert.SpatialRefIdeal.main_arg2)
      ∧ r.2.mem ((c.tc : Thread Cert.SpatialRefIdeal.nD Cert.SpatialRefIdeal.τ).loc Cert.SpatialRefIdeal.main_arg3) = m ((c.tc : Thread Cert.SpatialRefIdeal.nD Cert.SpatialRefIdeal.τ).loc Cert.SpatialRefIdeal.main_arg3)
      ∧ r.2.mem ((c.tc : Thread Cert.SpatialRefIdeal.nD Cert.SpatialRefIdeal.τ).loc Cert.SpatialRefIdeal.main_arg4) = m ((c.tc : Thread Cert.SpatialRefIdeal.nD Cert.SpatialRefIdeal.τ).loc Cert.SpatialRefIdeal.main_arg4))
      ∧ r.2.sem = fun _ => 0)

def quiescent_Temporal [hTemporal : Cert.Temporal.Facts] [hPre_slots_in_pool_temporal : Cert.Pre_slots_in_pool_temporal.Facts] : Prop :=
  ∀ (m : (ℓ : Loc Cert.Temporal.nD Cert.Temporal.τ Cert.Temporal.sig) → Buf (Elt Bits) ℓ) (g : Dev Cert.Temporal.nD → PrngReg), Pre_Temporal m →
    θ_run (Cert.Temporal.defs (F := Bits)) (onTc (τ := Cert.Temporal.τ) (Cert.Temporal.main (F := Bits))) ⟨m, fun _ => 0, g⟩ (fun r => (∀ c : Dev Cert.Temporal.nD,
      r.2.mem ((c.tc : Thread Cert.Temporal.nD Cert.Temporal.τ).loc Cert.Temporal.main_arg0) = m ((c.tc : Thread Cert.Temporal.nD Cert.Temporal.τ).loc Cert.Temporal.main_arg0)
      ∧ r.2.mem ((c.tc : Thread Cert.Temporal.nD Cert.Temporal.τ).loc Cert.Temporal.main_arg1) = m ((c.tc : Thread Cert.Temporal.nD Cert.Temporal.τ).loc Cert.Temporal.main_arg1)
      ∧ r.2.mem ((c.tc : Thread Cert.Temporal.nD Cert.Temporal.τ).loc Cert.Temporal.main_arg2) = m ((c.tc : Thread Cert.Temporal.nD Cert.Temporal.τ).loc Cert.Temporal.main_arg2)
      ∧ r.2.mem ((c.tc : Thread Cert.Temporal.nD Cert.Temporal.τ).loc Cert.Temporal.main_arg3) = m ((c.tc : Thread Cert.Temporal.nD Cert.Temporal.τ).loc Cert.Temporal.main_arg3)
      ∧ r.2.mem ((c.tc : Thread Cert.Temporal.nD Cert.Temporal.τ).loc Cert.Temporal.main_arg4) = m ((c.tc : Thread Cert.Temporal.nD Cert.Temporal.τ).loc Cert.Temporal.main_arg4)
      ∧ r.2.mem ((c.tc : Thread Cert.Temporal.nD Cert.Temporal.τ).loc Cert.Temporal.main_arg5) = m ((c.tc : Thread Cert.Temporal.nD Cert.Temporal.τ).loc Cert.Temporal.main_arg5)
      ∧ r.2.mem ((c.tc : Thread Cert.Temporal.nD Cert.Temporal.τ).loc Cert.Temporal.main_arg6) = m ((c.tc : Thread Cert.Temporal.nD Cert.Temporal.τ).loc Cert.Temporal.main_arg6)
      ∧ r.2.mem ((c.tc : Thread Cert.Temporal.nD Cert.Temporal.τ).loc Cert.Temporal.main_arg7) = m ((c.tc : Thread Cert.Temporal.nD Cert.Temporal.τ).loc Cert.Temporal.main_arg7)
      ∧ r.2.mem ((c.tc : Thread Cert.Temporal.nD Cert.Temporal.τ).loc Cert.Temporal.main_arg8) = m ((c.tc : Thread Cert.Temporal.nD Cert.Temporal.τ).loc Cert.Temporal.main_arg8))
      ∧ r.2.sem = fun _ => 0)

def quiescent_TemporalIdeal [hTemporalIdeal : Cert.TemporalIdeal.Facts] [hPre_slots_in_pool_temporal : Cert.Pre_slots_in_pool_temporal.Facts] : Prop :=
  ∀ (m : (ℓ : Loc Cert.TemporalIdeal.nD Cert.TemporalIdeal.τ Cert.TemporalIdeal.sig) → Buf (Elt Ideal) ℓ) (g : Dev Cert.TemporalIdeal.nD → PrngReg), Pre_TemporalIdeal m →
    θ_run (Cert.TemporalIdeal.defs (F := Ideal)) (onTc (τ := Cert.TemporalIdeal.τ) (Cert.TemporalIdeal.main (F := Ideal))) ⟨m, fun _ => 0, g⟩ (fun r => (∀ c : Dev Cert.TemporalIdeal.nD,
      r.2.mem ((c.tc : Thread Cert.TemporalIdeal.nD Cert.TemporalIdeal.τ).loc Cert.TemporalIdeal.main_arg0) = m ((c.tc : Thread Cert.TemporalIdeal.nD Cert.TemporalIdeal.τ).loc Cert.TemporalIdeal.main_arg0)
      ∧ r.2.mem ((c.tc : Thread Cert.TemporalIdeal.nD Cert.TemporalIdeal.τ).loc Cert.TemporalIdeal.main_arg1) = m ((c.tc : Thread Cert.TemporalIdeal.nD Cert.TemporalIdeal.τ).loc Cert.TemporalIdeal.main_arg1)
      ∧ r.2.mem ((c.tc : Thread Cert.TemporalIdeal.nD Cert.TemporalIdeal.τ).loc Cert.TemporalIdeal.main_arg2) = m ((c.tc : Thread Cert.TemporalIdeal.nD Cert.TemporalIdeal.τ).loc Cert.TemporalIdeal.main_arg2)
      ∧ r.2.mem ((c.tc : Thread Cert.TemporalIdeal.nD Cert.TemporalIdeal.τ).loc Cert.TemporalIdeal.main_arg3) = m ((c.tc : Thread Cert.TemporalIdeal.nD Cert.TemporalIdeal.τ).loc Cert.TemporalIdeal.main_arg3)
      ∧ r.2.mem ((c.tc : Thread Cert.TemporalIdeal.nD Cert.TemporalIdeal.τ).loc Cert.TemporalIdeal.main_arg4) = m ((c.tc : Thread Cert.TemporalIdeal.nD Cert.TemporalIdeal.τ).loc Cert.TemporalIdeal.main_arg4)
      ∧ r.2.mem ((c.tc : Thread Cert.TemporalIdeal.nD Cert.TemporalIdeal.τ).loc Cert.TemporalIdeal.main_arg5) = m ((c.tc : Thread Cert.TemporalIdeal.nD Cert.TemporalIdeal.τ).loc Cert.TemporalIdeal.main_arg5)
      ∧ r.2.mem ((c.tc : Thread Cert.TemporalIdeal.nD Cert.TemporalIdeal.τ).loc Cert.TemporalIdeal.main_arg6) = m ((c.tc : Thread Cert.TemporalIdeal.nD Cert.TemporalIdeal.τ).loc Cert.TemporalIdeal.main_arg6)
      ∧ r.2.mem ((c.tc : Thread Cert.TemporalIdeal.nD Cert.TemporalIdeal.τ).loc Cert.TemporalIdeal.main_arg7) = m ((c.tc : Thread Cert.TemporalIdeal.nD Cert.TemporalIdeal.τ).loc Cert.TemporalIdeal.main_arg7)
      ∧ r.2.mem ((c.tc : Thread Cert.TemporalIdeal.nD Cert.TemporalIdeal.τ).loc Cert.TemporalIdeal.main_arg8) = m ((c.tc : Thread Cert.TemporalIdeal.nD Cert.TemporalIdeal.τ).loc Cert.TemporalIdeal.main_arg8))
      ∧ r.2.sem = fun _ => 0)

def quiescent_TemporalRefIdeal [hTemporalRefIdeal : Cert.TemporalRefIdeal.Facts] [hPre_slots_in_pool_temporal : Cert.Pre_slots_in_pool_temporal.Facts] : Prop :=
  ∀ (m : (ℓ : Loc Cert.TemporalRefIdeal.nD Cert.TemporalRefIdeal.τ Cert.TemporalRefIdeal.sig) → Buf (Elt Ideal) ℓ) (g : Dev Cert.TemporalRefIdeal.nD → PrngReg), Pre_TemporalRefIdeal m →
    θ_run (Cert.TemporalRefIdeal.defs (F := Ideal)) (onTc (τ := Cert.TemporalRefIdeal.τ) (Cert.TemporalRefIdeal.main (F := Ideal))) ⟨m, fun _ => 0, g⟩ (fun r => (∀ c : Dev Cert.TemporalRefIdeal.nD,
      r.2.mem ((c.tc : Thread Cert.TemporalRefIdeal.nD Cert.TemporalRefIdeal.τ).loc Cert.TemporalRefIdeal.main_arg0) = m ((c.tc : Thread Cert.TemporalRefIdeal.nD Cert.TemporalRefIdeal.τ).loc Cert.TemporalRefIdeal.main_arg0)
      ∧ r.2.mem ((c.tc : Thread Cert.TemporalRefIdeal.nD Cert.TemporalRefIdeal.τ).loc Cert.TemporalRefIdeal.main_arg1) = m ((c.tc : Thread Cert.TemporalRefIdeal.nD Cert.TemporalRefIdeal.τ).loc Cert.TemporalRefIdeal.main_arg1)
      ∧ r.2.mem ((c.tc : Thread Cert.TemporalRefIdeal.nD Cert.TemporalRefIdeal.τ).loc Cert.TemporalRefIdeal.main_arg2) = m ((c.tc : Thread Cert.TemporalRefIdeal.nD Cert.TemporalRefIdeal.τ).loc Cert.TemporalRefIdeal.main_arg2)
      ∧ r.2.mem ((c.tc : Thread Cert.TemporalRefIdeal.nD Cert.TemporalRefIdeal.τ).loc Cert.TemporalRefIdeal.main_arg3) = m ((c.tc : Thread Cert.TemporalRefIdeal.nD Cert.TemporalRefIdeal.τ).loc Cert.TemporalRefIdeal.main_arg3)
      ∧ r.2.mem ((c.tc : Thread Cert.TemporalRefIdeal.nD Cert.TemporalRefIdeal.τ).loc Cert.TemporalRefIdeal.main_arg4) = m ((c.tc : Thread Cert.TemporalRefIdeal.nD Cert.TemporalRefIdeal.τ).loc Cert.TemporalRefIdeal.main_arg4)
      ∧ r.2.mem ((c.tc : Thread Cert.TemporalRefIdeal.nD Cert.TemporalRefIdeal.τ).loc Cert.TemporalRefIdeal.main_arg5) = m ((c.tc : Thread Cert.TemporalRefIdeal.nD Cert.TemporalRefIdeal.τ).loc Cert.TemporalRefIdeal.main_arg5)
      ∧ r.2.mem ((c.tc : Thread Cert.TemporalRefIdeal.nD Cert.TemporalRefIdeal.τ).loc Cert.TemporalRefIdeal.main_arg6) = m ((c.tc : Thread Cert.TemporalRefIdeal.nD Cert.TemporalRefIdeal.τ).loc Cert.TemporalRefIdeal.main_arg6)
      ∧ r.2.mem ((c.tc : Thread Cert.TemporalRefIdeal.nD Cert.TemporalRefIdeal.τ).loc Cert.TemporalRefIdeal.main_arg7) = m ((c.tc : Thread Cert.TemporalRefIdeal.nD Cert.TemporalRefIdeal.τ).loc Cert.TemporalRefIdeal.main_arg7)
      ∧ r.2.mem ((c.tc : Thread Cert.TemporalRefIdeal.nD Cert.TemporalRefIdeal.τ).loc Cert.TemporalRefIdeal.main_arg8) = m ((c.tc : Thread Cert.TemporalRefIdeal.nD Cert.TemporalRefIdeal.τ).loc Cert.TemporalRefIdeal.main_arg8))
      ∧ r.2.sem = fun _ => 0)

def quiescent_NormQuant [hNormQuant : Cert.NormQuant.Facts] : Prop :=
  ∀ (m : (ℓ : Loc Cert.NormQuant.nD Cert.NormQuant.τ Cert.NormQuant.sig) → Buf (Elt Bits) ℓ) (g : Dev Cert.NormQuant.nD → PrngReg), Pre_NormQuant m →
    θ_run (Cert.NormQuant.defs (F := Bits)) (onTc (τ := Cert.NormQuant.τ) (Cert.NormQuant.main (F := Bits))) ⟨m, fun _ => 0, g⟩ (fun r => (∀ c : Dev Cert.NormQuant.nD,
      r.2.mem ((c.tc : Thread Cert.NormQuant.nD Cert.NormQuant.τ).loc Cert.NormQuant.main_arg0) = m ((c.tc : Thread Cert.NormQuant.nD Cert.NormQuant.τ).loc Cert.NormQuant.main_arg0)
      ∧ r.2.mem ((c.tc : Thread Cert.NormQuant.nD Cert.NormQuant.τ).loc Cert.NormQuant.main_arg1) = m ((c.tc : Thread Cert.NormQuant.nD Cert.NormQuant.τ).loc Cert.NormQuant.main_arg1)
      ∧ r.2.mem ((c.tc : Thread Cert.NormQuant.nD Cert.NormQuant.τ).loc Cert.NormQuant.main_arg2) = m ((c.tc : Thread Cert.NormQuant.nD Cert.NormQuant.τ).loc Cert.NormQuant.main_arg2))
      ∧ r.2.sem = fun _ => 0)

def quiescent_NormQuantIdeal [hNormQuantIdeal : Cert.NormQuantIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg), Pre_NormQuantIdeal m →
    θ_run (Cert.NormQuantIdeal.defs (F := Ideal)) (onTc (τ := Cert.NormQuantIdeal.τ) (Cert.NormQuantIdeal.main (F := Ideal))) ⟨m, fun _ => 0, g⟩ (fun r => (∀ c : Dev Cert.NormQuantIdeal.nD,
      r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
      ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
      ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2))
      ∧ r.2.sem = fun _ => 0)

def quiescent_NormQuantRefIdeal [hNormQuantRefIdeal : Cert.NormQuantRefIdeal.Facts] : Prop :=
  ∀ (m : (ℓ : Loc Cert.NormQuantRefIdeal.nD Cert.NormQuantRefIdeal.τ Cert.NormQuantRefIdeal.sig) → Buf (Elt Ideal) ℓ) (g : Dev Cert.NormQuantRefIdeal.nD → PrngReg), Pre_NormQuantRefIdeal m →
    θ_run (Cert.NormQuantRefIdeal.defs (F := Ideal)) (onTc (τ := Cert.NormQuantRefIdeal.τ) (Cert.NormQuantRefIdeal.main (F := Ideal))) ⟨m, fun _ => 0, g⟩ (fun r => (∀ c : Dev Cert.NormQuantRefIdeal.nD,
      r.2.mem ((c.tc : Thread Cert.NormQuantRefIdeal.nD Cert.NormQuantRefIdeal.τ).loc Cert.NormQuantRefIdeal.main_arg0) = m ((c.tc : Thread Cert.NormQuantRefIdeal.nD Cert.NormQuantRefIdeal.τ).loc Cert.NormQuantRefIdeal.main_arg0)
      ∧ r.2.mem ((c.tc : Thread Cert.NormQuantRefIdeal.nD Cert.NormQuantRefIdeal.τ).loc Cert.NormQuantRefIdeal.main_arg1) = m ((c.tc : Thread Cert.NormQuantRefIdeal.nD Cert.NormQuantRefIdeal.τ).loc Cert.NormQuantRefIdeal.main_arg1)
      ∧ r.2.mem ((c.tc : Thread Cert.NormQuantRefIdeal.nD Cert.NormQuantRefIdeal.τ).loc Cert.NormQuantRefIdeal.main_arg2) = m ((c.tc : Thread Cert.NormQuantRefIdeal.nD Cert.NormQuantRefIdeal.τ).loc Cert.NormQuantRefIdeal.main_arg2))
      ∧ r.2.sem = fun _ => 0)

def preserves_ConvNorm_ConvNormIdeal : Prop :=
  True

def algebraic_ConvNormIdeal_ConvNormRefIdeal [hConvNormIdeal : Cert.ConvNormIdeal.Facts] [hConvNormRefIdeal : Cert.ConvNormRefIdeal.Facts] [hPre_slots_in_pool_norm : Cert.Pre_slots_in_pool_norm.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)
      ∧ m' ((c.tc : Thread Cert.ConvNormRefIdeal.nD Cert.ConvNormRefIdeal.τ).loc Cert.ConvNormRefIdeal.main_arg5) = m ((c.tc : Thread Cert.ConvNormIdeal.nD Cert.ConvNormIdeal.τ).loc Cert.ConvNormIdeal.main_arg5)
      ∧ m' ((c.tc : Thread Cert.ConvNormRefIdeal.nD Cert.ConvNormRefIdeal.τ).loc Cert.ConvNormRefIdeal.main_arg6) = m ((c.tc : Thread Cert.ConvNormIdeal.nD Cert.ConvNormIdeal.τ).loc Cert.ConvNormIdeal.main_arg6)
      ∧ m' ((c.tc : Thread Cert.ConvNormRefIdeal.nD Cert.ConvNormRefIdeal.τ).loc Cert.ConvNormRefIdeal.main_arg7) = m ((c.tc : Thread Cert.ConvNormIdeal.nD Cert.ConvNormIdeal.τ).loc Cert.ConvNormIdeal.main_arg7)
      ∧ m' ((c.tc : Thread Cert.ConvNormRefIdeal.nD Cert.ConvNormRefIdeal.τ).loc Cert.ConvNormRefIdeal.main_arg8) = m ((c.tc : Thread Cert.ConvNormIdeal.nD Cert.ConvNormIdeal.τ).loc Cert.ConvNormIdeal.main_arg8)
      ∧ m' ((c.tc : Thread Cert.ConvNormRefIdeal.nD Cert.ConvNormRefIdeal.τ).loc Cert.ConvNormRefIdeal.main_arg9) = m ((c.tc : Thread Cert.ConvNormIdeal.nD Cert.ConvNormIdeal.τ).loc Cert.ConvNormIdeal.main_arg9)) →
    ∃ (v0 : (c : Dev Cert.ConvNormIdeal.nD) → Buf (Elt Ideal) ((c.tc : Thread Cert.ConvNormIdeal.nD Cert.ConvNormIdeal.τ).loc Cert.ConvNormIdeal.main_v8_0)) (v1 : (c : Dev Cert.ConvNormIdeal.nD) → Buf (Elt Ideal) ((c.tc : Thread Cert.ConvNormIdeal.nD Cert.ConvNormIdeal.τ).loc Cert.ConvNormIdeal.main_v8_1)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v8_0) = v0 c
          ∧ r.2.mem ((c.tc : Thread Cert.ConvNormIdeal.nD Cert.ConvNormIdeal.τ).loc Cert.ConvNormIdeal.main_v8_1) = v1 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
          ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5)
          ∧ r.2.mem ((c.tc : Thread Cert.ConvNormIdeal.nD Cert.ConvNormIdeal.τ).loc Cert.ConvNormIdeal.main_arg6) = m ((c.tc : Thread Cert.ConvNormIdeal.nD Cert.ConvNormIdeal.τ).loc Cert.ConvNormIdeal.main_arg6)
          ∧ r.2.mem ((c.tc : Thread Cert.ConvNormIdeal.nD Cert.ConvNormIdeal.τ).loc Cert.ConvNormIdeal.main_arg7) = m ((c.tc : Thread Cert.ConvNormIdeal.nD Cert.ConvNormIdeal.τ).loc Cert.ConvNormIdeal.main_arg7)
          ∧ r.2.mem ((c.tc : Thread Cert.ConvNormIdeal.nD Cert.ConvNormIdeal.τ).loc Cert.ConvNormIdeal.main_arg8) = m ((c.tc : Thread Cert.ConvNormIdeal.nD Cert.ConvNormIdeal.τ).loc Cert.ConvNormIdeal.main_arg8)
          ∧ r.2.mem ((c.tc : Thread Cert.ConvNormIdeal.nD Cert.ConvNormIdeal.τ).loc Cert.ConvNormIdeal.main_arg9) = m ((c.tc : Thread Cert.ConvNormIdeal.nD Cert.ConvNormIdeal.τ).loc Cert.ConvNormIdeal.main_arg9))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v18_0) = v0 c
          ∧ r.2.mem ((c.tc : Thread Cert.ConvNormRefIdeal.nD Cert.ConvNormRefIdeal.τ).loc Cert.ConvNormRefIdeal.main_v18_1) = v1 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4)
          ∧ r.2.mem ((c.tc : Thread Cert.ConvNormRefIdeal.nD Cert.ConvNormRefIdeal.τ).loc Cert.ConvNormRefIdeal.main_arg5) = m' ((c.tc : Thread Cert.ConvNormRefIdeal.nD Cert.ConvNormRefIdeal.τ).loc Cert.ConvNormRefIdeal.main_arg5)
          ∧ r.2.mem ((c.tc : Thread Cert.ConvNormRefIdeal.nD Cert.ConvNormRefIdeal.τ).loc Cert.ConvNormRefIdeal.main_arg6) = m' ((c.tc : Thread Cert.ConvNormRefIdeal.nD Cert.ConvNormRefIdeal.τ).loc Cert.ConvNormRefIdeal.main_arg6)
          ∧ r.2.mem ((c.tc : Thread Cert.ConvNormRefIdeal.nD Cert.ConvNormRefIdeal.τ).loc Cert.ConvNormRefIdeal.main_arg7) = m' ((c.tc : Thread Cert.ConvNormRefIdeal.nD Cert.ConvNormRefIdeal.τ).loc Cert.ConvNormRefIdeal.main_arg7)
          ∧ r.2.mem ((c.tc : Thread Cert.ConvNormRefIdeal.nD Cert.ConvNormRefIdeal.τ).loc Cert.ConvNormRefIdeal.main_arg8) = m' ((c.tc : Thread Cert.ConvNormRefIdeal.nD Cert.ConvNormRefIdeal.τ).loc Cert.ConvNormRefIdeal.main_arg8)
          ∧ r.2.mem ((c.tc : Thread Cert.ConvNormRefIdeal.nD Cert.ConvNormRefIdeal.τ).loc Cert.ConvNormRefIdeal.main_arg9) = m' ((c.tc : Thread Cert.ConvNormRefIdeal.nD Cert.ConvNormRefIdeal.τ).loc Cert.ConvNormRefIdeal.main_arg9))

def preserves_ConvMid_ConvMidIdeal : Prop :=
  True

def algebraic_ConvMidIdeal_ConvMidRefIdeal [hConvMidIdeal : Cert.ConvMidIdeal.Facts] [hConvMidRefIdeal : Cert.ConvMidRefIdeal.Facts] [hPre_slots_in_pool : Cert.Pre_slots_in_pool.Facts] : Prop :=
  ∀ (m : (ℓ : Loc Cert.ConvMidIdeal.nD Cert.ConvMidIdeal.τ Cert.ConvMidIdeal.sig) → Buf (Elt Ideal) ℓ) (g : Dev Cert.ConvMidIdeal.nD → PrngReg)
    (m' : (ℓ : Loc Cert.ConvMidRefIdeal.nD Cert.ConvMidRefIdeal.τ Cert.ConvMidRefIdeal.sig) → Buf (Elt Ideal) ℓ) (g' : Dev Cert.ConvMidRefIdeal.nD → PrngReg), Pre_ConvMidIdeal m →
    (∀ c : Dev Cert.ConvMidIdeal.nD,
      m' ((c.tc : Thread Cert.ConvMidRefIdeal.nD Cert.ConvMidRefIdeal.τ).loc Cert.ConvMidRefIdeal.main_arg0) = m ((c.tc : Thread Cert.ConvMidIdeal.nD Cert.ConvMidIdeal.τ).loc Cert.ConvMidIdeal.main_arg0)
      ∧ m' ((c.tc : Thread Cert.ConvMidRefIdeal.nD Cert.ConvMidRefIdeal.τ).loc Cert.ConvMidRefIdeal.main_arg1) = m ((c.tc : Thread Cert.ConvMidIdeal.nD Cert.ConvMidIdeal.τ).loc Cert.ConvMidIdeal.main_arg1)
      ∧ m' ((c.tc : Thread Cert.ConvMidRefIdeal.nD Cert.ConvMidRefIdeal.τ).loc Cert.ConvMidRefIdeal.main_arg2) = m ((c.tc : Thread Cert.ConvMidIdeal.nD Cert.ConvMidIdeal.τ).loc Cert.ConvMidIdeal.main_arg2)
      ∧ m' ((c.tc : Thread Cert.ConvMidRefIdeal.nD Cert.ConvMidRefIdeal.τ).loc Cert.ConvMidRefIdeal.main_arg3) = m ((c.tc : Thread Cert.ConvMidIdeal.nD Cert.ConvMidIdeal.τ).loc Cert.ConvMidIdeal.main_arg3)
      ∧ m' ((c.tc : Thread Cert.ConvMidRefIdeal.nD Cert.ConvMidRefIdeal.τ).loc Cert.ConvMidRefIdeal.main_arg4) = m ((c.tc : Thread Cert.ConvMidIdeal.nD Cert.ConvMidIdeal.τ).loc Cert.ConvMidIdeal.main_arg4)
      ∧ m' ((c.tc : Thread Cert.ConvMidRefIdeal.nD Cert.ConvMidRefIdeal.τ).loc Cert.ConvMidRefIdeal.main_arg5) = m ((c.tc : Thread Cert.ConvMidIdeal.nD Cert.ConvMidIdeal.τ).loc Cert.ConvMidIdeal.main_arg5)
      ∧ m' ((c.tc : Thread Cert.ConvMidRefIdeal.nD Cert.ConvMidRefIdeal.τ).loc Cert.ConvMidRefIdeal.main_arg6) = m ((c.tc : Thread Cert.ConvMidIdeal.nD Cert.ConvMidIdeal.τ).loc Cert.ConvMidIdeal.main_arg6)
      ∧ m' ((c.tc : Thread Cert.ConvMidRefIdeal.nD Cert.ConvMidRefIdeal.τ).loc Cert.ConvMidRefIdeal.main_arg7) = m ((c.tc : Thread Cert.ConvMidIdeal.nD Cert.ConvMidIdeal.τ).loc Cert.ConvMidIdeal.main_arg7)
      ∧ m' ((c.tc : Thread Cert.ConvMidRefIdeal.nD Cert.ConvMidRefIdeal.τ).loc Cert.ConvMidRefIdeal.main_arg8) = m ((c.tc : Thread Cert.ConvMidIdeal.nD Cert.ConvMidIdeal.τ).loc Cert.ConvMidIdeal.main_arg8)
      ∧ m' ((c.tc : Thread Cert.ConvMidRefIdeal.nD Cert.ConvMidRefIdeal.τ).loc Cert.ConvMidRefIdeal.main_arg9) = m ((c.tc : Thread Cert.ConvMidIdeal.nD Cert.ConvMidIdeal.τ).loc Cert.ConvMidIdeal.main_arg9)
      ∧ m' ((c.tc : Thread Cert.ConvMidRefIdeal.nD Cert.ConvMidRefIdeal.τ).loc Cert.ConvMidRefIdeal.main_arg10) = m ((c.tc : Thread Cert.ConvMidIdeal.nD Cert.ConvMidIdeal.τ).loc Cert.ConvMidIdeal.main_arg10)) →
    ∃ (v0 : (c : Dev Cert.ConvMidIdeal.nD) → Buf (Elt Ideal) ((c.tc : Thread Cert.ConvMidIdeal.nD Cert.ConvMidIdeal.τ).loc Cert.ConvMidIdeal.main_v9_0)) (v1 : (c : Dev Cert.ConvMidIdeal.nD) → Buf (Elt Ideal) ((c.tc : Thread Cert.ConvMidIdeal.nD Cert.ConvMidIdeal.τ).loc Cert.ConvMidIdeal.main_v9_1)) (v2 : (c : Dev Cert.ConvMidIdeal.nD) → Buf (Elt Ideal) ((c.tc : Thread Cert.ConvMidIdeal.nD Cert.ConvMidIdeal.τ).loc Cert.ConvMidIdeal.main_v9_2)),
      θ_run (Cert.ConvMidIdeal.defs (F := Ideal)) (onTc (τ := Cert.ConvMidIdeal.τ) (Cert.ConvMidIdeal.main (F := Ideal))) ⟨m, fun _ => 0, g⟩ (fun r => ∀ c : Dev Cert.ConvMidIdeal.nD,
          r.2.mem ((c.tc : Thread Cert.ConvMidIdeal.nD Cert.ConvMidIdeal.τ).loc Cert.ConvMidIdeal.main_v9_0) = v0 c
          ∧ r.2.mem ((c.tc : Thread Cert.ConvMidIdeal.nD Cert.ConvMidIdeal.τ).loc Cert.ConvMidIdeal.main_v9_1) = v1 c
          ∧ r.2.mem ((c.tc : Thread Cert.ConvMidIdeal.nD Cert.ConvMidIdeal.τ).loc Cert.ConvMidIdeal.main_v9_2) = v2 c
          ∧ r.2.mem ((c.tc : Thread Cert.ConvMidIdeal.nD Cert.ConvMidIdeal.τ).loc Cert.ConvMidIdeal.main_arg0) = m ((c.tc : Thread Cert.ConvMidIdeal.nD Cert.ConvMidIdeal.τ).loc Cert.ConvMidIdeal.main_arg0)
          ∧ r.2.mem ((c.tc : Thread Cert.ConvMidIdeal.nD Cert.ConvMidIdeal.τ).loc Cert.ConvMidIdeal.main_arg1) = m ((c.tc : Thread Cert.ConvMidIdeal.nD Cert.ConvMidIdeal.τ).loc Cert.ConvMidIdeal.main_arg1)
          ∧ r.2.mem ((c.tc : Thread Cert.ConvMidIdeal.nD Cert.ConvMidIdeal.τ).loc Cert.ConvMidIdeal.main_arg2) = m ((c.tc : Thread Cert.ConvMidIdeal.nD Cert.ConvMidIdeal.τ).loc Cert.ConvMidIdeal.main_arg2)
          ∧ r.2.mem ((c.tc : Thread Cert.ConvMidIdeal.nD Cert.ConvMidIdeal.τ).loc Cert.ConvMidIdeal.main_arg3) = m ((c.tc : Thread Cert.ConvMidIdeal.nD Cert.ConvMidIdeal.τ).loc Cert.ConvMidIdeal.main_arg3)
          ∧ r.2.mem ((c.tc : Thread Cert.ConvMidIdeal.nD Cert.ConvMidIdeal.τ).loc Cert.ConvMidIdeal.main_arg4) = m ((c.tc : Thread Cert.ConvMidIdeal.nD Cert.ConvMidIdeal.τ).loc Cert.ConvMidIdeal.main_arg4)
          ∧ r.2.mem ((c.tc : Thread Cert.ConvMidIdeal.nD Cert.ConvMidIdeal.τ).loc Cert.ConvMidIdeal.main_arg5) = m ((c.tc : Thread Cert.ConvMidIdeal.nD Cert.ConvMidIdeal.τ).loc Cert.ConvMidIdeal.main_arg5)
          ∧ r.2.mem ((c.tc : Thread Cert.ConvMidIdeal.nD Cert.ConvMidIdeal.τ).loc Cert.ConvMidIdeal.main_arg6) = m ((c.tc : Thread Cert.ConvMidIdeal.nD Cert.ConvMidIdeal.τ).loc Cert.ConvMidIdeal.main_arg6)
          ∧ r.2.mem ((c.tc : Thread Cert.ConvMidIdeal.nD Cert.ConvMidIdeal.τ).loc Cert.ConvMidIdeal.main_arg7) = m ((c.tc : Thread Cert.ConvMidIdeal.nD Cert.ConvMidIdeal.τ).loc Cert.ConvMidIdeal.main_arg7)
          ∧ r.2.mem ((c.tc : Thread Cert.ConvMidIdeal.nD Cert.ConvMidIdeal.τ).loc Cert.ConvMidIdeal.main_arg8) = m ((c.tc : Thread Cert.ConvMidIdeal.nD Cert.ConvMidIdeal.τ).loc Cert.ConvMidIdeal.main_arg8)
          ∧ r.2.mem ((c.tc : Thread Cert.ConvMidIdeal.nD Cert.ConvMidIdeal.τ).loc Cert.ConvMidIdeal.main_arg9) = m ((c.tc : Thread Cert.ConvMidIdeal.nD Cert.ConvMidIdeal.τ).loc Cert.ConvMidIdeal.main_arg9)
          ∧ r.2.mem ((c.tc : Thread Cert.ConvMidIdeal.nD Cert.ConvMidIdeal.τ).loc Cert.ConvMidIdeal.main_arg10) = m ((c.tc : Thread Cert.ConvMidIdeal.nD Cert.ConvMidIdeal.τ).loc Cert.ConvMidIdeal.main_arg10))
      ∧ θ_run (Cert.ConvMidRefIdeal.defs (F := Ideal)) (onTc (τ := Cert.ConvMidRefIdeal.τ) (Cert.ConvMidRefIdeal.main (F := Ideal))) ⟨m', fun _ => 0, g'⟩ (fun r => ∀ c : Dev Cert.ConvMidRefIdeal.nD,
          r.2.mem ((c.tc : Thread Cert.ConvMidRefIdeal.nD Cert.ConvMidRefIdeal.τ).loc Cert.ConvMidRefIdeal.main_v18_0) = v0 c
          ∧ r.2.mem ((c.tc : Thread Cert.ConvMidRefIdeal.nD Cert.ConvMidRefIdeal.τ).loc Cert.ConvMidRefIdeal.main_v18_1) = v1 c
          ∧ r.2.mem ((c.tc : Thread Cert.ConvMidRefIdeal.nD Cert.ConvMidRefIdeal.τ).loc Cert.ConvMidRefIdeal.main_v18_2) = v2 c
          ∧ r.2.mem ((c.tc : Thread Cert.ConvMidRefIdeal.nD Cert.ConvMidRefIdeal.τ).loc Cert.ConvMidRefIdeal.main_arg0) = m' ((c.tc : Thread Cert.ConvMidRefIdeal.nD Cert.ConvMidRefIdeal.τ).loc Cert.ConvMidRefIdeal.main_arg0)
          ∧ r.2.mem ((c.tc : Thread Cert.ConvMidRefIdeal.nD Cert.ConvMidRefIdeal.τ).loc Cert.ConvMidRefIdeal.main_arg1) = m' ((c.tc : Thread Cert.ConvMidRefIdeal.nD Cert.ConvMidRefIdeal.τ).loc Cert.ConvMidRefIdeal.main_arg1)
          ∧ r.2.mem ((c.tc : Thread Cert.ConvMidRefIdeal.nD Cert.ConvMidRefIdeal.τ).loc Cert.ConvMidRefIdeal.main_arg2) = m' ((c.tc : Thread Cert.ConvMidRefIdeal.nD Cert.ConvMidRefIdeal.τ).loc Cert.ConvMidRefIdeal.main_arg2)
          ∧ r.2.mem ((c.tc : Thread Cert.ConvMidRefIdeal.nD Cert.ConvMidRefIdeal.τ).loc Cert.ConvMidRefIdeal.main_arg3) = m' ((c.tc : Thread Cert.ConvMidRefIdeal.nD Cert.ConvMidRefIdeal.τ).loc Cert.ConvMidRefIdeal.main_arg3)
          ∧ r.2.mem ((c.tc : Thread Cert.ConvMidRefIdeal.nD Cert.ConvMidRefIdeal.τ).loc Cert.ConvMidRefIdeal.main_arg4) = m' ((c.tc : Thread Cert.ConvMidRefIdeal.nD Cert.ConvMidRefIdeal.τ).loc Cert.ConvMidRefIdeal.main_arg4)
          ∧ r.2.mem ((c.tc : Thread Cert.ConvMidRefIdeal.nD Cert.ConvMidRefIdeal.τ).loc Cert.ConvMidRefIdeal.main_arg5) = m' ((c.tc : Thread Cert.ConvMidRefIdeal.nD Cert.ConvMidRefIdeal.τ).loc Cert.ConvMidRefIdeal.main_arg5)
          ∧ r.2.mem ((c.tc : Thread Cert.ConvMidRefIdeal.nD Cert.ConvMidRefIdeal.τ).loc Cert.ConvMidRefIdeal.main_arg6) = m' ((c.tc : Thread Cert.ConvMidRefIdeal.nD Cert.ConvMidRefIdeal.τ).loc Cert.ConvMidRefIdeal.main_arg6)
          ∧ r.2.mem ((c.tc : Thread Cert.ConvMidRefIdeal.nD Cert.ConvMidRefIdeal.τ).loc Cert.ConvMidRefIdeal.main_arg7) = m' ((c.tc : Thread Cert.ConvMidRefIdeal.nD Cert.ConvMidRefIdeal.τ).loc Cert.ConvMidRefIdeal.main_arg7)
          ∧ r.2.mem ((c.tc : Thread Cert.ConvMidRefIdeal.nD Cert.ConvMidRefIdeal.τ).loc Cert.ConvMidRefIdeal.main_arg8) = m' ((c.tc : Thread Cert.ConvMidRefIdeal.nD Cert.ConvMidRefIdeal.τ).loc Cert.ConvMidRefIdeal.main_arg8)
          ∧ r.2.mem ((c.tc : Thread Cert.ConvMidRefIdeal.nD Cert.ConvMidRefIdeal.τ).loc Cert.ConvMidRefIdeal.main_arg9) = m' ((c.tc : Thread Cert.ConvMidRefIdeal.nD Cert.ConvMidRefIdeal.τ).loc Cert.ConvMidRefIdeal.main_arg9)
          ∧ r.2.mem ((c.tc : Thread Cert.ConvMidRefIdeal.nD Cert.ConvMidRefIdeal.τ).loc Cert.ConvMidRefIdeal.main_arg10) = m' ((c.tc : Thread Cert.ConvMidRefIdeal.nD Cert.ConvMidRefIdeal.τ).loc Cert.ConvMidRefIdeal.main_arg10))

def preserves_ConvLast_ConvLastIdeal : Prop :=
  True

def algebraic_ConvLastIdeal_ConvLastRefIdeal [hConvLastIdeal : Cert.ConvLastIdeal.Facts] [hConvLastRefIdeal : Cert.ConvLastRefIdeal.Facts] [hPre_slots_in_pool_last : Cert.Pre_slots_in_pool_last.Facts] : Prop :=
  ∀ (m : (ℓ : Loc Cert.ConvLastIdeal.nD Cert.ConvLastIdeal.τ Cert.ConvLastIdeal.sig) → Buf (Elt Ideal) ℓ) (g : Dev Cert.ConvLastIdeal.nD → PrngReg)
    (m' : (ℓ : Loc Cert.ConvLastRefIdeal.nD Cert.ConvLastRefIdeal.τ Cert.ConvLastRefIdeal.sig) → Buf (Elt Ideal) ℓ) (g' : Dev Cert.ConvLastRefIdeal.nD → PrngReg), Pre_ConvLastIdeal m →
    (∀ c : Dev Cert.ConvLastIdeal.nD,
      m' ((c.tc : Thread Cert.ConvLastRefIdeal.nD Cert.ConvLastRefIdeal.τ).loc Cert.ConvLastRefIdeal.main_arg0) = m ((c.tc : Thread Cert.ConvLastIdeal.nD Cert.ConvLastIdeal.τ).loc Cert.ConvLastIdeal.main_arg0)
      ∧ m' ((c.tc : Thread Cert.ConvLastRefIdeal.nD Cert.ConvLastRefIdeal.τ).loc Cert.ConvLastRefIdeal.main_arg1) = m ((c.tc : Thread Cert.ConvLastIdeal.nD Cert.ConvLastIdeal.τ).loc Cert.ConvLastIdeal.main_arg1)
      ∧ m' ((c.tc : Thread Cert.ConvLastRefIdeal.nD Cert.ConvLastRefIdeal.τ).loc Cert.ConvLastRefIdeal.main_arg2) = m ((c.tc : Thread Cert.ConvLastIdeal.nD Cert.ConvLastIdeal.τ).loc Cert.ConvLastIdeal.main_arg2)
      ∧ m' ((c.tc : Thread Cert.ConvLastRefIdeal.nD Cert.ConvLastRefIdeal.τ).loc Cert.ConvLastRefIdeal.main_arg3) = m ((c.tc : Thread Cert.ConvLastIdeal.nD Cert.ConvLastIdeal.τ).loc Cert.ConvLastIdeal.main_arg3)
      ∧ m' ((c.tc : Thread Cert.ConvLastRefIdeal.nD Cert.ConvLastRefIdeal.τ).loc Cert.ConvLastRefIdeal.main_arg4) = m ((c.tc : Thread Cert.ConvLastIdeal.nD Cert.ConvLastIdeal.τ).loc Cert.ConvLastIdeal.main_arg4)
      ∧ m' ((c.tc : Thread Cert.ConvLastRefIdeal.nD Cert.ConvLastRefIdeal.τ).loc Cert.ConvLastRefIdeal.main_arg5) = m ((c.tc : Thread Cert.ConvLastIdeal.nD Cert.ConvLastIdeal.τ).loc Cert.ConvLastIdeal.main_arg5)
      ∧ m' ((c.tc : Thread Cert.ConvLastRefIdeal.nD Cert.ConvLastRefIdeal.τ).loc Cert.ConvLastRefIdeal.main_arg6) = m ((c.tc : Thread Cert.ConvLastIdeal.nD Cert.ConvLastIdeal.τ).loc Cert.ConvLastIdeal.main_arg6)
      ∧ m' ((c.tc : Thread Cert.ConvLastRefIdeal.nD Cert.ConvLastRefIdeal.τ).loc Cert.ConvLastRefIdeal.main_arg7) = m ((c.tc : Thread Cert.ConvLastIdeal.nD Cert.ConvLastIdeal.τ).loc Cert.ConvLastIdeal.main_arg7)
      ∧ m' ((c.tc : Thread Cert.ConvLastRefIdeal.nD Cert.ConvLastRefIdeal.τ).loc Cert.ConvLastRefIdeal.main_arg8) = m ((c.tc : Thread Cert.ConvLastIdeal.nD Cert.ConvLastIdeal.τ).loc Cert.ConvLastIdeal.main_arg8)
      ∧ m' ((c.tc : Thread Cert.ConvLastRefIdeal.nD Cert.ConvLastRefIdeal.τ).loc Cert.ConvLastRefIdeal.main_arg9) = m ((c.tc : Thread Cert.ConvLastIdeal.nD Cert.ConvLastIdeal.τ).loc Cert.ConvLastIdeal.main_arg9)
      ∧ m' ((c.tc : Thread Cert.ConvLastRefIdeal.nD Cert.ConvLastRefIdeal.τ).loc Cert.ConvLastRefIdeal.main_arg10) = m ((c.tc : Thread Cert.ConvLastIdeal.nD Cert.ConvLastIdeal.τ).loc Cert.ConvLastIdeal.main_arg10)) →
    ∃ (v0 : (c : Dev Cert.ConvLastIdeal.nD) → Buf (Elt Ideal) ((c.tc : Thread Cert.ConvLastIdeal.nD Cert.ConvLastIdeal.τ).loc Cert.ConvLastIdeal.main_v9_0)) (v1 : (c : Dev Cert.ConvLastIdeal.nD) → Buf (Elt Ideal) ((c.tc : Thread Cert.ConvLastIdeal.nD Cert.ConvLastIdeal.τ).loc Cert.ConvLastIdeal.main_v9_1)) (v2 : (c : Dev Cert.ConvLastIdeal.nD) → Buf (Elt Ideal) ((c.tc : Thread Cert.ConvLastIdeal.nD Cert.ConvLastIdeal.τ).loc Cert.ConvLastIdeal.main_v9_2)),
      θ_run (Cert.ConvLastIdeal.defs (F := Ideal)) (onTc (τ := Cert.ConvLastIdeal.τ) (Cert.ConvLastIdeal.main (F := Ideal))) ⟨m, fun _ => 0, g⟩ (fun r => ∀ c : Dev Cert.ConvLastIdeal.nD,
          r.2.mem ((c.tc : Thread Cert.ConvLastIdeal.nD Cert.ConvLastIdeal.τ).loc Cert.ConvLastIdeal.main_v9_0) = v0 c
          ∧ r.2.mem ((c.tc : Thread Cert.ConvLastIdeal.nD Cert.ConvLastIdeal.τ).loc Cert.ConvLastIdeal.main_v9_1) = v1 c
          ∧ r.2.mem ((c.tc : Thread Cert.ConvLastIdeal.nD Cert.ConvLastIdeal.τ).loc Cert.ConvLastIdeal.main_v9_2) = v2 c
          ∧ r.2.mem ((c.tc : Thread Cert.ConvLastIdeal.nD Cert.ConvLastIdeal.τ).loc Cert.ConvLastIdeal.main_arg0) = m ((c.tc : Thread Cert.ConvLastIdeal.nD Cert.ConvLastIdeal.τ).loc Cert.ConvLastIdeal.main_arg0)
          ∧ r.2.mem ((c.tc : Thread Cert.ConvLastIdeal.nD Cert.ConvLastIdeal.τ).loc Cert.ConvLastIdeal.main_arg1) = m ((c.tc : Thread Cert.ConvLastIdeal.nD Cert.ConvLastIdeal.τ).loc Cert.ConvLastIdeal.main_arg1)
          ∧ r.2.mem ((c.tc : Thread Cert.ConvLastIdeal.nD Cert.ConvLastIdeal.τ).loc Cert.ConvLastIdeal.main_arg2) = m ((c.tc : Thread Cert.ConvLastIdeal.nD Cert.ConvLastIdeal.τ).loc Cert.ConvLastIdeal.main_arg2)
          ∧ r.2.mem ((c.tc : Thread Cert.ConvLastIdeal.nD Cert.ConvLastIdeal.τ).loc Cert.ConvLastIdeal.main_arg3) = m ((c.tc : Thread Cert.ConvLastIdeal.nD Cert.ConvLastIdeal.τ).loc Cert.ConvLastIdeal.main_arg3)
          ∧ r.2.mem ((c.tc : Thread Cert.ConvLastIdeal.nD Cert.ConvLastIdeal.τ).loc Cert.ConvLastIdeal.main_arg4) = m ((c.tc : Thread Cert.ConvLastIdeal.nD Cert.ConvLastIdeal.τ).loc Cert.ConvLastIdeal.main_arg4)
          ∧ r.2.mem ((c.tc : Thread Cert.ConvLastIdeal.nD Cert.ConvLastIdeal.τ).loc Cert.ConvLastIdeal.main_arg5) = m ((c.tc : Thread Cert.ConvLastIdeal.nD Cert.ConvLastIdeal.τ).loc Cert.ConvLastIdeal.main_arg5)
          ∧ r.2.mem ((c.tc : Thread Cert.ConvLastIdeal.nD Cert.ConvLastIdeal.τ).loc Cert.ConvLastIdeal.main_arg6) = m ((c.tc : Thread Cert.ConvLastIdeal.nD Cert.ConvLastIdeal.τ).loc Cert.ConvLastIdeal.main_arg6)
          ∧ r.2.mem ((c.tc : Thread Cert.ConvLastIdeal.nD Cert.ConvLastIdeal.τ).loc Cert.ConvLastIdeal.main_arg7) = m ((c.tc : Thread Cert.ConvLastIdeal.nD Cert.ConvLastIdeal.τ).loc Cert.ConvLastIdeal.main_arg7)
          ∧ r.2.mem ((c.tc : Thread Cert.ConvLastIdeal.nD Cert.ConvLastIdeal.τ).loc Cert.ConvLastIdeal.main_arg8) = m ((c.tc : Thread Cert.ConvLastIdeal.nD Cert.ConvLastIdeal.τ).loc Cert.ConvLastIdeal.main_arg8)
          ∧ r.2.mem ((c.tc : Thread Cert.ConvLastIdeal.nD Cert.ConvLastIdeal.τ).loc Cert.ConvLastIdeal.main_arg9) = m ((c.tc : Thread Cert.ConvLastIdeal.nD Cert.ConvLastIdeal.τ).loc Cert.ConvLastIdeal.main_arg9)
          ∧ r.2.mem ((c.tc : Thread Cert.ConvLastIdeal.nD Cert.ConvLastIdeal.τ).loc Cert.ConvLastIdeal.main_arg10) = m ((c.tc : Thread Cert.ConvLastIdeal.nD Cert.ConvLastIdeal.τ).loc Cert.ConvLastIdeal.main_arg10))
      ∧ θ_run (Cert.ConvLastRefIdeal.defs (F := Ideal)) (onTc (τ := Cert.ConvLastRefIdeal.τ) (Cert.ConvLastRefIdeal.main (F := Ideal))) ⟨m', fun _ => 0, g'⟩ (fun r => ∀ c : Dev Cert.ConvLastRefIdeal.nD,
          r.2.mem ((c.tc : Thread Cert.ConvLastRefIdeal.nD Cert.ConvLastRefIdeal.τ).loc Cert.ConvLastRefIdeal.main_v17_0) = v0 c
          ∧ r.2.mem ((c.tc : Thread Cert.ConvLastRefIdeal.nD Cert.ConvLastRefIdeal.τ).loc Cert.ConvLastRefIdeal.main_v17_1) = v1 c
          ∧ r.2.mem ((c.tc : Thread Cert.ConvLastRefIdeal.nD Cert.ConvLastRefIdeal.τ).loc Cert.ConvLastRefIdeal.main_v17_2) = v2 c
          ∧ r.2.mem ((c.tc : Thread Cert.ConvLastRefIdeal.nD Cert.ConvLastRefIdeal.τ).loc Cert.ConvLastRefIdeal.main_arg0) = m' ((c.tc : Thread Cert.ConvLastRefIdeal.nD Cert.ConvLastRefIdeal.τ).loc Cert.ConvLastRefIdeal.main_arg0)
          ∧ r.2.mem ((c.tc : Thread Cert.ConvLastRefIdeal.nD Cert.ConvLastRefIdeal.τ).loc Cert.ConvLastRefIdeal.main_arg1) = m' ((c.tc : Thread Cert.ConvLastRefIdeal.nD Cert.ConvLastRefIdeal.τ).loc Cert.ConvLastRefIdeal.main_arg1)
          ∧ r.2.mem ((c.tc : Thread Cert.ConvLastRefIdeal.nD Cert.ConvLastRefIdeal.τ).loc Cert.ConvLastRefIdeal.main_arg2) = m' ((c.tc : Thread Cert.ConvLastRefIdeal.nD Cert.ConvLastRefIdeal.τ).loc Cert.ConvLastRefIdeal.main_arg2)
          ∧ r.2.mem ((c.tc : Thread Cert.ConvLastRefIdeal.nD Cert.ConvLastRefIdeal.τ).loc Cert.ConvLastRefIdeal.main_arg3) = m' ((c.tc : Thread Cert.ConvLastRefIdeal.nD Cert.ConvLastRefIdeal.τ).loc Cert.ConvLastRefIdeal.main_arg3)
          ∧ r.2.mem ((c.tc : Thread Cert.ConvLastRefIdeal.nD Cert.ConvLastRefIdeal.τ).loc Cert.ConvLastRefIdeal.main_arg4) = m' ((c.tc : Thread Cert.ConvLastRefIdeal.nD Cert.ConvLastRefIdeal.τ).loc Cert.ConvLastRefIdeal.main_arg4)
          ∧ r.2.mem ((c.tc : Thread Cert.ConvLastRefIdeal.nD Cert.ConvLastRefIdeal.τ).loc Cert.ConvLastRefIdeal.main_arg5) = m' ((c.tc : Thread Cert.ConvLastRefIdeal.nD Cert.ConvLastRefIdeal.τ).loc Cert.ConvLastRefIdeal.main_arg5)
          ∧ r.2.mem ((c.tc : Thread Cert.ConvLastRefIdeal.nD Cert.ConvLastRefIdeal.τ).loc Cert.ConvLastRefIdeal.main_arg6) = m' ((c.tc : Thread Cert.ConvLastRefIdeal.nD Cert.ConvLastRefIdeal.τ).loc Cert.ConvLastRefIdeal.main_arg6)
          ∧ r.2.mem ((c.tc : Thread Cert.ConvLastRefIdeal.nD Cert.ConvLastRefIdeal.τ).loc Cert.ConvLastRefIdeal.main_arg7) = m' ((c.tc : Thread Cert.ConvLastRefIdeal.nD Cert.ConvLastRefIdeal.τ).loc Cert.ConvLastRefIdeal.main_arg7)
          ∧ r.2.mem ((c.tc : Thread Cert.ConvLastRefIdeal.nD Cert.ConvLastRefIdeal.τ).loc Cert.ConvLastRefIdeal.main_arg8) = m' ((c.tc : Thread Cert.ConvLastRefIdeal.nD Cert.ConvLastRefIdeal.τ).loc Cert.ConvLastRefIdeal.main_arg8)
          ∧ r.2.mem ((c.tc : Thread Cert.ConvLastRefIdeal.nD Cert.ConvLastRefIdeal.τ).loc Cert.ConvLastRefIdeal.main_arg9) = m' ((c.tc : Thread Cert.ConvLastRefIdeal.nD Cert.ConvLastRefIdeal.τ).loc Cert.ConvLastRefIdeal.main_arg9)
          ∧ r.2.mem ((c.tc : Thread Cert.ConvLastRefIdeal.nD Cert.ConvLastRefIdeal.τ).loc Cert.ConvLastRefIdeal.main_arg10) = m' ((c.tc : Thread Cert.ConvLastRefIdeal.nD Cert.ConvLastRefIdeal.τ).loc Cert.ConvLastRefIdeal.main_arg10))

def preserves_Spatial_SpatialIdeal : Prop :=
  True

def algebraic_SpatialIdeal_SpatialRefIdeal [hSpatialIdeal : Cert.SpatialIdeal.Facts] [hSpatialRefIdeal : Cert.SpatialRefIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialRefIdeal.nD Cert.SpatialRefIdeal.τ Cert.SpatialRefIdeal.sig) → Buf (Elt Ideal) ℓ) (g' : Dev Cert.SpatialRefIdeal.nD → PrngReg), Pre_SpatialIdeal m →
    (∀ c : Dev Cert.SpatialIdeal.nD,
      m' ((c.tc : Thread Cert.SpatialRefIdeal.nD Cert.SpatialRefIdeal.τ).loc Cert.SpatialRefIdeal.main_arg0) = m ((c.tc : Thread Cert.SpatialIdeal.nD Cert.SpatialIdeal.τ).loc Cert.SpatialIdeal.main_arg0)
      ∧ m' ((c.tc : Thread Cert.SpatialRefIdeal.nD Cert.SpatialRefIdeal.τ).loc Cert.SpatialRefIdeal.main_arg1) = m ((c.tc : Thread Cert.SpatialIdeal.nD Cert.SpatialIdeal.τ).loc Cert.SpatialIdeal.main_arg1)
      ∧ m' ((c.tc : Thread Cert.SpatialRefIdeal.nD Cert.SpatialRefIdeal.τ).loc Cert.SpatialRefIdeal.main_arg2) = m ((c.tc : Thread Cert.SpatialIdeal.nD Cert.SpatialIdeal.τ).loc Cert.SpatialIdeal.main_arg2)
      ∧ m' ((c.tc : Thread Cert.SpatialRefIdeal.nD Cert.SpatialRefIdeal.τ).loc Cert.SpatialRefIdeal.main_arg3) = m ((c.tc : Thread Cert.SpatialIdeal.nD Cert.SpatialIdeal.τ).loc Cert.SpatialIdeal.main_arg3)
      ∧ m' ((c.tc : Thread Cert.SpatialRefIdeal.nD Cert.SpatialRefIdeal.τ).loc Cert.SpatialRefIdeal.main_arg4) = m ((c.tc : Thread Cert.SpatialIdeal.nD Cert.SpatialIdeal.τ).loc Cert.SpatialIdeal.main_arg4)) →
    ∃ (v0 : (c : Dev Cert.SpatialIdeal.nD) → Buf (Elt Ideal) ((c.tc : Thread Cert.SpatialIdeal.nD Cert.SpatialIdeal.τ).loc Cert.SpatialIdeal.main_v5)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v5) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
          ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4))
      ∧ θ_run (Cert.SpatialRefIdeal.defs (F := Ideal)) (onTc (τ := Cert.SpatialRefIdeal.τ) (Cert.SpatialRefIdeal.main (F := Ideal))) ⟨m', fun _ => 0, g'⟩ (fun r => ∀ c : Dev Cert.SpatialRefIdeal.nD,
          r.2.mem ((c.tc : Thread Cert.SpatialRefIdeal.nD Cert.SpatialRefIdeal.τ).loc Cert.SpatialRefIdeal.main_v8) = v0 c
          ∧ r.2.mem ((c.tc : Thread Cert.SpatialRefIdeal.nD Cert.SpatialRefIdeal.τ).loc Cert.SpatialRefIdeal.main_arg0) = m' ((c.tc : Thread Cert.SpatialRefIdeal.nD Cert.SpatialRefIdeal.τ).loc Cert.SpatialRefIdeal.main_arg0)
          ∧ r.2.mem ((c.tc : Thread Cert.SpatialRefIdeal.nD Cert.SpatialRefIdeal.τ).loc Cert.SpatialRefIdeal.main_arg1) = m' ((c.tc : Thread Cert.SpatialRefIdeal.nD Cert.SpatialRefIdeal.τ).loc Cert.SpatialRefIdeal.main_arg1)
          ∧ r.2.mem ((c.tc : Thread Cert.SpatialRefIdeal.nD Cert.SpatialRefIdeal.τ).loc Cert.SpatialRefIdeal.main_arg2) = m' ((c.tc : Thread Cert.SpatialRefIdeal.nD Cert.SpatialRefIdeal.τ).loc Cert.SpatialRefIdeal.main_arg2)
          ∧ r.2.mem ((c.tc : Thread Cert.SpatialRefIdeal.nD Cert.SpatialRefIdeal.τ).loc Cert.SpatialRefIdeal.main_arg3) = m' ((c.tc : Thread Cert.SpatialRefIdeal.nD Cert.SpatialRefIdeal.τ).loc Cert.SpatialRefIdeal.main_arg3)
          ∧ r.2.mem ((c.tc : Thread Cert.SpatialRefIdeal.nD Cert.SpatialRefIdeal.τ).loc Cert.SpatialRefIdeal.main_arg4) = m' ((c.tc : Thread Cert.SpatialRefIdeal.nD Cert.SpatialRefIdeal.τ).loc Cert.SpatialRefIdeal.main_arg4))

def preserves_Temporal_TemporalIdeal : Prop :=
  True

def algebraic_TemporalIdeal_TemporalRefIdeal [hTemporalIdeal : Cert.TemporalIdeal.Facts] [hTemporalRefIdeal : Cert.TemporalRefIdeal.Facts] [hPre_slots_in_pool_temporal : Cert.Pre_slots_in_pool_temporal.Facts] : Prop :=
  ∀ (m : (ℓ : Loc Cert.TemporalIdeal.nD Cert.TemporalIdeal.τ Cert.TemporalIdeal.sig) → Buf (Elt Ideal) ℓ) (g : Dev Cert.TemporalIdeal.nD → PrngReg)
    (m' : (ℓ : Loc Cert.TemporalRefIdeal.nD Cert.TemporalRefIdeal.τ Cert.TemporalRefIdeal.sig) → Buf (Elt Ideal) ℓ) (g' : Dev Cert.TemporalRefIdeal.nD → PrngReg), Pre_TemporalIdeal m →
    (∀ c : Dev Cert.TemporalIdeal.nD,
      m' ((c.tc : Thread Cert.TemporalRefIdeal.nD Cert.TemporalRefIdeal.τ).loc Cert.TemporalRefIdeal.main_arg0) = m ((c.tc : Thread Cert.TemporalIdeal.nD Cert.TemporalIdeal.τ).loc Cert.TemporalIdeal.main_arg0)
      ∧ m' ((c.tc : Thread Cert.TemporalRefIdeal.nD Cert.TemporalRefIdeal.τ).loc Cert.TemporalRefIdeal.main_arg1) = m ((c.tc : Thread Cert.TemporalIdeal.nD Cert.TemporalIdeal.τ).loc Cert.TemporalIdeal.main_arg1)
      ∧ m' ((c.tc : Thread Cert.TemporalRefIdeal.nD Cert.TemporalRefIdeal.τ).loc Cert.TemporalRefIdeal.main_arg2) = m ((c.tc : Thread Cert.TemporalIdeal.nD Cert.TemporalIdeal.τ).loc Cert.TemporalIdeal.main_arg2)
      ∧ m' ((c.tc : Thread Cert.TemporalRefIdeal.nD Cert.TemporalRefIdeal.τ).loc Cert.TemporalRefIdeal.main_arg3) = m ((c.tc : Thread Cert.TemporalIdeal.nD Cert.TemporalIdeal.τ).loc Cert.TemporalIdeal.main_arg3)
      ∧ m' ((c.tc : Thread Cert.TemporalRefIdeal.nD Cert.TemporalRefIdeal.τ).loc Cert.TemporalRefIdeal.main_arg4) = m ((c.tc : Thread Cert.TemporalIdeal.nD Cert.TemporalIdeal.τ).loc Cert.TemporalIdeal.main_arg4)
      ∧ m' ((c.tc : Thread Cert.TemporalRefIdeal.nD Cert.TemporalRefIdeal.τ).loc Cert.TemporalRefIdeal.main_arg5) = m ((c.tc : Thread Cert.TemporalIdeal.nD Cert.TemporalIdeal.τ).loc Cert.TemporalIdeal.main_arg5)
      ∧ m' ((c.tc : Thread Cert.TemporalRefIdeal.nD Cert.TemporalRefIdeal.τ).loc Cert.TemporalRefIdeal.main_arg6) = m ((c.tc : Thread Cert.TemporalIdeal.nD Cert.TemporalIdeal.τ).loc Cert.TemporalIdeal.main_arg6)
      ∧ m' ((c.tc : Thread Cert.TemporalRefIdeal.nD Cert.TemporalRefIdeal.τ).loc Cert.TemporalRefIdeal.main_arg7) = m ((c.tc : Thread Cert.TemporalIdeal.nD Cert.TemporalIdeal.τ).loc Cert.TemporalIdeal.main_arg7)
      ∧ m' ((c.tc : Thread Cert.TemporalRefIdeal.nD Cert.TemporalRefIdeal.τ).loc Cert.TemporalRefIdeal.main_arg8) = m ((c.tc : Thread Cert.TemporalIdeal.nD Cert.TemporalIdeal.τ).loc Cert.TemporalIdeal.main_arg8)) →
    ∃ (v0 : (c : Dev Cert.TemporalIdeal.nD) → Buf (Elt Ideal) ((c.tc : Thread Cert.TemporalIdeal.nD Cert.TemporalIdeal.τ).loc Cert.TemporalIdeal.main_v6_0)) (v1 : (c : Dev Cert.TemporalIdeal.nD) → Buf (Elt Ideal) ((c.tc : Thread Cert.TemporalIdeal.nD Cert.TemporalIdeal.τ).loc Cert.TemporalIdeal.main_v6_1)),
      θ_run (Cert.TemporalIdeal.defs (F := Ideal)) (onTc (τ := Cert.TemporalIdeal.τ) (Cert.TemporalIdeal.main (F := Ideal))) ⟨m, fun _ => 0, g⟩ (fun r => ∀ c : Dev Cert.TemporalIdeal.nD,
          r.2.mem ((c.tc : Thread Cert.TemporalIdeal.nD Cert.TemporalIdeal.τ).loc Cert.TemporalIdeal.main_v6_0) = v0 c
          ∧ r.2.mem ((c.tc : Thread Cert.TemporalIdeal.nD Cert.TemporalIdeal.τ).loc Cert.TemporalIdeal.main_v6_1) = v1 c
          ∧ r.2.mem ((c.tc : Thread Cert.TemporalIdeal.nD Cert.TemporalIdeal.τ).loc Cert.TemporalIdeal.main_arg0) = m ((c.tc : Thread Cert.TemporalIdeal.nD Cert.TemporalIdeal.τ).loc Cert.TemporalIdeal.main_arg0)
          ∧ r.2.mem ((c.tc : Thread Cert.TemporalIdeal.nD Cert.TemporalIdeal.τ).loc Cert.TemporalIdeal.main_arg1) = m ((c.tc : Thread Cert.TemporalIdeal.nD Cert.TemporalIdeal.τ).loc Cert.TemporalIdeal.main_arg1)
          ∧ r.2.mem ((c.tc : Thread Cert.TemporalIdeal.nD Cert.TemporalIdeal.τ).loc Cert.TemporalIdeal.main_arg2) = m ((c.tc : Thread Cert.TemporalIdeal.nD Cert.TemporalIdeal.τ).loc Cert.TemporalIdeal.main_arg2)
          ∧ r.2.mem ((c.tc : Thread Cert.TemporalIdeal.nD Cert.TemporalIdeal.τ).loc Cert.TemporalIdeal.main_arg3) = m ((c.tc : Thread Cert.TemporalIdeal.nD Cert.TemporalIdeal.τ).loc Cert.TemporalIdeal.main_arg3)
          ∧ r.2.mem ((c.tc : Thread Cert.TemporalIdeal.nD Cert.TemporalIdeal.τ).loc Cert.TemporalIdeal.main_arg4) = m ((c.tc : Thread Cert.TemporalIdeal.nD Cert.TemporalIdeal.τ).loc Cert.TemporalIdeal.main_arg4)
          ∧ r.2.mem ((c.tc : Thread Cert.TemporalIdeal.nD Cert.TemporalIdeal.τ).loc Cert.TemporalIdeal.main_arg5) = m ((c.tc : Thread Cert.TemporalIdeal.nD Cert.TemporalIdeal.τ).loc Cert.TemporalIdeal.main_arg5)
          ∧ r.2.mem ((c.tc : Thread Cert.TemporalIdeal.nD Cert.TemporalIdeal.τ).loc Cert.TemporalIdeal.main_arg6) = m ((c.tc : Thread Cert.TemporalIdeal.nD Cert.TemporalIdeal.τ).loc Cert.TemporalIdeal.main_arg6)
          ∧ r.2.mem ((c.tc : Thread Cert.TemporalIdeal.nD Cert.TemporalIdeal.τ).loc Cert.TemporalIdeal.main_arg7) = m ((c.tc : Thread Cert.TemporalIdeal.nD Cert.TemporalIdeal.τ).loc Cert.TemporalIdeal.main_arg7)
          ∧ r.2.mem ((c.tc : Thread Cert.TemporalIdeal.nD Cert.TemporalIdeal.τ).loc Cert.TemporalIdeal.main_arg8) = m ((c.tc : Thread Cert.TemporalIdeal.nD Cert.TemporalIdeal.τ).loc Cert.TemporalIdeal.main_arg8))
      ∧ θ_run (Cert.TemporalRefIdeal.defs (F := Ideal)) (onTc (τ := Cert.TemporalRefIdeal.τ) (Cert.TemporalRefIdeal.main (F := Ideal))) ⟨m', fun _ => 0, g'⟩ (fun r => ∀ c : Dev Cert.TemporalRefIdeal.nD,
          r.2.mem ((c.tc : Thread Cert.TemporalRefIdeal.nD Cert.TemporalRefIdeal.τ).loc Cert.TemporalRefIdeal.main_v16_0) = v0 c
          ∧ r.2.mem ((c.tc : Thread Cert.TemporalRefIdeal.nD Cert.TemporalRefIdeal.τ).loc Cert.TemporalRefIdeal.main_v16_1) = v1 c
          ∧ r.2.mem ((c.tc : Thread Cert.TemporalRefIdeal.nD Cert.TemporalRefIdeal.τ).loc Cert.TemporalRefIdeal.main_arg0) = m' ((c.tc : Thread Cert.TemporalRefIdeal.nD Cert.TemporalRefIdeal.τ).loc Cert.TemporalRefIdeal.main_arg0)
          ∧ r.2.mem ((c.tc : Thread Cert.TemporalRefIdeal.nD Cert.TemporalRefIdeal.τ).loc Cert.TemporalRefIdeal.main_arg1) = m' ((c.tc : Thread Cert.TemporalRefIdeal.nD Cert.TemporalRefIdeal.τ).loc Cert.TemporalRefIdeal.main_arg1)
          ∧ r.2.mem ((c.tc : Thread Cert.TemporalRefIdeal.nD Cert.TemporalRefIdeal.τ).loc Cert.TemporalRefIdeal.main_arg2) = m' ((c.tc : Thread Cert.TemporalRefIdeal.nD Cert.TemporalRefIdeal.τ).loc Cert.TemporalRefIdeal.main_arg2)
          ∧ r.2.mem ((c.tc : Thread Cert.TemporalRefIdeal.nD Cert.TemporalRefIdeal.τ).loc Cert.TemporalRefIdeal.main_arg3) = m' ((c.tc : Thread Cert.TemporalRefIdeal.nD Cert.TemporalRefIdeal.τ).loc Cert.TemporalRefIdeal.main_arg3)
          ∧ r.2.mem ((c.tc : Thread Cert.TemporalRefIdeal.nD Cert.TemporalRefIdeal.τ).loc Cert.TemporalRefIdeal.main_arg4) = m' ((c.tc : Thread Cert.TemporalRefIdeal.nD Cert.TemporalRefIdeal.τ).loc Cert.TemporalRefIdeal.main_arg4)
          ∧ r.2.mem ((c.tc : Thread Cert.TemporalRefIdeal.nD Cert.TemporalRefIdeal.τ).loc Cert.TemporalRefIdeal.main_arg5) = m' ((c.tc : Thread Cert.TemporalRefIdeal.nD Cert.TemporalRefIdeal.τ).loc Cert.TemporalRefIdeal.main_arg5)
          ∧ r.2.mem ((c.tc : Thread Cert.TemporalRefIdeal.nD Cert.TemporalRefIdeal.τ).loc Cert.TemporalRefIdeal.main_arg6) = m' ((c.tc : Thread Cert.TemporalRefIdeal.nD Cert.TemporalRefIdeal.τ).loc Cert.TemporalRefIdeal.main_arg6)
          ∧ r.2.mem ((c.tc : Thread Cert.TemporalRefIdeal.nD Cert.TemporalRefIdeal.τ).loc Cert.TemporalRefIdeal.main_arg7) = m' ((c.tc : Thread Cert.TemporalRefIdeal.nD Cert.TemporalRefIdeal.τ).loc Cert.TemporalRefIdeal.main_arg7)
          ∧ r.2.mem ((c.tc : Thread Cert.TemporalRefIdeal.nD Cert.TemporalRefIdeal.τ).loc Cert.TemporalRefIdeal.main_arg8) = m' ((c.tc : Thread Cert.TemporalRefIdeal.nD Cert.TemporalRefIdeal.τ).loc Cert.TemporalRefIdeal.main_arg8))

def preserves_NormQuant_NormQuantIdeal : Prop :=
  True

def algebraic_NormQuantIdeal_NormQuantRefIdeal [hNormQuantIdeal : Cert.NormQuantIdeal.Facts] [hNormQuantRefIdeal : Cert.NormQuantRefIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg)
    (m' : (ℓ : Loc Cert.NormQuantRefIdeal.nD Cert.NormQuantRefIdeal.τ Cert.NormQuantRefIdeal.sig) → Buf (Elt Ideal) ℓ) (g' : Dev Cert.NormQuantRefIdeal.nD → PrngReg), Pre_NormQuantIdeal m →
    (∀ c : Dev Cert.NormQuantIdeal.nD,
      m' ((c.tc : Thread Cert.NormQuantRefIdeal.nD Cert.NormQuantRefIdeal.τ).loc Cert.NormQuantRefIdeal.main_arg0) = m ((c.tc : Thread Cert.NormQuantIdeal.nD Cert.NormQuantIdeal.τ).loc Cert.NormQuantIdeal.main_arg0)
      ∧ m' ((c.tc : Thread Cert.NormQuantRefIdeal.nD Cert.NormQuantRefIdeal.τ).loc Cert.NormQuantRefIdeal.main_arg1) = m ((c.tc : Thread Cert.NormQuantIdeal.nD Cert.NormQuantIdeal.τ).loc Cert.NormQuantIdeal.main_arg1)
      ∧ m' ((c.tc : Thread Cert.NormQuantRefIdeal.nD Cert.NormQuantRefIdeal.τ).loc Cert.NormQuantRefIdeal.main_arg2) = m ((c.tc : Thread Cert.NormQuantIdeal.nD Cert.NormQuantIdeal.τ).loc Cert.NormQuantIdeal.main_arg2)) →
    ∃ (v0 : (c : Dev Cert.NormQuantIdeal.nD) → Buf (Elt Ideal) ((c.tc : Thread Cert.NormQuantIdeal.nD Cert.NormQuantIdeal.τ).loc Cert.NormQuantIdeal.main_v3)),
      θ_run (Cert.NormQuantIdeal.defs (F := Ideal)) (onTc (τ := Cert.NormQuantIdeal.τ) (Cert.NormQuantIdeal.main (F := Ideal))) ⟨m, fun _ => 0, g⟩ (fun r => ∀ c : Dev Cert.NormQuantIdeal.nD,
          r.2.mem ((c.tc : Thread Cert.NormQuantIdeal.nD Cert.NormQuantIdeal.τ).loc Cert.NormQuantIdeal.main_v3) = v0 c
          ∧ r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
          ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
          ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2))
      ∧ θ_run (Cert.NormQuantRefIdeal.defs (F := Ideal)) (onTc (τ := Cert.NormQuantRefIdeal.τ) (Cert.NormQuantRefIdeal.main (F := Ideal))) ⟨m', fun _ => 0, g'⟩ (fun r => ∀ c : Dev Cert.NormQuantRefIdeal.nD,
          r.2.mem ((c.tc : Thread Cert.NormQuantRefIdeal.nD Cert.NormQuantRefIdeal.τ).loc Cert.NormQuantRefIdeal.main_v2) = v0 c
          ∧ r.2.mem ((c.tc : Thread Cert.NormQuantRefIdeal.nD Cert.NormQuantRefIdeal.τ).loc Cert.NormQuantRefIdeal.main_arg0) = m' ((c.tc : Thread Cert.NormQuantRefIdeal.nD Cert.NormQuantRefIdeal.τ).loc Cert.NormQuantRefIdeal.main_arg0)
          ∧ r.2.mem ((c.tc : Thread Cert.NormQuantRefIdeal.nD Cert.NormQuantRefIdeal.τ).loc Cert.NormQuantRefIdeal.main_arg1) = m' ((c.tc : Thread Cert.NormQuantRefIdeal.nD Cert.NormQuantRefIdeal.τ).loc Cert.NormQuantRefIdeal.main_arg1)
          ∧ r.2.mem ((c.tc : Thread Cert.NormQuantRefIdeal.nD Cert.NormQuantRefIdeal.τ).loc Cert.NormQuantRefIdeal.main_arg2) = m' ((c.tc : Thread Cert.NormQuantRefIdeal.nD Cert.NormQuantRefIdeal.τ).loc Cert.NormQuantRefIdeal.main_arg2))

def Claim : Prop :=
  ∃ (hConvNorm : Cert.ConvNorm.Facts) (hConvNormIdeal : Cert.ConvNormIdeal.Facts) (hConvNormRefIdeal : Cert.ConvNormRefIdeal.Facts) (hConvMid : Cert.ConvMid.Facts) (hConvMidIdeal : Cert.ConvMidIdeal.Facts) (hConvMidRefIdeal : Cert.ConvMidRefIdeal.Facts) (hConvLast : Cert.ConvLast.Facts) (hConvLastIdeal : Cert.ConvLastIdeal.Facts) (hConvLastRefIdeal : Cert.ConvLastRefIdeal.Facts) (hSpatial : Cert.Spatial.Facts) (hSpatialIdeal : Cert.SpatialIdeal.Facts) (hSpatialRefIdeal : Cert.SpatialRefIdeal.Facts) (hTemporal : Cert.Temporal.Facts) (hTemporalIdeal : Cert.TemporalIdeal.Facts) (hTemporalRefIdeal : Cert.TemporalRefIdeal.Facts) (hNormQuant : Cert.NormQuant.Facts) (hNormQuantIdeal : Cert.NormQuantIdeal.Facts) (hNormQuantRefIdeal : Cert.NormQuantRefIdeal.Facts) (hPre_slots_in_pool_norm : Cert.Pre_slots_in_pool_norm.Facts) (hPre_slots_in_pool : Cert.Pre_slots_in_pool.Facts) (hPre_slots_in_pool_last : Cert.Pre_slots_in_pool_last.Facts) (hPre_slots_in_pool_temporal : Cert.Pre_slots_in_pool_temporal.Facts),
    quiescent_ConvNorm (hConvNorm := hConvNorm) (hPre_slots_in_pool_norm := hPre_slots_in_pool_norm)
    ∧ quiescent_ConvNormIdeal (hConvNormIdeal := hConvNormIdeal) (hPre_slots_in_pool_norm := hPre_slots_in_pool_norm)
    ∧ quiescent_ConvNormRefIdeal (hConvNormRefIdeal := hConvNormRefIdeal) (hPre_slots_in_pool_norm := hPre_slots_in_pool_norm)
    ∧ quiescent_ConvMid (hConvMid := hConvMid) (hPre_slots_in_pool := hPre_slots_in_pool)
    ∧ quiescent_ConvMidIdeal (hConvMidIdeal := hConvMidIdeal) (hPre_slots_in_pool := hPre_slots_in_pool)
    ∧ quiescent_ConvMidRefIdeal (hConvMidRefIdeal := hConvMidRefIdeal) (hPre_slots_in_pool := hPre_slots_in_pool)
    ∧ quiescent_ConvLast (hConvLast := hConvLast) (hPre_slots_in_pool_last := hPre_slots_in_pool_last)
    ∧ quiescent_ConvLastIdeal (hConvLastIdeal := hConvLastIdeal) (hPre_slots_in_pool_last := hPre_slots_in_pool_last)
    ∧ quiescent_ConvLastRefIdeal (hConvLastRefIdeal := hConvLastRefIdeal) (hPre_slots_in_pool_last := hPre_slots_in_pool_last)
    ∧ quiescent_Spatial (hSpatial := hSpatial)
    ∧ quiescent_SpatialIdeal (hSpatialIdeal := hSpatialIdeal)
    ∧ quiescent_SpatialRefIdeal (hSpatialRefIdeal := hSpatialRefIdeal)
    ∧ quiescent_Temporal (hTemporal := hTemporal) (hPre_slots_in_pool_temporal := hPre_slots_in_pool_temporal)
    ∧ quiescent_TemporalIdeal (hTemporalIdeal := hTemporalIdeal) (hPre_slots_in_pool_temporal := hPre_slots_in_pool_temporal)
    ∧ quiescent_TemporalRefIdeal (hTemporalRefIdeal := hTemporalRefIdeal) (hPre_slots_in_pool_temporal := hPre_slots_in_pool_temporal)
    ∧ quiescent_NormQuant (hNormQuant := hNormQuant)
    ∧ quiescent_NormQuantIdeal (hNormQuantIdeal := hNormQuantIdeal)
    ∧ quiescent_NormQuantRefIdeal (hNormQuantRefIdeal := hNormQuantRefIdeal)
    ∧ preserves_ConvNorm_ConvNormIdeal
    ∧ algebraic_ConvNormIdeal_ConvNormRefIdeal (hConvNormIdeal := hConvNormIdeal) (hConvNormRefIdeal := hConvNormRefIdeal) (hPre_slots_in_pool_norm := hPre_slots_in_pool_norm)
    ∧ preserves_ConvMid_ConvMidIdeal
    ∧ algebraic_ConvMidIdeal_ConvMidRefIdeal (hConvMidIdeal := hConvMidIdeal) (hConvMidRefIdeal := hConvMidRefIdeal) (hPre_slots_in_pool := hPre_slots_in_pool)
    ∧ preserves_ConvLast_ConvLastIdeal
    ∧ algebraic_ConvLastIdeal_ConvLastRefIdeal (hConvLastIdeal := hConvLastIdeal) (hConvLastRefIdeal := hConvLastRefIdeal) (hPre_slots_in_pool_last := hPre_slots_in_pool_last)
    ∧ preserves_Spatial_SpatialIdeal
    ∧ algebraic_SpatialIdeal_SpatialRefIdeal (hSpatialIdeal := hSpatialIdeal) (hSpatialRefIdeal := hSpatialRefIdeal)
    ∧ preserves_Temporal_TemporalIdeal
    ∧ algebraic_TemporalIdeal_TemporalRefIdeal (hTemporalIdeal := hTemporalIdeal) (hTemporalRefIdeal := hTemporalRefIdeal) (hPre_slots_in_pool_temporal := hPre_slots_in_pool_temporal)
    ∧ preserves_NormQuant_NormQuantIdeal
    ∧ algebraic_NormQuantIdeal_NormQuantRefIdeal (hNormQuantIdeal := hNormQuantIdeal) (hNormQuantRefIdeal := hNormQuantRefIdeal)
-- ==== Pre_slots_in_pool.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : IVec S4 32) (main_arg2 : IVec S6x2x90x160x384 8) (main_arg3 : IVec S4x1x90x160x384 8) (main_arg4 : FVec F S3x3x3x384x384 .fp8e4m3) (main_arg5 : FVec F S384 .f32) (main_arg6 : FVec F S384 .f32) (main_arg7 : FVec F S_ .f32) (main_arg8 : FVec F S384 .f32) (main_arg9 : FVec F S_ .f32) (main_arg10 : FVec F S4x1x90x160x384 .bf16) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 6#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_slots_in_pool_last.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : IVec S4 32) (main_arg2 : IVec S6x2x90x160x384 8) (main_arg3 : IVec S4x1x90x160x384 8) (main_arg4 : FVec F S3x3x3x384x384 .fp8e4m3) (main_arg5 : FVec F S384 .f32) (main_arg6 : FVec F S384 .f32) (main_arg7 : FVec F S_ .f32) (main_arg8 : FVec F S384 .f32) (main_arg9 : FVec F S_ .f32) (main_arg10 : FVec F S4x1x90x160x384 .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 6#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_slots_in_pool_norm.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : IVec S4 32) (main_arg2 : IVec S6x2x90x160x384 8) (main_arg3 : IVec S4x1x90x160x384 8) (main_arg4 : FVec F S3x3x3x384x384 .fp8e4m3) (main_arg5 : FVec F S384 .f32) (main_arg6 : FVec F S384 .f32) (main_arg7 : FVec F S_ .f32) (main_arg8 : FVec F S384 .f32) (main_arg9 : FVec F S_ .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 6#32
  let main_v2 : IVec S4 32 := broadcastInDim S4 ![] bcast_S_S4 main_c_0
  let main_v3 : IVec S4 1 := cmpi .slt main_arg0 main_v2
  let main_v4 : IVec S4 1 := andi main_v1 main_v3
  main_v4
-- ==== Pre_slots_in_pool_temporal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x384x768 : Shape := ⟨3, ![3, 384, 768]⟩
abbrev S768 : Shape := ⟨1, ![768]⟩
abbrev S_ : Shape := ⟨0, ![]⟩

class Facts : Prop where
  bcast_S_S4 : S_.BroadcastsInDim S4 (![] : Fin 0 → Fin S4.rank)

variable [Facts]

def fn {F : FTy → Type} [FloatOps F] (main_arg0 : IVec S4 32) (main_arg1 : IVec S4 32) (main_arg2 : IVec S6x2x90x160x384 8) (main_arg3 : IVec S4x1x90x160x384 8) (main_arg4 : FVec F S3x384x768 .fp8e4m3) (main_arg5 : FVec F S768 .f32) (main_arg6 : FVec F S768 .f32) (main_arg7 : FVec F S_ .f32) (main_arg8 : FVec F S_ .f32) : IVec S4 1 :=
  let main_c : IVec S_ 32 := constantI S_ 32 0#32
  let main_v0 : IVec S4 32 := broadcastInDim S4 ![] bcast_S_S4 main_c
  let main_v1 : IVec S4 1 := cmpi .sge main_arg0 main_v0
  let main_c_0 : IVec S_ 32 := constantI S_ 32 6#32
  let main_v2 : IVec S4 32 := broadcastInDim S4 ![] bcast_S_S4 main_c_0
  let main_v3 : IVec S4 1 := cmpi .slt main_arg0 main_v2
  let main_v4 : IVec S4 1 := andi main_v1 main_v3
  main_v4
-- ==== ConvNorm.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S6x2x14400x384 : Shape := ⟨4, ![6, 2, 14400, 384]⟩
abbrev S4x14400x384 : Shape := ⟨3, ![4, 14400, 384]⟩
abbrev S27x384x384 : Shape := ⟨3, ![27, 384, 384]⟩
abbrev S1x384 : Shape := ⟨2, ![1, 384]⟩
abbrev S1 : Shape := ⟨1, ![1]⟩
abbrev S4x2x14400x384 : Shape := ⟨4, ![4, 2, 14400, 384]⟩
abbrev S1x1x14400x384 : Shape := ⟨4, ![1, 1, 14400, 384]⟩
abbrev S1x14400x384 : Shape := ⟨3, ![1, 14400, 384]⟩
abbrev S1x2x480x384 : Shape := ⟨4, ![1, 2, 480, 384]⟩
abbrev S1x480x384 : Shape := ⟨3, ![1, 480, 384]⟩
abbrev S1x1x160x384 : Shape := ⟨4, ![1, 1, 160, 384]⟩
abbrev S160x384 : Shape := ⟨2, ![160, 384]⟩
abbrev S40x384 : Shape := ⟨2, ![40, 384]⟩
abbrev S120x384 : Shape := ⟨2, ![120, 384]⟩
abbrev S480x384 : Shape := ⟨2, ![480, 384]⟩
abbrev S1x384x384 : Shape := ⟨3, ![1, 384, 384]⟩
abbrev S384x384 : Shape := ⟨2, ![384, 384]⟩
abbrev S1x160x384 : Shape := ⟨3, ![1, 160, 384]⟩
abbrev S1x1x480x384 : Shape := ⟨4, ![1, 1, 480, 384]⟩
abbrev S480 : Shape := ⟨1, ![480]⟩
abbrev S480x1 : Shape := ⟨2, ![480, 1]⟩

abbrev nBuf : Space → Nat
  | .hbm => 18
  | .vmem => 14
  | .smem => 4
  | _ => 0

abbrev bufTy : (tb : Table) → Fin (tcTables nBuf tb) → BufTy
  | .hbm, ⟨0, _⟩ => ⟨S6x2x90x160x384, .i8⟩
  | .hbm, ⟨1, _⟩ => ⟨S4x1x90x160x384, .i8⟩
  | .hbm, ⟨2, _⟩ => ⟨S3x3x3x384x384, .fp8e4m3⟩
  | .hbm, ⟨3, _⟩ => ⟨S384, .f32⟩
  | .hbm, ⟨4, _⟩ => ⟨S384, .f32⟩
  | .hbm, ⟨5, _⟩ => ⟨S_, .f32⟩
  | .hbm, ⟨6, _⟩ => ⟨S384, .f32⟩
  | .hbm, ⟨7, _⟩ => ⟨S_, .f32⟩
  | .hbm, ⟨8, _⟩ => ⟨S6x2x14400x384, .i8⟩
  | .hbm, ⟨9, _⟩ => ⟨S4x14400x384, .i8⟩
  | .hbm, ⟨10, _⟩ => ⟨S27x384x384, .fp8e4m3⟩
  | .hbm, ⟨11, _⟩ => ⟨S1x384, .f32⟩
  | .hbm, ⟨12, _⟩ => ⟨S1x384, .f32⟩
  | .hbm, ⟨13, _⟩ => ⟨S1, .f32⟩
  | .hbm, ⟨14, _⟩ => ⟨S1x384, .f32⟩
  | .hbm, ⟨15, _⟩ => ⟨S1, .f32⟩
  | .hbm, ⟨16, _⟩ => ⟨S4x2x14400x384, .fp8e4m3⟩
  | .hbm, ⟨17, _⟩ => ⟨S4x14400x384, .fp8e4m3⟩
  | .local _ .vmem, ⟨0, _⟩ => ⟨S1x1x14400x384, .i8⟩
  | .local _ .vmem, ⟨1, _⟩ => ⟨S1x1x14400x384, .i8⟩
  | .local _ .vmem, ⟨2, _⟩ => ⟨S1x1x14400x384, .i8⟩
  | .local _ .vmem, ⟨3, _⟩ => ⟨S1x1x14400x384, .i8⟩
  | .local _ .vmem, ⟨4, _⟩ => ⟨S1x14400x384, .i8⟩
  | .local _ .vmem, ⟨5, _⟩ => ⟨S1x14400x384, .i8⟩
  | .local _ .vmem, ⟨6, _⟩ => ⟨S27x384x384, .fp8e4m3⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S1x2x480x384, .fp8e4m3⟩
  | .local _ .vmem, ⟨11, _⟩ => ⟨S1x2x480x384, .fp8e4m3⟩
  | .local _ .vmem, ⟨12, _⟩ => ⟨S1x480x384, .fp8e4m3⟩
  | .local _ .vmem, ⟨13, _⟩ => ⟨S1x480x384, .fp8e4m3⟩
  | .local _ .smem, ⟨0, _⟩ => ⟨S4, .i32⟩
  | .local _ .smem, ⟨1, _⟩ => ⟨S4, .i32⟩
  | .local _ .smem, ⟨2, _⟩ => ⟨S1, .f32⟩
  | .local _ .smem, ⟨3, _⟩ => ⟨S1, .f32⟩
  | _, _ => ⟨S6x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 30], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c0_i32_1 : BitVec 32 := 0#32
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  v13
def k0_off2 (i : grid0.Coords) (c0_i32 : BitVec 32) (c0_i32_1 : BitVec 32) : Fin 4 → Nat :=
  let c0 : Index := 0#32
  let c0_4 : Index := 0#32
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let v4 : BitVec 32 := Scalar.addi v3 c0_i32
  let c1_i32_0 : BitVec 32 := 1#32
  let v5 : BitVec 32 := Scalar.subi v4 c1_i32_0
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  let v14 : BitVec 32 := v13
  let v15 : Index := Scalar.indexCast v14
  let c0_5 : Index := 0#32
  ![0, 0, v15.toNat, 0]
def k0_mult2 (i : grid0.Coords) : BitVec 32 :=
  let c89_i32_10 : BitVec 32 := 89#32
  let c0_i32_9 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c1_i32_6 : BitVec 32 := 1#32
  let v22 : BitVec 32 := Scalar.addi v5 c1_i32_6
  let v27 : BitVec 32 := Scalar.maxsi c0_i32_9 v22
  let v28 : BitVec 32 := Scalar.minsi c89_i32_10 v27
  let c160_i32_11 : BitVec 32 := 160#32
  let v29 : BitVec 32 := Scalar.muli v28 c160_i32_11
  v29
def k0_mult3 (i : grid0.Coords) : BitVec 32 :=
  let c89_i32_18 : BitVec 32 := 89#32
  let c0_i32_17 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c2_i32 : BitVec 32 := 2#32
  let v38 : BitVec 32 := Scalar.addi v5 c2_i32
  let v43 : BitVec 32 := Scalar.maxsi c0_i32_17 v38
  let v44 : BitVec 32 := Scalar.minsi c89_i32_18 v43
  let c160_i32_19 : BitVec 32 := 160#32
  let v45 : BitVec 32 := Scalar.muli v44 c160_i32_19
  v45
def k0_mult4 (i : grid0.Coords) : BitVec 32 :=
  let c89_i32_56 : BitVec 32 := 89#32
  let c0_i32_55 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c0_i32_52 : BitVec 32 := 0#32
  let v126 : BitVec 32 := Scalar.addi v125 c0_i32_52
  let v131 : BitVec 32 := Scalar.maxsi c0_i32_55 v126
  let v132 : BitVec 32 := Scalar.minsi c89_i32_56 v131
  let c160_i32_57 : BitVec 32 := 160#32
  let v133 : BitVec 32 := Scalar.muli v132 c160_i32_57
  v133
def k0_mult5 (i : grid0.Coords) : BitVec 32 :=
  let c89_i32_65 : BitVec 32 := 89#32
  let c0_i32_64 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c1_i32_61 : BitVec 32 := 1#32
  let v142 : BitVec 32 := Scalar.addi v125 c1_i32_61
  let v147 : BitVec 32 := Scalar.maxsi c0_i32_64 v142
  let v148 : BitVec 32 := Scalar.minsi c89_i32_65 v147
  let c160_i32_66 : BitVec 32 := 160#32
  let v149 : BitVec 32 := Scalar.muli v148 c160_i32_66
  v149
def k0_mult6 (i : grid0.Coords) : BitVec 32 :=
  let c89_i32_74 : BitVec 32 := 89#32
  let c0_i32_73 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c2_i32_70 : BitVec 32 := 2#32
  let v158 : BitVec 32 := Scalar.addi v125 c2_i32_70
  let v163 : BitVec 32 := Scalar.maxsi c0_i32_73 v158
  let v164 : BitVec 32 := Scalar.minsi c89_i32_74 v163
  let c160_i32_75 : BitVec 32 := 160#32
  let v165 : BitVec 32 := Scalar.muli v164 c160_i32_75
  v165
def k0_mult7 (i : grid0.Coords) : BitVec 32 :=
  let c89_i32_117 : BitVec 32 := 89#32
  let c0_i32_116 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c0_i32_113 : BitVec 32 := 0#32
  let v247 : BitVec 32 := Scalar.addi v246 c0_i32_113
  let v252 : BitVec 32 := Scalar.maxsi c0_i32_116 v247
  let v253 : BitVec 32 := Scalar.minsi c89_i32_117 v252
  let c160_i32_118 : BitVec 32 := 160#32
  let v254 : BitVec 32 := Scalar.muli v253 c160_i32_118
  v254
def k0_mult8 (i : grid0.Coords) : BitVec 32 :=
  let c89_i32_126 : BitVec 32 := 89#32
  let c0_i32_125 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c1_i32_122 : BitVec 32 := 1#32
  let v263 : BitVec 32 := Scalar.addi v246 c1_i32_122
  let v268 : BitVec 32 := Scalar.maxsi c0_i32_125 v263
  let v269 : BitVec 32 := Scalar.minsi c89_i32_126 v268
  let c160_i32_127 : BitVec 32 := 160#32
  let v270 : BitVec 32 := Scalar.muli v269 c160_i32_127
  v270
def k0_mult9 (i : grid0.Coords) : BitVec 32 :=
  let c89_i32_135 : BitVec 32 := 89#32
  let c0_i32_134 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c2_i32_131 : BitVec 32 := 2#32
  let v279 : BitVec 32 := Scalar.addi v246 c2_i32_131
  let v284 : BitVec 32 := Scalar.maxsi c0_i32_134 v279
  let v285 : BitVec 32 := Scalar.minsi c89_i32_135 v284
  let c160_i32_136 : BitVec 32 := 160#32
  let v286 : BitVec 32 := Scalar.muli v285 c160_i32_136
  v286
def k0_mult10 (i : grid0.Coords) : BitVec 32 :=
  let c89_i32_178 : BitVec 32 := 89#32
  let c0_i32_177 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c0_i32_174 : BitVec 32 := 0#32
  let v368 : BitVec 32 := Scalar.addi v367 c0_i32_174
  let v373 : BitVec 32 := Scalar.maxsi c0_i32_177 v368
  let v374 : BitVec 32 := Scalar.minsi c89_i32_178 v373
  let c160_i32_179 : BitVec 32 := 160#32
  let v375 : BitVec 32 := Scalar.muli v374 c160_i32_179
  v375
def k0_mult11 (i : grid0.Coords) : BitVec 32 :=
  let c89_i32_187 : BitVec 32 := 89#32
  let c0_i32_186 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c1_i32_183 : BitVec 32 := 1#32
  let v384 : BitVec 32 := Scalar.addi v367 c1_i32_183
  let v389 : BitVec 32 := Scalar.maxsi c0_i32_186 v384
  let v390 : BitVec 32 := Scalar.minsi c89_i32_187 v389
  let c160_i32_188 : BitVec 32 := 160#32
  let v391 : BitVec 32 := Scalar.muli v390 c160_i32_188
  v391
def k0_mult12 (i : grid0.Coords) : BitVec 32 :=
  let c89_i32_196 : BitVec 32 := 89#32
  let c0_i32_195 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c2_i32_192 : BitVec 32 := 2#32
  let v400 : BitVec 32 := Scalar.addi v367 c2_i32_192
  let v405 : BitVec 32 := Scalar.maxsi c0_i32_195 v400
  let v406 : BitVec 32 := Scalar.minsi c89_i32_196 v405
  let c160_i32_197 : BitVec 32 := 160#32
  let v407 : BitVec 32 := Scalar.muli v406 c160_i32_197
  v407
def k0_mult13 (i : grid0.Coords) : BitVec 32 :=
  let c89_i32_239 : BitVec 32 := 89#32
  let c0_i32_238 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c0_i32_235 : BitVec 32 := 0#32
  let v489 : BitVec 32 := Scalar.addi v488 c0_i32_235
  let v494 : BitVec 32 := Scalar.maxsi c0_i32_238 v489
  let v495 : BitVec 32 := Scalar.minsi c89_i32_239 v494
  let c160_i32_240 : BitVec 32 := 160#32
  let v496 : BitVec 32 := Scalar.muli v495 c160_i32_240
  v496
def k0_mult14 (i : grid0.Coords) : BitVec 32 :=
  let c89_i32_248 : BitVec 32 := 89#32
  let c0_i32_247 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c1_i32_244 : BitVec 32 := 1#32
  let v505 : BitVec 32 := Scalar.addi v488 c1_i32_244
  let v510 : BitVec 32 := Scalar.maxsi c0_i32_247 v505
  let v511 : BitVec 32 := Scalar.minsi c89_i32_248 v510
  let c160_i32_249 : BitVec 32 := 160#32
  let v512 : BitVec 32 := Scalar.muli v511 c160_i32_249
  v512
def k0_mult15 (i : grid0.Coords) : BitVec 32 :=
  let c89_i32_257 : BitVec 32 := 89#32
  let c0_i32_256 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c2_i32_253 : BitVec 32 := 2#32
  let v521 : BitVec 32 := Scalar.addi v488 c2_i32_253
  let v526 : BitVec 32 := Scalar.maxsi c0_i32_256 v521
  let v527 : BitVec 32 := Scalar.minsi c89_i32_257 v526
  let c160_i32_258 : BitVec 32 := 160#32
  let v528 : BitVec 32 := Scalar.muli v527 c160_i32_258
  v528
def k0_mult16 (i : grid0.Coords) : BitVec 32 :=
  let c89_i32_300 : BitVec 32 := 89#32
  let c0_i32_299 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c0_i32_296 : BitVec 32 := 0#32
  let v610 : BitVec 32 := Scalar.addi v609 c0_i32_296
  let v615 : BitVec 32 := Scalar.maxsi c0_i32_299 v610
  let v616 : BitVec 32 := Scalar.minsi c89_i32_300 v615
  let c160_i32_301 : BitVec 32 := 160#32
  let v617 : BitVec 32 := Scalar.muli v616 c160_i32_301
  v617
def k0_mult17 (i : grid0.Coords) : BitVec 32 :=
  let c89_i32_309 : BitVec 32 := 89#32
  let c0_i32_308 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c1_i32_305 : BitVec 32 := 1#32
  let v626 : BitVec 32 := Scalar.addi v609 c1_i32_305
  let v631 : BitVec 32 := Scalar.maxsi c0_i32_308 v626
  let v632 : BitVec 32 := Scalar.minsi c89_i32_309 v631
  let c160_i32_310 : BitVec 32 := 160#32
  let v633 : BitVec 32 := Scalar.muli v632 c160_i32_310
  v633
def k0_mult18 (i : grid0.Coords) : BitVec 32 :=
  let c89_i32_318 : BitVec 32 := 89#32
  let c0_i32_317 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c2_i32_314 : BitVec 32 := 2#32
  let v642 : BitVec 32 := Scalar.addi v609 c2_i32_314
  let v647 : BitVec 32 := Scalar.maxsi c0_i32_317 v642
  let v648 : BitVec 32 := Scalar.minsi c89_i32_318 v647
  let c160_i32_319 : BitVec 32 := 160#32
  let v649 : BitVec 32 := Scalar.muli v648 c160_i32_319
  v649
def k0_mult19 (i : grid0.Coords) : BitVec 32 :=
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c0_i32_357 : BitVec 32 := 0#32
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  v738
def k0_off3 (i : grid0.Coords) (c0_i32_355 : BitVec 32) (c0_i32_357 : BitVec 32) : Fin 3 → Nat :=
  let c0_363 : Index := 0#32
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let v729 : BitVec 32 := Scalar.addi v728 c0_i32_355
  let c1_i32_356 : BitVec 32 := 1#32
  let v730 : BitVec 32 := Scalar.subi v729 c1_i32_356
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  let v739 : BitVec 32 := v738
  let v740 : Index := Scalar.indexCast v739
  let c0_364 : Index := 0#32
  ![0, v740.toNat, 0]
def k0_mult20 (i : grid0.Coords) : BitVec 32 :=
  let c89_i32_370 : BitVec 32 := 89#32
  let c0_i32_369 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c1_i32_365 : BitVec 32 := 1#32
  let v747 : BitVec 32 := Scalar.addi v730 c1_i32_365
  let v752 : BitVec 32 := Scalar.maxsi c0_i32_369 v747
  let v753 : BitVec 32 := Scalar.minsi c89_i32_370 v752
  let c160_i32_371 : BitVec 32 := 160#32
  let v754 : BitVec 32 := Scalar.muli v753 c160_i32_371
  v754
def k0_mult21 (i : grid0.Coords) : BitVec 32 :=
  let c89_i32_379 : BitVec 32 := 89#32
  let c0_i32_378 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c2_i32_374 : BitVec 32 := 2#32
  let v763 : BitVec 32 := Scalar.addi v730 c2_i32_374
  let v768 : BitVec 32 := Scalar.maxsi c0_i32_378 v763
  let v769 : BitVec 32 := Scalar.minsi c89_i32_379 v768
  let c160_i32_380 : BitVec 32 := 160#32
  let v770 : BitVec 32 := Scalar.muli v769 c160_i32_380
  v770
def k0_mult22 (i : grid0.Coords) : BitVec 32 :=
  let c89_i32_422 : BitVec 32 := 89#32
  let c0_i32_421 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c0_i32_417 : BitVec 32 := 0#32
  let v852 : BitVec 32 := Scalar.addi v851 c0_i32_417
  let v857 : BitVec 32 := Scalar.maxsi c0_i32_421 v852
  let v858 : BitVec 32 := Scalar.minsi c89_i32_422 v857
  let c160_i32_423 : BitVec 32 := 160#32
  let v859 : BitVec 32 := Scalar.muli v858 c160_i32_423
  v859
def k0_mult23 (i : grid0.Coords) : BitVec 32 :=
  let c89_i32_431 : BitVec 32 := 89#32
  let c0_i32_430 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c1_i32_426 : BitVec 32 := 1#32
  let v868 : BitVec 32 := Scalar.addi v851 c1_i32_426
  let v873 : BitVec 32 := Scalar.maxsi c0_i32_430 v868
  let v874 : BitVec 32 := Scalar.minsi c89_i32_431 v873
  let c160_i32_432 : BitVec 32 := 160#32
  let v875 : BitVec 32 := Scalar.muli v874 c160_i32_432
  v875
def k0_mult24 (i : grid0.Coords) : BitVec 32 :=
  let c89_i32_440 : BitVec 32 := 89#32
  let c0_i32_439 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c2_i32_435 : BitVec 32 := 2#32
  let v884 : BitVec 32 := Scalar.addi v851 c2_i32_435
  let v889 : BitVec 32 := Scalar.maxsi c0_i32_439 v884
  let v890 : BitVec 32 := Scalar.minsi c89_i32_440 v889
  let c160_i32_441 : BitVec 32 := 160#32
  let v891 : BitVec 32 := Scalar.muli v890 c160_i32_441
  v891
def k0_mult25 (i : grid0.Coords) : BitVec 32 :=
  let c89_i32_483 : BitVec 32 := 89#32
  let c0_i32_482 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c0_i32_478 : BitVec 32 := 0#32
  let v973 : BitVec 32 := Scalar.addi v972 c0_i32_478
  let v978 : BitVec 32 := Scalar.maxsi c0_i32_482 v973
  let v979 : BitVec 32 := Scalar.minsi c89_i32_483 v978
  let c160_i32_484 : BitVec 32 := 160#32
  let v980 : BitVec 32 := Scalar.muli v979 c160_i32_484
  v980
def k0_mult26 (i : grid0.Coords) : BitVec 32 :=
  let c89_i32_492 : BitVec 32 := 89#32
  let c0_i32_491 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c1_i32_487 : BitVec 32 := 1#32
  let v989 : BitVec 32 := Scalar.addi v972 c1_i32_487
  let v994 : BitVec 32 := Scalar.maxsi c0_i32_491 v989
  let v995 : BitVec 32 := Scalar.minsi c89_i32_492 v994
  let c160_i32_493 : BitVec 32 := 160#32
  let v996 : BitVec 32 := Scalar.muli v995 c160_i32_493
  v996
def k0_mult27 (i : grid0.Coords) : BitVec 32 :=
  let c89_i32_501 : BitVec 32 := 89#32
  let c0_i32_500 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c2_i32_496 : BitVec 32 := 2#32
  let v1005 : BitVec 32 := Scalar.addi v972 c2_i32_496
  let v1010 : BitVec 32 := Scalar.maxsi c0_i32_500 v1005
  let v1011 : BitVec 32 := Scalar.minsi c89_i32_501 v1010
  let c160_i32_502 : BitVec 32 := 160#32
  let v1012 : BitVec 32 := Scalar.muli v1011 c160_i32_502
  v1012
def k0_mult28 (i : grid0.Coords) : BitVec 32 :=
  let arg1 : BitVec 32 := BitVec.ofNat 32 (i 1).val
  let c480_i32 : BitVec 32 := 480#32
  let v1102 : BitVec 32 := Scalar.muli arg1 c480_i32
  v1102
def k0_off4 (i : grid0.Coords) : Fin 4 → Nat :=
  let c0_541 : Index := 0#32
  let c0_542 : Index := 0#32
  let arg1 : BitVec 32 := BitVec.ofNat 32 (i 1).val
  let c480_i32 : BitVec 32 := 480#32
  let v1102 : BitVec 32 := Scalar.muli arg1 c480_i32
  let v1103 : BitVec 32 := v1102
  let v1104 : Index := Scalar.indexCast v1103
  let c0_543 : Index := 0#32
  ![0, 0, v1104.toNat, 0]
def k0_off5 (i : grid0.Coords) : Fin 3 → Nat :=
  let c0_548 : Index := 0#32
  let arg1 : BitVec 32 := BitVec.ofNat 32 (i 1).val
  let c480_i32 : BitVec 32 := 480#32
  let v1102 : BitVec 32 := Scalar.muli arg1 c480_i32
  let v1103 : BitVec 32 := v1102
  let v1115 : Index := Scalar.indexCast v1103
  let c0_549 : Index := 0#32
  ![0, v1115.toNat, 0]
def cc0_transform_0 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x14400x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x14400x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x14400x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S27x384x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x480x384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x480x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvNormRefIdeal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S4x1x1x1x1 : Shape := ⟨5, ![4, 1, 1, 1, 1]⟩
abbrev S4x1 : Shape := ⟨2, ![4, 1]⟩
abbrev S4x2x90x160x384 : Shape := ⟨5, ![4, 2, 90, 160, 384]⟩
abbrev S4x3x90x160x384 : Shape := ⟨5, ![4, 3, 90, 160, 384]⟩
abbrev S4x3x92x162x384 : Shape := ⟨5, ![4, 3, 92, 162, 384]⟩
abbrev S1x384 : Shape := ⟨2, ![1, 384]⟩
abbrev S1x1 : Shape := ⟨2, ![1, 1]⟩
abbrev S4x2x14400x384 : Shape := ⟨4, ![4, 2, 14400, 384]⟩
abbrev S4x14400x384 : Shape := ⟨3, ![4, 14400, 384]⟩
abbrev S57600x384 : Shape := ⟨2, ![57600, 384]⟩
abbrev S1x1x1x384x384 : Shape := ⟨5, ![1, 1, 1, 384, 384]⟩
abbrev S384x384 : Shape := ⟨2, ![384, 384]⟩
abbrev S57600 : Shape := ⟨1, ![57600]⟩
abbrev S57600x1 : Shape := ⟨2, ![57600, 1]⟩
abbrev S115200x384 : Shape := ⟨2, ![115200, 384]⟩

abbrev nBuf : Space → Nat
  | .hbm => 37
  | .vmem => 10
  | .smem => 0
  | _ => 0

abbrev bufTy : (tb : Table) → Fin (tcTables nBuf tb) → BufTy
  | .hbm, ⟨0, _⟩ => ⟨S4, .i32⟩
  | .hbm, ⟨1, _⟩ => ⟨S4, .i32⟩
  | .hbm, ⟨2, _⟩ => ⟨S6x2x90x160x384, .i8⟩
  | .hbm, ⟨3, _⟩ => ⟨S4x1x90x160x384, .i8⟩
  | .hbm, ⟨4, _⟩ => ⟨S3x3x3x384x384, .fp8e4m3⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S384, .f32⟩
  | .hbm, ⟨9, _⟩ => ⟨S_, .f32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S4x1x1x1x1, .i1⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S4, .i32⟩
  | .hbm, ⟨21, _⟩ => ⟨S4x1, .i32⟩
  | .hbm, ⟨22, _⟩ => ⟨S4x2x90x160x384, .i8⟩
  | .hbm, ⟨23, _⟩ => ⟨S_, .i8⟩
  | .hbm, ⟨24, _⟩ => ⟨S4x2x90x160x384, .i1⟩
  | .hbm, ⟨25, _⟩ => ⟨S4x2x90x160x384, .i8⟩
  | .hbm, ⟨26, _⟩ => ⟨S4x2x90x160x384, .i8⟩
  | .hbm, ⟨27, _⟩ => ⟨S4x3x90x160x384, .i8⟩
  | .hbm, ⟨28, _⟩ => ⟨S_, .i8⟩
  | .hbm, ⟨29, _⟩ => ⟨S4x3x92x162x384, .i8⟩
  | .hbm, ⟨30, _⟩ => ⟨S1x384, .f32⟩
  | .hbm, ⟨31, _⟩ => ⟨S1x384, .f32⟩
  | .hbm, ⟨32, _⟩ => ⟨S1x1, .f32⟩
  | .hbm, ⟨33, _⟩ => ⟨S1x384, .f32⟩
  | .hbm, ⟨34, _⟩ => ⟨S1x1, .f32⟩
  | .hbm, ⟨35, _⟩ => ⟨S4x2x14400x384, .fp8e4m3⟩
  | .hbm, ⟨36, _⟩ => ⟨S4x14400x384, .fp8e4m3⟩
  | .local _ .vmem, ⟨0, _⟩ => ⟨S4x3x90x160x384, .i8⟩
  | .local _ .vmem, ⟨1, _⟩ => ⟨S4x3x92x162x384, .i8⟩
  | .local _ .vmem, ⟨2, _⟩ => ⟨S3x3x3x384x384, .fp8e4m3⟩
  | .local _ .vmem, ⟨3, _⟩ => ⟨S1x384, .f32⟩
  | .local _ .vmem, ⟨4, _⟩ => ⟨S1x384, .f32⟩
  | .local _ .vmem, ⟨5, _⟩ => ⟨S1x1, .f32⟩
  | .local _ .vmem, ⟨6, _⟩ => ⟨S1x384, .f32⟩
  | .local _ .vmem, ⟨7, _⟩ => ⟨S1x1, .f32⟩
  | .local _ .vmem, ⟨8, _⟩ => ⟨S4x2x14400x384, .fp8e4m3⟩
  | .local _ .vmem, ⟨9, _⟩ => ⟨S4x14400x384, .fp8e4m3⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x3x90x160x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x92x162x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x3x384x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2x14400x384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x14400x384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ConvMid.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S6x2x14400x384 : Shape := ⟨4, ![6, 2, 14400, 384]⟩
abbrev S4x14400x384 : Shape := ⟨3, ![4, 14400, 384]⟩
abbrev S27x384x384 : Shape := ⟨3, ![27, 384, 384]⟩
abbrev S1x384 : Shape := ⟨2, ![1, 384]⟩
abbrev S1 : Shape := ⟨1, ![1]⟩
abbrev S4x2x14400x384 : Shape := ⟨4, ![4, 2, 14400, 384]⟩
abbrev S1x1x14400x384 : Shape := ⟨4, ![1, 1, 14400, 384]⟩
abbrev S1x14400x384 : Shape := ⟨3, ![1, 14400, 384]⟩
abbrev S1x480x384 : Shape := ⟨3, ![1, 480, 384]⟩
abbrev S1x2x480x384 : Shape := ⟨4, ![1, 2, 480, 384]⟩
abbrev S1x1x160x384 : Shape := ⟨4, ![1, 1, 160, 384]⟩
abbrev S160x384 : Shape := ⟨2, ![160, 384]⟩
abbrev S40x384 : Shape := ⟨2, ![40, 384]⟩
abbrev S120x384 : Shape := ⟨2, ![120, 384]⟩
abbrev S480x384 : Shape := ⟨2, ![480, 384]⟩
abbrev S1x384x384 : Shape := ⟨3, ![1, 384, 384]⟩
abbrev S384x384 : Shape := ⟨2, ![384, 384]⟩
abbrev S1x160x384 : Shape := ⟨3, ![1, 160, 384]⟩
abbrev S1x1x480x384 : Shape := ⟨4, ![1, 1, 480, 384]⟩
abbrev S480 : Shape := ⟨1, ![480]⟩
abbrev S480x1 : Shape := ⟨2, ![480, 1]⟩

abbrev nBuf : Space → Nat
  | .hbm => 21
  | .vmem => 18
  | .smem => 4
  | _ => 0

abbrev bufTy : (tb : Table) → Fin (tcTables nBuf tb) → BufTy
  | .hbm, ⟨0, _⟩ => ⟨S6x2x90x160x384, .i8⟩
  | .hbm, ⟨1, _⟩ => ⟨S4x1x90x160x384, .i8⟩
  | .hbm, ⟨2, _⟩ => ⟨S3x3x3x384x384, .fp8e4m3⟩
  | .hbm, ⟨3, _⟩ => ⟨S384, .f32⟩
  | .hbm, ⟨4, _⟩ => ⟨S384, .f32⟩
  | .hbm, ⟨5, _⟩ => ⟨S_, .f32⟩
  | .hbm, ⟨6, _⟩ => ⟨S384, .f32⟩
  | .hbm, ⟨7, _⟩ => ⟨S_, .f32⟩
  | .hbm, ⟨8, _⟩ => ⟨S4x1x90x160x384, .bf16⟩
  | .hbm, ⟨9, _⟩ => ⟨S6x2x14400x384, .i8⟩
  | .hbm, ⟨10, _⟩ => ⟨S4x14400x384, .i8⟩
  | .hbm, ⟨11, _⟩ => ⟨S27x384x384, .fp8e4m3⟩
  | .hbm, ⟨12, _⟩ => ⟨S1x384, .f32⟩
  | .hbm, ⟨13, _⟩ => ⟨S1x384, .f32⟩
  | .hbm, ⟨14, _⟩ => ⟨S1, .f32⟩
  | .hbm, ⟨15, _⟩ => ⟨S1x384, .f32⟩
  | .hbm, ⟨16, _⟩ => ⟨S1, .f32⟩
  | .hbm, ⟨17, _⟩ => ⟨S4x14400x384, .bf16⟩
  | .hbm, ⟨18, _⟩ => ⟨S4x2x14400x384, .fp8e4m3⟩
  | .hbm, ⟨19, _⟩ => ⟨S4x14400x384, .fp8e4m3⟩
  | .hbm, ⟨20, _⟩ => ⟨S4x14400x384, .f32⟩
  | .local _ .vmem, ⟨0, _⟩ => ⟨S1x1x14400x384, .i8⟩
  | .local _ .vmem, ⟨1, _⟩ => ⟨S1x1x14400x384, .i8⟩
  | .local _ .vmem, ⟨2, _⟩ => ⟨S1x1x14400x384, .i8⟩
  | .local _ .vmem, ⟨3, _⟩ => ⟨S1x1x14400x384, .i8⟩
  | .local _ .vmem, ⟨4, _⟩ => ⟨S1x14400x384, .i8⟩
  | .local _ .vmem, ⟨5, _⟩ => ⟨S1x14400x384, .i8⟩
  | .local _ .vmem, ⟨6, _⟩ => ⟨S27x384x384, .fp8e4m3⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S1x480x384, .bf16⟩
  | .local _ .vmem, ⟨11, _⟩ => ⟨S1x480x384, .bf16⟩
  | .local _ .vmem, ⟨12, _⟩ => ⟨S1x2x480x384, .fp8e4m3⟩
  | .local _ .vmem, ⟨13, _⟩ => ⟨S1x2x480x384, .fp8e4m3⟩
  | .local _ .vmem, ⟨14, _⟩ => ⟨S1x480x384, .fp8e4m3⟩
  | .local _ .vmem, ⟨15, _⟩ => ⟨S1x480x384, .fp8e4m3⟩
  | .local _ .vmem, ⟨16, _⟩ => ⟨S1x480x384, .f32⟩
  | .local _ .vmem, ⟨17, _⟩ => ⟨S1x480x384, .f32⟩
  | .local _ .smem, ⟨0, _⟩ => ⟨S4, .i32⟩
  | .local _ .smem, ⟨1, _⟩ => ⟨S4, .i32⟩
  | .local _ .smem, ⟨2, _⟩ => ⟨S1, .f32⟩
  | .local _ .smem, ⟨3, _⟩ => ⟨S1, .f32⟩
  | _, _ => ⟨S6x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 30], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c0_i32_1 : BitVec 32 := 0#32
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  v13
def k0_off2 (i : grid0.Coords) (c0_i32 : BitVec 32) (c0_i32_1 : BitVec 32) : Fin 4 → Nat :=
  let c0 : Index := 0#32
  let c0_4 : Index := 0#32
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let v4 : BitVec 32 := Scalar.addi v3 c0_i32
  let c1_i32_0 : BitVec 32 := 1#32
  let v5 : BitVec 32 := Scalar.subi v4 c1_i32_0
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  let v14 : BitVec 32 := v13
  let v15 : Index := Scalar.indexCast v14
  let c0_5 : Index := 0#32
  ![0, 0, v15.toNat, 0]
def k0_mult2 (i : grid0.Coords) : BitVec 32 :=
  let c89_i32_10 : BitVec 32 := 89#32
  let c0_i32_9 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c1_i32_6 : BitVec 32 := 1#32
  let v22 : BitVec 32 := Scalar.addi v5 c1_i32_6
  let v27 : BitVec 32 := Scalar.maxsi c0_i32_9 v22
  let v28 : BitVec 32 := Scalar.minsi c89_i32_10 v27
  let c160_i32_11 : BitVec 32 := 160#32
  let v29 : BitVec 32 := Scalar.muli v28 c160_i32_11
  v29
def k0_mult3 (i : grid0.Coords) : BitVec 32 :=
  let c89_i32_18 : BitVec 32 := 89#32
  let c0_i32_17 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c2_i32 : BitVec 32 := 2#32
  let v38 : BitVec 32 := Scalar.addi v5 c2_i32
  let v43 : BitVec 32 := Scalar.maxsi c0_i32_17 v38
  let v44 : BitVec 32 := Scalar.minsi c89_i32_18 v43
  let c160_i32_19 : BitVec 32 := 160#32
  let v45 : BitVec 32 := Scalar.muli v44 c160_i32_19
  v45
def k0_mult4 (i : grid0.Coords) : BitVec 32 :=
  let c89_i32_56 : BitVec 32 := 89#32
  let c0_i32_55 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c0_i32_52 : BitVec 32 := 0#32
  let v126 : BitVec 32 := Scalar.addi v125 c0_i32_52
  let v131 : BitVec 32 := Scalar.maxsi c0_i32_55 v126
  let v132 : BitVec 32 := Scalar.minsi c89_i32_56 v131
  let c160_i32_57 : BitVec 32 := 160#32
  let v133 : BitVec 32 := Scalar.muli v132 c160_i32_57
  v133
def k0_mult5 (i : grid0.Coords) : BitVec 32 :=
  let c89_i32_65 : BitVec 32 := 89#32
  let c0_i32_64 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c1_i32_61 : BitVec 32 := 1#32
  let v142 : BitVec 32 := Scalar.addi v125 c1_i32_61
  let v147 : BitVec 32 := Scalar.maxsi c0_i32_64 v142
  let v148 : BitVec 32 := Scalar.minsi c89_i32_65 v147
  let c160_i32_66 : BitVec 32 := 160#32
  let v149 : BitVec 32 := Scalar.muli v148 c160_i32_66
  v149
def k0_mult6 (i : grid0.Coords) : BitVec 32 :=
  let c89_i32_74 : BitVec 32 := 89#32
  let c0_i32_73 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c2_i32_70 : BitVec 32 := 2#32
  let v158 : BitVec 32 := Scalar.addi v125 c2_i32_70
  let v163 : BitVec 32 := Scalar.maxsi c0_i32_73 v158
  let v164 : BitVec 32 := Scalar.minsi c89_i32_74 v163
  let c160_i32_75 : BitVec 32 := 160#32
  let v165 : BitVec 32 := Scalar.muli v164 c160_i32_75
  v165
def k0_mult7 (i : grid0.Coords) : BitVec 32 :=
  let c89_i32_117 : BitVec 32 := 89#32
  let c0_i32_116 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c0_i32_113 : BitVec 32 := 0#32
  let v247 : BitVec 32 := Scalar.addi v246 c0_i32_113
  let v252 : BitVec 32 := Scalar.maxsi c0_i32_116 v247
  let v253 : BitVec 32 := Scalar.minsi c89_i32_117 v252
  let c160_i32_118 : BitVec 32 := 160#32
  let v254 : BitVec 32 := Scalar.muli v253 c160_i32_118
  v254
def k0_mult8 (i : grid0.Coords) : BitVec 32 :=
  let c89_i32_126 : BitVec 32 := 89#32
  let c0_i32_125 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c1_i32_122 : BitVec 32 := 1#32
  let v263 : BitVec 32 := Scalar.addi v246 c1_i32_122
  let v268 : BitVec 32 := Scalar.maxsi c0_i32_125 v263
  let v269 : BitVec 32 := Scalar.minsi c89_i32_126 v268
  let c160_i32_127 : BitVec 32 := 160#32
  let v270 : BitVec 32 := Scalar.muli v269 c160_i32_127
  v270
def k0_mult9 (i : grid0.Coords) : BitVec 32 :=
  let c89_i32_135 : BitVec 32 := 89#32
  let c0_i32_134 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c2_i32_131 : BitVec 32 := 2#32
  let v279 : BitVec 32 := Scalar.addi v246 c2_i32_131
  let v284 : BitVec 32 := Scalar.maxsi c0_i32_134 v279
  let v285 : BitVec 32 := Scalar.minsi c89_i32_135 v284
  let c160_i32_136 : BitVec 32 := 160#32
  let v286 : BitVec 32 := Scalar.muli v285 c160_i32_136
  v286
def k0_mult10 (i : grid0.Coords) : BitVec 32 :=
  let c89_i32_178 : BitVec 32 := 89#32
  let c0_i32_177 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c0_i32_174 : BitVec 32 := 0#32
  let v368 : BitVec 32 := Scalar.addi v367 c0_i32_174
  let v373 : BitVec 32 := Scalar.maxsi c0_i32_177 v368
  let v374 : BitVec 32 := Scalar.minsi c89_i32_178 v373
  let c160_i32_179 : BitVec 32 := 160#32
  let v375 : BitVec 32 := Scalar.muli v374 c160_i32_179
  v375
def k0_mult11 (i : grid0.Coords) : BitVec 32 :=
  let c89_i32_187 : BitVec 32 := 89#32
  let c0_i32_186 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c1_i32_183 : BitVec 32 := 1#32
  let v384 : BitVec 32 := Scalar.addi v367 c1_i32_183
  let v389 : BitVec 32 := Scalar.maxsi c0_i32_186 v384
  let v390 : BitVec 32 := Scalar.minsi c89_i32_187 v389
  let c160_i32_188 : BitVec 32 := 160#32
  let v391 : BitVec 32 := Scalar.muli v390 c160_i32_188
  v391
def k0_mult12 (i : grid0.Coords) : BitVec 32 :=
  let c89_i32_196 : BitVec 32 := 89#32
  let c0_i32_195 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c2_i32_192 : BitVec 32 := 2#32
  let v400 : BitVec 32 := Scalar.addi v367 c2_i32_192
  let v405 : BitVec 32 := Scalar.maxsi c0_i32_195 v400
  let v406 : BitVec 32 := Scalar.minsi c89_i32_196 v405
  let c160_i32_197 : BitVec 32 := 160#32
  let v407 : BitVec 32 := Scalar.muli v406 c160_i32_197
  v407
def k0_mult13 (i : grid0.Coords) : BitVec 32 :=
  let c89_i32_239 : BitVec 32 := 89#32
  let c0_i32_238 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c0_i32_235 : BitVec 32 := 0#32
  let v489 : BitVec 32 := Scalar.addi v488 c0_i32_235
  let v494 : BitVec 32 := Scalar.maxsi c0_i32_238 v489
  let v495 : BitVec 32 := Scalar.minsi c89_i32_239 v494
  let c160_i32_240 : BitVec 32 := 160#32
  let v496 : BitVec 32 := Scalar.muli v495 c160_i32_240
  v496
def k0_mult14 (i : grid0.Coords) : BitVec 32 :=
  let c89_i32_248 : BitVec 32 := 89#32
  let c0_i32_247 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c1_i32_244 : BitVec 32 := 1#32
  let v505 : BitVec 32 := Scalar.addi v488 c1_i32_244
  let v510 : BitVec 32 := Scalar.maxsi c0_i32_247 v505
  let v511 : BitVec 32 := Scalar.minsi c89_i32_248 v510
  let c160_i32_249 : BitVec 32 := 160#32
  let v512 : BitVec 32 := Scalar.muli v511 c160_i32_249
  v512
def k0_mult15 (i : grid0.Coords) : BitVec 32 :=
  let c89_i32_257 : BitVec 32 := 89#32
  let c0_i32_256 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c2_i32_253 : BitVec 32 := 2#32
  let v521 : BitVec 32 := Scalar.addi v488 c2_i32_253
  let v526 : BitVec 32 := Scalar.maxsi c0_i32_256 v521
  let v527 : BitVec 32 := Scalar.minsi c89_i32_257 v526
  let c160_i32_258 : BitVec 32 := 160#32
  let v528 : BitVec 32 := Scalar.muli v527 c160_i32_258
  v528
def k0_mult16 (i : grid0.Coords) : BitVec 32 :=
  let c89_i32_300 : BitVec 32 := 89#32
  let c0_i32_299 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c0_i32_296 : BitVec 32 := 0#32
  let v610 : BitVec 32 := Scalar.addi v609 c0_i32_296
  let v615 : BitVec 32 := Scalar.maxsi c0_i32_299 v610
  let v616 : BitVec 32 := Scalar.minsi c89_i32_300 v615
  let c160_i32_301 : BitVec 32 := 160#32
  let v617 : BitVec 32 := Scalar.muli v616 c160_i32_301
  v617
def k0_mult17 (i : grid0.Coords) : BitVec 32 :=
  let c89_i32_309 : BitVec 32 := 89#32
  let c0_i32_308 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c1_i32_305 : BitVec 32 := 1#32
  let v626 : BitVec 32 := Scalar.addi v609 c1_i32_305
  let v631 : BitVec 32 := Scalar.maxsi c0_i32_308 v626
  let v632 : BitVec 32 := Scalar.minsi c89_i32_309 v631
  let c160_i32_310 : BitVec 32 := 160#32
  let v633 : BitVec 32 := Scalar.muli v632 c160_i32_310
  v633
def k0_mult18 (i : grid0.Coords) : BitVec 32 :=
  let c89_i32_318 : BitVec 32 := 89#32
  let c0_i32_317 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c2_i32_314 : BitVec 32 := 2#32
  let v642 : BitVec 32 := Scalar.addi v609 c2_i32_314
  let v647 : BitVec 32 := Scalar.maxsi c0_i32_317 v642
  let v648 : BitVec 32 := Scalar.minsi c89_i32_318 v647
  let c160_i32_319 : BitVec 32 := 160#32
  let v649 : BitVec 32 := Scalar.muli v648 c160_i32_319
  v649
def k0_mult19 (i : grid0.Coords) : BitVec 32 :=
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c0_i32_357 : BitVec 32 := 0#32
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  v738
def k0_off3 (i : grid0.Coords) (c0_i32_355 : BitVec 32) (c0_i32_357 : BitVec 32) : Fin 3 → Nat :=
  let c0_363 : Index := 0#32
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let v729 : BitVec 32 := Scalar.addi v728 c0_i32_355
  let c1_i32_356 : BitVec 32 := 1#32
  let v730 : BitVec 32 := Scalar.subi v729 c1_i32_356
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  let v739 : BitVec 32 := v738
  let v740 : Index := Scalar.indexCast v739
  let c0_364 : Index := 0#32
  ![0, v740.toNat, 0]
def k0_mult20 (i : grid0.Coords) : BitVec 32 :=
  let c89_i32_370 : BitVec 32 := 89#32
  let c0_i32_369 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c1_i32_365 : BitVec 32 := 1#32
  let v747 : BitVec 32 := Scalar.addi v730 c1_i32_365
  let v752 : BitVec 32 := Scalar.maxsi c0_i32_369 v747
  let v753 : BitVec 32 := Scalar.minsi c89_i32_370 v752
  let c160_i32_371 : BitVec 32 := 160#32
  let v754 : BitVec 32 := Scalar.muli v753 c160_i32_371
  v754
def k0_mult21 (i : grid0.Coords) : BitVec 32 :=
  let c89_i32_379 : BitVec 32 := 89#32
  let c0_i32_378 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c2_i32_374 : BitVec 32 := 2#32
  let v763 : BitVec 32 := Scalar.addi v730 c2_i32_374
  let v768 : BitVec 32 := Scalar.maxsi c0_i32_378 v763
  let v769 : BitVec 32 := Scalar.minsi c89_i32_379 v768
  let c160_i32_380 : BitVec 32 := 160#32
  let v770 : BitVec 32 := Scalar.muli v769 c160_i32_380
  v770
def k0_mult22 (i : grid0.Coords) : BitVec 32 :=
  let c89_i32_422 : BitVec 32 := 89#32
  let c0_i32_421 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c0_i32_417 : BitVec 32 := 0#32
  let v852 : BitVec 32 := Scalar.addi v851 c0_i32_417
  let v857 : BitVec 32 := Scalar.maxsi c0_i32_421 v852
  let v858 : BitVec 32 := Scalar.minsi c89_i32_422 v857
  let c160_i32_423 : BitVec 32 := 160#32
  let v859 : BitVec 32 := Scalar.muli v858 c160_i32_423
  v859
def k0_mult23 (i : grid0.Coords) : BitVec 32 :=
  let c89_i32_431 : BitVec 32 := 89#32
  let c0_i32_430 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c1_i32_426 : BitVec 32 := 1#32
  let v868 : BitVec 32 := Scalar.addi v851 c1_i32_426
  let v873 : BitVec 32 := Scalar.maxsi c0_i32_430 v868
  let v874 : BitVec 32 := Scalar.minsi c89_i32_431 v873
  let c160_i32_432 : BitVec 32 := 160#32
  let v875 : BitVec 32 := Scalar.muli v874 c160_i32_432
  v875
def k0_mult24 (i : grid0.Coords) : BitVec 32 :=
  let c89_i32_440 : BitVec 32 := 89#32
  let c0_i32_439 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c2_i32_435 : BitVec 32 := 2#32
  let v884 : BitVec 32 := Scalar.addi v851 c2_i32_435
  let v889 : BitVec 32 := Scalar.maxsi c0_i32_439 v884
  let v890 : BitVec 32 := Scalar.minsi c89_i32_440 v889
  let c160_i32_441 : BitVec 32 := 160#32
  let v891 : BitVec 32 := Scalar.muli v890 c160_i32_441
  v891
def k0_mult25 (i : grid0.Coords) : BitVec 32 :=
  let c89_i32_483 : BitVec 32 := 89#32
  let c0_i32_482 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c0_i32_478 : BitVec 32 := 0#32
  let v973 : BitVec 32 := Scalar.addi v972 c0_i32_478
  let v978 : BitVec 32 := Scalar.maxsi c0_i32_482 v973
  let v979 : BitVec 32 := Scalar.minsi c89_i32_483 v978
  let c160_i32_484 : BitVec 32 := 160#32
  let v980 : BitVec 32 := Scalar.muli v979 c160_i32_484
  v980
def k0_mult26 (i : grid0.Coords) : BitVec 32 :=
  let c89_i32_492 : BitVec 32 := 89#32
  let c0_i32_491 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c1_i32_487 : BitVec 32 := 1#32
  let v989 : BitVec 32 := Scalar.addi v972 c1_i32_487
  let v994 : BitVec 32 := Scalar.maxsi c0_i32_491 v989
  let v995 : BitVec 32 := Scalar.minsi c89_i32_492 v994
  let c160_i32_493 : BitVec 32 := 160#32
  let v996 : BitVec 32 := Scalar.muli v995 c160_i32_493
  v996
def k0_mult27 (i : grid0.Coords) : BitVec 32 :=
  let c89_i32_501 : BitVec 32 := 89#32
  let c0_i32_500 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c2_i32_496 : BitVec 32 := 2#32
  let v1005 : BitVec 32 := Scalar.addi v972 c2_i32_496
  let v1010 : BitVec 32 := Scalar.maxsi c0_i32_500 v1005
  let v1011 : BitVec 32 := Scalar.minsi c89_i32_501 v1010
  let c160_i32_502 : BitVec 32 := 160#32
  let v1012 : BitVec 32 := Scalar.muli v1011 c160_i32_502
  v1012
def k0_mult28 (i : grid0.Coords) : BitVec 32 :=
  let arg1 : BitVec 32 := BitVec.ofNat 32 (i 1).val
  let c480_i32 : BitVec 32 := 480#32
  let v1102 : BitVec 32 := Scalar.muli arg1 c480_i32
  v1102
def k0_off4 (i : grid0.Coords) : Fin 4 → Nat :=
  let c0_541 : Index := 0#32
  let c0_542 : Index := 0#32
  let arg1 : BitVec 32 := BitVec.ofNat 32 (i 1).val
  let c480_i32 : BitVec 32 := 480#32
  let v1102 : BitVec 32 := Scalar.muli arg1 c480_i32
  let v1103 : BitVec 32 := v1102
  let v1104 : Index := Scalar.indexCast v1103
  let c0_543 : Index := 0#32
  ![0, 0, v1104.toNat, 0]
def k0_off5 (i : grid0.Coords) : Fin 3 → Nat :=
  let c0_548 : Index := 0#32
  let arg1 : BitVec 32 := BitVec.ofNat 32 (i 1).val
  let c480_i32 : BitVec 32 := 480#32
  let v1102 : BitVec 32 := Scalar.muli arg1 c480_i32
  let v1103 : BitVec 32 := v1102
  let v1115 : Index := Scalar.indexCast v1103
  let c0_549 : Index := 0#32
  ![0, v1115.toNat, 0]
def cc0_transform_0 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x14400x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x14400x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x14400x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S27x384x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x480x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x480x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x480x384 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x480x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ConvMidRefIdeal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S4x1x1x1x1 : Shape := ⟨5, ![4, 1, 1, 1, 1]⟩
abbrev S4x1 : Shape := ⟨2, ![4, 1]⟩
abbrev S4x2x90x160x384 : Shape := ⟨5, ![4, 2, 90, 160, 384]⟩
abbrev S4x3x90x160x384 : Shape := ⟨5, ![4, 3, 90, 160, 384]⟩
abbrev S4x3x92x162x384 : Shape := ⟨5, ![4, 3, 92, 162, 384]⟩
abbrev S1x384 : Shape := ⟨2, ![1, 384]⟩
abbrev S1x1 : Shape := ⟨2, ![1, 1]⟩
abbrev S4x2x14400x384 : Shape := ⟨4, ![4, 2, 14400, 384]⟩
abbrev S4x14400x384 : Shape := ⟨3, ![4, 14400, 384]⟩
abbrev S57600x384 : Shape := ⟨2, ![57600, 384]⟩
abbrev S1x1x1x384x384 : Shape := ⟨5, ![1, 1, 1, 384, 384]⟩
abbrev S384x384 : Shape := ⟨2, ![384, 384]⟩
abbrev S57600 : Shape := ⟨1, ![57600]⟩
abbrev S57600x1 : Shape := ⟨2, ![57600, 1]⟩
abbrev S115200x384 : Shape := ⟨2, ![115200, 384]⟩

abbrev nBuf : Space → Nat
  | .hbm => 39
  | .vmem => 12
  | .smem => 0
  | _ => 0

abbrev bufTy : (tb : Table) → Fin (tcTables nBuf tb) → BufTy
  | .hbm, ⟨0, _⟩ => ⟨S4, .i32⟩
  | .hbm, ⟨1, _⟩ => ⟨S4, .i32⟩
  | .hbm, ⟨2, _⟩ => ⟨S6x2x90x160x384, .i8⟩
  | .hbm, ⟨3, _⟩ => ⟨S4x1x90x160x384, .i8⟩
  | .hbm, ⟨4, _⟩ => ⟨S3x3x3x384x384, .fp8e4m3⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S384, .f32⟩
  | .hbm, ⟨9, _⟩ => ⟨S_, .f32⟩
  | .hbm, ⟨10, _⟩ => ⟨S4x1x90x160x384, .bf16⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S4x1x1x1x1, .i1⟩
  | .hbm, ⟨15, _⟩ => ⟨S_, .i32⟩
  | .hbm, ⟨16, _⟩ => ⟨S4, .i32⟩
  | .hbm, ⟨17, _⟩ => ⟨S4, .i1⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i32⟩
  | .hbm, ⟨22, _⟩ => ⟨S4x1, .i32⟩
  | .hbm, ⟨23, _⟩ => ⟨S4x2x90x160x384, .i8⟩
  | .hbm, ⟨24, _⟩ => ⟨S_, .i8⟩
  | .hbm, ⟨25, _⟩ => ⟨S4x2x90x160x384, .i1⟩
  | .hbm, ⟨26, _⟩ => ⟨S4x2x90x160x384, .i8⟩
  | .hbm, ⟨27, _⟩ => ⟨S4x2x90x160x384, .i8⟩
  | .hbm, ⟨28, _⟩ => ⟨S4x3x90x160x384, .i8⟩
  | .hbm, ⟨29, _⟩ => ⟨S_, .i8⟩
  | .hbm, ⟨30, _⟩ => ⟨S4x3x92x162x384, .i8⟩
  | .hbm, ⟨31, _⟩ => ⟨S1x384, .f32⟩
  | .hbm, ⟨32, _⟩ => ⟨S1x384, .f32⟩
  | .hbm, ⟨33, _⟩ => ⟨S1x1, .f32⟩
  | .hbm, ⟨34, _⟩ => ⟨S1x384, .f32⟩
  | .hbm, ⟨35, _⟩ => ⟨S1x1, .f32⟩
  | .hbm, ⟨36, _⟩ => ⟨S4x2x14400x384, .fp8e4m3⟩
  | .hbm, ⟨37, _⟩ => ⟨S4x14400x384, .fp8e4m3⟩
  | .hbm, ⟨38, _⟩ => ⟨S4x14400x384, .f32⟩
  | .local _ .vmem, ⟨0, _⟩ => ⟨S4x3x90x160x384, .i8⟩
  | .local _ .vmem, ⟨1, _⟩ => ⟨S4x3x92x162x384, .i8⟩
  | .local _ .vmem, ⟨2, _⟩ => ⟨S3x3x3x384x384, .fp8e4m3⟩
  | .local _ .vmem, ⟨3, _⟩ => ⟨S1x384, .f32⟩
  | .local _ .vmem, ⟨4, _⟩ => ⟨S1x384, .f32⟩
  | .local _ .vmem, ⟨5, _⟩ => ⟨S1x1, .f32⟩
  | .local _ .vmem, ⟨6, _⟩ => ⟨S1x384, .f32⟩
  | .local _ .vmem, ⟨7, _⟩ => ⟨S1x1, .f32⟩
  | .local _ .vmem, ⟨8, _⟩ => ⟨S4x1x90x160x384, .bf16⟩
  | .local _ .vmem, ⟨9, _⟩ => ⟨S4x2x14400x384, .fp8e4m3⟩
  | .local _ .vmem, ⟨10, _⟩ => ⟨S4x14400x384, .fp8e4m3⟩
  | .local _ .vmem, ⟨11, _⟩ => ⟨S4x14400x384, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x3x90x160x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x92x162x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x3x384x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x90x160x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2x14400x384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14400x384 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x14400x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ConvLast.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S6x2x14400x384 : Shape := ⟨4, ![6, 2, 14400, 384]⟩
abbrev S4x14400x384 : Shape := ⟨3, ![4, 14400, 384]⟩
abbrev S27x384x384 : Shape := ⟨3, ![27, 384, 384]⟩
abbrev S1x384 : Shape := ⟨2, ![1, 384]⟩
abbrev S1 : Shape := ⟨1, ![1]⟩
abbrev S4x2x14400x384 : Shape := ⟨4, ![4, 2, 14400, 384]⟩
abbrev S1x1x14400x384 : Shape := ⟨4, ![1, 1, 14400, 384]⟩
abbrev S1x14400x384 : Shape := ⟨3, ![1, 14400, 384]⟩
abbrev S1x480x384 : Shape := ⟨3, ![1, 480, 384]⟩
abbrev S1x2x480x384 : Shape := ⟨4, ![1, 2, 480, 384]⟩
abbrev S1x1x160x384 : Shape := ⟨4, ![1, 1, 160, 384]⟩
abbrev S160x384 : Shape := ⟨2, ![160, 384]⟩
abbrev S40x384 : Shape := ⟨2, ![40, 384]⟩
abbrev S120x384 : Shape := ⟨2, ![120, 384]⟩
abbrev S480x384 : Shape := ⟨2, ![480, 384]⟩
abbrev S1x384x384 : Shape := ⟨3, ![1, 384, 384]⟩
abbrev S384x384 : Shape := ⟨2, ![384, 384]⟩
abbrev S1x160x384 : Shape := ⟨3, ![1, 160, 384]⟩
abbrev S1x1x480x384 : Shape := ⟨4, ![1, 1, 480, 384]⟩

abbrev nBuf : Space → Nat
  | .hbm => 21
  | .vmem => 18
  | .smem => 4
  | _ => 0

abbrev bufTy : (tb : Table) → Fin (tcTables nBuf tb) → BufTy
  | .hbm, ⟨0, _⟩ => ⟨S6x2x90x160x384, .i8⟩
  | .hbm, ⟨1, _⟩ => ⟨S4x1x90x160x384, .i8⟩
  | .hbm, ⟨2, _⟩ => ⟨S3x3x3x384x384, .fp8e4m3⟩
  | .hbm, ⟨3, _⟩ => ⟨S384, .f32⟩
  | .hbm, ⟨4, _⟩ => ⟨S384, .f32⟩
  | .hbm, ⟨5, _⟩ => ⟨S_, .f32⟩
  | .hbm, ⟨6, _⟩ => ⟨S384, .f32⟩
  | .hbm, ⟨7, _⟩ => ⟨S_, .f32⟩
  | .hbm, ⟨8, _⟩ => ⟨S4x1x90x160x384, .f32⟩
  | .hbm, ⟨9, _⟩ => ⟨S6x2x14400x384, .i8⟩
  | .hbm, ⟨10, _⟩ => ⟨S4x14400x384, .i8⟩
  | .hbm, ⟨11, _⟩ => ⟨S27x384x384, .fp8e4m3⟩
  | .hbm, ⟨12, _⟩ => ⟨S1x384, .f32⟩
  | .hbm, ⟨13, _⟩ => ⟨S1x384, .f32⟩
  | .hbm, ⟨14, _⟩ => ⟨S1, .f32⟩
  | .hbm, ⟨15, _⟩ => ⟨S1x384, .f32⟩
  | .hbm, ⟨16, _⟩ => ⟨S1, .f32⟩
  | .hbm, ⟨17, _⟩ => ⟨S4x14400x384, .f32⟩
  | .hbm, ⟨18, _⟩ => ⟨S4x2x14400x384, .fp8e4m3⟩
  | .hbm, ⟨19, _⟩ => ⟨S4x14400x384, .fp8e4m3⟩
  | .hbm, ⟨20, _⟩ => ⟨S4x14400x384, .f32⟩
  | .local _ .vmem, ⟨0, _⟩ => ⟨S1x1x14400x384, .i8⟩
  | .local _ .vmem, ⟨1, _⟩ => ⟨S1x1x14400x384, .i8⟩
  | .local _ .vmem, ⟨2, _⟩ => ⟨S1x1x14400x384, .i8⟩
  | .local _ .vmem, ⟨3, _⟩ => ⟨S1x1x14400x384, .i8⟩
  | .local _ .vmem, ⟨4, _⟩ => ⟨S1x14400x384, .i8⟩
  | .local _ .vmem, ⟨5, _⟩ => ⟨S1x14400x384, .i8⟩
  | .local _ .vmem, ⟨6, _⟩ => ⟨S27x384x384, .fp8e4m3⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S1x480x384, .f32⟩
  | .local _ .vmem, ⟨11, _⟩ => ⟨S1x480x384, .f32⟩
  | .local _ .vmem, ⟨12, _⟩ => ⟨S1x2x480x384, .fp8e4m3⟩
  | .local _ .vmem, ⟨13, _⟩ => ⟨S1x2x480x384, .fp8e4m3⟩
  | .local _ .vmem, ⟨14, _⟩ => ⟨S1x480x384, .fp8e4m3⟩
  | .local _ .vmem, ⟨15, _⟩ => ⟨S1x480x384, .fp8e4m3⟩
  | .local _ .vmem, ⟨16, _⟩ => ⟨S1x480x384, .f32⟩
  | .local _ .vmem, ⟨17, _⟩ => ⟨S1x480x384, .f32⟩
  | .local _ .smem, ⟨0, _⟩ => ⟨S4, .i32⟩
  | .local _ .smem, ⟨1, _⟩ => ⟨S4, .i32⟩
  | .local _ .smem, ⟨2, _⟩ => ⟨S1, .f32⟩
  | .local _ .smem, ⟨3, _⟩ => ⟨S1, .f32⟩
  | _, _ => ⟨S6x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 30], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c0_i32_1 : BitVec 32 := 0#32
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  v13
def k0_off2 (i : grid0.Coords) (c0_i32 : BitVec 32) (c0_i32_1 : BitVec 32) : Fin 4 → Nat :=
  let c0 : Index := 0#32
  let c0_4 : Index := 0#32
  let c89_i32 : BitVec 32 := 89#32
  let c0_i32_3 : BitVec 32 := 0#32
  let arg1 : BitVec 32 := BitVec.ofNat 32 (i 1).val
  let c3_i32 : BitVec 32 := 3#32
  let v3 : BitVec 32 := Scalar.muli arg1 c3_i32
  let v4 : BitVec 32 := Scalar.addi v3 c0_i32
  let c1_i32_0 : BitVec 32 := 1#32
  let v5 : BitVec 32 := Scalar.subi v4 c1_i32_0
  let v6 : BitVec 32 := Scalar.addi v5 c0_i32_1
  let v11 : BitVec 32 := Scalar.maxsi c0_i32_3 v6
  let v12 : BitVec 32 := Scalar.minsi c89_i32 v11
  let c160_i32 : BitVec 32 := 160#32
  let v13 : BitVec 32 := Scalar.muli v12 c160_i32
  let v14 : BitVec 32 := v13
  let v15 : Index := Scalar.indexCast v14
  let c0_5 : Index := 0#32
  ![0, 0, v15.toNat, 0]
def k0_mult2 (i : grid0.Coords) : BitVec 32 :=
  let c89_i32_10 : BitVec 32 := 89#32
  let c0_i32_9 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c1_i32_6 : BitVec 32 := 1#32
  let v22 : BitVec 32 := Scalar.addi v5 c1_i32_6
  let v27 : BitVec 32 := Scalar.maxsi c0_i32_9 v22
  let v28 : BitVec 32 := Scalar.minsi c89_i32_10 v27
  let c160_i32_11 : BitVec 32 := 160#32
  let v29 : BitVec 32 := Scalar.muli v28 c160_i32_11
  v29
def k0_mult3 (i : grid0.Coords) : BitVec 32 :=
  let c89_i32_18 : BitVec 32 := 89#32
  let c0_i32_17 : BitVec 32 := 0#32
  let arg1 : BitVec 32 := BitVec.ofNat 32 (i 1).val
  let c3_i32 : BitVec 32 := 3#32
  let v3 : BitVec 32 := Scalar.muli arg1 c3_i32
  let c0_i32 : BitVec 32 := 0#32
  let v4 : BitVec 32 := Scalar.addi v3 c0_i32
  let c1_i32_0 : BitVec 32 := 1#32
  let v5 : BitVec 32 := Scalar.subi v4 c1_i32_0
  let c2_i32 : BitVec 32 := 2#32
  let v38 : BitVec 32 := Scalar.addi v5 c2_i32
  let v43 : BitVec 32 := Scalar.maxsi c0_i32_17 v38
  let v44 : BitVec 32 := Scalar.minsi c89_i32_18 v43
  let c160_i32_19 : BitVec 32 := 160#32
  let v45 : BitVec 32 := Scalar.muli v44 c160_i32_19
  v45
def k0_mult4 (i : grid0.Coords) : BitVec 32 :=
  let c89_i32_56 : BitVec 32 := 89#32
  let c0_i32_55 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c0_i32_52 : BitVec 32 := 0#32
  let v126 : BitVec 32 := Scalar.addi v125 c0_i32_52
  let v131 : BitVec 32 := Scalar.maxsi c0_i32_55 v126
  let v132 : BitVec 32 := Scalar.minsi c89_i32_56 v131
  let c160_i32_57 : BitVec 32 := 160#32
  let v133 : BitVec 32 := Scalar.muli v132 c160_i32_57
  v133
def k0_mult5 (i : grid0.Coords) : BitVec 32 :=
  let c89_i32_65 : BitVec 32 := 89#32
  let c0_i32_64 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c1_i32_61 : BitVec 32 := 1#32
  let v142 : BitVec 32 := Scalar.addi v125 c1_i32_61
  let v147 : BitVec 32 := Scalar.maxsi c0_i32_64 v142
  let v148 : BitVec 32 := Scalar.minsi c89_i32_65 v147
  let c160_i32_66 : BitVec 32 := 160#32
  let v149 : BitVec 32 := Scalar.muli v148 c160_i32_66
  v149
def k0_mult6 (i : grid0.Coords) : BitVec 32 :=
  let c89_i32_74 : BitVec 32 := 89#32
  let c0_i32_73 : BitVec 32 := 0#32
  let arg1 : BitVec 32 := BitVec.ofNat 32 (i 1).val
  let c3_i32_49 : BitVec 32 := 3#32
  let v123 : BitVec 32 := Scalar.muli arg1 c3_i32_49
  let c1_i32_50 : BitVec 32 := 1#32
  let v124 : BitVec 32 := Scalar.addi v123 c1_i32_50
  let c1_i32_51 : BitVec 32 := 1#32
  let v125 : BitVec 32 := Scalar.subi v124 c1_i32_51
  let c2_i32_70 : BitVec 32 := 2#32
  let v158 : BitVec 32 := Scalar.addi v125 c2_i32_70
  let v163 : BitVec 32 := Scalar.maxsi c0_i32_73 v158
  let v164 : BitVec 32 := Scalar.minsi c89_i32_74 v163
  let c160_i32_75 : BitVec 32 := 160#32
  let v165 : BitVec 32 := Scalar.muli v164 c160_i32_75
  v165
def k0_mult7 (i : grid0.Coords) : BitVec 32 :=
  let c89_i32_117 : BitVec 32 := 89#32
  let c0_i32_116 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c0_i32_113 : BitVec 32 := 0#32
  let v247 : BitVec 32 := Scalar.addi v246 c0_i32_113
  let v252 : BitVec 32 := Scalar.maxsi c0_i32_116 v247
  let v253 : BitVec 32 := Scalar.minsi c89_i32_117 v252
  let c160_i32_118 : BitVec 32 := 160#32
  let v254 : BitVec 32 := Scalar.muli v253 c160_i32_118
  v254
def k0_mult8 (i : grid0.Coords) : BitVec 32 :=
  let c89_i32_126 : BitVec 32 := 89#32
  let c0_i32_125 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c1_i32_122 : BitVec 32 := 1#32
  let v263 : BitVec 32 := Scalar.addi v246 c1_i32_122
  let v268 : BitVec 32 := Scalar.maxsi c0_i32_125 v263
  let v269 : BitVec 32 := Scalar.minsi c89_i32_126 v268
  let c160_i32_127 : BitVec 32 := 160#32
  let v270 : BitVec 32 := Scalar.muli v269 c160_i32_127
  v270
def k0_mult9 (i : grid0.Coords) : BitVec 32 :=
  let c89_i32_135 : BitVec 32 := 89#32
  let c0_i32_134 : BitVec 32 := 0#32
  let arg1 : BitVec 32 := BitVec.ofNat 32 (i 1).val
  let c3_i32_110 : BitVec 32 := 3#32
  let v244 : BitVec 32 := Scalar.muli arg1 c3_i32_110
  let c2_i32_111 : BitVec 32 := 2#32
  let v245 : BitVec 32 := Scalar.addi v244 c2_i32_111
  let c1_i32_112 : BitVec 32 := 1#32
  let v246 : BitVec 32 := Scalar.subi v245 c1_i32_112
  let c2_i32_131 : BitVec 32 := 2#32
  let v279 : BitVec 32 := Scalar.addi v246 c2_i32_131
  let v284 : BitVec 32 := Scalar.maxsi c0_i32_134 v279
  let v285 : BitVec 32 := Scalar.minsi c89_i32_135 v284
  let c160_i32_136 : BitVec 32 := 160#32
  let v286 : BitVec 32 := Scalar.muli v285 c160_i32_136
  v286
def k0_mult10 (i : grid0.Coords) : BitVec 32 :=
  let c89_i32_178 : BitVec 32 := 89#32
  let c0_i32_177 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c0_i32_174 : BitVec 32 := 0#32
  let v368 : BitVec 32 := Scalar.addi v367 c0_i32_174
  let v373 : BitVec 32 := Scalar.maxsi c0_i32_177 v368
  let v374 : BitVec 32 := Scalar.minsi c89_i32_178 v373
  let c160_i32_179 : BitVec 32 := 160#32
  let v375 : BitVec 32 := Scalar.muli v374 c160_i32_179
  v375
def k0_mult11 (i : grid0.Coords) : BitVec 32 :=
  let c89_i32_187 : BitVec 32 := 89#32
  let c0_i32_186 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c1_i32_183 : BitVec 32 := 1#32
  let v384 : BitVec 32 := Scalar.addi v367 c1_i32_183
  let v389 : BitVec 32 := Scalar.maxsi c0_i32_186 v384
  let v390 : BitVec 32 := Scalar.minsi c89_i32_187 v389
  let c160_i32_188 : BitVec 32 := 160#32
  let v391 : BitVec 32 := Scalar.muli v390 c160_i32_188
  v391
def k0_mult12 (i : grid0.Coords) : BitVec 32 :=
  let c89_i32_196 : BitVec 32 := 89#32
  let c0_i32_195 : BitVec 32 := 0#32
  let arg1 : BitVec 32 := BitVec.ofNat 32 (i 1).val
  let c3_i32_171 : BitVec 32 := 3#32
  let v365 : BitVec 32 := Scalar.muli arg1 c3_i32_171
  let c0_i32_172 : BitVec 32 := 0#32
  let v366 : BitVec 32 := Scalar.addi v365 c0_i32_172
  let c1_i32_173 : BitVec 32 := 1#32
  let v367 : BitVec 32 := Scalar.subi v366 c1_i32_173
  let c2_i32_192 : BitVec 32 := 2#32
  let v400 : BitVec 32 := Scalar.addi v367 c2_i32_192
  let v405 : BitVec 32 := Scalar.maxsi c0_i32_195 v400
  let v406 : BitVec 32 := Scalar.minsi c89_i32_196 v405
  let c160_i32_197 : BitVec 32 := 160#32
  let v407 : BitVec 32 := Scalar.muli v406 c160_i32_197
  v407
def k0_mult13 (i : grid0.Coords) : BitVec 32 :=
  let c89_i32_239 : BitVec 32 := 89#32
  let c0_i32_238 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c0_i32_235 : BitVec 32 := 0#32
  let v489 : BitVec 32 := Scalar.addi v488 c0_i32_235
  let v494 : BitVec 32 := Scalar.maxsi c0_i32_238 v489
  let v495 : BitVec 32 := Scalar.minsi c89_i32_239 v494
  let c160_i32_240 : BitVec 32 := 160#32
  let v496 : BitVec 32 := Scalar.muli v495 c160_i32_240
  v496
def k0_mult14 (i : grid0.Coords) : BitVec 32 :=
  let c89_i32_248 : BitVec 32 := 89#32
  let c0_i32_247 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c1_i32_244 : BitVec 32 := 1#32
  let v505 : BitVec 32 := Scalar.addi v488 c1_i32_244
  let v510 : BitVec 32 := Scalar.maxsi c0_i32_247 v505
  let v511 : BitVec 32 := Scalar.minsi c89_i32_248 v510
  let c160_i32_249 : BitVec 32 := 160#32
  let v512 : BitVec 32 := Scalar.muli v511 c160_i32_249
  v512
def k0_mult15 (i : grid0.Coords) : BitVec 32 :=
  let c89_i32_257 : BitVec 32 := 89#32
  let c0_i32_256 : BitVec 32 := 0#32
  let arg1 : BitVec 32 := BitVec.ofNat 32 (i 1).val
  let c3_i32_232 : BitVec 32 := 3#32
  let v486 : BitVec 32 := Scalar.muli arg1 c3_i32_232
  let c1_i32_233 : BitVec 32 := 1#32
  let v487 : BitVec 32 := Scalar.addi v486 c1_i32_233
  let c1_i32_234 : BitVec 32 := 1#32
  let v488 : BitVec 32 := Scalar.subi v487 c1_i32_234
  let c2_i32_253 : BitVec 32 := 2#32
  let v521 : BitVec 32 := Scalar.addi v488 c2_i32_253
  let v526 : BitVec 32 := Scalar.maxsi c0_i32_256 v521
  let v527 : BitVec 32 := Scalar.minsi c89_i32_257 v526
  let c160_i32_258 : BitVec 32 := 160#32
  let v528 : BitVec 32 := Scalar.muli v527 c160_i32_258
  v528
def k0_mult16 (i : grid0.Coords) : BitVec 32 :=
  let c89_i32_300 : BitVec 32 := 89#32
  let c0_i32_299 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c0_i32_296 : BitVec 32 := 0#32
  let v610 : BitVec 32 := Scalar.addi v609 c0_i32_296
  let v615 : BitVec 32 := Scalar.maxsi c0_i32_299 v610
  let v616 : BitVec 32 := Scalar.minsi c89_i32_300 v615
  let c160_i32_301 : BitVec 32 := 160#32
  let v617 : BitVec 32 := Scalar.muli v616 c160_i32_301
  v617
def k0_mult17 (i : grid0.Coords) : BitVec 32 :=
  let c89_i32_309 : BitVec 32 := 89#32
  let c0_i32_308 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c1_i32_305 : BitVec 32 := 1#32
  let v626 : BitVec 32 := Scalar.addi v609 c1_i32_305
  let v631 : BitVec 32 := Scalar.maxsi c0_i32_308 v626
  let v632 : BitVec 32 := Scalar.minsi c89_i32_309 v631
  let c160_i32_310 : BitVec 32 := 160#32
  let v633 : BitVec 32 := Scalar.muli v632 c160_i32_310
  v633
def k0_mult18 (i : grid0.Coords) : BitVec 32 :=
  let c89_i32_318 : BitVec 32 := 89#32
  let c0_i32_317 : BitVec 32 := 0#32
  let arg1 : BitVec 32 := BitVec.ofNat 32 (i 1).val
  let c3_i32_293 : BitVec 32 := 3#32
  let v607 : BitVec 32 := Scalar.muli arg1 c3_i32_293
  let c2_i32_294 : BitVec 32 := 2#32
  let v608 : BitVec 32 := Scalar.addi v607 c2_i32_294
  let c1_i32_295 : BitVec 32 := 1#32
  let v609 : BitVec 32 := Scalar.subi v608 c1_i32_295
  let c2_i32_314 : BitVec 32 := 2#32
  let v642 : BitVec 32 := Scalar.addi v609 c2_i32_314
  let v647 : BitVec 32 := Scalar.maxsi c0_i32_317 v642
  let v648 : BitVec 32 := Scalar.minsi c89_i32_318 v647
  let c160_i32_319 : BitVec 32 := 160#32
  let v649 : BitVec 32 := Scalar.muli v648 c160_i32_319
  v649
def k0_mult19 (i : grid0.Coords) : BitVec 32 :=
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c0_i32_357 : BitVec 32 := 0#32
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  v738
def k0_off3 (i : grid0.Coords) (c0_i32_355 : BitVec 32) (c0_i32_357 : BitVec 32) : Fin 3 → Nat :=
  let c0_363 : Index := 0#32
  let c89_i32_361 : BitVec 32 := 89#32
  let c0_i32_360 : BitVec 32 := 0#32
  let arg1 : BitVec 32 := BitVec.ofNat 32 (i 1).val
  let c3_i32_354 : BitVec 32 := 3#32
  let v728 : BitVec 32 := Scalar.muli arg1 c3_i32_354
  let v729 : BitVec 32 := Scalar.addi v728 c0_i32_355
  let c1_i32_356 : BitVec 32 := 1#32
  let v730 : BitVec 32 := Scalar.subi v729 c1_i32_356
  let v731 : BitVec 32 := Scalar.addi v730 c0_i32_357
  let v736 : BitVec 32 := Scalar.maxsi c0_i32_360 v731
  let v737 : BitVec 32 := Scalar.minsi c89_i32_361 v736
  let c160_i32_362 : BitVec 32 := 160#32
  let v738 : BitVec 32 := Scalar.muli v737 c160_i32_362
  let v739 : BitVec 32 := v738
  let v740 : Index := Scalar.indexCast v739
  let c0_364 : Index := 0#32
  ![0, v740.toNat, 0]
def k0_mult20 (i : grid0.Coords) : BitVec 32 :=
  let c89_i32_370 : BitVec 32 := 89#32
  let c0_i32_369 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c1_i32_365 : BitVec 32 := 1#32
  let v747 : BitVec 32 := Scalar.addi v730 c1_i32_365
  let v752 : BitVec 32 := Scalar.maxsi c0_i32_369 v747
  let v753 : BitVec 32 := Scalar.minsi c89_i32_370 v752
  let c160_i32_371 : BitVec 32 := 160#32
  let v754 : BitVec 32 := Scalar.muli v753 c160_i32_371
  v754
def k0_mult21 (i : grid0.Coords) : BitVec 32 :=
  let c89_i32_379 : BitVec 32 := 89#32
  let c0_i32_378 : BitVec 32 := 0#32
  let arg1 : BitVec 32 := BitVec.ofNat 32 (i 1).val
  let c3_i32_354 : BitVec 32 := 3#32
  let v728 : BitVec 32 := Scalar.muli arg1 c3_i32_354
  let c0_i32_355 : BitVec 32 := 0#32
  let v729 : BitVec 32 := Scalar.addi v728 c0_i32_355
  let c1_i32_356 : BitVec 32 := 1#32
  let v730 : BitVec 32 := Scalar.subi v729 c1_i32_356
  let c2_i32_374 : BitVec 32 := 2#32
  let v763 : BitVec 32 := Scalar.addi v730 c2_i32_374
  let v768 : BitVec 32 := Scalar.maxsi c0_i32_378 v763
  let v769 : BitVec 32 := Scalar.minsi c89_i32_379 v768
  let c160_i32_380 : BitVec 32 := 160#32
  let v770 : BitVec 32 := Scalar.muli v769 c160_i32_380
  v770
def k0_mult22 (i : grid0.Coords) : BitVec 32 :=
  let c89_i32_422 : BitVec 32 := 89#32
  let c0_i32_421 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c0_i32_417 : BitVec 32 := 0#32
  let v852 : BitVec 32 := Scalar.addi v851 c0_i32_417
  let v857 : BitVec 32 := Scalar.maxsi c0_i32_421 v852
  let v858 : BitVec 32 := Scalar.minsi c89_i32_422 v857
  let c160_i32_423 : BitVec 32 := 160#32
  let v859 : BitVec 32 := Scalar.muli v858 c160_i32_423
  v859
def k0_mult23 (i : grid0.Coords) : BitVec 32 :=
  let c89_i32_431 : BitVec 32 := 89#32
  let c0_i32_430 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c1_i32_426 : BitVec 32 := 1#32
  let v868 : BitVec 32 := Scalar.addi v851 c1_i32_426
  let v873 : BitVec 32 := Scalar.maxsi c0_i32_430 v868
  let v874 : BitVec 32 := Scalar.minsi c89_i32_431 v873
  let c160_i32_432 : BitVec 32 := 160#32
  let v875 : BitVec 32 := Scalar.muli v874 c160_i32_432
  v875
def k0_mult24 (i : grid0.Coords) : BitVec 32 :=
  let c89_i32_440 : BitVec 32 := 89#32
  let c0_i32_439 : BitVec 32 := 0#32
  let arg1 : BitVec 32 := BitVec.ofNat 32 (i 1).val
  let c3_i32_414 : BitVec 32 := 3#32
  let v849 : BitVec 32 := Scalar.muli arg1 c3_i32_414
  let c1_i32_415 : BitVec 32 := 1#32
  let v850 : BitVec 32 := Scalar.addi v849 c1_i32_415
  let c1_i32_416 : BitVec 32 := 1#32
  let v851 : BitVec 32 := Scalar.subi v850 c1_i32_416
  let c2_i32_435 : BitVec 32 := 2#32
  let v884 : BitVec 32 := Scalar.addi v851 c2_i32_435
  let v889 : BitVec 32 := Scalar.maxsi c0_i32_439 v884
  let v890 : BitVec 32 := Scalar.minsi c89_i32_440 v889
  let c160_i32_441 : BitVec 32 := 160#32
  let v891 : BitVec 32 := Scalar.muli v890 c160_i32_441
  v891
def k0_mult25 (i : grid0.Coords) : BitVec 32 :=
  let c89_i32_483 : BitVec 32 := 89#32
  let c0_i32_482 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c0_i32_478 : BitVec 32 := 0#32
  let v973 : BitVec 32 := Scalar.addi v972 c0_i32_478
  let v978 : BitVec 32 := Scalar.maxsi c0_i32_482 v973
  let v979 : BitVec 32 := Scalar.minsi c89_i32_483 v978
  let c160_i32_484 : BitVec 32 := 160#32
  let v980 : BitVec 32 := Scalar.muli v979 c160_i32_484
  v980
def k0_mult26 (i : grid0.Coords) : BitVec 32 :=
  let c89_i32_492 : BitVec 32 := 89#32
  let c0_i32_491 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c1_i32_487 : BitVec 32 := 1#32
  let v989 : BitVec 32 := Scalar.addi v972 c1_i32_487
  let v994 : BitVec 32 := Scalar.maxsi c0_i32_491 v989
  let v995 : BitVec 32 := Scalar.minsi c89_i32_492 v994
  let c160_i32_493 : BitVec 32 := 160#32
  let v996 : BitVec 32 := Scalar.muli v995 c160_i32_493
  v996
def k0_mult27 (i : grid0.Coords) : BitVec 32 :=
  let c89_i32_501 : BitVec 32 := 89#32
  let c0_i32_500 : BitVec 32 := 0#32
  let arg1 : BitVec 32 := BitVec.ofNat 32 (i 1).val
  let c3_i32_475 : BitVec 32 := 3#32
  let v970 : BitVec 32 := Scalar.muli arg1 c3_i32_475
  let c2_i32_476 : BitVec 32 := 2#32
  let v971 : BitVec 32 := Scalar.addi v970 c2_i32_476
  let c1_i32_477 : BitVec 32 := 1#32
  let v972 : BitVec 32 := Scalar.subi v971 c1_i32_477
  let c2_i32_496 : BitVec 32 := 2#32
  let v1005 : BitVec 32 := Scalar.addi v972 c2_i32_496
  let v1010 : BitVec 32 := Scalar.maxsi c0_i32_500 v1005
  let v1011 : BitVec 32 := Scalar.minsi c89_i32_501 v1010
  let c160_i32_502 : BitVec 32 := 160#32
  let v1012 : BitVec 32 := Scalar.muli v1011 c160_i32_502
  v1012
def k0_mult28 (i : grid0.Coords) : BitVec 32 :=
  let arg1 : BitVec 32 := BitVec.ofNat 32 (i 1).val
  let c480_i32 : BitVec 32 := 480#32
  let v1102 : BitVec 32 := Scalar.muli arg1 c480_i32
  v1102
def k0_off4 (i : grid0.Coords) : Fin 4 → Nat :=
  let c0_541 : Index := 0#32
  let c0_542 : Index := 0#32
  let arg1 : BitVec 32 := BitVec.ofNat 32 (i 1).val
  let c480_i32 : BitVec 32 := 480#32
  let v1102 : BitVec 32 := Scalar.muli arg1 c480_i32
  let v1103 : BitVec 32 := v1102
  let v1104 : Index := Scalar.indexCast v1103
  let c0_543 : Index := 0#32
  ![0, 0, v1104.toNat, 0]
def k0_off5 (i : grid0.Coords) : Fin 3 → Nat :=
  let c0_548 : Index := 0#32
  let arg1 : BitVec 32 := BitVec.ofNat 32 (i 1).val
  let c480_i32 : BitVec 32 := 480#32
  let v1102 : BitVec 32 := Scalar.muli arg1 c480_i32
  let v1103 : BitVec 32 := v1102
  let v1115 : Index := Scalar.indexCast v1103
  let c0_549 : Index := 0#32
  ![0, v1115.toNat, 0]
def cc0_transform_0 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x14400x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x14400x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x14400x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S27x384x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x480x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x480x384 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x480x384 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x480x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ConvLastRefIdeal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x3x3x384x384 : Shape := ⟨5, ![3, 3, 3, 384, 384]⟩
abbrev S384 : Shape := ⟨1, ![384]⟩
abbrev S_ : Shape := ⟨0, ![]⟩
abbrev S4x1x1x1x1 : Shape := ⟨5, ![4, 1, 1, 1, 1]⟩
abbrev S4x1 : Shape := ⟨2, ![4, 1]⟩
abbrev S4x2x90x160x384 : Shape := ⟨5, ![4, 2, 90, 160, 384]⟩
abbrev S4x3x90x160x384 : Shape := ⟨5, ![4, 3, 90, 160, 384]⟩
abbrev S4x3x92x162x384 : Shape := ⟨5, ![4, 3, 92, 162, 384]⟩
abbrev S1x384 : Shape := ⟨2, ![1, 384]⟩
abbrev S1x1 : Shape := ⟨2, ![1, 1]⟩
abbrev S4x2x14400x384 : Shape := ⟨4, ![4, 2, 14400, 384]⟩
abbrev S4x14400x384 : Shape := ⟨3, ![4, 14400, 384]⟩
abbrev S57600x384 : Shape := ⟨2, ![57600, 384]⟩
abbrev S1x1x1x384x384 : Shape := ⟨5, ![1, 1, 1, 384, 384]⟩
abbrev S384x384 : Shape := ⟨2, ![384, 384]⟩
abbrev S115200x384 : Shape := ⟨2, ![115200, 384]⟩

abbrev nBuf : Space → Nat
  | .hbm => 38
  | .vmem => 11
  | .smem => 0
  | _ => 0

abbrev bufTy : (tb : Table) → Fin (tcTables nBuf tb) → BufTy
  | .hbm, ⟨0, _⟩ => ⟨S4, .i32⟩
  | .hbm, ⟨1, _⟩ => ⟨S4, .i32⟩
  | .hbm, ⟨2, _⟩ => ⟨S6x2x90x160x384, .i8⟩
  | .hbm, ⟨3, _⟩ => ⟨S4x1x90x160x384, .i8⟩
  | .hbm, ⟨4, _⟩ => ⟨S3x3x3x384x384, .fp8e4m3⟩
  | .hbm, ⟨5, _⟩ => ⟨S384, .f32⟩
  | .hbm, ⟨6, _⟩ => ⟨S384, .f32⟩
  | .hbm, ⟨7, _⟩ => ⟨S_, .f32⟩
  | .hbm, ⟨8, _⟩ => ⟨S384, .f32⟩
  | .hbm, ⟨9, _⟩ => ⟨S_, .f32⟩
  | .hbm, ⟨10, _⟩ => ⟨S4x1x90x160x384, .f32⟩
  | .hbm, ⟨11, _⟩ => ⟨S_, .i32⟩
  | .hbm, ⟨12, _⟩ => ⟨S4, .i32⟩
  | .hbm, ⟨13, _⟩ => ⟨S4, .i1⟩
  | .hbm, ⟨14, _⟩ => ⟨S4x1x1x1x1, .i1⟩
  | .hbm, ⟨15, _⟩ => ⟨S_, .i32⟩
  | .hbm, ⟨16, _⟩ => ⟨S4, .i32⟩
  | .hbm, ⟨17, _⟩ => ⟨S4, .i1⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S4, .i32⟩
  | .hbm, ⟨22, _⟩ => ⟨S4x1, .i32⟩
  | .hbm, ⟨23, _⟩ => ⟨S4x2x90x160x384, .i8⟩
  | .hbm, ⟨24, _⟩ => ⟨S_, .i8⟩
  | .hbm, ⟨25, _⟩ => ⟨S4x2x90x160x384, .i1⟩
  | .hbm, ⟨26, _⟩ => ⟨S4x2x90x160x384, .i8⟩
  | .hbm, ⟨27, _⟩ => ⟨S4x2x90x160x384, .i8⟩
  | .hbm, ⟨28, _⟩ => ⟨S4x3x90x160x384, .i8⟩
  | .hbm, ⟨29, _⟩ => ⟨S_, .i8⟩
  | .hbm, ⟨30, _⟩ => ⟨S4x3x92x162x384, .i8⟩
  | .hbm, ⟨31, _⟩ => ⟨S1x384, .f32⟩
  | .hbm, ⟨32, _⟩ => ⟨S1x384, .f32⟩
  | .hbm, ⟨33, _⟩ => ⟨S1x1, .f32⟩
  | .hbm, ⟨34, _⟩ => ⟨S1x1, .f32⟩
  | .hbm, ⟨35, _⟩ => ⟨S4x2x14400x384, .fp8e4m3⟩
  | .hbm, ⟨36, _⟩ => ⟨S4x14400x384, .fp8e4m3⟩
  | .hbm, ⟨37, _⟩ => ⟨S4x14400x384, .f32⟩
  | .local _ .vmem, ⟨0, _⟩ => ⟨S4x3x90x160x384, .i8⟩
  | .local _ .vmem, ⟨1, _⟩ => ⟨S4x3x92x162x384, .i8⟩
  | .local _ .vmem, ⟨2, _⟩ => ⟨S3x3x3x384x384, .fp8e4m3⟩
  | .local _ .vmem, ⟨3, _⟩ => ⟨S1x384, .f32⟩
  | .local _ .vmem, ⟨4, _⟩ => ⟨S1x384, .f32⟩
  | .local _ .vmem, ⟨5, _⟩ => ⟨S1x1, .f32⟩
  | .local _ .vmem, ⟨6, _⟩ => ⟨S1x1, .f32⟩
  | .local _ .vmem, ⟨7, _⟩ => ⟨S4x1x90x160x384, .f32⟩
  | .local _ .vmem, ⟨8, _⟩ => ⟨S4x2x14400x384, .fp8e4m3⟩
  | .local _ .vmem, ⟨9, _⟩ => ⟨S4x14400x384, .fp8e4m3⟩
  | .local _ .vmem, ⟨10, _⟩ => ⟨S4x14400x384, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x3x90x160x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x92x162x384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x3x384x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x90x160x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2x14400x384 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x14400x384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14400x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Spatial.lean ====
abbrev S4x2x90x160x384 : Shape := ⟨5, ![4, 2, 90, 160, 384]⟩
abbrev S3x3x384x192 : Shape := ⟨4, ![3, 3, 384, 192]⟩
abbrev S192 : Shape := ⟨1, ![192]⟩
abbrev S_ : Shape := ⟨0, ![]⟩
abbrev S8x14400x384 : Shape := ⟨3, ![8, 14400, 384]⟩
abbrev S9x384x192 : Shape := ⟨3, ![9, 384, 192]⟩
abbrev S1x192 : Shape := ⟨2, ![1, 192]⟩
abbrev S1 : Shape := ⟨1, ![1]⟩
abbrev S8x90x2x2x160x192 : Shape := ⟨6, ![8, 90, 2, 2, 160, 192]⟩
abbrev S1x14400x384 : Shape := ⟨3, ![1, 14400, 384]⟩
abbrev S1x1x2x2x160x192 : Shape := ⟨6, ![1, 1, 2, 2, 160, 192]⟩
abbrev S1x160x384 : Shape := ⟨3, ![1, 160, 384]⟩
abbrev S160x384 : Shape := ⟨2, ![160, 384]⟩
abbrev S40x384 : Shape := ⟨2, ![40, 384]⟩
abbrev S1x384x192 : Shape := ⟨3, ![1, 384, 192]⟩
abbrev S384x192 : Shape := ⟨2, ![384, 192]⟩
abbrev S160x192 : Shape := ⟨2, ![160, 192]⟩
abbrev S1x1x1x1x160x192 : Shape := ⟨6, ![1, 1, 1, 1, 160, 192]⟩

abbrev nBuf : Space → Nat
  | .hbm => 11
  | .vmem => 7
  | .smem => 1
  | _ => 0

abbrev bufTy : (tb : Table) → Fin (tcTables nBuf tb) → BufTy
  | .hbm, ⟨0, _⟩ => ⟨S4x2x90x160x384, .i8⟩
  | .hbm, ⟨1, _⟩ => ⟨S3x3x384x192, .fp8e4m3⟩
  | .hbm, ⟨2, _⟩ => ⟨S192, .f32⟩
  | .hbm, ⟨3, _⟩ => ⟨S192, .f32⟩
  | .hbm, ⟨4, _⟩ => ⟨S_, .f32⟩
  | .hbm, ⟨5, _⟩ => ⟨S8x14400x384, .i8⟩
  | .hbm, ⟨6, _⟩ => ⟨S9x384x192, .fp8e4m3⟩
  | .hbm, ⟨7, _⟩ => ⟨S1x192, .f32⟩
  | .hbm, ⟨8, _⟩ => ⟨S1x192, .f32⟩
  | .hbm, ⟨9, _⟩ => ⟨S1, .f32⟩
  | .hbm, ⟨10, _⟩ => ⟨S8x90x2x2x160x192, .bf16⟩
  | .local _ .vmem, ⟨0, _⟩ => ⟨S1x14400x384, .i8⟩
  | .local _ .vmem, ⟨1, _⟩ => ⟨S1x14400x384, .i8⟩
  | .local _ .vmem, ⟨2, _⟩ => ⟨S9x384x192, .fp8e4m3⟩
  | .local _ .vmem, ⟨3, _⟩ => ⟨S1x192, .f32⟩
  | .local _ .vmem, ⟨4, _⟩ => ⟨S1x192, .f32⟩
  | .local _ .vmem, ⟨5, _⟩ => ⟨S1x1x2x2x160x192, .bf16⟩
  | .local _ .vmem, ⟨6, _⟩ => ⟨S1x1x2x2x160x192, .bf16⟩
  | .local _ .smem, ⟨0, _⟩ => ⟨S1, .f32⟩
  | _, _ => ⟨S4x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 90], ![false, false]⟩

def k0_mult1 (i : grid0.Coords) : BitVec 32 :=
  let c89_i32 : BitVec 32 := 89#32
  let c0_i32_2 : BitVec 32 := 0#32
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.addi v1 c0_i32_0
  let v7 : BitVec 32 := Scalar.maxsi c0_i32_2 v2
  let v8 : BitVec 32 := Scalar.minsi c89_i32 v7
  let c160_i32 : BitVec 32 := 160#32
  let v9 : BitVec 32 := Scalar.muli v8 c160_i32
  v9
def k0_off1 (i : grid0.Coords) (c0_i32 : BitVec 32) : Fin 3 → Nat :=
  let c0 : Index := 0#32
  let c89_i32 : BitVec 32 := 89#32
  let c0_i32_2 : BitVec 32 := 0#32
  let arg1 : BitVec 32 := BitVec.ofNat 32 (i 1).val
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.addi v1 c0_i32_0
  let v7 : BitVec 32 := Scalar.maxsi c0_i32_2 v2
  let v8 : BitVec 32 := Scalar.minsi c89_i32 v7
  let c160_i32 : BitVec 32 := 160#32
  let v9 : BitVec 32 := Scalar.muli v8 c160_i32
  let v10 : BitVec 32 := v9
  let v11 : Index := Scalar.indexCast v10
  let c0_3 : Index := 0#32
  ![0, v11.toNat, 0]
def k0_mult2 (i : grid0.Coords) : BitVec 32 :=
  let c89_i32_29 : BitVec 32 := 89#32
  let c0_i32_28 : BitVec 32 := 0#32
  let arg1 : BitVec 32 := BitVec.ofNat 32 (i 1).val
  let c1_i32_22 : BitVec 32 := 1#32
  let v75 : BitVec 32 := Scalar.addi arg1 c1_i32_22
  let c1_i32_23 : BitVec 32 := 1#32
  let v76 : BitVec 32 := Scalar.subi v75 c1_i32_23
  let c0_i32_24 : BitVec 32 := 0#32
  let v77 : BitVec 32 := Scalar.addi v76 c0_i32_24
  let v82 : BitVec 32 := Scalar.maxsi c0_i32_28 v77
  let v83 : BitVec 32 := Scalar.minsi c89_i32_29 v82
  let c160_i32_30 : BitVec 32 := 160#32
  let v84 : BitVec 32 := Scalar.muli v83 c160_i32_30
  v84
def k0_mult3 (i : grid0.Coords) : BitVec 32 :=
  let c89_i32_61 : BitVec 32 := 89#32
  let c0_i32_60 : BitVec 32 := 0#32
  let arg1 : BitVec 32 := BitVec.ofNat 32 (i 1).val
  let c2_i32 : BitVec 32 := 2#32
  let v150 : BitVec 32 := Scalar.addi arg1 c2_i32
  let c1_i32_55 : BitVec 32 := 1#32
  let v151 : BitVec 32 := Scalar.subi v150 c1_i32_55
  let c0_i32_56 : BitVec 32 := 0#32
  let v152 : BitVec 32 := Scalar.addi v151 c0_i32_56
  let v157 : BitVec 32 := Scalar.maxsi c0_i32_60 v152
  let v158 : BitVec 32 := Scalar.minsi c89_i32_61 v157
  let c160_i32_62 : BitVec 32 := 160#32
  let v159 : BitVec 32 := Scalar.muli v158 c160_i32_62
  v159
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x14400x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x384x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2x2x160x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SpatialRefIdeal.lean ====
abbrev S4x2x90x160x384 : Shape := ⟨5, ![4, 2, 90, 160, 384]⟩
abbrev S3x3x384x192 : Shape := ⟨4, ![3, 3, 384, 192]⟩
abbrev S192 : Shape := ⟨1, ![192]⟩
abbrev S_ : Shape := ⟨0, ![]⟩
abbrev S4x2x90x2x160x384 : Shape := ⟨6, ![4, 2, 90, 2, 160, 384]⟩
abbrev S4x2x180x160x384 : Shape := ⟨5, ![4, 2, 180, 160, 384]⟩
abbrev S4x2x180x160x2x384 : Shape := ⟨6, ![4, 2, 180, 160, 2, 384]⟩
abbrev S4x2x180x320x384 : Shape := ⟨5, ![4, 2, 180, 320, 384]⟩
abbrev S4x2x182x322x384 : Shape := ⟨5, ![4, 2, 182, 322, 384]⟩
abbrev S1x192 : Shape := ⟨2, ![1, 192]⟩
abbrev S1x1 : Shape := ⟨2, ![1, 1]⟩
abbrev S8x90x2x2x160x192 : Shape := ⟨6, ![8, 90, 2, 2, 160, 192]⟩
abbrev S460800x384 : Shape := ⟨2, ![460800, 384]⟩
abbrev S1x1x384x192 : Shape := ⟨4, ![1, 1, 384, 192]⟩
abbrev S384x192 : Shape := ⟨2, ![384, 192]⟩
abbrev S460800x192 : Shape := ⟨2, ![460800, 192]⟩
abbrev S8x90x2x160x2x192 : Shape := ⟨6, ![8, 90, 2, 160, 2, 192]⟩

abbrev nBuf : Space → Nat
  | .hbm => 15
  | .vmem => 6
  | .smem => 0
  | _ => 0

abbrev bufTy : (tb : Table) → Fin (tcTables nBuf tb) → BufTy
  | .hbm, ⟨0, _⟩ => ⟨S4x2x90x160x384, .i8⟩
  | .hbm, ⟨1, _⟩ => ⟨S3x3x384x192, .fp8e4m3⟩
  | .hbm, ⟨2, _⟩ => ⟨S192, .f32⟩
  | .hbm, ⟨3, _⟩ => ⟨S192, .f32⟩
  | .hbm, ⟨4, _⟩ => ⟨S_, .f32⟩
  | .hbm, ⟨5, _⟩ => ⟨S4x2x90x2x160x384, .i8⟩
  | .hbm, ⟨6, _⟩ => ⟨S4x2x180x160x384, .i8⟩
  | .hbm, ⟨7, _⟩ => ⟨S4x2x180x160x2x384, .i8⟩
  | .hbm, ⟨8, _⟩ => ⟨S4x2x180x320x384, .i8⟩
  | .hbm, ⟨9, _⟩ => ⟨S_, .i8⟩
  | .hbm, ⟨10, _⟩ => ⟨S4x2x182x322x384, .i8⟩
  | .hbm, ⟨11, _⟩ => ⟨S1x192, .f32⟩
  | .hbm, ⟨12, _⟩ => ⟨S1x192, .f32⟩
  | .hbm, ⟨13, _⟩ => ⟨S1x1, .f32⟩
  | .hbm, ⟨14, _⟩ => ⟨S8x90x2x2x160x192, .bf16⟩
  | .local _ .vmem, ⟨0, _⟩ => ⟨S4x2x182x322x384, .i8⟩
  | .local _ .vmem, ⟨1, _⟩ => ⟨S3x3x384x192, .fp8e4m3⟩
  | .local _ .vmem, ⟨2, _⟩ => ⟨S1x192, .f32⟩
  | .local _ .vmem, ⟨3, _⟩ => ⟨S1x192, .f32⟩
  | .local _ .vmem, ⟨4, _⟩ => ⟨S1x1, .f32⟩
  | .local _ .vmem, ⟨5, _⟩ => ⟨S8x90x2x2x160x192, .bf16⟩
  | _, _ => ⟨S4x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2x182x322x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x384x192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x90x2x2x160x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Temporal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x384x768 : Shape := ⟨3, ![3, 384, 768]⟩
abbrev S768 : Shape := ⟨1, ![768]⟩
abbrev S_ : Shape := ⟨0, ![]⟩
abbrev S6x2x14400x384 : Shape := ⟨4, ![6, 2, 14400, 384]⟩
abbrev S4x14400x384 : Shape := ⟨3, ![4, 14400, 384]⟩
abbrev S1x768 : Shape := ⟨2, ![1, 768]⟩
abbrev S1 : Shape := ⟨1, ![1]⟩
abbrev S4x2x14400x384 : Shape := ⟨4, ![4, 2, 14400, 384]⟩
abbrev S1x1x480x384 : Shape := ⟨4, ![1, 1, 480, 384]⟩
abbrev S1x480x384 : Shape := ⟨3, ![1, 480, 384]⟩
abbrev S1x2x480x384 : Shape := ⟨4, ![1, 2, 480, 384]⟩
abbrev S480x384 : Shape := ⟨2, ![480, 384]⟩
abbrev S120x384 : Shape := ⟨2, ![120, 384]⟩
abbrev S1x384x768 : Shape := ⟨3, ![1, 384, 768]⟩
abbrev S384x768 : Shape := ⟨2, ![384, 768]⟩
abbrev S480x768 : Shape := ⟨2, ![480, 768]⟩

abbrev nBuf : Space → Nat
  | .hbm => 15
  | .vmem => 13
  | .smem => 4
  | _ => 0

abbrev bufTy : (tb : Table) → Fin (tcTables nBuf tb) → BufTy
  | .hbm, ⟨0, _⟩ => ⟨S6x2x90x160x384, .i8⟩
  | .hbm, ⟨1, _⟩ => ⟨S4x1x90x160x384, .i8⟩
  | .hbm, ⟨2, _⟩ => ⟨S3x384x768, .fp8e4m3⟩
  | .hbm, ⟨3, _⟩ => ⟨S768, .f32⟩
  | .hbm, ⟨4, _⟩ => ⟨S768, .f32⟩
  | .hbm, ⟨5, _⟩ => ⟨S_, .f32⟩
  | .hbm, ⟨6, _⟩ => ⟨S_, .f32⟩
  | .hbm, ⟨7, _⟩ => ⟨S6x2x14400x384, .i8⟩
  | .hbm, ⟨8, _⟩ => ⟨S4x14400x384, .i8⟩
  | .hbm, ⟨9, _⟩ => ⟨S1x768, .f32⟩
  | .hbm, ⟨10, _⟩ => ⟨S1x768, .f32⟩
  | .hbm, ⟨11, _⟩ => ⟨S1, .f32⟩
  | .hbm, ⟨12, _⟩ => ⟨S1, .f32⟩
  | .hbm, ⟨13, _⟩ => ⟨S4x2x14400x384, .fp8e4m3⟩
  | .hbm, ⟨14, _⟩ => ⟨S4x2x14400x384, .fp8e4m3⟩
  | .local _ .vmem, ⟨0, _⟩ => ⟨S1x1x480x384, .i8⟩
  | .local _ .vmem, ⟨1, _⟩ => ⟨S1x1x480x384, .i8⟩
  | .local _ .vmem, ⟨2, _⟩ => ⟨S1x1x480x384, .i8⟩
  | .local _ .vmem, ⟨3, _⟩ => ⟨S1x1x480x384, .i8⟩
  | .local _ .vmem, ⟨4, _⟩ => ⟨S1x480x384, .i8⟩
  | .local _ .vmem, ⟨5, _⟩ => ⟨S1x480x384, .i8⟩
  | .local _ .vmem, ⟨6, _⟩ => ⟨S3x384x768, .fp8e4m3⟩
  | .local _ .vmem, ⟨7, _⟩ => ⟨S1x768, .f32⟩
  | .local _ .vmem, ⟨8, _⟩ => ⟨S1x768, .f32⟩
  | .local _ .vmem, ⟨9, _⟩ => ⟨S1x2x480x384, .fp8e4m3⟩
  | .local _ .vmem, ⟨10, _⟩ => ⟨S1x2x480x384, .fp8e4m3⟩
  | .local _ .vmem, ⟨11, _⟩ => ⟨S1x2x480x384, .fp8e4m3⟩
  | .local _ .vmem, ⟨12, _⟩ => ⟨S1x2x480x384, .fp8e4m3⟩
  | .local _ .smem, ⟨0, _⟩ => ⟨S4, .i32⟩
  | .local _ .smem, ⟨1, _⟩ => ⟨S4, .i32⟩
  | .local _ .smem, ⟨2, _⟩ => ⟨S1, .f32⟩
  | .local _ .smem, ⟨3, _⟩ => ⟨S1, .f32⟩
  | _, _ => ⟨S6x2x90x160x384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 30], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, arg1.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c1_i32 : BitVec 32 := 1#32
  let c0_i32 : BitVec 32 := 0#32
  let c0_i32_0 : BitVec 32 := 0#32
  ![v1.toNat, c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x480x384 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x480x384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x480x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x384x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x480x384 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x480x384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== TemporalRefIdeal.lean ====
abbrev S4 : Shape := ⟨1, ![4]⟩
abbrev S6x2x90x160x384 : Shape := ⟨5, ![6, 2, 90, 160, 384]⟩
abbrev S4x1x90x160x384 : Shape := ⟨5, ![4, 1, 90, 160, 384]⟩
abbrev S3x384x768 : Shape := ⟨3, ![3, 384, 768]⟩
abbrev S768 : Shape := ⟨1, ![768]⟩
abbrev S_ : Shape := ⟨0, ![]⟩
abbrev S4x1x1x1x1 : Shape := ⟨5, ![4, 1, 1, 1, 1]⟩
abbrev S4x1 : Shape := ⟨2, ![4, 1]⟩
abbrev S4x2x90x160x384 : Shape := ⟨5, ![4, 2, 90, 160, 384]⟩
abbrev S4x3x90x160x384 : Shape := ⟨5, ![4, 3, 90, 160, 384]⟩
abbrev S1x768 : Shape := ⟨2, ![1, 768]⟩
abbrev S1x1 : Shape := ⟨2, ![1, 1]⟩
abbrev S4x2x14400x384 : Shape := ⟨4, ![4, 2, 14400, 384]⟩
abbrev S57600x384 : Shape := ⟨2, ![57600, 384]⟩
abbrev S1x384x768 : Shape := ⟨3, ![1, 384, 768]⟩
abbrev S384x768 : Shape := ⟨2, ![384, 768]⟩
abbrev S57600x768 : Shape := ⟨2, ![57600, 768]⟩
abbrev S4x14400x2x384 : Shape := ⟨4, ![4, 14400, 2, 384]⟩
abbrev S115200x384 : Shape := ⟨2, ![115200, 384]⟩
abbrev S1x1x1x1 : Shape := ⟨4, ![1, 1, 1, 1]⟩

abbrev nBuf : Space → Nat
  | .hbm => 33
  | .vmem => 8
  | .smem => 0
  | _ => 0

abbrev bufTy : (tb : Table) → Fin (tcTables nBuf tb) → BufTy
  | .hbm, ⟨0, _⟩ => ⟨S4, .i32⟩
  | .hbm, ⟨1, _⟩ => ⟨S4, .i32⟩
  | .hbm, ⟨2, _⟩ => ⟨S6x2x90x160x384, .i8⟩
  | .hbm, ⟨3, _⟩ => ⟨S4x1x90x160x384, .i8⟩
  | .hbm, ⟨4, _⟩ => ⟨S3x384x768, .fp8e4m3⟩
  | .hbm, ⟨5, _⟩ => ⟨S768, .f32⟩
  | .hbm, ⟨6, _⟩ => ⟨S768, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S4, .i32⟩
  | .hbm, ⟨11, _⟩ => ⟨S4, .i1⟩
  | .hbm, ⟨12, _⟩ => ⟨S4x1x1x1x1, .i1⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S4x2x90x160x384, .i8⟩
  | .hbm, ⟨22, _⟩ => ⟨S_, .i8⟩
  | .hbm, ⟨23, _⟩ => ⟨S4x2x90x160x384, .i1⟩
  | .hbm, ⟨24, _⟩ => ⟨S4x2x90x160x384, .i8⟩
  | .hbm, ⟨25, _⟩ => ⟨S4x2x90x160x384, .i8⟩
  | .hbm, ⟨26, _⟩ => ⟨S4x3x90x160x384, .i8⟩
  | .hbm, ⟨27, _⟩ => ⟨S1x768, .f32⟩
  | .hbm, ⟨28, _⟩ => ⟨S1x768, .f32⟩
  | .hbm, ⟨29, _⟩ => ⟨S1x1, .f32⟩
  | .hbm, ⟨30, _⟩ => ⟨S1x1, .f32⟩
  | .hbm, ⟨31, _⟩ => ⟨S4x2x14400x384, .fp8e4m3⟩
  | .hbm, ⟨32, _⟩ => ⟨S4x2x14400x384, .fp8e4m3⟩
  | .local _ .vmem, ⟨0, _⟩ => ⟨S4x3x90x160x384, .i8⟩
  | .local _ .vmem, ⟨1, _⟩ => ⟨S3x384x768, .fp8e4m3⟩
  | .local _ .vmem, ⟨2, _⟩ => ⟨S1x768, .f32⟩
  | .local _ .vmem, ⟨3, _⟩ => ⟨S1x768, .f32⟩
  | .local _ .vmem, ⟨4, _⟩ => ⟨S1x1, .f32⟩
  | .local _ .vmem, ⟨5, _⟩ => ⟨S1x1, .f32⟩
  | .local _ .vmem, ⟨6, _⟩ => ⟨S4x2x14400x384, .fp8e4m3⟩
  | .local _ .vmem, ⟨7, _⟩ => ⟨S4x2x14400x384, .fp8e4m3⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x3x90x160x384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x768 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2x14400x384 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2x14400x384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormQuant.lean ====
abbrev S4x1x90x160x384 : Shape := ⟨5, ![4, 1, 90, 160, 384]⟩
abbrev S384 : Shape := ⟨1, ![384]⟩
abbrev S_ : Shape := ⟨0, ![]⟩
abbrev S4x14400x384 : Shape := ⟨3, ![4, 14400, 384]⟩
abbrev S1x384 : Shape := ⟨2, ![1, 384]⟩
abbrev S1 : Shape := ⟨1, ![1]⟩
abbrev S1x480x384 : Shape := ⟨3, ![1, 480, 384]⟩
abbrev S480x384 : Shape := ⟨2, ![480, 384]⟩
abbrev S480 : Shape := ⟨1, ![480]⟩
abbrev S480x1 : Shape := ⟨2, ![480, 1]⟩

abbrev nBuf : Space → Nat
  | .hbm => 7
  | .vmem => 5
  | .smem => 1
  | _ => 0

abbrev bufTy : (tb : Table) → Fin (tcTables nBuf tb) → BufTy
  | .hbm, ⟨0, _⟩ => ⟨S4x1x90x160x384, .bf16⟩
  | .hbm, ⟨1, _⟩ => ⟨S384, .f32⟩
  | .hbm, ⟨2, _⟩ => ⟨S_, .f32⟩
  | .hbm, ⟨3, _⟩ => ⟨S4x14400x384, .bf16⟩
  | .hbm, ⟨4, _⟩ => ⟨S1x384, .f32⟩
  | .hbm, ⟨5, _⟩ => ⟨S1, .f32⟩
  | .hbm, ⟨6, _⟩ => ⟨S4x14400x384, .fp8e4m3⟩
  | .local _ .vmem, ⟨0, _⟩ => ⟨S1x480x384, .bf16⟩
  | .local _ .vmem, ⟨1, _⟩ => ⟨S1x480x384, .bf16⟩
  | .local _ .vmem, ⟨2, _⟩ => ⟨S1x384, .f32⟩
  | .local _ .vmem, ⟨3, _⟩ => ⟨S1x480x384, .fp8e4m3⟩
  | .local _ .vmem, ⟨4, _⟩ => ⟨S1x480x384, .fp8e4m3⟩
  | .local _ .smem, ⟨0, _⟩ => ⟨S1, .f32⟩
  | _, _ => ⟨S4x1x90x160x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 30], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x480x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x480x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormQuantRefIdeal.lean ====
abbrev S4x1x90x160x384 : Shape := ⟨5, ![4, 1, 90, 160, 384]⟩
abbrev S384 : Shape := ⟨1, ![384]⟩
abbrev S_ : Shape := ⟨0, ![]⟩
abbrev S1x384 : Shape := ⟨2, ![1, 384]⟩
abbrev S1x1 : Shape := ⟨2, ![1, 1]⟩
abbrev S4x14400x384 : Shape := ⟨3, ![4, 14400, 384]⟩
abbrev S57600x384 : Shape := ⟨2, ![57600, 384]⟩
abbrev S57600 : Shape := ⟨1, ![57600]⟩
abbrev S57600x1 : Shape := ⟨2, ![57600, 1]⟩

abbrev nBuf : Space → Nat
  | .hbm => 6
  | .vmem => 4
  | .smem => 0
  | _ => 0

abbrev bufTy : (tb : Table) → Fin (tcTables nBuf tb) → BufTy
  | .hbm, ⟨0, _⟩ => ⟨S4x1x90x160x384, .bf16⟩
  | .hbm, ⟨1, _⟩ => ⟨S384, .f32⟩
  | .hbm, ⟨2, _⟩ => ⟨S_, .f32⟩
  | .hbm, ⟨3, _⟩ => ⟨S1x384, .f32⟩
  | .hbm, ⟨4, _⟩ => ⟨S1x1, .f32⟩
  | .hbm, ⟨5, _⟩ => ⟨S4x14400x384, .fp8e4m3⟩
  | .local _ .vmem, ⟨0, _⟩ => ⟨S4x1x90x160x384, .bf16⟩
  | .local _ .vmem, ⟨1, _⟩ => ⟨S1x384, .f32⟩
  | .local _ .vmem, ⟨2, _⟩ => ⟨S1x1, .f32⟩
  | .local _ .vmem, ⟨3, _⟩ => ⟨S4x14400x384, .fp8e4m3⟩
  | _, _ => ⟨S4x1x90x160x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1x90x160x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x14400x384 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Slots.lean ====
/-
  The precondition on the slots: every slot names a row of the pool.
-/
module

public import proofs.«01_k».proof.Proof.Gen.Pre_slots_in_pool
public import proofs.«01_k».proof.Proof.Gen.Pre_slots_in_pool_norm
public import proofs.«01_k».proof.Proof.Gen.Pre_slots_in_pool_last
public import proofs.«01_k».proof.Proof.Gen.Pre_slots_in_pool_temporal

@[expose] public section

namespace Cert.Words

open Idealize.ShloMosaic

/-- Every word of a slot table is below six. -/
theorem slots_lt {F : FTy → Type} [FloatOps F] {x0 : IVec ⟨1, ![4]⟩ 32} {x1 x2 x3 x4 x5 x6 x7 x8 x9 x10}
    (h : Cert.Pre_slots_in_pool.fn (F := F) x0 x1 x2 x3 x4 x5 x6 x7 x8 x9 x10 = fun _ => 1#1) (y : (⟨1, ![4]⟩ : Shape).Idx) :
    (x0 y).toNat < 6 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_slots_in_pool.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- Every word of a slot table is below six. -/
theorem slots_lt_norm {F : FTy → Type} [FloatOps F] {x0 : IVec ⟨1, ![4]⟩ 32} {x1 x2 x3 x4 x5 x6 x7 x8 x9}
    (h : Cert.Pre_slots_in_pool_norm.fn (F := F) x0 x1 x2 x3 x4 x5 x6 x7 x8 x9 = fun _ => 1#1) (y : (⟨1, ![4]⟩ : Shape).Idx) :
    (x0 y).toNat < 6 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_slots_in_pool_norm.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- Every word of a slot table is below six. -/
theorem slots_lt_last {F : FTy → Type} [FloatOps F] {x0 : IVec ⟨1, ![4]⟩ 32} {x1 x2 x3 x4 x5 x6 x7 x8 x9 x10}
    (h : Cert.Pre_slots_in_pool_last.fn (F := F) x0 x1 x2 x3 x4 x5 x6 x7 x8 x9 x10 = fun _ => 1#1) (y : (⟨1, ![4]⟩ : Shape).Idx) :
    (x0 y).toNat < 6 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_slots_in_pool_last.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- Every word of a slot table is below six. -/
theorem slots_lt_temporal {F : FTy → Type} [FloatOps F] {x0 : IVec ⟨1, ![4]⟩ 32} {x1 x2 x3 x4 x5 x6 x7 x8}
    (h : Cert.Pre_slots_in_pool_temporal.fn (F := F) x0 x1 x2 x3 x4 x5 x6 x7 x8 = fun _ => 1#1) (y : (⟨1, ![4]⟩ : Shape).Idx) :
    (x0 y).toNat < 6 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Pre_slots_in_pool_temporal.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.Words
-- ==== Proof.ConvNormOk.lean ====
/-
  The plain convolution's table condition, from the slots.
-/
module

public import proofs.«01_k».proof.Proof.Slots
public import proofs.«01_k».proof.Proof.Gen.ConvNorm.Frame
public import proofs.«01_k».proof.Proof.Gen.ConvNormIdeal.Frame

@[expose] public section

set_option maxRecDepth 16384

open Idealize.ShloMosaic Idealize.ShloMosaic.TcCoe

namespace Cert.ConvNormBits

open Cert.ConvNorm Cert.ConvNorm.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvNormBits

namespace Cert.ConvNorm

open Cert.ConvNormIdeal Cert.ConvNormIdeal.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvNorm
-- ==== Proof.ConvMidOk.lean ====
/-
  The residual convolution's table condition, from the slots.
-/
module

public import proofs.«01_k».proof.Proof.Slots
public import proofs.«01_k».proof.Proof.Gen.ConvMid.Frame
public import proofs.«01_k».proof.Proof.Gen.ConvMidIdeal.Frame

@[expose] public section

set_option maxRecDepth 16384

open Idealize.ShloMosaic Idealize.ShloMosaic.TcCoe

namespace Cert.ConvMidBits

open Cert.ConvMid Cert.ConvMid.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvMidBits

namespace Cert.ConvMid

open Cert.ConvMidIdeal Cert.ConvMidIdeal.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvMid
-- ==== Proof.ConvLastOk.lean ====
/-
  The last convolution's table condition, from the slots.
-/
module

public import proofs.«01_k».proof.Proof.Slots
public import proofs.«01_k».proof.Proof.Gen.ConvLast.Frame
public import proofs.«01_k».proof.Proof.Gen.ConvLastIdeal.Frame

@[expose] public section

set_option maxRecDepth 16384

open Idealize.ShloMosaic Idealize.ShloMosaic.TcCoe

namespace Cert.ConvLastBits

open Cert.ConvLast Cert.ConvLast.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvLastBits

namespace Cert.ConvLast

open Cert.ConvLastIdeal Cert.ConvLastIdeal.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, 0, 0] : Fin 4 → Nat) a + 1) * S1x1x14400x384.size a ≤ S6x2x14400x384.size a := by
    intro i f hf x hx a
    match a with
    | ⟨0, _⟩ => exact (Nat.mul_one _).trans_le hx
    | ⟨1, _⟩ => exact (Nat.mul_one _).trans_le hf
    | ⟨2, _⟩ => show (0 + 1) * 14400 ≤ 14400; decide
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.ConvLast
-- ==== Proof.Words.lean ====
/-
  Four one-byte rows held in one row of 32-bit words: which byte a word row gives back, and what shifting the words by
  one byte (with the carried byte of the row before or after) does to the rows of bytes.
-/
module

public import Idealize.ShloMosaic.Lib.BitcastFour
public import Idealize.ShloMosaic.Lib.KernelVsHost
public import Idealize.ShloMosaic.Lib.Pipeline.Value

@[expose] public section

namespace Cert.Words

open Idealize.ShloMosaic Idealize.ShloMosaic.ValueIdx

/-- Byte `j` of a word, the lowest first. -/
def byte (w : BitVec 32) (j : Nat) : BitVec 8 := (w >>> (8 * j)).setWidth 8

theorem byte_getLsbD (w : BitVec 32) (j q : Nat) (hq : q < 8) :
    (byte w j).getLsbD q = w.getLsbD (8 * j + q) := by
  simp [byte, BitVec.getLsbD_setWidth, BitVec.getLsbD_ushiftRight, hq]

/-- Two bytes with the same eight bits are one. -/
theorem byte_ext {x y : BitVec 8} (h : ∀ q, q < 8 → x.getLsbD q = y.getLsbD q) : x = y :=
  BitVec.eq_of_getLsbD_eq fun q hq => h q hq

theorem byte_zero (j : Nat) : byte 0#32 j = 0#8 := by
  apply byte_ext; intro q hq; rw [byte_getLsbD _ _ _ hq]; simp

/-- The first byte of a word moved up by one byte is the carried one. -/
theorem byte_up_zero (w p : BitVec 32) : byte (IntOp.ori (IntOp.shli .vector w 8#32) (IntOp.shrui .vector p 24#32)) 0 = byte p 3 := by
  apply byte_ext; intro q hq
  rw [byte_getLsbD _ _ _ hq, byte_getLsbD _ _ _ hq]
  have h1 : IntOp.shli .vector w 8#32 = w <<< 8 := rfl
  have h2 : IntOp.shrui .vector p 24#32 = p >>> 24 := rfl
  rw [h1, h2]; unfold IntOp.ori
  rw [BitVec.getLsbD_or, BitVec.getLsbD_shiftLeft, BitVec.getLsbD_ushiftRight]
  simp; omega

/-- The other bytes are the word's, one place up. -/
theorem byte_up_succ (w p : BitVec 32) (j : Nat) (hj : j < 3) :
    byte (IntOp.ori (IntOp.shli .vector w 8#32) (IntOp.shrui .vector p 24#32)) (j + 1) = byte w j := by
  apply byte_ext; intro q hq
  rw [byte_getLsbD _ _ _ hq, byte_getLsbD _ _ _ hq]
  have h1 : IntOp.shli .vector w 8#32 = w <<< 8 := rfl
  have h2 : IntOp.shrui .vector p 24#32 = p >>> 24 := rfl
  rw [h1, h2]; unfold IntOp.ori
  rw [BitVec.getLsbD_or, BitVec.getLsbD_shiftLeft, BitVec.getLsbD_ushiftRight]
  have hz : p.getLsbD (24 + (8 * (j + 1) + q)) = false := BitVec.getLsbD_of_ge _ _ (by omega)
  have e : 8 * (j + 1) + q - 8 = 8 * j + q := by omega
  have l1 : 8 * (j + 1) + q < 32 := by omega
  have l2 : ¬ (8 * (j + 1) + q < 8) := by omega
  rw [hz, e]; simp [l1, l2]

/-- The last byte of a word moved down by one byte is the carried one. -/
theorem byte_down_last (w p : BitVec 32) : byte (IntOp.ori (IntOp.shrui .vector w 8#32) (IntOp.shli .vector p 24#32)) 3 = byte p 0 := by
  apply byte_ext; intro q hq
  rw [byte_getLsbD _ _ _ hq, byte_getLsbD _ _ _ hq]
  have h1 : IntOp.shli .vector p 24#32 = p <<< 24 := rfl
  have h2 : IntOp.shrui .vector w 8#32 = w >>> 8 := rfl
  rw [h1, h2]; unfold IntOp.ori
  rw [BitVec.getLsbD_or, BitVec.getLsbD_shiftLeft, BitVec.getLsbD_ushiftRight]
  have hz : w.getLsbD (8 + (8 * 3 + q)) = false := BitVec.getLsbD_of_ge _ _ (by omega)
  have e : 8 * 3 + q - 24 = 8 * 0 + q := by omega
  have l1 : 8 * 3 + q < 32 := by omega
  have l2 : ¬ (8 * 3 + q < 24) := by omega
  rw [hz, e]; simp [l1]

/-- The other bytes are the word's, one place down. -/
theorem byte_down (w p : BitVec 32) (j : Nat) (hj : j < 3) :
    byte (IntOp.ori (IntOp.shrui .vector w 8#32) (IntOp.shli .vector p 24#32)) j = byte w (j + 1) := by
  apply byte_ext; intro q hq
  rw [byte_getLsbD _ _ _ hq, byte_getLsbD _ _ _ hq]
  have h1 : IntOp.shli .vector p 24#32 = p <<< 24 := rfl
  have h2 : IntOp.shrui .vector w 8#32 = w >>> 8 := rfl
  rw [h1, h2]; unfold IntOp.ori
  rw [BitVec.getLsbD_or, BitVec.getLsbD_shiftLeft, BitVec.getLsbD_ushiftRight]
  have e : 8 + (8 * j + q) = 8 * (j + 1) + q := by omega
  have l2 : 8 * j + q < 24 := by omega
  rw [e]; simp [l2]

/-! ## Rows of bytes and rows of words -/

section rows
variable {n R L : Nat}

/-- Words read as bytes: row `p` is byte `p % 4` of the word in row `p / 4`. -/
theorem bytes_apply (w : (⟨2, ![n, L]⟩ : Shape).Idx → BitVec 32) (h : (⟨2, ![n, L]⟩ : Shape).Bitcasts 32 ⟨2, ![R, L]⟩ 8)
    (p : Fin R) (l : Fin L) (a : Fin n) (ha : a.val = p.val / 4) :
    bitcast ⟨2, ![R, L]⟩ 8 w h (ix2 p l) = byte (w (ix2 a l)) (p.val % 4) := by
  apply byte_ext; intro q hq
  rw [bitcast_getLsbD w h _ q hq (by decide), byte_getLsbD _ _ _ hq]
  have hrow : (⟨2, ![R, L]⟩ : Shape).row (ix2 p l) = p.val := rfl
  have e2 : ((⟨2, ![R, L]⟩ : Shape).row (ix2 p l) * 8 + q) % 32 = 8 * (p.val % 4) + q := by rw [hrow]; omega
  have e1 : ((⟨2, ![R, L]⟩ : Shape).row (ix2 p l) * 8 + q) / 32 = a.val := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words: byte `j` of the word in row `a` is row `4a + j`. -/
theorem byte_words (x : (⟨2, ![R, L]⟩ : Shape).Idx → BitVec 8) (h : (⟨2, ![R, L]⟩ : Shape).Bitcasts 8 ⟨2, ![n, L]⟩ 32)
    (a : Fin n) (l : Fin L) (j : Nat) (hj : j < 4) (p : Fin R) (hp : p.val = 4 * a.val + j) :
    byte (bitcast ⟨2, ![n, L]⟩ 32 x h (ix2 a l)) j = x (ix2 p l) := by
  apply byte_ext; intro q hq
  rw [byte_getLsbD _ _ _ hq, bitcast_8_32_getLsbD_ix2 x h a l (8 * j + q) (by omega) p (by omega)]
  congr 1; omega

/-- A word times a widened truth value. -/
theorem byte_mul_ok (w : BitVec 32) (b : BitVec 1) (j : Nat) :
    byte (IntOp.muli w (Scalar.extui b)) j = if b = 1#1 then byte w j else 0#8 := by
  have hb : b = 0#1 ∨ b = 1#1 := by
    rcases Nat.lt_or_ge b.toNat 1 with h | h
    · left; apply BitVec.eq_of_toNat_eq; simp; omega
    · right; apply BitVec.eq_of_toNat_eq; have := b.isLt; simp; omega
  rcases hb with rfl | rfl
  · have : IntOp.muli w (Scalar.extui 0#1) = 0#32 := by
      show w * (0#1 : BitVec 1).setWidth 32 = 0#32
      simp
    rw [this, byte_zero]; rfl
  · have : IntOp.muli w (Scalar.extui 1#1) = w := by
      show w * (1#1 : BitVec 1).setWidth 32 = w
      simp
    rw [this]; rfl

/-- One row back around the end of the axis. -/
theorem rotate_one (w : (⟨2, ![n, L]⟩ : Shape).Idx → BitVec 32) (h : (⟨2, ![n, L]⟩ : Shape).Rotates 0 none)
    (a a' : Fin n) (l : Fin L) (s : BitVec 32) (he : a'.val = (a.val + n - s.toNat % n) % n) :
    dynamicRotate 0 s none w h (ix2 a l) = w (ix2 a' l) :=
  dynamicRotate_apply (0 : Fin 2) s w h (ix2 a l) (ix2 a' l) (by
    intro b
    match b with
    | ⟨0, _⟩ => exact he
    | ⟨1, _⟩ => rfl)

end rows

end Cert.Words
-- ==== Proof.Shift.lean ====
/-
  One image row is 160 pixels of 384 one-byte channels, held as 40 rows of words.  Here: a band of whole image rows
  shifted by one pixel to either side, zero at the ends of each image row, read byte by byte.
-/
module

public import proofs.«01_k».proof.Proof.Words

@[expose] public section

namespace Cert.Words

open Idealize.ShloMosaic Idealize.ShloMosaic.TcCoe Idealize.ShloMosaic.ValueIdx

section shift
variable {n R : Nat}

/-- The number of a word row within its image row, as the kernel computes it. -/
def place (n : Nat) (h : (⟨2, ![n, 384]⟩ : Shape).Iotas .tc 32 [0]) (hb : (⟨2, ![n, 384]⟩ : Shape).Broadcasts ⟨2, ![n, 384]⟩) : IVec ⟨2, ![n, 384]⟩ 32 :=
  let v55 : IVec ⟨2, ![n, 384]⟩ 32 := iota .tc ⟨2, ![n, 384]⟩ 32 [0] h
  let v56 : BitVec 1 := Scalar.cmpi .eq 40#32 0#32
  let v57 : BitVec 32 := Scalar.select v56 1#32 40#32
  let v58 : IVec ⟨2, ![n, 384]⟩ 32 := broadcast ⟨2, ![n, 384]⟩ v57
  let v59 : IVec ⟨2, ![n, 384]⟩ 32 := remsi v55 v58
  let v60 : IVec ⟨2, ![n, 384]⟩ 32 := broadcast ⟨2, ![n, 384]⟩ 0#32
  let v61 : IVec ⟨2, ![n, 384]⟩ 1 := cmpi .ne v59 v60
  let v62 : IVec ⟨2, ![n, 384]⟩ 32 := broadcast ⟨2, ![n, 384]⟩ 0#32
  let v63 : IVec ⟨2, ![n, 384]⟩ 1 := cmpi .slt v59 v62
  let v64 : BitVec 1 := Scalar.cmpi .slt v57 0#32
  let v65 : IVec ⟨2, ![n, 384]⟩ 1 := broadcast ⟨2, ![n, 384]⟩ v64
  let v66 : IVec ⟨2, ![n, 384]⟩ 1 := broadcastTo ⟨2, ![n, 384]⟩ v65 hb
  let v67 : IVec ⟨2, ![n, 384]⟩ 1 := xori v63 v66
  let v68 : IVec ⟨2, ![n, 384]⟩ 1 := andi v67 v61
  let v69 : IVec ⟨2, ![n, 384]⟩ 32 := broadcast ⟨2, ![n, 384]⟩ v57
  let v70 : IVec ⟨2, ![n, 384]⟩ 32 := addi v59 v69
  select v68 v70 v59

/-- The same number, of one row. -/
def placeAt (a : Nat) : BitVec 32 :=
  let v59 : BitVec 32 := IntOp.remsi .vector (BitVec.ofNat 32 a) 40#32
  Scalar.select (IntOp.andi (IntOp.xori (IntOp.cmpi .slt v59 0#32) 0#1) (IntOp.cmpi .ne v59 0#32)) (IntOp.addi v59 40#32) v59

theorem placeAt_eq : ∀ a : Fin 120, placeAt a.val = BitVec.ofNat 32 (a.val % 40) := by decide +kernel

theorem place_apply (h : (⟨2, ![n, 384]⟩ : Shape).Iotas .tc 32 [0]) (hb : (⟨2, ![n, 384]⟩ : Shape).Broadcasts ⟨2, ![n, 384]⟩)
    (hn : n ≤ 120) (a : Fin n) (l : Fin 384) : place n h hb (ix2 a l) = BitVec.ofNat 32 (a.val % 40) := by
  have e : place n h hb (ix2 a l) = placeAt (0 * n + a.val) := rfl
  rw [e, Nat.zero_mul, Nat.zero_add]
  exact placeAt_eq ⟨a.val, by omega⟩

/-- Every pixel moved up by one row of bytes: row `p` takes row `p - 1`, and the first of an image row zero. -/
def up (I w : IVec ⟨2, ![n, 384]⟩ 32) (h : (⟨2, ![n, 384]⟩ : Shape).Rotates 0 none) : IVec ⟨2, ![n, 384]⟩ 32 :=
  ori (shli w (broadcast _ 8#32))
    (shrui (select (cmpi .eq I (broadcast _ 0#32)) (broadcast _ 0#32) (dynamicRotate 0 1#32 none w h)) (broadcast _ 24#32))

/-- Every pixel moved down by one row of bytes: row `p` takes row `p + 1`, and the last of an image row zero. -/
def down (s : BitVec 32) (I w : IVec ⟨2, ![n, 384]⟩ 32) (h : (⟨2, ![n, 384]⟩ : Shape).Rotates 0 none) : IVec ⟨2, ![n, 384]⟩ 32 :=
  ori (shrui w (broadcast _ 8#32))
    (shli (select (cmpi .eq I (broadcast _ 39#32)) (broadcast _ 0#32) (dynamicRotate 0 s none w h)) (broadcast _ 24#32))

theorem sel_eq (x y : BitVec 32) (u v : BitVec 32) : Scalar.select (IntOp.cmpi .eq x y) u v = if x = y then u else v := by
  unfold Scalar.select IntOp.cmpi
  by_cases hxy : x = y
  · simp [hxy]
  · have : (x == y) = false := by simp [hxy]
    simp [hxy, this]

theorem ofNat_mod_eq (a k : Nat) (hk : k < 40) : (BitVec.ofNat 32 (a % 40) = BitVec.ofNat 32 k) ↔ a % 40 = k := by
  constructor
  · intro h
    have := congrArg BitVec.toNat h
    simp only [BitVec.toNat_ofNat] at this
    omega
  · intro h; rw [h]

theorem up_bytes (I w : IVec ⟨2, ![n, 384]⟩ 32) (h : (⟨2, ![n, 384]⟩ : Shape).Rotates 0 none)
    (hI : ∀ (a : Fin n) (l : Fin 384), I (ix2 a l) = BitVec.ofNat 32 (a.val % 40))
    (hc : (⟨2, ![n, 384]⟩ : Shape).Bitcasts 32 ⟨2, ![R, 384]⟩ 8) (hR : R = 4 * n) (h1 : 1 < n) (p : Fin R) (l : Fin 384) :
    bitcast ⟨2, ![R, 384]⟩ 8 (up I w h) hc (ix2 p l)
      = if hp : p.val % 160 = 0 then 0#8 else bitcast ⟨2, ![R, 384]⟩ 8 w hc (ix2 ⟨p.val - 1, by omega⟩ l) := by
  have hpl := p.isLt
  have ha : p.val / 4 < n := by omega
  rw [bytes_apply (up I w h) hc p l ⟨p.val / 4, ha⟩ rfl]
  have e : up I w h (ix2 ⟨p.val / 4, ha⟩ l)
      = IntOp.ori (IntOp.shli .vector (w (ix2 ⟨p.val / 4, ha⟩ l)) 8#32)
          (IntOp.shrui .vector (if p.val / 4 % 40 = 0 then 0#32 else dynamicRotate 0 1#32 none w h (ix2 ⟨p.val / 4, ha⟩ l)) 24#32) := by
    show IntOp.ori _ (IntOp.shrui .vector (Scalar.select (IntOp.cmpi .eq (I (ix2 ⟨p.val / 4, ha⟩ l)) 0#32) _ _) _) = _
    rw [sel_eq, hI]
    congr 2
    have := ofNat_mod_eq (p.val / 4) 0 (by omega)
    simp only [this]; rfl
  rw [e]
  by_cases hj : p.val % 4 = 0
  · rw [hj, byte_up_zero]
    by_cases hp : p.val % 160 = 0
    · have : p.val / 4 % 40 = 0 := by omega
      rw [if_pos this, dif_pos hp, byte_zero]
    · have : ¬ p.val / 4 % 40 = 0 := by omega
      rw [if_neg this, dif_neg hp]
      rw [bytes_apply w hc ⟨p.val - 1, by omega⟩ l ⟨p.val / 4 - 1, by omega⟩ (by simp only []; omega)]
      rw [rotate_one w h ⟨p.val / 4, ha⟩ ⟨p.val / 4 - 1, by omega⟩ l 1#32 (by
        have e1 : (1#32 : BitVec 32).toNat % n = 1 := Nat.mod_eq_of_lt h1
        rw [e1]
        show p.val / 4 - 1 = (p.val / 4 + n - 1) % n
        rw [show p.val / 4 + n - 1 = (p.val / 4 - 1) + n by omega, Nat.add_mod_right, Nat.mod_eq_of_lt (by omega)])]
      congr 1; simp only []; omega
  · have hp : ¬ p.val % 160 = 0 := by omega
    obtain ⟨j, hj'⟩ : ∃ j, p.val % 4 = j + 1 := ⟨p.val % 4 - 1, by omega⟩
    rw [hj', byte_up_succ _ _ _ (by omega), dif_neg hp]
    rw [bytes_apply w hc ⟨p.val - 1, by omega⟩ l ⟨p.val / 4, ha⟩ (by simp only []; omega)]
    congr 1; simp only []; omega

theorem down_bytes (s : BitVec 32) (I w : IVec ⟨2, ![n, 384]⟩ 32) (h : (⟨2, ![n, 384]⟩ : Shape).Rotates 0 none)
    (hI : ∀ (a : Fin n) (l : Fin 384), I (ix2 a l) = BitVec.ofNat 32 (a.val % 40)) (hn : n % 40 = 0)
    (hc : (⟨2, ![n, 384]⟩ : Shape).Bitcasts 32 ⟨2, ![R, 384]⟩ 8) (hR : R = 4 * n) (h1 : s.toNat + 1 = n) (p : Fin R) (l : Fin 384) :
    bitcast ⟨2, ![R, 384]⟩ 8 (down s I w h) hc (ix2 p l)
      = if hp : p.val % 160 = 159 then 0#8 else bitcast ⟨2, ![R, 384]⟩ 8 w hc (ix2 ⟨p.val + 1, by omega⟩ l) := by
  have hpl := p.isLt
  have ha : p.val / 4 < n := by omega
  rw [bytes_apply (down s I w h) hc p l ⟨p.val / 4, ha⟩ rfl]
  have e : down s I w h (ix2 ⟨p.val / 4, ha⟩ l)
      = IntOp.ori (IntOp.shrui .vector (w (ix2 ⟨p.val / 4, ha⟩ l)) 8#32)
          (IntOp.shli .vector (if p.val / 4 % 40 = 39 then 0#32 else dynamicRotate 0 s none w h (ix2 ⟨p.val / 4, ha⟩ l)) 24#32) := by
    show IntOp.ori _ (IntOp.shli .vector (Scalar.select (IntOp.cmpi .eq (I (ix2 ⟨p.val / 4, ha⟩ l)) 39#32) _ _) _) = _
    rw [sel_eq, hI]
    congr 2
    have := ofNat_mod_eq (p.val / 4) 39 (by omega)
    simp only [this]; rfl
  rw [e]
  by_cases hj : p.val % 4 = 3
  · rw [hj, byte_down_last]
    by_cases hp : p.val % 160 = 159
    · have : p.val / 4 % 40 = 39 := by omega
      rw [if_pos this, dif_pos hp, byte_zero]
    · have : ¬ p.val / 4 % 40 = 39 := by omega
      rw [if_neg this, dif_neg hp]
      rw [bytes_apply w hc ⟨p.val + 1, by omega⟩ l ⟨p.val / 4 + 1, by omega⟩ (by simp only []; omega)]
      rw [rotate_one w h ⟨p.val / 4, ha⟩ ⟨p.val / 4 + 1, by omega⟩ l s (by
        have e1 : s.toNat % n = s.toNat := Nat.mod_eq_of_lt (by omega)
        rw [e1]
        show p.val / 4 + 1 = (p.val / 4 + n - s.toNat) % n
        rw [show p.val / 4 + n - s.toNat = p.val / 4 + 1 by omega, Nat.mod_eq_of_lt (by omega)])]
      congr 1; simp only []; omega
  · have hp : ¬ p.val % 160 = 159 := by omega
    rw [byte_down _ _ _ (by omega), dif_neg hp]
    rw [bytes_apply w hc ⟨p.val + 1, by omega⟩ l ⟨p.val / 4, ha⟩ (by simp only []; omega)]
    congr 1; simp only []; omega

end shift

end Cert.Words
-- ==== Proof.Band.lean ====
/-
  The left operand of one product of a convolution: three image rows of one frame, taken or replaced by zero codes,
  joined, and shifted by one pixel or not.  Here it is read code by code, and one product is read as a sum.
-/
module

public import proofs.«01_k».proof.Proof.Shift
public import Idealize.ShloMosaic.Lib.MatmulPlain
public import Idealize.ShloMosaic.Lib.ValueLayout
public import Idealize.ShloMosaic.Lib.ValueLayoutCasts
public import Idealize.ShloMosaic.Lib.Pointwise.Reduce

@[expose] public section

namespace Cert.Words

open Idealize.ShloMosaic hiding ix1 ix2 ix3
open Idealize.ShloMosaic.TcCoe Idealize.ShloMosaic.ValueIdx

/-! ## The codes of an image with a border -/

/-- The codes of one frame by pixel number and channel, read with a border of one zero pixel all round: `Y` and `X` count from the border. -/
def padded (im : Nat → Fin 384 → BitVec 8) (Y X : Nat) (l : Fin 384) : BitVec 8 :=
  if (1 ≤ Y ∧ Y ≤ 90) ∧ (1 ≤ X ∧ X ≤ 160) then im ((Y - 1) * 160 + (X - 1)) l else 0#8

/-- A frame or, where `b` is not one, zero codes. -/
def masked (b : BitVec 1) (im : Nat → Fin 384 → BitVec 8) : Nat → Fin 384 → BitVec 8 :=
  fun p l => if b = 1#1 then im p l else 0#8

/-! ## The rows of a band -/

/-- One image row as words, times a truth value. -/
def rowWords (b : BitVec 1) (x : IVec ⟨2, ![160, 384]⟩ 8) (h : (⟨2, ![160, 384]⟩ : Shape).Bitcasts 8 ⟨2, ![40, 384]⟩ 32) : IVec ⟨2, ![40, 384]⟩ 32 :=
  muli (bitcast ⟨2, ![40, 384]⟩ 32 x h) (broadcast ⟨2, ![40, 384]⟩ (Scalar.extui b))

theorem rowWords_byte (b : BitVec 1) (x : IVec ⟨2, ![160, 384]⟩ 8) (h : (⟨2, ![160, 384]⟩ : Shape).Bitcasts 8 ⟨2, ![40, 384]⟩ 32)
    (a : Fin 40) (l : Fin 384) (j : Nat) (hj : j < 4) (p : Fin 160) (hp : p.val = 4 * a.val + j) :
    byte (rowWords b x h (ix2 a l)) j = if b = 1#1 then x (ix2 p l) else 0#8 := by
  show byte (IntOp.muli (bitcast ⟨2, ![40, 384]⟩ 32 x h (ix2 a l)) (Scalar.extui b)) j = _
  rw [byte_mul_ok, byte_words x h a l j hj p hp]

/-- Three image rows of words, one after another. -/
def threeRows (w0 w1 w2 : IVec ⟨2, ![40, 384]⟩ 32)
    (h : Shape.Concatenates [⟨2, ![40, 384]⟩, ⟨2, ![40, 384]⟩, ⟨2, ![40, 384]⟩] ⟨2, ![120, 384]⟩ 0) : IVec ⟨2, ![120, 384]⟩ 32 :=
  concatenate ⟨2, ![120, 384]⟩ 0 [⟨⟨2, ![40, 384]⟩, w0⟩, ⟨⟨2, ![40, 384]⟩, w1⟩, ⟨⟨2, ![40, 384]⟩, w2⟩] h

theorem threeRows_apply (w : Fin 3 → IVec ⟨2, ![40, 384]⟩ 32)
    (h : Shape.Concatenates [⟨2, ![40, 384]⟩, ⟨2, ![40, 384]⟩, ⟨2, ![40, 384]⟩] ⟨2, ![120, 384]⟩ 0)
    (a : Fin 120) (l : Fin 384) (k : Fin 3) (q : Fin 40) (hk : a.val = 40 * k.val + q.val) :
    threeRows (w 0) (w 1) (w 2) h (ix2 a l) = w k (ix2 q l) := by
  have hq := q.isLt
  match k with
  | 0 =>
    exact concatenate_apply_piece (t := ⟨2, ![120, 384]⟩) 0 [⟨⟨2, ![40, 384]⟩, w 0⟩, ⟨⟨2, ![40, 384]⟩, w 1⟩, ⟨⟨2, ![40, 384]⟩, w 2⟩] h (ix2 a l) 0 (by simp) ⟨2, ![40, 384]⟩ (w 0) rfl rfl 0 (by rfl) (ix2 q l)
      (fun b hb => by match b with | ⟨0, _⟩ => exact absurd rfl hb | ⟨1, _⟩ => rfl) (by show 0 + q.val = a.val; simp only [Fin.val_zero] at hk; omega)
  | 1 =>
    exact concatenate_apply_piece (t := ⟨2, ![120, 384]⟩) 0 [⟨⟨2, ![40, 384]⟩, w 0⟩, ⟨⟨2, ![40, 384]⟩, w 1⟩, ⟨⟨2, ![40, 384]⟩, w 2⟩] h (ix2 a l) 1 (by simp) ⟨2, ![40, 384]⟩ (w 1) rfl rfl 40 (by rfl) (ix2 q l)
      (fun b hb => by match b with | ⟨0, _⟩ => exact absurd rfl hb | ⟨1, _⟩ => rfl) (by show 40 + q.val = a.val; simp only [Fin.val_one] at hk; omega)
  | 2 =>
    exact concatenate_apply_piece (t := ⟨2, ![120, 384]⟩) 0 [⟨⟨2, ![40, 384]⟩, w 0⟩, ⟨⟨2, ![40, 384]⟩, w 1⟩, ⟨⟨2, ![40, 384]⟩, w 2⟩] h (ix2 a l) 2 (by simp) ⟨2, ![40, 384]⟩ (w 2) rfl rfl 80 (by rfl) (ix2 q l)
      (fun b hb => by match b with | ⟨0, _⟩ => exact absurd rfl hb | ⟨1, _⟩ => rfl) (by show 80 + q.val = a.val; simp only [Fin.val_two] at hk; omega)

/-- Row `160 k + q` of a band's bytes is pixel `q` of its `k`-th image row, or zero. -/
theorem band_bytes (ok : Fin 3 → BitVec 1) (x : Fin 3 → IVec ⟨2, ![160, 384]⟩ 8)
    (h : (⟨2, ![160, 384]⟩ : Shape).Bitcasts 8 ⟨2, ![40, 384]⟩ 32)
    (hcat : Shape.Concatenates [⟨2, ![40, 384]⟩, ⟨2, ![40, 384]⟩, ⟨2, ![40, 384]⟩] ⟨2, ![120, 384]⟩ 0)
    (hc : (⟨2, ![120, 384]⟩ : Shape).Bitcasts 32 ⟨2, ![480, 384]⟩ 8)
    (p : Fin 480) (l : Fin 384) (k : Fin 3) (q : Fin 160) (hk : p.val = 160 * k.val + q.val) :
    bitcast ⟨2, ![480, 384]⟩ 8 (threeRows (rowWords (ok 0) (x 0) h) (rowWords (ok 1) (x 1) h) (rowWords (ok 2) (x 2) h) hcat) hc (ix2 p l)
      = if ok k = 1#1 then x k (ix2 q l) else 0#8 := by
  have hq := q.isLt
  rw [bytes_apply _ hc p l ⟨p.val / 4, by omega⟩ rfl,
    threeRows_apply (fun k => rowWords (ok k) (x k) h) hcat ⟨p.val / 4, by omega⟩ l k ⟨q.val / 4, by omega⟩ (by simp only []; omega)]
  exact rowWords_byte (ok k) (x k) h ⟨q.val / 4, by omega⟩ l (p.val % 4) (by omega) q (by simp only []; omega)

/-- The three horizontal positions of a product: the band shifted up, the band, the band shifted down. -/
def shifted (I : IVec ⟨2, ![120, 384]⟩ 32) (hr : (⟨2, ![120, 384]⟩ : Shape).Rotates 0 none) (w : IVec ⟨2, ![120, 384]⟩ 32) :
    Fin 3 → IVec ⟨2, ![120, 384]⟩ 32
  | 0 => up I w hr
  | 1 => w
  | 2 => down 119#32 I w hr

/-- The code that horizontal position `dw` finds at row `160 k + q`: pixel `q + dw - 1` of image row `k`, or zero. -/
theorem shifted_bytes (hi : (⟨2, ![120, 384]⟩ : Shape).Iotas .tc 32 [0]) (hb : (⟨2, ![120, 384]⟩ : Shape).Broadcasts ⟨2, ![120, 384]⟩)
    (hr : (⟨2, ![120, 384]⟩ : Shape).Rotates 0 none) (hc : (⟨2, ![120, 384]⟩ : Shape).Bitcasts 32 ⟨2, ![480, 384]⟩ 8)
    (w : IVec ⟨2, ![120, 384]⟩ 32) (v : Fin 3 → Nat → Fin 384 → BitVec 8)
    (hw : ∀ (p : Fin 480) (l : Fin 384) (k : Fin 3) (q : Fin 160), p.val = 160 * k.val + q.val →
      bitcast ⟨2, ![480, 384]⟩ 8 w hc (ix2 p l) = v k q.val l)
    (dw : Fin 3) (p : Fin 480) (l : Fin 384) (k : Fin 3) (q : Fin 160) (hk : p.val = 160 * k.val + q.val) :
    bitcast ⟨2, ![480, 384]⟩ 8 (shifted (place 120 hi hb) hr w dw) hc (ix2 p l)
      = if 1 ≤ q.val + dw.val ∧ q.val + dw.val ≤ 160 then v k (q.val + dw.val - 1) l else 0#8 := by
  have hq := q.isLt
  have hk3 := k.isLt
  match dw with
  | 0 =>
    refine (up_bytes (place 120 hi hb) w hr (place_apply hi hb (by decide)) hc (by decide) (by decide) p l).trans ?_
    simp only [Fin.val_zero, Nat.add_zero]
    by_cases h0 : q.val = 0
    · rw [dif_pos (by omega), if_neg (by omega)]
    · rw [dif_neg (by omega), if_pos (by omega)]
      exact hw ⟨p.val - 1, by omega⟩ l k ⟨q.val - 1, by omega⟩ (by simp only []; omega)
  | 1 =>
    simp only [Fin.val_one, Nat.add_sub_cancel]
    rw [if_pos (by omega)]
    exact hw p l k q hk
  | 2 =>
    refine (down_bytes 119#32 (place 120 hi hb) w hr (place_apply hi hb (by decide)) (by decide) hc (by decide) (by decide) p l).trans ?_
    simp only [Fin.val_two]
    by_cases h0 : q.val = 159
    · rw [dif_pos (by omega), if_neg (by omega)]
    · rw [dif_neg (by omega), if_pos (by omega)]
      exact hw ⟨p.val + 1, by omega⟩ l k ⟨q.val + 1, by omega⟩ (by simp only []; omega)

/-! ## One product -/

/-- The number a one-byte code stands for. -/
noncomputable def decode (b : BitVec 8) : EReal := FloatOps.ofBits (F := Ideal) .fp8e4m3 b

/-- One product read at row `r`, channel `n`. -/
theorem product_apply {N O : Nat} (x : IVec ⟨2, ![N, 384]⟩ 8) (w : FVec Ideal ⟨2, ![384, O]⟩ .fp8e4m3) (r : Fin N) (n : Fin O) :
    matmul (F := Ideal) (DotDims.plain N 384 O) none (bitcastToFloat .fp8e4m3 x) w (constant ⟨2, ![N, O]⟩ .f32 0x00000000#32) (ix2 r n)
      = ∑ k : Fin 384, decode (x (ix2 r k)) * w (ix2 k n) := by
  refine (Ideal.matmul_plain_apply none (bitcastToFloat .fp8e4m3 x) w (constant ⟨2, ![N, O]⟩ .f32 0x00000000#32) r n).trans ?_
  have h0 : constant (F := Ideal) ⟨2, ![N, O]⟩ .f32 0x00000000#32 (ix2 r n) = 0 := Ideal.ofBits_zero_f32
  rw [h0, zero_add]
  rfl

/-! ## Twenty-seven terms in the order of the taps -/

section sum27
variable {α : Type}

/-- The sum over the nine taps of one frame, begun from `a`. -/
def nine (add : α → α → α) (a : α) (f : Fin 3 → Fin 3 → α) : α :=
  add (add (add (add (add (add (add (add (add a (f 0 0)) (f 0 1)) (f 0 2)) (f 1 0)) (f 1 1)) (f 1 2)) (f 2 0)) (f 2 1)) (f 2 2)

/-- The sum over all taps, frame by frame, row by row, pixel by pixel. -/
def sum27 (add : α → α → α) (f : Fin 3 → Fin 3 → Fin 3 → α) : α :=
  nine add (nine add
    (add (add (add (add (add (add (add (add (f 0 0 0) (f 0 0 1)) (f 0 0 2)) (f 0 1 0)) (f 0 1 1)) (f 0 1 2)) (f 0 2 0)) (f 0 2 1)) (f 0 2 2))
    (f 1)) (f 2)

theorem sum27_congr (add : α → α → α) {f g : Fin 3 → Fin 3 → Fin 3 → α} (h : ∀ a b c, f a b c = g a b c) : sum27 add f = sum27 add g := by
  have : f = g := funext fun a => funext fun b => funext fun c => h a b c
  rw [this]

end sum27

/-- The sum of twenty-seven arrays read at an index. -/
theorem sum27_apply {s : Shape} (f : Fin 3 → Fin 3 → Fin 3 → FVec Ideal s .f32) (i : s.Idx) :
    sum27 addf f i = sum27 (fun a b : EReal => a + b) (fun x y z => f x y z i) := rfl

end Cert.Words
-- ==== Proof.Epilogue.lean ====
/-
  What follows the products, on `N` rows of 384 channels: the scale and the bias, the root mean square normalisation with
  its gain and its sigmoid, and the division by the next scale clipped to the range of a one-byte float.  A row of the
  result depends on that row only, and the same formula holds whatever `N` is.
-/
module

public import proofs.«01_k».proof.Proof.Band
public import Idealize.ShloMosaic.Lib.Pointwise.Tactic

@[expose] public section

namespace Cert.Words

open Idealize.ShloMosaic hiding ix1 ix2 ix3
open Idealize.ShloMosaic.TcCoe Idealize.ShloMosaic.ValueIdx

section
variable {F : FTy → Type} [FloatOps F] {N : Nat}

/-- Scale and bias of a sum of products. -/
def scaled {O : Nat} (acc : FVec F ⟨2, ![N, O]⟩ .f32) (sw b : FVec F ⟨2, ![1, O]⟩ .f32) (h : (⟨2, ![1, O]⟩ : Shape).Broadcasts ⟨2, ![N, O]⟩) :
    FVec F ⟨2, ![N, O]⟩ .f32 :=
  addf (mulf acc (broadcastTo ⟨2, ![N, O]⟩ sw h)) (broadcastTo ⟨2, ![N, O]⟩ b h)

/-- Normalisation by the root mean square of a row, the gain, and `v * sigmoid v`. -/
def normed (x : FVec F ⟨2, ![N, 384]⟩ .f32) (g : FVec F ⟨2, ![1, 384]⟩ .f32) (h : (⟨2, ![1, 384]⟩ : Shape).Broadcasts ⟨2, ![N, 384]⟩)
    (hr : (⟨2, ![N, 384]⟩ : Shape).Reduces [1] ⟨1, ![N]⟩) (hs : (⟨1, ![N]⟩ : Shape).ShapeCasts ⟨2, ![N, 1]⟩)
    (hb : (⟨2, ![N, 1]⟩ : Shape).Broadcasts ⟨2, ![N, 384]⟩) : FVec F ⟨2, ![N, 384]⟩ .f32 :=
  let v := divf (mulf x (broadcastTo ⟨2, ![N, 384]⟩ g h))
    (broadcastTo ⟨2, ![N, 384]⟩
      (sqrt (addf (divf (shapeCast ⟨2, ![N, 1]⟩ (multiReduction .add [1] ⟨1, ![N]⟩ (mulf x x) 0x00000000#32 hr (.inl rfl) rfl) hs)
        (broadcast ⟨2, ![N, 1]⟩ (Scalar.ofBits .f32 0x43C00000#32)))
        (broadcast ⟨2, ![N, 1]⟩ (Scalar.ofBits .f32 0x358637BD#32)))) hb)
  mulf v (logistic v)

/-- Division by a scale, the result clipped and rounded to a one-byte float. -/
def quantised (v s : FVec F ⟨2, ![N, 384]⟩ .f32) : FVec F ⟨2, ![N, 384]⟩ .fp8e4m3 :=
  truncf .fp8e4m3 (minimumf (broadcast ⟨2, ![N, 384]⟩ (Scalar.ofBits .f32 0x43E00000#32))
    (maximumf (broadcast ⟨2, ![N, 384]⟩ (Scalar.ofBits .f32 0xC3E00000#32)) (divf v s))) (by decide)

end

variable {N : Nat}

/-- One normalised value of a row `x` with gain `g`, at channel `n`. -/
noncomputable def normAt (x g : Fin 384 → EReal) (n : Fin 384) : EReal :=
  let v := FloatOps.divf (F := Ideal) (φ := .f32) (FloatOps.mulf (F := Ideal) (φ := .f32) (x n) (g n))
    (FloatOps.sqrt (F := Ideal) (φ := .f32) (FloatOps.addf (F := Ideal) (φ := .f32)
      (FloatOps.divf (F := Ideal) (φ := .f32) (∑ k : Fin 384, FloatOps.mulf (F := Ideal) (φ := .f32) (x k) (x k)) (Scalar.ofBits (F := Ideal) .f32 0x43C00000#32))
      (Scalar.ofBits (F := Ideal) .f32 0x358637BD#32)))
  FloatOps.mulf (F := Ideal) (φ := .f32) v (FloatOps.logistic (F := Ideal) (φ := .f32) v)

/-- One value over a scale, clipped. -/
noncomputable def quantAt (v s : EReal) : EReal :=
  FloatOps.truncf (F := Ideal) (φ := .f32) .fp8e4m3 (by decide) (FloatOps.minimumf (F := Ideal) (φ := .f32) (Scalar.ofBits (F := Ideal) .f32 0x43E00000#32)
    (FloatOps.maximumf (F := Ideal) (φ := .f32) (Scalar.ofBits (F := Ideal) .f32 0xC3E00000#32) (FloatOps.divf (F := Ideal) (φ := .f32) v s)))

theorem scaled_apply {O : Nat} (acc : FVec Ideal ⟨2, ![N, O]⟩ .f32) (sw b : FVec Ideal ⟨2, ![1, O]⟩ .f32)
    (h : (⟨2, ![1, O]⟩ : Shape).Broadcasts ⟨2, ![N, O]⟩) (r : Fin N) (n : Fin O) :
    scaled acc sw b h (ix2 r n) = acc (ix2 r n) * sw (ix2 0 n) + b (ix2 0 n) := by
  show acc (ix2 r n) * broadcastTo ⟨2, ![N, O]⟩ sw h (ix2 r n) + broadcastTo ⟨2, ![N, O]⟩ b h (ix2 r n) = _
  rw [broadcastTo_1b_ab_apply, broadcastTo_1b_ab_apply]

theorem quantised_apply (v s : FVec Ideal ⟨2, ![N, 384]⟩ .f32) (r : Fin N) (n : Fin 384) :
    quantised v s (ix2 r n) = quantAt (v (ix2 r n)) (s (ix2 r n)) := rfl

theorem normed_apply (x : FVec Ideal ⟨2, ![N, 384]⟩ .f32) (g : FVec Ideal ⟨2, ![1, 384]⟩ .f32) (h : (⟨2, ![1, 384]⟩ : Shape).Broadcasts ⟨2, ![N, 384]⟩)
    (hr : (⟨2, ![N, 384]⟩ : Shape).Reduces [1] ⟨1, ![N]⟩) (hs : (⟨1, ![N]⟩ : Shape).ShapeCasts ⟨2, ![N, 1]⟩)
    (hb : (⟨2, ![N, 1]⟩ : Shape).Broadcasts ⟨2, ![N, 384]⟩) (r : Fin N) (n : Fin 384) :
    normed x g h hr hs hb (ix2 r n) = normAt (fun k => x (ix2 r k)) (fun k => g (ix2 0 k)) n := by
  have hsum : shapeCast ⟨2, ![N, 1]⟩ (multiReduction (F := Ideal) .add [1] ⟨1, ![N]⟩ (mulf x x) 0x00000000#32 hr (.inl rfl) rfl) hs (ix2 r 0)
      = ∑ k : Fin 384, FloatOps.mulf (F := Ideal) (φ := .f32) (x (ix2 r k)) (x (ix2 r k)) := by
    rw [shapeCast_a_a1_apply]
    exact Ideal.reduceAdd_r2_a1 hr _ _
  have hbr : ∀ z : FVec Ideal ⟨2, ![N, 1]⟩ .f32, broadcastTo ⟨2, ![N, 384]⟩ z hb (ix2 r n) = z (ix2 r 0) := fun z =>
    broadcastTo_apply z hb (ix2 r n) (ix2 r 0) (by
      intro a
      match a with
      | ⟨0, _⟩ =>
        by_cases h1 : N = 1
        · have h2 : r.val = 0 := by have := r.isLt; omega
          exact h2.trans (if_pos (show (⟨2, ![N, 1]⟩ : Shape).size 0 = 1 from h1)).symm
        · exact (if_neg (show ¬ (⟨2, ![N, 1]⟩ : Shape).size 0 = 1 from h1)).symm
      | ⟨1, _⟩ => rfl)
  have hv : divf (mulf x (broadcastTo ⟨2, ![N, 384]⟩ g h))
    (broadcastTo ⟨2, ![N, 384]⟩
      (sqrt (addf (divf (shapeCast ⟨2, ![N, 1]⟩ (multiReduction (F := Ideal) .add [1] ⟨1, ![N]⟩ (mulf x x) 0x00000000#32 hr (.inl rfl) rfl) hs)
        (broadcast ⟨2, ![N, 1]⟩ (Scalar.ofBits .f32 0x43C00000#32)))
        (broadcast ⟨2, ![N, 1]⟩ (Scalar.ofBits .f32 0x358637BD#32)))) hb) (ix2 r n)
    = FloatOps.divf (F := Ideal) (φ := .f32) (FloatOps.mulf (F := Ideal) (φ := .f32) (x (ix2 r n)) (g (ix2 0 n)))
    (FloatOps.sqrt (F := Ideal) (φ := .f32) (FloatOps.addf (F := Ideal) (φ := .f32)
      (FloatOps.divf (F := Ideal) (φ := .f32) (∑ k : Fin 384, FloatOps.mulf (F := Ideal) (φ := .f32) (x (ix2 r k)) (x (ix2 r k))) (Scalar.ofBits (F := Ideal) .f32 0x43C00000#32))
      (Scalar.ofBits (F := Ideal) .f32 0x358637BD#32))) := by
    show FloatOps.divf (F := Ideal) (φ := .f32) (FloatOps.mulf (F := Ideal) (φ := .f32) (x (ix2 r n)) (broadcastTo ⟨2, ![N, 384]⟩ g h (ix2 r n))) (broadcastTo ⟨2, ![N, 384]⟩ _ hb (ix2 r n)) = _
    rw [broadcastTo_1b_ab_apply, hbr, ← hsum]
    rfl
  show FloatOps.mulf (F := Ideal) (φ := .f32) (divf _ _ (ix2 r n)) (FloatOps.logistic (F := Ideal) (φ := .f32) (divf _ _ (ix2 r n))) = _
  rw [hv]; rfl

end Cert.Words
-- ==== Proof.Conv.lean ====
/-
  A tile of a causal 3 x 3 x 3 convolution: three output image rows of 160 pixels, each the sum of twenty-seven
  products, one for each tap.  Here the tile's sum is written with the band of image rows that the kernel loads, and
  read as a sum over the codes of the three frames with a border of zeros.
-/
module

public import proofs.«01_k».proof.Proof.Epilogue
public import Idealize.ShloMosaic.Lib.Pipeline.ValueKit.Tiles

@[expose] public section

namespace Cert.Words

open Idealize.ShloMosaic hiding ix1 ix2 ix3 ix4
open Idealize.ShloMosaic.TcCoe Idealize.ShloMosaic.ValueIdx

/-! ## Which image rows a tile takes -/

/-- The image row that tile `i1` takes as its `k`-th at vertical position `d`, as the kernel computes it. -/
def rowWord (i1 d k : BitVec 32) : BitVec 32 :=
  Scalar.addi (Scalar.subi (Scalar.addi (Scalar.muli i1 3#32) d) 1#32) k

/-- Whether that row lies in the image and the frame is kept. -/
def rowOk (i1 : BitVec 32) (keep : BitVec 1) (d k : Fin 3) : BitVec 1 :=
  Scalar.andi (Scalar.andi (Scalar.cmpi .sge (rowWord i1 (BitVec.ofNat 32 d.val) (BitVec.ofNat 32 k.val)) 0#32)
    (Scalar.cmpi .slt (rowWord i1 (BitVec.ofNat 32 d.val) (BitVec.ofNat 32 k.val)) 90#32)) keep

/-- The first pixel of that row, the row clipped to the image. -/
def rowStart (i1 d k : BitVec 32) : Nat :=
  (Scalar.indexCast (Scalar.muli (Scalar.minsi 89#32 (Scalar.maxsi 0#32 (rowWord i1 d k))) 160#32)).toNat

theorem rowOk_keep : ∀ (j : Fin 30) (d k : Fin 3), (rowOk (BitVec.ofNat 32 j.val) 1#1 d k = 1#1) ↔
    (1 ≤ 3 * j.val + d.val + k.val ∧ 3 * j.val + d.val + k.val ≤ 90) := by decide +kernel

theorem rowOk_drop : ∀ (j : Fin 30) (d k : Fin 3), ¬ (rowOk (BitVec.ofNat 32 j.val) 0#1 d k = 1#1) := by decide +kernel

theorem rowStart_eq : ∀ (j : Fin 30) (d k : Fin 3), 1 ≤ 3 * j.val + d.val + k.val → 3 * j.val + d.val + k.val ≤ 90 →
    rowStart (BitVec.ofNat 32 j.val) (BitVec.ofNat 32 d.val) (BitVec.ofNat 32 k.val) = 160 * (3 * j.val + d.val + k.val - 1) := by
  decide +kernel

theorem rowStart_lt : ∀ (j : Fin 30) (d k : Fin 3),
    rowStart (BitVec.ofNat 32 j.val) (BitVec.ofNat 32 d.val) (BitVec.ofNat 32 k.val) + 160 ≤ 14400 := by
  decide +kernel

/-- A one-bit word is zero or one. -/
theorem bit_cases (b : BitVec 1) : b = 0#1 ∨ b = 1#1 := by
  rcases Nat.lt_or_ge b.toNat 1 with h | h
  · left; apply BitVec.eq_of_toNat_eq; simp; omega
  · right; apply BitVec.eq_of_toNat_eq; have := b.isLt; simp; omega

/-! ## The left operand of a product -/

/-- The words of the band that tile `i1` takes at vertical position `d` of a frame whose image rows are `x`. -/
def bandOf (i1 : BitVec 32) (keep : BitVec 1) (d : Fin 3) (x : Fin 3 → IVec ⟨2, ![160, 384]⟩ 8) : IVec ⟨2, ![120, 384]⟩ 32 :=
  threeRows (rowWords (rowOk i1 keep d 0) (x 0) (by decide)) (rowWords (rowOk i1 keep d 1) (x 1) (by decide))
    (rowWords (rowOk i1 keep d 2) (x 2) (by decide)) (by decide)

/-- The codes of that band at horizontal position `dw`. -/
def bandCodes (b : IVec ⟨2, ![120, 384]⟩ 32) (dw : Fin 3) : IVec ⟨2, ![480, 384]⟩ 8 :=
  bitcast ⟨2, ![480, 384]⟩ 8 (shifted (place 120 (by decide) (by decide)) (by decide) b dw) (by decide)

theorem bandCodes_apply (j : Fin 30) (keep : BitVec 1) (d dw : Fin 3) (x : Fin 3 → IVec ⟨2, ![160, 384]⟩ 8)
    (im : Nat → Fin 384 → BitVec 8)
    (hx : ∀ (k : Fin 3) (q : Fin 160) (l : Fin 384), x k (ix2 q l) = im (rowStart (BitVec.ofNat 32 j.val) (BitVec.ofNat 32 d.val) (BitVec.ofNat 32 k.val) + q.val) l)
    (p : Fin 480) (l : Fin 384) :
    bandCodes (bandOf (BitVec.ofNat 32 j.val) keep d x) dw (ix2 p l)
      = padded (masked keep im) (3 * j.val + p.val / 160 + d.val) (p.val % 160 + dw.val) l := by
  have hp := p.isLt
  have hj := j.isLt
  let k : Fin 3 := ⟨p.val / 160, by omega⟩
  let q : Fin 160 := ⟨p.val % 160, by omega⟩
  have hk : p.val = 160 * k.val + q.val := by show p.val = 160 * (p.val / 160) + p.val % 160; omega
  refine (shifted_bytes (by decide) (by decide) (by decide) (by decide) _
    (fun k q l => if h : q < 160 then (if rowOk (BitVec.ofNat 32 j.val) keep d k = 1#1 then x k (ix2 ⟨q, h⟩ l) else 0#8) else 0#8)
    (fun p l k q hk => by
      rw [dif_pos q.isLt]
      exact band_bytes (fun k => rowOk (BitVec.ofNat 32 j.val) keep d k) x (by decide) (by decide) (by decide) p l k q hk)
    dw p l k q hk).trans ?_
  have e1 : q.val = p.val % 160 := rfl
  have e2 : 3 * j.val + p.val / 160 + d.val = 3 * j.val + d.val + k.val := by show _ = 3 * j.val + d.val + p.val / 160; omega
  unfold padded
  rw [e1, e2]
  by_cases hX : 1 ≤ p.val % 160 + dw.val ∧ p.val % 160 + dw.val ≤ 160
  · rw [if_pos hX, dif_pos (by omega)]
    rcases bit_cases keep with rfl | rfl
    · rw [if_neg (rowOk_drop j d k)]
      by_cases hY : 1 ≤ 3 * j.val + d.val + k.val ∧ 3 * j.val + d.val + k.val ≤ 90
      · rw [if_pos ⟨hY, hX⟩]; rfl
      · rw [if_neg (fun h => hY h.1)]
    · by_cases hY : 1 ≤ 3 * j.val + d.val + k.val ∧ 3 * j.val + d.val + k.val ≤ 90
      · rw [if_pos ((rowOk_keep j d k).2 hY), if_pos ⟨hY, hX⟩, hx, rowStart_eq j d k hY.1 hY.2]
        show _ = im _ l
        congr 1; simp only []; omega
      · rw [if_neg (fun h => hY ((rowOk_keep j d k).1 h)), if_neg (fun h => hY h.1)]
  · rw [if_neg hX, if_neg (fun h => hX h.2)]

/-! ## The sum of the products -/

section
variable {F : FTy → Type} [FloatOps F]

/-- One product of a tile. -/
def tileTap (b : IVec ⟨2, ![120, 384]⟩ 32) (dw : Fin 3) (w : Vec F ⟨3, ![1, 384, 384]⟩ .fp8e4m3) : FVec F ⟨2, ![480, 384]⟩ .f32 :=
  matmul (DotDims.plain 480 384 384) none (bitcastToFloat .fp8e4m3 (bandCodes b dw)) (shapeCast ⟨2, ![384, 384]⟩ w (by decide))
    (constant ⟨2, ![480, 384]⟩ .f32 0x00000000#32)

end

/-- The sum over the channels of the codes of one tap times its weights, at output pixel `(y, x)`. -/
noncomputable def tapSum {O : Nat} (im : Nat → Fin 384 → BitVec 8) (w : Fin 384 → Fin O → EReal) (Y X : Nat) (n : Fin O) : EReal :=
  ∑ k : Fin 384, decode (padded im Y X k) * w k n

/-- A causal convolution at output pixel `(y, x)`, before its scale: the sum of the twenty-seven taps. -/
noncomputable def convSum (im : Fin 3 → Nat → Fin 384 → BitVec 8) (w : Fin 3 → Fin 3 → Fin 3 → Fin 384 → Fin 384 → EReal) (y x : Nat) (n : Fin 384) : EReal :=
  sum27 (fun a b : EReal => a + b) (fun dt dh dw => tapSum (im dt) (w dt dh dw) (y + dh.val) (x + dw.val) n)

theorem tileTap_apply (j : Fin 30) (keep : BitVec 1) (d dw : Fin 3) (x : Fin 3 → IVec ⟨2, ![160, 384]⟩ 8)
    (im : Nat → Fin 384 → BitVec 8)
    (hx : ∀ (k : Fin 3) (q : Fin 160) (l : Fin 384), x k (ix2 q l) = im (rowStart (BitVec.ofNat 32 j.val) (BitVec.ofNat 32 d.val) (BitVec.ofNat 32 k.val) + q.val) l)
    (w : Vec Ideal ⟨3, ![1, 384, 384]⟩ .fp8e4m3) (p : Fin 480) (n : Fin 384) :
    tileTap (F := Ideal) (bandOf (BitVec.ofNat 32 j.val) keep d x) dw w (ix2 p n)
      = tapSum (masked keep im) (fun k n => w (ix3 0 k n)) (3 * j.val + p.val / 160 + d.val) (p.val % 160 + dw.val) n := by
  refine (product_apply (bandCodes (bandOf (BitVec.ofNat 32 j.val) keep d x) dw) _ p n).trans ?_
  refine Finset.sum_congr rfl fun k _ => ?_
  rw [bandCodes_apply j keep d dw x im hx p k, shapeCast_1ab_ab_apply]

/-- The tile's sum of products, the frames' image rows and keep bits and the weights given. -/
theorem tileSum_apply (j : Fin 30) (keep : Fin 3 → BitVec 1) (x : Fin 3 → Fin 3 → Fin 3 → IVec ⟨2, ![160, 384]⟩ 8)
    (im : Fin 3 → Nat → Fin 384 → BitVec 8)
    (hx : ∀ (t d k : Fin 3) (q : Fin 160) (l : Fin 384), x t d k (ix2 q l) = im t (rowStart (BitVec.ofNat 32 j.val) (BitVec.ofNat 32 d.val) (BitVec.ofNat 32 k.val) + q.val) l)
    (w : Fin 3 → Fin 3 → Fin 3 → Vec Ideal ⟨3, ![1, 384, 384]⟩ .fp8e4m3) (p : Fin 480) (n : Fin 384) :
    sum27 addf (fun t d dw => tileTap (F := Ideal) (bandOf (BitVec.ofNat 32 j.val) (keep t) d (x t d)) dw (w t d dw)) (ix2 p n)
      = convSum (fun t => masked (keep t) (im t)) (fun t d dw k n => w t d dw (ix3 0 k n)) (3 * j.val + p.val / 160) (p.val % 160) n := by
  refine (sum27_apply _ (ix2 p n)).trans ?_
  exact sum27_congr _ fun t d dw => tileTap_apply j (keep t) d dw (x t d) (im t) (hx t d) (w t d dw) p n

/-! ## A frame's codes by pixel number -/

/-- A frame's codes as a function of any number. -/
def pix (f : Fin 14400 → Fin 384 → BitVec 8) : Nat → Fin 384 → BitVec 8 :=
  fun p l => if h : p < 14400 then f ⟨p, h⟩ l else 0#8

theorem pix_val (f : Fin 14400 → Fin 384 → BitVec 8) (p : Fin 14400) (l : Fin 384) : pix f p.val l = f p l := by
  unfold pix; rw [dif_pos p.isLt]

/-- The three frames a convolution reads, the first two zero where they are not kept. -/
def frames (keep : BitVec 1) (f : Fin 3 → Fin 14400 → Fin 384 → BitVec 8) (t : Fin 3) : Nat → Fin 384 → BitVec 8 :=
  masked (match t with | 0 => keep | 1 => keep | 2 => 1#1) (pix (f t))

/-- Rows of codes times a truth value. -/
theorem keptRows_apply {R n : Nat} (b : BitVec 1) (x : IVec ⟨2, ![R, 384]⟩ 8) (h : (⟨2, ![R, 384]⟩ : Shape).Bitcasts 8 ⟨2, ![n, 384]⟩ 32)
    (hc : (⟨2, ![n, 384]⟩ : Shape).Bitcasts 32 ⟨2, ![R, 384]⟩ 8) (hn : R = 4 * n) (p : Fin R) (l : Fin 384) :
    bitcast ⟨2, ![R, 384]⟩ 8 (muli (bitcast ⟨2, ![n, 384]⟩ 32 x h) (broadcast ⟨2, ![n, 384]⟩ (Scalar.extui b))) hc (ix2 p l)
      = if b = 1#1 then x (ix2 p l) else 0#8 := by
  have hp := p.isLt
  rw [bytes_apply _ hc p l ⟨p.val / 4, by omega⟩ rfl]
  show byte (IntOp.muli (bitcast ⟨2, ![n, 384]⟩ 32 x h (ix2 ⟨p.val / 4, by omega⟩ l)) (Scalar.extui b)) (p.val % 4) = _
  rw [byte_mul_ok, byte_words x h ⟨p.val / 4, by omega⟩ l (p.val % 4) (by omega) p (by simp only []; omega)]

/-! ## Two leading unit axes -/

theorem shapeCast_11ab_ab {α : Type} {a b : Nat} (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 0 0 i j) :=
  shapeCast_apply x h _ _ (by
    rw [Shape.rowMajor_val_four, Shape.rowMajor_val_two]
    show ((0 * 1 + 0) * a + i.val) * b + j.val = i.val * b + j.val
    norm_num)

theorem shapeCast_ab_11ab {α : Type} {a b : Nat} (x : (⟨2, ![a, b]⟩ : Shape).Idx → α) (h : (⟨2, ![a, b]⟩ : Shape).ShapeCasts ⟨4, ![1, 1, a, b]⟩)
    (u v : Fin 1) (i : Fin a) (j : Fin b) : shapeCast ⟨4, ![1, 1, a, b]⟩ x h (ix4 u v i j) = x (ix2 i j) :=
  shapeCast_apply x h _ _ (by
    rw [Shape.rowMajor_val_four, Shape.rowMajor_val_two]
    have hu := u.isLt; have hv := v.isLt
    have hu0 : u.val = 0 := by omega
    have hv0 : v.val = 0 := by omega
    show i.val * b + j.val = ((u.val * 1 + v.val) * a + i.val) * b + j.val
    rw [hu0, hv0]; norm_num)

/-- The image rows a tile takes lie in the image: a load of one row reads the codes by pixel number. -/
theorem rowStart_pix (f : Fin 14400 → Fin 384 → BitVec 8) (j : Fin 30) (d k : Fin 3) (q : Fin 160) (l : Fin 384)
    (h : rowStart (BitVec.ofNat 32 j.val) (BitVec.ofNat 32 d.val) (BitVec.ofNat 32 k.val) + q.val < 14400) :
    pix f (rowStart (BitVec.ofNat 32 j.val) (BitVec.ofNat 32 d.val) (BitVec.ofNat 32 k.val) + q.val) l = f ⟨_, h⟩ l := by
  unfold pix; rw [dif_pos h]

/-! ## Two frames stored one after the other -/

section
variable {Val : EltTy → Type} [∀ e, Nonempty (Val e)] {e : EltTy} {R : Nat}

theorem canon_frame1 (h1 : ∀ a, (![0, 1, 0, 0] : Fin 4 → Nat) a + (![1, 1, R, 384] : Fin 4 → Nat) a ≤ (⟨4, ![1, 2, R, 384]⟩ : Shape).size a)
    (w1 : (⟨4, ![1, 1, R, 384]⟩ : Shape).Idx → Val e) (L : List (View.Piece Val ⟨4, ![1, 2, R, 384]⟩ e)) (r : Fin R) (n : Fin 384) :
    View.canon ((⟨Rect.unit (s := ⟨4, ![1, 2, R, 384]⟩) ![0, 1, 0, 0] ![1, 1, R, 384] h1, w1⟩ : View.Piece Val ⟨4, ![1, 2, R, 384]⟩ e) :: L) (ix4 0 1 r n)
      = w1 (ix4 0 0 r n) := by
  have e1 : (ix4 0 1 r n : (⟨4, ![1, 2, R, 384]⟩ : Shape).Idx) = (Rect.unit (s := ⟨4, ![1, 2, R, 384]⟩) ![0, 1, 0, 0] ![1, 1, R, 384] h1).emb (ix4 0 0 r n) := by
    funext a
    match a with
    | ⟨0, _⟩ => rfl
    | ⟨1, _⟩ => rfl
    | ⟨2, _⟩ => exact Fin.ext (show r.val = 0 + 1 * r.val by omega)
    | ⟨3, _⟩ => exact Fin.ext (show n.val = 0 + 1 * n.val by omega)
  exact (congrArg _ e1).trans (View.canon_cons_emb (Rect.unit (s := ⟨4, ![1, 2, R, 384]⟩) ![0, 1, 0, 0] ![1, 1, R, 384] h1) w1 L (ix4 0 0 r n))

/-- An index off the last store and in the one before it reads that one's payload. -/
theorem canon_second {S : Shape} (ρ1 ρ0 : Rect S) (w1 : ρ1.shape.Idx → Val e) (w0 : ρ0.shape.Idx → Val e) (L : List (View.Piece Val S e)) {y : S.Idx} {x : ρ0.shape.Idx}
    (hn : y ∉ ρ1.set) (hy : y = ρ0.emb x) : View.canon ((⟨ρ1, w1⟩ : View.Piece Val S e) :: (⟨ρ0, w0⟩ : View.Piece Val S e) :: L) y = w0 x := by
  rw [View.canon_cons_of_not_mem (⟨ρ1, w1⟩ : View.Piece Val S e) _ hn, hy]
  exact View.canon_cons_emb ρ0 w0 L x

theorem canon_frame0 (h1 : ∀ a, (![0, 1, 0, 0] : Fin 4 → Nat) a + (![1, 1, R, 384] : Fin 4 → Nat) a ≤ (⟨4, ![1, 2, R, 384]⟩ : Shape).size a)
    (h0 : ∀ a, (![0, 0, 0, 0] : Fin 4 → Nat) a + (![1, 1, R, 384] : Fin 4 → Nat) a ≤ (⟨4, ![1, 2, R, 384]⟩ : Shape).size a)
    (w1 w0 : (⟨4, ![1, 1, R, 384]⟩ : Shape).Idx → Val e) (L : List (View.Piece Val ⟨4, ![1, 2, R, 384]⟩ e)) (r : Fin R) (n : Fin 384) :
    View.canon ((⟨Rect.unit (s := ⟨4, ![1, 2, R, 384]⟩) ![0, 1, 0, 0] ![1, 1, R, 384] h1, w1⟩ : View.Piece Val ⟨4, ![1, 2, R, 384]⟩ e)
      :: (⟨Rect.unit (s := ⟨4, ![1, 2, R, 384]⟩) ![0, 0, 0, 0] ![1, 1, R, 384] h0, w0⟩ : View.Piece Val ⟨4, ![1, 2, R, 384]⟩ e) :: L) (ix4 0 0 r n)
      = w0 (ix4 0 0 r n) := by
  have hn : (ix4 0 0 r n : (⟨4, ![1, 2, R, 384]⟩ : Shape).Idx) ∉ (Rect.unit (s := ⟨4, ![1, 2, R, 384]⟩) ![0, 1, 0, 0] ![1, 1, R, 384] h1).set := by
    rw [Rect.mem_set_unit]
    intro hm
    exact absurd (show (1 : Nat) ≤ 0 from (hm 1).1) (by decide)
  have e1 : (ix4 0 0 r n : (⟨4, ![1, 2, R, 384]⟩ : Shape).Idx) = (Rect.unit (s := ⟨4, ![1, 2, R, 384]⟩) ![0, 0, 0, 0] ![1, 1, R, 384] h0).emb (ix4 0 0 r n) := by
    funext a
    match a with
    | ⟨0, _⟩ => rfl
    | ⟨1, _⟩ => rfl
    | ⟨2, _⟩ => exact Fin.ext (show r.val = 0 + 1 * r.val by omega)
    | ⟨3, _⟩ => exact Fin.ext (show n.val = 0 + 1 * n.val by omega)
  exact canon_second _ _ w1 w0 L hn e1

end

end Cert.Words
-- ==== Proof.ConvNormSum.lean ====
/-
  The plain convolution's tile: the sum of products that the kernel's body leaves, in the words of `Conv.lean`.
-/
module

public import proofs.«01_k».proof.Proof.Conv
public import proofs.«01_k».proof.Proof.Gen.ConvNormIdeal.Frame

@[expose] public section

set_option maxRecDepth 16384

namespace Cert.ConvNorm

open Idealize.ShloMosaic hiding ix1 ix2 ix3 ix4
open Idealize.ShloMosaic.TcCoe Idealize.ShloMosaic.ValueIdx
open Cert.Words Cert.ConvNormIdeal Cert.ConvNormIdeal.Gen

variable {F : FTy → Type} [FloatOps F]

/-- An image row of a frame of the pool, as the kernel loads it. -/
noncomputable def poolRow (a : Memref sig .tc .vmem S1x1x14400x384 .i8) (ha : a.IsWhole) (x : Vec F S1x1x14400x384 .i8) (i : grid0.Coords) (d k : Fin 3) :
    IVec ⟨2, ![160, 384]⟩ 8 :=
  shapeCast ⟨2, ![160, 384]⟩ (View.readAt (Elt F) a.view (Rect.unit (s := S1x1x14400x384) (k0_off2 i (BitVec.ofNat 32 d.val) (BitVec.ofNat 32 k.val)) S1x1x160x384.size (k0_off2_inb i d k)).toLoadRect (ha.unread x)) (show S1x1x160x384.ShapeCasts ⟨2, ![160, 384]⟩ by decide)

/-- An image row of the current frame, as the kernel loads it. -/
noncomputable def ownRow (a : Memref sig .tc .vmem S1x14400x384 .i8) (ha : a.IsWhole) (x : Vec F S1x14400x384 .i8) (i : grid0.Coords) (d k : Fin 3) :
    IVec ⟨2, ![160, 384]⟩ 8 :=
  shapeCast ⟨2, ![160, 384]⟩ (View.readAt (Elt F) a.view (Rect.unit (s := S1x14400x384) (k0_off3 i (BitVec.ofNat 32 d.val) (BitVec.ofNat 32 k.val)) S1x160x384.size (k0_off3_inb i d k)).toLoadRect (ha.unread x)) (show S1x160x384.ShapeCasts ⟨2, ![160, 384]⟩ by decide)

theorem tap_inb : ∀ t d e : Fin 3, ∀ a, (![t.val * 9 + d.val * 3 + e.val, 0, 0] : Fin 3 → Nat) a + S1x384x384.size a ≤ S27x384x384.size a := by
  decide

/-- The weights of a tap, as the kernel loads them. -/
noncomputable def tapWeights (a : Memref sig .tc .vmem S27x384x384 .fp8e4m3) (ha : a.IsWhole) (x : Vec F S27x384x384 .fp8e4m3) (t d e : Fin 3) :
    Vec F ⟨3, ![1, 384, 384]⟩ .fp8e4m3 :=
  View.readAt (Elt F) a.view (Rect.unit (s := S27x384x384) ![t.val * 9 + d.val * 3 + e.val, 0, 0] S1x384x384.size (tap_inb t d e)).toLoadRect (ha.unread x)

/-- The number in a one-word scalar block, as the kernel loads it. -/
noncomputable def word (a : Memref sig .tc .smem S1 .f32) (ha : a.IsWhole) (x : Vec F S1 .f32) : Elt F .f32 :=
  View.readAt (Elt F) a.view (Rect.unit (s := S1) ![0] S1.size inb_S1_S1_0).toLoadRect (ha.unread x) (Shape.Idx.first (by decide))

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x2x480x384 .fp8e4m3) (harg13 : arg13.IsWhole) (arg14 : Memref sig .tc .vmem S1x480x384 .fp8e4m3) (harg14 : arg14.IsWhole)
    (x0 : Vec F S1x1x14400x384 .i8) (x1 : Vec F S1x1x14400x384 .i8) (x2 : Vec F S1x14400x384 .i8) (x3 : Vec F S27x384x384 .fp8e4m3) (x4 : Vec F S1x384 .f32) (x5 : Vec F S1x384 .f32) (x6 : Vec F S1x384 .f32) (x7 : Vec F S1 .f32) (x8 : Vec F S1 .f32) (xt0 : TbBuf0 (F := F) c tbM0_0) (xt1 : TbBuf0 (F := F) c tbM0_1)

/-- Whether the frames of the pool are kept. -/
noncomputable def keepBit (c : Dev nD) (i : grid0.Coords) (xt1 : TbBuf0 (F := F) c tbM0_1) : BitVec 1 := kernelRun0_A.sl.v2 c i xt1

/-- The product of a tap, as the kernel forms it. -/
noncomputable def tap (t d e : Fin 3) : FVec F ⟨2, ![480, 384]⟩ .f32 :=
  match t with
  | 0 => tileTap (bandOf (BitVec.ofNat 32 (i 1).val) (keepBit c i xt1) d (poolRow arg4 harg4 x0 i d)) e (tapWeights arg7 harg7 x3 0 d e)
  | 1 => tileTap (bandOf (BitVec.ofNat 32 (i 1).val) (keepBit c i xt1) d (poolRow arg5 harg5 x1 i d)) e (tapWeights arg7 harg7 x3 1 d e)
  | 2 => tileTap (bandOf (BitVec.ofNat 32 (i 1).val) 1#1 d (ownRow arg6 harg6 x2 i d)) e (tapWeights arg7 harg7 x3 2 d e)

/-- A tile of the convolution, as the body forms it. -/
noncomputable def tileSum : FVec F ⟨2, ![480, 384]⟩ .f32 :=
  scaled (sum27 addf (tap c i arg4 harg4 arg5 harg5 arg6 harg6 arg7 harg7 x0 x1 x2 x3 xt1))
    (mulf (broadcast S1x384 (word arg11 harg11 x7))
      (shapeCast S1x384 (View.readAt (Elt F) arg8.view (Rect.unit (s := S1x384) ![0, 0] S1x384.size inb_S1x384_S1x384_0_0).toLoadRect (harg8.unread x4)) shapeCasts_S1x384_S1x384))
    (shapeCast S1x384 (View.readAt (Elt F) arg9.view (Rect.unit (s := S1x384) ![0, 0] S1x384.size inb_S1x384_S1x384_0_0).toLoadRect (harg9.unread x5)) shapeCasts_S1x384_S1x384)
    broadcasts_S1x384_S480x384

/-- A tile of the codes, as the body forms it. -/
noncomputable def tileCode : FVec F ⟨2, ![480, 384]⟩ .fp8e4m3 :=
  quantised (normed (tileSum c i arg4 harg4 arg5 harg5 arg6 harg6 arg7 harg7 arg8 harg8 arg9 harg9 arg11 harg11 x0 x1 x2 x3 x4 x5 x7 xt1)
      (shapeCast S1x384 (View.readAt (Elt F) arg10.view (Rect.unit (s := S1x384) ![0, 0] S1x384.size inb_S1x384_S1x384_0_0).toLoadRect (harg10.unread x6)) shapeCasts_S1x384_S1x384)
      broadcasts_S1x384_S480x384 reduces_S480x384_S480 shapeCasts_S480_S480x1 broadcasts_S480x1_S480x384)
    (broadcast S480x384 (word arg12 harg12 x8))

theorem pieces10 : (kernelRun0_A c i arg4 harg4 arg5 harg5 arg6 harg6 arg7 harg7 arg8 harg8 arg9 harg9 arg10 harg10 arg11 harg11 arg12 harg12 arg13 harg13 arg14 harg14 x0 x1 x2 x3 x4 x5 x6 x7 x8 xt0 xt1).2.1
    = [⟨Rect.unit (s := S1x480x384) ![0, 0, 0] S1x480x384.size inb_S1x480x384_S1x480x384_0_0_0, shapeCast S1x480x384 (tileCode c i arg4 harg4 arg5 harg5 arg6 harg6 arg7 harg7 arg8 harg8 arg9 harg9 arg10 harg10 arg11 harg11 arg12 harg12 x0 x1 x2 x3 x4 x5 x6 x7 x8 xt1) shapeCasts_S480x384_S1x480x384⟩] := by
  unfold kernelRun0_A; dsimp only; rfl

theorem zero3 : (![0, 0, 0] : Fin 3 → Nat) = fun _ => 0 := by decide
theorem zero2 : (![0, 0] : Fin 2 → Nat) = fun _ => 0 := by decide
theorem zero1 : (![0] : Fin 1 → Nat) = fun _ => 0 := by decide

theorem out10_eq : out0_A_10 c i arg4 harg4 arg5 harg5 arg6 harg6 arg7 harg7 arg8 harg8 arg9 harg9 arg10 harg10 arg11 harg11 arg12 harg12 arg13 harg13 arg14 harg14 x0 x1 x2 x3 x4 x5 x6 x7 x8 xt0 xt1
    = shapeCast S1x480x384 (tileCode c i arg4 harg4 arg5 harg5 arg6 harg6 arg7 harg7 arg8 harg8 arg9 harg9 arg10 harg10 arg11 harg11 arg12 harg12 x0 x1 x2 x3 x4 x5 x6 x7 x8 xt1) shapeCasts_S480x384_S1x480x384 := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 x0 x1 x2 x3 x4 x5 x6 x7 x8 xt0 xt1), pieces10]
  exact View.canon_unit_zero zero3 _ _

/-- The two frames of the new cache's tile, as the body forms them. -/
theorem pieces9 : (kernelRun0_A c i arg4 harg4 arg5 harg5 arg6 harg6 arg7 harg7 arg8 harg8 arg9 harg9 arg10 harg10 arg11 harg11 arg12 harg12 arg13 harg13 arg14 harg14 x0 x1 x2 x3 x4 x5 x6 x7 x8 xt0 xt1).1
    = [⟨Rect.unit (s := S1x2x480x384) ![0, 1, 0, 0] S1x1x480x384.size (by decide), shapeCast S1x1x480x384 (bitcastToFloat .fp8e4m3 (shapeCast S480x384
          (View.readAt (Elt F) arg6.view (Rect.unit (s := S1x14400x384) (k0_off5 i) S1x480x384.size (k0_off5_inb i)).toLoadRect (harg6.unread x2)) shapeCasts_S1x480x384_S480x384)) shapeCasts_S480x384_S1x1x480x384⟩,
       ⟨Rect.unit (s := S1x2x480x384) ![0, 0, 0, 0] S1x1x480x384.size (by decide), shapeCast S1x1x480x384 (bitcastToFloat .fp8e4m3 (bitcast S480x384 8 (muli (bitcast S120x384 32 (shapeCast S480x384
          (View.readAt (Elt F) arg5.view (Rect.unit (s := S1x1x14400x384) (k0_off4 i) S1x1x480x384.size (k0_off4_inb i)).toLoadRect (harg5.unread x1)) shapeCasts_S1x1x480x384_S480x384) bitcasts_S480x384_w8_S120x384_w32)
          (broadcast S120x384 (Scalar.extui (keepBit c i xt1)))) bitcasts_S120x384_w32_S480x384_w8)) shapeCasts_S480x384_S1x1x480x384⟩] := by
  unfold kernelRun0_A; dsimp only; rfl
end

/-! ## The same at an index -/

theorem poolRow_apply (a : Memref sig .tc .vmem S1x1x14400x384 .i8) (ha : a.IsWhole) (x : Vec F S1x1x14400x384 .i8) (i : grid0.Coords)
    (d k : Fin 3) (q : Fin 160) (l : Fin 384) :
    poolRow a ha x i d k (ix2 q l) = pix (fun p l => x (ix4 0 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold poolRow
  rw [View.readAt_eq_ld, ha.read_unread]
  refine (shapeCast_11ab_ab _ _ q l).trans ?_
  exact View.ld_unit_apply_of x _ _ _ (ix4 0 0 q l) (ix4 0 0 ⟨_, h1⟩ l) (by
      intro a
      match a with
      | ⟨0, _⟩ => rfl
      | ⟨1, _⟩ => rfl
      | ⟨2, _⟩ => rfl
      | ⟨3, _⟩ => exact (Nat.zero_add _).symm)

theorem ownRow_apply (a : Memref sig .tc .vmem S1x14400x384 .i8) (ha : a.IsWhole) (x : Vec F S1x14400x384 .i8) (i : grid0.Coords)
    (d k : Fin 3) (q : Fin 160) (l : Fin 384) :
    ownRow a ha x i d k (ix2 q l) = pix (fun p l => x (ix3 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold ownRow
  rw [View.readAt_eq_ld, ha.read_unread]
  refine (shapeCast_1ab_ab_apply _ _ q l).trans ?_
  exact View.ld_unit_apply_of x _ _ _ (ix3 0 q l) (ix3 0 ⟨_, h1⟩ l) (by
      intro a
      match a with
      | ⟨0, _⟩ => rfl
      | ⟨1, _⟩ => rfl
      | ⟨2, _⟩ => exact (Nat.zero_add _).symm)

theorem tapWeights_apply (a : Memref sig .tc .vmem S27x384x384 .fp8e4m3) (ha : a.IsWhole) (x : Vec F S27x384x384 .fp8e4m3) (t d e : Fin 3)
    (k n : Fin 384) : tapWeights a ha x t d e (ix3 0 k n) = x (ix3 ⟨t.val * 9 + d.val * 3 + e.val, by omega⟩ k n) := by
  unfold tapWeights
  rw [View.readAt_eq_ld, ha.read_unread]
  exact View.ld_unit_apply_of x _ _ _ (ix3 0 k n) (ix3 ⟨t.val * 9 + d.val * 3 + e.val, by omega⟩ k n) (by
      intro a
      match a with
      | ⟨0, _⟩ => rfl
      | ⟨1, _⟩ => exact (Nat.zero_add _).symm
      | ⟨2, _⟩ => exact (Nat.zero_add _).symm)

end Cert.ConvNorm
-- ==== Proof.ConvNormBlock.lean ====
/-
  The plain convolution's tile at an index, over the reals: the new cache, the codes and the sum that one grid
  point leaves, as functions of the blocks it is given.
-/
module

public import proofs.«01_k».proof.Proof.ConvNormSum

@[expose] public section

set_option maxRecDepth 16384

namespace Cert.ConvNorm

open Idealize.ShloMosaic hiding ix1 ix2 ix3 ix4
open Idealize.ShloMosaic.TcCoe Idealize.ShloMosaic.ValueIdx
open Cert.Words Cert.ConvNormIdeal Cert.ConvNormIdeal.Gen

/-- The codes of the three frames' blocks. -/
def blkFrames (x0 x1 : Vec Ideal S1x1x14400x384 .i8) (x2 : Vec Ideal S1x14400x384 .i8) (t : Fin 3) (p : Fin 14400) (l : Fin 384) : BitVec 8 :=
  match t with
  | 0 => x0 (ix4 0 0 p l)
  | 1 => x1 (ix4 0 0 p l)
  | 2 => x2 (ix3 0 p l)

/-- The weights' block by tap. -/
def blkWeights (x3 : Vec Ideal S27x384x384 .fp8e4m3) (t d e : Fin 3) (k n : Fin 384) : EReal :=
  x3 (ix3 ⟨t.val * 9 + d.val * 3 + e.val, by omega⟩ k n)

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x2x480x384 .fp8e4m3) (harg13 : arg13.IsWhole) (arg14 : Memref sig .tc .vmem S1x480x384 .fp8e4m3) (harg14 : arg14.IsWhole)
    (x0 : Vec Ideal S1x1x14400x384 .i8) (x1 : Vec Ideal S1x1x14400x384 .i8) (x2 : Vec Ideal S1x14400x384 .i8) (x3 : Vec Ideal S27x384x384 .fp8e4m3) (x4 : Vec Ideal S1x384 .f32) (x5 : Vec Ideal S1x384 .f32) (x6 : Vec Ideal S1x384 .f32) (x7 : Vec Ideal S1 .f32) (x8 : Vec Ideal S1 .f32) (xt0 : TbBuf0 (F := Ideal) c tbM0_0) (xt1 : TbBuf0 (F := Ideal) c tbM0_1)

theorem tap_eq (t d e : Fin 3) : tap c i arg4 harg4 arg5 harg5 arg6 harg6 arg7 harg7 x0 x1 x2 x3 xt1 t d e
    = tileTap (bandOf (BitVec.ofNat 32 (i 1).val) (match t with | 0 => keepBit c i xt1 | 1 => keepBit c i xt1 | 2 => 1#1) d
        ((fun t d => match t with | 0 => poolRow arg4 harg4 x0 i d | 1 => poolRow arg5 harg5 x1 i d | 2 => ownRow arg6 harg6 x2 i d : Fin 3 → Fin 3 → Fin 3 → IVec ⟨2, ![160, 384]⟩ 8) t d))
        e (tapWeights arg7 harg7 x3 t d e) := by
  match t with
  | 0 => rfl
  | 1 => rfl
  | 2 => rfl

theorem tapSum_at (r : Fin 480) (n : Fin 384) :
    sum27 addf (tap c i arg4 harg4 arg5 harg5 arg6 harg6 arg7 harg7 x0 x1 x2 x3 xt1) (ix2 r n)
      = convSum (frames (keepBit c i xt1) (blkFrames x0 x1 x2)) (blkWeights x3) (3 * (i 1).val + r.val / 160) (r.val % 160) n := by
  rw [show tap c i arg4 harg4 arg5 harg5 arg6 harg6 arg7 harg7 x0 x1 x2 x3 xt1 = _ from
    funext fun t => funext fun d => funext fun e => tap_eq c i arg4 harg4 arg5 harg5 arg6 harg6 arg7 harg7 x0 x1 x2 x3 xt1 t d e]
  refine (tileSum_apply (i 1) (fun t => match t with | 0 => keepBit c i xt1 | 1 => keepBit c i xt1 | 2 => 1#1)
    (fun t d => match t with | 0 => poolRow arg4 harg4 x0 i d | 1 => poolRow arg5 harg5 x1 i d | 2 => ownRow arg6 harg6 x2 i d)
    (fun t => pix (blkFrames x0 x1 x2 t)) ?_ (tapWeights arg7 harg7 x3) r n).trans ?_
  · intro t d k q l
    match t with
    | 0 => exact poolRow_apply arg4 harg4 x0 i d k q l
    | 1 => exact poolRow_apply arg5 harg5 x1 i d k q l
    | 2 => exact ownRow_apply arg6 harg6 x2 i d k q l
  · have hw : (fun t d e k n => tapWeights arg7 harg7 x3 t d e (ix3 0 k n)) = blkWeights x3 :=
      funext fun t => funext fun d => funext fun e => funext fun k => funext fun n => tapWeights_apply arg7 harg7 x3 t d e k n
    rw [hw]; rfl

theorem row_at (a : Memref sig .tc .vmem S1x384 .f32) (ha : a.IsWhole) (x : Vec Ideal S1x384 .f32) :
    shapeCast S1x384 (View.readAt (Elt Ideal) a.view (Rect.unit (s := S1x384) ![0, 0] S1x384.size inb_S1x384_S1x384_0_0).toLoadRect (ha.unread x)) shapeCasts_S1x384_S1x384 = x := by
  rw [View.readAt_eq_ld, ha.read_unread, View.ld_unit_zero zero2]
  exact shapeCast_self _ _

theorem word_eq (a : Memref sig .tc .smem S1 .f32) (ha : a.IsWhole) (x : Vec Ideal S1 .f32) : word a ha x = x (ix1 0) := by
  unfold word
  rw [View.readAt_eq_ld, ha.read_unread]
  exact View.ld_unit_apply_of x _ _ _ _ (ix1 0) (by
    intro a
    match a with
    | ⟨0, _⟩ => rfl)

/-- The convolution at row `r` and channel `n` of a tile. -/
theorem sum_at (r : Fin 480) (n : Fin 384) :
    tileSum c i arg4 harg4 arg5 harg5 arg6 harg6 arg7 harg7 arg8 harg8 arg9 harg9 arg11 harg11 x0 x1 x2 x3 x4 x5 x7 xt1 (ix2 r n)
      = convSum (frames (keepBit c i xt1) (blkFrames x0 x1 x2)) (blkWeights x3) (3 * (i 1).val + r.val / 160) (r.val % 160) n
          * (x7 (ix1 0) * x4 (ix2 0 n)) + x5 (ix2 0 n) := by
  unfold tileSum
  rw [row_at arg8 harg8 x4, row_at arg9 harg9 x5, scaled_apply, tapSum_at]
  show _ * (word arg11 harg11 x7 * x4 (ix2 0 n)) + _ = _
  rw [word_eq]

/-- What the tile leaves in the second output. -/
theorem out10_at (r : Fin 480) (n : Fin 384) :
    out0_A_10 c i arg4 harg4 arg5 harg5 arg6 harg6 arg7 harg7 arg8 harg8 arg9 harg9 arg10 harg10 arg11 harg11 arg12 harg12 arg13 harg13 arg14 harg14 x0 x1 x2 x3 x4 x5 x6 x7 x8 xt0 xt1 (ix3 0 r n)
      = quantAt (normAt (fun n => convSum (frames (keepBit c i xt1) (blkFrames x0 x1 x2)) (blkWeights x3) (3 * (i 1).val + r.val / 160) (r.val % 160) n
          * (x7 (ix1 0) * x4 (ix2 0 n)) + x5 (ix2 0 n)) (fun n => x6 (ix2 0 n)) n) (x8 (ix1 0)) := by
  rw [out10_eq]
  refine (shapeCast_ab_1ab_apply _ _ 0 r n).trans ?_
  unfold tileCode
  rw [row_at arg10 harg10 x6, quantised_apply, normed_apply]
  show quantAt _ (word arg12 harg12 x8) = _
  rw [word_eq]
  refine congrArg (fun h => quantAt (normAt h (fun k => x6 (ix2 0 k)) n) (x8 (ix1 0))) (funext fun k => ?_)
  exact sum_at c i arg4 harg4 arg5 harg5 arg6 harg6 arg7 harg7 arg8 harg8 arg9 harg9 arg11 harg11 x0 x1 x2 x3 x4 x5 x7 xt1 r k

theorem k0_off4_eq : k0_off4 i = ![0, 0, 480 * (i 1).val, 0] := by
  have h : ∀ j : Fin 30, (Scalar.indexCast (Scalar.muli (BitVec.ofNat 32 j.val) 480#32)).toNat = 480 * j.val := by decide
  show ![0, 0, (Scalar.indexCast (Scalar.muli (BitVec.ofNat 32 (i 1).val) 480#32)).toNat, 0] = _
  rw [h (i 1)]

theorem k0_off5_eq : k0_off5 i = ![0, 480 * (i 1).val, 0] := by
  have h : ∀ j : Fin 30, (Scalar.indexCast (Scalar.muli (BitVec.ofNat 32 j.val) 480#32)).toNat = 480 * j.val := by decide
  show ![0, (Scalar.indexCast (Scalar.muli (BitVec.ofNat 32 (i 1).val) 480#32)).toNat, 0] = _
  rw [h (i 1)]

theorem tile_row (j : Fin 30) (r : Fin 480) : 480 * j.val + r.val < 14400 := by omega

/-- What the tile leaves in the new cache: the two latest frames' codes. -/
theorem out9_at (f : Fin 2) (r : Fin 480) (n : Fin 384) :
    out0_A_9 c i arg4 harg4 arg5 harg5 arg6 harg6 arg7 harg7 arg8 harg8 arg9 harg9 arg10 harg10 arg11 harg11 arg12 harg12 arg13 harg13 arg14 harg14 x0 x1 x2 x3 x4 x5 x6 x7 x8 xt0 xt1 (ix4 0 f r n)
      = decode (frames (keepBit c i xt1) (blkFrames x0 x1 x2) ⟨f.val + 1, by omega⟩ (480 * (i 1).val + r.val) n) := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 arg14 harg14 x0 x1 x2 x3 x4 x5 x6 x7 x8 xt0 xt1), pieces9]
  match f with
  | 1 =>
    refine (canon_frame1 _ _ _ r n).trans ?_
    refine (shapeCast_ab_11ab _ _ 0 0 r n).trans ?_
    show decode _ = decode _
    congr 1
    rw [View.readAt_eq_ld, harg6.read_unread]
    refine (shapeCast_1ab_ab_apply _ _ r n).trans ?_
    refine (View.ld_unit_apply_of x2 _ _ _ (ix3 0 r n) (ix3 0 ⟨480 * (i 1).val + r.val, tile_row (i 1) r⟩ n) ?_).trans ?_
    · intro a
      rw [show k0_off5 i a = _ from congrFun (k0_off5_eq i) a]
      match a with
      | ⟨0, _⟩ => rfl
      | ⟨1, _⟩ => rfl
      | ⟨2, _⟩ => exact (Nat.zero_add _).symm
    · exact (pix_val (blkFrames x0 x1 x2 2) ⟨480 * (i 1).val + r.val, tile_row (i 1) r⟩ n).symm
  | 0 =>
    refine (canon_frame0 _ _ _ _ _ r n).trans ?_
    refine (shapeCast_ab_11ab _ _ 0 0 r n).trans ?_
    show decode _ = decode _
    congr 1
    refine (keptRows_apply (keepBit c i xt1) _ _ _ (by norm_num) r n).trans ?_
    show _ = if keepBit c i xt1 = 1#1 then pix (blkFrames x0 x1 x2 1) (480 * (i 1).val + r.val) n else 0#8
    refine if_congr Iff.rfl ?_ rfl
    rw [View.readAt_eq_ld, harg5.read_unread]
    refine (shapeCast_11ab_ab _ _ r n).trans ?_
    refine (View.ld_unit_apply_of x1 _ _ _ (ix4 0 0 r n) (ix4 0 0 ⟨480 * (i 1).val + r.val, tile_row (i 1) r⟩ n) ?_).trans ?_
    · intro a
      rw [show k0_off4 i a = _ from congrFun (k0_off4_eq i) a]
      match a with
      | ⟨0, _⟩ => rfl
      | ⟨1, _⟩ => rfl
      | ⟨2, _⟩ => rfl
      | ⟨3, _⟩ => exact (Nat.zero_add _).symm
    · exact (pix_val (blkFrames x0 x1 x2 1) ⟨480 * (i 1).val + r.val, tile_row (i 1) r⟩ n).symm

end
end Cert.ConvNorm
-- ==== Proof.ConvSpec.lean ====
/-
  One causal convolution of the stage as a function of the whole arrays: which cache row a batch entry reads, the
  three frames it convolves, and the convolution of a pixel scaled and biased.
-/
module

public import proofs.«01_k».proof.Proof.Conv

@[expose] public section

namespace Cert.Words

open Idealize.ShloMosaic hiding ix0 ix1 ix2 ix3 ix4 ix5
open Idealize.ShloMosaic.ValueIdx

/-- The slot's word of a batch entry as a row of the pool (the last row where it is too large). -/
def slotOf (slot : IVec ⟨1, ![4]⟩ 32) (b : Fin 4) : Fin 6 := ⟨min (slot (ix1 b)).toNat 5, by omega⟩

/-- Whether a batch entry keeps its cache: its first-chunk word is not one. -/
def keptBit (first : IVec ⟨1, ![4]⟩ 32) (b : Fin 4) : BitVec 1 := IntOp.cmpi .ne (first (ix1 b)) 1#32

/-- The codes of the two cached frames and of the new one, by pixel. -/
def stageCodes (slot : IVec ⟨1, ![4]⟩ 32) (pool : IVec ⟨5, ![6, 2, 90, 160, 384]⟩ 8) (a : IVec ⟨5, ![4, 1, 90, 160, 384]⟩ 8)
    (b : Fin 4) (t : Fin 3) (p : Fin 14400) (l : Fin 384) : BitVec 8 :=
  match t with
  | 0 => pool (ix5 (slotOf slot b) 0 ⟨p.val / 160, by omega⟩ ⟨p.val % 160, by omega⟩ l)
  | 1 => pool (ix5 (slotOf slot b) 1 ⟨p.val / 160, by omega⟩ ⟨p.val % 160, by omega⟩ l)
  | 2 => a (ix5 b 0 ⟨p.val / 160, by omega⟩ ⟨p.val % 160, by omega⟩ l)

/-- The three frames a batch entry convolves, the cached ones blanked for a first chunk. -/
def stageFrames (slot first : IVec ⟨1, ![4]⟩ 32) (pool : IVec ⟨5, ![6, 2, 90, 160, 384]⟩ 8) (a : IVec ⟨5, ![4, 1, 90, 160, 384]⟩ 8)
    (b : Fin 4) : Fin 3 → Nat → Fin 384 → BitVec 8 :=
  frames (keptBit first b) (stageCodes slot pool a b)

/-- The convolution of batch entry `b` at pixel `p` and channel `n`, scaled and biased. -/
noncomputable def stageConv (slot first : IVec ⟨1, ![4]⟩ 32) (pool : IVec ⟨5, ![6, 2, 90, 160, 384]⟩ 8) (a : IVec ⟨5, ![4, 1, 90, 160, 384]⟩ 8)
    (w : Vec Ideal ⟨5, ![3, 3, 3, 384, 384]⟩ .fp8e4m3) (ws bias : Vec Ideal ⟨1, ![384]⟩ .f32) (s : Vec Ideal ⟨0, ![]⟩ .f32)
    (b : Fin 4) (p : Fin 14400) (n : Fin 384) : EReal :=
  convSum (stageFrames slot first pool a b) (fun t d e k n => w (ix5 t d e k n)) (p.val / 160) (p.val % 160) n
    * (s ix0 * ws (ix1 n)) + bias (ix1 n)

/-- The residual and the convolution of batch entry `b` at pixel `p` and channel `n`. -/
noncomputable def residualSum (slot first : IVec ⟨1, ![4]⟩ 32) (pool : IVec ⟨5, ![6, 2, 90, 160, 384]⟩ 8) (a : IVec ⟨5, ![4, 1, 90, 160, 384]⟩ 8)
    (w : Vec Ideal ⟨5, ![3, 3, 3, 384, 384]⟩ .fp8e4m3) (ws bias : Vec Ideal ⟨1, ![384]⟩ .f32) (s : Vec Ideal ⟨0, ![]⟩ .f32)
    (x : (⟨5, ![4, 1, 90, 160, 384]⟩ : Shape).Idx → EReal) (b : Fin 4) (p : Fin 14400) (n : Fin 384) : EReal :=
  x (ix5 b 0 ⟨p.val / 160, by omega⟩ ⟨p.val % 160, by omega⟩ n) + stageConv slot first pool a w ws bias s b p n

/-- The codes of a normalised row. -/
noncomputable def normCode (h : Fin 384 → EReal) (gamma : Vec Ideal ⟨1, ![384]⟩ .f32) (s : Vec Ideal ⟨0, ![]⟩ .f32) (n : Fin 384) : EReal :=
  quantAt (normAt h (fun k => gamma (ix1 k)) n) (s ix0)

/-- The new cache's element: the latest cached frame's code, or the new frame's, as a number. -/
noncomputable def cacheAt (slot first : IVec ⟨1, ![4]⟩ 32) (pool : IVec ⟨5, ![6, 2, 90, 160, 384]⟩ 8) (a : IVec ⟨5, ![4, 1, 90, 160, 384]⟩ 8)
    (b : Fin 4) (f : Fin 2) (p : Fin 14400) (n : Fin 384) : EReal :=
  decode (stageFrames slot first pool a b ⟨f.val + 1, by omega⟩ p.val n)

section
variable {α : Type}

theorem cast_pool (x : (⟨5, ![6, 2, 90, 160, 384]⟩ : Shape).Idx → α) (h : (⟨5, ![6, 2, 90, 160, 384]⟩ : Shape).ShapeCasts ⟨4, ![6, 2, 14400, 384]⟩)
    (s : Fin 6) (f : Fin 2) (p : Fin 14400) (l : Fin 384) :
    shapeCast ⟨4, ![6, 2, 14400, 384]⟩ x h (ix4 s f p l) = x (ix5 s f ⟨p.val / 160, by omega⟩ ⟨p.val % 160, by omega⟩ l) := by
  refine shapeCast_apply _ _ _ _ ?_
  rw [Shape.rowMajor_val_five, Shape.rowMajor_val_four]
  show ((((s.val * 2 + f.val) * 90 + p.val / 160) * 160 + p.val % 160) * 384 + l.val) = (((s.val * 2 + f.val) * 14400 + p.val) * 384 + l.val)
  omega

theorem cast_image (x : (⟨5, ![4, 1, 90, 160, 384]⟩ : Shape).Idx → α) (h : (⟨5, ![4, 1, 90, 160, 384]⟩ : Shape).ShapeCasts ⟨3, ![4, 14400, 384]⟩)
    (b : Fin 4) (p : Fin 14400) (l : Fin 384) :
    shapeCast ⟨3, ![4, 14400, 384]⟩ x h (ix3 b p l) = x (ix5 b 0 ⟨p.val / 160, by omega⟩ ⟨p.val % 160, by omega⟩ l) := by
  refine shapeCast_apply _ _ _ _ ?_
  rw [Shape.rowMajor_val_five, Shape.rowMajor_val_three]
  show ((((b.val * 1 + 0) * 90 + p.val / 160) * 160 + p.val % 160) * 384 + l.val) = ((b.val * 14400 + p.val) * 384 + l.val)
  omega

theorem cast_taps (x : (⟨5, ![3, 3, 3, 384, 384]⟩ : Shape).Idx → α) (h : (⟨5, ![3, 3, 3, 384, 384]⟩ : Shape).ShapeCasts ⟨3, ![27, 384, 384]⟩)
    (t d e : Fin 3) (k n : Fin 384) :
    shapeCast ⟨3, ![27, 384, 384]⟩ x h (ix3 ⟨t.val * 9 + d.val * 3 + e.val, by omega⟩ k n) = x (ix5 t d e k n) := by
  refine shapeCast_apply _ _ _ _ ?_
  rw [Shape.rowMajor_val_five, Shape.rowMajor_val_three]
  show ((((t.val * 3 + d.val) * 3 + e.val) * 384 + k.val) * 384 + n.val) = (((t.val * 9 + d.val * 3 + e.val) * 384 + k.val) * 384 + n.val)
  omega

theorem cast_row (x : (⟨1, ![384]⟩ : Shape).Idx → α) (h : (⟨1, ![384]⟩ : Shape).ShapeCasts ⟨2, ![1, 384]⟩) (n : Fin 384) :
    shapeCast ⟨2, ![1, 384]⟩ x h (ix2 0 n) = x (ix1 n) := by
  refine shapeCast_apply _ _ _ _ ?_
  rw [Shape.rowMajor_val_one, Shape.rowMajor_val_two]
  show n.val = 0 * 384 + n.val
  omega

theorem cast_scalar (x : (⟨0, ![]⟩ : Shape).Idx → α) (h : (⟨0, ![]⟩ : Shape).ShapeCasts ⟨1, ![1]⟩) :
    shapeCast ⟨1, ![1]⟩ x h (ix1 0) = x ix0 := by
  refine congrArg x (funext fun a => a.elim0)

end

end Cert.Words
-- ==== Proof.ConvNormArray.lean ====
/-
  The plain convolution's arrays: each input block at a grid point as elements of the arguments, and what the
  two output arrays hold after the last point.
-/
module

public import proofs.«01_k».proof.Proof.ConvNormBlock
public import proofs.«01_k».proof.Proof.ConvSpec
public import Idealize.ShloMosaic.Lib.Pipeline.ValueKit

@[expose] public section

set_option maxRecDepth 16384

namespace Cert.ConvNorm

open Idealize.ShloMosaic hiding ix0 ix1 ix2 ix3 ix4 ix5
open Idealize.ShloMosaic.TcCoe Idealize.ShloMosaic.ValueIdx
open Cert.Words Cert.ConvNormIdeal Cert.ConvNormIdeal.Gen

variable (m : (ℓ : Loc nD τ sig) → Buf (Elt Ideal) ℓ) (hO : Ok m) (c : Dev nD)

/-- The grid point's batch entry. -/
def entry (t : Fin (cfgM m hO).N) : Fin 4 := grid0.coords t 0
/-- The grid point's tile of three image rows. -/
def tile (t : Fin (cfgM m hO).N) : Fin 30 := grid0.coords t 1

theorem at_zero {x n y : Nat} (h : x = 0) : x * n + y = y := by rw [h, Nat.zero_mul, Nat.zero_add]
theorem at_block {x n y b r : Nat} (h : x = b) (hy : y = r) : x * n + y = b * n + r := by rw [h, hy]
theorem at_row {x b : Nat} (h : x = b) : x * 1 + 0 = b := by rw [h, Nat.mul_one, Nat.add_zero]
theorem word4 : ∀ b : Fin 4, (BitVec.ofNat 32 b.val).toNat = b.val := by decide
theorem word30 : ∀ j : Fin 30, (BitVec.ofNat 32 j.val).toNat = j.val := by decide

theorem V_v0 : V m c main_v0 = shapeCast S6x2x14400x384 (m ((c : Thread nD τ).loc main_arg2)) shapeCasts_S6x2x90x160x384_S6x2x14400x384 := by
  entry_read; rfl
theorem V_v1 : V m c main_v1 = shapeCast S4x14400x384 (m ((c : Thread nD τ).loc main_arg3)) shapeCasts_S4x1x90x160x384_S4x14400x384 := by
  entry_read; rfl
theorem V_v2 : V m c main_v2 = shapeCast S27x384x384 (m ((c : Thread nD τ).loc main_arg4)) shapeCasts_S3x3x3x384x384_S27x384x384 := by
  entry_read; rfl
theorem V_v3 : V m c main_v3 = shapeCast S1x384 (m ((c : Thread nD τ).loc main_arg5)) shapeCasts_S384_S1x384 := by
  entry_read; rfl
theorem V_v4 : V m c main_v4 = shapeCast S1x384 (m ((c : Thread nD τ).loc main_arg6)) shapeCasts_S384_S1x384 := by
  entry_read; rfl
theorem V_v5 : V m c main_v5 = shapeCast S1 (m ((c : Thread nD τ).loc main_arg7)) shapeCasts_S_S1 := by
  entry_read; rfl
theorem V_v6 : V m c main_v6 = shapeCast S1x384 (m ((c : Thread nD τ).loc main_arg8)) shapeCasts_S384_S1x384 := by
  entry_read; rfl
theorem V_v7 : V m c main_v7 = shapeCast S1 (m ((c : Thread nD τ).loc main_arg9)) shapeCasts_S_S1 := by
  entry_read; rfl
theorem tbl_first (c : Dev nD) : tbl m 1 = m ((c : Thread nD τ).loc main_arg1) := by
  obtain rfl : c = 0 := Subsingleton.elim _ _
  exact V_main_arg1 m 0
theorem tbl_slot (c : Dev nD) : tbl m 0 = m ((c : Thread nD τ).loc main_arg0) := by
  obtain rfl : c = 0 := Subsingleton.elim _ _
  exact V_main_arg0 m 0

/-- The table's word a grid point reads is its batch entry's. -/
theorem word_at (i : grid0.Coords) (x : S4.Idx → BitVec 32) :
    x ((Rect.unit (s := S4) (k0_off1 i) S1.size (Gen.facts.k0_off1_inb i)).emb (Shape.Idx.first (Gen.facts.numel1_S1.symm ▸ Nat.one_pos))) = x (ix1 (i 0)) := by
  refine congrArg x (funext fun a => Fin.ext ?_)
  have h : ∀ j : Fin 4, (Scalar.indexCast (BitVec.ofNat 32 j.val)).toNat = j.val := by decide
  match a with
  | ⟨0, _⟩ =>
    rw [ValueKit.rect_emb_unit_val]
    exact (congrArg (fun x => x + 0) (h (i 0))).trans (Nat.add_zero _)

theorem slot_lt (t : Fin (cfgM m hO).N) : ((tbl m 0 : IVec ⟨1, ![4]⟩ 32) (ix1 (entry m hO t))).toNat < 6 := by
  obtain ⟨h, _⟩ := hO.1 (grid0.coords t)
  have e : (cc0_transform_0 Gen.facts.k0_off1_inb Gen.facts.numel1_S1 (tbl m) (grid0.coords t) 0 + 1) * 1 ≤ 6 := h 0
  rw [Nat.mul_one] at e
  exact lt_of_eq_of_lt (congrArg BitVec.toNat (word_at (grid0.coords t) (tbl m 0))).symm e

theorem slot_word (t : Fin (cfgM m hO).N) :
    cc0_transform_0 Gen.facts.k0_off1_inb Gen.facts.numel1_S1 (tbl m) (grid0.coords t) 0 = (slotOf (m ((c : Thread nD τ).loc main_arg0)) (entry m hO t)).val := by
  have h := slot_lt m hO t
  rw [tbl_slot m c] at h
  refine (congrArg BitVec.toNat (word_at (grid0.coords t) (tbl m 0))).trans ?_
  rw [tbl_slot m c]
  exact (Nat.min_eq_left (by exact Nat.le_of_lt_succ h)).symm

theorem iblk2_apply (t : Fin (cfgM m hO).N) (p : Fin 14400) (l : Fin 384) :
    iblk m hO c 2 t (ix3 0 p l) = V m c main_v1 (ix3 (entry m hO t) p l) := by
  refine congrArg (V m c main_v1) (funext fun a => Fin.ext ?_)
  refine (Pipeline.Window.rect_emb_val ((cfgM m hO).win 2) t (ix3 0 p l) a).trans ?_
  match a with
  | ⟨0, _⟩ => exact at_row (word4 (grid0.coords t 0))
  | ⟨1, _⟩ => exact at_zero rfl
  | ⟨2, _⟩ => exact at_zero rfl

theorem iblk0_apply (t : Fin (cfgM m hO).N) (p : Fin 14400) (l : Fin 384) :
    iblk m hO c 0 t (ix4 0 0 p l) = V m c main_v0 (ix4 (slotOf (m ((c : Thread nD τ).loc main_arg0)) (entry m hO t)) 0 p l) := by
  refine congrArg (V m c main_v0) (funext fun a => Fin.ext ?_)
  refine (Pipeline.Window.rect_emb_val ((cfgM m hO).win 0) t (ix4 0 0 p l) a).trans ?_
  match a with
  | ⟨0, _⟩ => exact at_row (slot_word m hO c t)
  | ⟨1, _⟩ => exact at_zero rfl
  | ⟨2, _⟩ => exact at_zero rfl
  | ⟨3, _⟩ => exact at_zero rfl

theorem iblk1_apply (t : Fin (cfgM m hO).N) (p : Fin 14400) (l : Fin 384) :
    iblk m hO c 1 t (ix4 0 0 p l) = V m c main_v0 (ix4 (slotOf (m ((c : Thread nD τ).loc main_arg0)) (entry m hO t)) 1 p l) := by
  refine congrArg (V m c main_v0) (funext fun a => Fin.ext ?_)
  refine (Pipeline.Window.rect_emb_val ((cfgM m hO).win 1) t (ix4 0 0 p l) a).trans ?_
  match a with
  | ⟨0, _⟩ => exact at_row (slot_word m hO c t)
  | ⟨1, _⟩ => exact rfl
  | ⟨2, _⟩ => exact at_zero rfl
  | ⟨3, _⟩ => exact at_zero rfl

theorem iblk3_apply (t : Fin (cfgM m hO).N) (d : Fin 27) (k n : Fin 384) :
    iblk m hO c 3 t (ix3 d k n) = V m c main_v2 (ix3 d k n) := by
  refine congrArg (V m c main_v2) (funext fun a => Fin.ext ?_)
  refine (Pipeline.Window.rect_emb_val ((cfgM m hO).win 3) t (ix3 d k n) a).trans ?_
  match a with
  | ⟨0, _⟩ => exact at_zero rfl
  | ⟨1, _⟩ => exact at_zero rfl
  | ⟨2, _⟩ => exact at_zero rfl

theorem iblk4_apply (t : Fin (cfgM m hO).N) (n : Fin 384) :
    iblk m hO c 4 t (ix2 0 n) = V m c main_v3 (ix2 0 n) := by
  refine congrArg (V m c main_v3) (funext fun a => Fin.ext ?_)
  refine (Pipeline.Window.rect_emb_val ((cfgM m hO).win 4) t (ix2 0 n) a).trans ?_
  match a with
  | ⟨0, _⟩ => exact at_zero rfl
  | ⟨1, _⟩ => exact at_zero rfl

theorem iblk5_apply (t : Fin (cfgM m hO).N) (n : Fin 384) :
    iblk m hO c 5 t (ix2 0 n) = V m c main_v4 (ix2 0 n) := by
  refine congrArg (V m c main_v4) (funext fun a => Fin.ext ?_)
  refine (Pipeline.Window.rect_emb_val ((cfgM m hO).win 5) t (ix2 0 n) a).trans ?_
  match a with
  | ⟨0, _⟩ => exact at_zero rfl
  | ⟨1, _⟩ => exact at_zero rfl

theorem iblk6_apply (t : Fin (cfgM m hO).N) (n : Fin 384) :
    iblk m hO c 6 t (ix2 0 n) = V m c main_v6 (ix2 0 n) := by
  refine congrArg (V m c main_v6) (funext fun a => Fin.ext ?_)
  refine (Pipeline.Window.rect_emb_val ((cfgM m hO).win 6) t (ix2 0 n) a).trans ?_
  match a with
  | ⟨0, _⟩ => exact at_zero rfl
  | ⟨1, _⟩ => exact at_zero rfl

theorem iblk7_apply (t : Fin (cfgM m hO).N) :
    iblk m hO c 7 t (ix1 0) = V m c main_v5 (ix1 0) := by
  refine congrArg (V m c main_v5) (funext fun a => Fin.ext ?_)
  refine (Pipeline.Window.rect_emb_val ((cfgM m hO).win 7) t (ix1 0) a).trans ?_
  match a with
  | ⟨0, _⟩ => exact at_zero rfl

theorem iblk8_apply (t : Fin (cfgM m hO).N) :
    iblk m hO c 8 t (ix1 0) = V m c main_v7 (ix1 0) := by
  refine congrArg (V m c main_v7) (funext fun a => Fin.ext ?_)
  refine (Pipeline.Window.rect_emb_val ((cfgM m hO).win 8) t (ix1 0) a).trans ?_
  match a with
  | ⟨0, _⟩ => exact at_zero rfl

theorem tile_row' (j : Fin 30) (r : Fin 480) : j.val * 480 + r.val < 14400 := by omega

/-! The arguments, by what they are. -/

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)

theorem keepBit_at (t : Fin (cfgM m hO).N) : keepBit (F := Ideal) c (grid0.coords t) (tbl m 1) = keptBit (firstA m c) (entry m hO t) := by
  refine (congrArg (fun x : BitVec 32 => IntOp.cmpi .ne x 1#32) ((word_at (grid0.coords t) (tbl m 1)).trans ?_))
  exact congrFun (tbl_first m c) (ix1 (entry m hO t))

theorem blkFrames_at (t : Fin (cfgM m hO).N) :
    blkFrames (iblk m hO c 0 t) (iblk m hO c 1 t) (iblk m hO c 2 t) = stageCodes (slotA m c) (poolA m c) (codesA m c) (entry m hO t) := by
  funext f p l
  match f with
  | 0 => exact (iblk0_apply m hO c t p l).trans ((congrFun (V_v0 m c) _).trans (cast_pool _ _ _ _ p l))
  | 1 => exact (iblk1_apply m hO c t p l).trans ((congrFun (V_v0 m c) _).trans (cast_pool _ _ _ _ p l))
  | 2 => exact (iblk2_apply m hO c t p l).trans ((congrFun (V_v1 m c) _).trans (cast_image _ _ _ p l))

theorem blkWeights_at (t : Fin (cfgM m hO).N) :
    blkWeights (iblk m hO c 3 t) = fun a d e k n => weightsA m c (ix5 a d e k n) := by
  funext a d e k n
  exact (iblk3_apply m hO c t _ k n).trans ((congrFun (V_v2 m c) _).trans (cast_taps _ _ a d e k n))

theorem frames_at (t : Fin (cfgM m hO).N) :
    frames (keepBit (F := Ideal) c (grid0.coords t) (tbl m 1)) (blkFrames (iblk m hO c 0 t) (iblk m hO c 1 t) (iblk m hO c 2 t))
      = stageFrames (slotA m c) (firstA m c) (poolA m c) (codesA m c) (entry m hO t) := by
  rw [keepBit_at, blkFrames_at]; rfl

/-- The pixel a tile's row is. -/
def pixel (t : Fin (cfgM m hO).N) (r : Fin 480) : Fin 14400 := ⟨(tile m hO t).val * 480 + r.val, tile_row' _ r⟩

noncomputable abbrev wsB (t : Fin (cfgM m hO).N) : Vec Ideal S1x384 .f32 := iblk m hO c 4 t
noncomputable abbrev biasB (t : Fin (cfgM m hO).N) : Vec Ideal S1x384 .f32 := iblk m hO c 5 t
noncomputable abbrev gammaB (t : Fin (cfgM m hO).N) : Vec Ideal S1x384 .f32 := iblk m hO c 6 t
noncomputable abbrev scaleB (t : Fin (cfgM m hO).N) : Vec Ideal S1 .f32 := iblk m hO c 7 t
noncomputable abbrev nextB (t : Fin (cfgM m hO).N) : Vec Ideal S1 .f32 := iblk m hO c 8 t

theorem conv_at (t : Fin (cfgM m hO).N) (r : Fin 480) (n : Fin 384) :
    convSum (frames (keepBit (F := Ideal) c (grid0.coords t) (tbl m 1)) (blkFrames (iblk m hO c 0 t) (iblk m hO c 1 t) (iblk m hO c 2 t)))
        (blkWeights (iblk m hO c 3 t)) (3 * (grid0.coords t 1).val + r.val / 160) (r.val % 160) n
        * (scaleB m hO c t (ix1 0) * wsB m hO c t (ix2 0 n)) + biasB m hO c t (ix2 0 n)
      = stageConv (slotA m c) (firstA m c) (poolA m c) (codesA m c) (weightsA m c) (wsA m c) (biasA m c) (scaleA m c)
          (entry m hO t) (pixel m hO t r) n := by
  unfold stageConv
  rw [frames_at, blkWeights_at]
  have e1 : (pixel m hO t r).val / 160 = 3 * (grid0.coords t 1).val + r.val / 160 := by
    show ((grid0.coords t 1).val * 480 + r.val) / 160 = _; omega
  have e2 : (pixel m hO t r).val % 160 = r.val % 160 := by
    show ((grid0.coords t 1).val * 480 + r.val) % 160 = _; omega
  have e7 : scaleB m hO c t (ix1 0) = scaleA m c ix0 := (iblk7_apply m hO c t).trans ((congrFun (V_v5 m c) _).trans (cast_scalar _ _))
  have e4 : wsB m hO c t (ix2 0 n) = wsA m c (ix1 n) := (iblk4_apply m hO c t n).trans ((congrFun (V_v3 m c) _).trans (cast_row _ _ n))
  have e5 : biasB m hO c t (ix2 0 n) = biasA m c (ix1 n) := (iblk5_apply m hO c t n).trans ((congrFun (V_v4 m c) _).trans (cast_row _ _ n))
  rw [e7, e4, e5, ← e1, ← e2]

/-! What the arrays hold at the end. -/

theorem outs9 (t : Fin (cfgM m hO).N) : (outsAt0 m hO c t).1 = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) := by
  dsimp only [outsAt0]

theorem outs10 (t : Fin (cfgM m hO).N) : (outsAt0 m hO c t).2 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) := by
  dsimp only [outsAt0]

theorem after10_at (t : Fin (cfgM m hO).N) (r : Fin 480) (n : Fin 384) :
    (outsAt0 m hO c t).2 (ix3 0 r n) = normCode (stageConv (slotA m c) (firstA m c) (poolA m c) (codesA m c) (weightsA m c) (wsA m c) (biasA m c) (scaleA m c)
          (entry m hO t) (pixel m hO t r)) (gammaA m c) (nextA m c) n := by
  refine (congrFun (outs10 m hO c t) (ix3 0 r n)).trans ?_
  have h := out10_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) r n
  refine h.trans ?_
  have e6 : (fun n => gammaB m hO c t (ix2 0 n)) = fun k => gammaA m c (ix1 k) :=
    funext fun n => (iblk6_apply m hO c t n).trans ((congrFun (V_v6 m c) _).trans (cast_row _ _ n))
  have e8 : nextB m hO c t (ix1 0) = nextA m c ix0 := (iblk8_apply m hO c t).trans ((congrFun (V_v7 m c) _).trans (cast_scalar _ _))
  unfold normCode
  rw [← e6, ← e8]
  exact congrArg (fun h => quantAt (normAt h (fun k => gammaB m hO c t (ix2 0 k)) n) (nextB m hO c t (ix1 0))) (funext fun k => conv_at m hO c t r k)

theorem after9_at (t : Fin (cfgM m hO).N) (f : Fin 2) (r : Fin 480) (n : Fin 384) :
    (outsAt0 m hO c t).1 (ix4 0 f r n) = cacheAt (slotA m c) (firstA m c) (poolA m c) (codesA m c) (entry m hO t) f (pixel m hO t r) n := by
  refine (congrFun (outs9 m hO c t) (ix4 0 f r n)).trans ?_
  have h := out9_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) f r n
  refine h.trans ?_
  unfold cacheAt
  rw [frames_at]
  refine congrArg (fun q => decode (stageFrames (slotA m c) (firstA m c) (poolA m c) (codesA m c) (entry m hO t) ⟨f.val + 1, by omega⟩ q n)) ?_
  show 480 * (grid0.coords t 1).val + r.val = (grid0.coords t 1).val * 480 + r.val
  omega

/-- The grid point of a batch entry and a tile. -/
def point (b : Fin 4) (p : Fin 14400) : Fin (cfgM m hO).N := ⟨b.val * 30 + p.val / 480, by show _ < grid0.N; rw [N_0]; omega⟩

theorem coords_val : ∀ t : Fin grid0.N, (grid0.coords t 0).val = t.val / 30 ∧ (grid0.coords t 1).val = t.val % 30 := by
  decide +kernel

theorem coords_at (b : Fin 4) (j : Fin 30) (h : b.val * 30 + j.val < grid0.N) :
    grid0.coords ⟨b.val * 30 + j.val, h⟩ 0 = b ∧ grid0.coords ⟨b.val * 30 + j.val, h⟩ 1 = j := by
  obtain ⟨e0, e1⟩ := coords_val ⟨b.val * 30 + j.val, h⟩
  refine ⟨Fin.ext (e0.trans ?_), Fin.ext (e1.trans ?_)⟩
  · show (b.val * 30 + j.val) / 30 = b.val; omega
  · show (b.val * 30 + j.val) % 30 = j.val; omega

theorem entry_point (b : Fin 4) (p : Fin 14400) : entry m hO (point m hO b p) = b :=
  (coords_at b ⟨p.val / 480, by omega⟩ _).1
theorem pixel_point (b : Fin 4) (p : Fin 14400) : pixel m hO (point m hO b p) ⟨p.val % 480, by omega⟩ = p := by
  refine Fin.ext ?_
  have h : tile m hO (point m hO b p) = ⟨p.val / 480, by omega⟩ := (coords_at b ⟨p.val / 480, by omega⟩ _).2
  show (tile m hO (point m hO b p)).val * 480 + p.val % 480 = p.val
  rw [h]
  show p.val / 480 * 480 + p.val % 480 = p.val
  omega

theorem emb10 (t : Fin (cfgM m hO).N) (r : Fin 480) (n : Fin 384) :
    (((cfgM m hO).win 10).blk t).view.emb (ix3 0 r n) = ix3 (entry m hO t) (pixel m hO t r) n := by
  refine funext fun a => Fin.ext ?_
  refine (Pipeline.Window.rect_emb_val ((cfgM m hO).win 10) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem emb9 (t : Fin (cfgM m hO).N) (f : Fin 2) (r : Fin 480) (n : Fin 384) :
    (((cfgM m hO).win 9).blk t).view.emb (ix4 0 f r n) = ix4 (entry m hO t) f (pixel m hO t r) n := by
  refine funext fun a => Fin.ext ?_
  refine (Pipeline.Window.rect_emb_val ((cfgM m hO).win 9) t (ix4 0 f r n) a).trans ?_
  match a with
  | ⟨0, _⟩ => exact at_row (word4 (grid0.coords t 0))
  | ⟨1, _⟩ => exact at_zero rfl
  | ⟨2, _⟩ => exact at_block (word30 (grid0.coords t 1)) rfl
  | ⟨3, _⟩ => exact at_zero rfl

/-- An index of a block of one leading row, by its coordinates. -/
theorem idx3_cases (y : S1x480x384.Idx) : ∃ (r : Fin 480) (n : Fin 384), y = ix3 0 r n :=
  ⟨y 1, y 2, funext fun a => match a with
    | ⟨0, _⟩ => Subsingleton.elim (α := Fin 1) _ _
    | ⟨1, _⟩ => rfl
    | ⟨2, _⟩ => rfl⟩
theorem idx4_cases (y : S1x2x480x384.Idx) : ∃ (f : Fin 2) (r : Fin 480) (n : Fin 384), y = ix4 0 f r n :=
  ⟨y 1, y 2, y 3, funext fun a => match a with
    | ⟨0, _⟩ => Subsingleton.elim (α := Fin 1) _ _
    | ⟨1, _⟩ => rfl
    | ⟨2, _⟩ => rfl
    | ⟨3, _⟩ => rfl⟩
theorem idx3_eq (y : S4x14400x384.Idx) : y = ix3 (y 0) (y 1) (y 2) :=
  funext fun a => match a with
    | ⟨0, _⟩ => rfl
    | ⟨1, _⟩ => rfl
    | ⟨2, _⟩ => rfl
theorem idx4_eq (y : S4x2x14400x384.Idx) : y = ix4 (y 0) (y 1) (y 2) (y 3) :=
  funext fun a => match a with
    | ⟨0, _⟩ => rfl
    | ⟨1, _⟩ => rfl
    | ⟨2, _⟩ => rfl
    | ⟨3, _⟩ => rfl

/-- The second output array at the end. -/
noncomputable def codeArr (y : S4x14400x384.Idx) : EReal :=
  normCode (stageConv (slotA m c) (firstA m c) (poolA m c) (codesA m c) (weightsA m c) (wsA m c) (biasA m c) (scaleA m c) (y 0) (y 1)) (gammaA m c) (nextA m c) (y 2)
/-- The first. -/
noncomputable def cacheArr (y : S4x2x14400x384.Idx) : EReal :=
  cacheAt (slotA m c) (firstA m c) (poolA m c) (codesA m c) (y 0) (y 1) (y 2) (y 3)

theorem cover10 (y : S4x14400x384.Idx) : ∃ (t : Fin (cfgM m hO).N) (r : Fin 480) (n : Fin 384),
    (((cfgM m hO).win 10).blk t).view.emb (ix3 0 r n) = y :=
  ⟨point m hO (y 0) (y 1), ⟨(y 1).val % 480, Nat.mod_lt _ (by decide)⟩, y 2,
    (emb10 m hO _ _ _).trans ((congrArg₂ (fun b p => ix3 b p (y 2)) (entry_point m hO (y 0) (y 1)) (pixel_point m hO (y 0) (y 1))).trans (idx3_eq y).symm)⟩

theorem final10 : (dats m hO 0 c).arrAt 10 (cfgM m hO).N = codeArr m c := by
  refine (dats m hO 0 c).arrAt_eq_of_emb 10 _ (fun t _ y => ?_) (fun y => ?_)
  · obtain ⟨r, n, rfl⟩ := idx3_cases y
    refine Eq.trans ?_ (congrArg (codeArr m c) (emb10 m hO t r n).symm)
    refine Eq.trans ?_ (after10_at m hO c t r n)
    exact congrFun (after0_10 m hO c t) (ix3 0 r n)
  · obtain ⟨t, r, n, e⟩ := cover10 m hO y
    exact ⟨t, flush0_10 _ _, e ▸ View.emb_mem_set _ _⟩

theorem cover9 (y : S4x2x14400x384.Idx) : ∃ (t : Fin (cfgM m hO).N) (f : Fin 2) (r : Fin 480) (n : Fin 384),
    (((cfgM m hO).win 9).blk t).view.emb (ix4 0 f r n) = y :=
  ⟨point m hO (y 0) (y 2), y 1, ⟨(y 2).val % 480, Nat.mod_lt _ (by decide)⟩, y 3,
    (emb9 m hO _ _ _ _).trans ((congrArg₂ (fun b p => ix4 b (y 1) p (y 3)) (entry_point m hO (y 0) (y 2)) (pixel_point m hO (y 0) (y 2))).trans (idx4_eq y).symm)⟩

theorem final9 : (dats m hO 0 c).arrAt 9 (cfgM m hO).N = cacheArr m c := by
  refine (dats m hO 0 c).arrAt_eq_of_emb 9 _ (fun t _ y => ?_) (fun y => ?_)
  · obtain ⟨f, r, n, rfl⟩ := idx4_cases y
    refine Eq.trans ?_ (congrArg (cacheArr m c) (emb9 m hO t f r n).symm)
    refine Eq.trans ?_ (after9_at m hO c t f r n)
    exact congrFun (after0_9 m hO c t) (ix4 0 f r n)
  · obtain ⟨t, f, r, n, e⟩ := cover9 m hO y
    exact ⟨t, flush0_9 _ _, e ▸ View.emb_mem_set _ _⟩

end Cert.ConvNorm
-- ==== Proof.RefFrames.lean ====
/-
  The frames a convolution of the reference reads: the cached frames taken from the pool by slot, blanked for a first
  chunk, the new frame after them, and a border of zero codes round each image.  Here those arrays are read at an
  index.
-/
module

public import proofs.«01_k».proof.Proof.ConvSpec
public import Idealize.ShloMosaic.Lib.KernelVsHost

@[expose] public section

set_option maxRecDepth 16384

namespace Cert.Words

open Idealize.ShloMosaic hiding ix0 ix1 ix2 ix3 ix4 ix5
open Idealize.ShloMosaic.TcCoe Idealize.ShloMosaic.ValueIdx

/-- The lookup of rows of the pool by slot. -/
def poolDims : GatherDims ⟨5, ![6, 2, 90, 160, 384]⟩ ⟨2, ![4, 1]⟩ ⟨5, ![4, 2, 90, 160, 384]⟩ where
  offsetDims := [1, 2, 3, 4]
  collapsedSliceDims := [0]
  operandBatchingDims := []
  startIndicesBatchingDims := []
  startIndexMap := [0]
  indexVectorDim := 1
  sliceSizes := ![1, 2, 90, 160, 384]
  wf := by decide

/-- The slots, those below zero counted from the end. -/
def slotWords (slot : IVec ⟨1, ![4]⟩ 32) : IVec ⟨1, ![4]⟩ 32 :=
  select (cmpi .slt slot (broadcastInDim ⟨1, ![4]⟩ ![] (by decide) (constantI ⟨0, ![]⟩ 32 0#32)))
    (addi slot (broadcastInDim ⟨1, ![4]⟩ ![] (by decide) (constantI ⟨0, ![]⟩ 32 6#32))) slot

/-- The cached frames in use. -/
def usedCache (slot first : IVec ⟨1, ![4]⟩ 32) (pool : IVec ⟨5, ![6, 2, 90, 160, 384]⟩ 8) : IVec ⟨5, ![4, 2, 90, 160, 384]⟩ 8 :=
  select (broadcastInDim ⟨5, ![4, 2, 90, 160, 384]⟩ ![0, 1, 2, 3, 4] (by decide) (broadcastInDim ⟨5, ![4, 1, 1, 1, 1]⟩ ![0] (by decide)
      (cmpi .eq first (broadcastInDim ⟨1, ![4]⟩ ![] (by decide) (constantI ⟨0, ![]⟩ 32 1#32)))))
    (broadcastInDim ⟨5, ![4, 2, 90, 160, 384]⟩ ![] (by decide) (constantI ⟨0, ![]⟩ 8 0#8))
    (Host.gather poolDims pool (broadcastInDim ⟨2, ![4, 1]⟩ ![0] (by decide) (slotWords slot)))

theorem cat_frames : Shape.Concatenates [⟨5, ![4, 2, 90, 160, 384]⟩, ⟨5, ![4, 1, 90, 160, 384]⟩] ⟨5, ![4, 3, 90, 160, 384]⟩ 1 := by decide

/-- The three frames. -/
def threeFrames (slot first : IVec ⟨1, ![4]⟩ 32) (pool : IVec ⟨5, ![6, 2, 90, 160, 384]⟩ 8) (a : IVec ⟨5, ![4, 1, 90, 160, 384]⟩ 8) :
    IVec ⟨5, ![4, 3, 90, 160, 384]⟩ 8 :=
  concatenate ⟨5, ![4, 3, 90, 160, 384]⟩ 1 [⟨⟨5, ![4, 2, 90, 160, 384]⟩, usedCache slot first pool⟩, ⟨⟨5, ![4, 1, 90, 160, 384]⟩, a⟩] cat_frames

/-- The three frames with their border. -/
def borderedFrames (slot first : IVec ⟨1, ![4]⟩ 32) (pool : IVec ⟨5, ![6, 2, 90, 160, 384]⟩ 8) (a : IVec ⟨5, ![4, 1, 90, 160, 384]⟩ 8) :
    IVec ⟨5, ![4, 3, 92, 162, 384]⟩ 8 :=
  pad ⟨5, ![4, 3, 92, 162, 384]⟩ ![0, 0, 1, 1, 0] ![0, 0, 1, 1, 0] ![0, 0, 0, 0, 0] (threeFrames slot first pool a) (constantI ⟨0, ![]⟩ 8 0#8)
    (by decide) (by decide)

theorem small_word {x : BitVec 32} (h : x.toNat < 6) : ∃ k : Fin 6, x = BitVec.ofNat 32 k.val :=
  ⟨⟨x.toNat, h⟩, BitVec.eq_of_toNat_eq (by rw [BitVec.toNat_ofNat]; exact (Nat.mod_eq_of_lt x.isLt).symm)⟩

theorem slotWords_apply (slot : IVec ⟨1, ![4]⟩ 32) (b : Fin 4) (h : (slot (ix1 b)).toNat < 6) : slotWords slot (ix1 b) = slot (ix1 b) := by
  show Scalar.select (IntOp.cmpi .slt (slot (ix1 b)) 0#32) (IntOp.addi (slot (ix1 b)) 6#32) (slot (ix1 b)) = slot (ix1 b)
  obtain ⟨k, hk⟩ := small_word h
  rw [hk]
  have : ∀ k : Fin 6, Scalar.select (IntOp.cmpi .slt (BitVec.ofNat 32 k.val) 0#32) (IntOp.addi (BitVec.ofNat 32 k.val) 6#32) (BitVec.ofNat 32 k.val) = BitVec.ofNat 32 k.val := by decide
  exact this k

theorem small_int : ∀ k : Fin 6, min (BitVec.ofNat 32 k.val).toInt.toNat 5 = min (BitVec.ofNat 32 k.val).toNat 5 := by decide

theorem start_first (j : (⟨5, ![4, 2, 90, 160, 384]⟩ : Shape).Idx) (idx : IVec ⟨2, ![4, 1]⟩ 32) :
    poolDims.start j idx 0 = min (idx (ix2 (j 0) 0)).toInt.toNat 5 := by
  unfold GatherDims.start
  rw [dif_pos (show (0 : Fin 5) ∈ poolDims.startIndexMap from List.mem_singleton.mpr rfl)]
  have hsi : poolDims.siIdx j ⟨List.idxOf (0 : Fin 5) poolDims.startIndexMap, List.idxOf_lt_length_iff.2 (List.mem_singleton.mpr rfl)⟩ = ix2 (j 0) 0 := by
    funext c; refine Fin.ext ?_
    match c with
    | ⟨0, _⟩ => rfl
    | ⟨1, _⟩ => rfl
  exact congrArg (fun z => min (idx z).toInt.toNat 5) hsi

theorem start_other (j : (⟨5, ![4, 2, 90, 160, 384]⟩ : Shape).Idx) (idx : IVec ⟨2, ![4, 1]⟩ 32) (a : Fin 5) (h : a ≠ 0) :
    poolDims.start j idx a = 0 := by
  unfold GatherDims.start
  exact dif_neg (fun hm => h (List.mem_singleton.mp hm))

theorem lookup_apply (pool : IVec ⟨5, ![6, 2, 90, 160, 384]⟩ 8) (idx : IVec ⟨2, ![4, 1]⟩ 32) (b : Fin 4) (f : Fin 2) (y : Fin 90) (x : Fin 160) (l : Fin 384) :
    Host.gather poolDims pool idx (ix5 b f y x l) = pool (ix5 ⟨min (idx (ix2 b 0)).toInt.toNat 5, by omega⟩ f y x l) := by
  unfold Host.gather
  refine congrArg pool (funext fun a => Fin.ext ?_)
  show poolDims.start (ix5 b f y x l) idx a + poolDims.batchCoord (ix5 b f y x l) a + poolDims.offCoord (ix5 b f y x l) a = _
  rw [GatherDims.batchCoord_eq_zero _ _ _ List.not_mem_nil, Nat.add_zero]
  have other : ∀ (a : Fin 5) (r : Nat), a ≠ 0 → poolDims.offCoord (ix5 b f y x l) a = r → poolDims.start (ix5 b f y x l) idx a + poolDims.offCoord (ix5 b f y x l) a = r :=
    fun a r h e => by rw [start_other _ _ _ h, e, Nat.zero_add]
  match a with
  | ⟨0, _⟩ =>
    rw [GatherDims.offCoord_eq_zero _ _ _ (fun h => ((GatherDims.mem_sKept _ _).mp h).1 (List.mem_singleton.mpr rfl)), Nat.add_zero]
    exact start_first (ix5 b f y x l) idx
  | ⟨1, _⟩ => exact other 1 _ (by decide) rfl
  | ⟨2, _⟩ => exact other 2 _ (by decide) rfl
  | ⟨3, _⟩ => exact other 3 _ (by decide) rfl
  | ⟨4, _⟩ => exact other 4 _ (by decide) rfl

/-- Blanked where the word is one is kept where it is not. -/
theorem blanked {α : Type} (x : BitVec 32) (z g : α) :
    Scalar.select (IntOp.cmpi .eq x 1#32) z g = if IntOp.cmpi .ne x 1#32 = 1#1 then g else z := by
  by_cases h : x = 1#32
  · subst h; rfl
  · have e1 : IntOp.cmpi .eq x 1#32 = 0#1 := by
      show BitVec.ofBool (x == 1#32) = 0#1
      rw [beq_false_of_ne h]; rfl
    have e2 : IntOp.cmpi .ne x 1#32 = 1#1 := by
      show BitVec.ofBool (x != 1#32) = 1#1
      rw [bne_iff_ne.2 h]; rfl
    rw [e1, e2]; rfl

theorem usedCache_apply (slot first : IVec ⟨1, ![4]⟩ 32) (pool : IVec ⟨5, ![6, 2, 90, 160, 384]⟩ 8) (b : Fin 4) (h : (slot (ix1 b)).toNat < 6)
    (f : Fin 2) (y : Fin 90) (x : Fin 160) (l : Fin 384) :
    usedCache slot first pool (ix5 b f y x l) = if keptBit first b = 1#1 then pool (ix5 (slotOf slot b) f y x l) else 0#8 := by
  have e0 : broadcastInDim ⟨5, ![4, 2, 90, 160, 384]⟩ ![0, 1, 2, 3, 4] (by decide) (broadcastInDim ⟨5, ![4, 1, 1, 1, 1]⟩ ![0] (by decide)
      (cmpi .eq first (broadcastInDim ⟨1, ![4]⟩ ![] (by decide) (constantI ⟨0, ![]⟩ 32 1#32)))) (ix5 b f y x l) = IntOp.cmpi .eq (first (ix1 b)) 1#32 := by
    refine (broadcastInDim_apply _ _ _ _ (ix5 b 0 0 0 0) ?_).trans ?_
    · intro a
      match a with
      | ⟨0, _⟩ => rfl
      | ⟨1, _⟩ => rfl
      | ⟨2, _⟩ => rfl
      | ⟨3, _⟩ => rfl
      | ⟨4, _⟩ => rfl
    · refine (broadcastInDim_apply _ _ _ _ (ix1 b) ?_).trans rfl
      intro a
      match a with
      | ⟨0, _⟩ => rfl
  have e1 : broadcastInDim ⟨2, ![4, 1]⟩ ![0] (by decide) (slotWords slot) (ix2 b 0) = slot (ix1 b) := by
    refine (broadcastInDim_apply _ _ _ _ (ix1 b) ?_).trans (slotWords_apply slot b h)
    intro a
    match a with
    | ⟨0, _⟩ => rfl
  unfold usedCache
  rw [select_apply, e0, lookup_apply]
  refine (blanked _ _ _).trans ?_
  refine if_congr Iff.rfl ?_ rfl
  obtain ⟨k, hk⟩ := small_word h
  refine congrArg (fun z => pool (ix5 z f y x l)) (Fin.ext ?_)
  refine (congrArg (fun z : BitVec 32 => min z.toInt.toNat 5) e1).trans ?_
  show min (slot (ix1 b)).toInt.toNat 5 = min (slot (ix1 b)).toNat 5
  rw [hk]; exact small_int k

theorem threeFrames_old (slot first : IVec ⟨1, ![4]⟩ 32) (pool : IVec ⟨5, ![6, 2, 90, 160, 384]⟩ 8) (a : IVec ⟨5, ![4, 1, 90, 160, 384]⟩ 8)
    (b : Fin 4) (f : Fin 2) (y : Fin 90) (x : Fin 160) (l : Fin 384) :
    threeFrames slot first pool a (ix5 b ⟨f.val, by omega⟩ y x l) = usedCache slot first pool (ix5 b f y x l) :=
  concatenate_apply_piece (t := ⟨5, ![4, 3, 90, 160, 384]⟩) 1 [⟨⟨5, ![4, 2, 90, 160, 384]⟩, usedCache slot first pool⟩, ⟨⟨5, ![4, 1, 90, 160, 384]⟩, a⟩] cat_frames _ 0 Nat.two_pos ⟨5, ![4, 2, 90, 160, 384]⟩ (usedCache slot first pool) rfl rfl 0 rfl (ix5 b f y x l)
    (fun c hc => by
      match c with
      | ⟨0, _⟩ => rfl
      | ⟨1, _⟩ => exact absurd rfl hc
      | ⟨2, _⟩ => rfl
      | ⟨3, _⟩ => rfl
      | ⟨4, _⟩ => rfl) (Nat.zero_add _)

theorem threeFrames_new (slot first : IVec ⟨1, ![4]⟩ 32) (pool : IVec ⟨5, ![6, 2, 90, 160, 384]⟩ 8) (a : IVec ⟨5, ![4, 1, 90, 160, 384]⟩ 8)
    (b : Fin 4) (y : Fin 90) (x : Fin 160) (l : Fin 384) :
    threeFrames slot first pool a (ix5 b 2 y x l) = a (ix5 b 0 y x l) :=
  concatenate_apply_piece (t := ⟨5, ![4, 3, 90, 160, 384]⟩) 1 [⟨⟨5, ![4, 2, 90, 160, 384]⟩, usedCache slot first pool⟩, ⟨⟨5, ![4, 1, 90, 160, 384]⟩, a⟩] cat_frames _ 1 Nat.one_lt_two ⟨5, ![4, 1, 90, 160, 384]⟩ a rfl rfl 2 rfl (ix5 b 0 y x l)
    (fun c hc => by
      match c with
      | ⟨0, _⟩ => rfl
      | ⟨1, _⟩ => exact absurd rfl hc
      | ⟨2, _⟩ => rfl
      | ⟨3, _⟩ => rfl
      | ⟨4, _⟩ => rfl) rfl

/-- The pixel number of an image position. -/
theorem pixel_lt (y : Fin 90) (x : Fin 160) : y.val * 160 + x.val < 14400 := by omega

theorem pixel_row (y : Fin 90) (x : Fin 160) : (⟨(y.val * 160 + x.val) / 160, by omega⟩ : Fin 90) = y := Fin.ext (show (y.val * 160 + x.val) / 160 = y.val by omega)
theorem pixel_col (y : Fin 90) (x : Fin 160) : (⟨(y.val * 160 + x.val) % 160, by omega⟩ : Fin 160) = x := Fin.ext (show (y.val * 160 + x.val) % 160 = x.val by omega)

/-- A code of the three frames. -/
theorem threeFrames_apply (slot first : IVec ⟨1, ![4]⟩ 32) (pool : IVec ⟨5, ![6, 2, 90, 160, 384]⟩ 8) (a : IVec ⟨5, ![4, 1, 90, 160, 384]⟩ 8)
    (b : Fin 4) (h : (slot (ix1 b)).toNat < 6) (t : Fin 3) (y : Fin 90) (x : Fin 160) (l : Fin 384) :
    threeFrames slot first pool a (ix5 b t y x l) = stageFrames slot first pool a b t (y.val * 160 + x.val) l := by
  have hp : ∀ f : Fin 14400 → Fin 384 → BitVec 8, pix f (y.val * 160 + x.val) l = f ⟨y.val * 160 + x.val, pixel_lt y x⟩ l := fun f => pix_val f ⟨_, pixel_lt y x⟩ l
  match t with
  | 0 =>
    refine (threeFrames_old slot first pool a b 0 y x l).trans ((usedCache_apply slot first pool b h 0 y x l).trans ?_)
    show _ = if keptBit first b = 1#1 then pix (stageCodes slot pool a b 0) (y.val * 160 + x.val) l else 0#8
    rw [hp]
    show _ = if keptBit first b = 1#1 then pool (ix5 (slotOf slot b) 0 ⟨(y.val * 160 + x.val) / 160, _⟩ ⟨(y.val * 160 + x.val) % 160, _⟩ l) else 0#8
    rw [pixel_row, pixel_col]
  | 1 =>
    refine (threeFrames_old slot first pool a b 1 y x l).trans ((usedCache_apply slot first pool b h 1 y x l).trans ?_)
    show _ = if keptBit first b = 1#1 then pix (stageCodes slot pool a b 1) (y.val * 160 + x.val) l else 0#8
    rw [hp]
    show _ = if keptBit first b = 1#1 then pool (ix5 (slotOf slot b) 1 ⟨(y.val * 160 + x.val) / 160, _⟩ ⟨(y.val * 160 + x.val) % 160, _⟩ l) else 0#8
    rw [pixel_row, pixel_col]
  | 2 =>
    refine (threeFrames_new slot first pool a b y x l).trans ?_
    show _ = if (1#1 : BitVec 1) = 1#1 then pix (stageCodes slot pool a b 2) (y.val * 160 + x.val) l else 0#8
    rw [if_pos rfl, hp]
    show _ = a (ix5 b 0 ⟨(y.val * 160 + x.val) / 160, _⟩ ⟨(y.val * 160 + x.val) % 160, _⟩ l)
    rw [pixel_row, pixel_col]

/-- A code of the frames with their border. -/
theorem borderedFrames_apply (slot first : IVec ⟨1, ![4]⟩ 32) (pool : IVec ⟨5, ![6, 2, 90, 160, 384]⟩ 8) (a : IVec ⟨5, ![4, 1, 90, 160, 384]⟩ 8)
    (b : Fin 4) (h : (slot (ix1 b)).toNat < 6) (t : Fin 3) (Y : Fin 92) (X : Fin 162) (l : Fin 384) :
    borderedFrames slot first pool a (ix5 b t Y X l) = padded (stageFrames slot first pool a b t) Y.val X.val l := by
  unfold padded
  by_cases hin : (1 ≤ Y.val ∧ Y.val ≤ 90) ∧ (1 ≤ X.val ∧ X.val ≤ 160)
  · rw [if_pos hin]
    refine (pad_apply_of_inside _ _ _ _ _ _ _ _ (ix5 b t ⟨Y.val - 1, by omega⟩ ⟨X.val - 1, by omega⟩ l) ?_).trans (threeFrames_apply slot first pool a b h t _ _ l)
    intro c
    match c with
    | ⟨0, _⟩ => show b.val = 0 + b.val * 1; omega
    | ⟨1, _⟩ => show t.val = 0 + t.val * 1; omega
    | ⟨2, _⟩ => show Y.val = 1 + (Y.val - 1) * 1; omega
    | ⟨3, _⟩ => show X.val = 1 + (X.val - 1) * 1; omega
    | ⟨4, _⟩ => show l.val = 0 + l.val * 1; omega
  · rw [if_neg hin]
    by_cases hY : 1 ≤ Y.val ∧ Y.val ≤ 90
    · refine pad_apply_of_not_inside _ _ _ _ _ _ _ _ 3 ?_ |>.trans rfl
      show ¬ (1 ≤ X.val ∧ (X.val - 1) % 1 = 0 ∧ (X.val - 1) / 1 < 160)
      intro hc; exact hin ⟨hY, by omega⟩
    · refine pad_apply_of_not_inside _ _ _ _ _ _ _ _ 2 ?_ |>.trans rfl
      show ¬ (1 ≤ Y.val ∧ (Y.val - 1) % 1 = 0 ∧ (Y.val - 1) / 1 < 90)
      intro hc; exact hY (by omega)

end Cert.Words
-- ==== Proof.RefConv.lean ====
/-
  The reference's convolution on whole arrays: the sum of the twenty-seven products of shifted frames, and what one
  row of it is.  Row `b * 14400 + p` belongs to pixel `p` of batch entry `b`.
-/
module

public import proofs.«01_k».proof.Proof.RefFrames

@[expose] public section

set_option maxRecDepth 16384

namespace Cert.Words

open Idealize.ShloMosaic hiding ix0 ix1 ix2 ix3 ix4 ix5
open Idealize.ShloMosaic.TcCoe Idealize.ShloMosaic.ValueIdx

theorem shift_inb : ∀ t d e : Fin 3, ∀ a, (![0, t.val, d.val, e.val, 0] : Fin 5 → Nat) a + (![4, 1, 90, 160, 384] : Fin 5 → Nat) a ≤ (⟨5, ![4, 3, 92, 162, 384]⟩ : Shape).size a := by
  decide
theorem weight_inb : ∀ t d e : Fin 3, ∀ a, (![t.val, d.val, e.val, 0, 0] : Fin 5 → Nat) a + (![1, 1, 1, 384, 384] : Fin 5 → Nat) a ≤ (⟨5, ![3, 3, 3, 384, 384]⟩ : Shape).size a := by
  decide

/-- The row of a pixel of a batch entry. -/
def rowOf (b : Fin 4) (p : Fin 14400) : Fin 57600 := ⟨b.val * 14400 + p.val, by omega⟩

section
variable {F : FTy → Type} [FloatOps F]

/-- One product of the reference. -/
noncomputable def refTap (x : IVec ⟨5, ![4, 3, 92, 162, 384]⟩ 8) (w : Vec F ⟨5, ![3, 3, 3, 384, 384]⟩ .fp8e4m3) (t d e : Fin 3) : FVec F ⟨2, ![57600, 384]⟩ .f32 :=
  matmul (DotDims.plain 57600 384 384) none
    (bitcastToFloat .fp8e4m3 (shapeCast ⟨2, ![57600, 384]⟩ (shapeCast ⟨5, ![4, 1, 90, 160, 384]⟩
      (View.ld (Val := Elt F) (e' := .i8) x (Rect.unit (s := ⟨5, ![4, 3, 92, 162, 384]⟩) ![0, t.val, d.val, e.val, 0] ![4, 1, 90, 160, 384] (shift_inb t d e)))
      (show (⟨5, ![4, 1, 90, 160, 384]⟩ : Shape).ShapeCasts ⟨5, ![4, 1, 90, 160, 384]⟩ by decide)) (show (⟨5, ![4, 1, 90, 160, 384]⟩ : Shape).ShapeCasts ⟨2, ![57600, 384]⟩ by decide)))
    (shapeCast ⟨2, ![384, 384]⟩ (View.ld (Val := Elt F) (e' := .fp8e4m3) w (Rect.unit (s := ⟨5, ![3, 3, 3, 384, 384]⟩) ![t.val, d.val, e.val, 0, 0] ![1, 1, 1, 384, 384] (weight_inb t d e)))
      (show (⟨5, ![1, 1, 1, 384, 384]⟩ : Shape).ShapeCasts ⟨2, ![384, 384]⟩ by decide))
    (constant ⟨2, ![57600, 384]⟩ .f32 0x00000000#32)

end

section
variable {α : Type}

theorem cast_pixels (x : (⟨5, ![4, 1, 90, 160, 384]⟩ : Shape).Idx → α) (h : (⟨5, ![4, 1, 90, 160, 384]⟩ : Shape).ShapeCasts ⟨2, ![57600, 384]⟩)
    (b : Fin 4) (p : Fin 14400) (l : Fin 384) :
    shapeCast ⟨2, ![57600, 384]⟩ x h (ix2 (rowOf b p) l) = x (ix5 b 0 ⟨p.val / 160, by omega⟩ ⟨p.val % 160, by omega⟩ l) := by
  refine shapeCast_apply _ _ _ _ ?_
  rw [Shape.rowMajor_val_five, Shape.rowMajor_val_two]
  show ((((b.val * 1 + 0) * 90 + p.val / 160) * 160 + p.val % 160) * 384 + l.val) = ((b.val * 14400 + p.val) * 384 + l.val)
  omega

theorem cast_tap (x : (⟨5, ![1, 1, 1, 384, 384]⟩ : Shape).Idx → α) (h : (⟨5, ![1, 1, 1, 384, 384]⟩ : Shape).ShapeCasts ⟨2, ![384, 384]⟩)
    (k n : Fin 384) : shapeCast ⟨2, ![384, 384]⟩ x h (ix2 k n) = x (ix5 0 0 0 k n) := by
  refine shapeCast_apply _ _ _ _ ?_
  rw [Shape.rowMajor_val_five, Shape.rowMajor_val_two]
  show ((((0 * 1 + 0) * 1 + 0) * 384 + k.val) * 384 + n.val) = k.val * 384 + n.val
  omega

theorem cast_rows (x : (⟨2, ![57600, 384]⟩ : Shape).Idx → α) (h : (⟨2, ![57600, 384]⟩ : Shape).ShapeCasts ⟨3, ![4, 14400, 384]⟩)
    (b : Fin 4) (p : Fin 14400) (l : Fin 384) : shapeCast ⟨3, ![4, 14400, 384]⟩ x h (ix3 b p l) = x (ix2 (rowOf b p) l) := by
  refine shapeCast_apply _ _ _ _ ?_
  rw [Shape.rowMajor_val_three, Shape.rowMajor_val_two]
  rfl

theorem cast_one (x : (⟨0, ![]⟩ : Shape).Idx → α) (h : (⟨0, ![]⟩ : Shape).ShapeCasts ⟨2, ![1, 1]⟩) : shapeCast ⟨2, ![1, 1]⟩ x h (ix2 0 0) = x ix0 :=
  congrArg x (funext fun a => a.elim0)

end

/-- A product of the reference at a pixel. -/
theorem refTap_apply (x : IVec ⟨5, ![4, 3, 92, 162, 384]⟩ 8) (w : Vec Ideal ⟨5, ![3, 3, 3, 384, 384]⟩ .fp8e4m3) (t d e : Fin 3) (b : Fin 4) (p : Fin 14400) (n : Fin 384) :
    refTap (F := Ideal) x w t d e (ix2 (rowOf b p) n)
      = ∑ k : Fin 384, decode (x (ix5 b t ⟨p.val / 160 + d.val, by omega⟩ ⟨p.val % 160 + e.val, by omega⟩ k)) * w (ix5 t d e k n) := by
  refine (product_apply _ _ (rowOf b p) n).trans ?_
  refine Finset.sum_congr rfl fun k _ => ?_
  have e1 : View.ld (Val := Elt Ideal) (e' := .i8) x (Rect.unit (s := ⟨5, ![4, 3, 92, 162, 384]⟩) ![0, t.val, d.val, e.val, 0] ![4, 1, 90, 160, 384] (shift_inb t d e))
      (ix5 b 0 ⟨p.val / 160, by omega⟩ ⟨p.val % 160, by omega⟩ k) = x (ix5 b t ⟨p.val / 160 + d.val, by omega⟩ ⟨p.val % 160 + e.val, by omega⟩ k) :=
    View.ld_unit_apply_of (Val := Elt Ideal) (e := .i8) x _ _ _ _ _ (by
      intro a
      match a with
      | ⟨0, _⟩ => exact (Nat.zero_add _).symm
      | ⟨1, _⟩ => rfl
      | ⟨2, _⟩ => exact Nat.add_comm _ _
      | ⟨3, _⟩ => exact Nat.add_comm _ _
      | ⟨4, _⟩ => exact (Nat.zero_add _).symm)
  have e2 : View.ld (Val := Elt Ideal) (e' := .fp8e4m3) w (Rect.unit (s := ⟨5, ![3, 3, 3, 384, 384]⟩) ![t.val, d.val, e.val, 0, 0] ![1, 1, 1, 384, 384] (weight_inb t d e))
      (ix5 0 0 0 k n) = w (ix5 t d e k n) :=
    View.ld_unit_apply_of (Val := Elt Ideal) (e := .fp8e4m3) w _ _ _ _ _ (by
      intro a
      match a with
      | ⟨0, _⟩ => rfl
      | ⟨1, _⟩ => rfl
      | ⟨2, _⟩ => rfl
      | ⟨3, _⟩ => exact (Nat.zero_add _).symm
      | ⟨4, _⟩ => exact (Nat.zero_add _).symm)
  rw [cast_pixels]
  exact congrArg₂ (fun a b => decode a * b) ((congrFun (shapeCast_self _ _) _).trans e1) ((cast_tap _ _ k n).trans e2)

/-- The reference's sum of products at a pixel. -/
theorem refSum_apply (slot first : IVec ⟨1, ![4]⟩ 32) (pool : IVec ⟨5, ![6, 2, 90, 160, 384]⟩ 8) (a : IVec ⟨5, ![4, 1, 90, 160, 384]⟩ 8)
    (w : Vec Ideal ⟨5, ![3, 3, 3, 384, 384]⟩ .fp8e4m3) (b : Fin 4) (h : (slot (ix1 b)).toNat < 6) (p : Fin 14400) (n : Fin 384) :
    sum27 addf (refTap (F := Ideal) (borderedFrames slot first pool a) w) (ix2 (rowOf b p) n)
      = convSum (stageFrames slot first pool a b) (fun t d e k n => w (ix5 t d e k n)) (p.val / 160) (p.val % 160) n := by
  refine (sum27_apply _ _).trans ?_
  refine sum27_congr _ fun t d e => ?_
  refine (refTap_apply _ w t d e b p n).trans ?_
  refine Finset.sum_congr rfl fun k _ => ?_
  rw [borderedFrames_apply slot first pool a b h]

/-- The reference's convolution, scaled and biased. -/
noncomputable def refConv {F : FTy → Type} [FloatOps F] (x : IVec ⟨5, ![4, 3, 92, 162, 384]⟩ 8) (w : Vec F ⟨5, ![3, 3, 3, 384, 384]⟩ .fp8e4m3)
    (ws bias : Vec F ⟨2, ![1, 384]⟩ .f32) (s : Vec F ⟨2, ![1, 1]⟩ .f32) : FVec F ⟨2, ![57600, 384]⟩ .f32 :=
  scaled (sum27 addf (refTap x w))
    (mulf (broadcastTo ⟨2, ![1, 384]⟩ (shapeCast ⟨2, ![1, 1]⟩ s (show (⟨2, ![1, 1]⟩ : Shape).ShapeCasts ⟨2, ![1, 1]⟩ by decide)) (show (⟨2, ![1, 1]⟩ : Shape).Broadcasts ⟨2, ![1, 384]⟩ by decide))
      (shapeCast ⟨2, ![1, 384]⟩ ws (show (⟨2, ![1, 384]⟩ : Shape).ShapeCasts ⟨2, ![1, 384]⟩ by decide)))
    (shapeCast ⟨2, ![1, 384]⟩ bias (show (⟨2, ![1, 384]⟩ : Shape).ShapeCasts ⟨2, ![1, 384]⟩ by decide)) (show (⟨2, ![1, 384]⟩ : Shape).Broadcasts ⟨2, ![57600, 384]⟩ by decide)

/-- One number for a whole array. -/
theorem broadcast_one {α : Type} {N O : Nat} (s : (⟨2, ![1, 1]⟩ : Shape).Idx → α) (h : (⟨2, ![1, 1]⟩ : Shape).Broadcasts ⟨2, ![N, O]⟩) (r : Fin N) (n : Fin O) :
    broadcastTo ⟨2, ![N, O]⟩ s h (ix2 r n) = s (ix2 0 0) :=
  broadcastTo_apply s h (ix2 r n) (ix2 0 0) (by
    intro a
    match a with
    | ⟨0, _⟩ => exact (if_pos rfl).symm
    | ⟨1, _⟩ => exact (if_pos rfl).symm)

/-- The reference's convolution at a pixel. -/
theorem refConv_apply (slot first : IVec ⟨1, ![4]⟩ 32) (pool : IVec ⟨5, ![6, 2, 90, 160, 384]⟩ 8) (a : IVec ⟨5, ![4, 1, 90, 160, 384]⟩ 8)
    (w : Vec Ideal ⟨5, ![3, 3, 3, 384, 384]⟩ .fp8e4m3) (ws bias : Vec Ideal ⟨1, ![384]⟩ .f32) (s : Vec Ideal ⟨0, ![]⟩ .f32)
    (h1 h2 : (⟨1, ![384]⟩ : Shape).ShapeCasts ⟨2, ![1, 384]⟩) (h3 : (⟨0, ![]⟩ : Shape).ShapeCasts ⟨2, ![1, 1]⟩)
    (b : Fin 4) (h : (slot (ix1 b)).toNat < 6) (p : Fin 14400) (n : Fin 384) :
    refConv (F := Ideal) (borderedFrames slot first pool a) w (shapeCast ⟨2, ![1, 384]⟩ ws h1) (shapeCast ⟨2, ![1, 384]⟩ bias h2) (shapeCast ⟨2, ![1, 1]⟩ s h3) (ix2 (rowOf b p) n)
      = stageConv slot first pool a w ws bias s b p n := by
  unfold refConv
  rw [scaled_apply, refSum_apply slot first pool a w b h p n]
  show _ * (broadcastTo ⟨2, ![1, 384]⟩ _ _ (ix2 0 n) * shapeCast ⟨2, ![1, 384]⟩ _ _ (ix2 0 n)) + _ = _
  rw [broadcast_one, shapeCast_self, shapeCast_self, shapeCast_self, cast_one, cast_row, cast_row]
  rfl

theorem idx3_eta (y : (⟨3, ![4, 14400, 384]⟩ : Shape).Idx) : y = ix3 (y 0) (y 1) (y 2) :=
  funext fun a => match a with
    | ⟨0, _⟩ => rfl
    | ⟨1, _⟩ => rfl
    | ⟨2, _⟩ => rfl
theorem idx4_eta (y : (⟨4, ![4, 2, 14400, 384]⟩ : Shape).Idx) : y = ix4 (y 0) (y 1) (y 2) (y 3) :=
  funext fun a => match a with
    | ⟨0, _⟩ => rfl
    | ⟨1, _⟩ => rfl
    | ⟨2, _⟩ => rfl
    | ⟨3, _⟩ => rfl

/-- The reference's new cache: the two latest frames. -/
theorem refCache_apply (slot first : IVec ⟨1, ![4]⟩ 32) (pool : IVec ⟨5, ![6, 2, 90, 160, 384]⟩ 8) (a : IVec ⟨5, ![4, 1, 90, 160, 384]⟩ 8)
    (hr : ∀ k, (![0, 1, 0, 0, 0] : Fin 5 → Nat) k + (![4, 2, 90, 160, 384] : Fin 5 → Nat) k ≤ (⟨5, ![4, 3, 90, 160, 384]⟩ : Shape).size k)
    (h1 : (⟨5, ![4, 2, 90, 160, 384]⟩ : Shape).ShapeCasts ⟨5, ![4, 2, 90, 160, 384]⟩) (h2 : (⟨5, ![4, 2, 90, 160, 384]⟩ : Shape).ShapeCasts ⟨2, ![115200, 384]⟩)
    (h3 : (⟨2, ![115200, 384]⟩ : Shape).ShapeCasts ⟨4, ![4, 2, 14400, 384]⟩) (b : Fin 4) (h : (slot (ix1 b)).toNat < 6) (f : Fin 2) (p : Fin 14400) (n : Fin 384) :
    shapeCast ⟨4, ![4, 2, 14400, 384]⟩ (bitcastToFloat (F := Ideal) .fp8e4m3 (shapeCast ⟨2, ![115200, 384]⟩ (shapeCast ⟨5, ![4, 2, 90, 160, 384]⟩
      (View.ld (Val := Elt Ideal) (e' := .i8) (threeFrames slot first pool a) (Rect.unit (s := ⟨5, ![4, 3, 90, 160, 384]⟩) ![0, 1, 0, 0, 0] ![4, 2, 90, 160, 384] hr)) h1) h2)) h3 (ix4 b f p n)
      = cacheAt slot first pool a b f p n := by
  have hp := p.isLt
  refine (shapeCast_apply _ h3 (ix4 b f p n) (ix2 ⟨(b.val * 2 + f.val) * 14400 + p.val, by omega⟩ n) ?_).trans ?_
  · rw [Shape.rowMajor_val_four, Shape.rowMajor_val_two]; rfl
  show decode (shapeCast ⟨2, ![115200, 384]⟩ _ h2 _) = _
  unfold cacheAt
  refine congrArg decode ?_
  refine (shapeCast_apply _ h2 _ (ix5 b f ⟨p.val / 160, by omega⟩ ⟨p.val % 160, by omega⟩ n) ?_).trans ?_
  · rw [Shape.rowMajor_val_five, Shape.rowMajor_val_two]
    show (((b.val * 2 + f.val) * 90 + p.val / 160) * 160 + p.val % 160) * 384 + n.val = ((b.val * 2 + f.val) * 14400 + p.val) * 384 + n.val
    omega
  refine (congrFun (shapeCast_self _ _) _).trans ?_
  refine (View.ld_unit_apply_of (Val := Elt Ideal) (e := .i8) (threeFrames slot first pool a) _ _ _ _
    (ix5 b ⟨f.val + 1, by omega⟩ ⟨p.val / 160, by omega⟩ ⟨p.val % 160, by omega⟩ n) ?_).trans ?_
  · intro k
    match k with
    | ⟨0, _⟩ => exact (Nat.zero_add _).symm
    | ⟨1, _⟩ => exact Nat.add_comm _ _
    | ⟨2, _⟩ => exact (Nat.zero_add _).symm
    | ⟨3, _⟩ => exact (Nat.zero_add _).symm
    | ⟨4, _⟩ => exact (Nat.zero_add _).symm
  · refine (threeFrames_apply slot first pool a b h _ _ _ n).trans ?_
    exact congrArg (fun q => stageFrames slot first pool a b ⟨f.val + 1, by omega⟩ q n) (show p.val / 160 * 160 + p.val % 160 = p.val by omega)

end Cert.Words
-- ==== Proof.ConvNormRef.lean ====
/-
  The plain convolution's reference: its two results as functions of the arguments.
-/
module

public import proofs.«01_k».proof.Proof.RefConv
public import proofs.«01_k».proof.Proof.Gen.ConvNormRefIdeal.Frame
public import Idealize.ShloMosaic.Lib.Pipeline.ValueKit

@[expose] public section

set_option maxRecDepth 16384

namespace Cert.ConvNormRef

open Idealize.ShloMosaic hiding ix0 ix1 ix2 ix3 ix4 ix5
open Idealize.ShloMosaic.TcCoe Idealize.ShloMosaic.ValueIdx
open Cert.Words Cert.ConvNormRefIdeal Cert.ConvNormRefIdeal.Gen

section
variable {F : FTy → Type} [FloatOps F]
variable (x0 : Vec F S4x3x90x160x384 .i8) (x1 : Vec F S4x3x92x162x384 .i8) (x2 : Vec F S3x3x3x384x384 .fp8e4m3) (x3 x4 : Vec F S1x384 .f32) (x5 : Vec F S1x1 .f32)
  (x6 : Vec F S1x384 .f32) (x7 : Vec F S1x1 .f32)

theorem zero5 : (![0, 0, 0, 0, 0] : Fin 5 → Nat) = fun _ => 0 := by decide
theorem zero4 : (![0, 0, 0, 0] : Fin 4 → Nat) = fun _ => 0 := by decide
theorem zero3 : (![0, 0, 0] : Fin 3 → Nat) = fun _ => 0 := by decide
theorem zero2 : (![0, 0] : Fin 2 → Nat) = fun _ => 0 := by decide

/-- The convolution by row. -/
noncomputable def rows : FVec F S57600x384 .f32 :=
  refConv x1 x2 (View.ld x3 (Rect.unit (s := S1x384) ![0, 0] S1x384.size inb_S1x384_S1x384_0_0)) (View.ld x4 (Rect.unit (s := S1x384) ![0, 0] S1x384.size inb_S1x384_S1x384_0_0)) (View.ld x5 (Rect.unit (s := S1x1) ![0, 0] S1x1.size inb_S1x1_S1x1_0_0))

theorem out9_eq : out0_9 x0 x1 x2 x3 x4 x5 x6 x7
    = shapeCast S4x14400x384 (quantised (normed (rows x1 x2 x3 x4 x5) (shapeCast S1x384 (View.ld x6 (Rect.unit (s := S1x384) ![0, 0] S1x384.size inb_S1x384_S1x384_0_0)) shapeCasts_S1x384_S1x384) broadcasts_S1x384_S57600x384 reduces_S57600x384_S57600 shapeCasts_S57600_S57600x1 broadcasts_S57600x1_S57600x384)
        (broadcastTo S57600x384 (shapeCast S1x1 (View.ld x7 (Rect.unit (s := S1x1) ![0, 0] S1x1.size inb_S1x1_S1x1_0_0)) shapeCasts_S1x1_S1x1) broadcasts_S1x1_S57600x384)) shapeCasts_S57600x384_S4x14400x384 := by
  unfold out0_9
  exact (View.canon_unit_zero zero3 _ _).trans rfl
theorem row_ld (x : Vec F S1x384 .f32) : shapeCast S1x384 (View.ld x (Rect.unit (s := S1x384) ![0, 0] S1x384.size inb_S1x384_S1x384_0_0)) shapeCasts_S1x384_S1x384 = x := by
  rw [View.ld_unit_zero zero2]; exact shapeCast_self _ _
theorem one_ld (x : Vec F S1x1 .f32) : shapeCast S1x1 (View.ld x (Rect.unit (s := S1x1) ![0, 0] S1x1.size inb_S1x1_S1x1_0_0)) shapeCasts_S1x1_S1x1 = x := by
  rw [View.ld_unit_zero zero2]; exact shapeCast_self _ _

theorem out9_plain : out0_9 x0 x1 x2 x3 x4 x5 x6 x7
    = shapeCast S4x14400x384 (quantised (normed (rows x1 x2 x3 x4 x5) x6 broadcasts_S1x384_S57600x384 reduces_S57600x384_S57600 shapeCasts_S57600_S57600x1 broadcasts_S57600x1_S57600x384)
        (broadcastTo S57600x384 x7 broadcasts_S1x1_S57600x384)) shapeCasts_S57600x384_S4x14400x384 := by
  rw [out9_eq, row_ld, one_ld]
end

variable (m : (ℓ : Loc nD τ sig) → Buf (Elt Ideal) ℓ) (c : Dev nD)

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)

theorem V_v11 : V m c main_v11 = threeFrames (slotA m c) (firstA m c) (poolA m c) (codesA m c) := by
  entry_read; rfl
set_option maxHeartbeats 1000000 in
theorem V_v12 : V m c main_v12 = borderedFrames (slotA m c) (firstA m c) (poolA m c) (codesA m c) := by
  entry_read; rfl
theorem V_v13 : V m c main_v13 = shapeCast S1x384 (wsA m c) shapeCasts_S384_S1x384 := by
  entry_read; rfl
theorem V_v14 : V m c main_v14 = shapeCast S1x384 (biasA m c) shapeCasts_S384_S1x384 := by
  entry_read; rfl
theorem V_v15 : V m c main_v15 = shapeCast S1x1 (scaleA m c) shapeCasts_S_S1x1 := by
  entry_read; rfl
theorem V_v16 : V m c main_v16 = shapeCast S1x384 (gammaA m c) shapeCasts_S384_S1x384 := by
  entry_read; rfl
theorem V_v17 : V m c main_v17 = shapeCast S1x1 (nextA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_v11 := by
  funext y
  refine congrArg (V m c main_v11) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_v12 := by
  funext y
  refine congrArg (V m c main_v12) (funext fun a => Fin.ext ?_)
  refine (Pipeline.Window.rect_emb_val (cfg0.win 1) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk2 (t : Fin cfg0.N) : iblk m c 2 t = V m c main_arg4 := by
  funext y
  refine congrArg (V m c main_arg4) (funext fun a => Fin.ext ?_)
  refine (Pipeline.Window.rect_emb_val (cfg0.win 2) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk3 (t : Fin cfg0.N) : iblk m c 3 t = V m c main_v13 := by
  funext y
  refine congrArg (V m c main_v13) (funext fun a => Fin.ext ?_)
  refine (Pipeline.Window.rect_emb_val (cfg0.win 3) t y a).trans ?_
  match a with
  | ⟨0, _⟩ => exact at_zero rfl
  | ⟨1, _⟩ => exact at_zero rfl

theorem iblk4 (t : Fin cfg0.N) : iblk m c 4 t = V m c main_v14 := by
  funext y
  refine congrArg (V m c main_v14) (funext fun a => Fin.ext ?_)
  refine (Pipeline.Window.rect_emb_val (cfg0.win 4) t y a).trans ?_
  match a with
  | ⟨0, _⟩ => exact at_zero rfl
  | ⟨1, _⟩ => exact at_zero rfl

theorem iblk5 (t : Fin cfg0.N) : iblk m c 5 t = V m c main_v15 := by
  funext y
  refine congrArg (V m c main_v15) (funext fun a => Fin.ext ?_)
  refine (Pipeline.Window.rect_emb_val (cfg0.win 5) t y a).trans ?_
  match a with
  | ⟨0, _⟩ => exact at_zero rfl
  | ⟨1, _⟩ => exact at_zero rfl

theorem iblk6 (t : Fin cfg0.N) : iblk m c 6 t = V m c main_v16 := by
  funext y
  refine congrArg (V m c main_v16) (funext fun a => Fin.ext ?_)
  refine (Pipeline.Window.rect_emb_val (cfg0.win 6) t y a).trans ?_
  match a with
  | ⟨0, _⟩ => exact at_zero rfl
  | ⟨1, _⟩ => exact at_zero rfl

theorem iblk7 (t : Fin cfg0.N) : iblk m c 7 t = V m c main_v17 := by
  funext y
  refine congrArg (V m c main_v17) (funext fun a => Fin.ext ?_)
  refine (Pipeline.Window.rect_emb_val (cfg0.win 7) t y a).trans ?_
  match a with
  | ⟨0, _⟩ => exact at_zero rfl
  | ⟨1, _⟩ => exact at_zero rfl

theorem rows_at (t : Fin cfg0.N) (b : Fin 4) (h : (slotA m c (ix1 b)).toNat < 6) (p : Fin 14400) (n : Fin 384) :
    rows (F := Ideal) (iblk m c 1 t) (iblk m c 2 t) (iblk m c 3 t) (iblk m c 4 t) (iblk m c 5 t) (ix2 (rowOf b p) n)
      = stageConv (slotA m c) (firstA m c) (poolA m c) (codesA m c) (weightsA m c) (wsA m c) (biasA m c) (scaleA m c) b p n := by
  unfold rows
  rw [View.ld_unit_zero zero2, View.ld_unit_zero zero2, View.ld_unit_zero zero2,
    iblk1, iblk2, iblk3, iblk4, iblk5, V_v12, V_v13, V_v14, V_v15, V_main_arg4]
  exact refConv_apply (slotA m c) (firstA m c) (poolA m c) (codesA m c) (weightsA m c) (wsA m c) (biasA m c) (scaleA m c) _ _ _ b h p n

theorem out9_at (t : Fin cfg0.N) (b : Fin 4) (h : (slotA m c (ix1 b)).toNat < 6) (p : Fin 14400) (n : Fin 384) :
    out0_9 (iblk m c 0 t) (iblk m c 1 t) (iblk m c 2 t) (iblk m c 3 t) (iblk m c 4 t) (iblk m c 5 t) (iblk m c 6 t) (iblk m c 7 t) (ix3 b p n)
      = normCode (stageConv (slotA m c) (firstA m c) (poolA m c) (codesA m c) (weightsA m c) (wsA m c) (biasA m c) (scaleA m c) b p) (gammaA m c) (nextA m c) n := by
  rw [out9_plain]
  refine (cast_rows _ _ b p n).trans ?_
  rw [quantised_apply, normed_apply, broadcast_one, iblk6, iblk7, V_v16, V_v17]
  unfold normCode
  have e1 : (fun k => rows (F := Ideal) (iblk m c 1 t) (iblk m c 2 t) (iblk m c 3 t) (iblk m c 4 t) (iblk m c 5 t) (ix2 (rowOf b p) k))
      = stageConv (slotA m c) (firstA m c) (poolA m c) (codesA m c) (weightsA m c) (wsA m c) (biasA m c) (scaleA m c) b p := funext fun k => rows_at m c t b h p k
  have e2 : (fun k => shapeCast S1x384 (gammaA m c) shapeCasts_S384_S1x384 (ix2 0 k)) = fun k => gammaA m c (ix1 k) := funext fun k => cast_row _ _ k
  rw [e1, e2, cast_one]

theorem out8_at (t : Fin cfg0.N) (b : Fin 4) (h : (slotA m c (ix1 b)).toNat < 6) (f : Fin 2) (p : Fin 14400) (n : Fin 384) :
    out0_8 (iblk m c 0 t) (iblk m c 1 t) (iblk m c 2 t) (iblk m c 3 t) (iblk m c 4 t) (iblk m c 5 t) (iblk m c 6 t) (iblk m c 7 t) (ix4 b f p n)
      = cacheAt (slotA m c) (firstA m c) (poolA m c) (codesA m c) b f p n := by
  unfold out0_8
  refine (congrFun (View.canon_unit_zero zero4 _ _) _).trans ?_
  rw [iblk0, V_v11]
  exact refCache_apply (slotA m c) (firstA m c) (poolA m c) (codesA m c) _ _ _ _ b h f p n

/-- The two results at the end. -/
noncomputable def codeArr (y : S4x14400x384.Idx) : EReal :=
  normCode (stageConv (slotA m c) (firstA m c) (poolA m c) (codesA m c) (weightsA m c) (wsA m c) (biasA m c) (scaleA m c) (y 0) (y 1)) (gammaA m c) (nextA m c) (y 2)
noncomputable def cacheArr (y : S4x2x14400x384.Idx) : EReal :=
  cacheAt (slotA m c) (firstA m c) (poolA m c) (codesA m c) (y 0) (y 1) (y 2) (y 3)

/-- The one grid point. -/
def point : Fin cfg0.N := ⟨0, by decide⟩

theorem emb9 (y : S4x14400x384.Idx) : ((cfg0.win 9).blk point).view.emb y = y := by
  funext a; refine Fin.ext ((Pipeline.Window.rect_emb_val (cfg0.win 9) point y a).trans ?_)
  match a with
  | ⟨0, _⟩ => exact at_zero rfl
  | ⟨1, _⟩ => exact at_zero rfl
  | ⟨2, _⟩ => exact at_zero rfl
theorem emb8 (y : S4x2x14400x384.Idx) : ((cfg0.win 8).blk point).view.emb y = y := by
  funext a; refine Fin.ext ((Pipeline.Window.rect_emb_val (cfg0.win 8) point y a).trans ?_)
  match a with
  | ⟨0, _⟩ => exact at_zero rfl
  | ⟨1, _⟩ => exact at_zero rfl
  | ⟨2, _⟩ => exact at_zero rfl
  | ⟨3, _⟩ => exact at_zero rfl

theorem one_point (t : Fin cfg0.N) : t = point := by
  have h : ∀ t : Fin grid0.N, t = ⟨0, by decide⟩ := by decide +kernel
  exact h t

theorem final9 (h : ∀ b : Fin 4, (slotA m c (ix1 b)).toNat < 6) : (dats m 0 c).arrAt 9 cfg0.N = codeArr m c := by
  refine (dats m 0 c).arrAt_eq_of_emb 9 _ (fun t _ y => ?_) (fun y => ?_)
  · obtain rfl := one_point t
    refine Eq.trans ?_ (congrArg (codeArr m c) (emb9 y).symm)
    refine (congrFun (after0_9 m c point) y).trans ?_
    refine (congrArg _ (idx3_eta y)).trans ?_
    exact out9_at m c point (y 0) (h _) (y 1) (y 2)
  · exact ⟨point, by decide +kernel, (emb9 y) ▸ View.emb_mem_set _ _⟩

theorem final8 (h : ∀ b : Fin 4, (slotA m c (ix1 b)).toNat < 6) : (dats m 0 c).arrAt 8 cfg0.N = cacheArr m c := by
  refine (dats m 0 c).arrAt_eq_of_emb 8 _ (fun t _ y => ?_) (fun y => ?_)
  · obtain rfl := one_point t
    refine Eq.trans ?_ (congrArg (cacheArr m c) (emb8 y).symm)
    refine (congrFun (after0_8 m c point) y).trans ?_
    refine (congrArg _ (idx4_eta y)).trans ?_
    exact out8_at m c point (y 0) (h _) (y 1) (y 2) (y 3)
  · exact ⟨point, by decide +kernel, (emb8 y) ▸ View.emb_mem_set _ _⟩

end Cert.ConvNormRef
-- ==== Proof.ConvNormRun.lean ====
/-
  The plain convolution's run and its reference's run, each with the arrays it ends with, and the equality of
  the two families of arrays when the arguments agree.
-/
module

public import proofs.«01_k».proof.Proof.ConvNormArray
public import proofs.«01_k».proof.Proof.ConvNormRef
public import proofs.«01_k».proof.Proof.Gen.ConvNormIdeal.Frame
public import proofs.«01_k».proof.Proof.Gen.ConvNormRefIdeal.Frame

@[expose] public section

set_option maxRecDepth 16384

namespace Cert.ConvNorm

open Idealize.ShloMosaic hiding ix0 ix1 ix2 ix3 ix4 ix5
open Idealize.ShloMosaic.TcCoe Idealize.ShloMosaic.ValueIdx
open Idealize.SL.Sem
open Cert.Words Cert.ConvNormIdeal Cert.ConvNormIdeal.Gen

/-- The kernel ends with the new cache and the next stage's codes. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ fun r => ∀ c : Dev nD,
      r.2.mem ((c : Thread nD τ).loc main_v8_0) = cacheArr m c
      ∧ r.2.mem ((c : Thread nD τ).loc main_v8_1) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1 9).trans (final9 m hO c), ((h c).1 10).trans (final10 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c)⟩) (run_main m ρ hO)

end Cert.ConvNorm

namespace Cert.ConvNormRef

open Idealize.ShloMosaic hiding ix0 ix1 ix2 ix3 ix4 ix5
open Idealize.ShloMosaic.TcCoe Idealize.ShloMosaic.ValueIdx
open Idealize.SL.Sem
open Cert.Words Cert.ConvNormRefIdeal Cert.ConvNormRefIdeal.Gen

/-- The reference ends with the same two arrays of its own arguments. -/
theorem run_arrays (m : (ℓ : Loc nD τ sig) → Buf (Elt Ideal) ℓ) (ρ : Dev nD → PrngReg)
    (h6 : ∀ (c : Dev nD) (b : Fin 4), (slotA m c (ix1 b)).toNat < 6) :
    θ_run defs (onTc (τ := τ) (main (F := Ideal))) ⟨m, fun _ => 0, ρ⟩ fun r => ∀ c : Dev nD,
      r.2.mem ((c : Thread nD τ).loc main_v18_0) = cacheArr m c
      ∧ r.2.mem ((c : Thread nD τ).loc main_v18_1) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨((h c).1 8).trans (final8 m c (h6 c)), ((h c).1 9).trans (final9 m c (h6 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

/-- Arguments that agree give arrays that agree. -/
theorem arrays_eq (m' : (ℓ : Loc nD τ sig) → Buf (Elt Ideal) ℓ) (m : (ℓ : Loc Cert.ConvNormIdeal.nD Cert.ConvNormIdeal.τ Cert.ConvNormIdeal.sig) → Buf (Elt Ideal) ℓ) (c : Dev nD)
    (h0 : slotA m' c = ConvNorm.slotA m c)
    (h1 : firstA m' c = ConvNorm.firstA m c)
    (h2 : poolA m' c = ConvNorm.poolA m c)
    (h3 : codesA m' c = ConvNorm.codesA m c)
    (h4 : weightsA m' c = ConvNorm.weightsA m c)
    (h5 : wsA m' c = ConvNorm.wsA m c)
    (h6 : biasA m' c = ConvNorm.biasA m c)
    (h7 : scaleA m' c = ConvNorm.scaleA m c)
    (h8 : gammaA m' c = ConvNorm.gammaA m c)
    (h9 : nextA m' c = ConvNorm.nextA m c)
    : cacheArr m' c = ConvNorm.cacheArr m c ∧ codeArr m' c = ConvNorm.codeArr m c := by
  refine ⟨funext fun y => ?_, funext fun y => ?_⟩
  · unfold cacheArr ConvNorm.cacheArr; rw [h0, h1, h2, h3]
  · unfold codeArr ConvNorm.codeArr; rw [h0, h1, h2, h3, h4, h5, h6, h7, h8, h9]

end Cert.ConvNormRef
-- ==== Proof.ConvMidSum.lean ====
/-
  The residual convolution's tile: the sum of products that the kernel's body leaves, in the words of `Conv.lean`.
-/
module

public import proofs.«01_k».proof.Proof.Conv
public import proofs.«01_k».proof.Proof.Gen.ConvMidIdeal.Frame

@[expose] public section

set_option maxRecDepth 16384

namespace Cert.ConvMid

open Idealize.ShloMosaic hiding ix1 ix2 ix3 ix4
open Idealize.ShloMosaic.TcCoe Idealize.ShloMosaic.ValueIdx
open Cert.Words Cert.ConvMidIdeal Cert.ConvMidIdeal.Gen

variable {F : FTy → Type} [FloatOps F]

/-- An image row of a frame of the pool, as the kernel loads it. -/
noncomputable def poolRow (a : Memref sig .tc .vmem S1x1x14400x384 .i8) (ha : a.IsWhole) (x : Vec F S1x1x14400x384 .i8) (i : grid0.Coords) (d k : Fin 3) :
    IVec ⟨2, ![160, 384]⟩ 8 :=
  shapeCast ⟨2, ![160, 384]⟩ (View.readAt (Elt F) a.view (Rect.unit (s := S1x1x14400x384) (k0_off2 i (BitVec.ofNat 32 d.val) (BitVec.ofNat 32 k.val)) S1x1x160x384.size (k0_off2_inb i d k)).toLoadRect (ha.unread x)) (show S1x1x160x384.ShapeCasts ⟨2, ![160, 384]⟩ by decide)

/-- An image row of the current frame, as the kernel loads it. -/
noncomputable def ownRow (a : Memref sig .tc .vmem S1x14400x384 .i8) (ha : a.IsWhole) (x : Vec F S1x14400x384 .i8) (i : grid0.Coords) (d k : Fin 3) :
    IVec ⟨2, ![160, 384]⟩ 8 :=
  shapeCast ⟨2, ![160, 384]⟩ (View.readAt (Elt F) a.view (Rect.unit (s := S1x14400x384) (k0_off3 i (BitVec.ofNat 32 d.val) (BitVec.ofNat 32 k.val)) S1x160x384.size (k0_off3_inb i d k)).toLoadRect (ha.unread x)) (show S1x160x384.ShapeCasts ⟨2, ![160, 384]⟩ by decide)

theorem tap_inb : ∀ t d e : Fin 3, ∀ a, (![t.val * 9 + d.val * 3 + e.val, 0, 0] : Fin 3 → Nat) a + S1x384x384.size a ≤ S27x384x384.size a := by
  decide

/-- The weights of a tap, as the kernel loads them. -/
noncomputable def tapWeights (a : Memref sig .tc .vmem S27x384x384 .fp8e4m3) (ha : a.IsWhole) (x : Vec F S27x384x384 .fp8e4m3) (t d e : Fin 3) :
    Vec F ⟨3, ![1, 384, 384]⟩ .fp8e4m3 :=
  View.readAt (Elt F) a.view (Rect.unit (s := S27x384x384) ![t.val * 9 + d.val * 3 + e.val, 0, 0] S1x384x384.size (tap_inb t d e)).toLoadRect (ha.unread x)

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x480x384 .bf16) (harg13 : arg13.IsWhole) (arg14 : Memref sig .tc .vmem S1x2x480x384 .fp8e4m3) (harg14 : arg14.IsWhole) (arg15 : Memref sig .tc .vmem S1x480x384 .fp8e4m3) (harg15 : arg15.IsWhole) (arg16 : Memref sig .tc .vmem S1x480x384 .f32) (harg16 : arg16.IsWhole)
    (x0 : Vec F S1x1x14400x384 .i8) (x1 : Vec F S1x1x14400x384 .i8) (x2 : Vec F S1x14400x384 .i8) (x3 : Vec F S27x384x384 .fp8e4m3) (x4 : Vec F S1x384 .f32) (x5 : Vec F S1x384 .f32) (x6 : Vec F S1x384 .f32) (x7 : Vec F S1 .f32) (x8 : Vec F S1 .f32) (x9 : Vec F S1x480x384 .bf16) (xt0 : TbBuf0 (F := F) c tbM0_0) (xt1 : TbBuf0 (F := F) c tbM0_1)

/-- Whether the frames of the pool are kept. -/
noncomputable def keepBit (c : Dev nD) (i : grid0.Coords) (xt1 : TbBuf0 (F := F) c tbM0_1) : BitVec 1 := kernelRun0_A.sl.v2 c i xt1

/-- The product of a tap, as the kernel forms it. -/
noncomputable def tap (t d e : Fin 3) : FVec F ⟨2, ![480, 384]⟩ .f32 :=
  match t with
  | 0 => tileTap (bandOf (BitVec.ofNat 32 (i 1).val) (keepBit c i xt1) d (poolRow arg4 harg4 x0 i d)) e (tapWeights arg7 harg7 x3 0 d e)
  | 1 => tileTap (bandOf (BitVec.ofNat 32 (i 1).val) (keepBit c i xt1) d (poolRow arg5 harg5 x1 i d)) e (tapWeights arg7 harg7 x3 1 d e)
  | 2 => tileTap (bandOf (BitVec.ofNat 32 (i 1).val) 1#1 d (ownRow arg6 harg6 x2 i d)) e (tapWeights arg7 harg7 x3 2 d e)

/-- A tile of the sum of the convolution and the residual, as the body forms it. -/
theorem h_eq : kernelRun0_A.sl.r_34 c i arg4 harg4 arg5 harg5 arg6 harg6 arg7 harg7 arg8 harg8 arg9 harg9 arg11 harg11 arg13 harg13 x0 x1 x2 x3 x4 x5 x7 x9 xt1
    = addf (extf .f32 (shapeCast ⟨2, ![480, 384]⟩ (View.readAt (Elt F) arg13.view (Rect.unit (s := S1x480x384) ![0, 0, 0] S1x480x384.size inb_S1x480x384_S1x480x384_0_0_0).toLoadRect (harg13.unread x9)) shapeCasts_S1x480x384_S480x384) bitsLt_bf16_f32)
       (scaled (sum27 addf (tap c i arg4 harg4 arg5 harg5 arg6 harg6 arg7 harg7 x0 x1 x2 x3 xt1))
        (mulf (broadcast S1x384 (kernelRun0_A.sl.r_32 c arg11 harg11 x7))
          (shapeCast S1x384 (View.readAt (Elt F) arg8.view (Rect.unit (s := S1x384) ![0, 0] S1x384.size inb_S1x384_S1x384_0_0).toLoadRect (harg8.unread x4)) shapeCasts_S1x384_S1x384))
        (shapeCast S1x384 (View.readAt (Elt F) arg9.view (Rect.unit (s := S1x384) ![0, 0] S1x384.size inb_S1x384_S1x384_0_0).toLoadRect (harg9.unread x5)) shapeCasts_S1x384_S1x384)
        broadcasts_S1x384_S480x384) := rfl

/-- A tile of the codes, as the body forms it. -/
theorem code_eq : kernelRun0_A.sl.r_37 c i arg4 harg4 arg5 harg5 arg6 harg6 arg7 harg7 arg8 harg8 arg9 harg9 arg10 harg10 arg11 harg11 arg12 harg12 arg13 harg13 x0 x1 x2 x3 x4 x5 x6 x7 x8 x9 xt1
    = quantised (normed (kernelRun0_A.sl.r_34 c i arg4 harg4 arg5 harg5 arg6 harg6 arg7 harg7 arg8 harg8 arg9 harg9 arg11 harg11 arg13 harg13 x0 x1 x2 x3 x4 x5 x7 x9 xt1)
        (shapeCast S1x384 (View.readAt (Elt F) arg10.view (Rect.unit (s := S1x384) ![0, 0] S1x384.size inb_S1x384_S1x384_0_0).toLoadRect (harg10.unread x6)) shapeCasts_S1x384_S1x384)
        broadcasts_S1x384_S480x384 reduces_S480x384_S480 shapeCasts_S480_S480x1 broadcasts_S480x1_S480x384)
        (broadcast S480x384 (kernelRun0_A.sl.r_36 c arg12 harg12 x8)) := rfl
theorem pieces12 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).2.2.1
    = [⟨Rect.unit (s := S1x480x384) ![0, 0, 0] S1x480x384.size inb_S1x480x384_S1x480x384_0_0_0, shapeCast S1x480x384 (kernelRun0_A.sl.r_34 c i arg4 harg4 arg5 harg5 arg6 harg6 arg7 harg7 arg8 harg8 arg9 harg9 arg11 harg11 arg13 harg13 x0 x1 x2 x3 x4 x5 x7 x9 xt1) shapeCasts_S480x384_S1x480x384⟩] := by
  unfold kernelRun0_A; dsimp only; rfl

theorem pieces11 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).2.1
    = [⟨Rect.unit (s := S1x480x384) ![0, 0, 0] S1x480x384.size inb_S1x480x384_S1x480x384_0_0_0, shapeCast S1x480x384 (kernelRun0_A.sl.r_37 c i arg4 harg4 arg5 harg5 arg6 harg6 arg7 harg7 arg8 harg8 arg9 harg9 arg10 harg10 arg11 harg11 arg12 harg12 arg13 harg13 x0 x1 x2 x3 x4 x5 x6 x7 x8 x9 xt1) shapeCasts_S480x384_S1x480x384⟩] := by
  unfold kernelRun0_A; dsimp only; rfl

theorem zero3 : (![0, 0, 0] : Fin 3 → Nat) = fun _ => 0 := by decide
theorem zero2 : (![0, 0] : Fin 2 → Nat) = fun _ => 0 := by decide
theorem zero1 : (![0] : Fin 1 → Nat) = fun _ => 0 := by decide

theorem out12_eq : out0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1
    = shapeCast S1x480x384 (kernelRun0_A.sl.r_34 c i arg4 harg4 arg5 harg5 arg6 harg6 arg7 harg7 arg8 harg8 arg9 harg9 arg11 harg11 arg13 harg13 x0 x1 x2 x3 x4 x5 x7 x9 xt1) shapeCasts_S480x384_S1x480x384 := by
  unfold out0_A_12
  rw [View.read_writes_eq_canon _ _ _ (cover0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces12]
  exact View.canon_unit_zero zero3 _ _

theorem out11_eq : out0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1
    = shapeCast S1x480x384 (kernelRun0_A.sl.r_37 c i arg4 harg4 arg5 harg5 arg6 harg6 arg7 harg7 arg8 harg8 arg9 harg9 arg10 harg10 arg11 harg11 arg12 harg12 arg13 harg13 x0 x1 x2 x3 x4 x5 x6 x7 x8 x9 xt1) shapeCasts_S480x384_S1x480x384 := by
  unfold out0_A_11
  rw [View.read_writes_eq_canon _ _ _ (cover0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces11]
  exact View.canon_unit_zero zero3 _ _

/-- The two frames of the new cache's tile, as the body forms them. -/
theorem pieces10 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).1
    = [⟨Rect.unit (s := S1x2x480x384) ![0, 1, 0, 0] S1x1x480x384.size (by decide), shapeCast S1x1x480x384 (bitcastToFloat .fp8e4m3 (shapeCast S480x384
          (View.readAt (Elt F) arg6.view (Rect.unit (s := S1x14400x384) (k0_off5 i) S1x480x384.size (k0_off5_inb i)).toLoadRect (harg6.unread x2)) shapeCasts_S1x480x384_S480x384)) shapeCasts_S480x384_S1x1x480x384⟩,
       ⟨Rect.unit (s := S1x2x480x384) ![0, 0, 0, 0] S1x1x480x384.size (by decide), shapeCast S1x1x480x384 (bitcastToFloat .fp8e4m3 (bitcast S480x384 8 (muli (bitcast S120x384 32 (shapeCast S480x384
          (View.readAt (Elt F) arg5.view (Rect.unit (s := S1x1x14400x384) (k0_off4 i) S1x1x480x384.size (k0_off4_inb i)).toLoadRect (harg5.unread x1)) shapeCasts_S1x1x480x384_S480x384) bitcasts_S480x384_w8_S120x384_w32)
          (broadcast S120x384 (Scalar.extui (keepBit c i xt1)))) bitcasts_S120x384_w32_S480x384_w8)) shapeCasts_S480x384_S1x1x480x384⟩] := by
  unfold kernelRun0_A; dsimp only; rfl
end

/-! ## The same at an index -/

theorem poolRow_apply (a : Memref sig .tc .vmem S1x1x14400x384 .i8) (ha : a.IsWhole) (x : Vec F S1x1x14400x384 .i8) (i : grid0.Coords)
    (d k : Fin 3) (q : Fin 160) (l : Fin 384) :
    poolRow a ha x i d k (ix2 q l) = pix (fun p l => x (ix4 0 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold poolRow
  rw [View.readAt_eq_ld, ha.read_unread]
  refine (shapeCast_11ab_ab _ _ q l).trans ?_
  exact View.ld_unit_apply_of x _ _ _ (ix4 0 0 q l) (ix4 0 0 ⟨_, h1⟩ l) (by
      intro a
      match a with
      | ⟨0, _⟩ => rfl
      | ⟨1, _⟩ => rfl
      | ⟨2, _⟩ => rfl
      | ⟨3, _⟩ => exact (Nat.zero_add _).symm)

theorem ownRow_apply (a : Memref sig .tc .vmem S1x14400x384 .i8) (ha : a.IsWhole) (x : Vec F S1x14400x384 .i8) (i : grid0.Coords)
    (d k : Fin 3) (q : Fin 160) (l : Fin 384) :
    ownRow a ha x i d k (ix2 q l) = pix (fun p l => x (ix3 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold ownRow
  rw [View.readAt_eq_ld, ha.read_unread]
  refine (shapeCast_1ab_ab_apply _ _ q l).trans ?_
  exact View.ld_unit_apply_of x _ _ _ (ix3 0 q l) (ix3 0 ⟨_, h1⟩ l) (by
      intro a
      match a with
      | ⟨0, _⟩ => rfl
      | ⟨1, _⟩ => rfl
      | ⟨2, _⟩ => exact (Nat.zero_add _).symm)

theorem tapWeights_apply (a : Memref sig .tc .vmem S27x384x384 .fp8e4m3) (ha : a.IsWhole) (x : Vec F S27x384x384 .fp8e4m3) (t d e : Fin 3)
    (k n : Fin 384) : tapWeights a ha x t d e (ix3 0 k n) = x (ix3 ⟨t.val * 9 + d.val * 3 + e.val, by omega⟩ k n) := by
  unfold tapWeights
  rw [View.readAt_eq_ld, ha.read_unread]
  exact View.ld_unit_apply_of x _ _ _ (ix3 0 k n) (ix3 ⟨t.val * 9 + d.val * 3 + e.val, by omega⟩ k n) (by
      intro a
      match a with
      | ⟨0, _⟩ => rfl
      | ⟨1, _⟩ => exact (Nat.zero_add _).symm
      | ⟨2, _⟩ => exact (Nat.zero_add _).symm)

end Cert.ConvMid
-- ==== Proof.ConvMidBlock.lean ====
/-
  The residual convolution's tile at an index, over the reals: the new cache, the codes and the sum that one grid
  point leaves, as functions of the blocks it is given.
-/
module

public import proofs.«01_k».proof.Proof.ConvMidSum

@[expose] public section

set_option maxRecDepth 16384

namespace Cert.ConvMid

open Idealize.ShloMosaic hiding ix1 ix2 ix3 ix4
open Idealize.ShloMosaic.TcCoe Idealize.ShloMosaic.ValueIdx
open Cert.Words Cert.ConvMidIdeal Cert.ConvMidIdeal.Gen

/-- The codes of the three frames' blocks. -/
def blkFrames (x0 x1 : Vec Ideal S1x1x14400x384 .i8) (x2 : Vec Ideal S1x14400x384 .i8) (t : Fin 3) (p : Fin 14400) (l : Fin 384) : BitVec 8 :=
  match t with
  | 0 => x0 (ix4 0 0 p l)
  | 1 => x1 (ix4 0 0 p l)
  | 2 => x2 (ix3 0 p l)

/-- The weights' block by tap. -/
def blkWeights (x3 : Vec Ideal S27x384x384 .fp8e4m3) (t d e : Fin 3) (k n : Fin 384) : EReal :=
  x3 (ix3 ⟨t.val * 9 + d.val * 3 + e.val, by omega⟩ k n)

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x480x384 .bf16) (harg13 : arg13.IsWhole) (arg14 : Memref sig .tc .vmem S1x2x480x384 .fp8e4m3) (harg14 : arg14.IsWhole) (arg15 : Memref sig .tc .vmem S1x480x384 .fp8e4m3) (harg15 : arg15.IsWhole) (arg16 : Memref sig .tc .vmem S1x480x384 .f32) (harg16 : arg16.IsWhole)
    (x0 : Vec Ideal S1x1x14400x384 .i8) (x1 : Vec Ideal S1x1x14400x384 .i8) (x2 : Vec Ideal S1x14400x384 .i8) (x3 : Vec Ideal S27x384x384 .fp8e4m3) (x4 : Vec Ideal S1x384 .f32) (x5 : Vec Ideal S1x384 .f32) (x6 : Vec Ideal S1x384 .f32) (x7 : Vec Ideal S1 .f32) (x8 : Vec Ideal S1 .f32) (x9 : Vec Ideal S1x480x384 .bf16) (xt0 : TbBuf0 (F := Ideal) c tbM0_0) (xt1 : TbBuf0 (F := Ideal) c tbM0_1)

theorem tap_eq (t d e : Fin 3) : tap c i arg4 harg4 arg5 harg5 arg6 harg6 arg7 harg7 x0 x1 x2 x3 xt1 t d e
    = tileTap (bandOf (BitVec.ofNat 32 (i 1).val) (match t with | 0 => keepBit c i xt1 | 1 => keepBit c i xt1 | 2 => 1#1) d
        ((fun t d => match t with | 0 => poolRow arg4 harg4 x0 i d | 1 => poolRow arg5 harg5 x1 i d | 2 => ownRow arg6 harg6 x2 i d : Fin 3 → Fin 3 → Fin 3 → IVec ⟨2, ![160, 384]⟩ 8) t d))
        e (tapWeights arg7 harg7 x3 t d e) := by
  match t with
  | 0 => rfl
  | 1 => rfl
  | 2 => rfl

theorem tapSum_at (r : Fin 480) (n : Fin 384) :
    sum27 addf (tap c i arg4 harg4 arg5 harg5 arg6 harg6 arg7 harg7 x0 x1 x2 x3 xt1) (ix2 r n)
      = convSum (frames (keepBit c i xt1) (blkFrames x0 x1 x2)) (blkWeights x3) (3 * (i 1).val + r.val / 160) (r.val % 160) n := by
  rw [show tap c i arg4 harg4 arg5 harg5 arg6 harg6 arg7 harg7 x0 x1 x2 x3 xt1 = _ from
    funext fun t => funext fun d => funext fun e => tap_eq c i arg4 harg4 arg5 harg5 arg6 harg6 arg7 harg7 x0 x1 x2 x3 xt1 t d e]
  refine (tileSum_apply (i 1) (fun t => match t with | 0 => keepBit c i xt1 | 1 => keepBit c i xt1 | 2 => 1#1)
    (fun t d => match t with | 0 => poolRow arg4 harg4 x0 i d | 1 => poolRow arg5 harg5 x1 i d | 2 => ownRow arg6 harg6 x2 i d)
    (fun t => pix (blkFrames x0 x1 x2 t)) ?_ (tapWeights arg7 harg7 x3) r n).trans ?_
  · intro t d k q l
    match t with
    | 0 => exact poolRow_apply arg4 harg4 x0 i d k q l
    | 1 => exact poolRow_apply arg5 harg5 x1 i d k q l
    | 2 => exact ownRow_apply arg6 harg6 x2 i d k q l
  · have hw : (fun t d e k n => tapWeights arg7 harg7 x3 t d e (ix3 0 k n)) = blkWeights x3 :=
      funext fun t => funext fun d => funext fun e => funext fun k => funext fun n => tapWeights_apply arg7 harg7 x3 t d e k n
    rw [hw]; rfl

theorem row_at (a : Memref sig .tc .vmem S1x384 .f32) (ha : a.IsWhole) (x : Vec Ideal S1x384 .f32) :
    shapeCast S1x384 (View.readAt (Elt Ideal) a.view (Rect.unit (s := S1x384) ![0, 0] S1x384.size inb_S1x384_S1x384_0_0).toLoadRect (ha.unread x)) shapeCasts_S1x384_S1x384 = x := by
  rw [View.readAt_eq_ld, ha.read_unread, View.ld_unit_zero zero2]
  exact shapeCast_self _ _

theorem scale_at : kernelRun0_A.sl.r_32 c arg11 harg11 x7 = x7 (ix1 0) := by
  unfold kernelRun0_A.sl.r_32
  rw [View.readAt_eq_ld, harg11.read_unread]
  exact View.ld_unit_apply_of x7 _ _ _ _ (ix1 0) (by
    intro a
    match a with
    | ⟨0, _⟩ => rfl)

theorem next_at : kernelRun0_A.sl.r_36 c arg12 harg12 x8 = x8 (ix1 0) := by
  unfold kernelRun0_A.sl.r_36
  rw [View.readAt_eq_ld, harg12.read_unread]
  exact View.ld_unit_apply_of x8 _ _ _ _ (ix1 0) (by
    intro a
    match a with
    | ⟨0, _⟩ => rfl)

/-- The sum of the residual and the convolution at row `r` and channel `n` of a tile. -/
theorem sum_at (r : Fin 480) (n : Fin 384) :
    kernelRun0_A.sl.r_34 c i arg4 harg4 arg5 harg5 arg6 harg6 arg7 harg7 arg8 harg8 arg9 harg9 arg11 harg11 arg13 harg13 x0 x1 x2 x3 x4 x5 x7 x9 xt1 (ix2 r n)
      = x9 (ix3 0 r n) + (convSum (frames (keepBit c i xt1) (blkFrames x0 x1 x2)) (blkWeights x3) (3 * (i 1).val + r.val / 160) (r.val % 160) n
          * (x7 (ix1 0) * x4 (ix2 0 n)) + x5 (ix2 0 n)) := by
  rw [h_eq]
  rw [View.readAt_eq_ld, harg13.read_unread, View.ld_unit_zero zero3, row_at arg8 harg8 x4, row_at arg9 harg9 x5]
  show FloatOps.addf (F := Ideal) (φ := .f32) (shapeCast ⟨2, ![480, 384]⟩ x9 _ (ix2 r n)) (scaled _ _ _ _ (ix2 r n)) = _
  rw [shapeCast_1ab_ab_apply, scaled_apply, tapSum_at]
  show _ + (_ * (kernelRun0_A.sl.r_32 c arg11 harg11 x7 * x4 (ix2 0 n)) + _) = _
  rw [scale_at]

/-- What the tile leaves in the third output. -/
theorem out12_at (r : Fin 480) (n : Fin 384) :
    out0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix3 0 r n)
      = x9 (ix3 0 r n) + (convSum (frames (keepBit c i xt1) (blkFrames x0 x1 x2)) (blkWeights x3) (3 * (i 1).val + r.val / 160) (r.val % 160) n
          * (x7 (ix1 0) * x4 (ix2 0 n)) + x5 (ix2 0 n)) := by
  rw [out12_eq]
  exact (shapeCast_ab_1ab_apply _ _ 0 r n).trans (sum_at c i arg4 harg4 arg5 harg5 arg6 harg6 arg7 harg7 arg8 harg8 arg9 harg9 arg11 harg11 arg13 harg13 x0 x1 x2 x3 x4 x5 x7 x9 xt1 r n)

/-- What the tile leaves in the second output. -/
theorem out11_at (r : Fin 480) (n : Fin 384) :
    out0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix3 0 r n)
      = quantAt (normAt (fun n => x9 (ix3 0 r n) + (convSum (frames (keepBit c i xt1) (blkFrames x0 x1 x2)) (blkWeights x3) (3 * (i 1).val + r.val / 160) (r.val % 160) n
          * (x7 (ix1 0) * x4 (ix2 0 n)) + x5 (ix2 0 n))) (fun n => x6 (ix2 0 n)) n) (x8 (ix1 0)) := by
  rw [out11_eq]
  refine (shapeCast_ab_1ab_apply _ _ 0 r n).trans ?_
  rw [code_eq, row_at arg10 harg10 x6, quantised_apply, normed_apply]
  show quantAt _ (kernelRun0_A.sl.r_36 c arg12 harg12 x8) = _
  rw [next_at]
  refine congrArg (fun h => quantAt (normAt h (fun k => x6 (ix2 0 k)) n) (x8 (ix1 0))) (funext fun k => ?_)
  exact sum_at c i arg4 harg4 arg5 harg5 arg6 harg6 arg7 harg7 arg8 harg8 arg9 harg9 arg11 harg11 arg13 harg13 x0 x1 x2 x3 x4 x5 x7 x9 xt1 r k

theorem k0_off4_eq : k0_off4 i = ![0, 0, 480 * (i 1).val, 0] := by
  have h : ∀ j : Fin 30, (Scalar.indexCast (Scalar.muli (BitVec.ofNat 32 j.val) 480#32)).toNat = 480 * j.val := by decide
  show ![0, 0, (Scalar.indexCast (Scalar.muli (BitVec.ofNat 32 (i 1).val) 480#32)).toNat, 0] = _
  rw [h (i 1)]

theorem k0_off5_eq : k0_off5 i = ![0, 480 * (i 1).val, 0] := by
  have h : ∀ j : Fin 30, (Scalar.indexCast (Scalar.muli (BitVec.ofNat 32 j.val) 480#32)).toNat = 480 * j.val := by decide
  show ![0, (Scalar.indexCast (Scalar.muli (BitVec.ofNat 32 (i 1).val) 480#32)).toNat, 0] = _
  rw [h (i 1)]

theorem tile_row (j : Fin 30) (r : Fin 480) : 480 * j.val + r.val < 14400 := by omega

/-- What the tile leaves in the new cache: the two latest frames' codes. -/
theorem out10_at (f : Fin 2) (r : Fin 480) (n : Fin 384) :
    out0_A_10 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix4 0 f r n)
      = decode (frames (keepBit c i xt1) (blkFrames x0 x1 x2) ⟨f.val + 1, by omega⟩ (480 * (i 1).val + r.val) n) := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces10]
  match f with
  | 1 =>
    refine (canon_frame1 _ _ _ r n).trans ?_
    refine (shapeCast_ab_11ab _ _ 0 0 r n).trans ?_
    show decode _ = decode _
    congr 1
    rw [View.readAt_eq_ld, harg6.read_unread]
    refine (shapeCast_1ab_ab_apply _ _ r n).trans ?_
    refine (View.ld_unit_apply_of x2 _ _ _ (ix3 0 r n) (ix3 0 ⟨480 * (i 1).val + r.val, tile_row (i 1) r⟩ n) ?_).trans ?_
    · intro a
      rw [show k0_off5 i a = _ from congrFun (k0_off5_eq i) a]
      match a with
      | ⟨0, _⟩ => rfl
      | ⟨1, _⟩ => rfl
      | ⟨2, _⟩ => exact (Nat.zero_add _).symm
    · exact (pix_val (blkFrames x0 x1 x2 2) ⟨480 * (i 1).val + r.val, tile_row (i 1) r⟩ n).symm
  | 0 =>
    refine (canon_frame0 _ _ _ _ _ r n).trans ?_
    refine (shapeCast_ab_11ab _ _ 0 0 r n).trans ?_
    show decode _ = decode _
    congr 1
    refine (keptRows_apply (keepBit c i xt1) _ _ _ (by norm_num) r n).trans ?_
    show _ = if keepBit c i xt1 = 1#1 then pix (blkFrames x0 x1 x2 1) (480 * (i 1).val + r.val) n else 0#8
    refine if_congr Iff.rfl ?_ rfl
    rw [View.readAt_eq_ld, harg5.read_unread]
    refine (shapeCast_11ab_ab _ _ r n).trans ?_
    refine (View.ld_unit_apply_of x1 _ _ _ (ix4 0 0 r n) (ix4 0 0 ⟨480 * (i 1).val + r.val, tile_row (i 1) r⟩ n) ?_).trans ?_
    · intro a
      rw [show k0_off4 i a = _ from congrFun (k0_off4_eq i) a]
      match a with
      | ⟨0, _⟩ => rfl
      | ⟨1, _⟩ => rfl
      | ⟨2, _⟩ => rfl
      | ⟨3, _⟩ => exact (Nat.zero_add _).symm
    · exact (pix_val (blkFrames x0 x1 x2 1) ⟨480 * (i 1).val + r.val, tile_row (i 1) r⟩ n).symm

end
end Cert.ConvMid
-- ==== Proof.ConvMidArray.lean ====
/-
  The residual convolution's arrays: each input block at a grid point as elements of the arguments, and what the
  three output arrays hold after the last point.
-/
module

public import proofs.«01_k».proof.Proof.ConvMidBlock
public import proofs.«01_k».proof.Proof.ConvSpec
public import Idealize.ShloMosaic.Lib.Pipeline.ValueKit

@[expose] public section

set_option maxRecDepth 16384

namespace Cert.ConvMid

open Idealize.ShloMosaic hiding ix0 ix1 ix2 ix3 ix4 ix5
open Idealize.ShloMosaic.TcCoe Idealize.ShloMosaic.ValueIdx
open Cert.Words Cert.ConvMidIdeal Cert.ConvMidIdeal.Gen

variable (m : (ℓ : Loc nD τ sig) → Buf (Elt Ideal) ℓ) (hO : Ok m) (c : Dev nD)

/-- The grid point's batch entry. -/
def entry (t : Fin (cfgM m hO).N) : Fin 4 := grid0.coords t 0
/-- The grid point's tile of three image rows. -/
def tile (t : Fin (cfgM m hO).N) : Fin 30 := grid0.coords t 1

theorem at_zero {x n y : Nat} (h : x = 0) : x * n + y = y := by rw [h, Nat.zero_mul, Nat.zero_add]
theorem at_block {x n y b r : Nat} (h : x = b) (hy : y = r) : x * n + y = b * n + r := by rw [h, hy]
theorem at_row {x b : Nat} (h : x = b) : x * 1 + 0 = b := by rw [h, Nat.mul_one, Nat.add_zero]
theorem word4 : ∀ b : Fin 4, (BitVec.ofNat 32 b.val).toNat = b.val := by decide
theorem word30 : ∀ j : Fin 30, (BitVec.ofNat 32 j.val).toNat = j.val := by decide

theorem V_v0 : V m c main_v0 = shapeCast S6x2x14400x384 (m ((c : Thread nD τ).loc main_arg2)) shapeCasts_S6x2x90x160x384_S6x2x14400x384 := by
  entry_read; rfl
theorem V_v1 : V m c main_v1 = shapeCast S4x14400x384 (m ((c : Thread nD τ).loc main_arg3)) shapeCasts_S4x1x90x160x384_S4x14400x384 := by
  entry_read; rfl
theorem V_v2 : V m c main_v2 = shapeCast S27x384x384 (m ((c : Thread nD τ).loc main_arg4)) shapeCasts_S3x3x3x384x384_S27x384x384 := by
  entry_read; rfl
theorem V_v3 : V m c main_v3 = shapeCast S1x384 (m ((c : Thread nD τ).loc main_arg5)) shapeCasts_S384_S1x384 := by
  entry_read; rfl
theorem V_v4 : V m c main_v4 = shapeCast S1x384 (m ((c : Thread nD τ).loc main_arg6)) shapeCasts_S384_S1x384 := by
  entry_read; rfl
theorem V_v5 : V m c main_v5 = shapeCast S1 (m ((c : Thread nD τ).loc main_arg7)) shapeCasts_S_S1 := by
  entry_read; rfl
theorem V_v6 : V m c main_v6 = shapeCast S1x384 (m ((c : Thread nD τ).loc main_arg8)) shapeCasts_S384_S1x384 := by
  entry_read; rfl
theorem V_v7 : V m c main_v7 = shapeCast S1 (m ((c : Thread nD τ).loc main_arg9)) shapeCasts_S_S1 := by
  entry_read; rfl
theorem V_v8 : V m c main_v8 = shapeCast S4x14400x384 (m ((c : Thread nD τ).loc main_arg10)) shapeCasts_S4x1x90x160x384_S4x14400x384 := by
  entry_read; rfl

theorem tbl_first (c : Dev nD) : tbl m 1 = m ((c : Thread nD τ).loc main_arg1) := by
  obtain rfl : c = 0 := Subsingleton.elim _ _
  exact V_main_arg1 m 0
theorem tbl_slot (c : Dev nD) : tbl m 0 = m ((c : Thread nD τ).loc main_arg0) := by
  obtain rfl : c = 0 := Subsingleton.elim _ _
  exact V_main_arg0 m 0

/-- The table's word a grid point reads is its batch entry's. -/
theorem word_at (i : grid0.Coords) (x : S4.Idx → BitVec 32) :
    x ((Rect.unit (s := S4) (k0_off1 i) S1.size (Gen.facts.k0_off1_inb i)).emb (Shape.Idx.first (Gen.facts.numel1_S1.symm ▸ Nat.one_pos))) = x (ix1 (i 0)) := by
  refine congrArg x (funext fun a => Fin.ext ?_)
  have h : ∀ j : Fin 4, (Scalar.indexCast (BitVec.ofNat 32 j.val)).toNat = j.val := by decide
  match a with
  | ⟨0, _⟩ =>
    rw [ValueKit.rect_emb_unit_val]
    exact (congrArg (fun x => x + 0) (h (i 0))).trans (Nat.add_zero _)

theorem slot_lt (t : Fin (cfgM m hO).N) : ((tbl m 0 : IVec ⟨1, ![4]⟩ 32) (ix1 (entry m hO t))).toNat < 6 := by
  obtain ⟨h, _⟩ := hO.1 (grid0.coords t)
  have e : (cc0_transform_0 Gen.facts.k0_off1_inb Gen.facts.numel1_S1 (tbl m) (grid0.coords t) 0 + 1) * 1 ≤ 6 := h 0
  rw [Nat.mul_one] at e
  exact lt_of_eq_of_lt (congrArg BitVec.toNat (word_at (grid0.coords t) (tbl m 0))).symm e

theorem slot_word (t : Fin (cfgM m hO).N) :
    cc0_transform_0 Gen.facts.k0_off1_inb Gen.facts.numel1_S1 (tbl m) (grid0.coords t) 0 = (slotOf (m ((c : Thread nD τ).loc main_arg0)) (entry m hO t)).val := by
  have h := slot_lt m hO t
  rw [tbl_slot m c] at h
  refine (congrArg BitVec.toNat (word_at (grid0.coords t) (tbl m 0))).trans ?_
  rw [tbl_slot m c]
  exact (Nat.min_eq_left (by exact Nat.le_of_lt_succ h)).symm

theorem iblk2_apply (t : Fin (cfgM m hO).N) (p : Fin 14400) (l : Fin 384) :
    iblk m hO c 2 t (ix3 0 p l) = V m c main_v1 (ix3 (entry m hO t) p l) := by
  refine congrArg (V m c main_v1) (funext fun a => Fin.ext ?_)
  refine (Pipeline.Window.rect_emb_val ((cfgM m hO).win 2) t (ix3 0 p l) a).trans ?_
  match a with
  | ⟨0, _⟩ => exact at_row (word4 (grid0.coords t 0))
  | ⟨1, _⟩ => exact at_zero rfl
  | ⟨2, _⟩ => exact at_zero rfl

theorem iblk0_apply (t : Fin (cfgM m hO).N) (p : Fin 14400) (l : Fin 384) :
    iblk m hO c 0 t (ix4 0 0 p l) = V m c main_v0 (ix4 (slotOf (m ((c : Thread nD τ).loc main_arg0)) (entry m hO t)) 0 p l) := by
  refine congrArg (V m c main_v0) (funext fun a => Fin.ext ?_)
  refine (Pipeline.Window.rect_emb_val ((cfgM m hO).win 0) t (ix4 0 0 p l) a).trans ?_
  match a with
  | ⟨0, _⟩ => exact at_row (slot_word m hO c t)
  | ⟨1, _⟩ => exact at_zero rfl
  | ⟨2, _⟩ => exact at_zero rfl
  | ⟨3, _⟩ => exact at_zero rfl

theorem iblk1_apply (t : Fin (cfgM m hO).N) (p : Fin 14400) (l : Fin 384) :
    iblk m hO c 1 t (ix4 0 0 p l) = V m c main_v0 (ix4 (slotOf (m ((c : Thread nD τ).loc main_arg0)) (entry m hO t)) 1 p l) := by
  refine congrArg (V m c main_v0) (funext fun a => Fin.ext ?_)
  refine (Pipeline.Window.rect_emb_val ((cfgM m hO).win 1) t (ix4 0 0 p l) a).trans ?_
  match a with
  | ⟨0, _⟩ => exact at_row (slot_word m hO c t)
  | ⟨1, _⟩ => exact rfl
  | ⟨2, _⟩ => exact at_zero rfl
  | ⟨3, _⟩ => exact at_zero rfl

theorem iblk3_apply (t : Fin (cfgM m hO).N) (d : Fin 27) (k n : Fin 384) :
    iblk m hO c 3 t (ix3 d k n) = V m c main_v2 (ix3 d k n) := by
  refine congrArg (V m c main_v2) (funext fun a => Fin.ext ?_)
  refine (Pipeline.Window.rect_emb_val ((cfgM m hO).win 3) t (ix3 d k n) a).trans ?_
  match a with
  | ⟨0, _⟩ => exact at_zero rfl
  | ⟨1, _⟩ => exact at_zero rfl
  | ⟨2, _⟩ => exact at_zero rfl

theorem iblk4_apply (t : Fin (cfgM m hO).N) (n : Fin 384) :
    iblk m hO c 4 t (ix2 0 n) = V m c main_v3 (ix2 0 n) := by
  refine congrArg (V m c main_v3) (funext fun a => Fin.ext ?_)
  refine (Pipeline.Window.rect_emb_val ((cfgM m hO).win 4) t (ix2 0 n) a).trans ?_
  match a with
  | ⟨0, _⟩ => exact at_zero rfl
  | ⟨1, _⟩ => exact at_zero rfl

theorem iblk5_apply (t : Fin (cfgM m hO).N) (n : Fin 384) :
    iblk m hO c 5 t (ix2 0 n) = V m c main_v4 (ix2 0 n) := by
  refine congrArg (V m c main_v4) (funext fun a => Fin.ext ?_)
  refine (Pipeline.Window.rect_emb_val ((cfgM m hO).win 5) t (ix2 0 n) a).trans ?_
  match a with
  | ⟨0, _⟩ => exact at_zero rfl
  | ⟨1, _⟩ => exact at_zero rfl

theorem iblk6_apply (t : Fin (cfgM m hO).N) (n : Fin 384) :
    iblk m hO c 6 t (ix2 0 n) = V m c main_v6 (ix2 0 n) := by
  refine congrArg (V m c main_v6) (funext fun a => Fin.ext ?_)
  refine (Pipeline.Window.rect_emb_val ((cfgM m hO).win 6) t (ix2 0 n) a).trans ?_
  match a with
  | ⟨0, _⟩ => exact at_zero rfl
  | ⟨1, _⟩ => exact at_zero rfl

theorem iblk7_apply (t : Fin (cfgM m hO).N) :
    iblk m hO c 7 t (ix1 0) = V m c main_v5 (ix1 0) := by
  refine congrArg (V m c main_v5) (funext fun a => Fin.ext ?_)
  refine (Pipeline.Window.rect_emb_val ((cfgM m hO).win 7) t (ix1 0) a).trans ?_
  match a with
  | ⟨0, _⟩ => exact at_zero rfl

theorem iblk8_apply (t : Fin (cfgM m hO).N) :
    iblk m hO c 8 t (ix1 0) = V m c main_v7 (ix1 0) := by
  refine congrArg (V m c main_v7) (funext fun a => Fin.ext ?_)
  refine (Pipeline.Window.rect_emb_val ((cfgM m hO).win 8) t (ix1 0) a).trans ?_
  match a with
  | ⟨0, _⟩ => exact at_zero rfl

theorem tile_row' (j : Fin 30) (r : Fin 480) : j.val * 480 + r.val < 14400 := by omega

theorem iblk9_apply (t : Fin (cfgM m hO).N) (r : Fin 480) (n : Fin 384) :
    iblk m hO c 9 t (ix3 0 r n) = V m c main_v8 (ix3 (entry m hO t) ⟨(tile m hO t).val * 480 + r.val, tile_row' _ r⟩ n) := by
  refine congrArg (V m c main_v8) (funext fun a => Fin.ext ?_)
  refine (Pipeline.Window.rect_emb_val ((cfgM m hO).win 9) t (ix3 0 r n) a).trans ?_
  match a with
  | ⟨0, _⟩ => exact at_row (word4 (grid0.coords t 0))
  | ⟨1, _⟩ => exact at_block (word30 (grid0.coords t 1)) rfl
  | ⟨2, _⟩ => exact at_zero rfl

/-! The arguments, by what they are. -/

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)
abbrev residualA : Vec Ideal ⟨5, ![4, 1, 90, 160, 384]⟩ .bf16 := m ((c : Thread nD τ).loc main_arg10)

theorem keepBit_at (t : Fin (cfgM m hO).N) : keepBit (F := Ideal) c (grid0.coords t) (tbl m 1) = keptBit (firstA m c) (entry m hO t) := by
  refine (congrArg (fun x : BitVec 32 => IntOp.cmpi .ne x 1#32) ((word_at (grid0.coords t) (tbl m 1)).trans ?_))
  exact congrFun (tbl_first m c) (ix1 (entry m hO t))

theorem blkFrames_at (t : Fin (cfgM m hO).N) :
    blkFrames (iblk m hO c 0 t) (iblk m hO c 1 t) (iblk m hO c 2 t) = stageCodes (slotA m c) (poolA m c) (codesA m c) (entry m hO t) := by
  funext f p l
  match f with
  | 0 => exact (iblk0_apply m hO c t p l).trans ((congrFun (V_v0 m c) _).trans (cast_pool _ _ _ _ p l))
  | 1 => exact (iblk1_apply m hO c t p l).trans ((congrFun (V_v0 m c) _).trans (cast_pool _ _ _ _ p l))
  | 2 => exact (iblk2_apply m hO c t p l).trans ((congrFun (V_v1 m c) _).trans (cast_image _ _ _ p l))

theorem blkWeights_at (t : Fin (cfgM m hO).N) :
    blkWeights (iblk m hO c 3 t) = fun a d e k n => weightsA m c (ix5 a d e k n) := by
  funext a d e k n
  exact (iblk3_apply m hO c t _ k n).trans ((congrFun (V_v2 m c) _).trans (cast_taps _ _ a d e k n))

theorem frames_at (t : Fin (cfgM m hO).N) :
    frames (keepBit (F := Ideal) c (grid0.coords t) (tbl m 1)) (blkFrames (iblk m hO c 0 t) (iblk m hO c 1 t) (iblk m hO c 2 t))
      = stageFrames (slotA m c) (firstA m c) (poolA m c) (codesA m c) (entry m hO t) := by
  rw [keepBit_at, blkFrames_at]; rfl

/-- The pixel a tile's row is. -/
def pixel (t : Fin (cfgM m hO).N) (r : Fin 480) : Fin 14400 := ⟨(tile m hO t).val * 480 + r.val, tile_row' _ r⟩

noncomputable abbrev wsB (t : Fin (cfgM m hO).N) : Vec Ideal S1x384 .f32 := iblk m hO c 4 t
noncomputable abbrev biasB (t : Fin (cfgM m hO).N) : Vec Ideal S1x384 .f32 := iblk m hO c 5 t
noncomputable abbrev gammaB (t : Fin (cfgM m hO).N) : Vec Ideal S1x384 .f32 := iblk m hO c 6 t
noncomputable abbrev scaleB (t : Fin (cfgM m hO).N) : Vec Ideal S1 .f32 := iblk m hO c 7 t
noncomputable abbrev nextB (t : Fin (cfgM m hO).N) : Vec Ideal S1 .f32 := iblk m hO c 8 t
noncomputable abbrev residualB (t : Fin (cfgM m hO).N) : Vec Ideal S1x480x384 .bf16 := iblk m hO c 9 t

theorem residual_at (t : Fin (cfgM m hO).N) (r : Fin 480) (n : Fin 384) :
    residualB m hO c t (ix3 0 r n) + (convSum (frames (keepBit (F := Ideal) c (grid0.coords t) (tbl m 1)) (blkFrames (iblk m hO c 0 t) (iblk m hO c 1 t) (iblk m hO c 2 t)))
        (blkWeights (iblk m hO c 3 t)) (3 * (grid0.coords t 1).val + r.val / 160) (r.val % 160) n
        * (scaleB m hO c t (ix1 0) * wsB m hO c t (ix2 0 n)) + biasB m hO c t (ix2 0 n))
      = residualSum (slotA m c) (firstA m c) (poolA m c) (codesA m c) (weightsA m c) (wsA m c) (biasA m c) (scaleA m c) (residualA m c)
          (entry m hO t) (pixel m hO t r) n := by
  unfold residualSum stageConv
  rw [frames_at, blkWeights_at]
  have e1 : (pixel m hO t r).val / 160 = 3 * (grid0.coords t 1).val + r.val / 160 := by
    show ((grid0.coords t 1).val * 480 + r.val) / 160 = _; omega
  have e2 : (pixel m hO t r).val % 160 = r.val % 160 := by
    show ((grid0.coords t 1).val * 480 + r.val) % 160 = _; omega
  have e9 : residualB m hO c t (ix3 0 r n) = residualA m c (ix5 (entry m hO t) 0 ⟨(pixel m hO t r).val / 160, by omega⟩ ⟨(pixel m hO t r).val % 160, by omega⟩ n) :=
    (iblk9_apply m hO c t r n).trans ((congrFun (V_v8 m c) _).trans (cast_image _ _ _ (pixel m hO t r) n))
  have e7 : scaleB m hO c t (ix1 0) = scaleA m c ix0 := (iblk7_apply m hO c t).trans ((congrFun (V_v5 m c) _).trans (cast_scalar _ _))
  have e4 : wsB m hO c t (ix2 0 n) = wsA m c (ix1 n) := (iblk4_apply m hO c t n).trans ((congrFun (V_v3 m c) _).trans (cast_row _ _ n))
  have e5 : biasB m hO c t (ix2 0 n) = biasA m c (ix1 n) := (iblk5_apply m hO c t n).trans ((congrFun (V_v4 m c) _).trans (cast_row _ _ n))
  rw [e9, e7, e4, e5, ← e1, ← e2]

/-! What the arrays hold at the end. -/

theorem outs10 (t : Fin (cfgM m hO).N) : (outsAt0 m hO c t).1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem outs11 (t : Fin (cfgM m hO).N) : (outsAt0 m hO c t).2.1 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem outs12 (t : Fin (cfgM m hO).N) : (outsAt0 m hO c t).2.2 = out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem after12_at (t : Fin (cfgM m hO).N) (r : Fin 480) (n : Fin 384) :
    (outsAt0 m hO c t).2.2 (ix3 0 r n) = residualSum (slotA m c) (firstA m c) (poolA m c) (codesA m c) (weightsA m c) (wsA m c) (biasA m c) (scaleA m c) (residualA m c)
          (entry m hO t) (pixel m hO t r) n := by
  refine (congrFun (outs12 m hO c t) (ix3 0 r n)).trans ?_
  have h := out12_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) r n
  exact h.trans (residual_at m hO c t r n)

theorem after11_at (t : Fin (cfgM m hO).N) (r : Fin 480) (n : Fin 384) :
    (outsAt0 m hO c t).2.1 (ix3 0 r n) = normCode (residualSum (slotA m c) (firstA m c) (poolA m c) (codesA m c) (weightsA m c) (wsA m c) (biasA m c) (scaleA m c) (residualA m c)
          (entry m hO t) (pixel m hO t r)) (gammaA m c) (nextA m c) n := by
  refine (congrFun (outs11 m hO c t) (ix3 0 r n)).trans ?_
  have h := out11_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) r n
  refine h.trans ?_
  have e6 : (fun n => gammaB m hO c t (ix2 0 n)) = fun k => gammaA m c (ix1 k) :=
    funext fun n => (iblk6_apply m hO c t n).trans ((congrFun (V_v6 m c) _).trans (cast_row _ _ n))
  have e8 : nextB m hO c t (ix1 0) = nextA m c ix0 := (iblk8_apply m hO c t).trans ((congrFun (V_v7 m c) _).trans (cast_scalar _ _))
  unfold normCode
  rw [← e6, ← e8]
  exact congrArg (fun h => quantAt (normAt h (fun k => gammaB m hO c t (ix2 0 k)) n) (nextB m hO c t (ix1 0))) (funext fun k => residual_at m hO c t r k)

theorem after10_at (t : Fin (cfgM m hO).N) (f : Fin 2) (r : Fin 480) (n : Fin 384) :
    (outsAt0 m hO c t).1 (ix4 0 f r n) = cacheAt (slotA m c) (firstA m c) (poolA m c) (codesA m c) (entry m hO t) f (pixel m hO t r) n := by
  refine (congrFun (outs10 m hO c t) (ix4 0 f r n)).trans ?_
  have h := out10_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) f r n
  refine h.trans ?_
  unfold cacheAt
  rw [frames_at]
  refine congrArg (fun q => decode (stageFrames (slotA m c) (firstA m c) (poolA m c) (codesA m c) (entry m hO t) ⟨f.val + 1, by omega⟩ q n)) ?_
  show 480 * (grid0.coords t 1).val + r.val = (grid0.coords t 1).val * 480 + r.val
  omega

/-- The grid point of a batch entry and a tile. -/
def point (b : Fin 4) (p : Fin 14400) : Fin (cfgM m hO).N := ⟨b.val * 30 + p.val / 480, by show _ < grid0.N; rw [N_0]; omega⟩

theorem coords_val : ∀ t : Fin grid0.N, (grid0.coords t 0).val = t.val / 30 ∧ (grid0.coords t 1).val = t.val % 30 := by
  decide +kernel

theorem coords_at (b : Fin 4) (j : Fin 30) (h : b.val * 30 + j.val < grid0.N) :
    grid0.coords ⟨b.val * 30 + j.val, h⟩ 0 = b ∧ grid0.coords ⟨b.val * 30 + j.val, h⟩ 1 = j := by
  obtain ⟨e0, e1⟩ := coords_val ⟨b.val * 30 + j.val, h⟩
  refine ⟨Fin.ext (e0.trans ?_), Fin.ext (e1.trans ?_)⟩
  · show (b.val * 30 + j.val) / 30 = b.val; omega
  · show (b.val * 30 + j.val) % 30 = j.val; omega

theorem entry_point (b : Fin 4) (p : Fin 14400) : entry m hO (point m hO b p) = b :=
  (coords_at b ⟨p.val / 480, by omega⟩ _).1
theorem pixel_point (b : Fin 4) (p : Fin 14400) : pixel m hO (point m hO b p) ⟨p.val % 480, by omega⟩ = p := by
  refine Fin.ext ?_
  have h : tile m hO (point m hO b p) = ⟨p.val / 480, by omega⟩ := (coords_at b ⟨p.val / 480, by omega⟩ _).2
  show (tile m hO (point m hO b p)).val * 480 + p.val % 480 = p.val
  rw [h]
  show p.val / 480 * 480 + p.val % 480 = p.val
  omega

theorem emb12 (t : Fin (cfgM m hO).N) (r : Fin 480) (n : Fin 384) :
    (((cfgM m hO).win 12).blk t).view.emb (ix3 0 r n) = ix3 (entry m hO t) (pixel m hO t r) n := by
  refine funext fun a => Fin.ext ?_
  refine (Pipeline.Window.rect_emb_val ((cfgM m hO).win 12) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem emb11 (t : Fin (cfgM m hO).N) (r : Fin 480) (n : Fin 384) :
    (((cfgM m hO).win 11).blk t).view.emb (ix3 0 r n) = ix3 (entry m hO t) (pixel m hO t r) n := by
  refine funext fun a => Fin.ext ?_
  refine (Pipeline.Window.rect_emb_val ((cfgM m hO).win 11) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem emb10 (t : Fin (cfgM m hO).N) (f : Fin 2) (r : Fin 480) (n : Fin 384) :
    (((cfgM m hO).win 10).blk t).view.emb (ix4 0 f r n) = ix4 (entry m hO t) f (pixel m hO t r) n := by
  refine funext fun a => Fin.ext ?_
  refine (Pipeline.Window.rect_emb_val ((cfgM m hO).win 10) t (ix4 0 f r n) a).trans ?_
  match a with
  | ⟨0, _⟩ => exact at_row (word4 (grid0.coords t 0))
  | ⟨1, _⟩ => exact at_zero rfl
  | ⟨2, _⟩ => exact at_block (word30 (grid0.coords t 1)) rfl
  | ⟨3, _⟩ => exact at_zero rfl

/-- An index of a block of one leading row, by its coordinates. -/
theorem idx3_cases (y : S1x480x384.Idx) : ∃ (r : Fin 480) (n : Fin 384), y = ix3 0 r n :=
  ⟨y 1, y 2, funext fun a => match a with
    | ⟨0, _⟩ => Subsingleton.elim (α := Fin 1) _ _
    | ⟨1, _⟩ => rfl
    | ⟨2, _⟩ => rfl⟩
theorem idx4_cases (y : S1x2x480x384.Idx) : ∃ (f : Fin 2) (r : Fin 480) (n : Fin 384), y = ix4 0 f r n :=
  ⟨y 1, y 2, y 3, funext fun a => match a with
    | ⟨0, _⟩ => Subsingleton.elim (α := Fin 1) _ _
    | ⟨1, _⟩ => rfl
    | ⟨2, _⟩ => rfl
    | ⟨3, _⟩ => rfl⟩
theorem idx3_eq (y : S4x14400x384.Idx) : y = ix3 (y 0) (y 1) (y 2) :=
  funext fun a => match a with
    | ⟨0, _⟩ => rfl
    | ⟨1, _⟩ => rfl
    | ⟨2, _⟩ => rfl
theorem idx4_eq (y : S4x2x14400x384.Idx) : y = ix4 (y 0) (y 1) (y 2) (y 3) :=
  funext fun a => match a with
    | ⟨0, _⟩ => rfl
    | ⟨1, _⟩ => rfl
    | ⟨2, _⟩ => rfl
    | ⟨3, _⟩ => rfl

/-- The third output array at the end. -/
noncomputable def sumArr (y : S4x14400x384.Idx) : EReal :=
  residualSum (slotA m c) (firstA m c) (poolA m c) (codesA m c) (weightsA m c) (wsA m c) (biasA m c) (scaleA m c) (residualA m c) (y 0) (y 1) (y 2)
/-- The second. -/
noncomputable def codeArr (y : S4x14400x384.Idx) : EReal :=
  normCode (residualSum (slotA m c) (firstA m c) (poolA m c) (codesA m c) (weightsA m c) (wsA m c) (biasA m c) (scaleA m c) (residualA m c) (y 0) (y 1)) (gammaA m c) (nextA m c) (y 2)
/-- The first. -/
noncomputable def cacheArr (y : S4x2x14400x384.Idx) : EReal :=
  cacheAt (slotA m c) (firstA m c) (poolA m c) (codesA m c) (y 0) (y 1) (y 2) (y 3)

theorem cover12 (y : S4x14400x384.Idx) : ∃ (t : Fin (cfgM m hO).N) (r : Fin 480) (n : Fin 384),
    (((cfgM m hO).win 12).blk t).view.emb (ix3 0 r n) = y :=
  ⟨point m hO (y 0) (y 1), ⟨(y 1).val % 480, Nat.mod_lt _ (by decide)⟩, y 2,
    (emb12 m hO _ _ _).trans ((congrArg₂ (fun b p => ix3 b p (y 2)) (entry_point m hO (y 0) (y 1)) (pixel_point m hO (y 0) (y 1))).trans (idx3_eq y).symm)⟩

theorem final12 : (dats m hO 0 c).arrAt 12 (cfgM m hO).N = sumArr m c := by
  refine (dats m hO 0 c).arrAt_eq_of_emb 12 _ (fun t _ y => ?_) (fun y => ?_)
  · obtain ⟨r, n, rfl⟩ := idx3_cases y
    refine Eq.trans ?_ (congrArg (sumArr m c) (emb12 m hO t r n).symm)
    refine Eq.trans ?_ (after12_at m hO c t r n)
    exact congrFun (after0_12 m hO c t) (ix3 0 r n)
  · obtain ⟨t, r, n, e⟩ := cover12 m hO y
    exact ⟨t, flush0_12 _ _, e ▸ View.emb_mem_set _ _⟩

theorem cover11 (y : S4x14400x384.Idx) : ∃ (t : Fin (cfgM m hO).N) (r : Fin 480) (n : Fin 384),
    (((cfgM m hO).win 11).blk t).view.emb (ix3 0 r n) = y :=
  ⟨point m hO (y 0) (y 1), ⟨(y 1).val % 480, Nat.mod_lt _ (by decide)⟩, y 2,
    (emb11 m hO _ _ _).trans ((congrArg₂ (fun b p => ix3 b p (y 2)) (entry_point m hO (y 0) (y 1)) (pixel_point m hO (y 0) (y 1))).trans (idx3_eq y).symm)⟩

theorem final11 : (dats m hO 0 c).arrAt 11 (cfgM m hO).N = codeArr m c := by
  refine (dats m hO 0 c).arrAt_eq_of_emb 11 _ (fun t _ y => ?_) (fun y => ?_)
  · obtain ⟨r, n, rfl⟩ := idx3_cases y
    refine Eq.trans ?_ (congrArg (codeArr m c) (emb11 m hO t r n).symm)
    refine Eq.trans ?_ (after11_at m hO c t r n)
    exact congrFun (after0_11 m hO c t) (ix3 0 r n)
  · obtain ⟨t, r, n, e⟩ := cover11 m hO y
    exact ⟨t, flush0_11 _ _, e ▸ View.emb_mem_set _ _⟩

theorem cover10 (y : S4x2x14400x384.Idx) : ∃ (t : Fin (cfgM m hO).N) (f : Fin 2) (r : Fin 480) (n : Fin 384),
    (((cfgM m hO).win 10).blk t).view.emb (ix4 0 f r n) = y :=
  ⟨point m hO (y 0) (y 2), y 1, ⟨(y 2).val % 480, Nat.mod_lt _ (by decide)⟩, y 3,
    (emb10 m hO _ _ _ _).trans ((congrArg₂ (fun b p => ix4 b (y 1) p (y 3)) (entry_point m hO (y 0) (y 2)) (pixel_point m hO (y 0) (y 2))).trans (idx4_eq y).symm)⟩

theorem final10 : (dats m hO 0 c).arrAt 10 (cfgM m hO).N = cacheArr m c := by
  refine (dats m hO 0 c).arrAt_eq_of_emb 10 _ (fun t _ y => ?_) (fun y => ?_)
  · obtain ⟨f, r, n, rfl⟩ := idx4_cases y
    refine Eq.trans ?_ (congrArg (cacheArr m c) (emb10 m hO t f r n).symm)
    refine Eq.trans ?_ (after10_at m hO c t f r n)
    exact congrFun (after0_10 m hO c t) (ix4 0 f r n)
  · obtain ⟨t, f, r, n, e⟩ := cover10 m hO y
    exact ⟨t, flush0_10 _ _, e ▸ View.emb_mem_set _ _⟩

end Cert.ConvMid
-- ==== Proof.ConvMidRef.lean ====
/-
  The residual convolution's reference: its three results as functions of the arguments.
-/
module

public import proofs.«01_k».proof.Proof.RefConv
public import proofs.«01_k».proof.Proof.Gen.ConvMidRefIdeal.Frame
public import Idealize.ShloMosaic.Lib.Pipeline.ValueKit

@[expose] public section

set_option maxRecDepth 16384

namespace Cert.ConvMidRef

open Idealize.ShloMosaic hiding ix0 ix1 ix2 ix3 ix4 ix5
open Idealize.ShloMosaic.TcCoe Idealize.ShloMosaic.ValueIdx
open Cert.Words Cert.ConvMidRefIdeal Cert.ConvMidRefIdeal.Gen

section
variable {F : FTy → Type} [FloatOps F]
variable (x0 : Vec F S4x3x90x160x384 .i8) (x1 : Vec F S4x3x92x162x384 .i8) (x2 : Vec F S3x3x3x384x384 .fp8e4m3) (x3 x4 : Vec F S1x384 .f32) (x5 : Vec F S1x1 .f32)
  (x6 : Vec F S1x384 .f32) (x7 : Vec F S1x1 .f32) (x8 : Vec F S4x1x90x160x384 .bf16)

theorem zero5 : (![0, 0, 0, 0, 0] : Fin 5 → Nat) = fun _ => 0 := by decide
theorem zero4 : (![0, 0, 0, 0] : Fin 4 → Nat) = fun _ => 0 := by decide
theorem zero3 : (![0, 0, 0] : Fin 3 → Nat) = fun _ => 0 := by decide
theorem zero2 : (![0, 0] : Fin 2 → Nat) = fun _ => 0 := by decide

theorem rows_eq : k0_pay18 x0 x1 x2 x3 x4 x5 x6 x7 x8
    = addf (extf .f32 (shapeCast S57600x384 (View.ld x8 (Rect.unit (s := S4x1x90x160x384) ![0, 0, 0, 0, 0] S4x1x90x160x384.size inb_S4x1x90x160x384_S4x1x90x160x384_0_0_0_0_0)) shapeCasts_S4x1x90x160x384_S57600x384) bitsLt_bf16_f32)
       (refConv x1 x2 (View.ld x3 (Rect.unit (s := S1x384) ![0, 0] S1x384.size inb_S1x384_S1x384_0_0)) (View.ld x4 (Rect.unit (s := S1x384) ![0, 0] S1x384.size inb_S1x384_S1x384_0_0)) (View.ld x5 (Rect.unit (s := S1x1) ![0, 0] S1x1.size inb_S1x1_S1x1_0_0))) := rfl

theorem codes_eq (v : FVec F S57600x384 .f32) (g : Vec F S1x384 .f32) (s : Vec F S1x1 .f32) : k0_pay16 v g s
    = shapeCast S4x14400x384 (quantised (normed v (shapeCast S1x384 g shapeCasts_S1x384_S1x384) broadcasts_S1x384_S57600x384 reduces_S57600x384_S57600 shapeCasts_S57600_S57600x1 broadcasts_S57600x1_S57600x384)
        (broadcastTo S57600x384 (shapeCast S1x1 s shapeCasts_S1x1_S1x1) broadcasts_S1x1_S57600x384)) shapeCasts_S57600x384_S4x14400x384 := rfl

theorem out11_eq : out0_11 x0 x1 x2 x3 x4 x5 x6 x7 x8 = shapeCast S4x14400x384 (k0_pay18 x0 x1 x2 x3 x4 x5 x6 x7 x8) shapeCasts_S57600x384_S4x14400x384 := by
  unfold out0_11
  exact (View.canon_unit_zero zero3 _ _).trans rfl
theorem out10_eq : out0_10 x0 x1 x2 x3 x4 x5 x6 x7 x8 = k0_pay16 (k0_pay18 x0 x1 x2 x3 x4 x5 x6 x7 x8) x6 x7 := by
  unfold out0_10
  refine (View.canon_unit_zero zero3 _ _).trans ?_
  rw [View.ld_unit_zero zero2, View.ld_unit_zero zero2]
end

variable (m : (ℓ : Loc nD τ sig) → Buf (Elt Ideal) ℓ) (c : Dev nD)

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)
abbrev residualA : Vec Ideal ⟨5, ![4, 1, 90, 160, 384]⟩ .bf16 := m ((c : Thread nD τ).loc main_arg10)

theorem V_v11 : V m c main_v11 = threeFrames (slotA m c) (firstA m c) (poolA m c) (codesA m c) := by
  entry_read; rfl
set_option maxHeartbeats 1000000 in
theorem V_v12 : V m c main_v12 = borderedFrames (slotA m c) (firstA m c) (poolA m c) (codesA m c) := by
  entry_read; rfl
theorem V_v13 : V m c main_v13 = shapeCast S1x384 (wsA m c) shapeCasts_S384_S1x384 := by
  entry_read; rfl
theorem V_v14 : V m c main_v14 = shapeCast S1x384 (biasA m c) shapeCasts_S384_S1x384 := by
  entry_read; rfl
theorem V_v15 : V m c main_v15 = shapeCast S1x1 (scaleA m c) shapeCasts_S_S1x1 := by
  entry_read; rfl
theorem V_v16 : V m c main_v16 = shapeCast S1x384 (gammaA m c) shapeCasts_S384_S1x384 := by
  entry_read; rfl
theorem V_v17 : V m c main_v17 = shapeCast S1x1 (nextA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_v11 := by
  funext y
  refine congrArg (V m c main_v11) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_v12 := by
  funext y
  refine congrArg (V m c main_v12) (funext fun a => Fin.ext ?_)
  refine (Pipeline.Window.rect_emb_val (cfg0.win 1) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk2 (t : Fin cfg0.N) : iblk m c 2 t = V m c main_arg4 := by
  funext y
  refine congrArg (V m c main_arg4) (funext fun a => Fin.ext ?_)
  refine (Pipeline.Window.rect_emb_val (cfg0.win 2) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk3 (t : Fin cfg0.N) : iblk m c 3 t = V m c main_v13 := by
  funext y
  refine congrArg (V m c main_v13) (funext fun a => Fin.ext ?_)
  refine (Pipeline.Window.rect_emb_val (cfg0.win 3) t y a).trans ?_
  match a with
  | ⟨0, _⟩ => exact at_zero rfl
  | ⟨1, _⟩ => exact at_zero rfl

theorem iblk4 (t : Fin cfg0.N) : iblk m c 4 t = V m c main_v14 := by
  funext y
  refine congrArg (V m c main_v14) (funext fun a => Fin.ext ?_)
  refine (Pipeline.Window.rect_emb_val (cfg0.win 4) t y a).trans ?_
  match a with
  | ⟨0, _⟩ => exact at_zero rfl
  | ⟨1, _⟩ => exact at_zero rfl

theorem iblk5 (t : Fin cfg0.N) : iblk m c 5 t = V m c main_v15 := by
  funext y
  refine congrArg (V m c main_v15) (funext fun a => Fin.ext ?_)
  refine (Pipeline.Window.rect_emb_val (cfg0.win 5) t y a).trans ?_
  match a with
  | ⟨0, _⟩ => exact at_zero rfl
  | ⟨1, _⟩ => exact at_zero rfl

theorem iblk6 (t : Fin cfg0.N) : iblk m c 6 t = V m c main_v16 := by
  funext y
  refine congrArg (V m c main_v16) (funext fun a => Fin.ext ?_)
  refine (Pipeline.Window.rect_emb_val (cfg0.win 6) t y a).trans ?_
  match a with
  | ⟨0, _⟩ => exact at_zero rfl
  | ⟨1, _⟩ => exact at_zero rfl

theorem iblk7 (t : Fin cfg0.N) : iblk m c 7 t = V m c main_v17 := by
  funext y
  refine congrArg (V m c main_v17) (funext fun a => Fin.ext ?_)
  refine (Pipeline.Window.rect_emb_val (cfg0.win 7) t y a).trans ?_
  match a with
  | ⟨0, _⟩ => exact at_zero rfl
  | ⟨1, _⟩ => exact at_zero rfl

theorem iblk8 (t : Fin cfg0.N) : iblk m c 8 t = V m c main_arg10 := by
  funext y
  refine congrArg (V m c main_arg10) (funext fun a => Fin.ext ?_)
  refine (Pipeline.Window.rect_emb_val (cfg0.win 8) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

/-- The sum of the residual and the convolution, by row. -/
theorem rows_at (t : Fin cfg0.N) (b : Fin 4) (h : (slotA m c (ix1 b)).toNat < 6) (p : Fin 14400) (n : Fin 384) :
    k0_pay18 (iblk m c 0 t) (iblk m c 1 t) (iblk m c 2 t) (iblk m c 3 t) (iblk m c 4 t) (iblk m c 5 t) (iblk m c 6 t) (iblk m c 7 t) (iblk m c 8 t) (ix2 (rowOf b p) n)
      = residualSum (slotA m c) (firstA m c) (poolA m c) (codesA m c) (weightsA m c) (wsA m c) (biasA m c) (scaleA m c) (residualA m c) b p n := by
  rw [rows_eq, View.ld_unit_zero zero5, View.ld_unit_zero zero2, View.ld_unit_zero zero2, View.ld_unit_zero zero2,
    iblk1, iblk2, iblk3, iblk4, iblk5, iblk8, V_v12, V_v13, V_v14, V_v15, V_main_arg4, V_main_arg10]
  exact congrArg₂ (fun x y : EReal => x + y) (cast_pixels _ _ b p n) (refConv_apply (slotA m c) (firstA m c) (poolA m c) (codesA m c) (weightsA m c) (wsA m c) (biasA m c) (scaleA m c) _ _ _ b h p n)

theorem out11_at (t : Fin cfg0.N) (b : Fin 4) (h : (slotA m c (ix1 b)).toNat < 6) (p : Fin 14400) (n : Fin 384) :
    out0_11 (iblk m c 0 t) (iblk m c 1 t) (iblk m c 2 t) (iblk m c 3 t) (iblk m c 4 t) (iblk m c 5 t) (iblk m c 6 t) (iblk m c 7 t) (iblk m c 8 t) (ix3 b p n)
      = residualSum (slotA m c) (firstA m c) (poolA m c) (codesA m c) (weightsA m c) (wsA m c) (biasA m c) (scaleA m c) (residualA m c) b p n := by
  rw [out11_eq]
  exact (cast_rows _ _ b p n).trans (rows_at m c t b h p n)

theorem out10_at (t : Fin cfg0.N) (b : Fin 4) (h : (slotA m c (ix1 b)).toNat < 6) (p : Fin 14400) (n : Fin 384) :
    out0_10 (iblk m c 0 t) (iblk m c 1 t) (iblk m c 2 t) (iblk m c 3 t) (iblk m c 4 t) (iblk m c 5 t) (iblk m c 6 t) (iblk m c 7 t) (iblk m c 8 t) (ix3 b p n)
      = normCode (residualSum (slotA m c) (firstA m c) (poolA m c) (codesA m c) (weightsA m c) (wsA m c) (biasA m c) (scaleA m c) (residualA m c) b p) (gammaA m c) (nextA m c) n := by
  rw [out10_eq, codes_eq]
  refine (cast_rows _ _ b p n).trans ?_
  rw [quantised_apply, normed_apply, broadcast_one, shapeCast_self, shapeCast_self, iblk6, iblk7, V_v16, V_v17]
  unfold normCode
  have e1 : (fun k => k0_pay18 (iblk m c 0 t) (iblk m c 1 t) (iblk m c 2 t) (iblk m c 3 t) (iblk m c 4 t) (iblk m c 5 t) (shapeCast S1x384 (gammaA m c) shapeCasts_S384_S1x384) (shapeCast S1x1 (nextA m c) shapeCasts_S_S1x1) (iblk m c 8 t) (ix2 (rowOf b p) k))
      = residualSum (slotA m c) (firstA m c) (poolA m c) (codesA m c) (weightsA m c) (wsA m c) (biasA m c) (scaleA m c) (residualA m c) b p := by
    funext k
    refine Eq.trans ?_ (rows_at m c t b h p k)
    rw [iblk6, iblk7, V_v16, V_v17]
  have e2 : (fun k => shapeCast S1x384 (gammaA m c) shapeCasts_S384_S1x384 (ix2 0 k)) = fun k => gammaA m c (ix1 k) := funext fun k => cast_row _ _ k
  rw [e1, e2, cast_one]

theorem out9_at (t : Fin cfg0.N) (b : Fin 4) (h : (slotA m c (ix1 b)).toNat < 6) (f : Fin 2) (p : Fin 14400) (n : Fin 384) :
    out0_9 (iblk m c 0 t) (iblk m c 1 t) (iblk m c 2 t) (iblk m c 3 t) (iblk m c 4 t) (iblk m c 5 t) (iblk m c 6 t) (iblk m c 7 t) (iblk m c 8 t) (ix4 b f p n)
      = cacheAt (slotA m c) (firstA m c) (poolA m c) (codesA m c) b f p n := by
  unfold out0_9
  refine (congrFun (View.canon_unit_zero zero4 _ _) _).trans ?_
  rw [iblk0, V_v11]
  exact refCache_apply (slotA m c) (firstA m c) (poolA m c) (codesA m c) _ _ _ _ b h f p n

/-- The three results at the end. -/
noncomputable def sumArr (y : S4x14400x384.Idx) : EReal :=
  residualSum (slotA m c) (firstA m c) (poolA m c) (codesA m c) (weightsA m c) (wsA m c) (biasA m c) (scaleA m c) (residualA m c) (y 0) (y 1) (y 2)
noncomputable def codeArr (y : S4x14400x384.Idx) : EReal :=
  normCode (residualSum (slotA m c) (firstA m c) (poolA m c) (codesA m c) (weightsA m c) (wsA m c) (biasA m c) (scaleA m c) (residualA m c) (y 0) (y 1)) (gammaA m c) (nextA m c) (y 2)
noncomputable def cacheArr (y : S4x2x14400x384.Idx) : EReal :=
  cacheAt (slotA m c) (firstA m c) (poolA m c) (codesA m c) (y 0) (y 1) (y 2) (y 3)

/-- The one grid point. -/
def point : Fin cfg0.N := ⟨0, by decide⟩

theorem emb11 (y : S4x14400x384.Idx) : ((cfg0.win 11).blk point).view.emb y = y := by
  funext a; refine Fin.ext ((Pipeline.Window.rect_emb_val (cfg0.win 11) point y a).trans ?_)
  match a with
  | ⟨0, _⟩ => exact at_zero rfl
  | ⟨1, _⟩ => exact at_zero rfl
  | ⟨2, _⟩ => exact at_zero rfl
theorem emb10 (y : S4x14400x384.Idx) : ((cfg0.win 10).blk point).view.emb y = y := by
  funext a; refine Fin.ext ((Pipeline.Window.rect_emb_val (cfg0.win 10) point y a).trans ?_)
  match a with
  | ⟨0, _⟩ => exact at_zero rfl
  | ⟨1, _⟩ => exact at_zero rfl
  | ⟨2, _⟩ => exact at_zero rfl
theorem emb9 (y : S4x2x14400x384.Idx) : ((cfg0.win 9).blk point).view.emb y = y := by
  funext a; refine Fin.ext ((Pipeline.Window.rect_emb_val (cfg0.win 9) point y a).trans ?_)
  match a with
  | ⟨0, _⟩ => exact at_zero rfl
  | ⟨1, _⟩ => exact at_zero rfl
  | ⟨2, _⟩ => exact at_zero rfl
  | ⟨3, _⟩ => exact at_zero rfl

theorem one_point (t : Fin cfg0.N) : t = point := by
  have h : ∀ t : Fin grid0.N, t = ⟨0, by decide⟩ := by decide +kernel
  exact h t

theorem final11 (h : ∀ b : Fin 4, (slotA m c (ix1 b)).toNat < 6) : (dats m 0 c).arrAt 11 cfg0.N = sumArr m c := by
  refine (dats m 0 c).arrAt_eq_of_emb 11 _ (fun t _ y => ?_) (fun y => ?_)
  · obtain rfl := one_point t
    refine Eq.trans ?_ (congrArg (sumArr m c) (emb11 y).symm)
    refine (congrFun (after0_11 m c point) y).trans ?_
    refine (congrArg _ (idx3_eta y)).trans ?_
    exact out11_at m c point (y 0) (h _) (y 1) (y 2)
  · exact ⟨point, by decide +kernel, (emb11 y) ▸ View.emb_mem_set _ _⟩

theorem final10 (h : ∀ b : Fin 4, (slotA m c (ix1 b)).toNat < 6) : (dats m 0 c).arrAt 10 cfg0.N = codeArr m c := by
  refine (dats m 0 c).arrAt_eq_of_emb 10 _ (fun t _ y => ?_) (fun y => ?_)
  · obtain rfl := one_point t
    refine Eq.trans ?_ (congrArg (codeArr m c) (emb10 y).symm)
    refine (congrFun (after0_10 m c point) y).trans ?_
    refine (congrArg _ (idx3_eta y)).trans ?_
    exact out10_at m c point (y 0) (h _) (y 1) (y 2)
  · exact ⟨point, by decide +kernel, (emb10 y) ▸ View.emb_mem_set _ _⟩

theorem final9 (h : ∀ b : Fin 4, (slotA m c (ix1 b)).toNat < 6) : (dats m 0 c).arrAt 9 cfg0.N = cacheArr m c := by
  refine (dats m 0 c).arrAt_eq_of_emb 9 _ (fun t _ y => ?_) (fun y => ?_)
  · obtain rfl := one_point t
    refine Eq.trans ?_ (congrArg (cacheArr m c) (emb9 y).symm)
    refine (congrFun (after0_9 m c point) y).trans ?_
    refine (congrArg _ (idx4_eta y)).trans ?_
    exact out9_at m c point (y 0) (h _) (y 1) (y 2) (y 3)
  · exact ⟨point, by decide +kernel, (emb9 y) ▸ View.emb_mem_set _ _⟩

end Cert.ConvMidRef
-- ==== Proof.ConvMidRun.lean ====
/-
  The residual convolution's run and its reference's run, each with the arrays it ends with, and the equality of
  the two families of arrays when the arguments agree.
-/
module

public import proofs.«01_k».proof.Proof.ConvMidArray
public import proofs.«01_k».proof.Proof.ConvMidRef
public import proofs.«01_k».proof.Proof.Gen.ConvMidIdeal.Frame
public import proofs.«01_k».proof.Proof.Gen.ConvMidRefIdeal.Frame

@[expose] public section

set_option maxRecDepth 16384

namespace Cert.ConvMid

open Idealize.ShloMosaic hiding ix0 ix1 ix2 ix3 ix4 ix5
open Idealize.ShloMosaic.TcCoe Idealize.ShloMosaic.ValueIdx
open Idealize.SL.Sem
open Cert.Words Cert.ConvMidIdeal Cert.ConvMidIdeal.Gen

/-- The kernel ends with the new cache, the next stage's codes and the residual sum. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ fun r => ∀ c : Dev nD,
      r.2.mem ((c : Thread nD τ).loc main_v9_0) = cacheArr m c
      ∧ r.2.mem ((c : Thread nD τ).loc main_v9_1) = codeArr m c
      ∧ r.2.mem ((c : Thread nD τ).loc main_v9_2) = sumArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1 10).trans (final10 m hO c), ((h c).1 11).trans (final11 m hO c), ((h c).1 12).trans (final12 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) (run_main m ρ hO)

end Cert.ConvMid

namespace Cert.ConvMidRef

open Idealize.ShloMosaic hiding ix0 ix1 ix2 ix3 ix4 ix5
open Idealize.ShloMosaic.TcCoe Idealize.ShloMosaic.ValueIdx
open Idealize.SL.Sem
open Cert.Words Cert.ConvMidRefIdeal Cert.ConvMidRefIdeal.Gen

/-- The reference ends with the same three arrays of its own arguments. -/
theorem run_arrays (m : (ℓ : Loc nD τ sig) → Buf (Elt Ideal) ℓ) (ρ : Dev nD → PrngReg)
    (h6 : ∀ (c : Dev nD) (b : Fin 4), (slotA m c (ix1 b)).toNat < 6) :
    θ_run defs (onTc (τ := τ) (main (F := Ideal))) ⟨m, fun _ => 0, ρ⟩ fun r => ∀ c : Dev nD,
      r.2.mem ((c : Thread nD τ).loc main_v18_0) = cacheArr m c
      ∧ r.2.mem ((c : Thread nD τ).loc main_v18_1) = codeArr m c
      ∧ r.2.mem ((c : Thread nD τ).loc main_v18_2) = sumArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1 9).trans (final9 m c (h6 c)), ((h c).1 10).trans (final10 m c (h6 c)), ((h c).1 11).trans (final11 m c (h6 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 8).trans (((dats m 0 c).arrAt_in 8 rfl _).trans ((A_eq m c 8).trans (V_main_arg10 m c)))⟩) (run_main m ρ)

/-- Arguments that agree give arrays that agree. -/
theorem arrays_eq (m' : (ℓ : Loc nD τ sig) → Buf (Elt Ideal) ℓ) (m : (ℓ : Loc Cert.ConvMidIdeal.nD Cert.ConvMidIdeal.τ Cert.ConvMidIdeal.sig) → Buf (Elt Ideal) ℓ) (c : Dev nD)
    (h0 : slotA m' c = ConvMid.slotA m c)
    (h1 : firstA m' c = ConvMid.firstA m c)
    (h2 : poolA m' c = ConvMid.poolA m c)
    (h3 : codesA m' c = ConvMid.codesA m c)
    (h4 : weightsA m' c = ConvMid.weightsA m c)
    (h5 : wsA m' c = ConvMid.wsA m c)
    (h6 : biasA m' c = ConvMid.biasA m c)
    (h7 : scaleA m' c = ConvMid.scaleA m c)
    (h8 : gammaA m' c = ConvMid.gammaA m c)
    (h9 : nextA m' c = ConvMid.nextA m c)
    (h10 : residualA m' c = ConvMid.residualA m c)
    : cacheArr m' c = ConvMid.cacheArr m c ∧ codeArr m' c = ConvMid.codeArr m c ∧ sumArr m' c = ConvMid.sumArr m c := by
  refine ⟨funext fun y => ?_, funext fun y => ?_, funext fun y => ?_⟩
  · unfold cacheArr ConvMid.cacheArr; rw [h0, h1, h2, h3]
  · unfold codeArr ConvMid.codeArr; rw [h0, h1, h2, h3, h4, h5, h6, h7, h8, h9, h10]
  · unfold sumArr ConvMid.sumArr; rw [h0, h1, h2, h3, h4, h5, h6, h7, h10]

end Cert.ConvMidRef
-- ==== Proof.ConvLastSum.lean ====
/-
  The last convolution's tile: the sum of products that the kernel's body leaves, in the words of `Conv.lean`.
-/
module

public import proofs.«01_k».proof.Proof.Conv
public import proofs.«01_k».proof.Proof.Gen.ConvLastIdeal.Frame

@[expose] public section

set_option maxRecDepth 16384

namespace Cert.ConvLast

open Idealize.ShloMosaic hiding ix1 ix2 ix3 ix4
open Idealize.ShloMosaic.TcCoe Idealize.ShloMosaic.ValueIdx
open Cert.Words Cert.ConvLastIdeal Cert.ConvLastIdeal.Gen

variable {F : FTy → Type} [FloatOps F]

/-- An image row of a frame of the pool, as the kernel loads it. -/
noncomputable def poolRow (a : Memref sig .tc .vmem S1x1x14400x384 .i8) (ha : a.IsWhole) (x : Vec F S1x1x14400x384 .i8) (i : grid0.Coords) (d k : Fin 3) :
    IVec ⟨2, ![160, 384]⟩ 8 :=
  shapeCast ⟨2, ![160, 384]⟩ (View.readAt (Elt F) a.view (Rect.unit (s := S1x1x14400x384) (k0_off2 i (BitVec.ofNat 32 d.val) (BitVec.ofNat 32 k.val)) S1x1x160x384.size (k0_off2_inb i d k)).toLoadRect (ha.unread x)) (show S1x1x160x384.ShapeCasts ⟨2, ![160, 384]⟩ by decide)

/-- An image row of the current frame, as the kernel loads it. -/
noncomputable def ownRow (a : Memref sig .tc .vmem S1x14400x384 .i8) (ha : a.IsWhole) (x : Vec F S1x14400x384 .i8) (i : grid0.Coords) (d k : Fin 3) :
    IVec ⟨2, ![160, 384]⟩ 8 :=
  shapeCast ⟨2, ![160, 384]⟩ (View.readAt (Elt F) a.view (Rect.unit (s := S1x14400x384) (k0_off3 i (BitVec.ofNat 32 d.val) (BitVec.ofNat 32 k.val)) S1x160x384.size (k0_off3_inb i d k)).toLoadRect (ha.unread x)) (show S1x160x384.ShapeCasts ⟨2, ![160, 384]⟩ by decide)

theorem tap_inb : ∀ t d e : Fin 3, ∀ a, (![t.val * 9 + d.val * 3 + e.val, 0, 0] : Fin 3 → Nat) a + S1x384x384.size a ≤ S27x384x384.size a := by
  decide

/-- The weights of a tap, as the kernel loads them. -/
noncomputable def tapWeights (a : Memref sig .tc .vmem S27x384x384 .fp8e4m3) (ha : a.IsWhole) (x : Vec F S27x384x384 .fp8e4m3) (t d e : Fin 3) :
    Vec F ⟨3, ![1, 384, 384]⟩ .fp8e4m3 :=
  View.readAt (Elt F) a.view (Rect.unit (s := S27x384x384) ![t.val * 9 + d.val * 3 + e.val, 0, 0] S1x384x384.size (tap_inb t d e)).toLoadRect (ha.unread x)

/-- The number in a one-word scalar block, as the kernel loads it. -/
noncomputable def word (a : Memref sig .tc .smem S1 .f32) (ha : a.IsWhole) (x : Vec F S1 .f32) : Elt F .f32 :=
  View.readAt (Elt F) a.view (Rect.unit (s := S1) ![0] S1.size inb_S1_S1_0).toLoadRect (ha.unread x) (Shape.Idx.first (by decide))

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x480x384 .f32) (harg13 : arg13.IsWhole) (arg14 : Memref sig .tc .vmem S1x2x480x384 .fp8e4m3) (harg14 : arg14.IsWhole) (arg15 : Memref sig .tc .vmem S1x480x384 .fp8e4m3) (harg15 : arg15.IsWhole) (arg16 : Memref sig .tc .vmem S1x480x384 .f32) (harg16 : arg16.IsWhole)
    (x0 : Vec F S1x1x14400x384 .i8) (x1 : Vec F S1x1x14400x384 .i8) (x2 : Vec F S1x14400x384 .i8) (x3 : Vec F S27x384x384 .fp8e4m3) (x4 : Vec F S1x384 .f32) (x5 : Vec F S1x384 .f32) (x6 : Vec F S1x384 .f32) (x7 : Vec F S1 .f32) (x8 : Vec F S1 .f32) (x9 : Vec F S1x480x384 .f32) (xt0 : TbBuf0 (F := F) c tbM0_0) (xt1 : TbBuf0 (F := F) c tbM0_1)

/-- Whether the frames of the pool are kept. -/
noncomputable def keepBit (c : Dev nD) (i : grid0.Coords) (xt1 : TbBuf0 (F := F) c tbM0_1) : BitVec 1 := kernelRun0_A.sl.v2 c i xt1

/-- The product of a tap, as the kernel forms it. -/
noncomputable def tap (t d e : Fin 3) : FVec F ⟨2, ![480, 384]⟩ .f32 :=
  match t with
  | 0 => tileTap (bandOf (BitVec.ofNat 32 (i 1).val) (keepBit c i xt1) d (poolRow arg4 harg4 x0 i d)) e (tapWeights arg7 harg7 x3 0 d e)
  | 1 => tileTap (bandOf (BitVec.ofNat 32 (i 1).val) (keepBit c i xt1) d (poolRow arg5 harg5 x1 i d)) e (tapWeights arg7 harg7 x3 1 d e)
  | 2 => tileTap (bandOf (BitVec.ofNat 32 (i 1).val) 1#1 d (ownRow arg6 harg6 x2 i d)) e (tapWeights arg7 harg7 x3 2 d e)

/-- A tile of the sum of the convolution and the residual, as the body forms it. -/
noncomputable def tileSum : FVec F ⟨2, ![480, 384]⟩ .f32 :=
  addf (shapeCast ⟨2, ![480, 384]⟩ (View.readAt (Elt F) arg13.view (Rect.unit (s := S1x480x384) ![0, 0, 0] S1x480x384.size inb_S1x480x384_S1x480x384_0_0_0).toLoadRect (harg13.unread x9)) shapeCasts_S1x480x384_S480x384)
       (scaled (sum27 addf (tap c i arg4 harg4 arg5 harg5 arg6 harg6 arg7 harg7 x0 x1 x2 x3 xt1))
        (mulf (broadcast S1x384 (word arg11 harg11 x7))
          (shapeCast S1x384 (View.readAt (Elt F) arg8.view (Rect.unit (s := S1x384) ![0, 0] S1x384.size inb_S1x384_S1x384_0_0).toLoadRect (harg8.unread x4)) shapeCasts_S1x384_S1x384))
        (shapeCast S1x384 (View.readAt (Elt F) arg9.view (Rect.unit (s := S1x384) ![0, 0] S1x384.size inb_S1x384_S1x384_0_0).toLoadRect (harg9.unread x5)) shapeCasts_S1x384_S1x384)
        broadcasts_S1x384_S480x384)

/-- A tile of the codes, as the body forms it. -/
noncomputable def tileCode : FVec F ⟨2, ![480, 384]⟩ .fp8e4m3 :=
  quantised (tileSum c i arg4 harg4 arg5 harg5 arg6 harg6 arg7 harg7 arg8 harg8 arg9 harg9 arg11 harg11 arg13 harg13 x0 x1 x2 x3 x4 x5 x7 x9 xt1) (broadcast S480x384 (word arg12 harg12 x8))

theorem pieces12 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).2.2.1
    = [⟨Rect.unit (s := S1x480x384) ![0, 0, 0] S1x480x384.size inb_S1x480x384_S1x480x384_0_0_0, shapeCast S1x480x384 (tileSum c i arg4 harg4 arg5 harg5 arg6 harg6 arg7 harg7 arg8 harg8 arg9 harg9 arg11 harg11 arg13 harg13 x0 x1 x2 x3 x4 x5 x7 x9 xt1) shapeCasts_S480x384_S1x480x384⟩] := by
  unfold kernelRun0_A; dsimp only; rfl

theorem pieces11 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).2.1
    = [⟨Rect.unit (s := S1x480x384) ![0, 0, 0] S1x480x384.size inb_S1x480x384_S1x480x384_0_0_0, shapeCast S1x480x384 (tileCode c i arg4 harg4 arg5 harg5 arg6 harg6 arg7 harg7 arg8 harg8 arg9 harg9 arg11 harg11 arg12 harg12 arg13 harg13 x0 x1 x2 x3 x4 x5 x7 x8 x9 xt1) shapeCasts_S480x384_S1x480x384⟩] := by
  unfold kernelRun0_A; dsimp only; rfl

theorem zero3 : (![0, 0, 0] : Fin 3 → Nat) = fun _ => 0 := by decide
theorem zero2 : (![0, 0] : Fin 2 → Nat) = fun _ => 0 := by decide
theorem zero1 : (![0] : Fin 1 → Nat) = fun _ => 0 := by decide

theorem out12_eq : out0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1
    = shapeCast S1x480x384 (tileSum c i arg4 harg4 arg5 harg5 arg6 harg6 arg7 harg7 arg8 harg8 arg9 harg9 arg11 harg11 arg13 harg13 x0 x1 x2 x3 x4 x5 x7 x9 xt1) shapeCasts_S480x384_S1x480x384 := by
  unfold out0_A_12
  rw [View.read_writes_eq_canon _ _ _ (cover0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces12]
  exact View.canon_unit_zero zero3 _ _

theorem out11_eq : out0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1
    = shapeCast S1x480x384 (tileCode c i arg4 harg4 arg5 harg5 arg6 harg6 arg7 harg7 arg8 harg8 arg9 harg9 arg11 harg11 arg12 harg12 arg13 harg13 x0 x1 x2 x3 x4 x5 x7 x8 x9 xt1) shapeCasts_S480x384_S1x480x384 := by
  unfold out0_A_11
  rw [View.read_writes_eq_canon _ _ _ (cover0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces11]
  exact View.canon_unit_zero zero3 _ _

/-- The two frames of the new cache's tile, as the body forms them. -/
theorem pieces10 : (kernelRun0_A c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1).1
    = [⟨Rect.unit (s := S1x2x480x384) ![0, 1, 0, 0] S1x1x480x384.size (by decide), shapeCast S1x1x480x384 (bitcastToFloat .fp8e4m3 (shapeCast S480x384
          (View.readAt (Elt F) arg6.view (Rect.unit (s := S1x14400x384) (k0_off5 i) S1x480x384.size (k0_off5_inb i)).toLoadRect (harg6.unread x2)) shapeCasts_S1x480x384_S480x384)) shapeCasts_S480x384_S1x1x480x384⟩,
       ⟨Rect.unit (s := S1x2x480x384) ![0, 0, 0, 0] S1x1x480x384.size (by decide), shapeCast S1x1x480x384 (bitcastToFloat .fp8e4m3 (bitcast S480x384 8 (muli (bitcast S120x384 32 (shapeCast S480x384
          (View.readAt (Elt F) arg5.view (Rect.unit (s := S1x1x14400x384) (k0_off4 i) S1x1x480x384.size (k0_off4_inb i)).toLoadRect (harg5.unread x1)) shapeCasts_S1x1x480x384_S480x384) bitcasts_S480x384_w8_S120x384_w32)
          (broadcast S120x384 (Scalar.extui (keepBit c i xt1)))) bitcasts_S120x384_w32_S480x384_w8)) shapeCasts_S480x384_S1x1x480x384⟩] := by
  unfold kernelRun0_A; dsimp only; rfl
end

/-! ## The same at an index -/

theorem poolRow_apply (a : Memref sig .tc .vmem S1x1x14400x384 .i8) (ha : a.IsWhole) (x : Vec F S1x1x14400x384 .i8) (i : grid0.Coords)
    (d k : Fin 3) (q : Fin 160) (l : Fin 384) :
    poolRow a ha x i d k (ix2 q l) = pix (fun p l => x (ix4 0 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold poolRow
  rw [View.readAt_eq_ld, ha.read_unread]
  refine (shapeCast_11ab_ab _ _ q l).trans ?_
  exact View.ld_unit_apply_of x _ _ _ (ix4 0 0 q l) (ix4 0 0 ⟨_, h1⟩ l) (by
      intro a
      match a with
      | ⟨0, _⟩ => rfl
      | ⟨1, _⟩ => rfl
      | ⟨2, _⟩ => rfl
      | ⟨3, _⟩ => exact (Nat.zero_add _).symm)

theorem ownRow_apply (a : Memref sig .tc .vmem S1x14400x384 .i8) (ha : a.IsWhole) (x : Vec F S1x14400x384 .i8) (i : grid0.Coords)
    (d k : Fin 3) (q : Fin 160) (l : Fin 384) :
    ownRow a ha x i d k (ix2 q l) = pix (fun p l => x (ix3 0 p l)) (rowStart (BitVec.ofNat 32 (i 1).val) (BitVec.ofNat 32 d.val) (BitVec.ofNat 32 k.val) + q.val) l := by
  have hb := rowStart_lt (i 1) d k
  have hq := q.isLt
  have h1 : rowStart (BitVec.ofNat 32 (i 1).val) (BitVec.ofNat 32 d.val) (BitVec.ofNat 32 k.val) + q.val < 14400 := by omega
  rw [rowStart_pix _ (i 1) d k q l h1]
  unfold ownRow
  rw [View.readAt_eq_ld, ha.read_unread]
  refine (shapeCast_1ab_ab_apply _ _ q l).trans ?_
  exact View.ld_unit_apply_of x _ _ _ (ix3 0 q l) (ix3 0 ⟨_, h1⟩ l) (by
      intro a
      match a with
      | ⟨0, _⟩ => rfl
      | ⟨1, _⟩ => rfl
      | ⟨2, _⟩ => exact (Nat.zero_add _).symm)

theorem tapWeights_apply (a : Memref sig .tc .vmem S27x384x384 .fp8e4m3) (ha : a.IsWhole) (x : Vec F S27x384x384 .fp8e4m3) (t d e : Fin 3)
    (k n : Fin 384) : tapWeights a ha x t d e (ix3 0 k n) = x (ix3 ⟨t.val * 9 + d.val * 3 + e.val, by omega⟩ k n) := by
  unfold tapWeights
  rw [View.readAt_eq_ld, ha.read_unread]
  exact View.ld_unit_apply_of x _ _ _ (ix3 0 k n) (ix3 ⟨t.val * 9 + d.val * 3 + e.val, by omega⟩ k n) (by
      intro a
      match a with
      | ⟨0, _⟩ => rfl
      | ⟨1, _⟩ => exact (Nat.zero_add _).symm
      | ⟨2, _⟩ => exact (Nat.zero_add _).symm)

end Cert.ConvLast
-- ==== Proof.ConvLastBlock.lean ====
/-
  The last convolution's tile at an index, over the reals: the new cache, the codes and the sum that one grid
  point leaves, as functions of the blocks it is given.
-/
module

public import proofs.«01_k».proof.Proof.ConvLastSum

@[expose] public section

set_option maxRecDepth 16384

namespace Cert.ConvLast

open Idealize.ShloMosaic hiding ix1 ix2 ix3 ix4
open Idealize.ShloMosaic.TcCoe Idealize.ShloMosaic.ValueIdx
open Cert.Words Cert.ConvLastIdeal Cert.ConvLastIdeal.Gen

/-- The codes of the three frames' blocks. -/
def blkFrames (x0 x1 : Vec Ideal S1x1x14400x384 .i8) (x2 : Vec Ideal S1x14400x384 .i8) (t : Fin 3) (p : Fin 14400) (l : Fin 384) : BitVec 8 :=
  match t with
  | 0 => x0 (ix4 0 0 p l)
  | 1 => x1 (ix4 0 0 p l)
  | 2 => x2 (ix3 0 p l)

/-- The weights' block by tap. -/
def blkWeights (x3 : Vec Ideal S27x384x384 .fp8e4m3) (t d e : Fin 3) (k n : Fin 384) : EReal :=
  x3 (ix3 ⟨t.val * 9 + d.val * 3 + e.val, by omega⟩ k n)

section
variable (c : Dev nD) (i : grid0.Coords) (arg4 : Memref sig .tc .vmem S1x1x14400x384 .i8) (harg4 : arg4.IsWhole) (arg5 : Memref sig .tc .vmem S1x1x14400x384 .i8) (harg5 : arg5.IsWhole) (arg6 : Memref sig .tc .vmem S1x14400x384 .i8) (harg6 : arg6.IsWhole) (arg7 : Memref sig .tc .vmem S27x384x384 .fp8e4m3) (harg7 : arg7.IsWhole) (arg8 : Memref sig .tc .vmem S1x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S1 .f32) (harg11 : arg11.IsWhole) (arg12 : Memref sig .tc .smem S1 .f32) (harg12 : arg12.IsWhole) (arg13 : Memref sig .tc .vmem S1x480x384 .f32) (harg13 : arg13.IsWhole) (arg14 : Memref sig .tc .vmem S1x2x480x384 .fp8e4m3) (harg14 : arg14.IsWhole) (arg15 : Memref sig .tc .vmem S1x480x384 .fp8e4m3) (harg15 : arg15.IsWhole) (arg16 : Memref sig .tc .vmem S1x480x384 .f32) (harg16 : arg16.IsWhole)
    (x0 : Vec Ideal S1x1x14400x384 .i8) (x1 : Vec Ideal S1x1x14400x384 .i8) (x2 : Vec Ideal S1x14400x384 .i8) (x3 : Vec Ideal S27x384x384 .fp8e4m3) (x4 : Vec Ideal S1x384 .f32) (x5 : Vec Ideal S1x384 .f32) (x6 : Vec Ideal S1x384 .f32) (x7 : Vec Ideal S1 .f32) (x8 : Vec Ideal S1 .f32) (x9 : Vec Ideal S1x480x384 .f32) (xt0 : TbBuf0 (F := Ideal) c tbM0_0) (xt1 : TbBuf0 (F := Ideal) c tbM0_1)

theorem tap_eq (t d e : Fin 3) : tap c i arg4 harg4 arg5 harg5 arg6 harg6 arg7 harg7 x0 x1 x2 x3 xt1 t d e
    = tileTap (bandOf (BitVec.ofNat 32 (i 1).val) (match t with | 0 => keepBit c i xt1 | 1 => keepBit c i xt1 | 2 => 1#1) d
        ((fun t d => match t with | 0 => poolRow arg4 harg4 x0 i d | 1 => poolRow arg5 harg5 x1 i d | 2 => ownRow arg6 harg6 x2 i d : Fin 3 → Fin 3 → Fin 3 → IVec ⟨2, ![160, 384]⟩ 8) t d))
        e (tapWeights arg7 harg7 x3 t d e) := by
  match t with
  | 0 => rfl
  | 1 => rfl
  | 2 => rfl

theorem tapSum_at (r : Fin 480) (n : Fin 384) :
    sum27 addf (tap c i arg4 harg4 arg5 harg5 arg6 harg6 arg7 harg7 x0 x1 x2 x3 xt1) (ix2 r n)
      = convSum (frames (keepBit c i xt1) (blkFrames x0 x1 x2)) (blkWeights x3) (3 * (i 1).val + r.val / 160) (r.val % 160) n := by
  rw [show tap c i arg4 harg4 arg5 harg5 arg6 harg6 arg7 harg7 x0 x1 x2 x3 xt1 = _ from
    funext fun t => funext fun d => funext fun e => tap_eq c i arg4 harg4 arg5 harg5 arg6 harg6 arg7 harg7 x0 x1 x2 x3 xt1 t d e]
  refine (tileSum_apply (i 1) (fun t => match t with | 0 => keepBit c i xt1 | 1 => keepBit c i xt1 | 2 => 1#1)
    (fun t d => match t with | 0 => poolRow arg4 harg4 x0 i d | 1 => poolRow arg5 harg5 x1 i d | 2 => ownRow arg6 harg6 x2 i d)
    (fun t => pix (blkFrames x0 x1 x2 t)) ?_ (tapWeights arg7 harg7 x3) r n).trans ?_
  · intro t d k q l
    match t with
    | 0 => exact poolRow_apply arg4 harg4 x0 i d k q l
    | 1 => exact poolRow_apply arg5 harg5 x1 i d k q l
    | 2 => exact ownRow_apply arg6 harg6 x2 i d k q l
  · have hw : (fun t d e k n => tapWeights arg7 harg7 x3 t d e (ix3 0 k n)) = blkWeights x3 :=
      funext fun t => funext fun d => funext fun e => funext fun k => funext fun n => tapWeights_apply arg7 harg7 x3 t d e k n
    rw [hw]; rfl

theorem row_at (a : Memref sig .tc .vmem S1x384 .f32) (ha : a.IsWhole) (x : Vec Ideal S1x384 .f32) :
    shapeCast S1x384 (View.readAt (Elt Ideal) a.view (Rect.unit (s := S1x384) ![0, 0] S1x384.size inb_S1x384_S1x384_0_0).toLoadRect (ha.unread x)) shapeCasts_S1x384_S1x384 = x := by
  rw [View.readAt_eq_ld, ha.read_unread, View.ld_unit_zero zero2]
  exact shapeCast_self _ _

theorem word_eq (a : Memref sig .tc .smem S1 .f32) (ha : a.IsWhole) (x : Vec Ideal S1 .f32) : word a ha x = x (ix1 0) := by
  unfold word
  rw [View.readAt_eq_ld, ha.read_unread]
  exact View.ld_unit_apply_of x _ _ _ _ (ix1 0) (by
    intro a
    match a with
    | ⟨0, _⟩ => rfl)

/-- The sum of the residual and the convolution at row `r` and channel `n` of a tile. -/
theorem sum_at (r : Fin 480) (n : Fin 384) :
    tileSum c i arg4 harg4 arg5 harg5 arg6 harg6 arg7 harg7 arg8 harg8 arg9 harg9 arg11 harg11 arg13 harg13 x0 x1 x2 x3 x4 x5 x7 x9 xt1 (ix2 r n)
      = x9 (ix3 0 r n) + (convSum (frames (keepBit c i xt1) (blkFrames x0 x1 x2)) (blkWeights x3) (3 * (i 1).val + r.val / 160) (r.val % 160) n
          * (x7 (ix1 0) * x4 (ix2 0 n)) + x5 (ix2 0 n)) := by
  unfold tileSum
  rw [View.readAt_eq_ld, harg13.read_unread, View.ld_unit_zero zero3, row_at arg8 harg8 x4, row_at arg9 harg9 x5]
  show FloatOps.addf (F := Ideal) (φ := .f32) (shapeCast ⟨2, ![480, 384]⟩ x9 _ (ix2 r n)) (scaled _ _ _ _ (ix2 r n)) = _
  rw [shapeCast_1ab_ab_apply, scaled_apply, tapSum_at]
  show _ + (_ * (word arg11 harg11 x7 * x4 (ix2 0 n)) + _) = _
  rw [word_eq]

/-- What the tile leaves in the third output. -/
theorem out12_at (r : Fin 480) (n : Fin 384) :
    out0_A_12 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix3 0 r n)
      = x9 (ix3 0 r n) + (convSum (frames (keepBit c i xt1) (blkFrames x0 x1 x2)) (blkWeights x3) (3 * (i 1).val + r.val / 160) (r.val % 160) n
          * (x7 (ix1 0) * x4 (ix2 0 n)) + x5 (ix2 0 n)) := by
  rw [out12_eq]
  exact (shapeCast_ab_1ab_apply _ _ 0 r n).trans (sum_at c i arg4 harg4 arg5 harg5 arg6 harg6 arg7 harg7 arg8 harg8 arg9 harg9 arg11 harg11 arg13 harg13 x0 x1 x2 x3 x4 x5 x7 x9 xt1 r n)

/-- What the tile leaves in the second output. -/
theorem out11_at (r : Fin 480) (n : Fin 384) :
    out0_A_11 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix3 0 r n)
      = quantAt (x9 (ix3 0 r n) + (convSum (frames (keepBit c i xt1) (blkFrames x0 x1 x2)) (blkWeights x3) (3 * (i 1).val + r.val / 160) (r.val % 160) n
          * (x7 (ix1 0) * x4 (ix2 0 n)) + x5 (ix2 0 n))) (x8 (ix1 0)) := by
  rw [out11_eq]
  refine (shapeCast_ab_1ab_apply _ _ 0 r n).trans ?_
  unfold tileCode
  rw [quantised_apply]
  show quantAt _ (word arg12 harg12 x8) = _
  rw [word_eq, sum_at]

theorem k0_off4_eq : k0_off4 i = ![0, 0, 480 * (i 1).val, 0] := by
  have h : ∀ j : Fin 30, (Scalar.indexCast (Scalar.muli (BitVec.ofNat 32 j.val) 480#32)).toNat = 480 * j.val := by decide
  show ![0, 0, (Scalar.indexCast (Scalar.muli (BitVec.ofNat 32 (i 1).val) 480#32)).toNat, 0] = _
  rw [h (i 1)]

theorem k0_off5_eq : k0_off5 i = ![0, 480 * (i 1).val, 0] := by
  have h : ∀ j : Fin 30, (Scalar.indexCast (Scalar.muli (BitVec.ofNat 32 j.val) 480#32)).toNat = 480 * j.val := by decide
  show ![0, (Scalar.indexCast (Scalar.muli (BitVec.ofNat 32 (i 1).val) 480#32)).toNat, 0] = _
  rw [h (i 1)]

theorem tile_row (j : Fin 30) (r : Fin 480) : 480 * j.val + r.val < 14400 := by omega

/-- What the tile leaves in the new cache: the two latest frames' codes. -/
theorem out10_at (f : Fin 2) (r : Fin 480) (n : Fin 384) :
    out0_A_10 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1 (ix4 0 f r n)
      = decode (frames (keepBit c i xt1) (blkFrames x0 x1 x2) ⟨f.val + 1, by omega⟩ (480 * (i 1).val + r.val) n) := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xt0 xt1), pieces10]
  match f with
  | 1 =>
    refine (canon_frame1 _ _ _ r n).trans ?_
    refine (shapeCast_ab_11ab _ _ 0 0 r n).trans ?_
    show decode _ = decode _
    congr 1
    rw [View.readAt_eq_ld, harg6.read_unread]
    refine (shapeCast_1ab_ab_apply _ _ r n).trans ?_
    refine (View.ld_unit_apply_of x2 _ _ _ (ix3 0 r n) (ix3 0 ⟨480 * (i 1).val + r.val, tile_row (i 1) r⟩ n) ?_).trans ?_
    · intro a
      rw [show k0_off5 i a = _ from congrFun (k0_off5_eq i) a]
      match a with
      | ⟨0, _⟩ => rfl
      | ⟨1, _⟩ => rfl
      | ⟨2, _⟩ => exact (Nat.zero_add _).symm
    · exact (pix_val (blkFrames x0 x1 x2 2) ⟨480 * (i 1).val + r.val, tile_row (i 1) r⟩ n).symm
  | 0 =>
    refine (canon_frame0 _ _ _ _ _ r n).trans ?_
    refine (shapeCast_ab_11ab _ _ 0 0 r n).trans ?_
    show decode _ = decode _
    congr 1
    refine (keptRows_apply (keepBit c i xt1) _ _ _ (by norm_num) r n).trans ?_
    show _ = if keepBit c i xt1 = 1#1 then pix (blkFrames x0 x1 x2 1) (480 * (i 1).val + r.val) n else 0#8
    refine if_congr Iff.rfl ?_ rfl
    rw [View.readAt_eq_ld, harg5.read_unread]
    refine (shapeCast_11ab_ab _ _ r n).trans ?_
    refine (View.ld_unit_apply_of x1 _ _ _ (ix4 0 0 r n) (ix4 0 0 ⟨480 * (i 1).val + r.val, tile_row (i 1) r⟩ n) ?_).trans ?_
    · intro a
      rw [show k0_off4 i a = _ from congrFun (k0_off4_eq i) a]
      match a with
      | ⟨0, _⟩ => rfl
      | ⟨1, _⟩ => rfl
      | ⟨2, _⟩ => rfl
      | ⟨3, _⟩ => exact (Nat.zero_add _).symm
    · exact (pix_val (blkFrames x0 x1 x2 1) ⟨480 * (i 1).val + r.val, tile_row (i 1) r⟩ n).symm

end
end Cert.ConvLast
-- ==== Proof.ConvLastArray.lean ====
/-
  The last convolution's arrays: each input block at a grid point as elements of the arguments, and what the
  three output arrays hold after the last point.
-/
module

public import proofs.«01_k».proof.Proof.ConvLastBlock
public import proofs.«01_k».proof.Proof.ConvSpec
public import Idealize.ShloMosaic.Lib.Pipeline.ValueKit

@[expose] public section

set_option maxRecDepth 16384

namespace Cert.ConvLast

open Idealize.ShloMosaic hiding ix0 ix1 ix2 ix3 ix4 ix5
open Idealize.ShloMosaic.TcCoe Idealize.ShloMosaic.ValueIdx
open Cert.Words Cert.ConvLastIdeal Cert.ConvLastIdeal.Gen

variable (m : (ℓ : Loc nD τ sig) → Buf (Elt Ideal) ℓ) (hO : Ok m) (c : Dev nD)

/-- The grid point's batch entry. -/
def entry (t : Fin (cfgM m hO).N) : Fin 4 := grid0.coords t 0
/-- The grid point's tile of three image rows. -/
def tile (t : Fin (cfgM m hO).N) : Fin 30 := grid0.coords t 1

theorem at_zero {x n y : Nat} (h : x = 0) : x * n + y = y := by rw [h, Nat.zero_mul, Nat.zero_add]
theorem at_block {x n y b r : Nat} (h : x = b) (hy : y = r) : x * n + y = b * n + r := by rw [h, hy]
theorem at_row {x b : Nat} (h : x = b) : x * 1 + 0 = b := by rw [h, Nat.mul_one, Nat.add_zero]
theorem word4 : ∀ b : Fin 4, (BitVec.ofNat 32 b.val).toNat = b.val := by decide
theorem word30 : ∀ j : Fin 30, (BitVec.ofNat 32 j.val).toNat = j.val := by decide

theorem V_v0 : V m c main_v0 = shapeCast S6x2x14400x384 (m ((c : Thread nD τ).loc main_arg2)) shapeCasts_S6x2x90x160x384_S6x2x14400x384 := by
  entry_read; rfl
theorem V_v1 : V m c main_v1 = shapeCast S4x14400x384 (m ((c : Thread nD τ).loc main_arg3)) shapeCasts_S4x1x90x160x384_S4x14400x384 := by
  entry_read; rfl
theorem V_v2 : V m c main_v2 = shapeCast S27x384x384 (m ((c : Thread nD τ).loc main_arg4)) shapeCasts_S3x3x3x384x384_S27x384x384 := by
  entry_read; rfl
theorem V_v3 : V m c main_v3 = shapeCast S1x384 (m ((c : Thread nD τ).loc main_arg5)) shapeCasts_S384_S1x384 := by
  entry_read; rfl
theorem V_v4 : V m c main_v4 = shapeCast S1x384 (m ((c : Thread nD τ).loc main_arg6)) shapeCasts_S384_S1x384 := by
  entry_read; rfl
theorem V_v5 : V m c main_v5 = shapeCast S1 (m ((c : Thread nD τ).loc main_arg7)) shapeCasts_S_S1 := by
  entry_read; rfl
theorem V_v7 : V m c main_v7 = shapeCast S1 (m ((c : Thread nD τ).loc main_arg9)) shapeCasts_S_S1 := by
  entry_read; rfl
theorem V_v8 : V m c main_v8 = shapeCast S4x14400x384 (m ((c : Thread nD τ).loc main_arg10)) shapeCasts_S4x1x90x160x384_S4x14400x384 := by
  entry_read; rfl

theorem tbl_first (c : Dev nD) : tbl m 1 = m ((c : Thread nD τ).loc main_arg1) := by
  obtain rfl : c = 0 := Subsingleton.elim _ _
  exact V_main_arg1 m 0
theorem tbl_slot (c : Dev nD) : tbl m 0 = m ((c : Thread nD τ).loc main_arg0) := by
  obtain rfl : c = 0 := Subsingleton.elim _ _
  exact V_main_arg0 m 0

/-- The table's word a grid point reads is its batch entry's. -/
theorem word_at (i : grid0.Coords) (x : S4.Idx → BitVec 32) :
    x ((Rect.unit (s := S4) (k0_off1 i) S1.size (Gen.facts.k0_off1_inb i)).emb (Shape.Idx.first (Gen.facts.numel1_S1.symm ▸ Nat.one_pos))) = x (ix1 (i 0)) := by
  refine congrArg x (funext fun a => Fin.ext ?_)
  have h : ∀ j : Fin 4, (Scalar.indexCast (BitVec.ofNat 32 j.val)).toNat = j.val := by decide
  match a with
  | ⟨0, _⟩ =>
    rw [ValueKit.rect_emb_unit_val]
    exact (congrArg (fun x => x + 0) (h (i 0))).trans (Nat.add_zero _)

theorem slot_lt (t : Fin (cfgM m hO).N) : ((tbl m 0 : IVec ⟨1, ![4]⟩ 32) (ix1 (entry m hO t))).toNat < 6 := by
  obtain ⟨h, _⟩ := hO.1 (grid0.coords t)
  have e : (cc0_transform_0 Gen.facts.k0_off1_inb Gen.facts.numel1_S1 (tbl m) (grid0.coords t) 0 + 1) * 1 ≤ 6 := h 0
  rw [Nat.mul_one] at e
  exact lt_of_eq_of_lt (congrArg BitVec.toNat (word_at (grid0.coords t) (tbl m 0))).symm e

theorem slot_word (t : Fin (cfgM m hO).N) :
    cc0_transform_0 Gen.facts.k0_off1_inb Gen.facts.numel1_S1 (tbl m) (grid0.coords t) 0 = (slotOf (m ((c : Thread nD τ).loc main_arg0)) (entry m hO t)).val := by
  have h := slot_lt m hO t
  rw [tbl_slot m c] at h
  refine (congrArg BitVec.toNat (word_at (grid0.coords t) (tbl m 0))).trans ?_
  rw [tbl_slot m c]
  exact (Nat.min_eq_left (by exact Nat.le_of_lt_succ h)).symm

theorem iblk2_apply (t : Fin (cfgM m hO).N) (p : Fin 14400) (l : Fin 384) :
    iblk m hO c 2 t (ix3 0 p l) = V m c main_v1 (ix3 (entry m hO t) p l) := by
  refine congrArg (V m c main_v1) (funext fun a => Fin.ext ?_)
  refine (Pipeline.Window.rect_emb_val ((cfgM m hO).win 2) t (ix3 0 p l) a).trans ?_
  match a with
  | ⟨0, _⟩ => exact at_row (word4 (grid0.coords t 0))
  | ⟨1, _⟩ => exact at_zero rfl
  | ⟨2, _⟩ => exact at_zero rfl

theorem iblk0_apply (t : Fin (cfgM m hO).N) (p : Fin 14400) (l : Fin 384) :
    iblk m hO c 0 t (ix4 0 0 p l) = V m c main_v0 (ix4 (slotOf (m ((c : Thread nD τ).loc main_arg0)) (entry m hO t)) 0 p l) := by
  refine congrArg (V m c main_v0) (funext fun a => Fin.ext ?_)
  refine (Pipeline.Window.rect_emb_val ((cfgM m hO).win 0) t (ix4 0 0 p l) a).trans ?_
  match a with
  | ⟨0, _⟩ => exact at_row (slot_word m hO c t)
  | ⟨1, _⟩ => exact at_zero rfl
  | ⟨2, _⟩ => exact at_zero rfl
  | ⟨3, _⟩ => exact at_zero rfl

theorem iblk1_apply (t : Fin (cfgM m hO).N) (p : Fin 14400) (l : Fin 384) :
    iblk m hO c 1 t (ix4 0 0 p l) = V m c main_v0 (ix4 (slotOf (m ((c : Thread nD τ).loc main_arg0)) (entry m hO t)) 1 p l) := by
  refine congrArg (V m c main_v0) (funext fun a => Fin.ext ?_)
  refine (Pipeline.Window.rect_emb_val ((cfgM m hO).win 1) t (ix4 0 0 p l) a).trans ?_
  match a with
  | ⟨0, _⟩ => exact at_row (slot_word m hO c t)
  | ⟨1, _⟩ => exact rfl
  | ⟨2, _⟩ => exact at_zero rfl
  | ⟨3, _⟩ => exact at_zero rfl

theorem iblk3_apply (t : Fin (cfgM m hO).N) (d : Fin 27) (k n : Fin 384) :
    iblk m hO c 3 t (ix3 d k n) = V m c main_v2 (ix3 d k n) := by
  refine congrArg (V m c main_v2) (funext fun a => Fin.ext ?_)
  refine (Pipeline.Window.rect_emb_val ((cfgM m hO).win 3) t (ix3 d k n) a).trans ?_
  match a with
  | ⟨0, _⟩ => exact at_zero rfl
  | ⟨1, _⟩ => exact at_zero rfl
  | ⟨2, _⟩ => exact at_zero rfl

theorem iblk4_apply (t : Fin (cfgM m hO).N) (n : Fin 384) :
    iblk m hO c 4 t (ix2 0 n) = V m c main_v3 (ix2 0 n) := by
  refine congrArg (V m c main_v3) (funext fun a => Fin.ext ?_)
  refine (Pipeline.Window.rect_emb_val ((cfgM m hO).win 4) t (ix2 0 n) a).trans ?_
  match a with
  | ⟨0, _⟩ => exact at_zero rfl
  | ⟨1, _⟩ => exact at_zero rfl

theorem iblk5_apply (t : Fin (cfgM m hO).N) (n : Fin 384) :
    iblk m hO c 5 t (ix2 0 n) = V m c main_v4 (ix2 0 n) := by
  refine congrArg (V m c main_v4) (funext fun a => Fin.ext ?_)
  refine (Pipeline.Window.rect_emb_val ((cfgM m hO).win 5) t (ix2 0 n) a).trans ?_
  match a with
  | ⟨0, _⟩ => exact at_zero rfl
  | ⟨1, _⟩ => exact at_zero rfl

theorem iblk7_apply (t : Fin (cfgM m hO).N) :
    iblk m hO c 7 t (ix1 0) = V m c main_v5 (ix1 0) := by
  refine congrArg (V m c main_v5) (funext fun a => Fin.ext ?_)
  refine (Pipeline.Window.rect_emb_val ((cfgM m hO).win 7) t (ix1 0) a).trans ?_
  match a with
  | ⟨0, _⟩ => exact at_zero rfl

theorem iblk8_apply (t : Fin (cfgM m hO).N) :
    iblk m hO c 8 t (ix1 0) = V m c main_v7 (ix1 0) := by
  refine congrArg (V m c main_v7) (funext fun a => Fin.ext ?_)
  refine (Pipeline.Window.rect_emb_val ((cfgM m hO).win 8) t (ix1 0) a).trans ?_
  match a with
  | ⟨0, _⟩ => exact at_zero rfl

theorem tile_row' (j : Fin 30) (r : Fin 480) : j.val * 480 + r.val < 14400 := by omega

theorem iblk9_apply (t : Fin (cfgM m hO).N) (r : Fin 480) (n : Fin 384) :
    iblk m hO c 9 t (ix3 0 r n) = V m c main_v8 (ix3 (entry m hO t) ⟨(tile m hO t).val * 480 + r.val, tile_row' _ r⟩ n) := by
  refine congrArg (V m c main_v8) (funext fun a => Fin.ext ?_)
  refine (Pipeline.Window.rect_emb_val ((cfgM m hO).win 9) t (ix3 0 r n) a).trans ?_
  match a with
  | ⟨0, _⟩ => exact at_row (word4 (grid0.coords t 0))
  | ⟨1, _⟩ => exact at_block (word30 (grid0.coords t 1)) rfl
  | ⟨2, _⟩ => exact at_zero rfl

/-! The arguments, by what they are. -/

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)
abbrev residualA : Vec Ideal ⟨5, ![4, 1, 90, 160, 384]⟩ .f32 := m ((c : Thread nD τ).loc main_arg10)

theorem keepBit_at (t : Fin (cfgM m hO).N) : keepBit (F := Ideal) c (grid0.coords t) (tbl m 1) = keptBit (firstA m c) (entry m hO t) := by
  refine (congrArg (fun x : BitVec 32 => IntOp.cmpi .ne x 1#32) ((word_at (grid0.coords t) (tbl m 1)).trans ?_))
  exact congrFun (tbl_first m c) (ix1 (entry m hO t))

theorem blkFrames_at (t : Fin (cfgM m hO).N) :
    blkFrames (iblk m hO c 0 t) (iblk m hO c 1 t) (iblk m hO c 2 t) = stageCodes (slotA m c) (poolA m c) (codesA m c) (entry m hO t) := by
  funext f p l
  match f with
  | 0 => exact (iblk0_apply m hO c t p l).trans ((congrFun (V_v0 m c) _).trans (cast_pool _ _ _ _ p l))
  | 1 => exact (iblk1_apply m hO c t p l).trans ((congrFun (V_v0 m c) _).trans (cast_pool _ _ _ _ p l))
  | 2 => exact (iblk2_apply m hO c t p l).trans ((congrFun (V_v1 m c) _).trans (cast_image _ _ _ p l))

theorem blkWeights_at (t : Fin (cfgM m hO).N) :
    blkWeights (iblk m hO c 3 t) = fun a d e k n => weightsA m c (ix5 a d e k n) := by
  funext a d e k n
  exact (iblk3_apply m hO c t _ k n).trans ((congrFun (V_v2 m c) _).trans (cast_taps _ _ a d e k n))

theorem frames_at (t : Fin (cfgM m hO).N) :
    frames (keepBit (F := Ideal) c (grid0.coords t) (tbl m 1)) (blkFrames (iblk m hO c 0 t) (iblk m hO c 1 t) (iblk m hO c 2 t))
      = stageFrames (slotA m c) (firstA m c) (poolA m c) (codesA m c) (entry m hO t) := by
  rw [keepBit_at, blkFrames_at]; rfl

/-- The pixel a tile's row is. -/
def pixel (t : Fin (cfgM m hO).N) (r : Fin 480) : Fin 14400 := ⟨(tile m hO t).val * 480 + r.val, tile_row' _ r⟩

noncomputable abbrev wsB (t : Fin (cfgM m hO).N) : Vec Ideal S1x384 .f32 := iblk m hO c 4 t
noncomputable abbrev biasB (t : Fin (cfgM m hO).N) : Vec Ideal S1x384 .f32 := iblk m hO c 5 t
noncomputable abbrev scaleB (t : Fin (cfgM m hO).N) : Vec Ideal S1 .f32 := iblk m hO c 7 t
noncomputable abbrev nextB (t : Fin (cfgM m hO).N) : Vec Ideal S1 .f32 := iblk m hO c 8 t
noncomputable abbrev residualB (t : Fin (cfgM m hO).N) : Vec Ideal S1x480x384 .f32 := iblk m hO c 9 t

theorem residual_at (t : Fin (cfgM m hO).N) (r : Fin 480) (n : Fin 384) :
    residualB m hO c t (ix3 0 r n) + (convSum (frames (keepBit (F := Ideal) c (grid0.coords t) (tbl m 1)) (blkFrames (iblk m hO c 0 t) (iblk m hO c 1 t) (iblk m hO c 2 t)))
        (blkWeights (iblk m hO c 3 t)) (3 * (grid0.coords t 1).val + r.val / 160) (r.val % 160) n
        * (scaleB m hO c t (ix1 0) * wsB m hO c t (ix2 0 n)) + biasB m hO c t (ix2 0 n))
      = residualSum (slotA m c) (firstA m c) (poolA m c) (codesA m c) (weightsA m c) (wsA m c) (biasA m c) (scaleA m c) (residualA m c)
          (entry m hO t) (pixel m hO t r) n := by
  unfold residualSum stageConv
  rw [frames_at, blkWeights_at]
  have e1 : (pixel m hO t r).val / 160 = 3 * (grid0.coords t 1).val + r.val / 160 := by
    show ((grid0.coords t 1).val * 480 + r.val) / 160 = _; omega
  have e2 : (pixel m hO t r).val % 160 = r.val % 160 := by
    show ((grid0.coords t 1).val * 480 + r.val) % 160 = _; omega
  have e9 : residualB m hO c t (ix3 0 r n) = residualA m c (ix5 (entry m hO t) 0 ⟨(pixel m hO t r).val / 160, by omega⟩ ⟨(pixel m hO t r).val % 160, by omega⟩ n) :=
    (iblk9_apply m hO c t r n).trans ((congrFun (V_v8 m c) _).trans (cast_image _ _ _ (pixel m hO t r) n))
  have e7 : scaleB m hO c t (ix1 0) = scaleA m c ix0 := (iblk7_apply m hO c t).trans ((congrFun (V_v5 m c) _).trans (cast_scalar _ _))
  have e4 : wsB m hO c t (ix2 0 n) = wsA m c (ix1 n) := (iblk4_apply m hO c t n).trans ((congrFun (V_v3 m c) _).trans (cast_row _ _ n))
  have e5 : biasB m hO c t (ix2 0 n) = biasA m c (ix1 n) := (iblk5_apply m hO c t n).trans ((congrFun (V_v4 m c) _).trans (cast_row _ _ n))
  rw [e9, e7, e4, e5, ← e1, ← e2]

/-! What the arrays hold at the end. -/

theorem outs10 (t : Fin (cfgM m hO).N) : (outsAt0 m hO c t).1 = out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem outs11 (t : Fin (cfgM m hO).N) : (outsAt0 m hO c t).2.1 = out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem outs12 (t : Fin (cfgM m hO).N) : (outsAt0 m hO c t).2.2 = out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) := by
  dsimp only [outsAt0]

theorem after12_at (t : Fin (cfgM m hO).N) (r : Fin 480) (n : Fin 384) :
    (outsAt0 m hO c t).2.2 (ix3 0 r n) = residualSum (slotA m c) (firstA m c) (poolA m c) (codesA m c) (weightsA m c) (wsA m c) (biasA m c) (scaleA m c) (residualA m c)
          (entry m hO t) (pixel m hO t r) n := by
  refine (congrFun (outs12 m hO c t) (ix3 0 r n)).trans ?_
  have h := out12_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) r n
  exact h.trans (residual_at m hO c t r n)

theorem after11_at (t : Fin (cfgM m hO).N) (r : Fin 480) (n : Fin 384) :
    (outsAt0 m hO c t).2.1 (ix3 0 r n) = quantAt (residualSum (slotA m c) (firstA m c) (poolA m c) (codesA m c) (weightsA m c) (wsA m c) (biasA m c) (scaleA m c) (residualA m c)
          (entry m hO t) (pixel m hO t r) n) (nextA m c ix0) := by
  refine (congrFun (outs11 m hO c t) (ix3 0 r n)).trans ?_
  have h := out11_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) r n
  refine h.trans ?_
  have e8 : nextB m hO c t (ix1 0) = nextA m c ix0 := (iblk8_apply m hO c t).trans ((congrFun (V_v7 m c) _).trans (cast_scalar _ _))
  rw [← e8]
  exact congrArg (fun h => quantAt h (nextB m hO c t (ix1 0))) (residual_at m hO c t r n)

theorem after10_at (t : Fin (cfgM m hO).N) (f : Fin 2) (r : Fin 480) (n : Fin 384) :
    (outsAt0 m hO c t).1 (ix4 0 f r n) = cacheAt (slotA m c) (firstA m c) (poolA m c) (codesA m c) (entry m hO t) f (pixel m hO t r) n := by
  refine (congrFun (outs10 m hO c t) (ix4 0 f r n)).trans ?_
  have h := out10_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) f r n
  refine h.trans ?_
  unfold cacheAt
  rw [frames_at]
  refine congrArg (fun q => decode (stageFrames (slotA m c) (firstA m c) (poolA m c) (codesA m c) (entry m hO t) ⟨f.val + 1, by omega⟩ q n)) ?_
  show 480 * (grid0.coords t 1).val + r.val = (grid0.coords t 1).val * 480 + r.val
  omega

/-- The grid point of a batch entry and a tile. -/
def point (b : Fin 4) (p : Fin 14400) : Fin (cfgM m hO).N := ⟨b.val * 30 + p.val / 480, by show _ < grid0.N; rw [N_0]; omega⟩

theorem coords_val : ∀ t : Fin grid0.N, (grid0.coords t 0).val = t.val / 30 ∧ (grid0.coords t 1).val = t.val % 30 := by
  decide +kernel

theorem coords_at (b : Fin 4) (j : Fin 30) (h : b.val * 30 + j.val < grid0.N) :
    grid0.coords ⟨b.val * 30 + j.val, h⟩ 0 = b ∧ grid0.coords ⟨b.val * 30 + j.val, h⟩ 1 = j := by
  obtain ⟨e0, e1⟩ := coords_val ⟨b.val * 30 + j.val, h⟩
  refine ⟨Fin.ext (e0.trans ?_), Fin.ext (e1.trans ?_)⟩
  · show (b.val * 30 + j.val) / 30 = b.val; omega
  · show (b.val * 30 + j.val) % 30 = j.val; omega

theorem entry_point (b : Fin 4) (p : Fin 14400) : entry m hO (point m hO b p) = b :=
  (coords_at b ⟨p.val / 480, by omega⟩ _).1
theorem pixel_point (b : Fin 4) (p : Fin 14400) : pixel m hO (point m hO b p) ⟨p.val % 480, by omega⟩ = p := by
  refine Fin.ext ?_
  have h : tile m hO (point m hO b p) = ⟨p.val / 480, by omega⟩ := (coords_at b ⟨p.val / 480, by omega⟩ _).2
  show (tile m hO (point m hO b p)).val * 480 + p.val % 480 = p.val
  rw [h]
  show p.val / 480 * 480 + p.val % 480 = p.val
  omega

theorem emb12 (t : Fin (cfgM m hO).N) (r : Fin 480) (n : Fin 384) :
    (((cfgM m hO).win 12).blk t).view.emb (ix3 0 r n) = ix3 (entry m hO t) (pixel m hO t r) n := by
  refine funext fun a => Fin.ext ?_
  refine (Pipeline.Window.rect_emb_val ((cfgM m hO).win 12) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem emb11 (t : Fin (cfgM m hO).N) (r : Fin 480) (n : Fin 384) :
    (((cfgM m hO).win 11).blk t).view.emb (ix3 0 r n) = ix3 (entry m hO t) (pixel m hO t r) n := by
  refine funext fun a => Fin.ext ?_
  refine (Pipeline.Window.rect_emb_val ((cfgM m hO).win 11) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem emb10 (t : Fin (cfgM m hO).N) (f : Fin 2) (r : Fin 480) (n : Fin 384) :
    (((cfgM m hO).win 10).blk t).view.emb (ix4 0 f r n) = ix4 (entry m hO t) f (pixel m hO t r) n := by
  refine funext fun a => Fin.ext ?_
  refine (Pipeline.Window.rect_emb_val ((cfgM m hO).win 10) t (ix4 0 f r n) a).trans ?_
  match a with
  | ⟨0, _⟩ => exact at_row (word4 (grid0.coords t 0))
  | ⟨1, _⟩ => exact at_zero rfl
  | ⟨2, _⟩ => exact at_block (word30 (grid0.coords t 1)) rfl
  | ⟨3, _⟩ => exact at_zero rfl

/-- An index of a block of one leading row, by its coordinates. -/
theorem idx3_cases (y : S1x480x384.Idx) : ∃ (r : Fin 480) (n : Fin 384), y = ix3 0 r n :=
  ⟨y 1, y 2, funext fun a => match a with
    | ⟨0, _⟩ => Subsingleton.elim (α := Fin 1) _ _
    | ⟨1, _⟩ => rfl
    | ⟨2, _⟩ => rfl⟩
theorem idx4_cases (y : S1x2x480x384.Idx) : ∃ (f : Fin 2) (r : Fin 480) (n : Fin 384), y = ix4 0 f r n :=
  ⟨y 1, y 2, y 3, funext fun a => match a with
    | ⟨0, _⟩ => Subsingleton.elim (α := Fin 1) _ _
    | ⟨1, _⟩ => rfl
    | ⟨2, _⟩ => rfl
    | ⟨3, _⟩ => rfl⟩
theorem idx3_eq (y : S4x14400x384.Idx) : y = ix3 (y 0) (y 1) (y 2) :=
  funext fun a => match a with
    | ⟨0, _⟩ => rfl
    | ⟨1, _⟩ => rfl
    | ⟨2, _⟩ => rfl
theorem idx4_eq (y : S4x2x14400x384.Idx) : y = ix4 (y 0) (y 1) (y 2) (y 3) :=
  funext fun a => match a with
    | ⟨0, _⟩ => rfl
    | ⟨1, _⟩ => rfl
    | ⟨2, _⟩ => rfl
    | ⟨3, _⟩ => rfl

/-- The third output array at the end. -/
noncomputable def sumArr (y : S4x14400x384.Idx) : EReal :=
  residualSum (slotA m c) (firstA m c) (poolA m c) (codesA m c) (weightsA m c) (wsA m c) (biasA m c) (scaleA m c) (residualA m c) (y 0) (y 1) (y 2)
/-- The second. -/
noncomputable def codeArr (y : S4x14400x384.Idx) : EReal :=
  quantAt (residualSum (slotA m c) (firstA m c) (poolA m c) (codesA m c) (weightsA m c) (wsA m c) (biasA m c) (scaleA m c) (residualA m c) (y 0) (y 1) (y 2)) (nextA m c ix0)
/-- The first. -/
noncomputable def cacheArr (y : S4x2x14400x384.Idx) : EReal :=
  cacheAt (slotA m c) (firstA m c) (poolA m c) (codesA m c) (y 0) (y 1) (y 2) (y 3)

theorem cover12 (y : S4x14400x384.Idx) : ∃ (t : Fin (cfgM m hO).N) (r : Fin 480) (n : Fin 384),
    (((cfgM m hO).win 12).blk t).view.emb (ix3 0 r n) = y :=
  ⟨point m hO (y 0) (y 1), ⟨(y 1).val % 480, Nat.mod_lt _ (by decide)⟩, y 2,
    (emb12 m hO _ _ _).trans ((congrArg₂ (fun b p => ix3 b p (y 2)) (entry_point m hO (y 0) (y 1)) (pixel_point m hO (y 0) (y 1))).trans (idx3_eq y).symm)⟩

theorem final12 : (dats m hO 0 c).arrAt 12 (cfgM m hO).N = sumArr m c := by
  refine (dats m hO 0 c).arrAt_eq_of_emb 12 _ (fun t _ y => ?_) (fun y => ?_)
  · obtain ⟨r, n, rfl⟩ := idx3_cases y
    refine Eq.trans ?_ (congrArg (sumArr m c) (emb12 m hO t r n).symm)
    refine Eq.trans ?_ (after12_at m hO c t r n)
    exact congrFun (after0_12 m hO c t) (ix3 0 r n)
  · obtain ⟨t, r, n, e⟩ := cover12 m hO y
    exact ⟨t, flush0_12 _ _, e ▸ View.emb_mem_set _ _⟩

theorem cover11 (y : S4x14400x384.Idx) : ∃ (t : Fin (cfgM m hO).N) (r : Fin 480) (n : Fin 384),
    (((cfgM m hO).win 11).blk t).view.emb (ix3 0 r n) = y :=
  ⟨point m hO (y 0) (y 1), ⟨(y 1).val % 480, Nat.mod_lt _ (by decide)⟩, y 2,
    (emb11 m hO _ _ _).trans ((congrArg₂ (fun b p => ix3 b p (y 2)) (entry_point m hO (y 0) (y 1)) (pixel_point m hO (y 0) (y 1))).trans (idx3_eq y).symm)⟩

theorem final11 : (dats m hO 0 c).arrAt 11 (cfgM m hO).N = codeArr m c := by
  refine (dats m hO 0 c).arrAt_eq_of_emb 11 _ (fun t _ y => ?_) (fun y => ?_)
  · obtain ⟨r, n, rfl⟩ := idx3_cases y
    refine Eq.trans ?_ (congrArg (codeArr m c) (emb11 m hO t r n).symm)
    refine Eq.trans ?_ (after11_at m hO c t r n)
    exact congrFun (after0_11 m hO c t) (ix3 0 r n)
  · obtain ⟨t, r, n, e⟩ := cover11 m hO y
    exact ⟨t, flush0_11 _ _, e ▸ View.emb_mem_set _ _⟩

theorem cover10 (y : S4x2x14400x384.Idx) : ∃ (t : Fin (cfgM m hO).N) (f : Fin 2) (r : Fin 480) (n : Fin 384),
    (((cfgM m hO).win 10).blk t).view.emb (ix4 0 f r n) = y :=
  ⟨point m hO (y 0) (y 2), y 1, ⟨(y 2).val % 480, Nat.mod_lt _ (by decide)⟩, y 3,
    (emb10 m hO _ _ _ _).trans ((congrArg₂ (fun b p => ix4 b (y 1) p (y 3)) (entry_point m hO (y 0) (y 2)) (pixel_point m hO (y 0) (y 2))).trans (idx4_eq y).symm)⟩

theorem final10 : (dats m hO 0 c).arrAt 10 (cfgM m hO).N = cacheArr m c := by
  refine (dats m hO 0 c).arrAt_eq_of_emb 10 _ (fun t _ y => ?_) (fun y => ?_)
  · obtain ⟨f, r, n, rfl⟩ := idx4_cases y
    refine Eq.trans ?_ (congrArg (cacheArr m c) (emb10 m hO t f r n).symm)
    refine Eq.trans ?_ (after10_at m hO c t f r n)
    exact congrFun (after0_10 m hO c t) (ix4 0 f r n)
  · obtain ⟨t, f, r, n, e⟩ := cover10 m hO y
    exact ⟨t, flush0_10 _ _, e ▸ View.emb_mem_set _ _⟩

end Cert.ConvLast
-- ==== Proof.ConvLastRef.lean ====
/-
  The last convolution's reference: its three results as functions of the arguments.
-/
module

public import proofs.«01_k».proof.Proof.RefConv
public import proofs.«01_k».proof.Proof.Gen.ConvLastRefIdeal.Frame
public import Idealize.ShloMosaic.Lib.Pipeline.ValueKit

@[expose] public section

set_option maxRecDepth 16384

namespace Cert.ConvLastRef

open Idealize.ShloMosaic hiding ix0 ix1 ix2 ix3 ix4 ix5
open Idealize.ShloMosaic.TcCoe Idealize.ShloMosaic.ValueIdx
open Cert.Words Cert.ConvLastRefIdeal Cert.ConvLastRefIdeal.Gen

section
variable {F : FTy → Type} [FloatOps F]
variable (x0 : Vec F S4x3x90x160x384 .i8) (x1 : Vec F S4x3x92x162x384 .i8) (x2 : Vec F S3x3x3x384x384 .fp8e4m3) (x3 x4 : Vec F S1x384 .f32) (x5 x6 : Vec F S1x1 .f32)
  (x7 : Vec F S4x1x90x160x384 .f32)

theorem zero5 : (![0, 0, 0, 0, 0] : Fin 5 → Nat) = fun _ => 0 := by decide
theorem zero4 : (![0, 0, 0, 0] : Fin 4 → Nat) = fun _ => 0 := by decide
theorem zero3 : (![0, 0, 0] : Fin 3 → Nat) = fun _ => 0 := by decide
theorem zero2 : (![0, 0] : Fin 2 → Nat) = fun _ => 0 := by decide

theorem rows_eq : k0_pay18 x0 x1 x2 x3 x4 x5 x6 x7
    = addf (shapeCast S57600x384 (View.ld x7 (Rect.unit (s := S4x1x90x160x384) ![0, 0, 0, 0, 0] S4x1x90x160x384.size inb_S4x1x90x160x384_S4x1x90x160x384_0_0_0_0_0)) shapeCasts_S4x1x90x160x384_S57600x384)
       (refConv x1 x2 (View.ld x3 (Rect.unit (s := S1x384) ![0, 0] S1x384.size inb_S1x384_S1x384_0_0)) (View.ld x4 (Rect.unit (s := S1x384) ![0, 0] S1x384.size inb_S1x384_S1x384_0_0)) (View.ld x5 (Rect.unit (s := S1x1) ![0, 0] S1x1.size inb_S1x1_S1x1_0_0))) := rfl

theorem codes_eq (v : FVec F S57600x384 .f32) (s : Vec F S1x1 .f32) : k0_pay2 v s
    = shapeCast S4x14400x384 (quantised v (broadcastTo S57600x384 (shapeCast S1x1 s shapeCasts_S1x1_S1x1) broadcasts_S1x1_S57600x384)) shapeCasts_S57600x384_S4x14400x384 := rfl

theorem out10_eq : out0_10 x0 x1 x2 x3 x4 x5 x6 x7 = shapeCast S4x14400x384 (k0_pay18 x0 x1 x2 x3 x4 x5 x6 x7) shapeCasts_S57600x384_S4x14400x384 := by
  unfold out0_10
  exact (View.canon_unit_zero zero3 _ _).trans rfl
theorem out9_eq : out0_9 x0 x1 x2 x3 x4 x5 x6 x7 = k0_pay2 (k0_pay18 x0 x1 x2 x3 x4 x5 x6 x7) x6 := by
  unfold out0_9
  refine (View.canon_unit_zero zero3 _ _).trans ?_
  rw [View.ld_unit_zero zero2]
end

variable (m : (ℓ : Loc nD τ sig) → Buf (Elt Ideal) ℓ) (c : Dev nD)

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨5, ![3, 3, 3, 384, 384]⟩ .fp8e4m3 := m ((c : Thread nD τ).loc main_arg4)
abbrev wsA : Vec Ideal ⟨1, ![384]⟩ .f32 := m ((c : Thread nD τ).loc main_arg5)
abbrev biasA : Vec Ideal ⟨1, ![384]⟩ .f32 := m ((c : Thread nD τ).loc main_arg6)
abbrev scaleA : Vec Ideal ⟨0, ![]⟩ .f32 := m ((c : Thread nD τ).loc main_arg7)
abbrev gammaA : Vec Ideal ⟨1, ![384]⟩ .f32 := m ((c : Thread nD τ).loc main_arg8)
abbrev nextA : Vec Ideal ⟨0, ![]⟩ .f32 := m ((c : Thread nD τ).loc main_arg9)
abbrev residualA : Vec Ideal ⟨5, ![4, 1, 90, 160, 384]⟩ .f32 := m ((c : Thread nD τ).loc main_arg10)

theorem V_v11 : V m c main_v11 = threeFrames (slotA m c) (firstA m c) (poolA m c) (codesA m c) := by
  entry_read; rfl
set_option maxHeartbeats 1000000 in
theorem V_v12 : V m c main_v12 = borderedFrames (slotA m c) (firstA m c) (poolA m c) (codesA m c) := by
  entry_read; rfl
theorem V_v13 : V m c main_v13 = shapeCast S1x384 (wsA m c) shapeCasts_S384_S1x384 := by
  entry_read; rfl
theorem V_v14 : V m c main_v14 = shapeCast S1x384 (biasA m c) shapeCasts_S384_S1x384 := by
  entry_read; rfl
theorem V_v15 : V m c main_v15 = shapeCast S1x1 (scaleA m c) shapeCasts_S_S1x1 := by
  entry_read; rfl
theorem V_v16 : V m c main_v16 = shapeCast S1x1 (nextA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_v11 := by
  funext y
  refine congrArg (V m c main_v11) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_v12 := by
  funext y
  refine congrArg (V m c main_v12) (funext fun a => Fin.ext ?_)
  refine (Pipeline.Window.rect_emb_val (cfg0.win 1) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk2 (t : Fin cfg0.N) : iblk m c 2 t = V m c main_arg4 := by
  funext y
  refine congrArg (V m c main_arg4) (funext fun a => Fin.ext ?_)
  refine (Pipeline.Window.rect_emb_val (cfg0.win 2) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk3 (t : Fin cfg0.N) : iblk m c 3 t = V m c main_v13 := by
  funext y
  refine congrArg (V m c main_v13) (funext fun a => Fin.ext ?_)
  refine (Pipeline.Window.rect_emb_val (cfg0.win 3) t y a).trans ?_
  match a with
  | ⟨0, _⟩ => exact at_zero rfl
  | ⟨1, _⟩ => exact at_zero rfl

theorem iblk4 (t : Fin cfg0.N) : iblk m c 4 t = V m c main_v14 := by
  funext y
  refine congrArg (V m c main_v14) (funext fun a => Fin.ext ?_)
  refine (Pipeline.Window.rect_emb_val (cfg0.win 4) t y a).trans ?_
  match a with
  | ⟨0, _⟩ => exact at_zero rfl
  | ⟨1, _⟩ => exact at_zero rfl

theorem iblk5 (t : Fin cfg0.N) : iblk m c 5 t = V m c main_v15 := by
  funext y
  refine congrArg (V m c main_v15) (funext fun a => Fin.ext ?_)
  refine (Pipeline.Window.rect_emb_val (cfg0.win 5) t y a).trans ?_
  match a with
  | ⟨0, _⟩ => exact at_zero rfl
  | ⟨1, _⟩ => exact at_zero rfl

theorem iblk6 (t : Fin cfg0.N) : iblk m c 6 t = V m c main_v16 := by
  funext y
  refine congrArg (V m c main_v16) (funext fun a => Fin.ext ?_)
  refine (Pipeline.Window.rect_emb_val (cfg0.win 6) t y a).trans ?_
  match a with
  | ⟨0, _⟩ => exact at_zero rfl
  | ⟨1, _⟩ => exact at_zero rfl

theorem iblk7 (t : Fin cfg0.N) : iblk m c 7 t = V m c main_arg10 := by
  funext y
  refine congrArg (V m c main_arg10) (funext fun a => Fin.ext ?_)
  refine (Pipeline.Window.rect_emb_val (cfg0.win 7) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

/-- The sum of the residual and the convolution, by row. -/
theorem rows_at (t : Fin cfg0.N) (b : Fin 4) (h : (slotA m c (ix1 b)).toNat < 6) (p : Fin 14400) (n : Fin 384) :
    k0_pay18 (iblk m c 0 t) (iblk m c 1 t) (iblk m c 2 t) (iblk m c 3 t) (iblk m c 4 t) (iblk m c 5 t) (iblk m c 6 t) (iblk m c 7 t) (ix2 (rowOf b p) n)
      = residualSum (slotA m c) (firstA m c) (poolA m c) (codesA m c) (weightsA m c) (wsA m c) (biasA m c) (scaleA m c) (residualA m c) b p n := by
  rw [rows_eq, View.ld_unit_zero zero5, View.ld_unit_zero zero2, View.ld_unit_zero zero2, View.ld_unit_zero zero2,
    iblk1, iblk2, iblk3, iblk4, iblk5, iblk7, V_v12, V_v13, V_v14, V_v15, V_main_arg4, V_main_arg10]
  exact congrArg₂ (fun x y : EReal => x + y) (cast_pixels _ _ b p n) (refConv_apply (slotA m c) (firstA m c) (poolA m c) (codesA m c) (weightsA m c) (wsA m c) (biasA m c) (scaleA m c) _ _ _ b h p n)

theorem out10_at (t : Fin cfg0.N) (b : Fin 4) (h : (slotA m c (ix1 b)).toNat < 6) (p : Fin 14400) (n : Fin 384) :
    out0_10 (iblk m c 0 t) (iblk m c 1 t) (iblk m c 2 t) (iblk m c 3 t) (iblk m c 4 t) (iblk m c 5 t) (iblk m c 6 t) (iblk m c 7 t) (ix3 b p n)
      = residualSum (slotA m c) (firstA m c) (poolA m c) (codesA m c) (weightsA m c) (wsA m c) (biasA m c) (scaleA m c) (residualA m c) b p n := by
  rw [out10_eq]
  exact (cast_rows _ _ b p n).trans (rows_at m c t b h p n)

theorem out9_at (t : Fin cfg0.N) (b : Fin 4) (h : (slotA m c (ix1 b)).toNat < 6) (p : Fin 14400) (n : Fin 384) :
    out0_9 (iblk m c 0 t) (iblk m c 1 t) (iblk m c 2 t) (iblk m c 3 t) (iblk m c 4 t) (iblk m c 5 t) (iblk m c 6 t) (iblk m c 7 t) (ix3 b p n)
      = quantAt (residualSum (slotA m c) (firstA m c) (poolA m c) (codesA m c) (weightsA m c) (wsA m c) (biasA m c) (scaleA m c) (residualA m c) b p n) (nextA m c ix0) := by
  rw [out9_eq, codes_eq]
  refine (cast_rows _ _ b p n).trans ?_
  rw [quantised_apply, broadcast_one, shapeCast_self, rows_at m c t b h p n, iblk6, V_v16, cast_one]

theorem out8_at (t : Fin cfg0.N) (b : Fin 4) (h : (slotA m c (ix1 b)).toNat < 6) (f : Fin 2) (p : Fin 14400) (n : Fin 384) :
    out0_8 (iblk m c 0 t) (iblk m c 1 t) (iblk m c 2 t) (iblk m c 3 t) (iblk m c 4 t) (iblk m c 5 t) (iblk m c 6 t) (iblk m c 7 t) (ix4 b f p n)
      = cacheAt (slotA m c) (firstA m c) (poolA m c) (codesA m c) b f p n := by
  unfold out0_8
  refine (congrFun (View.canon_unit_zero zero4 _ _) _).trans ?_
  rw [iblk0, V_v11]
  exact refCache_apply (slotA m c) (firstA m c) (poolA m c) (codesA m c) _ _ _ _ b h f p n

/-- The three results at the end. -/
noncomputable def sumArr (y : S4x14400x384.Idx) : EReal :=
  residualSum (slotA m c) (firstA m c) (poolA m c) (codesA m c) (weightsA m c) (wsA m c) (biasA m c) (scaleA m c) (residualA m c) (y 0) (y 1) (y 2)
noncomputable def codeArr (y : S4x14400x384.Idx) : EReal :=
  quantAt (residualSum (slotA m c) (firstA m c) (poolA m c) (codesA m c) (weightsA m c) (wsA m c) (biasA m c) (scaleA m c) (residualA m c) (y 0) (y 1) (y 2)) (nextA m c ix0)
noncomputable def cacheArr (y : S4x2x14400x384.Idx) : EReal :=
  cacheAt (slotA m c) (firstA m c) (poolA m c) (codesA m c) (y 0) (y 1) (y 2) (y 3)

/-- The one grid point. -/
def point : Fin cfg0.N := ⟨0, by decide⟩

theorem emb10 (y : S4x14400x384.Idx) : ((cfg0.win 10).blk point).view.emb y = y := by
  funext a; refine Fin.ext ((Pipeline.Window.rect_emb_val (cfg0.win 10) point y a).trans ?_)
  match a with
  | ⟨0, _⟩ => exact at_zero rfl
  | ⟨1, _⟩ => exact at_zero rfl
  | ⟨2, _⟩ => exact at_zero rfl
theorem emb9 (y : S4x14400x384.Idx) : ((cfg0.win 9).blk point).view.emb y = y := by
  funext a; refine Fin.ext ((Pipeline.Window.rect_emb_val (cfg0.win 9) point y a).trans ?_)
  match a with
  | ⟨0, _⟩ => exact at_zero rfl
  | ⟨1, _⟩ => exact at_zero rfl
  | ⟨2, _⟩ => exact at_zero rfl
theorem emb8 (y : S4x2x14400x384.Idx) : ((cfg0.win 8).blk point).view.emb y = y := by
  funext a; refine Fin.ext ((Pipeline.Window.rect_emb_val (cfg0.win 8) point y a).trans ?_)
  match a with
  | ⟨0, _⟩ => exact at_zero rfl
  | ⟨1, _⟩ => exact at_zero rfl
  | ⟨2, _⟩ => exact at_zero rfl
  | ⟨3, _⟩ => exact at_zero rfl

theorem one_point (t : Fin cfg0.N) : t = point := by
  have h : ∀ t : Fin grid0.N, t = ⟨0, by decide⟩ := by decide +kernel
  exact h t

theorem final10 (h : ∀ b : Fin 4, (slotA m c (ix1 b)).toNat < 6) : (dats m 0 c).arrAt 10 cfg0.N = sumArr m c := by
  refine (dats m 0 c).arrAt_eq_of_emb 10 _ (fun t _ y => ?_) (fun y => ?_)
  · obtain rfl := one_point t
    refine Eq.trans ?_ (congrArg (sumArr m c) (emb10 y).symm)
    refine (congrFun (after0_10 m c point) y).trans ?_
    refine (congrArg _ (idx3_eta y)).trans ?_
    exact out10_at m c point (y 0) (h _) (y 1) (y 2)
  · exact ⟨point, by decide +kernel, (emb10 y) ▸ View.emb_mem_set _ _⟩

theorem final9 (h : ∀ b : Fin 4, (slotA m c (ix1 b)).toNat < 6) : (dats m 0 c).arrAt 9 cfg0.N = codeArr m c := by
  refine (dats m 0 c).arrAt_eq_of_emb 9 _ (fun t _ y => ?_) (fun y => ?_)
  · obtain rfl := one_point t
    refine Eq.trans ?_ (congrArg (codeArr m c) (emb9 y).symm)
    refine (congrFun (after0_9 m c point) y).trans ?_
    refine (congrArg _ (idx3_eta y)).trans ?_
    exact out9_at m c point (y 0) (h _) (y 1) (y 2)
  · exact ⟨point, by decide +kernel, (emb9 y) ▸ View.emb_mem_set _ _⟩

theorem final8 (h : ∀ b : Fin 4, (slotA m c (ix1 b)).toNat < 6) : (dats m 0 c).arrAt 8 cfg0.N = cacheArr m c := by
  refine (dats m 0 c).arrAt_eq_of_emb 8 _ (fun t _ y => ?_) (fun y => ?_)
  · obtain rfl := one_point t
    refine Eq.trans ?_ (congrArg (cacheArr m c) (emb8 y).symm)
    refine (congrFun (after0_8 m c point) y).trans ?_
    refine (congrArg _ (idx4_eta y)).trans ?_
    exact out8_at m c point (y 0) (h _) (y 1) (y 2) (y 3)
  · exact ⟨point, by decide +kernel, (emb8 y) ▸ View.emb_mem_set _ _⟩

end Cert.ConvLastRef
-- ==== Proof.ConvLastRun.lean ====
/-
  The last convolution's run and its reference's run, each with the arrays it ends with, and the equality of
  the two families of arrays when the arguments agree.
-/
module

public import proofs.«01_k».proof.Proof.ConvLastArray
public import proofs.«01_k».proof.Proof.ConvLastRef
public import proofs.«01_k».proof.Proof.Gen.ConvLastIdeal.Frame
public import proofs.«01_k».proof.Proof.Gen.ConvLastRefIdeal.Frame

@[expose] public section

set_option maxRecDepth 16384

namespace Cert.ConvLast

open Idealize.ShloMosaic hiding ix0 ix1 ix2 ix3 ix4 ix5
open Idealize.ShloMosaic.TcCoe Idealize.ShloMosaic.ValueIdx
open Idealize.SL.Sem
open Cert.Words Cert.ConvLastIdeal Cert.ConvLastIdeal.Gen

/-- The kernel ends with the new cache, the next stage's codes and the residual sum. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ fun r => ∀ c : Dev nD,
      r.2.mem ((c : Thread nD τ).loc main_v9_0) = cacheArr m c
      ∧ r.2.mem ((c : Thread nD τ).loc main_v9_1) = codeArr m c
      ∧ r.2.mem ((c : Thread nD τ).loc main_v9_2) = sumArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1 10).trans (final10 m hO c), ((h c).1 11).trans (final11 m hO c), ((h c).1 12).trans (final12 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) (run_main m ρ hO)

end Cert.ConvLast

namespace Cert.ConvLastRef

open Idealize.ShloMosaic hiding ix0 ix1 ix2 ix3 ix4 ix5
open Idealize.ShloMosaic.TcCoe Idealize.ShloMosaic.ValueIdx
open Idealize.SL.Sem
open Cert.Words Cert.ConvLastRefIdeal Cert.ConvLastRefIdeal.Gen

/-- The reference ends with the same three arrays of its own arguments. -/
theorem run_arrays (m : (ℓ : Loc nD τ sig) → Buf (Elt Ideal) ℓ) (ρ : Dev nD → PrngReg)
    (h6 : ∀ (c : Dev nD) (b : Fin 4), (slotA m c (ix1 b)).toNat < 6) :
    θ_run defs (onTc (τ := τ) (main (F := Ideal))) ⟨m, fun _ => 0, ρ⟩ fun r => ∀ c : Dev nD,
      r.2.mem ((c : Thread nD τ).loc main_v17_0) = cacheArr m c
      ∧ r.2.mem ((c : Thread nD τ).loc main_v17_1) = codeArr m c
      ∧ r.2.mem ((c : Thread nD τ).loc main_v17_2) = sumArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1 8).trans (final8 m c (h6 c)), ((h c).1 9).trans (final9 m c (h6 c)), ((h c).1 10).trans (final10 m c (h6 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 7).trans (((dats m 0 c).arrAt_in 7 rfl _).trans ((A_eq m c 7).trans (V_main_arg10 m c)))⟩) (run_main m ρ)

/-- Arguments that agree give arrays that agree. -/
theorem arrays_eq (m' : (ℓ : Loc nD τ sig) → Buf (Elt Ideal) ℓ) (m : (ℓ : Loc Cert.ConvLastIdeal.nD Cert.ConvLastIdeal.τ Cert.ConvLastIdeal.sig) → Buf (Elt Ideal) ℓ) (c : Dev nD)
    (h0 : slotA m' c = ConvLast.slotA m c)
    (h1 : firstA m' c = ConvLast.firstA m c)
    (h2 : poolA m' c = ConvLast.poolA m c)
    (h3 : codesA m' c = ConvLast.codesA m c)
    (h4 : weightsA m' c = ConvLast.weightsA m c)
    (h5 : wsA m' c = ConvLast.wsA m c)
    (h6 : biasA m' c = ConvLast.biasA m c)
    (h7 : scaleA m' c = ConvLast.scaleA m c)
    (h9 : nextA m' c = ConvLast.nextA m c)
    (h10 : residualA m' c = ConvLast.residualA m c)
    : cacheArr m' c = ConvLast.cacheArr m c ∧ codeArr m' c = ConvLast.codeArr m c ∧ sumArr m' c = ConvLast.sumArr m c := by
  refine ⟨funext fun y => ?_, funext fun y => ?_, funext fun y => ?_⟩
  · unfold cacheArr ConvLast.cacheArr; rw [h0, h1, h2, h3]
  · unfold codeArr ConvLast.codeArr; rw [h0, h1, h2, h3, h4, h5, h6, h7, h9, h10]
  · unfold sumArr ConvLast.sumArr; rw [h0, h1, h2, h3, h4, h5, h6, h7, h10]

end Cert.ConvLastRef
-- ==== Proof.Up.lean ====
/-
  The spatial stage's tile: one row of the small image gives two rows of the doubled one.  A position of the doubled
  image is `(2 j + r, 2 x + s)`; the pixel of the small image that the tap `(dh, dw)` of a 3×3 kernel finds there is
  `(j + half r dh, x + half s dw)`, counted from a border of one pixel.
-/
module

public import proofs.«01_k».proof.Proof.Conv

@[expose] public section

set_option maxRecDepth 16384

namespace Cert.Words

open Idealize.ShloMosaic hiding ix0 ix1 ix2 ix3 ix4 ix5
open Idealize.ShloMosaic.TcCoe Idealize.ShloMosaic.ValueIdx

/-! ## Which image rows a tile takes -/

/-- The image row that tile `j` takes at vertical position `d`, as the kernel computes it. -/
def upWord (j d : BitVec 32) : BitVec 32 := Scalar.addi (Scalar.subi (Scalar.addi j d) 1#32) 0#32

/-- Whether that row lies in the image. -/
def upOk (j : BitVec 32) (d : Fin 3) : BitVec 1 :=
  Scalar.andi (Scalar.andi (Scalar.cmpi .sge (upWord j (BitVec.ofNat 32 d.val)) 0#32) (Scalar.cmpi .slt (upWord j (BitVec.ofNat 32 d.val)) 90#32)) 1#1

/-- The first pixel of that row, the row clipped to the image. -/
def upStart (j d : BitVec 32) : Nat :=
  (Scalar.indexCast (Scalar.muli (Scalar.minsi 89#32 (Scalar.maxsi 0#32 (upWord j d))) 160#32)).toNat

theorem upOk_iff : ∀ (j : Fin 90) (d : Fin 3), (upOk (BitVec.ofNat 32 j.val) d = 1#1) ↔ (1 ≤ j.val + d.val ∧ j.val + d.val ≤ 90) := by
  decide +kernel

theorem upStart_eq : ∀ (j : Fin 90) (d : Fin 3), 1 ≤ j.val + d.val → j.val + d.val ≤ 90 →
    upStart (BitVec.ofNat 32 j.val) (BitVec.ofNat 32 d.val) = 160 * (j.val + d.val - 1) := by decide +kernel

theorem upStart_lt : ∀ (j : Fin 90) (d : Fin 3), upStart (BitVec.ofNat 32 j.val) (BitVec.ofNat 32 d.val) + 160 ≤ 14400 := by
  decide +kernel

/-! ## The left operand of a product -/

/-- The three horizontal positions of a product: the row shifted up, the row, the row shifted down. -/
def rowShifted (I : IVec ⟨2, ![40, 384]⟩ 32) (hr : (⟨2, ![40, 384]⟩ : Shape).Rotates 0 none) (w : IVec ⟨2, ![40, 384]⟩ 32) :
    Fin 3 → IVec ⟨2, ![40, 384]⟩ 32
  | 0 => up I w hr
  | 1 => w
  | 2 => down 39#32 I w hr

/-- The codes of a row of words at a horizontal position. -/
def rowCodes (w : IVec ⟨2, ![40, 384]⟩ 32) (e : Fin 3) : IVec ⟨2, ![160, 384]⟩ 8 :=
  bitcast ⟨2, ![160, 384]⟩ 8 (rowShifted (place 40 (by decide) (by decide)) (by decide) w e) (by decide)

/-- The code that horizontal position `e` finds at pixel `p` of a row: that of pixel `p + e - 1`, or zero. -/
theorem rowCodes_apply (w : IVec ⟨2, ![40, 384]⟩ 32) (v : Nat → Fin 384 → BitVec 8)
    (hc : (⟨2, ![40, 384]⟩ : Shape).Bitcasts 32 ⟨2, ![160, 384]⟩ 8)
    (hw : ∀ (p : Fin 160) (l : Fin 384), bitcast ⟨2, ![160, 384]⟩ 8 w hc (ix2 p l) = v p.val l) (e : Fin 3) (p : Fin 160) (l : Fin 384) :
    rowCodes w e (ix2 p l) = if 1 ≤ p.val + e.val ∧ p.val + e.val ≤ 160 then v (p.val + e.val - 1) l else 0#8 := by
  have hp := p.isLt
  match e with
  | 0 =>
    refine (up_bytes (place 40 (by decide) (by decide)) w (by decide) (place_apply (by decide) (by decide) (by decide)) hc (by decide) (by decide) p l).trans ?_
    simp only [Fin.val_zero, Nat.add_zero]
    by_cases h0 : p.val = 0
    · rw [dif_pos (by omega), if_neg (by omega)]
    · rw [dif_neg (by omega), if_pos (by omega)]
      exact hw ⟨p.val - 1, by omega⟩ l
  | 1 =>
    simp only [Fin.val_one, Nat.add_sub_cancel]
    rw [if_pos (by omega)]
    exact hw p l
  | 2 =>
    refine (down_bytes 39#32 (place 40 (by decide) (by decide)) w (by decide) (place_apply (by decide) (by decide) (by decide)) (by decide) hc (by decide) (by decide) p l).trans ?_
    simp only [Fin.val_two]
    by_cases h0 : p.val = 159
    · rw [dif_pos (by omega), if_neg (by omega)]
    · rw [dif_neg (by omega), if_pos (by omega)]
      exact hw ⟨p.val + 1, by omega⟩ l

/-- The codes of the row that tile `j` takes at vertical position `d`, at horizontal position `e`. -/
theorem upCodes_apply (j : Fin 90) (d e : Fin 3) (x : IVec ⟨2, ![160, 384]⟩ 8) (im : Nat → Fin 384 → BitVec 8)
    (h : (⟨2, ![160, 384]⟩ : Shape).Bitcasts 8 ⟨2, ![40, 384]⟩ 32)
    (hx : ∀ (q : Fin 160) (l : Fin 384), x (ix2 q l) = im (upStart (BitVec.ofNat 32 j.val) (BitVec.ofNat 32 d.val) + q.val) l)
    (p : Fin 160) (l : Fin 384) :
    rowCodes (rowWords (upOk (BitVec.ofNat 32 j.val) d) x h) e (ix2 p l) = padded im (j.val + d.val) (p.val + e.val) l := by
  have hp := p.isLt
  refine (rowCodes_apply _ (fun q l => if hq : q < 160 then (if upOk (BitVec.ofNat 32 j.val) d = 1#1 then x (ix2 ⟨q, hq⟩ l) else 0#8) else 0#8)
    (by decide) (fun q l => ?_) e p l).trans ?_
  · have hq := q.isLt
    rw [dif_pos hq, bytes_apply _ (by decide) q l ⟨q.val / 4, by omega⟩ rfl]
    exact rowWords_byte _ x h ⟨q.val / 4, by omega⟩ l (q.val % 4) (by omega) q (by simp only []; omega)
  · unfold padded
    by_cases hX : 1 ≤ p.val + e.val ∧ p.val + e.val ≤ 160
    · rw [if_pos hX, dif_pos (by omega)]
      by_cases hY : 1 ≤ j.val + d.val ∧ j.val + d.val ≤ 90
      · rw [if_pos ((upOk_iff j d).2 hY), if_pos ⟨hY, hX⟩, hx, upStart_eq j d hY.1 hY.2]
        congr 1; simp only []; omega
      · rw [if_neg (fun h => hY ((upOk_iff j d).1 h)), if_neg (fun h => hY h.1)]
    · rw [if_neg hX, if_neg (fun h => hX h.2)]

/-! ## The sum of the products -/

/-- Which of the three neighbours, of a pixel of the small image, is under tap `d` of the doubled image at parity `r`. -/
def half (r : Fin 2) (d : Fin 3) : Fin 3 :=
  match r, d with
  | 0, 0 => 0
  | 0, 1 => 1
  | 0, 2 => 1
  | 1, 0 => 1
  | 1, 1 => 1
  | 1, 2 => 2

theorem half_val : ∀ (r : Fin 2) (d : Fin 3), (half r d).val = (r.val + d.val + 1) / 2 := by decide

/-- The sum over the nine taps, row by row. -/
def sum9 {α : Type} (add : α → α → α) (f : Fin 3 → Fin 3 → α) : α :=
  add (add (add (add (add (add (add (add (f 0 0) (f 0 1)) (f 0 2)) (f 1 0)) (f 1 1)) (f 1 2)) (f 2 0)) (f 2 1)) (f 2 2)

theorem sum9_congr {α : Type} (add : α → α → α) {f g : Fin 3 → Fin 3 → α} (h : ∀ a b, f a b = g a b) : sum9 add f = sum9 add g := by
  have : f = g := funext fun a => funext fun b => h a b
  rw [this]

theorem sum9_apply {s : Shape} (f : Fin 3 → Fin 3 → FVec Ideal s .f32) (i : s.Idx) :
    sum9 addf f i = sum9 (fun a b : EReal => a + b) (fun x y => f x y i) := rfl

/-- The 3×3 convolution of the doubled image at `(y, x)`, before its scale. -/
noncomputable def upSum (im : Nat → Fin 384 → BitVec 8) (w : Fin 3 → Fin 3 → Fin 384 → Fin 192 → EReal) (y x : Nat) (n : Fin 192) : EReal :=
  sum9 (fun a b : EReal => a + b) fun dh dw => tapSum im (w dh dw) ((y + dh.val + 1) / 2) ((x + dw.val + 1) / 2) n

/-- One product of a tile. -/
def upTap {F : FTy → Type} [FloatOps F] (j : BitVec 32) (x : Fin 3 → IVec ⟨2, ![160, 384]⟩ 8) (w : Fin 3 → Fin 3 → Vec F ⟨3, ![1, 384, 192]⟩ .fp8e4m3)
    (r s : Fin 2) (dh dw : Fin 3) : FVec F ⟨2, ![160, 192]⟩ .f32 :=
  matmul (DotDims.plain 160 384 192) none
    (bitcastToFloat .fp8e4m3 (rowCodes (rowWords (upOk j (half r dh)) (x (half r dh)) (by decide)) (half s dw)))
    (shapeCast ⟨2, ![384, 192]⟩ (w dh dw) (by decide)) (constant ⟨2, ![160, 192]⟩ .f32 0x00000000#32)

/-- The tile's sum of products at parity `(r, s)`. -/
theorem upTile_apply (j : Fin 90) (x : Fin 3 → IVec ⟨2, ![160, 384]⟩ 8) (im : Nat → Fin 384 → BitVec 8)
    (hx : ∀ (d : Fin 3) (q : Fin 160) (l : Fin 384), x d (ix2 q l) = im (upStart (BitVec.ofNat 32 j.val) (BitVec.ofNat 32 d.val) + q.val) l)
    (w : Fin 3 → Fin 3 → Vec Ideal ⟨3, ![1, 384, 192]⟩ .fp8e4m3) (r s : Fin 2) (p : Fin 160) (n : Fin 192) :
    sum9 addf (upTap (F := Ideal) (BitVec.ofNat 32 j.val) x w r s) (ix2 p n)
      = upSum im (fun dh dw k n => w dh dw (ix3 0 k n)) (2 * j.val + r.val) (2 * p.val + s.val) n := by
  refine (sum9_apply _ (ix2 p n)).trans (sum9_congr _ fun dh dw => ?_)
  refine (product_apply _ _ p n).trans (Finset.sum_congr rfl fun k _ => ?_)
  rw [upCodes_apply j (half r dh) (half s dw) (x (half r dh)) im (by decide) (hx (half r dh)) p k, shapeCast_1ab_ab_apply, half_val, half_val]
  have e1 : j.val + (r.val + dh.val + 1) / 2 = (2 * j.val + r.val + dh.val + 1) / 2 := by omega
  have e2 : p.val + (s.val + dw.val + 1) / 2 = (2 * p.val + s.val + dw.val + 1) / 2 := by omega
  rw [e1, e2]

/-- The spatial stage's result at row `j` and column `x` of the small image, parity `(r, s)` and channel `n`, of one frame. -/
noncomputable def upAt (a : IVec ⟨5, ![4, 2, 90, 160, 384]⟩ 8) (w : Vec Ideal ⟨4, ![3, 3, 384, 192]⟩ .fp8e4m3) (ws bias : Vec Ideal ⟨1, ![192]⟩ .f32)
    (sc : Vec Ideal ⟨0, ![]⟩ .f32) (f : Fin 8) (j : Fin 90) (r s : Fin 2) (x : Fin 160) (n : Fin 192) : EReal :=
  upSum (pix fun p l => a (ix5 ⟨f.val / 2, by omega⟩ ⟨f.val % 2, by omega⟩ ⟨p.val / 160, by omega⟩ ⟨p.val % 160, by omega⟩ l))
      (fun dh dw k n => w (ix4 dh dw k n)) (2 * j.val + r.val) (2 * x.val + s.val) n
    * (sc ix0 * ws (ix1 n)) + bias (ix1 n)

end Cert.Words
-- ==== Proof.SpatialSum.lean ====
/-
  The spatial stage's tile: the four pieces that the kernel's body leaves, in the words of `Up.lean`, and the same at
  an index over the reals.
-/
module

public import proofs.«01_k».proof.Proof.Up
public import proofs.«01_k».proof.Proof.Gen.SpatialIdeal.Frame
public import Idealize.ShloMosaic.Lib.ValueIdxRank6
public import Idealize.ShloMosaic.Lib.Pipeline.ValueKit

@[expose] public section

set_option maxRecDepth 16384

namespace Cert.Spatial

open Idealize.ShloMosaic hiding ix0 ix1 ix2 ix3 ix4 ix5 ix6
open Idealize.ShloMosaic.TcCoe Idealize.ShloMosaic.ValueIdx
open Cert.Words Cert.SpatialIdeal Cert.SpatialIdeal.Gen

section
variable {F : FTy → Type} [FloatOps F]

/-- An image row, as the kernel loads it. -/
noncomputable def row (a : Memref sig .tc .vmem S1x14400x384 .i8) (ha : a.IsWhole) (x : Vec F S1x14400x384 .i8) (i : grid0.Coords) (d : Fin 3) :
    IVec ⟨2, ![160, 384]⟩ 8 :=
  shapeCast ⟨2, ![160, 384]⟩ (View.readAt (Elt F) a.view (Rect.unit (s := S1x14400x384) (k0_off1 i (BitVec.ofNat 32 d.val)) S1x160x384.size (k0_off1_inb i d)).toLoadRect (ha.unread x)) (show S1x160x384.ShapeCasts ⟨2, ![160, 384]⟩ by decide)

theorem tap_inb : ∀ d e : Fin 3, ∀ a, (![d.val * 3 + e.val, 0, 0] : Fin 3 → Nat) a + S1x384x192.size a ≤ S9x384x192.size a := by
  decide

/-- The weights of a tap, as the kernel loads them. -/
noncomputable def tapWeights (a : Memref sig .tc .vmem S9x384x192 .fp8e4m3) (ha : a.IsWhole) (x : Vec F S9x384x192 .fp8e4m3) (d e : Fin 3) :
    Vec F ⟨3, ![1, 384, 192]⟩ .fp8e4m3 :=
  View.readAt (Elt F) a.view (Rect.unit (s := S9x384x192) ![d.val * 3 + e.val, 0, 0] S1x384x192.size (tap_inb d e)).toLoadRect (ha.unread x)

section
variable (c : Dev nD) (i : grid0.Coords) (arg2 : Memref sig .tc .vmem S1x14400x384 .i8) (harg2 : arg2.IsWhole) (arg3 : Memref sig .tc .vmem S9x384x192 .fp8e4m3) (harg3 : arg3.IsWhole) (arg4 : Memref sig .tc .vmem S1x192 .f32) (harg4 : arg4.IsWhole) (arg5 : Memref sig .tc .vmem S1x192 .f32) (harg5 : arg5.IsWhole) (arg6 : Memref sig .tc .smem S1 .f32) (harg6 : arg6.IsWhole) (arg7 : Memref sig .tc .vmem S1x1x2x2x160x192 .bf16) (harg7 : arg7.IsWhole)
    (x0 : Vec F S1x14400x384 .i8) (x1 : Vec F S9x384x192 .fp8e4m3) (x2 : Vec F S1x192 .f32) (x3 : Vec F S1x192 .f32) (x4 : Vec F S1 .f32)

/-- The tile at parity `(r, s)`, as the body forms it. -/
noncomputable def tile (r s : Fin 2) : FVec F ⟨2, ![160, 192]⟩ .bf16 :=
  truncf .bf16 (scaled (sum9 addf (upTap (BitVec.ofNat 32 (i 1).val) (row arg2 harg2 x0 i) (tapWeights arg3 harg3 x1) r s))
      (kernelRun0_A.sl.r_14 c arg4 harg4 arg6 harg6 x2 x4)
      (shapeCast S1x192 (View.readAt (Elt F) arg5.view (Rect.unit (s := S1x192) ![0, 0] S1x192.size inb_S1x192_S1x192_0_0).toLoadRect (harg5.unread x3)) shapeCasts_S1x192_S1x192)
      broadcasts_S1x192_S160x192) bitsLt_bf16_f32

theorem parity_inb : ∀ r s : Fin 2, ∀ a, (![0, 0, r.val, s.val, 0, 0] : Fin 6 → Nat) a + S1x1x1x1x160x192.size a ≤ S1x1x2x2x160x192.size a := by
  decide

/-- The piece at parity `(r, s)`. -/
noncomputable def piece (w : Fin 2 → Fin 2 → FVec F ⟨2, ![160, 192]⟩ .bf16) (r s : Fin 2) : View.Piece (Elt F) S1x1x2x2x160x192 .bf16 :=
  ⟨Rect.unit (s := S1x1x2x2x160x192) ![0, 0, r.val, s.val, 0, 0] S1x1x1x1x160x192.size (parity_inb r s),
    shapeCast S1x1x1x1x160x192 (w r s) shapeCasts_S160x192_S1x1x1x1x160x192⟩

theorem pieces_eq : (kernelRun0_A c i arg2 harg2 arg3 harg3 arg4 harg4 arg5 harg5 arg6 harg6 arg7 harg7 x0 x1 x2 x3 x4).1
    = [piece (tile c i arg2 harg2 arg3 harg3 arg4 harg4 arg5 harg5 arg6 harg6 x0 x1 x2 x3 x4) 1 1, piece (tile c i arg2 harg2 arg3 harg3 arg4 harg4 arg5 harg5 arg6 harg6 x0 x1 x2 x3 x4) 1 0, piece (tile c i arg2 harg2 arg3 harg3 arg4 harg4 arg5 harg5 arg6 harg6 x0 x1 x2 x3 x4) 0 1, piece (tile c i arg2 harg2 arg3 harg3 arg4 harg4 arg5 harg5 arg6 harg6 x0 x1 x2 x3 x4) 0 0] := by
  unfold kernelRun0_A; dsimp only; rfl

end

/-- A tile as a block of one parity. -/
theorem cast_parity {α : Type} (x : (⟨2, ![160, 192]⟩ : Shape).Idx → α) (h : (⟨2, ![160, 192]⟩ : Shape).ShapeCasts ⟨6, ![1, 1, 1, 1, 160, 192]⟩)
    (p : Fin 160) (n : Fin 192) : shapeCast ⟨6, ![1, 1, 1, 1, 160, 192]⟩ x h (ix6 0 0 0 0 p n) = x (ix2 p n) := by
  refine shapeCast_apply _ _ _ _ ?_
  rw [Shape.rowMajor_val_six, Shape.rowMajor_val_two]
  show p.val * 192 + n.val = ((((0 * 1 + 0) * 1 + 0) * 1 + 0) * 160 + p.val) * 192 + n.val
  omega

theorem piece_emb (w : Fin 2 → Fin 2 → FVec F ⟨2, ![160, 192]⟩ .bf16) (r s : Fin 2) (p : Fin 160) (n : Fin 192) :
    (piece w r s).1.emb (ix6 0 0 0 0 p n : (⟨6, ![1, 1, 1, 1, 160, 192]⟩ : Shape).Idx) = (ix6 0 0 r s p n : S1x1x2x2x160x192.Idx) := by
  funext a; refine Fin.ext ?_
  refine (ValueKit.rect_emb_unit_val (s := S1x1x2x2x160x192) ![0, 0, r.val, s.val, 0, 0] S1x1x1x1x160x192.size (parity_inb r s) _ a).trans ?_
  match a with
  | ⟨0, _⟩ => rfl
  | ⟨1, _⟩ => rfl
  | ⟨2, _⟩ => rfl
  | ⟨3, _⟩ => rfl
  | ⟨4, _⟩ => exact Nat.zero_add _
  | ⟨5, _⟩ => exact Nat.zero_add _

theorem canon_hit (w : Fin 2 → Fin 2 → FVec F ⟨2, ![160, 192]⟩ .bf16) (r s : Fin 2) (L : List (View.Piece (Elt F) S1x1x2x2x160x192 .bf16)) (p : Fin 160) (n : Fin 192) :
    View.canon (piece w r s :: L) (ix6 0 0 r s p n) = w r s (ix2 p n) := by
  rw [← piece_emb w r s p n]
  exact (View.canon_cons_emb (piece w r s).1 (piece w r s).2 L _).trans (cast_parity _ _ p n)

theorem canon_miss (w : Fin 2 → Fin 2 → FVec F ⟨2, ![160, 192]⟩ .bf16) (r s r' s' : Fin 2) (hne : r.val ≠ r'.val ∨ s.val ≠ s'.val)
    (L : List (View.Piece (Elt F) S1x1x2x2x160x192 .bf16)) (p : Fin 160) (n : Fin 192) :
    View.canon (piece w r' s' :: L) (ix6 0 0 r s p n) = View.canon L (ix6 0 0 r s p n) := by
  refine View.canon_cons_of_not_mem (piece w r' s') L ?_
  show _ ∉ (Rect.unit (s := S1x1x2x2x160x192) ![0, 0, r'.val, s'.val, 0, 0] S1x1x1x1x160x192.size (parity_inb r' s')).set
  rw [Rect.mem_set_unit]
  intro hm
  have h2 : r'.val ≤ r.val ∧ r.val < r'.val + 1 := hm 2
  have h3 : s'.val ≤ s.val ∧ s.val < s'.val + 1 := hm 3
  rcases hne with h | h <;> omega

theorem canon_parity (w : Fin 2 → Fin 2 → FVec F ⟨2, ![160, 192]⟩ .bf16) (r s : Fin 2) (p : Fin 160) (n : Fin 192) :
    View.canon [piece w 1 1, piece w 1 0, piece w 0 1, piece w 0 0] (ix6 0 0 r s p n) = w r s (ix2 p n) := by
  match r, s with
  | 1, 1 => exact canon_hit w 1 1 _ p n
  | 1, 0 => rw [canon_miss w 1 0 1 1 (by decide) _ p n]; exact canon_hit w 1 0 _ p n
  | 0, 1 => rw [canon_miss w 0 1 1 1 (by decide) _ p n, canon_miss w 0 1 1 0 (by decide) _ p n]; exact canon_hit w 0 1 _ p n
  | 0, 0 => rw [canon_miss w 0 0 1 1 (by decide) _ p n, canon_miss w 0 0 1 0 (by decide) _ p n, canon_miss w 0 0 0 1 (by decide) _ p n]; exact canon_hit w 0 0 _ p n

theorem row_apply (a : Memref sig .tc .vmem S1x14400x384 .i8) (ha : a.IsWhole) (x : Vec F S1x14400x384 .i8) (i : grid0.Coords)
    (d : Fin 3) (q : Fin 160) (l : Fin 384) :
    row a ha x i d (ix2 q l) = pix (fun p l => x (ix3 0 p l)) (upStart (BitVec.ofNat 32 (i 1).val) (BitVec.ofNat 32 d.val) + q.val) l := by
  have hb := upStart_lt (i 1) d
  have hq := q.isLt
  have h1 : upStart (BitVec.ofNat 32 (i 1).val) (BitVec.ofNat 32 d.val) + q.val < 14400 := by omega
  refine Eq.trans ?_ (pix_val _ ⟨_, h1⟩ l).symm
  unfold row
  rw [View.readAt_eq_ld, ha.read_unread]
  refine (shapeCast_1ab_ab_apply _ _ q l).trans ?_
  exact View.ld_unit_apply_of x _ _ _ (ix3 0 q l) (ix3 0 ⟨_, h1⟩ l) (by
      intro a
      match a with
      | ⟨0, _⟩ => rfl
      | ⟨1, _⟩ => rfl
      | ⟨2, _⟩ => exact (Nat.zero_add _).symm)

theorem tapWeights_apply (a : Memref sig .tc .vmem S9x384x192 .fp8e4m3) (ha : a.IsWhole) (x : Vec F S9x384x192 .fp8e4m3) (d e : Fin 3)
    (k : Fin 384) (n : Fin 192) : tapWeights a ha x d e (ix3 0 k n) = x (ix3 ⟨d.val * 3 + e.val, by omega⟩ k n) := by
  unfold tapWeights
  rw [View.readAt_eq_ld, ha.read_unread]
  exact View.ld_unit_apply_of x _ _ _ (ix3 0 k n) (ix3 ⟨d.val * 3 + e.val, by omega⟩ k n) (by
      intro a
      match a with
      | ⟨0, _⟩ => rfl
      | ⟨1, _⟩ => exact (Nat.zero_add _).symm
      | ⟨2, _⟩ => exact (Nat.zero_add _).symm)

end

theorem zero2 : (![0, 0] : Fin 2 → Nat) = fun _ => 0 := by decide

theorem row_at (a : Memref sig .tc .vmem S1x192 .f32) (ha : a.IsWhole) (x : Vec Ideal S1x192 .f32) :
    shapeCast S1x192 (View.readAt (Elt Ideal) a.view (Rect.unit (s := S1x192) ![0, 0] S1x192.size inb_S1x192_S1x192_0_0).toLoadRect (ha.unread x)) shapeCasts_S1x192_S1x192 = x := by
  rw [View.readAt_eq_ld, ha.read_unread, View.ld_unit_zero zero2]
  exact shapeCast_self _ _

theorem scale_at (c : Dev nD) (arg4 : Memref sig .tc .vmem S1x192 .f32) (harg4 : arg4.IsWhole) (arg6 : Memref sig .tc .smem S1 .f32) (harg6 : arg6.IsWhole)
    (x2 : Vec Ideal S1x192 .f32) (x4 : Vec Ideal S1 .f32) (n : Fin 192) :
    kernelRun0_A.sl.r_14 c arg4 harg4 arg6 harg6 x2 x4 (ix2 0 n) = x4 (ix1 0) * x2 (ix2 0 n) := by
  unfold kernelRun0_A.sl.r_14 k0_pay19
  rw [row_at arg4 harg4 x2]
  refine congrArg (fun e : EReal => e * x2 (ix2 0 n)) ?_
  show kernelRun0_A.sl.r_12 c arg6 harg6 x4 = _
  unfold kernelRun0_A.sl.r_12
  rw [View.readAt_eq_ld, harg6.read_unread]
  exact View.ld_unit_apply_of x4 _ _ _ _ (ix1 0) (by
    intro a
    match a with
    | ⟨0, _⟩ => rfl)

section
variable (c : Dev nD) (i : grid0.Coords) (arg2 : Memref sig .tc .vmem S1x14400x384 .i8) (harg2 : arg2.IsWhole) (arg3 : Memref sig .tc .vmem S9x384x192 .fp8e4m3) (harg3 : arg3.IsWhole) (arg4 : Memref sig .tc .vmem S1x192 .f32) (harg4 : arg4.IsWhole) (arg5 : Memref sig .tc .vmem S1x192 .f32) (harg5 : arg5.IsWhole) (arg6 : Memref sig .tc .smem S1 .f32) (harg6 : arg6.IsWhole) (arg7 : Memref sig .tc .vmem S1x1x2x2x160x192 .bf16) (harg7 : arg7.IsWhole)
    (x0 : Vec Ideal S1x14400x384 .i8) (x1 : Vec Ideal S9x384x192 .fp8e4m3) (x2 : Vec Ideal S1x192 .f32) (x3 : Vec Ideal S1x192 .f32) (x4 : Vec Ideal S1 .f32)

/-- What the tile leaves in the output's block. -/
theorem out_at (r s : Fin 2) (p : Fin 160) (n : Fin 192) :
    out0_A_5 c i arg2 harg2 arg3 harg3 arg4 harg4 arg5 harg5 arg6 harg6 arg7 harg7 x0 x1 x2 x3 x4 (ix6 0 0 r s p n)
      = upSum (pix fun p l => x0 (ix3 0 p l)) (fun dh dw k n => x1 (ix3 ⟨dh.val * 3 + dw.val, by omega⟩ k n)) (2 * (i 1).val + r.val) (2 * p.val + s.val) n
          * (x4 (ix1 0) * x2 (ix2 0 n)) + x3 (ix2 0 n) := by
  unfold out0_A_5
  rw [View.read_writes_eq_canon _ _ _ (cover0_A_5 c i arg2 harg2 arg3 harg3 arg4 harg4 arg5 harg5 arg6 harg6 arg7 harg7 x0 x1 x2 x3 x4), pieces_eq, canon_parity]
  unfold tile
  rw [row_at arg5 harg5 x3]
  show scaled (F := Ideal) _ _ _ _ (ix2 p n) = _
  rw [scaled_apply, scale_at]
  rw [upTile_apply (i 1) (row arg2 harg2 x0 i) (pix fun p l => x0 (ix3 0 p l)) (fun d q l => row_apply arg2 harg2 x0 i d q l) (tapWeights arg3 harg3 x1) r s p n]
  have hw : (fun dh dw k n => tapWeights arg3 harg3 x1 dh dw (ix3 0 k n)) = fun dh dw k n => x1 (ix3 ⟨dh.val * 3 + dw.val, by omega⟩ k n) :=
    funext fun d => funext fun e => funext fun k => funext fun n => tapWeights_apply arg3 harg3 x1 d e k n
  rw [hw]

end
end Cert.Spatial
-- ==== Proof.SpatialArray.lean ====
/-
  The spatial stage's array: each input block at a grid point as elements of the arguments, and what the output array
  holds after the last point.
-/
module

public import proofs.«01_k».proof.Proof.SpatialSum

@[expose] public section

set_option maxRecDepth 16384

namespace Cert.Spatial

open Idealize.ShloMosaic hiding ix0 ix1 ix2 ix3 ix4 ix5 ix6
open Idealize.ShloMosaic.TcCoe Idealize.ShloMosaic.ValueIdx
open Cert.Words Cert.SpatialIdeal Cert.SpatialIdeal.Gen

section
variable {α : Type}

theorem cast_frames (x : (⟨5, ![4, 2, 90, 160, 384]⟩ : Shape).Idx → α) (h : (⟨5, ![4, 2, 90, 160, 384]⟩ : Shape).ShapeCasts ⟨3, ![8, 14400, 384]⟩)
    (f : Fin 8) (p : Fin 14400) (l : Fin 384) :
    shapeCast ⟨3, ![8, 14400, 384]⟩ x h (ix3 f p l) = x (ix5 ⟨f.val / 2, by omega⟩ ⟨f.val % 2, by omega⟩ ⟨p.val / 160, by omega⟩ ⟨p.val % 160, by omega⟩ l) := by
  refine shapeCast_apply _ _ _ _ ?_
  rw [Shape.rowMajor_val_five, Shape.rowMajor_val_three]
  show ((((f.val / 2 * 2 + f.val % 2) * 90 + p.val / 160) * 160 + p.val % 160) * 384 + l.val) = ((f.val * 14400 + p.val) * 384 + l.val)
  omega

theorem cast_taps9 (x : (⟨4, ![3, 3, 384, 192]⟩ : Shape).Idx → α) (h : (⟨4, ![3, 3, 384, 192]⟩ : Shape).ShapeCasts ⟨3, ![9, 384, 192]⟩)
    (d e : Fin 3) (k : Fin 384) (n : Fin 192) :
    shapeCast ⟨3, ![9, 384, 192]⟩ x h (ix3 ⟨d.val * 3 + e.val, by omega⟩ k n) = x (ix4 d e k n) := by
  refine shapeCast_apply _ _ _ _ ?_
  rw [Shape.rowMajor_val_four, Shape.rowMajor_val_three]
  show (((d.val * 3 + e.val) * 384 + k.val) * 192 + n.val) = (((d.val * 3 + e.val) * 384 + k.val) * 192 + n.val)
  rfl

theorem cast_row192 (x : (⟨1, ![192]⟩ : Shape).Idx → α) (h : (⟨1, ![192]⟩ : Shape).ShapeCasts ⟨2, ![1, 192]⟩) (n : Fin 192) :
    shapeCast ⟨2, ![1, 192]⟩ x h (ix2 0 n) = x (ix1 n) := by
  refine shapeCast_apply _ _ _ _ ?_
  rw [Shape.rowMajor_val_one, Shape.rowMajor_val_two]
  show n.val = 0 * 192 + n.val
  omega

theorem cast_scale (x : (⟨0, ![]⟩ : Shape).Idx → α) (h : (⟨0, ![]⟩ : Shape).ShapeCasts ⟨1, ![1]⟩) :
    shapeCast ⟨1, ![1]⟩ x h (ix1 0) = x ix0 := by
  refine congrArg x (funext fun a => a.elim0)
end

variable (m : (ℓ : Loc nD τ sig) → Buf (Elt Ideal) ℓ) (c : Dev nD)

abbrev framesA : IVec ⟨5, ![4, 2, 90, 160, 384]⟩ 8 := m ((c : Thread nD τ).loc main_arg0)
abbrev weightsA : Vec Ideal ⟨4, ![3, 3, 384, 192]⟩ .fp8e4m3 := m ((c : Thread nD τ).loc main_arg1)
abbrev wsA : Vec Ideal ⟨1, ![192]⟩ .f32 := m ((c : Thread nD τ).loc main_arg2)
abbrev biasA : Vec Ideal ⟨1, ![192]⟩ .f32 := m ((c : Thread nD τ).loc main_arg3)
abbrev scaleA : Vec Ideal ⟨0, ![]⟩ .f32 := m ((c : Thread nD τ).loc main_arg4)

/-- The grid point's frame. -/
def frameOf (t : Fin cfg0.N) : Fin 8 := grid0.coords t 0
/-- The grid point's row of the small image. -/
def rowOf (t : Fin cfg0.N) : Fin 90 := grid0.coords t 1

theorem at_zero {x n y : Nat} (h : x = 0) : x * n + y = y := by rw [h, Nat.zero_mul, Nat.zero_add]
theorem at_row {x b : Nat} (h : x = b) : x * 1 + 0 = b := by rw [h, Nat.mul_one, Nat.add_zero]
theorem word8 : ∀ b : Fin 8, (BitVec.ofNat 32 b.val).toNat = b.val := by decide
theorem word90 : ∀ j : Fin 90, (BitVec.ofNat 32 j.val).toNat = j.val := by decide

theorem V_v0 : V m c main_v0 = shapeCast S8x14400x384 (framesA m c) shapeCasts_S4x2x90x160x384_S8x14400x384 := by
  entry_read; rfl
theorem V_v1 : V m c main_v1 = shapeCast S9x384x192 (weightsA m c) shapeCasts_S3x3x384x192_S9x384x192 := by
  entry_read; rfl
theorem V_v2 : V m c main_v2 = shapeCast S1x192 (wsA m c) shapeCasts_S192_S1x192 := by
  entry_read; rfl
theorem V_v3 : V m c main_v3 = shapeCast S1x192 (biasA m c) shapeCasts_S192_S1x192 := by
  entry_read; rfl
theorem V_v4 : V m c main_v4 = shapeCast S1 (scaleA m c) shapeCasts_S_S1 := by
  entry_read; rfl

theorem iblk0_apply (t : Fin cfg0.N) (p : Fin 14400) (l : Fin 384) :
    iblk m c 0 t (ix3 0 p l) = V m c main_v0 (ix3 (frameOf t) p l) := by
  refine congrArg (V m c main_v0) (funext fun a => Fin.ext ?_)
  refine (Pipeline.Window.rect_emb_val (cfg0.win 0) t (ix3 0 p l) a).trans ?_
  match a with
  | ⟨0, _⟩ => exact at_row (word8 (grid0.coords t 0))
  | ⟨1, _⟩ => exact at_zero rfl
  | ⟨2, _⟩ => exact at_zero rfl

theorem iblk1_apply (t : Fin cfg0.N) (d : Fin 9) (k : Fin 384) (n : Fin 192) :
    iblk m c 1 t (ix3 d k n) = V m c main_v1 (ix3 d k n) := by
  refine congrArg (V m c main_v1) (funext fun a => Fin.ext ?_)
  refine (Pipeline.Window.rect_emb_val (cfg0.win 1) t (ix3 d k n) a).trans ?_
  match a with
  | ⟨0, _⟩ => exact at_zero rfl
  | ⟨1, _⟩ => exact at_zero rfl
  | ⟨2, _⟩ => exact at_zero rfl

theorem iblk2_apply (t : Fin cfg0.N) (n : Fin 192) : iblk m c 2 t (ix2 0 n) = V m c main_v2 (ix2 0 n) := by
  refine congrArg (V m c main_v2) (funext fun a => Fin.ext ?_)
  refine (Pipeline.Window.rect_emb_val (cfg0.win 2) t (ix2 0 n) a).trans ?_
  match a with
  | ⟨0, _⟩ => exact at_zero rfl
  | ⟨1, _⟩ => exact at_zero rfl

theorem iblk3_apply (t : Fin cfg0.N) (n : Fin 192) : iblk m c 3 t (ix2 0 n) = V m c main_v3 (ix2 0 n) := by
  refine congrArg (V m c main_v3) (funext fun a => Fin.ext ?_)
  refine (Pipeline.Window.rect_emb_val (cfg0.win 3) t (ix2 0 n) a).trans ?_
  match a with
  | ⟨0, _⟩ => exact at_zero rfl
  | ⟨1, _⟩ => exact at_zero rfl

theorem iblk4_apply (t : Fin cfg0.N) : iblk m c 4 t (ix1 0) = V m c main_v4 (ix1 0) := by
  refine congrArg (V m c main_v4) (funext fun a => Fin.ext ?_)
  refine (Pipeline.Window.rect_emb_val (cfg0.win 4) t (ix1 0) a).trans ?_
  match a with
  | ⟨0, _⟩ => exact at_zero rfl

noncomputable abbrev imageB (t : Fin cfg0.N) : Vec Ideal S1x14400x384 .i8 := iblk m c 0 t
noncomputable abbrev weightsB (t : Fin cfg0.N) : Vec Ideal S9x384x192 .fp8e4m3 := iblk m c 1 t
noncomputable abbrev wsB (t : Fin cfg0.N) : Vec Ideal S1x192 .f32 := iblk m c 2 t
noncomputable abbrev biasB (t : Fin cfg0.N) : Vec Ideal S1x192 .f32 := iblk m c 3 t
noncomputable abbrev scaleB (t : Fin cfg0.N) : Vec Ideal S1 .f32 := iblk m c 4 t

/-- What a point's block holds after its body. -/
theorem after_at (t : Fin cfg0.N) (r s : Fin 2) (p : Fin 160) (n : Fin 192) :
    outsAt0 m c t (ix6 0 0 r s p n) = upAt (framesA m c) (weightsA m c) (wsA m c) (biasA m c) (scaleA m c) (frameOf t) (rowOf t) r s p n := by
  unfold outsAt0
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t)
    (imageB m c t) (weightsB m c t) (wsB m c t) (biasB m c t) (scaleB m c t) r s p n).trans ?_
  have e0 : (fun p l => imageB m c t (ix3 0 p l))
      = fun p l => framesA m c (ix5 ⟨(frameOf t).val / 2, by omega⟩ ⟨(frameOf t).val % 2, by omega⟩ ⟨p.val / 160, by omega⟩ ⟨p.val % 160, by omega⟩ l) :=
    funext fun p => funext fun l => (iblk0_apply m c t p l).trans ((congrFun (V_v0 m c) _).trans (cast_frames _ _ (frameOf t) p l))
  have e1 : (fun (dh dw : Fin 3) (k : Fin 384) (n : Fin 192) => weightsB m c t (ix3 ⟨dh.val * 3 + dw.val, by omega⟩ k n)) = fun dh dw k n => weightsA m c (ix4 dh dw k n) :=
    funext fun d => funext fun e => funext fun k => funext fun n => (iblk1_apply m c t _ k n).trans ((congrFun (V_v1 m c) _).trans (cast_taps9 _ _ d e k n))
  have e2 : wsB m c t (ix2 0 n) = wsA m c (ix1 n) := (iblk2_apply m c t n).trans ((congrFun (V_v2 m c) _).trans (cast_row192 _ _ n))
  have e3 : biasB m c t (ix2 0 n) = biasA m c (ix1 n) := (iblk3_apply m c t n).trans ((congrFun (V_v3 m c) _).trans (cast_row192 _ _ n))
  have e4 : scaleB m c t (ix1 0) = scaleA m c ix0 := (iblk4_apply m c t).trans ((congrFun (V_v4 m c) _).trans (cast_scale _ _))
  rw [e0, e1, e2, e3, e4]
  rfl

/-! What the array holds at the end. -/

/-- The grid point of a frame and a row. -/
def point (f : Fin 8) (j : Fin 90) : Fin cfg0.N := ⟨f.val * 90 + j.val, by show _ < grid0.N; rw [N_0]; omega⟩

theorem coords_val : ∀ t : Fin grid0.N, (grid0.coords t 0).val = t.val / 90 ∧ (grid0.coords t 1).val = t.val % 90 := by
  decide +kernel

theorem frame_point (f : Fin 8) (j : Fin 90) : frameOf (point f j) = f := by
  refine Fin.ext ((coords_val (point f j)).1.trans ?_)
  show (f.val * 90 + j.val) / 90 = f.val; omega
theorem row_point (f : Fin 8) (j : Fin 90) : rowOf (point f j) = j := by
  refine Fin.ext ((coords_val (point f j)).2.trans ?_)
  show (f.val * 90 + j.val) % 90 = j.val; omega

theorem emb5 (t : Fin cfg0.N) (r s : Fin 2) (p : Fin 160) (n : Fin 192) :
    ((cfg0.win 5).blk t).view.emb (ix6 0 0 r s p n) = ix6 (frameOf t) (rowOf t) r s p n := by
  refine funext fun a => Fin.ext ?_
  refine (Pipeline.Window.rect_emb_val (cfg0.win 5) t (ix6 0 0 r s p n) a).trans ?_
  match a with
  | ⟨0, _⟩ => exact at_row (word8 (grid0.coords t 0))
  | ⟨1, _⟩ => exact at_row (word90 (grid0.coords t 1))
  | ⟨2, _⟩ => exact at_zero rfl
  | ⟨3, _⟩ => exact at_zero rfl
  | ⟨4, _⟩ => exact at_zero rfl
  | ⟨5, _⟩ => exact at_zero rfl

theorem idx_cases (y : S1x1x2x2x160x192.Idx) : ∃ (r s : Fin 2) (p : Fin 160) (n : Fin 192), y = ix6 0 0 r s p n :=
  ⟨y 2, y 3, y 4, y 5, funext fun a => match a with
    | ⟨0, _⟩ => Subsingleton.elim (α := Fin 1) _ _
    | ⟨1, _⟩ => Subsingleton.elim (α := Fin 1) _ _
    | ⟨2, _⟩ => rfl
    | ⟨3, _⟩ => rfl
    | ⟨4, _⟩ => rfl
    | ⟨5, _⟩ => rfl⟩
theorem idx_eq (y : S8x90x2x2x160x192.Idx) : y = ix6 (y 0) (y 1) (y 2) (y 3) (y 4) (y 5) :=
  funext fun a => match a with
    | ⟨0, _⟩ => rfl
    | ⟨1, _⟩ => rfl
    | ⟨2, _⟩ => rfl
    | ⟨3, _⟩ => rfl
    | ⟨4, _⟩ => rfl
    | ⟨5, _⟩ => rfl

/-- The output array at the end. -/
noncomputable def upArr (y : S8x90x2x2x160x192.Idx) : EReal :=
  upAt (framesA m c) (weightsA m c) (wsA m c) (biasA m c) (scaleA m c) (y 0) (y 1) (y 2) (y 3) (y 4) (y 5)

theorem cover5 (y : S8x90x2x2x160x192.Idx) : ∃ (t : Fin cfg0.N) (r s : Fin 2) (p : Fin 160) (n : Fin 192),
    ((cfg0.win 5).blk t).view.emb (ix6 0 0 r s p n) = y :=
  ⟨point (y 0) (y 1), y 2, y 3, y 4, y 5,
    (emb5 _ _ _ _ _).trans ((congrArg₂ (fun f j => ix6 f j (y 2) (y 3) (y 4) (y 5)) (frame_point (y 0) (y 1)) (row_point (y 0) (y 1))).trans (idx_eq y).symm)⟩

theorem final5 : (dats m 0 c).arrAt 5 cfg0.N = upArr m c := by
  refine (dats m 0 c).arrAt_eq_of_emb 5 _ (fun t _ y => ?_) (fun y => ?_)
  · obtain ⟨r, s, p, n, rfl⟩ := idx_cases y
    refine Eq.trans ?_ (congrArg (upArr m c) (emb5 t r s p n).symm)
    refine Eq.trans ?_ (after_at m c t r s p n)
    exact congrFun (after0_5 m c t) (ix6 0 0 r s p n)
  · obtain ⟨t, r, s, p, n, e⟩ := cover5 y
    exact ⟨t, flush0_5 _, e ▸ View.emb_mem_set _ _⟩

end Cert.Spatial
-- ==== Proof.RefUp.lean ====
/-
  The spatial stage's reference on whole arrays: the doubled image with its border, the sum of the nine products of
  its shifts, and what one row of that sum is.
-/
module

public import proofs.«01_k».proof.Proof.Up
public import proofs.«01_k».proof.Proof.RefConv
public import Idealize.ShloMosaic.Lib.ValueIdxRank6

@[expose] public section

set_option maxRecDepth 16384

namespace Cert.Words

open Idealize.ShloMosaic hiding ix0 ix1 ix2 ix3 ix4 ix5 ix6
open Idealize.ShloMosaic.TcCoe Idealize.ShloMosaic.ValueIdx

/-- Each pixel twice across and twice down. -/
def doubled (a : IVec ⟨5, ![4, 2, 90, 160, 384]⟩ 8) : IVec ⟨5, ![4, 2, 180, 320, 384]⟩ 8 :=
  shapeCast ⟨5, ![4, 2, 180, 320, 384]⟩
    (broadcastInDim ⟨6, ![4, 2, 180, 160, 2, 384]⟩ ![0, 1, 2, 3, 5] (show (⟨5, ![4, 2, 180, 160, 384]⟩ : Shape).BroadcastsInDim ⟨6, ![4, 2, 180, 160, 2, 384]⟩ ![0, 1, 2, 3, 5] by decide)
      (shapeCast ⟨5, ![4, 2, 180, 160, 384]⟩
        (broadcastInDim ⟨6, ![4, 2, 90, 2, 160, 384]⟩ ![0, 1, 2, 4, 5] (show (⟨5, ![4, 2, 90, 160, 384]⟩ : Shape).BroadcastsInDim ⟨6, ![4, 2, 90, 2, 160, 384]⟩ ![0, 1, 2, 4, 5] by decide) a)
        (show (⟨6, ![4, 2, 90, 2, 160, 384]⟩ : Shape).ShapeCasts ⟨5, ![4, 2, 180, 160, 384]⟩ by decide)))
    (show (⟨6, ![4, 2, 180, 160, 2, 384]⟩ : Shape).ShapeCasts ⟨5, ![4, 2, 180, 320, 384]⟩ by decide)

/-- The doubled image with a border of zero codes. -/
def borderedDouble (a : IVec ⟨5, ![4, 2, 90, 160, 384]⟩ 8) : IVec ⟨5, ![4, 2, 182, 322, 384]⟩ 8 :=
  pad ⟨5, ![4, 2, 182, 322, 384]⟩ ![0, 0, 1, 1, 0] ![0, 0, 1, 1, 0] ![0, 0, 0, 0, 0] (doubled a) (constantI ⟨0, ![]⟩ 8 0#8)
    (by decide) (by decide)

theorem doubled_apply (a : IVec ⟨5, ![4, 2, 90, 160, 384]⟩ 8) (b : Fin 4) (t : Fin 2) (Y : Fin 180) (X : Fin 320) (l : Fin 384) :
    doubled a (ix5 b t Y X l) = a (ix5 b t ⟨Y.val / 2, by omega⟩ ⟨X.val / 2, by omega⟩ l) := by
  unfold doubled
  refine (shapeCast_apply _ _ (ix5 b t Y X l) (ix6 b t Y ⟨X.val / 2, by omega⟩ ⟨X.val % 2, by omega⟩ l) ?_).trans ?_
  · rw [Shape.rowMajor_val_six, Shape.rowMajor_val_five]
    show ((((b.val * 2 + t.val) * 180 + Y.val) * 160 + X.val / 2) * 2 + X.val % 2) * 384 + l.val = (((b.val * 2 + t.val) * 180 + Y.val) * 320 + X.val) * 384 + l.val
    omega
  refine (broadcastInDim_apply _ _ _ _ (ix5 b t Y ⟨X.val / 2, by omega⟩ l) ?_).trans ?_
  · intro c
    match c with
    | ⟨0, _⟩ => rfl
    | ⟨1, _⟩ => rfl
    | ⟨2, _⟩ => rfl
    | ⟨3, _⟩ => rfl
    | ⟨4, _⟩ => rfl
  refine (shapeCast_apply _ _ (ix5 b t Y ⟨X.val / 2, by omega⟩ l) (ix6 b t ⟨Y.val / 2, by omega⟩ ⟨Y.val % 2, by omega⟩ ⟨X.val / 2, by omega⟩ l) ?_).trans ?_
  · rw [Shape.rowMajor_val_six, Shape.rowMajor_val_five]
    show ((((b.val * 2 + t.val) * 90 + Y.val / 2) * 2 + Y.val % 2) * 160 + X.val / 2) * 384 + l.val = (((b.val * 2 + t.val) * 180 + Y.val) * 160 + X.val / 2) * 384 + l.val
    omega
  refine broadcastInDim_apply _ _ _ _ (ix5 b t ⟨Y.val / 2, by omega⟩ ⟨X.val / 2, by omega⟩ l) ?_
  intro c
  match c with
  | ⟨0, _⟩ => rfl
  | ⟨1, _⟩ => rfl
  | ⟨2, _⟩ => rfl
  | ⟨3, _⟩ => rfl
  | ⟨4, _⟩ => rfl

/-- The image of one frame. -/
abbrev frameImage (a : IVec ⟨5, ![4, 2, 90, 160, 384]⟩ 8) (b : Fin 4) (t : Fin 2) : Nat → Fin 384 → BitVec 8 :=
  pix fun p l => a (ix5 b t ⟨p.val / 160, by omega⟩ ⟨p.val % 160, by omega⟩ l)

/-- A code of the doubled image with its border is one of the small image with its border. -/
theorem borderedDouble_apply (a : IVec ⟨5, ![4, 2, 90, 160, 384]⟩ 8) (b : Fin 4) (t : Fin 2) (Y : Fin 182) (X : Fin 322) (l : Fin 384) :
    borderedDouble a (ix5 b t Y X l) = padded (frameImage a b t) ((Y.val + 1) / 2) ((X.val + 1) / 2) l := by
  unfold padded
  by_cases hin : (1 ≤ (Y.val + 1) / 2 ∧ (Y.val + 1) / 2 ≤ 90) ∧ (1 ≤ (X.val + 1) / 2 ∧ (X.val + 1) / 2 ≤ 160)
  · rw [if_pos hin]
    refine (pad_apply_of_inside _ _ _ _ _ _ _ _ (ix5 b t ⟨Y.val - 1, by omega⟩ ⟨X.val - 1, by omega⟩ l) ?_).trans ?_
    · intro c
      match c with
      | ⟨0, _⟩ => show b.val = 0 + b.val * 1; omega
      | ⟨1, _⟩ => show t.val = 0 + t.val * 1; omega
      | ⟨2, _⟩ => show Y.val = 1 + (Y.val - 1) * 1; omega
      | ⟨3, _⟩ => show X.val = 1 + (X.val - 1) * 1; omega
      | ⟨4, _⟩ => show l.val = 0 + l.val * 1; omega
    · rw [doubled_apply]
      have hlt : ((Y.val + 1) / 2 - 1) * 160 + ((X.val + 1) / 2 - 1) < 14400 := by omega
      refine Eq.trans ?_ (pix_val _ ⟨_, hlt⟩ l).symm
      refine congrArg₂ (fun y x => a (ix5 b t y x l)) (Fin.ext ?_) (Fin.ext ?_)
      · show (Y.val - 1) / 2 = (((Y.val + 1) / 2 - 1) * 160 + ((X.val + 1) / 2 - 1)) / 160
        omega
      · show (X.val - 1) / 2 = (((Y.val + 1) / 2 - 1) * 160 + ((X.val + 1) / 2 - 1)) % 160
        omega
  · rw [if_neg hin]
    by_cases hY : 1 ≤ Y.val ∧ Y.val ≤ 180
    · refine pad_apply_of_not_inside _ _ _ _ _ _ _ _ 3 ?_ |>.trans rfl
      show ¬ (1 ≤ X.val ∧ (X.val - 1) % 1 = 0 ∧ (X.val - 1) / 1 < 320)
      intro hc; exact hin ⟨by omega, by omega⟩
    · refine pad_apply_of_not_inside _ _ _ _ _ _ _ _ 2 ?_ |>.trans rfl
      show ¬ (1 ≤ Y.val ∧ (Y.val - 1) % 1 = 0 ∧ (Y.val - 1) / 1 < 180)
      intro hc; exact hY (by omega)

theorem upShift_inb : ∀ d e : Fin 3, ∀ a, (![0, 0, d.val, e.val, 0] : Fin 5 → Nat) a + (![4, 2, 180, 320, 384] : Fin 5 → Nat) a ≤ (⟨5, ![4, 2, 182, 322, 384]⟩ : Shape).size a := by
  decide
theorem upWeight_inb : ∀ d e : Fin 3, ∀ a, (![d.val, e.val, 0, 0] : Fin 4 → Nat) a + (![1, 1, 384, 192] : Fin 4 → Nat) a ≤ (⟨4, ![3, 3, 384, 192]⟩ : Shape).size a := by
  decide

/-- One product of the reference. -/
noncomputable def refUpTap {F : FTy → Type} [FloatOps F] (x : IVec ⟨5, ![4, 2, 182, 322, 384]⟩ 8) (w : Vec F ⟨4, ![3, 3, 384, 192]⟩ .fp8e4m3) (d e : Fin 3) : FVec F ⟨2, ![460800, 192]⟩ .f32 :=
  matmul (DotDims.plain 460800 384 192) none
    (bitcastToFloat .fp8e4m3 (shapeCast ⟨2, ![460800, 384]⟩ (shapeCast ⟨5, ![4, 2, 180, 320, 384]⟩
      (View.ld (Val := Elt F) (e' := .i8) x (Rect.unit (s := ⟨5, ![4, 2, 182, 322, 384]⟩) ![0, 0, d.val, e.val, 0] ![4, 2, 180, 320, 384] (upShift_inb d e)))
      (show (⟨5, ![4, 2, 180, 320, 384]⟩ : Shape).ShapeCasts ⟨5, ![4, 2, 180, 320, 384]⟩ by decide)) (show (⟨5, ![4, 2, 180, 320, 384]⟩ : Shape).ShapeCasts ⟨2, ![460800, 384]⟩ by decide)))
    (shapeCast ⟨2, ![384, 192]⟩ (View.ld (Val := Elt F) (e' := .fp8e4m3) w (Rect.unit (s := ⟨4, ![3, 3, 384, 192]⟩) ![d.val, e.val, 0, 0] ![1, 1, 384, 192] (upWeight_inb d e)))
      (show (⟨4, ![1, 1, 384, 192]⟩ : Shape).ShapeCasts ⟨2, ![384, 192]⟩ by decide))
    (constant ⟨2, ![460800, 192]⟩ .f32 0x00000000#32)

/-- The row of a pixel of the doubled image. -/
def upRow (f : Fin 8) (j : Fin 90) (r s : Fin 2) (x : Fin 160) : Fin 460800 := ⟨(((f.val * 90 + j.val) * 2 + r.val) * 160 + x.val) * 2 + s.val, by omega⟩

section
variable {α : Type}

theorem cast_doubled (v : (⟨5, ![4, 2, 180, 320, 384]⟩ : Shape).Idx → α) (h : (⟨5, ![4, 2, 180, 320, 384]⟩ : Shape).ShapeCasts ⟨2, ![460800, 384]⟩)
    (f : Fin 8) (j : Fin 90) (r s : Fin 2) (x : Fin 160) (l : Fin 384) :
    shapeCast ⟨2, ![460800, 384]⟩ v h (ix2 (upRow f j r s x) l) = v (ix5 ⟨f.val / 2, by omega⟩ ⟨f.val % 2, by omega⟩ ⟨2 * j.val + r.val, by omega⟩ ⟨2 * x.val + s.val, by omega⟩ l) := by
  refine shapeCast_apply _ _ _ _ ?_
  rw [Shape.rowMajor_val_five, Shape.rowMajor_val_two]
  show (((f.val / 2 * 2 + f.val % 2) * 180 + (2 * j.val + r.val)) * 320 + (2 * x.val + s.val)) * 384 + l.val = ((((f.val * 90 + j.val) * 2 + r.val) * 160 + x.val) * 2 + s.val) * 384 + l.val
  omega

theorem cast_upTap (v : (⟨4, ![1, 1, 384, 192]⟩ : Shape).Idx → α) (h : (⟨4, ![1, 1, 384, 192]⟩ : Shape).ShapeCasts ⟨2, ![384, 192]⟩)
    (k : Fin 384) (n : Fin 192) : shapeCast ⟨2, ![384, 192]⟩ v h (ix2 k n) = v (ix4 0 0 k n) := by
  refine shapeCast_apply _ _ _ _ ?_
  rw [Shape.rowMajor_val_four, Shape.rowMajor_val_two]
  show (((0 * 1 + 0) * 384 + k.val) * 192 + n.val) = k.val * 192 + n.val
  omega

theorem cast_upRows (v : (⟨2, ![460800, 192]⟩ : Shape).Idx → α) (h : (⟨2, ![460800, 192]⟩ : Shape).ShapeCasts ⟨6, ![8, 90, 2, 160, 2, 192]⟩)
    (f : Fin 8) (j : Fin 90) (r s : Fin 2) (x : Fin 160) (n : Fin 192) :
    shapeCast ⟨6, ![8, 90, 2, 160, 2, 192]⟩ v h (ix6 f j r x s n) = v (ix2 (upRow f j r s x) n) := by
  refine shapeCast_apply _ _ _ _ ?_
  rw [Shape.rowMajor_val_six, Shape.rowMajor_val_two]
  rfl

theorem cast_upWs (x : (⟨1, ![192]⟩ : Shape).Idx → α) (h : (⟨1, ![192]⟩ : Shape).ShapeCasts ⟨2, ![1, 192]⟩) (n : Fin 192) :
    shapeCast ⟨2, ![1, 192]⟩ x h (ix2 0 n) = x (ix1 n) := by
  refine shapeCast_apply _ _ _ _ ?_
  rw [Shape.rowMajor_val_one, Shape.rowMajor_val_two]
  show n.val = 0 * 192 + n.val
  omega
end

/-- A product of the reference at a pixel. -/
theorem refUpTap_apply (x : IVec ⟨5, ![4, 2, 182, 322, 384]⟩ 8) (w : Vec Ideal ⟨4, ![3, 3, 384, 192]⟩ .fp8e4m3) (d e : Fin 3)
    (f : Fin 8) (j : Fin 90) (r s : Fin 2) (p : Fin 160) (n : Fin 192) :
    refUpTap (F := Ideal) x w d e (ix2 (upRow f j r s p) n)
      = ∑ k : Fin 384, decode (x (ix5 ⟨f.val / 2, by omega⟩ ⟨f.val % 2, by omega⟩ ⟨2 * j.val + r.val + d.val, by omega⟩ ⟨2 * p.val + s.val + e.val, by omega⟩ k)) * w (ix4 d e k n) := by
  refine (product_apply _ _ (upRow f j r s p) n).trans ?_
  refine Finset.sum_congr rfl fun k _ => ?_
  have e1 : View.ld (Val := Elt Ideal) (e' := .i8) x (Rect.unit (s := ⟨5, ![4, 2, 182, 322, 384]⟩) ![0, 0, d.val, e.val, 0] ![4, 2, 180, 320, 384] (upShift_inb d e))
      (ix5 ⟨f.val / 2, by omega⟩ ⟨f.val % 2, by omega⟩ ⟨2 * j.val + r.val, by omega⟩ ⟨2 * p.val + s.val, by omega⟩ k)
        = x (ix5 ⟨f.val / 2, by omega⟩ ⟨f.val % 2, by omega⟩ ⟨2 * j.val + r.val + d.val, by omega⟩ ⟨2 * p.val + s.val + e.val, by omega⟩ k) :=
    View.ld_unit_apply_of (Val := Elt Ideal) (e := .i8) x _ _ _ _ _ (by
      intro a
      match a with
      | ⟨0, _⟩ => exact (Nat.zero_add _).symm
      | ⟨1, _⟩ => exact (Nat.zero_add _).symm
      | ⟨2, _⟩ => exact Nat.add_comm _ _
      | ⟨3, _⟩ => exact Nat.add_comm _ _
      | ⟨4, _⟩ => exact (Nat.zero_add _).symm)
  have e2 : View.ld (Val := Elt Ideal) (e' := .fp8e4m3) w (Rect.unit (s := ⟨4, ![3, 3, 384, 192]⟩) ![d.val, e.val, 0, 0] ![1, 1, 384, 192] (upWeight_inb d e))
      (ix4 0 0 k n) = w (ix4 d e k n) :=
    View.ld_unit_apply_of (Val := Elt Ideal) (e := .fp8e4m3) w _ _ _ _ _ (by
      intro a
      match a with
      | ⟨0, _⟩ => rfl
      | ⟨1, _⟩ => rfl
      | ⟨2, _⟩ => exact (Nat.zero_add _).symm
      | ⟨3, _⟩ => exact (Nat.zero_add _).symm)
  rw [cast_doubled]
  exact congrArg₂ (fun a b => decode a * b) ((congrFun (shapeCast_self _ _) _).trans e1) ((cast_upTap _ _ k n).trans e2)

/-- The reference's sum of products at a pixel. -/
theorem refUpSum_apply (a : IVec ⟨5, ![4, 2, 90, 160, 384]⟩ 8) (w : Vec Ideal ⟨4, ![3, 3, 384, 192]⟩ .fp8e4m3)
    (f : Fin 8) (j : Fin 90) (r s : Fin 2) (p : Fin 160) (n : Fin 192) :
    sum9 addf (refUpTap (F := Ideal) (borderedDouble a) w) (ix2 (upRow f j r s p) n)
      = upSum (frameImage a ⟨f.val / 2, by omega⟩ ⟨f.val % 2, by omega⟩) (fun d e k n => w (ix4 d e k n)) (2 * j.val + r.val) (2 * p.val + s.val) n := by
  refine (sum9_apply _ _).trans ?_
  refine sum9_congr _ fun d e => ?_
  refine (refUpTap_apply _ w d e f j r s p n).trans ?_
  refine Finset.sum_congr rfl fun k _ => ?_
  rw [borderedDouble_apply]

/-- The reference's convolution of the doubled image, scaled and biased. -/
noncomputable def refUp {F : FTy → Type} [FloatOps F] (x : IVec ⟨5, ![4, 2, 182, 322, 384]⟩ 8) (w : Vec F ⟨4, ![3, 3, 384, 192]⟩ .fp8e4m3)
    (ws bias : Vec F ⟨2, ![1, 192]⟩ .f32) (s : Vec F ⟨2, ![1, 1]⟩ .f32) : FVec F ⟨2, ![460800, 192]⟩ .f32 :=
  scaled (sum9 addf (refUpTap x w))
    (mulf (broadcastTo ⟨2, ![1, 192]⟩ (shapeCast ⟨2, ![1, 1]⟩ s (show (⟨2, ![1, 1]⟩ : Shape).ShapeCasts ⟨2, ![1, 1]⟩ by decide)) (show (⟨2, ![1, 1]⟩ : Shape).Broadcasts ⟨2, ![1, 192]⟩ by decide))
      (shapeCast ⟨2, ![1, 192]⟩ ws (show (⟨2, ![1, 192]⟩ : Shape).ShapeCasts ⟨2, ![1, 192]⟩ by decide)))
    (shapeCast ⟨2, ![1, 192]⟩ bias (show (⟨2, ![1, 192]⟩ : Shape).ShapeCasts ⟨2, ![1, 192]⟩ by decide)) (show (⟨2, ![1, 192]⟩ : Shape).Broadcasts ⟨2, ![460800, 192]⟩ by decide)

/-- The reference at a pixel. -/
theorem refUp_apply (a : IVec ⟨5, ![4, 2, 90, 160, 384]⟩ 8) (w : Vec Ideal ⟨4, ![3, 3, 384, 192]⟩ .fp8e4m3) (ws bias : Vec Ideal ⟨1, ![192]⟩ .f32) (sc : Vec Ideal ⟨0, ![]⟩ .f32)
    (h1 h2 : (⟨1, ![192]⟩ : Shape).ShapeCasts ⟨2, ![1, 192]⟩) (h3 : (⟨0, ![]⟩ : Shape).ShapeCasts ⟨2, ![1, 1]⟩)
    (f : Fin 8) (j : Fin 90) (r s : Fin 2) (p : Fin 160) (n : Fin 192) :
    refUp (F := Ideal) (borderedDouble a) w (shapeCast ⟨2, ![1, 192]⟩ ws h1) (shapeCast ⟨2, ![1, 192]⟩ bias h2) (shapeCast ⟨2, ![1, 1]⟩ sc h3) (ix2 (upRow f j r s p) n)
      = upAt a w ws bias sc f j r s p n := by
  unfold refUp
  rw [scaled_apply, refUpSum_apply]
  show _ * (broadcastTo ⟨2, ![1, 192]⟩ _ _ (ix2 0 n) * shapeCast ⟨2, ![1, 192]⟩ _ _ (ix2 0 n)) + _ = _
  rw [broadcast_one, shapeCast_self, shapeCast_self, shapeCast_self, cast_one, cast_upWs, cast_upWs]
  rfl

end Cert.Words
-- ==== Proof.SpatialRef.lean ====
/-
  The spatial stage's reference: its result as a function of the arguments.
-/
module

public import proofs.«01_k».proof.Proof.RefUp
public import proofs.«01_k».proof.Proof.Gen.SpatialRefIdeal.Frame
public import Idealize.ShloMosaic.Lib.Pipeline.ValueKit

@[expose] public section

set_option maxRecDepth 16384

namespace Cert.SpatialRef

open Idealize.ShloMosaic hiding ix0 ix1 ix2 ix3 ix4 ix5 ix6
open Idealize.ShloMosaic.TcCoe Idealize.ShloMosaic.ValueIdx
open Cert.Words Cert.SpatialRefIdeal Cert.SpatialRefIdeal.Gen

section
variable {F : FTy → Type} [FloatOps F]
variable (x0 : Vec F S4x2x182x322x384 .i8) (x1 : Vec F S3x3x384x192 .fp8e4m3) (x2 x3 : Vec F S1x192 .f32) (x4 : Vec F S1x1 .f32)

theorem zero6 : (![0, 0, 0, 0, 0, 0] : Fin 6 → Nat) = fun _ => 0 := by decide
theorem zero2 : (![0, 0] : Fin 2 → Nat) = fun _ => 0 := by decide

theorem out5_ld : out0_5 x0 x1 x2 x3 x4
    = k0_pay1 (truncf .bf16 (refUp x0 x1 (View.ld x2 (Rect.unit (s := S1x192) ![0, 0] S1x192.size inb_S1x192_S1x192_0_0)) (View.ld x3 (Rect.unit (s := S1x192) ![0, 0] S1x192.size inb_S1x192_S1x192_0_0)) (View.ld x4 (Rect.unit (s := S1x1) ![0, 0] S1x1.size inb_S1x1_S1x1_0_0))) bitsLt_bf16_f32) := by
  unfold out0_5
  exact (View.canon_unit_zero zero6 _ _).trans rfl

theorem out5_eq : out0_5 x0 x1 x2 x3 x4 = k0_pay1 (truncf .bf16 (refUp x0 x1 x2 x3 x4) bitsLt_bf16_f32) := by
  rw [out5_ld, View.ld_unit_zero zero2, View.ld_unit_zero zero2, View.ld_unit_zero zero2]

/-- The rows by frame, row, parities and column. -/
theorem rows_at (v : FVec F S460800x192 .bf16) (f : Fin 8) (j : Fin 90) (r s : Fin 2) (p : Fin 160) (n : Fin 192) :
    k0_pay1 v (ix6 f j r s p n) = v (ix2 (upRow f j r s p) n) := by
  unfold k0_pay1
  refine (transpose_apply _ _ _ _ (ix6 f j r p s n) ?_).trans (cast_upRows _ _ f j r s p n)
  intro b
  match b with
  | ⟨0, _⟩ => rfl
  | ⟨1, _⟩ => rfl
  | ⟨2, _⟩ => rfl
  | ⟨3, _⟩ => rfl
  | ⟨4, _⟩ => rfl
  | ⟨5, _⟩ => rfl
end

variable (m : (ℓ : Loc nD τ sig) → Buf (Elt Ideal) ℓ) (c : Dev nD)

abbrev framesA : IVec ⟨5, ![4, 2, 90, 160, 384]⟩ 8 := m ((c : Thread nD τ).loc main_arg0)
abbrev weightsA : Vec Ideal ⟨4, ![3, 3, 384, 192]⟩ .fp8e4m3 := m ((c : Thread nD τ).loc main_arg1)
abbrev wsA : Vec Ideal ⟨1, ![192]⟩ .f32 := m ((c : Thread nD τ).loc main_arg2)
abbrev biasA : Vec Ideal ⟨1, ![192]⟩ .f32 := m ((c : Thread nD τ).loc main_arg3)
abbrev scaleA : Vec Ideal ⟨0, ![]⟩ .f32 := m ((c : Thread nD τ).loc main_arg4)

theorem V_v4 : V m c main_v4 = borderedDouble (framesA m c) := by
  entry_read; rfl
theorem V_v5 : V m c main_v5 = shapeCast S1x192 (wsA m c) shapeCasts_S192_S1x192 := by
  entry_read; rfl
theorem V_v6 : V m c main_v6 = shapeCast S1x192 (biasA m c) shapeCasts_S192_S1x192 := by
  entry_read; rfl
theorem V_v7 : V m c main_v7 = shapeCast S1x1 (scaleA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_v4 := by
  funext y
  refine congrArg (V m c main_v4) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_arg1 := by
  funext y
  refine congrArg (V m c main_arg1) (funext fun a => Fin.ext ?_)
  refine (Pipeline.Window.rect_emb_val (cfg0.win 1) t y a).trans ?_
  match a with
  | ⟨0, _⟩ => exact at_zero rfl
  | ⟨1, _⟩ => exact at_zero rfl
  | ⟨2, _⟩ => exact at_zero rfl
  | ⟨3, _⟩ => exact at_zero rfl

theorem iblk2 (t : Fin cfg0.N) : iblk m c 2 t = V m c main_v5 := by
  funext y
  refine congrArg (V m c main_v5) (funext fun a => Fin.ext ?_)
  refine (Pipeline.Window.rect_emb_val (cfg0.win 2) t y a).trans ?_
  match a with
  | ⟨0, _⟩ => exact at_zero rfl
  | ⟨1, _⟩ => exact at_zero rfl

theorem iblk3 (t : Fin cfg0.N) : iblk m c 3 t = V m c main_v6 := by
  funext y
  refine congrArg (V m c main_v6) (funext fun a => Fin.ext ?_)
  refine (Pipeline.Window.rect_emb_val (cfg0.win 3) t y a).trans ?_
  match a with
  | ⟨0, _⟩ => exact at_zero rfl
  | ⟨1, _⟩ => exact at_zero rfl

theorem iblk4 (t : Fin cfg0.N) : iblk m c 4 t = V m c main_v7 := by
  funext y
  refine congrArg (V m c main_v7) (funext fun a => Fin.ext ?_)
  refine (Pipeline.Window.rect_emb_val (cfg0.win 4) t y a).trans ?_
  match a with
  | ⟨0, _⟩ => exact at_zero rfl
  | ⟨1, _⟩ => exact at_zero rfl

theorem out5_at (t : Fin cfg0.N) (f : Fin 8) (j : Fin 90) (r s : Fin 2) (p : Fin 160) (n : Fin 192) :
    out0_5 (iblk m c 0 t) (iblk m c 1 t) (iblk m c 2 t) (iblk m c 3 t) (iblk m c 4 t) (ix6 f j r s p n)
      = upAt (framesA m c) (weightsA m c) (wsA m c) (biasA m c) (scaleA m c) f j r s p n := by
  rw [out5_eq, iblk0, iblk1, iblk2, iblk3, iblk4, V_v4, V_v5, V_v6, V_v7, V_main_arg1]
  refine (rows_at _ f j r s p n).trans ?_
  exact refUp_apply (framesA m c) (weightsA m c) (wsA m c) (biasA m c) (scaleA m c) _ _ _ f j r s p n

/-- The result at the end. -/
noncomputable def upArr (y : S8x90x2x2x160x192.Idx) : EReal :=
  upAt (framesA m c) (weightsA m c) (wsA m c) (biasA m c) (scaleA m c) (y 0) (y 1) (y 2) (y 3) (y 4) (y 5)

/-- The one grid point. -/
def point : Fin cfg0.N := ⟨0, by decide⟩

theorem emb5 (y : S8x90x2x2x160x192.Idx) : ((cfg0.win 5).blk point).view.emb y = y := by
  funext a; refine Fin.ext ((Pipeline.Window.rect_emb_val (cfg0.win 5) point y a).trans ?_)
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl
  | ⟨5, _⟩ => exact at_zero rfl

theorem one_point (t : Fin cfg0.N) : t = point := by
  have h : ∀ t : Fin grid0.N, t = ⟨0, by decide⟩ := by decide +kernel
  exact h t

theorem idx6_eta (y : S8x90x2x2x160x192.Idx) : y = ix6 (y 0) (y 1) (y 2) (y 3) (y 4) (y 5) :=
  funext fun a => match a with
    | ⟨0, _⟩ => rfl
    | ⟨1, _⟩ => rfl
    | ⟨2, _⟩ => rfl
    | ⟨3, _⟩ => rfl
    | ⟨4, _⟩ => rfl
    | ⟨5, _⟩ => rfl

theorem final5 : (dats m 0 c).arrAt 5 cfg0.N = upArr m c := by
  refine (dats m 0 c).arrAt_eq_of_emb 5 _ (fun t _ y => ?_) (fun y => ?_)
  · obtain rfl := one_point t
    refine Eq.trans ?_ (congrArg (upArr m c) (emb5 y).symm)
    refine (congrFun (after0_5 m c point) y).trans ?_
    refine (congrArg _ (idx6_eta y)).trans ?_
    exact out5_at m c point (y 0) (y 1) (y 2) (y 3) (y 4) (y 5)
  · exact ⟨point, by decide +kernel, (emb5 y) ▸ View.emb_mem_set _ _⟩

end Cert.SpatialRef
-- ==== Proof.SpatialRun.lean ====
/-
  The spatial stage's run and its reference's run, each with the array it ends with, and the equality of the two
  arrays when the arguments agree.
-/
module

public import proofs.«01_k».proof.Proof.SpatialArray
public import proofs.«01_k».proof.Proof.SpatialRef

@[expose] public section

set_option maxRecDepth 16384

namespace Cert.Spatial

open Idealize.ShloMosaic hiding ix0 ix1 ix2 ix3 ix4 ix5 ix6
open Idealize.ShloMosaic.TcCoe Idealize.ShloMosaic.ValueIdx
open Idealize.SL.Sem
open Cert.Words Cert.SpatialIdeal Cert.SpatialIdeal.Gen

/-- The kernel ends with the doubled frames' convolution. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = upArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Spatial

namespace Cert.SpatialRef

open Idealize.ShloMosaic hiding ix0 ix1 ix2 ix3 ix4 ix5 ix6
open Idealize.ShloMosaic.TcCoe Idealize.ShloMosaic.ValueIdx
open Idealize.SL.Sem
open Cert.Words Cert.SpatialRefIdeal Cert.SpatialRefIdeal.Gen

/-- The reference ends with the same array of its own arguments. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v8) = upArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- Arguments that agree give arrays that agree. -/
theorem arrays_eq (m' : (ℓ : Loc nD τ sig) → Buf (Elt Ideal) ℓ) (m : (ℓ : Loc Cert.SpatialIdeal.nD Cert.SpatialIdeal.τ Cert.SpatialIdeal.sig) → Buf (Elt Ideal) ℓ) (c : Dev nD)
    (h0 : framesA m' c = Spatial.framesA m c)
    (h1 : weightsA m' c = Spatial.weightsA m c)
    (h2 : wsA m' c = Spatial.wsA m c)
    (h3 : biasA m' c = Spatial.biasA m c)
    (h4 : scaleA m' c = Spatial.scaleA m c) : upArr m' c = Spatial.upArr m c := by
  funext y
  unfold upArr Spatial.upArr; rw [h0, h1, h2, h3, h4]

end Cert.SpatialRef
-- ==== Proof.TemporalOk.lean ====
/-
  The temporal convolution's table condition, from the slots.
-/
module

public import proofs.«01_k».proof.Proof.Slots
public import proofs.«01_k».proof.Proof.Gen.Temporal.Frame
public import proofs.«01_k».proof.Proof.Gen.TemporalIdeal.Frame

@[expose] public section

set_option maxRecDepth 16384

open Idealize.ShloMosaic Idealize.ShloMosaic.TcCoe

namespace Cert.TemporalBits

open Cert.Temporal Cert.Temporal.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, (BitVec.ofNat 32 (i 1).val).toNat, 0] : Fin 4 → Nat) a + 1) * S1x1x480x384.size a ≤ S6x2x14400x384.size a := by
    intro i f hf x hx a
    match a with
    | ⟨0, _⟩ => exact (Nat.mul_one _).trans_le hx
    | ⟨1, _⟩ => exact (Nat.mul_one _).trans_le hf
    | ⟨2, _⟩ =>
      have h : ∀ j : Fin 30, ((BitVec.ofNat 32 j.val).toNat + 1) * 480 ≤ 14400 := by decide
      exact h (i 1)
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.TemporalBits

namespace Cert.Temporal

open Cert.TemporalIdeal Cert.TemporalIdeal.Gen

/-- The pool's blocks lie inside the pool and end on whole words when every slot is below six. -/
theorem ok_of_lt {F : FTy → Type} [FloatOps F] (m : (ℓ : Loc nD τ sig) → Buf (Elt F) ℓ)
    (h : ∀ y : S4.Idx, ((m (((0 : Dev nD) : Thread nD τ).loc main_arg0) : IVec ⟨1, ![4]⟩ 32) y).toNat < 6) : Ok m := by
  have hb : ∀ (i : grid0.Coords) (f : Nat), f < 2 → ∀ x : BitVec 32, x.toNat < 6 →
      ∀ a, ((![x.toNat, f, (BitVec.ofNat 32 (i 1).val).toNat, 0] : Fin 4 → Nat) a + 1) * S1x1x480x384.size a ≤ S6x2x14400x384.size a := by
    intro i f hf x hx a
    match a with
    | ⟨0, _⟩ => exact (Nat.mul_one _).trans_le hx
    | ⟨1, _⟩ => exact (Nat.mul_one _).trans_le hf
    | ⟨2, _⟩ =>
      have h : ∀ j : Fin 30, ((BitVec.ofNat 32 j.val).toNat + 1) * 480 ≤ 14400 := by decide
      exact h (i 1)
    | ⟨3, _⟩ => show (0 + 1) * 384 ≤ 384; decide
  have hx : ∀ y : S4.Idx, ((tbl m 0 : IVec ⟨1, ![4]⟩ 32) y).toNat < 6 := fun y =>
    (congrArg BitVec.toNat (congrFun (V_main_arg0 m 0) y)).trans_lt (h y)
  refine ⟨fun i => ?_, fun i => ?_⟩
  · exact ⟨hb i 0 (by decide) _ (hx _), .inr (Affine.block_words_dvd (of_decide_eq_true rfl) (by decide))⟩
  · exact ⟨hb i 1 (by decide) _ (hx _), .inr (Affine.block_words_dvd (of_decide_eq_true rfl) (by decide))⟩

end Cert.Temporal
-- ==== Proof.TemporalSpec.lean ====
/-
  The temporal convolution by pixel: three products, one for each frame, their sum scaled, biased and quantised; the
  768 channels of a pixel are the 384 channels of two frames of the result.
-/
module

public import proofs.«01_k».proof.Proof.ConvSpec

@[expose] public section

set_option maxRecDepth 16384

namespace Cert.Words

open Idealize.ShloMosaic hiding ix0 ix1 ix2 ix3 ix4 ix5
open Idealize.ShloMosaic.ValueIdx

/-- The product of one frame's codes with one frame's weights. -/
noncomputable def frameTap (x : Fin 3 → Nat → Fin 384 → BitVec 8) (w : Fin 3 → Fin 384 → Fin 768 → EReal) (p : Nat) (n : Fin 768) (t : Fin 3) : EReal :=
  ∑ k : Fin 384, decode (x t p k) * w t k n

/-- The three frames' products, added in order. -/
noncomputable def frameSum (x : Fin 3 → Nat → Fin 384 → BitVec 8) (w : Fin 3 → Fin 384 → Fin 768 → EReal) (p : Nat) (n : Fin 768) : EReal :=
  (frameTap x w p n 0 + frameTap x w p n 1) + frameTap x w p n 2

/-- The channel of the products that is channel `n` of frame `f` of the result. -/
def pairChannel (f : Fin 2) (n : Fin 384) : Fin 768 := ⟨f.val * 384 + n.val, by omega⟩

/-- The code of batch entry `b`, frame `f`, pixel `p` and channel `n`. -/
noncomputable def timeCode (slot first : IVec ⟨1, ![4]⟩ 32) (pool : IVec ⟨5, ![6, 2, 90, 160, 384]⟩ 8) (a : IVec ⟨5, ![4, 1, 90, 160, 384]⟩ 8)
    (w : Vec Ideal ⟨3, ![3, 384, 768]⟩ .fp8e4m3) (ws bias : Vec Ideal ⟨1, ![768]⟩ .f32) (s next : Vec Ideal ⟨0, ![]⟩ .f32)
    (b : Fin 4) (f : Fin 2) (p : Fin 14400) (n : Fin 384) : EReal :=
  quantAt (frameSum (stageFrames slot first pool a b) (fun t k n => w (ix3 t k n)) p.val (pairChannel f n)
    * (s ix0 * ws (ix1 (pairChannel f n))) + bias (ix1 (pairChannel f n))) (next ix0)

/-- Division by a scale, the result clipped and rounded to a one-byte float, on any shape. -/
def clipped {F : FTy → Type} [FloatOps F] {s : Shape} (v d : FVec F s .f32) : FVec F s .fp8e4m3 :=
  truncf .fp8e4m3 (minimumf (broadcast s (Scalar.ofBits .f32 0x43E00000#32))
    (maximumf (broadcast s (Scalar.ofBits .f32 0xC3E00000#32)) (divf v d))) (by decide)

theorem clipped_apply {s : Shape} (v d : FVec Ideal s .f32) (y : s.Idx) : clipped v d y = quantAt (v y) (d y) := rfl

section
variable {F : FTy → Type} [FloatOps F] {N : Nat}

theorem cast_frameTap : (⟨3, ![1, 384, 768]⟩ : Shape).ShapeCasts ⟨2, ![384, 768]⟩ := by decide

/-- One frame's product, on `N` rows. -/
noncomputable def rowsTap (x : IVec ⟨2, ![N, 384]⟩ 8) (w : Vec F ⟨3, ![1, 384, 768]⟩ .fp8e4m3) : FVec F ⟨2, ![N, 768]⟩ .f32 :=
  matmul (DotDims.plain N 384 768) none (bitcastToFloat .fp8e4m3 x) (shapeCast ⟨2, ![384, 768]⟩ w cast_frameTap) (constant ⟨2, ![N, 768]⟩ .f32 0x00000000#32)

theorem rowsTap_apply (x : IVec ⟨2, ![N, 384]⟩ 8) (w : Vec Ideal ⟨3, ![1, 384, 768]⟩ .fp8e4m3) (r : Fin N) (n : Fin 768) :
    rowsTap (F := Ideal) x w (ix2 r n) = ∑ k : Fin 384, decode (x (ix2 r k)) * w (ix3 0 k n) := by
  refine (product_apply x _ r n).trans ?_
  exact Finset.sum_congr rfl fun k _ => congrArg (fun z => decode (x (ix2 r k)) * z) (shapeCast_1ab_ab_apply w _ k n)
end

section
variable {α : Type}

theorem cast_row768 (x : (⟨1, ![768]⟩ : Shape).Idx → α) (h : (⟨1, ![768]⟩ : Shape).ShapeCasts ⟨2, ![1, 768]⟩) (n : Fin 768) :
    shapeCast ⟨2, ![1, 768]⟩ x h (ix2 0 n) = x (ix1 n) := by
  refine shapeCast_apply _ _ _ _ ?_
  rw [Shape.rowMajor_val_one, Shape.rowMajor_val_two]
  show n.val = 0 * 768 + n.val
  omega
end

end Cert.Words
-- ==== Proof.TemporalSum.lean ====
/-
  The temporal convolution's tile: the new cache and the codes that one grid point leaves, as functions of the blocks it
  is given.
-/
module

public import proofs.«01_k».proof.Proof.TemporalSpec
public import proofs.«01_k».proof.Proof.Gen.TemporalIdeal.Frame

@[expose] public section

set_option maxRecDepth 16384

namespace Cert.Temporal

open Idealize.ShloMosaic hiding ix0 ix1 ix2 ix3 ix4 ix5
open Idealize.ShloMosaic.TcCoe Idealize.ShloMosaic.ValueIdx
open Cert.Words Cert.TemporalIdeal Cert.TemporalIdeal.Gen

theorem zero4 : (![0, 0, 0, 0] : Fin 4 → Nat) = fun _ => 0 := by decide
theorem zero3 : (![0, 0, 0] : Fin 3 → Nat) = fun _ => 0 := by decide
theorem zero2 : (![0, 0] : Fin 2 → Nat) = fun _ => 0 := by decide

section
variable {F : FTy → Type} [FloatOps F]

/-- Whether the frames of the pool are kept. -/
noncomputable def keepBit (c : Dev nD) (i : grid0.Coords) (xt1 : TbBuf0 (F := F) c tbM0_1) : BitVec 1 :=
  Scalar.cmpi .ne (kernelRun0_A.sl.r c i xt1) 1#32

/-- The codes of a block of a frame of the pool, multiplied by the kept bit four at a time. -/
noncomputable def poolCodes (a : Memref sig .tc .vmem S1x1x480x384 .i8) (ha : a.IsWhole) (x : Vec F S1x1x480x384 .i8) (b : BitVec 1) : IVec S480x384 8 :=
  bitcast S480x384 8 (muli (bitcast S120x384 32 (shapeCast S480x384
      (View.readAt (Elt F) a.view (Rect.unit (s := S1x1x480x384) ![0, 0, 0, 0] S1x1x480x384.size inb_S1x1x480x384_S1x1x480x384_0_0_0_0).toLoadRect (ha.unread x)) shapeCasts_S1x1x480x384_S480x384) bitcasts_S480x384_w8_S120x384_w32)
    (broadcast S120x384 (Scalar.extui b))) bitcasts_S120x384_w32_S480x384_w8

/-- The codes of a block of the current frame. -/
noncomputable def ownCodes (a : Memref sig .tc .vmem S1x480x384 .i8) (ha : a.IsWhole) (x : Vec F S1x480x384 .i8) : IVec S480x384 8 :=
  shapeCast S480x384 (View.readAt (Elt F) a.view (Rect.unit (s := S1x480x384) ![0, 0, 0] S1x480x384.size inb_S1x480x384_S1x480x384_0_0_0).toLoadRect (ha.unread x)) shapeCasts_S1x480x384_S480x384

theorem weight_inb : ∀ t : Fin 3, ∀ a, (![t.val, 0, 0] : Fin 3 → Nat) a + S1x384x768.size a ≤ S3x384x768.size a := by decide

/-- The weights of a frame, as the kernel loads them. -/
noncomputable def frameWeights (a : Memref sig .tc .vmem S3x384x768 .fp8e4m3) (ha : a.IsWhole) (x : Vec F S3x384x768 .fp8e4m3) (t : Fin 3) : Vec F ⟨3, ![1, 384, 768]⟩ .fp8e4m3 :=
  View.readAt (Elt F) a.view (Rect.unit (s := S3x384x768) ![t.val, 0, 0] S1x384x768.size (weight_inb t)).toLoadRect (ha.unread x)

/-- A row of per-channel numbers, as the kernel loads it. -/
noncomputable def rowIn (a : Memref sig .tc .vmem S1x768 .f32) (ha : a.IsWhole) (x : Vec F S1x768 .f32) : FVec F S1x768 .f32 :=
  shapeCast S1x768 (View.readAt (Elt F) a.view (Rect.unit (s := S1x768) ![0, 0] S1x768.size inb_S1x768_S1x768_0_0).toLoadRect (ha.unread x)) shapeCasts_S1x768_S1x768

/-- The number in a one-word scalar block, as the kernel loads it. -/
noncomputable def word (a : Memref sig .tc .smem S1 .f32) (ha : a.IsWhole) (x : Vec F S1 .f32) : Elt F .f32 :=
  View.readAt (Elt F) a.view (Rect.unit (s := S1) ![0] S1.size inb_S1_S1_0).toLoadRect (ha.unread x) (Shape.Idx.first (by decide))

theorem word_eq (a : Memref sig .tc .smem S1 .f32) (ha : a.IsWhole) (x : Vec F S1 .f32) : word a ha x = x (ix1 0) := by
  unfold word
  rw [View.readAt_eq_ld, ha.read_unread]
  exact View.ld_unit_apply_of x _ _ _ _ (ix1 0) (by
    intro a
    match a with
    | ⟨0, _⟩ => rfl)

theorem rowIn_eq (a : Memref sig .tc .vmem S1x768 .f32) (ha : a.IsWhole) (x : Vec F S1x768 .f32) : rowIn a ha x = x := by
  unfold rowIn
  rw [View.readAt_eq_ld, ha.read_unread, View.ld_unit_zero zero2]
  exact shapeCast_self _ _

theorem poolCodes_apply (a : Memref sig .tc .vmem S1x1x480x384 .i8) (ha : a.IsWhole) (x : Vec F S1x1x480x384 .i8) (b : BitVec 1) (r : Fin 480) (l : Fin 384) :
    poolCodes a ha x b (ix2 r l) = if b = 1#1 then x (ix4 0 0 r l) else 0#8 := by
  unfold poolCodes
  refine (keptRows_apply b _ _ _ (by norm_num) r l).trans ?_
  refine if_congr Iff.rfl ?_ rfl
  rw [View.readAt_eq_ld, ha.read_unread, View.ld_unit_zero zero4]
  exact shapeCast_11ab_ab _ _ r l

theorem ownCodes_apply (a : Memref sig .tc .vmem S1x480x384 .i8) (ha : a.IsWhole) (x : Vec F S1x480x384 .i8) (r : Fin 480) (l : Fin 384) :
    ownCodes a ha x (ix2 r l) = x (ix3 0 r l) := by
  unfold ownCodes
  rw [View.readAt_eq_ld, ha.read_unread, View.ld_unit_zero zero3]
  exact shapeCast_1ab_ab_apply _ _ r l

theorem frameWeights_apply (a : Memref sig .tc .vmem S3x384x768 .fp8e4m3) (ha : a.IsWhole) (x : Vec F S3x384x768 .fp8e4m3) (t : Fin 3) (k : Fin 384) (n : Fin 768) :
    frameWeights a ha x t (ix3 0 k n) = x (ix3 t k n) := by
  unfold frameWeights
  rw [View.readAt_eq_ld, ha.read_unread]
  exact View.ld_unit_apply_of x _ _ _ (ix3 0 k n) (ix3 t k n) (by
      intro a
      match a with
      | ⟨0, _⟩ => rfl
      | ⟨1, _⟩ => exact (Nat.zero_add _).symm
      | ⟨2, _⟩ => exact (Nat.zero_add _).symm)

variable (c : Dev nD) (i : grid0.Coords) (arg4 : Memref sig .tc .vmem S1x1x480x384 .i8) (harg4 : arg4.IsWhole) (arg5 : Memref sig .tc .vmem S1x1x480x384 .i8) (harg5 : arg5.IsWhole) (arg6 : Memref sig .tc .vmem S1x480x384 .i8) (harg6 : arg6.IsWhole) (arg7 : Memref sig .tc .vmem S3x384x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .smem S1 .f32) (harg10 : arg10.IsWhole) (arg11 : Memref sig .tc .smem S1 .f32) (harg11 : arg11.IsWhole) (arg12 : Memref sig .tc .vmem S1x2x480x384 .fp8e4m3) (harg12 : arg12.IsWhole) (arg13 : Memref sig .tc .vmem S1x2x480x384 .fp8e4m3) (harg13 : arg13.IsWhole)
    (x0 : Vec F S1x1x480x384 .i8) (x1 : Vec F S1x1x480x384 .i8) (x2 : Vec F S1x480x384 .i8) (x3 : Vec F S3x384x768 .fp8e4m3) (x4 : Vec F S1x768 .f32) (x5 : Vec F S1x768 .f32) (x6 : Vec F S1 .f32) (x7 : Vec F S1 .f32) (xt0 : TbBuf0 (F := F) c tbM0_0) (xt1 : TbBuf0 (F := F) c tbM0_1)

/-- The tile's sum of products, as the body forms it. -/
noncomputable def tileSum : FVec F ⟨2, ![480, 768]⟩ .f32 :=
  addf (addf (rowsTap (poolCodes arg4 harg4 x0 (keepBit c i xt1)) (frameWeights arg7 harg7 x3 0))
    (rowsTap (poolCodes arg5 harg5 x1 (keepBit c i xt1)) (frameWeights arg7 harg7 x3 1)))
    (rowsTap (ownCodes arg6 harg6 x2) (frameWeights arg7 harg7 x3 2))

/-- The tile's codes on all 768 channels, as the body forms them. -/
noncomputable def tileCode : FVec F ⟨2, ![480, 768]⟩ .fp8e4m3 :=
  clipped (scaled (tileSum c i arg4 harg4 arg5 harg5 arg6 harg6 arg7 harg7 x0 x1 x2 x3 xt1) (mulf (broadcast S1x768 (word arg10 harg10 x6)) (rowIn arg8 harg8 x4)) (rowIn arg9 harg9 x5) broadcasts_S1x768_S480x768)
    (broadcast S480x768 (word arg11 harg11 x7))

theorem pieces9 : (kernelRun0_A c i arg4 harg4 arg5 harg5 arg6 harg6 arg7 harg7 arg8 harg8 arg9 harg9 arg10 harg10 arg11 harg11 arg12 harg12 arg13 harg13 x0 x1 x2 x3 x4 x5 x6 x7 xt0 xt1).2.1
    = [⟨Rect.unit (s := S1x2x480x384) ![0, 1, 0, 0] S1x1x480x384.size (by decide), shapeCast S1x1x480x384 (extractStridedSlice S480x384 ![0, 384]
          (tileCode c i arg4 harg4 arg5 harg5 arg6 harg6 arg7 harg7 arg8 harg8 arg9 harg9 arg10 harg10 arg11 harg11 x0 x1 x2 x3 x4 x5 x6 x7 xt1) slices_S480x768_o0_384_S480x384) shapeCasts_S480x384_S1x1x480x384⟩,
       ⟨Rect.unit (s := S1x2x480x384) ![0, 0, 0, 0] S1x1x480x384.size (by decide), shapeCast S1x1x480x384 (extractStridedSlice S480x384 ![0, 0]
          (tileCode c i arg4 harg4 arg5 harg5 arg6 harg6 arg7 harg7 arg8 harg8 arg9 harg9 arg10 harg10 arg11 harg11 x0 x1 x2 x3 x4 x5 x6 x7 xt1) slices_S480x768_o0_0_S480x384) shapeCasts_S480x384_S1x1x480x384⟩] := by
  unfold kernelRun0_A; dsimp only; rfl

theorem pieces8 : (kernelRun0_A c i arg4 harg4 arg5 harg5 arg6 harg6 arg7 harg7 arg8 harg8 arg9 harg9 arg10 harg10 arg11 harg11 arg12 harg12 arg13 harg13 x0 x1 x2 x3 x4 x5 x6 x7 xt0 xt1).1
    = [⟨Rect.unit (s := S1x2x480x384) ![0, 1, 0, 0] S1x1x480x384.size (by decide), shapeCast S1x1x480x384 (bitcastToFloat .fp8e4m3 (ownCodes arg6 harg6 x2)) shapeCasts_S480x384_S1x1x480x384⟩,
       ⟨Rect.unit (s := S1x2x480x384) ![0, 0, 0, 0] S1x1x480x384.size (by decide), shapeCast S1x1x480x384 (bitcastToFloat .fp8e4m3 (poolCodes arg5 harg5 x1 (keepBit c i xt1))) shapeCasts_S480x384_S1x1x480x384⟩] := by
  unfold kernelRun0_A; dsimp only; rfl
end

/-! ## The same at an index, over the reals -/

/-- The codes of the three frames' blocks, the cached ones blanked unless kept. -/
def blkFrames (b : BitVec 1) (x0 x1 : Vec Ideal S1x1x480x384 .i8) (x2 : Vec Ideal S1x480x384 .i8) (t : Fin 3) (r : Fin 480) (l : Fin 384) : BitVec 8 :=
  match t with
  | 0 => if b = 1#1 then x0 (ix4 0 0 r l) else 0#8
  | 1 => if b = 1#1 then x1 (ix4 0 0 r l) else 0#8
  | 2 => x2 (ix3 0 r l)

section
variable (c : Dev nD) (i : grid0.Coords) (arg4 : Memref sig .tc .vmem S1x1x480x384 .i8) (harg4 : arg4.IsWhole) (arg5 : Memref sig .tc .vmem S1x1x480x384 .i8) (harg5 : arg5.IsWhole) (arg6 : Memref sig .tc .vmem S1x480x384 .i8) (harg6 : arg6.IsWhole) (arg7 : Memref sig .tc .vmem S3x384x768 .fp8e4m3) (harg7 : arg7.IsWhole) (arg8 : Memref sig .tc .vmem S1x768 .f32) (harg8 : arg8.IsWhole) (arg9 : Memref sig .tc .vmem S1x768 .f32) (harg9 : arg9.IsWhole) (arg10 : Memref sig .tc .smem S1 .f32) (harg10 : arg10.IsWhole) (arg11 : Memref sig .tc .smem S1 .f32) (harg11 : arg11.IsWhole) (arg12 : Memref sig .tc .vmem S1x2x480x384 .fp8e4m3) (harg12 : arg12.IsWhole) (arg13 : Memref sig .tc .vmem S1x2x480x384 .fp8e4m3) (harg13 : arg13.IsWhole)
    (x0 : Vec Ideal S1x1x480x384 .i8) (x1 : Vec Ideal S1x1x480x384 .i8) (x2 : Vec Ideal S1x480x384 .i8) (x3 : Vec Ideal S3x384x768 .fp8e4m3) (x4 : Vec Ideal S1x768 .f32) (x5 : Vec Ideal S1x768 .f32) (x6 : Vec Ideal S1 .f32) (x7 : Vec Ideal S1 .f32) (xt0 : TbBuf0 (F := Ideal) c tbM0_0) (xt1 : TbBuf0 (F := Ideal) c tbM0_1)

theorem sum_at (r : Fin 480) (n : Fin 768) :
    tileSum c i arg4 harg4 arg5 harg5 arg6 harg6 arg7 harg7 x0 x1 x2 x3 xt1 (ix2 r n)
      = ((∑ k : Fin 384, decode (blkFrames (keepBit c i xt1) x0 x1 x2 0 r k) * x3 (ix3 0 k n))
          + ∑ k : Fin 384, decode (blkFrames (keepBit c i xt1) x0 x1 x2 1 r k) * x3 (ix3 1 k n))
        + ∑ k : Fin 384, decode (blkFrames (keepBit c i xt1) x0 x1 x2 2 r k) * x3 (ix3 2 k n) := by
  have e0 : ∀ k, poolCodes arg4 harg4 x0 (keepBit c i xt1) (ix2 r k) = blkFrames (keepBit c i xt1) x0 x1 x2 0 r k := fun k => poolCodes_apply arg4 harg4 x0 _ r k
  have e1 : ∀ k, poolCodes arg5 harg5 x1 (keepBit c i xt1) (ix2 r k) = blkFrames (keepBit c i xt1) x0 x1 x2 1 r k := fun k => poolCodes_apply arg5 harg5 x1 _ r k
  have e2 : ∀ k, ownCodes arg6 harg6 x2 (ix2 r k) = blkFrames (keepBit c i xt1) x0 x1 x2 2 r k := fun k => ownCodes_apply arg6 harg6 x2 r k
  show (rowsTap _ _ (ix2 r n) + rowsTap _ _ (ix2 r n)) + rowsTap _ _ (ix2 r n) = _
  rw [rowsTap_apply, rowsTap_apply, rowsTap_apply]
  exact congrArg₂ (fun a b : EReal => a + b) (congrArg₂ (fun a b : EReal => a + b)
    (Finset.sum_congr rfl fun k _ => congrArg₂ (fun a b => decode a * b) (e0 k) (frameWeights_apply arg7 harg7 x3 0 k n))
    (Finset.sum_congr rfl fun k _ => congrArg₂ (fun a b => decode a * b) (e1 k) (frameWeights_apply arg7 harg7 x3 1 k n)))
    (Finset.sum_congr rfl fun k _ => congrArg₂ (fun a b => decode a * b) (e2 k) (frameWeights_apply arg7 harg7 x3 2 k n))

theorem code_at (r : Fin 480) (n : Fin 768) :
    tileCode c i arg4 harg4 arg5 harg5 arg6 harg6 arg7 harg7 arg8 harg8 arg9 harg9 arg10 harg10 arg11 harg11 x0 x1 x2 x3 x4 x5 x6 x7 xt1 (ix2 r n)
      = quantAt ((((∑ k : Fin 384, decode (blkFrames (keepBit c i xt1) x0 x1 x2 0 r k) * x3 (ix3 0 k n))
          + ∑ k : Fin 384, decode (blkFrames (keepBit c i xt1) x0 x1 x2 1 r k) * x3 (ix3 1 k n))
        + ∑ k : Fin 384, decode (blkFrames (keepBit c i xt1) x0 x1 x2 2 r k) * x3 (ix3 2 k n)) * (x6 (ix1 0) * x4 (ix2 0 n)) + x5 (ix2 0 n)) (x7 (ix1 0)) := by
  unfold tileCode
  rw [clipped_apply, rowIn_eq arg8 harg8 x4, rowIn_eq arg9 harg9 x5, scaled_apply, sum_at]
  show quantAt (_ * (word arg10 harg10 x6 * x4 (ix2 0 n)) + _) (word arg11 harg11 x7) = _
  rw [word_eq, word_eq]

/-- What the tile leaves in the codes' block. -/
theorem out9_at (f : Fin 2) (r : Fin 480) (n : Fin 384) :
    out0_A_9 c i arg4 harg4 arg5 harg5 arg6 harg6 arg7 harg7 arg8 harg8 arg9 harg9 arg10 harg10 arg11 harg11 arg12 harg12 arg13 harg13 x0 x1 x2 x3 x4 x5 x6 x7 xt0 xt1 (ix4 0 f r n)
      = tileCode c i arg4 harg4 arg5 harg5 arg6 harg6 arg7 harg7 arg8 harg8 arg9 harg9 arg10 harg10 arg11 harg11 x0 x1 x2 x3 x4 x5 x6 x7 xt1 (ix2 r (pairChannel f n)) := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 x0 x1 x2 x3 x4 x5 x6 x7 xt0 xt1), pieces9]
  match f with
  | 1 =>
    refine (canon_frame1 _ _ _ r n).trans ?_
    refine (shapeCast_ab_11ab _ _ 0 0 r n).trans ?_
    refine extractStridedSlice_apply _ _ _ _ _ ?_
    intro a
    match a with
    | ⟨0, _⟩ => exact (Nat.zero_add _).symm
    | ⟨1, _⟩ => show 1 * 384 + n.val = 384 + n.val; omega
  | 0 =>
    refine (canon_frame0 _ _ _ _ _ r n).trans ?_
    refine (shapeCast_ab_11ab _ _ 0 0 r n).trans ?_
    refine extractStridedSlice_apply _ _ _ _ _ ?_
    intro a
    match a with
    | ⟨0, _⟩ => exact (Nat.zero_add _).symm
    | ⟨1, _⟩ => show 0 * 384 + n.val = 0 + n.val; omega

/-- What the tile leaves in the new cache's block: the two latest frames' codes. -/
theorem out8_at (f : Fin 2) (r : Fin 480) (n : Fin 384) :
    out0_A_8 c i arg4 harg4 arg5 harg5 arg6 harg6 arg7 harg7 arg8 harg8 arg9 harg9 arg10 harg10 arg11 harg11 arg12 harg12 arg13 harg13 x0 x1 x2 x3 x4 x5 x6 x7 xt0 xt1 (ix4 0 f r n)
      = decode (blkFrames (keepBit c i xt1) x0 x1 x2 ⟨f.val + 1, by omega⟩ r n) := by
  unfold out0_A_8
  rw [View.read_writes_eq_canon _ _ _ (cover0_A_8 c i arg4 harg4 arg5 harg5 arg6 harg6 arg7 harg7 arg8 harg8 arg9 harg9 arg10 harg10 arg11 harg11 arg12 harg12 arg13 harg13 x0 x1 x2 x3 x4 x5 x6 x7 xt0 xt1), pieces8]
  match f with
  | 1 =>
    refine (canon_frame1 _ _ _ r n).trans ?_
    refine (shapeCast_ab_11ab _ _ 0 0 r n).trans ?_
    exact congrArg decode (ownCodes_apply arg6 harg6 x2 r n)
  | 0 =>
    refine (canon_frame0 _ _ _ _ _ r n).trans ?_
    refine (shapeCast_ab_11ab _ _ 0 0 r n).trans ?_
    exact congrArg decode (poolCodes_apply arg5 harg5 x1 _ r n)
end

end Cert.Temporal
-- ==== Proof.TemporalArray.lean ====
/-
  The temporal convolution's arrays: each input block at a grid point as elements of the arguments, and what the
  two output arrays hold after the last point.
-/
module

public import proofs.«01_k».proof.Proof.TemporalSum
public import proofs.«01_k».proof.Proof.ConvSpec
public import Idealize.ShloMosaic.Lib.Pipeline.ValueKit

@[expose] public section

set_option maxRecDepth 16384

namespace Cert.Temporal

open Idealize.ShloMosaic hiding ix0 ix1 ix2 ix3 ix4 ix5
open Idealize.ShloMosaic.TcCoe Idealize.ShloMosaic.ValueIdx
open Cert.Words Cert.TemporalIdeal Cert.TemporalIdeal.Gen

variable (m : (ℓ : Loc nD τ sig) → Buf (Elt Ideal) ℓ) (hO : Ok m) (c : Dev nD)

/-- The grid point's batch entry. -/
def entry (t : Fin (cfgM m hO).N) : Fin 4 := grid0.coords t 0
/-- The grid point's tile of three image rows. -/
def tile (t : Fin (cfgM m hO).N) : Fin 30 := grid0.coords t 1

theorem at_zero {x n y : Nat} (h : x = 0) : x * n + y = y := by rw [h, Nat.zero_mul, Nat.zero_add]
theorem at_block {x n y b r : Nat} (h : x = b) (hy : y = r) : x * n + y = b * n + r := by rw [h, hy]
theorem at_row {x b : Nat} (h : x = b) : x * 1 + 0 = b := by rw [h, Nat.mul_one, Nat.add_zero]
theorem word4 : ∀ b : Fin 4, (BitVec.ofNat 32 b.val).toNat = b.val := by decide
theorem word30 : ∀ j : Fin 30, (BitVec.ofNat 32 j.val).toNat = j.val := by decide

theorem V_v0 : V m c main_v0 = shapeCast S6x2x14400x384 (m ((c : Thread nD τ).loc main_arg2)) shapeCasts_S6x2x90x160x384_S6x2x14400x384 := by
  entry_read; rfl
theorem V_v1 : V m c main_v1 = shapeCast S4x14400x384 (m ((c : Thread nD τ).loc main_arg3)) shapeCasts_S4x1x90x160x384_S4x14400x384 := by
  entry_read; rfl
theorem V_v2 : V m c main_v2 = shapeCast S1x768 (m ((c : Thread nD τ).loc main_arg5)) shapeCasts_S768_S1x768 := by
  entry_read; rfl
theorem V_v3 : V m c main_v3 = shapeCast S1x768 (m ((c : Thread nD τ).loc main_arg6)) shapeCasts_S768_S1x768 := by
  entry_read; rfl
theorem V_v4 : V m c main_v4 = shapeCast S1 (m ((c : Thread nD τ).loc main_arg7)) shapeCasts_S_S1 := by
  entry_read; rfl
theorem V_v5 : V m c main_v5 = shapeCast S1 (m ((c : Thread nD τ).loc main_arg8)) shapeCasts_S_S1 := by
  entry_read; rfl
theorem tbl_first (c : Dev nD) : tbl m 1 = m ((c : Thread nD τ).loc main_arg1) := by
  obtain rfl : c = 0 := Subsingleton.elim _ _
  exact V_main_arg1 m 0
theorem tbl_slot (c : Dev nD) : tbl m 0 = m ((c : Thread nD τ).loc main_arg0) := by
  obtain rfl : c = 0 := Subsingleton.elim _ _
  exact V_main_arg0 m 0

/-- The table's word a grid point reads is its batch entry's. -/
theorem word_at (i : grid0.Coords) (x : S4.Idx → BitVec 32) :
    x ((Rect.unit (s := S4) (k0_off1 i) S1.size (Gen.facts.k0_off1_inb i)).emb (Shape.Idx.first (Gen.facts.numel1_S1.symm ▸ Nat.one_pos))) = x (ix1 (i 0)) := by
  refine congrArg x (funext fun a => Fin.ext ?_)
  have h : ∀ j : Fin 4, (Scalar.indexCast (BitVec.ofNat 32 j.val)).toNat = j.val := by decide
  match a with
  | ⟨0, _⟩ =>
    rw [ValueKit.rect_emb_unit_val]
    exact (congrArg (fun x => x + 0) (h (i 0))).trans (Nat.add_zero _)

theorem slot_lt (t : Fin (cfgM m hO).N) : ((tbl m 0 : IVec ⟨1, ![4]⟩ 32) (ix1 (entry m hO t))).toNat < 6 := by
  obtain ⟨h, _⟩ := hO.1 (grid0.coords t)
  have e : (cc0_transform_0 Gen.facts.k0_off1_inb Gen.facts.numel1_S1 (tbl m) (grid0.coords t) 0 + 1) * 1 ≤ 6 := h 0
  rw [Nat.mul_one] at e
  exact lt_of_eq_of_lt (congrArg BitVec.toNat (word_at (grid0.coords t) (tbl m 0))).symm e

theorem slot_word (t : Fin (cfgM m hO).N) :
    cc0_transform_0 Gen.facts.k0_off1_inb Gen.facts.numel1_S1 (tbl m) (grid0.coords t) 0 = (slotOf (m ((c : Thread nD τ).loc main_arg0)) (entry m hO t)).val := by
  have h := slot_lt m hO t
  rw [tbl_slot m c] at h
  refine (congrArg BitVec.toNat (word_at (grid0.coords t) (tbl m 0))).trans ?_
  rw [tbl_slot m c]
  exact (Nat.min_eq_left (by exact Nat.le_of_lt_succ h)).symm

theorem tile_row (j : Fin 30) (r : Fin 480) : j.val * 480 + r.val < 14400 := by omega

/-- The pixel a tile's row is. -/
def pixel (t : Fin (cfgM m hO).N) (r : Fin 480) : Fin 14400 := ⟨(tile m hO t).val * 480 + r.val, tile_row _ r⟩

theorem iblk0_apply (t : Fin (cfgM m hO).N) (r : Fin 480) (l : Fin 384) :
    iblk m hO c 0 t (ix4 0 0 r l) = V m c main_v0 (ix4 (slotOf (m ((c : Thread nD τ).loc main_arg0)) (entry m hO t)) 0 (pixel m hO t r) l) := by
  refine congrArg (V m c main_v0) (funext fun a => Fin.ext ?_)
  refine (Pipeline.Window.rect_emb_val ((cfgM m hO).win 0) t (ix4 0 0 r l) a).trans ?_
  match a with
  | ⟨0, _⟩ => exact at_row (slot_word m hO c t)
  | ⟨1, _⟩ => exact at_zero rfl
  | ⟨2, _⟩ => exact at_block (word30 (grid0.coords t 1)) rfl
  | ⟨3, _⟩ => exact at_zero rfl

theorem iblk1_apply (t : Fin (cfgM m hO).N) (r : Fin 480) (l : Fin 384) :
    iblk m hO c 1 t (ix4 0 0 r l) = V m c main_v0 (ix4 (slotOf (m ((c : Thread nD τ).loc main_arg0)) (entry m hO t)) 1 (pixel m hO t r) l) := by
  refine congrArg (V m c main_v0) (funext fun a => Fin.ext ?_)
  refine (Pipeline.Window.rect_emb_val ((cfgM m hO).win 1) t (ix4 0 0 r l) a).trans ?_
  match a with
  | ⟨0, _⟩ => exact at_row (slot_word m hO c t)
  | ⟨1, _⟩ => exact rfl
  | ⟨2, _⟩ => exact at_block (word30 (grid0.coords t 1)) rfl
  | ⟨3, _⟩ => exact at_zero rfl

theorem iblk2_apply (t : Fin (cfgM m hO).N) (r : Fin 480) (l : Fin 384) :
    iblk m hO c 2 t (ix3 0 r l) = V m c main_v1 (ix3 (entry m hO t) (pixel m hO t r) l) := by
  refine congrArg (V m c main_v1) (funext fun a => Fin.ext ?_)
  refine (Pipeline.Window.rect_emb_val ((cfgM m hO).win 2) t (ix3 0 r l) a).trans ?_
  match a with
  | ⟨0, _⟩ => exact at_row (word4 (grid0.coords t 0))
  | ⟨1, _⟩ => exact at_block (word30 (grid0.coords t 1)) rfl
  | ⟨2, _⟩ => exact at_zero rfl

theorem iblk3_apply (t : Fin (cfgM m hO).N) (d : Fin 3) (k : Fin 384) (n : Fin 768) :
    iblk m hO c 3 t (ix3 d k n) = V m c main_arg4 (ix3 d k n) := by
  refine congrArg (V m c main_arg4) (funext fun a => Fin.ext ?_)
  refine (Pipeline.Window.rect_emb_val ((cfgM m hO).win 3) t (ix3 d k n) a).trans ?_
  match a with
  | ⟨0, _⟩ => exact at_zero rfl
  | ⟨1, _⟩ => exact at_zero rfl
  | ⟨2, _⟩ => exact at_zero rfl

theorem iblk4_apply (t : Fin (cfgM m hO).N) (n : Fin 768) :
    iblk m hO c 4 t (ix2 0 n) = V m c main_v2 (ix2 0 n) := by
  refine congrArg (V m c main_v2) (funext fun a => Fin.ext ?_)
  refine (Pipeline.Window.rect_emb_val ((cfgM m hO).win 4) t (ix2 0 n) a).trans ?_
  match a with
  | ⟨0, _⟩ => exact at_zero rfl
  | ⟨1, _⟩ => exact at_zero rfl

theorem iblk5_apply (t : Fin (cfgM m hO).N) (n : Fin 768) :
    iblk m hO c 5 t (ix2 0 n) = V m c main_v3 (ix2 0 n) := by
  refine congrArg (V m c main_v3) (funext fun a => Fin.ext ?_)
  refine (Pipeline.Window.rect_emb_val ((cfgM m hO).win 5) t (ix2 0 n) a).trans ?_
  match a with
  | ⟨0, _⟩ => exact at_zero rfl
  | ⟨1, _⟩ => exact at_zero rfl

theorem iblk6_apply (t : Fin (cfgM m hO).N) :
    iblk m hO c 6 t (ix1 0) = V m c main_v4 (ix1 0) := by
  refine congrArg (V m c main_v4) (funext fun a => Fin.ext ?_)
  refine (Pipeline.Window.rect_emb_val ((cfgM m hO).win 6) t (ix1 0) a).trans ?_
  match a with
  | ⟨0, _⟩ => exact at_zero rfl

theorem iblk7_apply (t : Fin (cfgM m hO).N) :
    iblk m hO c 7 t (ix1 0) = V m c main_v5 (ix1 0) := by
  refine congrArg (V m c main_v5) (funext fun a => Fin.ext ?_)
  refine (Pipeline.Window.rect_emb_val ((cfgM m hO).win 7) t (ix1 0) a).trans ?_
  match a with
  | ⟨0, _⟩ => exact at_zero rfl

/-! The arguments, by what they are. -/

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨3, ![3, 384, 768]⟩ .fp8e4m3 := m ((c : Thread nD τ).loc main_arg4)
abbrev wsA : Vec Ideal ⟨1, ![768]⟩ .f32 := m ((c : Thread nD τ).loc main_arg5)
abbrev biasA : Vec Ideal ⟨1, ![768]⟩ .f32 := m ((c : Thread nD τ).loc main_arg6)
abbrev scaleA : Vec Ideal ⟨0, ![]⟩ .f32 := m ((c : Thread nD τ).loc main_arg7)
abbrev nextA : Vec Ideal ⟨0, ![]⟩ .f32 := m ((c : Thread nD τ).loc main_arg8)

theorem keepBit_at (t : Fin (cfgM m hO).N) : keepBit (F := Ideal) c (grid0.coords t) (tbl m 1) = keptBit (firstA m c) (entry m hO t) := by
  refine (congrArg (fun x : BitVec 32 => IntOp.cmpi .ne x 1#32) ((word_at (grid0.coords t) (tbl m 1)).trans ?_))
  exact congrFun (tbl_first m c) (ix1 (entry m hO t))

noncomputable abbrev oldB (t : Fin (cfgM m hO).N) : Vec Ideal S1x1x480x384 .i8 := iblk m hO c 0 t
noncomputable abbrev midB (t : Fin (cfgM m hO).N) : Vec Ideal S1x1x480x384 .i8 := iblk m hO c 1 t
noncomputable abbrev ownB (t : Fin (cfgM m hO).N) : Vec Ideal S1x480x384 .i8 := iblk m hO c 2 t
noncomputable abbrev weightsB (t : Fin (cfgM m hO).N) : Vec Ideal S3x384x768 .fp8e4m3 := iblk m hO c 3 t
noncomputable abbrev wsB (t : Fin (cfgM m hO).N) : Vec Ideal S1x768 .f32 := iblk m hO c 4 t
noncomputable abbrev biasB (t : Fin (cfgM m hO).N) : Vec Ideal S1x768 .f32 := iblk m hO c 5 t
noncomputable abbrev scaleB (t : Fin (cfgM m hO).N) : Vec Ideal S1 .f32 := iblk m hO c 6 t
noncomputable abbrev nextB (t : Fin (cfgM m hO).N) : Vec Ideal S1 .f32 := iblk m hO c 7 t

theorem blkFrames_at (t : Fin (cfgM m hO).N) (f : Fin 3) (r : Fin 480) (l : Fin 384) :
    blkFrames (keepBit (F := Ideal) c (grid0.coords t) (tbl m 1)) (oldB m hO c t) (midB m hO c t) (ownB m hO c t) f r l
      = stageFrames (slotA m c) (firstA m c) (poolA m c) (codesA m c) (entry m hO t) f (pixel m hO t r).val l := by
  rw [keepBit_at]
  match f with
  | 0 =>
    refine if_congr Iff.rfl ?_ rfl
    refine Eq.trans ?_ (pix_val (stageCodes (slotA m c) (poolA m c) (codesA m c) (entry m hO t) 0) (pixel m hO t r) l).symm
    exact (iblk0_apply m hO c t r l).trans ((congrFun (V_v0 m c) _).trans (cast_pool _ _ _ _ (pixel m hO t r) l))
  | 1 =>
    refine if_congr Iff.rfl ?_ rfl
    refine Eq.trans ?_ (pix_val (stageCodes (slotA m c) (poolA m c) (codesA m c) (entry m hO t) 1) (pixel m hO t r) l).symm
    exact (iblk1_apply m hO c t r l).trans ((congrFun (V_v0 m c) _).trans (cast_pool _ _ _ _ (pixel m hO t r) l))
  | 2 =>
    show _ = if (1#1 : BitVec 1) = 1#1 then pix (stageCodes (slotA m c) (poolA m c) (codesA m c) (entry m hO t) 2) (pixel m hO t r).val l else 0#8
    rw [if_pos rfl]
    refine Eq.trans ?_ (pix_val (stageCodes (slotA m c) (poolA m c) (codesA m c) (entry m hO t) 2) (pixel m hO t r) l).symm
    exact (iblk2_apply m hO c t r l).trans ((congrFun (V_v1 m c) _).trans (cast_image _ _ _ (pixel m hO t r) l))

theorem tap_at (t : Fin (cfgM m hO).N) (r : Fin 480) (n : Fin 768) (f : Fin 3) :
    (∑ k : Fin 384, decode (blkFrames (keepBit (F := Ideal) c (grid0.coords t) (tbl m 1)) (oldB m hO c t) (midB m hO c t) (ownB m hO c t) f r k) * weightsB m hO c t (ix3 f k n))
      = frameTap (stageFrames (slotA m c) (firstA m c) (poolA m c) (codesA m c) (entry m hO t)) (fun a k n => weightsA m c (ix3 a k n)) (pixel m hO t r).val n f :=
  Finset.sum_congr rfl fun k _ => congrArg₂ (fun a b => decode a * b) (blkFrames_at m hO c t f r k)
    ((iblk3_apply m hO c t f k n).trans (congrFun (V_main_arg4 m c) _))

/-! What the arrays hold at the end. -/

theorem outs8 (t : Fin (cfgM m hO).N) : (outsAt0 m hO c t).1 = out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (oldB m hO c t) (midB m hO c t) (ownB m hO c t) (weightsB m hO c t) (wsB m hO c t) (biasB m hO c t) (scaleB m hO c t) (nextB m hO c t) (tbl m 0) (tbl m 1) := by
  dsimp only [outsAt0]

theorem outs9 (t : Fin (cfgM m hO).N) : (outsAt0 m hO c t).2 = out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (oldB m hO c t) (midB m hO c t) (ownB m hO c t) (weightsB m hO c t) (wsB m hO c t) (biasB m hO c t) (scaleB m hO c t) (nextB m hO c t) (tbl m 0) (tbl m 1) := by
  dsimp only [outsAt0]

theorem after9_at (t : Fin (cfgM m hO).N) (f : Fin 2) (r : Fin 480) (n : Fin 384) :
    (outsAt0 m hO c t).2 (ix4 0 f r n) = timeCode (slotA m c) (firstA m c) (poolA m c) (codesA m c) (weightsA m c) (wsA m c) (biasA m c) (scaleA m c) (nextA m c)
          (entry m hO t) f (pixel m hO t r) n := by
  refine (congrFun (outs9 m hO c t) (ix4 0 f r n)).trans ?_
  refine (out9_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (oldB m hO c t) (midB m hO c t) (ownB m hO c t) (weightsB m hO c t) (wsB m hO c t) (biasB m hO c t) (scaleB m hO c t) (nextB m hO c t) (tbl m 0) (tbl m 1) f r n).trans ?_
  refine (code_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (oldB m hO c t) (midB m hO c t) (ownB m hO c t) (weightsB m hO c t) (wsB m hO c t) (biasB m hO c t) (scaleB m hO c t) (nextB m hO c t) (tbl m 1) r (pairChannel f n)).trans ?_
  have e4 : wsB m hO c t (ix2 0 (pairChannel f n)) = wsA m c (ix1 (pairChannel f n)) := (iblk4_apply m hO c t _).trans ((congrFun (V_v2 m c) _).trans (cast_row768 _ _ _))
  have e5 : biasB m hO c t (ix2 0 (pairChannel f n)) = biasA m c (ix1 (pairChannel f n)) := (iblk5_apply m hO c t _).trans ((congrFun (V_v3 m c) _).trans (cast_row768 _ _ _))
  have e6 : scaleB m hO c t (ix1 0) = scaleA m c ix0 := (iblk6_apply m hO c t).trans ((congrFun (V_v4 m c) _).trans (cast_scalar _ _))
  have e7 : nextB m hO c t (ix1 0) = nextA m c ix0 := (iblk7_apply m hO c t).trans ((congrFun (V_v5 m c) _).trans (cast_scalar _ _))
  rw [tap_at, tap_at, tap_at, e4, e5, e6, e7]
  rfl

theorem after8_at (t : Fin (cfgM m hO).N) (f : Fin 2) (r : Fin 480) (n : Fin 384) :
    (outsAt0 m hO c t).1 (ix4 0 f r n) = cacheAt (slotA m c) (firstA m c) (poolA m c) (codesA m c) (entry m hO t) f (pixel m hO t r) n := by
  refine (congrFun (outs8 m hO c t) (ix4 0 f r n)).trans ?_
  refine (out8_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (oldB m hO c t) (midB m hO c t) (ownB m hO c t) (weightsB m hO c t) (wsB m hO c t) (biasB m hO c t) (scaleB m hO c t) (nextB m hO c t) (tbl m 0) (tbl m 1) f r n).trans ?_
  exact congrArg decode (blkFrames_at m hO c t ⟨f.val + 1, by omega⟩ r n)

/-- The grid point of a batch entry and a tile. -/
def point (b : Fin 4) (p : Fin 14400) : Fin (cfgM m hO).N := ⟨b.val * 30 + p.val / 480, by show _ < grid0.N; rw [N_0]; omega⟩

theorem coords_val : ∀ t : Fin grid0.N, (grid0.coords t 0).val = t.val / 30 ∧ (grid0.coords t 1).val = t.val % 30 := by
  decide +kernel

theorem coords_at (b : Fin 4) (j : Fin 30) (h : b.val * 30 + j.val < grid0.N) :
    grid0.coords ⟨b.val * 30 + j.val, h⟩ 0 = b ∧ grid0.coords ⟨b.val * 30 + j.val, h⟩ 1 = j := by
  obtain ⟨e0, e1⟩ := coords_val ⟨b.val * 30 + j.val, h⟩
  refine ⟨Fin.ext (e0.trans ?_), Fin.ext (e1.trans ?_)⟩
  · show (b.val * 30 + j.val) / 30 = b.val; omega
  · show (b.val * 30 + j.val) % 30 = j.val; omega

theorem entry_point (b : Fin 4) (p : Fin 14400) : entry m hO (point m hO b p) = b :=
  (coords_at b ⟨p.val / 480, by omega⟩ _).1
theorem pixel_point (b : Fin 4) (p : Fin 14400) : pixel m hO (point m hO b p) ⟨p.val % 480, by omega⟩ = p := by
  refine Fin.ext ?_
  have h : tile m hO (point m hO b p) = ⟨p.val / 480, by omega⟩ := (coords_at b ⟨p.val / 480, by omega⟩ _).2
  show (tile m hO (point m hO b p)).val * 480 + p.val % 480 = p.val
  rw [h]
  show p.val / 480 * 480 + p.val % 480 = p.val
  omega

theorem idx4_cases (y : S1x2x480x384.Idx) : ∃ (f : Fin 2) (r : Fin 480) (n : Fin 384), y = ix4 0 f r n :=
  ⟨y 1, y 2, y 3, funext fun a => match a with
    | ⟨0, _⟩ => Subsingleton.elim (α := Fin 1) _ _
    | ⟨1, _⟩ => rfl
    | ⟨2, _⟩ => rfl
    | ⟨3, _⟩ => rfl⟩
theorem idx4_eq (y : S4x2x14400x384.Idx) : y = ix4 (y 0) (y 1) (y 2) (y 3) :=
  funext fun a => match a with
    | ⟨0, _⟩ => rfl
    | ⟨1, _⟩ => rfl
    | ⟨2, _⟩ => rfl
    | ⟨3, _⟩ => rfl

/-- The new cache at the end. -/
noncomputable def cacheArr (y : S4x2x14400x384.Idx) : EReal :=
  cacheAt (slotA m c) (firstA m c) (poolA m c) (codesA m c) (y 0) (y 1) (y 2) (y 3)
/-- The codes at the end. -/
noncomputable def codeArr (y : S4x2x14400x384.Idx) : EReal :=
  timeCode (slotA m c) (firstA m c) (poolA m c) (codesA m c) (weightsA m c) (wsA m c) (biasA m c) (scaleA m c) (nextA m c) (y 0) (y 1) (y 2) (y 3)

theorem emb8 (t : Fin (cfgM m hO).N) (f : Fin 2) (r : Fin 480) (n : Fin 384) :
    (((cfgM m hO).win 8).blk t).view.emb (ix4 0 f r n) = ix4 (entry m hO t) f (pixel m hO t r) n := by
  refine funext fun a => Fin.ext ?_
  refine (Pipeline.Window.rect_emb_val ((cfgM m hO).win 8) t (ix4 0 f r n) a).trans ?_
  match a with
  | ⟨0, _⟩ => exact at_row (word4 (grid0.coords t 0))
  | ⟨1, _⟩ => exact at_zero rfl
  | ⟨2, _⟩ => exact at_block (word30 (grid0.coords t 1)) rfl
  | ⟨3, _⟩ => exact at_zero rfl

theorem cover8 (y : S4x2x14400x384.Idx) : ∃ (t : Fin (cfgM m hO).N) (f : Fin 2) (r : Fin 480) (n : Fin 384),
    (((cfgM m hO).win 8).blk t).view.emb (ix4 0 f r n) = y :=
  ⟨point m hO (y 0) (y 2), y 1, ⟨(y 2).val % 480, Nat.mod_lt _ (by decide)⟩, y 3,
    (emb8 m hO _ _ _ _).trans ((congrArg₂ (fun b p => ix4 b (y 1) p (y 3)) (entry_point m hO (y 0) (y 2)) (pixel_point m hO (y 0) (y 2))).trans (idx4_eq y).symm)⟩

theorem final8 : (dats m hO 0 c).arrAt 8 (cfgM m hO).N = cacheArr m c := by
  refine (dats m hO 0 c).arrAt_eq_of_emb 8 _ (fun t _ y => ?_) (fun y => ?_)
  · obtain ⟨f, r, n, rfl⟩ := idx4_cases y
    refine Eq.trans ?_ (congrArg (cacheArr m c) (emb8 m hO t f r n).symm)
    refine Eq.trans ?_ (after8_at m hO c t f r n)
    exact congrFun (after0_8 m hO c t) (ix4 0 f r n)
  · obtain ⟨t, f, r, n, e⟩ := cover8 m hO y
    exact ⟨t, flush0_8 _ _, e ▸ View.emb_mem_set _ _⟩

theorem emb9 (t : Fin (cfgM m hO).N) (f : Fin 2) (r : Fin 480) (n : Fin 384) :
    (((cfgM m hO).win 9).blk t).view.emb (ix4 0 f r n) = ix4 (entry m hO t) f (pixel m hO t r) n := by
  refine funext fun a => Fin.ext ?_
  refine (Pipeline.Window.rect_emb_val ((cfgM m hO).win 9) t (ix4 0 f r n) a).trans ?_
  match a with
  | ⟨0, _⟩ => exact at_row (word4 (grid0.coords t 0))
  | ⟨1, _⟩ => exact at_zero rfl
  | ⟨2, _⟩ => exact at_block (word30 (grid0.coords t 1)) rfl
  | ⟨3, _⟩ => exact at_zero rfl

theorem cover9 (y : S4x2x14400x384.Idx) : ∃ (t : Fin (cfgM m hO).N) (f : Fin 2) (r : Fin 480) (n : Fin 384),
    (((cfgM m hO).win 9).blk t).view.emb (ix4 0 f r n) = y :=
  ⟨point m hO (y 0) (y 2), y 1, ⟨(y 2).val % 480, Nat.mod_lt _ (by decide)⟩, y 3,
    (emb9 m hO _ _ _ _).trans ((congrArg₂ (fun b p => ix4 b (y 1) p (y 3)) (entry_point m hO (y 0) (y 2)) (pixel_point m hO (y 0) (y 2))).trans (idx4_eq y).symm)⟩

theorem final9 : (dats m hO 0 c).arrAt 9 (cfgM m hO).N = codeArr m c := by
  refine (dats m hO 0 c).arrAt_eq_of_emb 9 _ (fun t _ y => ?_) (fun y => ?_)
  · obtain ⟨f, r, n, rfl⟩ := idx4_cases y
    refine Eq.trans ?_ (congrArg (codeArr m c) (emb9 m hO t f r n).symm)
    refine Eq.trans ?_ (after9_at m hO c t f r n)
    exact congrFun (after0_9 m hO c t) (ix4 0 f r n)
  · obtain ⟨t, f, r, n, e⟩ := cover9 m hO y
    exact ⟨t, flush0_9 _ _, e ▸ View.emb_mem_set _ _⟩

end Cert.Temporal
-- ==== Proof.TemporalRef.lean ====
/-
  The temporal convolution's reference: its one grid point's block as elements of its arguments, and what its two
  arrays hold.
-/
module

public import proofs.«01_k».proof.Proof.RefConv
public import proofs.«01_k».proof.Proof.TemporalSpec
public import proofs.«01_k».proof.Proof.Gen.TemporalRefIdeal.Frame
public import Idealize.ShloMosaic.Lib.Pipeline.ValueKit

@[expose] public section

set_option maxRecDepth 16384

namespace Cert.TemporalRef

open Idealize.ShloMosaic hiding ix0 ix1 ix2 ix3 ix4 ix5
open Idealize.ShloMosaic.TcCoe Idealize.ShloMosaic.ValueIdx
open Cert.Words Cert.TemporalRefIdeal Cert.TemporalRefIdeal.Gen

section
variable {F : FTy → Type} [FloatOps F]
variable (x0 : Vec F S4x3x90x160x384 .i8) (x1 : Vec F S3x384x768 .fp8e4m3) (x2 x3 : Vec F S1x768 .f32) (x4 x5 : Vec F S1x1 .f32)

theorem zero4 : (![0, 0, 0, 0] : Fin 4 → Nat) = fun _ => 0 := by decide
theorem zero2 : (![0, 0] : Fin 2 → Nat) = fun _ => 0 := by decide

theorem frame_inb : ∀ t : Fin 3, ∀ a, (![0, t.val, 0, 0, 0] : Fin 5 → Nat) a + S4x1x90x160x384.size a ≤ S4x3x90x160x384.size a := by decide
theorem weight_inb : ∀ t : Fin 3, ∀ a, (![t.val, 0, 0] : Fin 3 → Nat) a + S1x384x768.size a ≤ S3x384x768.size a := by decide

/-- The codes of frame `t`, by row. -/
noncomputable def frameRows (t : Fin 3) : IVec S57600x384 8 :=
  shapeCast S57600x384 (shapeCast S4x1x90x160x384 (View.ld (Val := Elt F) (e' := .i8) x0 (Rect.unit (s := S4x3x90x160x384) ![0, t.val, 0, 0, 0] S4x1x90x160x384.size (frame_inb t))) shapeCasts_S4x1x90x160x384_S4x1x90x160x384) shapeCasts_S4x1x90x160x384_S57600x384

/-- The product of frame `t`. -/
noncomputable def refTap (t : Fin 3) : FVec F ⟨2, ![57600, 768]⟩ .f32 :=
  rowsTap (frameRows (F := F) x0 t) (View.ld x1 (Rect.unit (s := S3x384x768) ![t.val, 0, 0] S1x384x768.size (weight_inb t)))

/-- The convolution by row, scaled and biased. -/
noncomputable def rows : FVec F ⟨2, ![57600, 768]⟩ .f32 :=
  scaled (addf (addf (refTap x0 x1 0) (refTap x0 x1 1)) (refTap x0 x1 2)) (mulf (broadcastTo S1x768 x4 broadcasts_S1x1_S1x768) x2) x3 broadcasts_S1x768_S57600x768

theorem row_ld (x : Vec F S1x768 .f32) : shapeCast S1x768 (View.ld x r0_7) shapeCasts_S1x768_S1x768 = x := by
  rw [View.ld_unit_zero zero2]; exact shapeCast_self _ _
theorem one_ld (x : Vec F S1x1 .f32) : shapeCast S1x1 (View.ld x r0_6) shapeCasts_S1x1_S1x1 = x := by
  rw [View.ld_unit_zero zero2]; exact shapeCast_self _ _

/-- The codes from the rows. -/
noncomputable def codesOf (z : FVec F S57600x768 .f32) (s : Vec F S1x1 .f32) : FVec F S4x2x14400x384 .fp8e4m3 :=
  clipped (transpose S4x2x14400x384 [0, 2, 1, 3] (shapeCast S4x14400x2x384 z shapeCasts_S57600x768_S4x14400x2x384) transposes_S4x14400x2x384_p0_2_1_3_S4x2x14400x384)
    (broadcastTo S4x2x14400x384 (shapeCast S1x1x1x1 s shapeCasts_S1x1_S1x1x1x1) broadcasts_S1x1x1x1_S4x2x14400x384)

theorem out7_ld : out0_7 x0 x1 x2 x3 x4 x5
    = codesOf (scaled (addf (addf (refTap x0 x1 0) (refTap x0 x1 1)) (refTap x0 x1 2)) (mulf (broadcastTo S1x768 (shapeCast S1x1 (View.ld x4 r0_6) shapeCasts_S1x1_S1x1) broadcasts_S1x1_S1x768) (shapeCast S1x768 (View.ld x2 r0_7) shapeCasts_S1x768_S1x768)) (shapeCast S1x768 (View.ld x3 r0_7) shapeCasts_S1x768_S1x768) broadcasts_S1x768_S57600x768)
        (shapeCast S1x1 (View.ld x5 r0_6) shapeCasts_S1x1_S1x1) := by
  unfold out0_7
  exact (View.canon_unit_zero zero4 _ _).trans rfl

theorem out7_plain : out0_7 x0 x1 x2 x3 x4 x5 = codesOf (rows x0 x1 x2 x3 x4) x5 := by
  rw [out7_ld, row_ld, row_ld, one_ld, one_ld]
  rfl
end

theorem cast_pair {α : Type} (x : (⟨2, ![57600, 768]⟩ : Shape).Idx → α) (h : (⟨2, ![57600, 768]⟩ : Shape).ShapeCasts ⟨4, ![4, 14400, 2, 384]⟩)
    (b : Fin 4) (p : Fin 14400) (f : Fin 2) (n : Fin 384) : shapeCast ⟨4, ![4, 14400, 2, 384]⟩ x h (ix4 b p f n) = x (ix2 (rowOf b p) (pairChannel f n)) := by
  refine shapeCast_apply _ _ _ _ ?_
  rw [Shape.rowMajor_val_four, Shape.rowMajor_val_two]
  show (b.val * 14400 + p.val) * 768 + (f.val * 384 + n.val) = ((b.val * 14400 + p.val) * 2 + f.val) * 384 + n.val
  omega

theorem broadcast_four {α : Type} (s : (⟨2, ![1, 1]⟩ : Shape).Idx → α) (h : (⟨4, ![1, 1, 1, 1]⟩ : Shape).Broadcasts ⟨4, ![4, 2, 14400, 384]⟩)
    (hc : (⟨2, ![1, 1]⟩ : Shape).ShapeCasts ⟨4, ![1, 1, 1, 1]⟩) (y : (⟨4, ![4, 2, 14400, 384]⟩ : Shape).Idx) :
    broadcastTo ⟨4, ![4, 2, 14400, 384]⟩ (shapeCast ⟨4, ![1, 1, 1, 1]⟩ s hc) h y = s (ix2 0 0) := by
  refine (broadcastTo_apply _ h y (ix4 0 0 0 0) ?_).trans (shapeCast_apply _ _ _ _ ?_)
  · intro a
    match a with
    | ⟨0, _⟩ => exact (if_pos rfl).symm
    | ⟨1, _⟩ => exact (if_pos rfl).symm
    | ⟨2, _⟩ => exact (if_pos rfl).symm
    | ⟨3, _⟩ => exact (if_pos rfl).symm
  · rw [Shape.rowMajor_val_four, Shape.rowMajor_val_two]; rfl

theorem codesOf_apply (z : FVec Ideal S57600x768 .f32) (s : Vec Ideal S1x1 .f32) (b : Fin 4) (f : Fin 2) (p : Fin 14400) (n : Fin 384) :
    codesOf (F := Ideal) z s (ix4 b f p n) = quantAt (z (ix2 (rowOf b p) (pairChannel f n))) (s (ix2 0 0)) := by
  unfold codesOf
  rw [clipped_apply]
  refine congrArg₂ quantAt ?_ (broadcast_four s _ _ _)
  refine (transpose_apply _ _ _ _ (ix4 b p f n) ?_).trans (cast_pair z _ b p f n)
  intro a
  match a with
  | ⟨0, _⟩ => rfl
  | ⟨1, _⟩ => rfl
  | ⟨2, _⟩ => rfl
  | ⟨3, _⟩ => rfl

theorem add_at {s : Shape} (a b : FVec Ideal s .f32) (y : s.Idx) : addf a b y = a y + b y := rfl
theorem mul_at {s : Shape} (a b : FVec Ideal s .f32) (y : s.Idx) : mulf a b y = a y * b y := rfl

theorem rows_apply (x0 : Vec Ideal S4x3x90x160x384 .i8) (x1 : Vec Ideal S3x384x768 .fp8e4m3) (x2 x3 : Vec Ideal S1x768 .f32) (x4 : Vec Ideal S1x1 .f32)
    (r : Fin 57600) (n : Fin 768) :
    rows (F := Ideal) x0 x1 x2 x3 x4 (ix2 r n)
      = ((refTap x0 x1 0 (ix2 r n) + refTap x0 x1 1 (ix2 r n)) + refTap x0 x1 2 (ix2 r n)) * (x4 (ix2 0 0) * x2 (ix2 0 n)) + x3 (ix2 0 n) := by
  unfold rows
  rw [scaled_apply, add_at, add_at, mul_at, broadcast_one]

theorem refTap_apply (slot first : IVec ⟨1, ![4]⟩ 32) (pool : IVec ⟨5, ![6, 2, 90, 160, 384]⟩ 8) (a : IVec ⟨5, ![4, 1, 90, 160, 384]⟩ 8) (w : Vec Ideal S3x384x768 .fp8e4m3)
    (t : Fin 3) (b : Fin 4) (h : (slot (ix1 b)).toNat < 6) (p : Fin 14400) (n : Fin 768) :
    refTap (F := Ideal) (threeFrames slot first pool a) w t (ix2 (rowOf b p) n)
      = frameTap (stageFrames slot first pool a b) (fun t k n => w (ix3 t k n)) p.val n t := by
  unfold refTap
  rw [rowsTap_apply]
  refine Finset.sum_congr rfl fun k _ => congrArg₂ (fun a b => decode a * b) ?_ ?_
  · unfold frameRows
    refine (cast_pixels _ _ b p k).trans ?_
    refine (congrFun (shapeCast_self _ _) _).trans ?_
    refine (View.ld_unit_apply_of (Val := Elt Ideal) (e := .i8) (threeFrames slot first pool a) _ _ _ _
      (ix5 b t ⟨p.val / 160, by omega⟩ ⟨p.val % 160, by omega⟩ k) ?_).trans ?_
    · intro d
      match d with
      | ⟨0, _⟩ => exact (Nat.zero_add _).symm
      | ⟨1, _⟩ => rfl
      | ⟨2, _⟩ => exact (Nat.zero_add _).symm
      | ⟨3, _⟩ => exact (Nat.zero_add _).symm
      | ⟨4, _⟩ => exact (Nat.zero_add _).symm
    · refine (threeFrames_apply slot first pool a b h _ _ _ k).trans ?_
      exact congrArg (fun q => stageFrames slot first pool a b t q k) (show p.val / 160 * 160 + p.val % 160 = p.val by omega)
  · exact View.ld_unit_apply_of w _ _ _ (ix3 0 k n) (ix3 t k n) (by
      intro d
      match d with
      | ⟨0, _⟩ => rfl
      | ⟨1, _⟩ => exact (Nat.zero_add _).symm
      | ⟨2, _⟩ => exact (Nat.zero_add _).symm)

variable (m : (ℓ : Loc nD τ sig) → Buf (Elt Ideal) ℓ) (c : Dev nD)

abbrev slotA : IVec ⟨1, ![4]⟩ 32 := m ((c : Thread nD τ).loc main_arg0)
abbrev firstA : IVec ⟨1, ![4]⟩ 32 := m ((c : Thread nD τ).loc main_arg1)
abbrev poolA : IVec ⟨5, ![6, 2, 90, 160, 384]⟩ 8 := m ((c : Thread nD τ).loc main_arg2)
abbrev codesA : IVec ⟨5, ![4, 1, 90, 160, 384]⟩ 8 := m ((c : Thread nD τ).loc main_arg3)
abbrev weightsA : Vec Ideal ⟨3, ![3, 384, 768]⟩ .fp8e4m3 := m ((c : Thread nD τ).loc main_arg4)
abbrev wsA : Vec Ideal ⟨1, ![768]⟩ .f32 := m ((c : Thread nD τ).loc main_arg5)
abbrev biasA : Vec Ideal ⟨1, ![768]⟩ .f32 := m ((c : Thread nD τ).loc main_arg6)
abbrev scaleA : Vec Ideal ⟨0, ![]⟩ .f32 := m ((c : Thread nD τ).loc main_arg7)
abbrev nextA : Vec Ideal ⟨0, ![]⟩ .f32 := m ((c : Thread nD τ).loc main_arg8)

theorem V_v11 : V m c main_v11 = threeFrames (slotA m c) (firstA m c) (poolA m c) (codesA m c) := by
  entry_read; rfl
theorem V_v12 : V m c main_v12 = shapeCast S1x768 (wsA m c) shapeCasts_S768_S1x768 := by
  entry_read; rfl
theorem V_v13 : V m c main_v13 = shapeCast S1x768 (biasA m c) shapeCasts_S768_S1x768 := by
  entry_read; rfl
theorem V_v14 : V m c main_v14 = shapeCast S1x1 (scaleA m c) shapeCasts_S_S1x1 := by
  entry_read; rfl
theorem V_v15 : V m c main_v15 = shapeCast S1x1 (nextA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_v11 := by
  funext y
  refine congrArg (V m c main_v11) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_arg4 := by
  funext y
  refine congrArg (V m c main_arg4) (funext fun a => Fin.ext ?_)
  refine (Pipeline.Window.rect_emb_val (cfg0.win 1) t y a).trans ?_
  match a with
  | ⟨0, _⟩ => exact at_zero rfl
  | ⟨1, _⟩ => exact at_zero rfl
  | ⟨2, _⟩ => exact at_zero rfl

theorem iblk2 (t : Fin cfg0.N) : iblk m c 2 t = V m c main_v12 := by
  funext y
  refine congrArg (V m c main_v12) (funext fun a => Fin.ext ?_)
  refine (Pipeline.Window.rect_emb_val (cfg0.win 2) t y a).trans ?_
  match a with
  | ⟨0, _⟩ => exact at_zero rfl
  | ⟨1, _⟩ => exact at_zero rfl

theorem iblk3 (t : Fin cfg0.N) : iblk m c 3 t = V m c main_v13 := by
  funext y
  refine congrArg (V m c main_v13) (funext fun a => Fin.ext ?_)
  refine (Pipeline.Window.rect_emb_val (cfg0.win 3) t y a).trans ?_
  match a with
  | ⟨0, _⟩ => exact at_zero rfl
  | ⟨1, _⟩ => exact at_zero rfl

theorem iblk4 (t : Fin cfg0.N) : iblk m c 4 t = V m c main_v14 := by
  funext y
  refine congrArg (V m c main_v14) (funext fun a => Fin.ext ?_)
  refine (Pipeline.Window.rect_emb_val (cfg0.win 4) t y a).trans ?_
  match a with
  | ⟨0, _⟩ => exact at_zero rfl
  | ⟨1, _⟩ => exact at_zero rfl

theorem iblk5 (t : Fin cfg0.N) : iblk m c 5 t = V m c main_v15 := by
  funext y
  refine congrArg (V m c main_v15) (funext fun a => Fin.ext ?_)
  refine (Pipeline.Window.rect_emb_val (cfg0.win 5) t y a).trans ?_
  match a with
  | ⟨0, _⟩ => exact at_zero rfl
  | ⟨1, _⟩ => exact at_zero rfl

theorem rows_at (b : Fin 4) (h : (slotA m c (ix1 b)).toNat < 6) (p : Fin 14400) (n : Fin 768) :
    rows (F := Ideal) (threeFrames (slotA m c) (firstA m c) (poolA m c) (codesA m c)) (weightsA m c) (shapeCast S1x768 (wsA m c) shapeCasts_S768_S1x768)
        (shapeCast S1x768 (biasA m c) shapeCasts_S768_S1x768) (shapeCast S1x1 (scaleA m c) shapeCasts_S_S1x1) (ix2 (rowOf b p) n)
      = frameSum (stageFrames (slotA m c) (firstA m c) (poolA m c) (codesA m c) b) (fun t k n => weightsA m c (ix3 t k n)) p.val n
          * (scaleA m c ix0 * wsA m c (ix1 n)) + biasA m c (ix1 n) := by
  rw [rows_apply, refTap_apply (slotA m c) (firstA m c) (poolA m c) (codesA m c) (weightsA m c) 0 b h p n, refTap_apply (slotA m c) (firstA m c) (poolA m c) (codesA m c) (weightsA m c) 1 b h p n,
    refTap_apply (slotA m c) (firstA m c) (poolA m c) (codesA m c) (weightsA m c) 2 b h p n, cast_one, cast_row768, cast_row768]
  unfold frameSum
  rfl

theorem out7_at (t : Fin cfg0.N) (b : Fin 4) (h : (slotA m c (ix1 b)).toNat < 6) (f : Fin 2) (p : Fin 14400) (n : Fin 384) :
    out0_7 (iblk m c 0 t) (iblk m c 1 t) (iblk m c 2 t) (iblk m c 3 t) (iblk m c 4 t) (iblk m c 5 t) (ix4 b f p n)
      = timeCode (slotA m c) (firstA m c) (poolA m c) (codesA m c) (weightsA m c) (wsA m c) (biasA m c) (scaleA m c) (nextA m c) b f p n := by
  rw [out7_plain, codesOf_apply, iblk0, iblk1, iblk2, iblk3, iblk4, iblk5, V_v11, V_v12, V_v13, V_v14, V_v15, V_main_arg4, rows_at m c b h, cast_one]
  rfl

theorem out6_at (t : Fin cfg0.N) (b : Fin 4) (h : (slotA m c (ix1 b)).toNat < 6) (f : Fin 2) (p : Fin 14400) (n : Fin 384) :
    out0_6 (iblk m c 0 t) (iblk m c 1 t) (iblk m c 2 t) (iblk m c 3 t) (iblk m c 4 t) (iblk m c 5 t) (ix4 b f p n)
      = cacheAt (slotA m c) (firstA m c) (poolA m c) (codesA m c) b f p n := by
  unfold out0_6
  refine (congrFun (View.canon_unit_zero zero4 _ _) _).trans ?_
  rw [iblk0, V_v11]
  exact refCache_apply (slotA m c) (firstA m c) (poolA m c) (codesA m c) _ _ _ _ b h f p n

/-- The two results at the end. -/
noncomputable def cacheArr (y : S4x2x14400x384.Idx) : EReal :=
  cacheAt (slotA m c) (firstA m c) (poolA m c) (codesA m c) (y 0) (y 1) (y 2) (y 3)
noncomputable def codeArr (y : S4x2x14400x384.Idx) : EReal :=
  timeCode (slotA m c) (firstA m c) (poolA m c) (codesA m c) (weightsA m c) (wsA m c) (biasA m c) (scaleA m c) (nextA m c) (y 0) (y 1) (y 2) (y 3)

/-- The one grid point. -/
def point : Fin cfg0.N := ⟨0, by decide⟩

theorem one_point (t : Fin cfg0.N) : t = point := by
  have h : ∀ t : Fin grid0.N, t = ⟨0, by decide⟩ := by decide +kernel
  exact h t

theorem emb6 (y : S4x2x14400x384.Idx) : ((cfg0.win 6).blk point).view.emb y = y := by
  funext a; refine Fin.ext ((Pipeline.Window.rect_emb_val (cfg0.win 6) point y a).trans ?_)
  match a with
  | ⟨0, _⟩ => exact at_zero rfl
  | ⟨1, _⟩ => exact at_zero rfl
  | ⟨2, _⟩ => exact at_zero rfl
  | ⟨3, _⟩ => exact at_zero rfl

theorem final6 (h : ∀ b : Fin 4, (slotA m c (ix1 b)).toNat < 6) : (dats m 0 c).arrAt 6 cfg0.N = cacheArr m c := by
  refine (dats m 0 c).arrAt_eq_of_emb 6 _ (fun t _ y => ?_) (fun y => ?_)
  · obtain rfl := one_point t
    refine Eq.trans ?_ (congrArg (cacheArr m c) (emb6 y).symm)
    refine (congrFun (after0_6 m c point) y).trans ?_
    refine (congrArg _ (idx4_eta y)).trans ?_
    exact out6_at m c point (y 0) (h _) (y 1) (y 2) (y 3)
  · exact ⟨point, by decide +kernel, (emb6 y) ▸ View.emb_mem_set _ _⟩

theorem emb7 (y : S4x2x14400x384.Idx) : ((cfg0.win 7).blk point).view.emb y = y := by
  funext a; refine Fin.ext ((Pipeline.Window.rect_emb_val (cfg0.win 7) point y a).trans ?_)
  match a with
  | ⟨0, _⟩ => exact at_zero rfl
  | ⟨1, _⟩ => exact at_zero rfl
  | ⟨2, _⟩ => exact at_zero rfl
  | ⟨3, _⟩ => exact at_zero rfl

theorem final7 (h : ∀ b : Fin 4, (slotA m c (ix1 b)).toNat < 6) : (dats m 0 c).arrAt 7 cfg0.N = codeArr m c := by
  refine (dats m 0 c).arrAt_eq_of_emb 7 _ (fun t _ y => ?_) (fun y => ?_)
  · obtain rfl := one_point t
    refine Eq.trans ?_ (congrArg (codeArr m c) (emb7 y).symm)
    refine (congrFun (after0_7 m c point) y).trans ?_
    refine (congrArg _ (idx4_eta y)).trans ?_
    exact out7_at m c point (y 0) (h _) (y 1) (y 2) (y 3)
  · exact ⟨point, by decide +kernel, (emb7 y) ▸ View.emb_mem_set _ _⟩

end Cert.TemporalRef
-- ==== Proof.TemporalRun.lean ====
/-
  The temporal convolution's run and its reference's run, each with the arrays it ends with, and the equality of
  the two families of arrays when the arguments agree.
-/
module

public import proofs.«01_k».proof.Proof.TemporalArray
public import proofs.«01_k».proof.Proof.TemporalRef
public import proofs.«01_k».proof.Proof.Gen.TemporalIdeal.Frame
public import proofs.«01_k».proof.Proof.Gen.TemporalRefIdeal.Frame

@[expose] public section

set_option maxRecDepth 16384

namespace Cert.Temporal

open Idealize.ShloMosaic hiding ix0 ix1 ix2 ix3 ix4 ix5
open Idealize.ShloMosaic.TcCoe Idealize.ShloMosaic.ValueIdx
open Idealize.SL.Sem
open Cert.Words Cert.TemporalIdeal Cert.TemporalIdeal.Gen

/-- The kernel ends with the new cache and the next stage's codes. -/
theorem run_arrays (m : (ℓ : Loc nD τ sig) → Buf (Elt Ideal) ℓ) (ρ : Dev nD → PrngReg) (hO : Ok m) :
    θ_run defs (onTc (τ := τ) (main (F := Ideal))) ⟨m, fun _ => 0, ρ⟩ fun r => ∀ c : Dev nD,
      r.2.mem ((c : Thread nD τ).loc main_v6_0) = cacheArr m c
      ∧ r.2.mem ((c : Thread nD τ).loc main_v6_1) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1 8).trans (final8 m hO c), ((h c).1 9).trans (final9 m hO c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 3).trans (((dats m hO 0 c).arrAt_in 3 rfl _).trans ((A_eq m hO c 3).trans (V_main_arg4 m c))),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) (run_main m ρ hO)

end Cert.Temporal

namespace Cert.TemporalRef

open Idealize.ShloMosaic hiding ix0 ix1 ix2 ix3 ix4 ix5
open Idealize.ShloMosaic.TcCoe Idealize.ShloMosaic.ValueIdx
open Idealize.SL.Sem
open Cert.Words Cert.TemporalRefIdeal Cert.TemporalRefIdeal.Gen

/-- The reference ends with the same two arrays of its own arguments. -/
theorem run_arrays (m : (ℓ : Loc nD τ sig) → Buf (Elt Ideal) ℓ) (ρ : Dev nD → PrngReg)
    (h6 : ∀ (c : Dev nD) (b : Fin 4), (slotA m c (ix1 b)).toNat < 6) :
    θ_run defs (onTc (τ := τ) (main (F := Ideal))) ⟨m, fun _ => 0, ρ⟩ fun r => ∀ c : Dev nD,
      r.2.mem ((c : Thread nD τ).loc main_v16_0) = cacheArr m c
      ∧ r.2.mem ((c : Thread nD τ).loc main_v16_1) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h c).1 6).trans (final6 m c (h6 c)), ((h c).1 7).trans (final7 m c (h6 c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats m 0 c).arrAt_in 1 rfl _).trans ((A_eq m c 1).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

/-- Arguments that agree give arrays that agree. -/
theorem arrays_eq (m' : (ℓ : Loc nD τ sig) → Buf (Elt Ideal) ℓ) (m : (ℓ : Loc Cert.TemporalIdeal.nD Cert.TemporalIdeal.τ Cert.TemporalIdeal.sig) → Buf (Elt Ideal) ℓ) (c : Dev nD)
    (h0 : slotA m' c = Temporal.slotA m c)
    (h1 : firstA m' c = Temporal.firstA m c)
    (h2 : poolA m' c = Temporal.poolA m c)
    (h3 : codesA m' c = Temporal.codesA m c)
    (h4 : weightsA m' c = Temporal.weightsA m c)
    (h5 : wsA m' c = Temporal.wsA m c)
    (h6 : biasA m' c = Temporal.biasA m c)
    (h7 : scaleA m' c = Temporal.scaleA m c)
    (h8 : nextA m' c = Temporal.nextA m c)
    : cacheArr m' c = Temporal.cacheArr m c ∧ codeArr m' c = Temporal.codeArr m c := by
  refine ⟨funext fun y => ?_, funext fun y => ?_⟩
  · unfold cacheArr Temporal.cacheArr; rw [h0, h1, h2, h3]
  · unfold codeArr Temporal.codeArr; rw [h0, h1, h2, h3, h4, h5, h6, h7, h8]

end Cert.TemporalRef
-- ==== Proof.NormQuantArray.lean ====
/-
  The first normalisation's array: the tile that the kernel's body leaves, each input block at a grid point as elements
  of the arguments, and what the output array holds after the last point.
-/
module

public import proofs.«01_k».proof.Proof.ConvSpec
public import proofs.«01_k».proof.Proof.Gen.NormQuantIdeal.Frame
public import Idealize.ShloMosaic.Lib.Pipeline.ValueKit

@[expose] public section

set_option maxRecDepth 16384

namespace Cert.NormQuant

open Idealize.ShloMosaic hiding ix0 ix1 ix2 ix3 ix4 ix5
open Idealize.ShloMosaic.TcCoe Idealize.ShloMosaic.ValueIdx
open Cert.Words Cert.NormQuantIdeal Cert.NormQuantIdeal.Gen

theorem zero3 : (![0, 0, 0] : Fin 3 → Nat) = fun _ => 0 := by decide
theorem zero2 : (![0, 0] : Fin 2 → Nat) = fun _ => 0 := by decide

section
variable {F : FTy → Type} [FloatOps F]
variable (c : Dev nD) (i : grid0.Coords) (arg2 : Memref sig .tc .smem S1 .f32) (harg2 : arg2.IsWhole) (arg3 : Memref sig .tc .vmem S1x480x384 .bf16) (harg3 : arg3.IsWhole) (arg4 : Memref sig .tc .vmem S1x384 .f32) (harg4 : arg4.IsWhole) (arg5 : Memref sig .tc .vmem S1x480x384 .fp8e4m3) (harg5 : arg5.IsWhole)
    (x0 : Vec F S1 .f32) (x1 : Vec F S1x480x384 .bf16) (x2 : Vec F S1x384 .f32)

/-- The number in a one-word scalar block, as the kernel loads it. -/
noncomputable def word (a : Memref sig .tc .smem S1 .f32) (ha : a.IsWhole) (x : Vec F S1 .f32) : Elt F .f32 :=
  View.readAt (Elt F) a.view (Rect.unit (s := S1) ![0] S1.size inb_S1_S1_0).toLoadRect (ha.unread x) (Shape.Idx.first (by decide))

theorem word_eq (a : Memref sig .tc .smem S1 .f32) (ha : a.IsWhole) (x : Vec F S1 .f32) : word a ha x = x (ix1 0) := by
  unfold word
  rw [View.readAt_eq_ld, ha.read_unread]
  exact View.ld_unit_apply_of x _ _ _ _ (ix1 0) (by
    intro a
    match a with
    | ⟨0, _⟩ => rfl)

/-- The rows of the input's tile, as the kernel loads them. -/
noncomputable def rowsIn : FVec F S480x384 .f32 :=
  extf .f32 (shapeCast S480x384 (View.readAt (Elt F) arg3.view (Rect.unit (s := S1x480x384) ![0, 0, 0] S1x480x384.size inb_S1x480x384_S1x480x384_0_0_0).toLoadRect (harg3.unread x1)) shapeCasts_S1x480x384_S480x384) bitsLt_bf16_f32

/-- A tile of the codes, as the body forms it. -/
noncomputable def tileCode : FVec F ⟨2, ![480, 384]⟩ .fp8e4m3 :=
  quantised (normed (rowsIn arg3 harg3 x1)
      (shapeCast S1x384 (View.readAt (Elt F) arg4.view (Rect.unit (s := S1x384) ![0, 0] S1x384.size inb_S1x384_S1x384_0_0).toLoadRect (harg4.unread x2)) shapeCasts_S1x384_S1x384)
      broadcasts_S1x384_S480x384 reduces_S480x384_S480 shapeCasts_S480_S480x1 broadcasts_S480x1_S480x384)
    (broadcast S480x384 (word arg2 harg2 x0))

theorem pieces3 : (kernelRun0_A c i arg2 harg2 arg3 harg3 arg4 harg4 arg5 harg5 x0 x1 x2).1
    = [⟨Rect.unit (s := S1x480x384) ![0, 0, 0] S1x480x384.size inb_S1x480x384_S1x480x384_0_0_0, shapeCast S1x480x384 (tileCode arg2 harg2 arg3 harg3 arg4 harg4 x0 x1 x2) shapeCasts_S480x384_S1x480x384⟩] := by
  unfold kernelRun0_A; dsimp only; rfl

theorem out3_eq : out0_A_3 c i arg2 harg2 arg3 harg3 arg4 harg4 arg5 harg5 x0 x1 x2
    = shapeCast S1x480x384 (tileCode arg2 harg2 arg3 harg3 arg4 harg4 x0 x1 x2) shapeCasts_S480x384_S1x480x384 := by
  unfold out0_A_3
  rw [View.read_writes_eq_canon _ _ _ (cover0_A_3 c i arg2 harg2 arg3 harg3 arg4 harg4 arg5 harg5 x0 x1 x2), pieces3]
  exact View.canon_unit_zero zero3 _ _
end

section
variable (c : Dev nD) (i : grid0.Coords) (arg2 : Memref sig .tc .smem S1 .f32) (harg2 : arg2.IsWhole) (arg3 : Memref sig .tc .vmem S1x480x384 .bf16) (harg3 : arg3.IsWhole) (arg4 : Memref sig .tc .vmem S1x384 .f32) (harg4 : arg4.IsWhole) (arg5 : Memref sig .tc .vmem S1x480x384 .fp8e4m3) (harg5 : arg5.IsWhole)
    (x0 : Vec Ideal S1 .f32) (x1 : Vec Ideal S1x480x384 .bf16) (x2 : Vec Ideal S1x384 .f32)

theorem row_at (a : Memref sig .tc .vmem S1x384 .f32) (ha : a.IsWhole) (x : Vec Ideal S1x384 .f32) :
    shapeCast S1x384 (View.readAt (Elt Ideal) a.view (Rect.unit (s := S1x384) ![0, 0] S1x384.size inb_S1x384_S1x384_0_0).toLoadRect (ha.unread x)) shapeCasts_S1x384_S1x384 = x := by
  rw [View.readAt_eq_ld, ha.read_unread, View.ld_unit_zero zero2]
  exact shapeCast_self _ _

theorem rowsIn_at (r : Fin 480) (n : Fin 384) : rowsIn arg3 harg3 x1 (ix2 r n) = x1 (ix3 0 r n) := by
  unfold rowsIn
  rw [View.readAt_eq_ld, harg3.read_unread, View.ld_unit_zero zero3]
  exact shapeCast_1ab_ab_apply _ _ r n

/-- What the tile leaves in the output. -/
theorem out3_at (r : Fin 480) (n : Fin 384) :
    out0_A_3 c i arg2 harg2 arg3 harg3 arg4 harg4 arg5 harg5 x0 x1 x2 (ix3 0 r n)
      = quantAt (normAt (fun k => x1 (ix3 0 r k)) (fun k => x2 (ix2 0 k)) n) (x0 (ix1 0)) := by
  rw [out3_eq]
  refine (shapeCast_ab_1ab_apply _ _ 0 r n).trans ?_
  unfold tileCode
  rw [row_at arg4 harg4 x2, quantised_apply, normed_apply]
  show quantAt _ (word arg2 harg2 x0) = _
  rw [word_eq]
  exact congrArg (fun h => quantAt (normAt h (fun k => x2 (ix2 0 k)) n) (x0 (ix1 0))) (funext fun k => rowsIn_at arg3 harg3 x1 r k)
end

variable (m : (ℓ : Loc nD τ sig) → Buf (Elt Ideal) ℓ) (c : Dev nD)

abbrev inputA : Vec Ideal ⟨5, ![4, 1, 90, 160, 384]⟩ .bf16 := m ((c : Thread nD τ).loc main_arg0)
abbrev gammaA : Vec Ideal ⟨1, ![384]⟩ .f32 := m ((c : Thread nD τ).loc main_arg1)
abbrev nextA : Vec Ideal ⟨0, ![]⟩ .f32 := m ((c : Thread nD τ).loc main_arg2)

/-- The grid point's batch entry. -/
def entry (t : Fin cfg0.N) : Fin 4 := grid0.coords t 0
/-- The grid point's tile of three image rows. -/
def tile (t : Fin cfg0.N) : Fin 30 := grid0.coords t 1

theorem at_zero {x n y : Nat} (h : x = 0) : x * n + y = y := by rw [h, Nat.zero_mul, Nat.zero_add]
theorem at_block {x n y b r : Nat} (h : x = b) (hy : y = r) : x * n + y = b * n + r := by rw [h, hy]
theorem at_row {x b : Nat} (h : x = b) : x * 1 + 0 = b := by rw [h, Nat.mul_one, Nat.add_zero]
theorem word4 : ∀ b : Fin 4, (BitVec.ofNat 32 b.val).toNat = b.val := by decide
theorem word30 : ∀ j : Fin 30, (BitVec.ofNat 32 j.val).toNat = j.val := by decide

theorem V_v0 : V m c main_v0 = shapeCast S4x14400x384 (inputA m c) shapeCasts_S4x1x90x160x384_S4x14400x384 := by
  entry_read; rfl
theorem V_v1 : V m c main_v1 = shapeCast S1x384 (gammaA m c) shapeCasts_S384_S1x384 := by
  entry_read; rfl
theorem V_v2 : V m c main_v2 = shapeCast S1 (nextA m c) shapeCasts_S_S1 := by
  entry_read; rfl

theorem tile_row (j : Fin 30) (r : Fin 480) : j.val * 480 + r.val < 14400 := by omega

/-- The pixel a tile's row is. -/
def pixel (t : Fin cfg0.N) (r : Fin 480) : Fin 14400 := ⟨(tile t).val * 480 + r.val, tile_row _ r⟩

theorem iblk0_apply (t : Fin cfg0.N) : iblk m c 0 t (ix1 0) = V m c main_v2 (ix1 0) := by
  refine congrArg (V m c main_v2) (funext fun a => Fin.ext ?_)
  refine (Pipeline.Window.rect_emb_val (cfg0.win 0) t (ix1 0) a).trans ?_
  match a with
  | ⟨0, _⟩ => exact at_zero rfl

theorem iblk1_apply (t : Fin cfg0.N) (r : Fin 480) (l : Fin 384) : iblk m c 1 t (ix3 0 r l) = V m c main_v0 (ix3 (entry t) (pixel t r) l) := by
  refine congrArg (V m c main_v0) (funext fun a => Fin.ext ?_)
  refine (Pipeline.Window.rect_emb_val (cfg0.win 1) t (ix3 0 r l) a).trans ?_
  match a with
  | ⟨0, _⟩ => exact at_row (word4 (grid0.coords t 0))
  | ⟨1, _⟩ => exact at_block (word30 (grid0.coords t 1)) rfl
  | ⟨2, _⟩ => exact at_zero rfl

theorem iblk2_apply (t : Fin cfg0.N) (n : Fin 384) : iblk m c 2 t (ix2 0 n) = V m c main_v1 (ix2 0 n) := by
  refine congrArg (V m c main_v1) (funext fun a => Fin.ext ?_)
  refine (Pipeline.Window.rect_emb_val (cfg0.win 2) t (ix2 0 n) a).trans ?_
  match a with
  | ⟨0, _⟩ => exact at_zero rfl
  | ⟨1, _⟩ => exact at_zero rfl

noncomputable abbrev nextB (t : Fin cfg0.N) : Vec Ideal S1 .f32 := iblk m c 0 t
noncomputable abbrev inputB (t : Fin cfg0.N) : Vec Ideal S1x480x384 .bf16 := iblk m c 1 t
noncomputable abbrev gammaB (t : Fin cfg0.N) : Vec Ideal S1x384 .f32 := iblk m c 2 t

/-- The row of the input at a pixel. -/
def inputRow (x : Vec Ideal ⟨5, ![4, 1, 90, 160, 384]⟩ .bf16) (b : Fin 4) (p : Fin 14400) (k : Fin 384) : EReal :=
  x (ix5 b 0 ⟨p.val / 160, by omega⟩ ⟨p.val % 160, by omega⟩ k)

/-- What a point's block holds after its body. -/
theorem after_at (t : Fin cfg0.N) (r : Fin 480) (n : Fin 384) :
    outsAt0 m c t (ix3 0 r n) = normCode (inputRow (inputA m c) (entry t) (pixel t r)) (gammaA m c) (nextA m c) n := by
  unfold outsAt0
  refine (out3_at c (grid0.coords t) (ms0_0 t) (hs0_0 t) (ms0_1 t) (hs0_1 t) (ms0_2 t) (hs0_2 t) (ms0_3 t) (hs0_3 t)
    (nextB m c t) (inputB m c t) (gammaB m c t) r n).trans ?_
  have e0 : nextB m c t (ix1 0) = nextA m c ix0 := (iblk0_apply m c t).trans ((congrFun (V_v2 m c) _).trans (cast_scalar _ _))
  have e1 : (fun k => inputB m c t (ix3 0 r k)) = inputRow (inputA m c) (entry t) (pixel t r) :=
    funext fun k => (iblk1_apply m c t r k).trans ((congrFun (V_v0 m c) _).trans (cast_image _ _ _ (pixel t r) k))
  have e2 : (fun k => gammaB m c t (ix2 0 k)) = fun k => gammaA m c (ix1 k) :=
    funext fun k => (iblk2_apply m c t k).trans ((congrFun (V_v1 m c) _).trans (cast_row _ _ k))
  rw [e0, e1, e2]
  rfl

/-! What the array holds at the end. -/

/-- The grid point of a batch entry and a pixel. -/
def point (b : Fin 4) (p : Fin 14400) : Fin cfg0.N := ⟨b.val * 30 + p.val / 480, by show _ < grid0.N; rw [N_0]; omega⟩

theorem coords_val : ∀ t : Fin grid0.N, (grid0.coords t 0).val = t.val / 30 ∧ (grid0.coords t 1).val = t.val % 30 := by
  decide +kernel

theorem coords_at (b : Fin 4) (j : Fin 30) (h : b.val * 30 + j.val < grid0.N) :
    grid0.coords ⟨b.val * 30 + j.val, h⟩ 0 = b ∧ grid0.coords ⟨b.val * 30 + j.val, h⟩ 1 = j := by
  obtain ⟨e0, e1⟩ := coords_val ⟨b.val * 30 + j.val, h⟩
  refine ⟨Fin.ext (e0.trans ?_), Fin.ext (e1.trans ?_)⟩
  · show (b.val * 30 + j.val) / 30 = b.val; omega
  · show (b.val * 30 + j.val) % 30 = j.val; omega

theorem entry_point (b : Fin 4) (p : Fin 14400) : entry (point b p) = b :=
  (coords_at b ⟨p.val / 480, by omega⟩ _).1
theorem pixel_point (b : Fin 4) (p : Fin 14400) : pixel (point b p) ⟨p.val % 480, by omega⟩ = p := by
  refine Fin.ext ?_
  have h : tile (point b p) = ⟨p.val / 480, by omega⟩ := (coords_at b ⟨p.val / 480, by omega⟩ _).2
  show (tile (point b p)).val * 480 + p.val % 480 = p.val
  rw [h]
  show p.val / 480 * 480 + p.val % 480 = p.val
  omega

theorem emb3 (t : Fin cfg0.N) (r : Fin 480) (n : Fin 384) :
    ((cfg0.win 3).blk t).view.emb (ix3 0 r n) = ix3 (entry t) (pixel t r) n := by
  refine funext fun a => Fin.ext ?_
  refine (Pipeline.Window.rect_emb_val (cfg0.win 3) t (ix3 0 r n) a).trans ?_
  match a with
  | ⟨0, _⟩ => exact at_row (word4 (grid0.coords t 0))
  | ⟨1, _⟩ => exact at_block (word30 (grid0.coords t 1)) rfl
  | ⟨2, _⟩ => exact at_zero rfl

theorem idx3_cases (y : S1x480x384.Idx) : ∃ (r : Fin 480) (n : Fin 384), y = ix3 0 r n :=
  ⟨y 1, y 2, funext fun a => match a with
    | ⟨0, _⟩ => Subsingleton.elim (α := Fin 1) _ _
    | ⟨1, _⟩ => rfl
    | ⟨2, _⟩ => rfl⟩
theorem idx3_eq (y : S4x14400x384.Idx) : y = ix3 (y 0) (y 1) (y 2) :=
  funext fun a => match a with
    | ⟨0, _⟩ => rfl
    | ⟨1, _⟩ => rfl
    | ⟨2, _⟩ => rfl

/-- The output array at the end. -/
noncomputable def codeArr (y : S4x14400x384.Idx) : EReal :=
  normCode (inputRow (inputA m c) (y 0) (y 1)) (gammaA m c) (nextA m c) (y 2)

theorem cover3 (y : S4x14400x384.Idx) : ∃ (t : Fin cfg0.N) (r : Fin 480) (n : Fin 384),
    ((cfg0.win 3).blk t).view.emb (ix3 0 r n) = y :=
  ⟨point (y 0) (y 1), ⟨(y 1).val % 480, Nat.mod_lt _ (by decide)⟩, y 2,
    (emb3 _ _ _).trans ((congrArg₂ (fun b p => ix3 b p (y 2)) (entry_point (y 0) (y 1)) (pixel_point (y 0) (y 1))).trans (idx3_eq y).symm)⟩

theorem final3 : (dats m 0 c).arrAt 3 cfg0.N = codeArr m c := by
  refine (dats m 0 c).arrAt_eq_of_emb 3 _ (fun t _ y => ?_) (fun y => ?_)
  · obtain ⟨r, n, rfl⟩ := idx3_cases y
    refine Eq.trans ?_ (congrArg (codeArr m c) (emb3 t r n).symm)
    refine Eq.trans ?_ (after_at m c t r n)
    exact congrFun (after0_3 m c t) (ix3 0 r n)
  · obtain ⟨t, r, n, e⟩ := cover3 y
    exact ⟨t, flush0_3 _, e ▸ View.emb_mem_set _ _⟩

end Cert.NormQuant
-- ==== Proof.NormQuantRef.lean ====
/-
  The first normalisation's reference: its one grid point's block as elements of its arguments, and what its array
  holds.
-/
module

public import proofs.«01_k».proof.Proof.RefConv
public import proofs.«01_k».proof.Proof.NormQuantArray
public import proofs.«01_k».proof.Proof.Gen.NormQuantRefIdeal.Frame

@[expose] public section

set_option maxRecDepth 16384

namespace Cert.NormQuantRef

open Idealize.ShloMosaic hiding ix0 ix1 ix2 ix3 ix4 ix5
open Idealize.ShloMosaic.TcCoe Idealize.ShloMosaic.ValueIdx
open Cert.Words Cert.NormQuantRefIdeal Cert.NormQuantRefIdeal.Gen
open Cert.NormQuant (inputRow)

section
variable {F : FTy → Type} [FloatOps F]
variable (x0 : Vec F S4x1x90x160x384 .bf16) (x1 : Vec F S1x384 .f32) (x2 : Vec F S1x1 .f32)

theorem zero5 : (![0, 0, 0, 0, 0] : Fin 5 → Nat) = fun _ => 0 := by decide
theorem zero3 : (![0, 0, 0] : Fin 3 → Nat) = fun _ => 0 := by decide
theorem zero2 : (![0, 0] : Fin 2 → Nat) = fun _ => 0 := by decide

/-- The input by row. -/
noncomputable def rows : FVec F S57600x384 .f32 := extf .f32 (shapeCast S57600x384 x0 shapeCasts_S4x1x90x160x384_S57600x384) bitsLt_bf16_f32

theorem out3_ld : out0_3 x0 x1 x2
    = shapeCast S4x14400x384 (quantised (normed (rows (View.ld x0 r0_0)) (shapeCast S1x384 (View.ld x1 r0_1) shapeCasts_S1x384_S1x384) broadcasts_S1x384_S57600x384 reduces_S57600x384_S57600 shapeCasts_S57600_S57600x1 broadcasts_S57600x1_S57600x384)
        (broadcastTo S57600x384 (shapeCast S1x1 (View.ld x2 r0_2) shapeCasts_S1x1_S1x1) broadcasts_S1x1_S57600x384)) shapeCasts_S57600x384_S4x14400x384 := by
  unfold out0_3
  exact (View.canon_unit_zero zero3 _ _).trans rfl

theorem input_ld (x : Vec F S4x1x90x160x384 .bf16) : View.ld x r0_0 = x := View.ld_unit_zero zero5 _ _
theorem row_ld (x : Vec F S1x384 .f32) : shapeCast S1x384 (View.ld x r0_1) shapeCasts_S1x384_S1x384 = x := by
  rw [View.ld_unit_zero zero2]; exact shapeCast_self _ _
theorem one_ld (x : Vec F S1x1 .f32) : shapeCast S1x1 (View.ld x r0_2) shapeCasts_S1x1_S1x1 = x := by
  rw [View.ld_unit_zero zero2]; exact shapeCast_self _ _

theorem out3_plain : out0_3 x0 x1 x2
    = shapeCast S4x14400x384 (quantised (normed (rows x0) x1 broadcasts_S1x384_S57600x384 reduces_S57600x384_S57600 shapeCasts_S57600_S57600x1 broadcasts_S57600x1_S57600x384)
        (broadcastTo S57600x384 x2 broadcasts_S1x1_S57600x384)) shapeCasts_S57600x384_S4x14400x384 := by
  rw [out3_ld, input_ld, row_ld, one_ld]
end

variable (m : (ℓ : Loc nD τ sig) → Buf (Elt Ideal) ℓ) (c : Dev nD)

abbrev inputA : Vec Ideal ⟨5, ![4, 1, 90, 160, 384]⟩ .bf16 := m ((c : Thread nD τ).loc main_arg0)
abbrev gammaA : Vec Ideal ⟨1, ![384]⟩ .f32 := m ((c : Thread nD τ).loc main_arg1)
abbrev nextA : Vec Ideal ⟨0, ![]⟩ .f32 := m ((c : Thread nD τ).loc main_arg2)

theorem V_v0 : V m c main_v0 = shapeCast S1x384 (gammaA m c) shapeCasts_S384_S1x384 := by
  entry_read; rfl
theorem V_v1 : V m c main_v1 = shapeCast S1x1 (nextA m c) shapeCasts_S_S1x1 := by
  entry_read; rfl

theorem at_zero {x n y : Nat} (h : x = 0) : x * n + y = y := by rw [h, Nat.zero_mul, Nat.zero_add]

theorem iblk0 (t : Fin cfg0.N) : iblk m c 0 t = V m c main_arg0 := by
  funext y
  refine congrArg (V m c main_arg0) (funext fun a => Fin.ext ?_)
  refine (Pipeline.Window.rect_emb_val (cfg0.win 0) t y a).trans ?_
  match a with
  | ⟨0, _⟩ => exact at_zero rfl
  | ⟨1, _⟩ => exact at_zero rfl
  | ⟨2, _⟩ => exact at_zero rfl
  | ⟨3, _⟩ => exact at_zero rfl
  | ⟨4, _⟩ => exact at_zero rfl

theorem iblk1 (t : Fin cfg0.N) : iblk m c 1 t = V m c main_v0 := by
  funext y
  refine congrArg (V m c main_v0) (funext fun a => Fin.ext ?_)
  refine (Pipeline.Window.rect_emb_val (cfg0.win 1) t y a).trans ?_
  match a with
  | ⟨0, _⟩ => exact at_zero rfl
  | ⟨1, _⟩ => exact at_zero rfl

theorem iblk2 (t : Fin cfg0.N) : iblk m c 2 t = V m c main_v1 := by
  funext y
  refine congrArg (V m c main_v1) (funext fun a => Fin.ext ?_)
  refine (Pipeline.Window.rect_emb_val (cfg0.win 2) t y a).trans ?_
  match a with
  | ⟨0, _⟩ => exact at_zero rfl
  | ⟨1, _⟩ => exact at_zero rfl

theorem rows_at (x : Vec Ideal S4x1x90x160x384 .bf16) (b : Fin 4) (p : Fin 14400) (k : Fin 384) :
    rows (F := Ideal) x (ix2 (rowOf b p) k) = inputRow x b p k := by
  unfold rows
  exact cast_pixels x _ b p k

theorem out3_at (t : Fin cfg0.N) (b : Fin 4) (p : Fin 14400) (n : Fin 384) :
    out0_3 (iblk m c 0 t) (iblk m c 1 t) (iblk m c 2 t) (ix3 b p n) = normCode (inputRow (inputA m c) b p) (gammaA m c) (nextA m c) n := by
  rw [out3_plain]
  refine (cast_rows _ _ b p n).trans ?_
  rw [quantised_apply, normed_apply, broadcast_one, iblk0, iblk1, iblk2, V_v0, V_v1, V_main_arg0]
  unfold normCode
  have e1 : (fun k => rows (F := Ideal) (inputA m c) (ix2 (rowOf b p) k)) = inputRow (inputA m c) b p := funext fun k => rows_at (inputA m c) b p k
  have e2 : (fun k => shapeCast S1x384 (gammaA m c) shapeCasts_S384_S1x384 (ix2 0 k)) = fun k => gammaA m c (ix1 k) := funext fun k => cast_row _ _ k
  rw [e1, e2, cast_one]

/-- The result at the end. -/
noncomputable def codeArr (y : S4x14400x384.Idx) : EReal :=
  normCode (inputRow (inputA m c) (y 0) (y 1)) (gammaA m c) (nextA m c) (y 2)

/-- The one grid point. -/
def point : Fin cfg0.N := ⟨0, by decide⟩

theorem emb3 (y : S4x14400x384.Idx) : ((cfg0.win 3).blk point).view.emb y = y := by
  funext a; refine Fin.ext ((Pipeline.Window.rect_emb_val (cfg0.win 3) point y a).trans ?_)
  match a with
  | ⟨0, _⟩ => exact at_zero rfl
  | ⟨1, _⟩ => exact at_zero rfl
  | ⟨2, _⟩ => exact at_zero rfl

theorem one_point (t : Fin cfg0.N) : t = point := by
  have h : ∀ t : Fin grid0.N, t = ⟨0, by decide⟩ := by decide +kernel
  exact h t

theorem final3 : (dats m 0 c).arrAt 3 cfg0.N = codeArr m c := by
  refine (dats m 0 c).arrAt_eq_of_emb 3 _ (fun t _ y => ?_) (fun y => ?_)
  · obtain rfl := one_point t
    refine Eq.trans ?_ (congrArg (codeArr m c) (emb3 y).symm)
    refine (congrFun (after0_3 m c point) y).trans ?_
    refine (congrArg _ (idx3_eta y)).trans ?_
    exact out3_at m c point (y 0) (y 1) (y 2)
  · exact ⟨point, by decide +kernel, (emb3 y) ▸ View.emb_mem_set _ _⟩

end Cert.NormQuantRef
-- ==== Proof.NormQuantRun.lean ====
/-
  The first normalisation's run and its reference's run, each with the array it ends with, and the equality of the two
  arrays when the arguments agree.
-/
module

public import proofs.«01_k».proof.Proof.NormQuantArray
public import proofs.«01_k».proof.Proof.NormQuantRef

@[expose] public section

set_option maxRecDepth 16384

namespace Cert.NormQuant

open Idealize.ShloMosaic hiding ix0 ix1 ix2 ix3 ix4 ix5
open Idealize.ShloMosaic.TcCoe Idealize.ShloMosaic.ValueIdx
open Idealize.SL.Sem
open Cert.Words Cert.NormQuantIdeal Cert.NormQuantIdeal.Gen

/-- The kernel ends with the first codes. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.NormQuant

namespace Cert.NormQuantRef

open Idealize.ShloMosaic hiding ix0 ix1 ix2 ix3 ix4 ix5
open Idealize.ShloMosaic.TcCoe Idealize.ShloMosaic.ValueIdx
open Idealize.SL.Sem
open Cert.Words Cert.NormQuantRefIdeal Cert.NormQuantRefIdeal.Gen

/-- The reference ends with the same array of its own arguments. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = codeArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- Arguments that agree give arrays that agree. -/
theorem arrays_eq (m' : (ℓ : Loc nD τ sig) → Buf (Elt Ideal) ℓ) (m : (ℓ : Loc Cert.NormQuantIdeal.nD Cert.NormQuantIdeal.τ Cert.NormQuantIdeal.sig) → Buf (Elt Ideal) ℓ) (c : Dev nD)
    (h0 : inputA m' c = NormQuant.inputA m c)
    (h1 : gammaA m' c = NormQuant.gammaA m c)
    (h2 : nextA m' c = NormQuant.nextA m c) : codeArr m' c = NormQuant.codeArr m c := by
  funext y
  unfold codeArr NormQuant.codeArr; rw [h0, h1, h2]

end Cert.NormQuantRef
-- ==== Proof.lean ====
module

public import proofs.«01_k».proof.Defs
public import proofs.«01_k».proof.Proof.Gen.ConvNorm
public import proofs.«01_k».proof.Proof.Gen.ConvNorm.Skeleton
public import proofs.«01_k».proof.Proof.Gen.ConvNorm.Launch
public import proofs.«01_k».proof.Proof.Gen.ConvNorm.Points
public import proofs.«01_k».proof.Proof.Gen.ConvNorm.Frame
public import proofs.«01_k».proof.Proof.Gen.ConvNormIdeal
public import proofs.«01_k».proof.Proof.Gen.ConvNormIdeal.Skeleton
public import proofs.«01_k».proof.Proof.Gen.ConvNormIdeal.Launch
public import proofs.«01_k».proof.Proof.Gen.ConvNormIdeal.Points
public import proofs.«01_k».proof.Proof.Gen.ConvNormIdeal.Frame
public import proofs.«01_k».proof.Proof.Gen.ConvNormRefIdeal
public import proofs.«01_k».proof.Proof.Gen.ConvNormRefIdeal.Skeleton
public import proofs.«01_k».proof.Proof.Gen.ConvNormRefIdeal.Launch
public import proofs.«01_k».proof.Proof.Gen.ConvNormRefIdeal.Points
public import proofs.«01_k».proof.Proof.Gen.ConvNormRefIdeal.Frame
public import proofs.«01_k».proof.Proof.Gen.ConvMid
public import proofs.«01_k».proof.Proof.Gen.ConvMid.Skeleton
public import proofs.«01_k».proof.Proof.Gen.ConvMid.Launch
public import proofs.«01_k».proof.Proof.Gen.ConvMid.Points
public import proofs.«01_k».proof.Proof.Gen.ConvMid.Frame
public import proofs.«01_k».proof.Proof.Gen.ConvMidIdeal
public import proofs.«01_k».proof.Proof.Gen.ConvMidIdeal.Skeleton
public import proofs.«01_k».proof.Proof.Gen.ConvMidIdeal.Launch
public import proofs.«01_k».proof.Proof.Gen.ConvMidIdeal.Points
public import proofs.«01_k».proof.Proof.Gen.ConvMidIdeal.Frame
public import proofs.«01_k».proof.Proof.Gen.ConvMidRefIdeal
public import proofs.«01_k».proof.Proof.Gen.ConvMidRefIdeal.Skeleton
public import proofs.«01_k».proof.Proof.Gen.ConvMidRefIdeal.Launch
public import proofs.«01_k».proof.Proof.Gen.ConvMidRefIdeal.Points
public import proofs.«01_k».proof.Proof.Gen.ConvMidRefIdeal.Frame
public import proofs.«01_k».proof.Proof.Gen.ConvLast
public import proofs.«01_k».proof.Proof.Gen.ConvLast.Skeleton
public import proofs.«01_k».proof.Proof.Gen.ConvLast.Launch
public import proofs.«01_k».proof.Proof.Gen.ConvLast.Points
public import proofs.«01_k».proof.Proof.Gen.ConvLast.Frame
public import proofs.«01_k».proof.Proof.Gen.ConvLastIdeal
public import proofs.«01_k».proof.Proof.Gen.ConvLastIdeal.Skeleton
public import proofs.«01_k».proof.Proof.Gen.ConvLastIdeal.Launch
public import proofs.«01_k».proof.Proof.Gen.ConvLastIdeal.Points
public import proofs.«01_k».proof.Proof.Gen.ConvLastIdeal.Frame
public import proofs.«01_k».proof.Proof.Gen.ConvLastRefIdeal
public import proofs.«01_k».proof.Proof.Gen.ConvLastRefIdeal.Skeleton
public import proofs.«01_k».proof.Proof.Gen.ConvLastRefIdeal.Launch
public import proofs.«01_k».proof.Proof.Gen.ConvLastRefIdeal.Points
public import proofs.«01_k».proof.Proof.Gen.ConvLastRefIdeal.Frame
public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import proofs.«01_k».proof.Proof.Gen.SpatialRefIdeal
public import proofs.«01_k».proof.Proof.Gen.SpatialRefIdeal.Skeleton
public import proofs.«01_k».proof.Proof.Gen.SpatialRefIdeal.Launch
public import proofs.«01_k».proof.Proof.Gen.SpatialRefIdeal.Points
public import proofs.«01_k».proof.Proof.Gen.SpatialRefIdeal.Frame
public import proofs.«01_k».proof.Proof.Gen.Temporal
public import proofs.«01_k».proof.Proof.Gen.Temporal.Skeleton
public import proofs.«01_k».proof.Proof.Gen.Temporal.Launch
public import proofs.«01_k».proof.Proof.Gen.Temporal.Points
public import proofs.«01_k».proof.Proof.Gen.Temporal.Frame
public import proofs.«01_k».proof.Proof.Gen.TemporalIdeal
public import proofs.«01_k».proof.Proof.Gen.TemporalIdeal.Skeleton
public import proofs.«01_k».proof.Proof.Gen.TemporalIdeal.Launch
public import proofs.«01_k».proof.Proof.Gen.TemporalIdeal.Points
public import proofs.«01_k».proof.Proof.Gen.TemporalIdeal.Frame
public import proofs.«01_k».proof.Proof.Gen.TemporalRefIdeal
public import proofs.«01_k».proof.Proof.Gen.TemporalRefIdeal.Skeleton
public import proofs.«01_k».proof.Proof.Gen.TemporalRefIdeal.Launch
public import proofs.«01_k».proof.Proof.Gen.TemporalRefIdeal.Points
public import proofs.«01_k».proof.Proof.Gen.TemporalRefIdeal.Frame
public import proofs.«01_k».proof.Proof.Gen.NormQuant
public import proofs.«01_k».proof.Proof.Gen.NormQuant.Skeleton
public import proofs.«01_k».proof.Proof.Gen.NormQuant.Launch
public import proofs.«01_k».proof.Proof.Gen.NormQuant.Points
public import proofs.«01_k».proof.Proof.Gen.NormQuant.Frame
public import proofs.«01_k».proof.Proof.Gen.NormQuantIdeal
public import proofs.«01_k».proof.Proof.Gen.NormQuantIdeal.Skeleton
public import proofs.«01_k».proof.Proof.Gen.NormQuantIdeal.Launch
public import proofs.«01_k».proof.Proof.Gen.NormQuantIdeal.Points
public import proofs.«01_k».proof.Proof.Gen.NormQuantIdeal.Frame
public import proofs.«01_k».proof.Proof.Gen.NormQuantRefIdeal
public import proofs.«01_k».proof.Proof.Gen.NormQuantRefIdeal.Skeleton
public import proofs.«01_k».proof.Proof.Gen.NormQuantRefIdeal.Launch
public import proofs.«01_k».proof.Proof.Gen.NormQuantRefIdeal.Points
public import proofs.«01_k».proof.Proof.Gen.NormQuantRefIdeal.Frame
public import proofs.«01_k».proof.Proof.Gen.Pre_slots_in_pool_norm
public import proofs.«01_k».proof.Proof.Gen.Pre_slots_in_pool
public import proofs.«01_k».proof.Proof.Gen.Pre_slots_in_pool_last
public import proofs.«01_k».proof.Proof.Gen.Pre_slots_in_pool_temporal
public import proofs.«01_k».proof.Proof.ConvNormOk
public import proofs.«01_k».proof.Proof.ConvMidOk
public import proofs.«01_k».proof.Proof.ConvLastOk
public import proofs.«01_k».proof.Proof.Slots
public import proofs.«01_k».proof.Proof.ConvNormRun
public import proofs.«01_k».proof.Proof.ConvMidRun
public import proofs.«01_k».proof.Proof.ConvLastRun
public import proofs.«01_k».proof.Proof.SpatialRun
public import proofs.«01_k».proof.Proof.TemporalOk
public import proofs.«01_k».proof.Proof.TemporalRun
public import proofs.«01_k».proof.Proof.NormQuantRun
public import Idealize.ShloMosaic.Adequacy
public import Idealize.ShloMosaic.Init

@[expose] public section

noncomputable section

-- The claims also say that every semaphore counter ends at zero; the runs show that too.

namespace Cert.Proof

open Idealize.ShloMosaic Idealize.SL.Sem

/-! ## The convolution of a first stage -/

/-- It equals its reference, from arguments that agree. -/
theorem conv_norm : @Cert.algebraic_ConvNormIdeal_ConvNormRefIdeal Cert.ConvNormIdeal.Gen.facts Cert.ConvNormRefIdeal.Gen.facts Cert.Pre_slots_in_pool_norm.Gen.facts := by
  intro m g m' g' hpre hargs
  have hs : ∀ (c : Dev Cert.ConvNormIdeal.nD) y, (Cert.ConvNorm.slotA m c y).toNat < 6 := fun c y => Cert.Words.slots_lt_norm (hpre c) y
  have e := fun c : Dev Cert.ConvNormIdeal.nD =>
    have ⟨h0, h1, h2, h3, h4, h5, h6, h7, h8, h9⟩ := hargs c
    Cert.ConvNormRef.arrays_eq m' m c h0 h1 h2 h3 h4 h5 h6 h7 h8 h9
  have hs' : ∀ (c : Dev Cert.ConvNormRefIdeal.nD) (b : Fin 4), (Cert.ConvNormRef.slotA m' c (Idealize.ShloMosaic.ValueIdx.ix1 b)).toNat < 6 := fun c b =>
    (congrArg BitVec.toNat (congrFun (hargs c).1 _)).trans_lt (hs c _)
  refine ⟨Cert.ConvNorm.cacheArr m, Cert.ConvNorm.codeArr m, Cert.ConvNorm.run_arrays m g (Cert.ConvNorm.ok_of_lt m (hs 0)), ?_⟩
  exact (θ_run Cert.ConvNormRefIdeal.defs _ _).mono (fun _ h c => ⟨(h c).1.trans (e c).1, (h c).2.1.trans (e c).2, (h c).2.2⟩)
    (Cert.ConvNormRef.run_arrays m' g' hs')

theorem conv_norm_bits : @Cert.quiescent_ConvNorm Cert.ConvNorm.Gen.facts Cert.Pre_slots_in_pool_norm.Gen.facts := fun m g hpre =>
  Cert.ConvNorm.Gen.frame m g (Cert.ConvNormBits.ok_of_lt m fun y => Cert.Words.slots_lt_norm (hpre 0) y)
theorem conv_norm_ideal : @Cert.quiescent_ConvNormIdeal Cert.ConvNormIdeal.Gen.facts Cert.Pre_slots_in_pool_norm.Gen.facts := fun m g hpre =>
  Cert.ConvNormIdeal.Gen.frame m g (Cert.ConvNorm.ok_of_lt m fun y => Cert.Words.slots_lt_norm (hpre 0) y)
theorem conv_norm_ref : @Cert.quiescent_ConvNormRefIdeal Cert.ConvNormRefIdeal.Gen.facts Cert.Pre_slots_in_pool_norm.Gen.facts := fun m g _ =>
  Cert.ConvNormRefIdeal.Gen.frame m g

/-! ## The residual convolution -/

/-- It equals its reference, from arguments that agree. -/
theorem conv_mid : @Cert.algebraic_ConvMidIdeal_ConvMidRefIdeal Cert.ConvMidIdeal.Gen.facts Cert.ConvMidRefIdeal.Gen.facts Cert.Pre_slots_in_pool.Gen.facts := by
  intro m g m' g' hpre hargs
  have hs : ∀ (c : Dev Cert.ConvMidIdeal.nD) y, (Cert.ConvMid.slotA m c y).toNat < 6 := fun c y => Cert.Words.slots_lt (hpre c) y
  have e := fun c : Dev Cert.ConvMidIdeal.nD =>
    have ⟨h0, h1, h2, h3, h4, h5, h6, h7, h8, h9, h10⟩ := hargs c
    Cert.ConvMidRef.arrays_eq m' m c h0 h1 h2 h3 h4 h5 h6 h7 h8 h9 h10
  have hs' : ∀ (c : Dev Cert.ConvMidRefIdeal.nD) (b : Fin 4), (Cert.ConvMidRef.slotA m' c (Idealize.ShloMosaic.ValueIdx.ix1 b)).toNat < 6 := fun c b =>
    (congrArg BitVec.toNat (congrFun (hargs c).1 _)).trans_lt (hs c _)
  refine ⟨Cert.ConvMid.cacheArr m, Cert.ConvMid.codeArr m, Cert.ConvMid.sumArr m, Cert.ConvMid.run_arrays m g (Cert.ConvMid.ok_of_lt m (hs 0)), ?_⟩
  exact (θ_run Cert.ConvMidRefIdeal.defs _ _).mono (fun _ h c => ⟨(h c).1.trans (e c).1, (h c).2.1.trans (e c).2.1, (h c).2.2.1.trans (e c).2.2, (h c).2.2.2⟩)
    (Cert.ConvMidRef.run_arrays m' g' hs')

theorem conv_mid_bits : @Cert.quiescent_ConvMid Cert.ConvMid.Gen.facts Cert.Pre_slots_in_pool.Gen.facts := fun m g hpre =>
  Cert.ConvMid.Gen.frame m g (Cert.ConvMidBits.ok_of_lt m fun y => Cert.Words.slots_lt (hpre 0) y)
theorem conv_mid_ideal : @Cert.quiescent_ConvMidIdeal Cert.ConvMidIdeal.Gen.facts Cert.Pre_slots_in_pool.Gen.facts := fun m g hpre =>
  Cert.ConvMidIdeal.Gen.frame m g (Cert.ConvMid.ok_of_lt m fun y => Cert.Words.slots_lt (hpre 0) y)
theorem conv_mid_ref : @Cert.quiescent_ConvMidRefIdeal Cert.ConvMidRefIdeal.Gen.facts Cert.Pre_slots_in_pool.Gen.facts := fun m g _ =>
  Cert.ConvMidRefIdeal.Gen.frame m g

/-! ## The last convolution -/

/-- It equals its reference, from arguments that agree. -/
theorem conv_last : @Cert.algebraic_ConvLastIdeal_ConvLastRefIdeal Cert.ConvLastIdeal.Gen.facts Cert.ConvLastRefIdeal.Gen.facts Cert.Pre_slots_in_pool_last.Gen.facts := by
  intro m g m' g' hpre hargs
  have hs : ∀ (c : Dev Cert.ConvLastIdeal.nD) y, (Cert.ConvLast.slotA m c y).toNat < 6 := fun c y => Cert.Words.slots_lt_last (hpre c) y
  have e := fun c : Dev Cert.ConvLastIdeal.nD =>
    have ⟨h0, h1, h2, h3, h4, h5, h6, h7, h8, h9, h10⟩ := hargs c
    Cert.ConvLastRef.arrays_eq m' m c h0 h1 h2 h3 h4 h5 h6 h7 h9 h10
  have hs' : ∀ (c : Dev Cert.ConvLastRefIdeal.nD) (b : Fin 4), (Cert.ConvLastRef.slotA m' c (Idealize.ShloMosaic.ValueIdx.ix1 b)).toNat < 6 := fun c b =>
    (congrArg BitVec.toNat (congrFun (hargs c).1 _)).trans_lt (hs c _)
  refine ⟨Cert.ConvLast.cacheArr m, Cert.ConvLast.codeArr m, Cert.ConvLast.sumArr m, Cert.ConvLast.run_arrays m g (Cert.ConvLast.ok_of_lt m (hs 0)), ?_⟩
  exact (θ_run Cert.ConvLastRefIdeal.defs _ _).mono (fun _ h c => ⟨(h c).1.trans (e c).1, (h c).2.1.trans (e c).2.1, (h c).2.2.1.trans (e c).2.2, (h c).2.2.2⟩)
    (Cert.ConvLastRef.run_arrays m' g' hs')

theorem conv_last_bits : @Cert.quiescent_ConvLast Cert.ConvLast.Gen.facts Cert.Pre_slots_in_pool_last.Gen.facts := fun m g hpre =>
  Cert.ConvLast.Gen.frame m g (Cert.ConvLastBits.ok_of_lt m fun y => Cert.Words.slots_lt_last (hpre 0) y)
theorem conv_last_ideal : @Cert.quiescent_ConvLastIdeal Cert.ConvLastIdeal.Gen.facts Cert.Pre_slots_in_pool_last.Gen.facts := fun m g hpre =>
  Cert.ConvLastIdeal.Gen.frame m g (Cert.ConvLast.ok_of_lt m fun y => Cert.Words.slots_lt_last (hpre 0) y)
theorem conv_last_ref : @Cert.quiescent_ConvLastRefIdeal Cert.ConvLastRefIdeal.Gen.facts Cert.Pre_slots_in_pool_last.Gen.facts := fun m g _ =>
  Cert.ConvLastRefIdeal.Gen.frame m g

/-! ## The spatial stage -/

/-- It equals its reference, from arguments that agree. -/
theorem spatial : @Cert.algebraic_SpatialIdeal_SpatialRefIdeal Cert.SpatialIdeal.Gen.facts Cert.SpatialRefIdeal.Gen.facts := by
  intro m g m' g' _ hargs
  have e := fun c : Dev Cert.SpatialIdeal.nD =>
    have ⟨h0, h1, h2, h3, h4⟩ := hargs c
    Cert.SpatialRef.arrays_eq m' m c h0 h1 h2 h3 h4
  refine ⟨Cert.Spatial.upArr m, Cert.Spatial.run_arrays m g, ?_⟩
  exact (θ_run Cert.SpatialRefIdeal.defs _ _).mono (fun _ h c => ⟨(h c).1.trans (e c), (h c).2⟩)
    (Cert.SpatialRef.run_arrays m' g')

theorem spatial_bits : @Cert.quiescent_Spatial Cert.Spatial.Gen.facts := fun m g _ => Cert.Spatial.Gen.frame m g
theorem spatial_ideal : @Cert.quiescent_SpatialIdeal Cert.SpatialIdeal.Gen.facts := fun m g _ => Cert.SpatialIdeal.Gen.frame m g
theorem spatial_ref : @Cert.quiescent_SpatialRefIdeal Cert.SpatialRefIdeal.Gen.facts := fun m g _ => Cert.SpatialRefIdeal.Gen.frame m g

/-! ## The temporal stage -/

/-- It equals its reference, from arguments that agree. -/
theorem temporal : @Cert.algebraic_TemporalIdeal_TemporalRefIdeal Cert.TemporalIdeal.Gen.facts Cert.TemporalRefIdeal.Gen.facts Cert.Pre_slots_in_pool_temporal.Gen.facts := by
  intro m g m' g' hpre hargs
  have hs : ∀ (c : Dev Cert.TemporalIdeal.nD) y, (Cert.Temporal.slotA m c y).toNat < 6 := fun c y => Cert.Words.slots_lt_temporal (hpre c) y
  have e := fun c : Dev Cert.TemporalIdeal.nD =>
    have ⟨h0, h1, h2, h3, h4, h5, h6, h7, h8⟩ := hargs c
    Cert.TemporalRef.arrays_eq m' m c h0 h1 h2 h3 h4 h5 h6 h7 h8
  have hs' : ∀ (c : Dev Cert.TemporalRefIdeal.nD) (b : Fin 4), (Cert.TemporalRef.slotA m' c (Idealize.ShloMosaic.ValueIdx.ix1 b)).toNat < 6 := fun c b =>
    (congrArg BitVec.toNat (congrFun (hargs c).1 _)).trans_lt (hs c _)
  refine ⟨Cert.Temporal.cacheArr m, Cert.Temporal.codeArr m, Cert.Temporal.run_arrays m g (Cert.Temporal.ok_of_lt m (hs 0)), ?_⟩
  exact (θ_run Cert.TemporalRefIdeal.defs _ _).mono (fun _ h c => ⟨(h c).1.trans (e c).1, (h c).2.1.trans (e c).2, (h c).2.2⟩)
    (Cert.TemporalRef.run_arrays m' g' hs')

theorem temporal_bits : @Cert.quiescent_Temporal Cert.Temporal.Gen.facts Cert.Pre_slots_in_pool_temporal.Gen.facts := fun m g hpre =>
  Cert.Temporal.Gen.frame m g (Cert.TemporalBits.ok_of_lt m fun y => Cert.Words.slots_lt_temporal (hpre 0) y)
theorem temporal_ideal : @Cert.quiescent_TemporalIdeal Cert.TemporalIdeal.Gen.facts Cert.Pre_slots_in_pool_temporal.Gen.facts := fun m g hpre =>
  Cert.TemporalIdeal.Gen.frame m g (Cert.Temporal.ok_of_lt m fun y => Cert.Words.slots_lt_temporal (hpre 0) y)
theorem temporal_ref : @Cert.quiescent_TemporalRefIdeal Cert.TemporalRefIdeal.Gen.facts Cert.Pre_slots_in_pool_temporal.Gen.facts := fun m g _ =>
  Cert.TemporalRefIdeal.Gen.frame m g

/-! ## The quantisation of the input -/

/-- It equals its reference, from arguments that agree. -/
theorem norm_quant : @Cert.algebraic_NormQuantIdeal_NormQuantRefIdeal Cert.NormQuantIdeal.Gen.facts Cert.NormQuantRefIdeal.Gen.facts := by
  intro m g m' g' _ hargs
  have e := fun c : Dev Cert.NormQuantIdeal.nD =>
    have ⟨h0, h1, h2⟩ := hargs c
    Cert.NormQuantRef.arrays_eq m' m c h0 h1 h2
  refine ⟨Cert.NormQuant.codeArr m, Cert.NormQuant.run_arrays m g, ?_⟩
  exact (θ_run Cert.NormQuantRefIdeal.defs _ _).mono (fun _ h c => ⟨(h c).1.trans (e c), (h c).2⟩)
    (Cert.NormQuantRef.run_arrays m' g')

theorem norm_quant_bits : @Cert.quiescent_NormQuant Cert.NormQuant.Gen.facts := fun m g _ => Cert.NormQuant.Gen.frame m g
theorem norm_quant_ideal : @Cert.quiescent_NormQuantIdeal Cert.NormQuantIdeal.Gen.facts := fun m g _ => Cert.NormQuantIdeal.Gen.frame m g
theorem norm_quant_ref : @Cert.quiescent_NormQuantRefIdeal Cert.NormQuantRefIdeal.Gen.facts := fun m g _ => Cert.NormQuantRefIdeal.Gen.frame m g

theorem claim : Cert.Claim := ⟨Cert.ConvNorm.Gen.facts, Cert.ConvNormIdeal.Gen.facts, Cert.ConvNormRefIdeal.Gen.facts,
  Cert.ConvMid.Gen.facts, Cert.ConvMidIdeal.Gen.facts, Cert.ConvMidRefIdeal.Gen.facts,
  Cert.ConvLast.Gen.facts, Cert.ConvLastIdeal.Gen.facts, Cert.ConvLastRefIdeal.Gen.facts,
  Cert.Spatial.Gen.facts, Cert.SpatialIdeal.Gen.facts, Cert.SpatialRefIdeal.Gen.facts,
  Cert.Temporal.Gen.facts, Cert.TemporalIdeal.Gen.facts, Cert.TemporalRefIdeal.Gen.facts,
  Cert.NormQuant.Gen.facts, Cert.NormQuantIdeal.Gen.facts, Cert.NormQuantRefIdeal.Gen.facts,
  Cert.Pre_slots_in_pool_norm.Gen.facts, Cert.Pre_slots_in_pool.Gen.facts, Cert.Pre_slots_in_pool_last.Gen.facts, Cert.Pre_slots_in_pool_temporal.Gen.facts,
  conv_norm_bits, conv_norm_ideal, conv_norm_ref, conv_mid_bits, conv_mid_ideal, conv_mid_ref, conv_last_bits, conv_last_ideal, conv_last_ref, spatial_bits, spatial_ideal, spatial_ref,
  temporal_bits, temporal_ideal, temporal_ref, norm_quant_bits, norm_quant_ideal, norm_quant_ref,
  trivial, conv_norm, trivial, conv_mid, trivial, conv_last, trivial, spatial, trivial, temporal, trivial, norm_quant⟩

end Cert.Proof

end
